-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_v6) = v2 c
          ∧ r.2.mem ((c.tc : Thread Cert.Reference3Ideal.nD Cert.Reference3Ideal.τ).loc Cert.Reference3Ideal.main_v7) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel5_Kernel5Ideal : Prop :=
  True

def algebraic_Kernel5Ideal_Reference4Ideal [hKernel5Ideal : Cert.Kernel5Ideal.Facts] [hReference4Ideal : Cert.Reference4Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel5Ideal m →
    (∀ c : Dev Cert.Kernel5Ideal.nD,
      m' ((c.tc : Thread Cert.Reference4Ideal.nD Cert.Reference4Ideal.τ).loc Cert.Reference4Ideal.main_arg0) = m ((c.tc : Thread Cert.Kernel5Ideal.nD Cert.Kernel5Ideal.τ).loc Cert.Kernel5Ideal.main_arg0)
      ∧ m' ((c.tc : Thread Cert.Reference4Ideal.nD Cert.Reference4Ideal.τ).loc Cert.Reference4Ideal.main_arg1) = m ((c.tc : Thread Cert.Kernel5Ideal.nD Cert.Kernel5Ideal.τ).loc Cert.Kernel5Ideal.main_arg1)
      ∧ m' ((c.tc : Thread Cert.Reference4Ideal.nD Cert.Reference4Ideal.τ).loc Cert.Reference4Ideal.main_arg2) = m ((c.tc : Thread Cert.Kernel5Ideal.nD Cert.Kernel5Ideal.τ).loc Cert.Kernel5Ideal.main_arg2)
      ∧ m' ((c.tc : Thread Cert.Reference4Ideal.nD Cert.Reference4Ideal.τ).loc Cert.Reference4Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v1) = v1 c
          ∧ r.2.mem ((c.tc : Thread Cert.Reference7Ideal.nD Cert.Reference7Ideal.τ).loc Cert.Reference7Ideal.main_v3) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v1) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_v18) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)) (v4 : (c : Dev Cert.Kernel10Ideal.nD) → Buf (Elt Ideal) ((c.tc : Thread Cert.Kernel10Ideal.nD Cert.Kernel10Ideal.τ).loc Cert.Kernel10Ideal.main_v2_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_v2_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_v13) = v2 c
          ∧ r.2.mem ((c.tc : Thread Cert.Reference10Ideal.nD Cert.Reference10Ideal.τ).loc Cert.Reference10Ideal.main_v14) = v3 c
          ∧ r.2.mem ((c.tc : Thread Cert.Reference10Ideal.nD Cert.Reference10Ideal.τ).loc Cert.Reference10Ideal.main_v15) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)) (v4 : (c : Dev Cert.Kernel11Ideal.nD) → Buf (Elt Ideal) ((c.tc : Thread Cert.Kernel11Ideal.nD Cert.Kernel11Ideal.τ).loc Cert.Kernel11Ideal.main_v2_4)) (v5 : (c : Dev Cert.Kernel11Ideal.nD) → Buf (Elt Ideal) ((c.tc : Thread Cert.Kernel11Ideal.nD Cert.Kernel11Ideal.τ).loc Cert.Kernel11Ideal.main_v2_5)) (v6 : (c : Dev Cert.Kernel11Ideal.nD) → Buf (Elt Ideal) ((c.tc : Thread Cert.Kernel11Ideal.nD Cert.Kernel11Ideal.τ).loc Cert.Kernel11Ideal.main_v2_6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_v2_4) = v4 c
          ∧ r.2.mem ((c.tc : Thread Cert.Kernel11Ideal.nD Cert.Kernel11Ideal.τ).loc Cert.Kernel11Ideal.main_v2_5) = v5 c
          ∧ r.2.mem ((c.tc : Thread Cert.Kernel11Ideal.nD Cert.Kernel11Ideal.τ).loc Cert.Kernel11Ideal.main_v2_6) = v6 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v28) = v2 c
          ∧ r.2.mem ((c.tc : Thread Cert.Reference11Ideal.nD Cert.Reference11Ideal.τ).loc Cert.Reference11Ideal.main_v29) = v3 c
          ∧ r.2.mem ((c.tc : Thread Cert.Reference11Ideal.nD Cert.Reference11Ideal.τ).loc Cert.Reference11Ideal.main_v30) = v4 c
          ∧ r.2.mem ((c.tc : Thread Cert.Reference11Ideal.nD Cert.Reference11Ideal.τ).loc Cert.Reference11Ideal.main_v26) = v5 c
          ∧ r.2.mem ((c.tc : Thread Cert.Reference11Ideal.nD Cert.Reference11Ideal.τ).loc Cert.Reference11Ideal.main_v34) = v6 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v29_0)) (v1 : (c : Dev Cert.Kernel12Ideal.nD) → Buf (Elt Ideal) ((c.tc : Thread Cert.Kernel12Ideal.nD Cert.Kernel12Ideal.τ).loc Cert.Kernel12Ideal.main_v29_1)) (v2 : (c : Dev Cert.Kernel12Ideal.nD) → Buf (Elt Ideal) ((c.tc : Thread Cert.Kernel12Ideal.nD Cert.Kernel12Ideal.τ).loc Cert.Kernel12Ideal.main_v29_2)) (v3 : (c : Dev Cert.Kernel12Ideal.nD) → Buf (Elt Ideal) ((c.tc : Thread Cert.Kernel12Ideal.nD Cert.Kernel12Ideal.τ).loc Cert.Kernel12Ideal.main_v29_3)) (v4 : (c : Dev Cert.Kernel12Ideal.nD) → Buf (Elt Ideal) ((c.tc : Thread Cert.Kernel12Ideal.nD Cert.Kernel12Ideal.τ).loc Cert.Kernel12Ideal.main_v29_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v29_0) = v0 c
          ∧ r.2.mem ((c.tc : Thread Cert.Kernel12Ideal.nD Cert.Kernel12Ideal.τ).loc Cert.Kernel12Ideal.main_v29_1) = v1 c
          ∧ r.2.mem ((c.tc : Thread Cert.Kernel12Ideal.nD Cert.Kernel12Ideal.τ).loc Cert.Kernel12Ideal.main_v29_2) = v2 c
          ∧ r.2.mem ((c.tc : Thread Cert.Kernel12Ideal.nD Cert.Kernel12Ideal.τ).loc Cert.Kernel12Ideal.main_v29_3) = v3 c
          ∧ r.2.mem ((c.tc : Thread Cert.Kernel12Ideal.nD Cert.Kernel12Ideal.τ).loc Cert.Kernel12Ideal.main_v29_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v66) = v0 c
          ∧ r.2.mem ((c.tc : Thread Cert.Reference12Ideal.nD Cert.Reference12Ideal.τ).loc Cert.Reference12Ideal.main_v69) = v1 c
          ∧ r.2.mem ((c.tc : Thread Cert.Reference12Ideal.nD Cert.Reference12Ideal.τ).loc Cert.Reference12Ideal.main_v40) = v2 c
          ∧ r.2.mem ((c.tc : Thread Cert.Reference12Ideal.nD Cert.Reference12Ideal.τ).loc Cert.Reference12Ideal.main_v37) = v3 c
          ∧ r.2.mem ((c.tc : Thread Cert.Reference12Ideal.nD Cert.Reference12Ideal.τ).loc Cert.Reference12Ideal.main_v70) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v39_0)) (v1 : (c : Dev Cert.Kernel13Ideal.nD) → Buf (Elt Ideal) ((c.tc : Thread Cert.Kernel13Ideal.nD Cert.Kernel13Ideal.τ).loc Cert.Kernel13Ideal.main_v39_1)) (v2 : (c : Dev Cert.Kernel13Ideal.nD) → Buf (Elt Ideal) ((c.tc : Thread Cert.Kernel13Ideal.nD Cert.Kernel13Ideal.τ).loc Cert.Kernel13Ideal.main_v39_2)) (v3 : (c : Dev Cert.Kernel13Ideal.nD) → Buf (Elt Ideal) ((c.tc : Thread Cert.Kernel13Ideal.nD Cert.Kernel13Ideal.τ).loc Cert.Kernel13Ideal.main_v39_3)) (v4 : (c : Dev Cert.Kernel13Ideal.nD) → Buf (Elt Ideal) ((c.tc : Thread Cert.Kernel13Ideal.nD Cert.Kernel13Ideal.τ).loc Cert.Kernel13Ideal.main_v39_4)) (v5 : (c : Dev Cert.Kernel13Ideal.nD) → Buf (Elt Ideal) ((c.tc : Thread Cert.Kernel13Ideal.nD Cert.Kernel13Ideal.τ).loc Cert.Kernel13Ideal.main_v39_5)) (v6 : (c : Dev Cert.Kernel13Ideal.nD) → Buf (Elt Ideal) ((c.tc : Thread Cert.Kernel13Ideal.nD Cert.Kernel13Ideal.τ).loc Cert.Kernel13Ideal.main_v39_6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v39_0) = v0 c
          ∧ r.2.mem ((c.tc : Thread Cert.Kernel13Ideal.nD Cert.Kernel13Ideal.τ).loc Cert.Kernel13Ideal.main_v39_1) = v1 c
          ∧ r.2.mem ((c.tc : Thread Cert.Kernel13Ideal.nD Cert.Kernel13Ideal.τ).loc Cert.Kernel13Ideal.main_v39_2) = v2 c
          ∧ r.2.mem ((c.tc : Thread Cert.Kernel13Ideal.nD Cert.Kernel13Ideal.τ).loc Cert.Kernel13Ideal.main_v39_3) = v3 c
          ∧ r.2.mem ((c.tc : Thread Cert.Kernel13Ideal.nD Cert.Kernel13Ideal.τ).loc Cert.Kernel13Ideal.main_v39_4) = v4 c
          ∧ r.2.mem ((c.tc : Thread Cert.Kernel13Ideal.nD Cert.Kernel13Ideal.τ).loc Cert.Kernel13Ideal.main_v39_5) = v5 c
          ∧ r.2.mem ((c.tc : Thread Cert.Kernel13Ideal.nD Cert.Kernel13Ideal.τ).loc Cert.Kernel13Ideal.main_v39_6) = v6 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v86) = v0 c
          ∧ r.2.mem ((c.tc : Thread Cert.Reference13Ideal.nD Cert.Reference13Ideal.τ).loc Cert.Reference13Ideal.main_v87) = v1 c
          ∧ r.2.mem ((c.tc : Thread Cert.Reference13Ideal.nD Cert.Reference13Ideal.τ).loc Cert.Reference13Ideal.main_v51) = v2 c
          ∧ r.2.mem ((c.tc : Thread Cert.Reference13Ideal.nD Cert.Reference13Ideal.τ).loc Cert.Reference13Ideal.main_v60) = v3 c
          ∧ r.2.mem ((c.tc : Thread Cert.Reference13Ideal.nD Cert.Reference13Ideal.τ).loc Cert.Reference13Ideal.main_v57) = v4 c
          ∧ r.2.mem ((c.tc : Thread Cert.Reference13Ideal.nD Cert.Reference13Ideal.τ).loc Cert.Reference13Ideal.main_v88) = v5 c
          ∧ r.2.mem ((c.tc : Thread Cert.Reference13Ideal.nD Cert.Reference13Ideal.τ).loc Cert.Reference13Ideal.main_v89) = v6 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite12 : Cert.Pre_finite12.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference4Ideal (hKernel5Ideal := hKernel5Ideal) (hReference4Ideal := hReference4Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S2048x1536 : Shape := ⟨2, ![2048, 1536]⟩
abbrev S2048x1024 : Shape := ⟨2, ![2048, 1024]⟩
abbrev S_ : Shape := ⟨0, ![]⟩
abbrev S2048x2560 : Shape := ⟨2, ![2048, 2560]⟩

class Facts : Prop where
  bcast_S_S2048x1536 : S_.BroadcastsInDim S2048x1536 (![] : Fin 0 → Fin S2048x1536.rank)
  bcast_S_S2048x1024 : S_.BroadcastsInDim S2048x1024 (![] : Fin 0 → Fin S2048x1024.rank)
  concatenates_S2048x1536_S2048x1024_S2048x2560_d1 : Shape.Concatenates [S2048x1536, S2048x1024] S2048x2560 1

variable [Facts]

def fn {F : FTy → Type} [FloatOps F] (main_arg0 : FVec F S2048x1536 .f32) (main_arg1 : FVec F S2048x1024 .f32) : IVec S2048x2560 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : IVec S2048x2560 1 := (fun a b => concatenate S2048x2560 1 [⟨S2048x1536, a⟩, ⟨S2048x1024, b⟩] concatenates_S2048x1536_S2048x1024_S2048x2560_d1) main_v2 main_v5
  main_v6
-- ==== Pre_finite12.lean ====
abbrev S2048x1024 : Shape := ⟨2, ![2048, 1024]⟩
abbrev S1024x1024 : Shape := ⟨2, ![1024, 1024]⟩
abbrev S1x1024 : Shape := ⟨2, ![1, 1024]⟩
abbrev S9217x1024 : Shape := ⟨2, ![9217, 1024]⟩
abbrev S_ : Shape := ⟨0, ![]⟩

class Facts : Prop where
  concatenates_S2048x1024_S2048x1024_S2048x1024_S2048x1024_S1024x1024_S1x1024_S9217x1024_d0 : Shape.Concatenates [S2048x1024, S2048x1024, S2048x1024, S2048x1024, S1024x1024, S1x1024] S9217x1024 0
  bcast_S_S9217x1024 : S_.BroadcastsInDim S9217x1024 (![] : Fin 0 → Fin S9217x1024.rank)

variable [Facts]

def fn {F : FTy → Type} [FloatOps F] (main_arg0 : FVec F S2048x1024 .f32) (main_arg1 : FVec F S2048x1024 .f32) (main_arg2 : FVec F S1024x1024 .f32) (main_arg3 : FVec F S1x1024 .f32) (main_arg4 : FVec F S2048x1024 .f32) (main_arg5 : FVec F S2048x1024 .f32) : IVec S9217x1024 1 :=
  let main_v0 : FVec F S9217x1024 .f32 := concatenate S9217x1024 0 [⟨S2048x1024, main_arg0⟩, ⟨S2048x1024, main_arg1⟩, ⟨S2048x1024, main_arg4⟩, ⟨S2048x1024, main_arg5⟩, ⟨S1024x1024, main_arg2⟩, ⟨S1x1024, main_arg3⟩] concatenates_S2048x1024_S2048x1024_S2048x1024_S2048x1024_S1024x1024_S1x1024_S9217x1024_d0
  let main_v1 : FVec F S9217x1024 .f32 := Host.absf main_v0
  let main_cst : FVec F S_ .f32 := constant S_ .f32 0x7F800000#32
  let main_v2 : FVec F S9217x1024 .f32 := broadcastInDim S9217x1024 ![] bcast_S_S9217x1024 main_cst
  let main_v3 : IVec S9217x1024 1 := cmpf .olt main_v1 main_v2
  main_v3
-- ==== Pre_finite13.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S7427x1024 : Shape := ⟨2, ![7427, 1024]⟩
abbrev S_ : Shape := ⟨0, ![]⟩

class Facts : Prop where
  concatenates_S2048x256_S2048x256_S2048x256_S2048x256_S2048x1024_d1 : Shape.Concatenates [S2048x256, S2048x256, S2048x256, S2048x256] S2048x1024 1
  concatenates_S2048x1024_S2048x1024_S2048x1024_S1024x1024_S256x1024_S1x1024_S1x1024_S1x1024_S7427x1024_d0 : Shape.Concatenates [S2048x1024, S2048x1024, S2048x1024, S1024x1024, S256x1024, S1x1024, S1x1024, S1x1024] S7427x1024 0
  bcast_S_S7427x1024 : S_.BroadcastsInDim S7427x1024 (![] : Fin 0 → Fin S7427x1024.rank)

variable [Facts]

def fn {F : FTy → Type} [FloatOps F] (main_arg0 : FVec F S2048x1024 .f32) (main_arg1 : FVec F S2048x256 .f32) (main_arg2 : FVec F S1024x1024 .f32) (main_arg3 : FVec F S256x1024 .f32) (main_arg4 : FVec F S1x1024 .f32) (main_arg5 : FVec F S1x1024 .f32) (main_arg6 : FVec F S1x1024 .f32) (main_arg7 : FVec F S2048x1024 .f32) : IVec S7427x1024 1 :=
  let main_v0 : FVec F S2048x1024 .f32 := concatenate S2048x1024 1 [⟨S2048x256, main_arg1⟩, ⟨S2048x256, main_arg1⟩, ⟨S2048x256, main_arg1⟩, ⟨S2048x256, main_arg1⟩] concatenates_S2048x256_S2048x256_S2048x256_S2048x256_S2048x1024_d1
  let main_v1 : FVec F S7427x1024 .f32 := concatenate S7427x1024 0 [⟨S2048x1024, main_arg0⟩, ⟨S2048x1024, main_arg7⟩, ⟨S2048x1024, main_v0⟩, ⟨S1024x1024, main_arg2⟩, ⟨S256x1024, main_arg3⟩, ⟨S1x1024, main_arg4⟩, ⟨S1x1024, main_arg5⟩, ⟨S1x1024, main_arg6⟩] concatenates_S2048x1024_S2048x1024_S2048x1024_S1024x1024_S256x1024_S1x1024_S1x1024_S1x1024_S7427x1024_d0
  let main_v2 : FVec F S7427x1024 .f32 := Host.absf main_v1
  let main_cst : FVec F S_ .f32 := constant S_ .f32 0x7F800000#32
  let main_v3 : FVec F S7427x1024 .f32 := broadcastInDim S7427x1024 ![] bcast_S_S7427x1024 main_cst
  let main_v4 : IVec S7427x1024 1 := cmpf .olt main_v2 main_v3
  main_v4
-- ==== Pre_finite2.lean ====
abbrev S2048x1024 : Shape := ⟨2, ![2048, 1024]⟩
abbrev S1024x3072 : Shape := ⟨2, ![1024, 3072]⟩
abbrev S3072x1024 : Shape := ⟨2, ![3072, 1024]⟩
abbrev S13312x1024 : Shape := ⟨2, ![13312, 1024]⟩
abbrev S_ : Shape := ⟨0, ![]⟩

class Facts : Prop where
  transposes_S1024x3072_S3072x1024_1_0 : S1024x3072.Transposes [1, 0] S3072x1024
  concatenates_S2048x1024_S2048x1024_S3072x1024_S3072x1024_S3072x1024_S13312x1024_d0 : Shape.Concatenates [S2048x1024, S2048x1024, S3072x1024, S3072x1024, S3072x1024] S13312x1024 0
  bcast_S_S13312x1024 : S_.BroadcastsInDim S13312x1024 (![] : Fin 0 → Fin S13312x1024.rank)

variable [Facts]

def fn {F : FTy → Type} [FloatOps F] (main_arg0 : FVec F S2048x1024 .f32) (main_arg1 : FVec F S1024x3072 .f32) (main_arg2 : FVec F S1024x3072 .f32) (main_arg3 : FVec F S3072x1024 .f32) (main_arg4 : FVec F S2048x1024 .f32) : IVec S13312x1024 1 :=
  let main_v0 : FVec F S3072x1024 .f32 := (transpose S3072x1024 [1, 0] · transposes_S1024x3072_S3072x1024_1_0) main_arg1
  let main_v1 : FVec F S3072x1024 .f32 := (transpose S3072x1024 [1, 0] · transposes_S1024x3072_S3072x1024_1_0) main_arg2
  let main_v2 : FVec F S13312x1024 .f32 := concatenate S13312x1024 0 [⟨S2048x1024, main_arg0⟩, ⟨S2048x1024, main_arg4⟩, ⟨S3072x1024, main_arg3⟩, ⟨S3072x1024, main_v0⟩, ⟨S3072x1024, main_v1⟩] concatenates_S2048x1024_S2048x1024_S3072x1024_S3072x1024_S3072x1024_S13312x1024_d0
  let main_v3 : FVec F S13312x1024 .f32 := Host.absf main_v2
  let main_cst : FVec F S_ .f32 := constant S_ .f32 0x7F800000#32
  let main_v4 : FVec F S13312x1024 .f32 := broadcastInDim S13312x1024 ![] bcast_S_S13312x1024 main_cst
  let main_v5 : IVec S13312x1024 1 := cmpf .olt main_v3 main_v4
  main_v5
-- ==== Kernel.lean ====
abbrev S2048x1536 : Shape := ⟨2, ![2048, 1536]⟩
abbrev S2048x1024 : Shape := ⟨2, ![2048, 1024]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x2048x128 : Shape := ⟨3, ![8, 2048, 128]⟩
abbrev S256x512 : Shape := ⟨2, ![256, 512]⟩
abbrev S8x256x128 : Shape := ⟨3, ![8, 256, 128]⟩
abbrev S4x512x256 : Shape := ⟨3, ![4, 512, 256]⟩
abbrev S4x512x128 : Shape := ⟨3, ![4, 512, 128]⟩
abbrev S1x128 : Shape := ⟨2, ![1, 128]⟩
abbrev S512x256 : Shape := ⟨2, ![512, 256]⟩
abbrev S256x256 : Shape := ⟨2, ![256, 256]⟩
abbrev S256x128 : Shape := ⟨2, ![256, 128]⟩
abbrev S512x128 : Shape := ⟨2, ![512, 128]⟩
abbrev S1x512x128 : Shape := ⟨3, ![1, 512, 128]⟩
abbrev S1x256x128 : Shape := ⟨3, ![1, 256, 128]⟩
abbrev S1024x256 : Shape := ⟨2, ![1024, 256]⟩
abbrev S1x512x256 : Shape := ⟨3, ![1, 512, 256]⟩
abbrev S512x1 : Shape := ⟨2, ![512, 1]⟩

abbrev nBuf : Space → Nat
  | .hbm => 48
  | .vmem => 19
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S2048x512, .f32⟩
  | .hbm, ⟨3, _⟩ => ⟨S2048x8x64, .f32⟩
  | .hbm, ⟨4, _⟩ => ⟨S2048x512, .f32⟩
  | .hbm, ⟨5, _⟩ => ⟨S2048x8x64, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x128, .f32⟩
  | .hbm, ⟨44, _⟩ => ⟨S2048x1536, .bf16⟩
  | .hbm, ⟨45, _⟩ => ⟨S2048x512, .bf16⟩
  | .hbm, ⟨46, _⟩ => ⟨S2048x512, .bf16⟩
  | .hbm, ⟨47, _⟩ => ⟨S2048x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S8x256x128, .f32⟩
  | .local _ .vmem, ⟨7, _⟩ => ⟨S8x256x128, .f32⟩
  | .local _ .vmem, ⟨8, _⟩ => ⟨S256x512, .bf16⟩
  | .local _ .vmem, ⟨9, _⟩ => ⟨S256x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .f32⟩
  | .local _ .vmem, ⟨13, _⟩ => ⟨S2048x512, .f32⟩
  | .local _ .vmem, ⟨14, _⟩ => ⟨S256x512, .f32⟩
  | .local _ .vmem, ⟨15, _⟩ => ⟨S4x512x256, .f32⟩
  | .local _ .vmem, ⟨16, _⟩ => ⟨S4x512x256, .f32⟩
  | .local _ .vmem, ⟨17, _⟩ => ⟨S4x512x128, .bf16⟩
  | .local _ .vmem, ⟨18, _⟩ => ⟨S4x512x128, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

@[reducible] def k0_t1_loop (i : grid0.Coords) : Scf.Loop 32 :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_155 : BitVec 32 := 1#32
  ⟨c0_i32_154, v252, c1_i32_155⟩
def k0_mult1 (i : grid0.Coords) (k0_t1 : Fin (k0_t1_loop i).trips) : BitVec 32 :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  v715
def k0_off1 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v719 : Index := Scalar.indexCast v716
  let c0_368 : Index := 0#32
  ![v719.toNat, 0]
def k0_off2 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v725 : Index := Scalar.indexCast v716
  let c128_373 : Index := 128#32
  ![v725.toNat, 128]
def k0_off3 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v731 : Index := Scalar.indexCast v716
  let c256_378 : Index := 256#32
  ![v731.toNat, 256]
def k0_off4 (i : grid0.Coords) (k0_t1 : Fin (k0_t1_loop i).trips) : Fin 2 → Nat :=
  let c0_i32_154 : BitVec 32 := 0#32
  let c1_i32_155 : BitVec 32 := 1#32
  let arg16 : BitVec 32 := Scf.iv c0_i32_154 c1_i32_155 k0_t1
  let c256_i32_364 : BitVec 32 := 256#32
  let v715 : BitVec 32 := Scalar.muli arg16 c256_i32_364
  let v716 : BitVec 32 := v715
  let v737 : Index := Scalar.indexCast v716
  let c384_383 : Index := 384#32
  ![v737.toNat, 384]
@[reducible] def k0_t2_loop (i : grid0.Coords) : Scf.Loop 32 :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let v249 : BitVec 32 := Scalar.addi c0_i32_154 v248
  let c1_i32_156 : BitVec 32 := 1#32
  ⟨v252, v249, c1_i32_156⟩
def k0_mult2 (i : grid0.Coords) (k0_t2 : Fin (k0_t2_loop i).trips) : BitVec 32 :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  v715
def k0_off5 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v719 : Index := Scalar.indexCast v716
  let c0_368 : Index := 0#32
  ![v719.toNat, 0]
def k0_off6 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v725 : Index := Scalar.indexCast v716
  let c128_373 : Index := 128#32
  ![v725.toNat, 128]
def k0_off7 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v731 : Index := Scalar.indexCast v716
  let c256_378 : Index := 256#32
  ![v731.toNat, 256]
def k0_off8 (i : grid0.Coords) (k0_t2 : Fin (k0_t2_loop i).trips) : Fin 2 → Nat :=
  let c0_i32_154 : BitVec 32 := 0#32
  let arg0 : BitVec 32 := BitVec.ofNat 32 (i 0).val
  let v248 : BitVec 32 := Scalar.subi arg0 c0_i32_154
  let c1_i32 : BitVec 32 := 1#32
  let v250 : BitVec 32 := Scalar.divsi v248 c1_i32
  let v251 : BitVec 32 := Scalar.muli v250 c1_i32
  let v252 : BitVec 32 := Scalar.addi c0_i32_154 v251
  let c1_i32_156 : BitVec 32 := 1#32
  let arg16 : BitVec 32 := Scf.iv v252 c1_i32_156 k0_t2
  let c256_i32_364 : BitVec 32 := 256#32
  let v715 : BitVec 32 := Scalar.muli arg16 c256_i32_364
  let v716 : BitVec 32 := v715
  let v737 : Index := Scalar.indexCast v716
  let c384_383 : Index := 384#32
  ![v737.toNat, 384]
def k0_mult3 (i : grid0.Coords) : BitVec 32 :=
  let arg0 : BitVec 32 := BitVec.ofNat 32 (i 0).val
  let c256_i32_157 : BitVec 32 := 256#32
  let v253 : BitVec 32 := Scalar.muli arg0 c256_i32_157
  v253
def k0_off9 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v257 : Index := Scalar.indexCast v254
  let c0_161 : Index := 0#32
  ![v257.toNat, 0]
def k0_off10 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v263 : Index := Scalar.indexCast v254
  let c128_166 : Index := 128#32
  ![v263.toNat, 128]
def k0_off11 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v269 : Index := Scalar.indexCast v254
  let c256_171 : Index := 256#32
  ![v269.toNat, 256]
def k0_off12 (i : grid0.Coords) : Fin 2 → Nat :=
  let arg0 : BitVec 32 := BitVec.ofNat 32 (i 0).val
  let c256_i32_157 : BitVec 32 := 256#32
  let v253 : BitVec 32 := Scalar.muli arg0 c256_i32_157
  let v254 : BitVec 32 := v253
  let v275 : Index := Scalar.indexCast v254
  let c384_176 : Index := 384#32
  ![v275.toNat, 384]
def k0_cond2 (i : grid0.Coords) : BitVec 1 :=
  let arg0 : BitVec 32 := BitVec.ofNat 32 (i 0).val
  let c7_i32 : BitVec 32 := 7#32
  let v712 : BitVec 1 := Scalar.cmpi .eq arg0 c7_i32
  let v713 : BitVec 32 := Scalar.extui v712
  let c0_i32_363 : BitVec 32 := 0#32
  let v714 : BitVec 1 := Scalar.cmpi .ne v713 c0_i32_363
  v714

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x1536 : Shape := ⟨2, ![2048, 1536]⟩
abbrev S2048x1024 : Shape := ⟨2, ![2048, 1024]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 187
  | .vmem => 0
  | .smem => 0
  | _ => 0

abbrev hbmTy0_0 (i : Nat) : BufTy := match i % 128 with
  | 0 => ⟨S2048x1536, .f32⟩
  | 1 => ⟨S2048x1024, .f32⟩
  | 2 => ⟨S2048x512, .f32⟩
  | 3 => ⟨S2048x8x64, .f32⟩
  | 4 => ⟨S2048x512, .f32⟩
  | 5 => ⟨S2048x8x64, .f32⟩
  | 6 => ⟨S8x2048x2048, .f32⟩
  | 7 => ⟨S_, .f32⟩
  | 8 => ⟨S8x2048x2048, .f32⟩
  | 9 => ⟨S8x2048x2048, .f32⟩
  | 10 => ⟨S2048, .i32⟩
  | 11 => ⟨S1x2048, .i32⟩
  | 12 => ⟨S2048, .i32⟩
  | 13 => ⟨S2048x1, .i32⟩
  | 14 => ⟨S2048x2048, .i32⟩
  | 15 => ⟨S2048x2048, .i32⟩
  | 16 => ⟨S2048x2048, .i1⟩
  | 17 => ⟨S2048x512, .f32⟩
  | 18 => ⟨S2048x8x64, .f32⟩
  | 19 => ⟨S8x2048x2048, .f32⟩
  | 20 => ⟨S8x2048x2048, .f32⟩
  | 21 => ⟨S_, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .i1⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .i1⟩
  | 38 => ⟨S_, .f32⟩
  | 39 => ⟨S8x2048x2048, .f32⟩
  | 40 => ⟨S8x2048x2048, .f32⟩
  | 41 => ⟨S_, .f32⟩
  | 42 => ⟨S8x2048x2048, .f32⟩
  | 43 => ⟨S8x2048x2048, .i1⟩
  | 44 => ⟨S_, .f32⟩
  | 45 => ⟨S8x2048x2048, .f32⟩
  | 46 => ⟨S8x2048x2048, .f32⟩
  | 47 => ⟨S8x2048x2048, .f32⟩
  | 48 => ⟨S8x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S8x2048x2048, .f32⟩
  | 57 => ⟨S8x2048x2048, .i1⟩
  | 58 => ⟨S_, .f32⟩
  | 59 => ⟨S8x2048x2048, .f32⟩
  | 60 => ⟨S8x2048x2048, .f32⟩
  | 61 => ⟨S8x2048x2048, .f32⟩
  | 62 => ⟨S8x2048x2048, .f32⟩
  | 63 => ⟨S8x2048x2048, .f32⟩
  | 64 => ⟨S_, .f32⟩
  | 65 => ⟨S8x2048x2048, .f32⟩
  | 66 => ⟨S8x2048x2048, .f32⟩
  | 67 => ⟨S8x2048x2048, .f32⟩
  | 68 => ⟨S_, .f32⟩
  | 69 => ⟨S_, .f32⟩
  | 70 => ⟨S8x2048x2048, .i1⟩
  | 71 => ⟨S8x2048x2048, .f32⟩
  | 72 => ⟨S8x2048x2048, .f32⟩
  | 73 => ⟨S_, .f32⟩
  | 74 => ⟨S8x2048x2048, .f32⟩
  | 75 => ⟨S_, .f32⟩
  | 76 => ⟨S_, .f32⟩
  | 77 => ⟨S8x2048x2048, .f32⟩
  | 78 => ⟨S8x2048x2048, .f32⟩
  | 79 => ⟨S8x2048x2048, .f32⟩
  | 80 => ⟨S_, .f32⟩
  | 81 => ⟨S8x2048x2048, .f32⟩
  | 82 => ⟨S8x2048x2048, .f32⟩
  | 83 => ⟨S8x2048x2048, .f32⟩
  | 84 => ⟨S8x2048x2048, .f32⟩
  | 85 => ⟨S8x2048x2048, .i1⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S_, .f32⟩
  | 95 => ⟨S8x2048x2048, .f32⟩
  | 96 => ⟨S8x2048x2048, .i1⟩
  | 97 => ⟨S_, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .i1⟩
  | 103 => ⟨S_, .f32⟩
  | 104 => ⟨S8x2048x2048, .f32⟩
  | 105 => ⟨S8x2048x2048, .f32⟩
  | 106 => ⟨S8x2048x2048, .f32⟩
  | 107 => ⟨S8x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S8x2048x2048, .f32⟩
  | 116 => ⟨S8x2048x2048, .i1⟩
  | 117 => ⟨S_, .f32⟩
  | 118 => ⟨S8x2048x2048, .f32⟩
  | 119 => ⟨S8x2048x2048, .f32⟩
  | 120 => ⟨S8x2048x2048, .f32⟩
  | 121 => ⟨S8x2048x2048, .f32⟩
  | 122 => ⟨S8x2048x2048, .f32⟩
  | 123 => ⟨S_, .f32⟩
  | 124 => ⟨S8x2048x2048, .f32⟩
  | 125 => ⟨S8x2048x2048, .f32⟩
  | 126 => ⟨S8x2048x2048, .f32⟩
  | 127 => ⟨S8x2048x2048, .f32⟩
  | _ => ⟨S2048x1536, .f32⟩

abbrev hbmTy0_1 (i : Nat) : BufTy := match i % 128 with
  | 0 => ⟨S8x2048x2048, .f32⟩
  | 1 => ⟨S_, .f32⟩
  | 2 => ⟨S_, .f32⟩
  | 3 => ⟨S8x2048x2048, .i1⟩
  | 4 => ⟨S8x2048x2048, .f32⟩
  | 5 => ⟨S8x2048x2048, .f32⟩
  | 6 => ⟨S_, .f32⟩
  | 7 => ⟨S8x2048x2048, .f32⟩
  | 8 => ⟨S8x64x2048, .f32⟩
  | 9 => ⟨S2048x8x64, .f32⟩
  | 10 => ⟨S2048x512, .f32⟩
  | 11 => ⟨S2048x512, .f32⟩
  | 12 => ⟨S2048x8x64, .f32⟩
  | 13 => ⟨S8x64x2048, .f32⟩
  | 14 => ⟨S8x2048x2048, .f32⟩
  | 15 => ⟨S8x64x2048, .f32⟩
  | 16 => ⟨S2048x8x64, .f32⟩
  | 17 => ⟨S_, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S_, .f32⟩
  | 26 => ⟨S_, .f32⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S2048x512, .f32⟩
  | 38 => ⟨S_, .f32⟩
  | 39 => ⟨S2048x1536, .f32⟩
  | 40 => ⟨S_, .f32⟩
  | 41 => ⟨S8x2048x2048, .f32⟩
  | 42 => ⟨S8x2048x2048, .f32⟩
  | 43 => ⟨S8x2048x64, .f32⟩
  | 44 => ⟨S2048x8x64, .f32⟩
  | 45 => ⟨S8x2048x64, .f32⟩
  | 46 => ⟨S2048x8x64, .f32⟩
  | 47 => ⟨S2048x512, .f32⟩
  | 48 => ⟨S_, .f32⟩
  | 49 => ⟨S2048x1536, .f32⟩
  | 50 => ⟨S2048x1536, .f32⟩
  | 51 => ⟨S2048x512, .f32⟩
  | 52 => ⟨S_, .f32⟩
  | 53 => ⟨S2048x1536, .f32⟩
  | 54 => ⟨S2048x1536, .f32⟩
  | 55 => ⟨S2048x1536, .bf16⟩
  | 56 => ⟨S2048x512, .bf16⟩
  | 57 => ⟨S2048x512, .bf16⟩
  | 58 => ⟨S2048x512, .bf16⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_cst_3 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_cst_4 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_cst_5 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩

abbrev nD : Nat := 1
abbrev τ : Topo := Topo.v7x

variable {F : FTy → Type} [FloatOps F]
-- ==== Kernel2.lean ====
abbrev S2048x1024 : Shape := ⟨2, ![2048, 1024]⟩
abbrev S1024x3072 : Shape := ⟨2, ![1024, 3072]⟩
abbrev S3072x1024 : Shape := ⟨2, ![3072, 1024]⟩
abbrev S2048x3072 : Shape := ⟨2, ![2048, 3072]⟩
abbrev S_ : Shape := ⟨0, ![]⟩
abbrev S2048x512 : Shape := ⟨2, ![2048, 512]⟩
abbrev S1024x512 : Shape := ⟨2, ![1024, 512]⟩
abbrev S512x1024 : Shape := ⟨2, ![512, 1024]⟩
abbrev S2 : Shape := ⟨1, ![2]⟩
abbrev S1 : Shape := ⟨1, ![1]⟩
abbrev S256x1024 : Shape := ⟨2, ![256, 1024]⟩
abbrev S256x512 : Shape := ⟨2, ![256, 512]⟩

abbrev nBuf : Space → Nat
  | .hbm => 29
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S1024x3072, .f32⟩
  | .hbm, ⟨3, _⟩ => ⟨S3072x1024, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S_, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S2048x3072, .f32⟩
  | .hbm, ⟨17, _⟩ => ⟨S2048x3072, .bf16⟩
  | .hbm, ⟨18, _⟩ => ⟨S2048x1024, .bf16⟩
  | .hbm, ⟨19, _⟩ => ⟨S2048x1024, .bf16⟩
  | .hbm, ⟨20, _⟩ => ⟨S2048x3072, .bf16⟩
  | .hbm, ⟨21, _⟩ => ⟨S2048x3072, .bf16⟩
  | .hbm, ⟨22, _⟩ => ⟨S1024x3072, .bf16⟩
  | .hbm, ⟨23, _⟩ => ⟨S1024x3072, .bf16⟩
  | .hbm, ⟨24, _⟩ => ⟨S3072x1024, .bf16⟩
  | .hbm, ⟨25, _⟩ => ⟨S2048x1024, .f32⟩
  | .hbm, ⟨26, _⟩ => ⟨S1024x3072, .bf16⟩
  | .hbm, ⟨27, _⟩ => ⟨S1024x3072, .bf16⟩
  | .hbm, ⟨28, _⟩ => ⟨S3072x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S2048x1024, .f32⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S512x1024, .bf16⟩
  | .local _ .vmem, ⟨18, _⟩ => ⟨S512x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x512, .bf16⟩
  | .local _ .vmem, ⟨22, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![6], ![false]⟩

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2048x1024 : Shape := ⟨2, ![2048, 1024]⟩
abbrev S1024x3072 : Shape := ⟨2, ![1024, 3072]⟩
abbrev S3072x1024 : Shape := ⟨2, ![3072, 1024]⟩
abbrev S2048x3072 : Shape := ⟨2, ![2048, 3072]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S1024x3072, .f32⟩
  | .hbm, ⟨3, _⟩ => ⟨S3072x1024, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S_, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S2048x1024, .f32⟩
  | .hbm, ⟨22, _⟩ => ⟨S1024x3072, .f32⟩
  | .hbm, ⟨23, _⟩ => ⟨S3072x1024, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S3072x1024, .f32⟩
  | .hbm, ⟨28, _⟩ => ⟨S1024x3072, .f32⟩
  | .hbm, ⟨29, _⟩ => ⟨S2048x1024, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S3072x1024, .f32⟩
  | .hbm, ⟨35, _⟩ => ⟨S1024x3072, .f32⟩
  | .hbm, ⟨36, _⟩ => ⟨S2048x1024, .f32⟩
  | .hbm, ⟨37, _⟩ => ⟨S2048x1024, .f32⟩
  | .hbm, ⟨38, _⟩ => ⟨S1024x3072, .bf16⟩
  | .hbm, ⟨39, _⟩ => ⟨S1024x3072, .bf16⟩
  | .hbm, ⟨40, _⟩ => ⟨S3072x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel3.lean ====
abbrev S2048x1024 : Shape := ⟨2, ![2048, 1024]⟩
abbrev S1024x3072 : Shape := ⟨2, ![1024, 3072]⟩
abbrev S2048x3072 : Shape := ⟨2, ![2048, 3072]⟩
abbrev S256x1024 : Shape := ⟨2, ![256, 1024]⟩
abbrev S256x3072 : Shape := ⟨2, ![256, 3072]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S1024x3072, .f32⟩
  | .hbm, ⟨3, _⟩ => ⟨S1024x3072, .bf16⟩
  | .hbm, ⟨4, _⟩ => ⟨S1024x3072, .bf16⟩
  | .hbm, ⟨5, _⟩ => ⟨S2048x3072, .bf16⟩
  | .hbm, ⟨6, _⟩ => ⟨S2048x3072, .bf16⟩
  | .hbm, ⟨7, _⟩ => ⟨S2048x3072, .bf16⟩
  | .hbm, ⟨8, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1024x3072, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | .local _ .vmem, ⟨10, _⟩ => ⟨S256x1024, .bf16⟩
  | .local _ .vmem, ⟨11, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2048x1024 : Shape := ⟨2, ![2048, 1024]⟩
abbrev S1024x3072 : Shape := ⟨2, ![1024, 3072]⟩
abbrev S2048x3072 : Shape := ⟨2, ![2048, 3072]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S1024x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S2048x3072, .bf16⟩
  | .hbm, ⟨16, _⟩ => ⟨S2048x3072, .bf16⟩
  | .hbm, ⟨17, _⟩ => ⟨S2048x3072, .bf16⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel4.lean ====
abbrev S2048x1024 : Shape := ⟨2, ![2048, 1024]⟩
abbrev S1024x2048 : Shape := ⟨2, ![1024, 2048]⟩
abbrev S2048x2048 : Shape := ⟨2, ![2048, 2048]⟩
abbrev S2048x512 : Shape := ⟨2, ![2048, 512]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 16
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S2048x2048, .f32⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S2048x512, .bf16⟩
  | .hbm, ⟨8, _⟩ => ⟨S2048x512, .f32⟩
  | .hbm, ⟨9, _⟩ => ⟨S2048x512, .bf16⟩
  | .hbm, ⟨10, _⟩ => ⟨S2048x512, .f32⟩
  | .hbm, ⟨11, _⟩ => ⟨S2048x512, .bf16⟩
  | .hbm, ⟨12, _⟩ => ⟨S1024x2048, .bf16⟩
  | .hbm, ⟨13, _⟩ => ⟨S2048x1024, .bf16⟩
  | .hbm, ⟨14, _⟩ => ⟨S2048x1024, .f32⟩
  | .hbm, ⟨15, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S512x1024, .f32⟩
  | .local _ .vmem, ⟨14, _⟩ => ⟨S512x1024, .f32⟩
  | .local _ .vmem, ⟨15, _⟩ => ⟨S1024x2048, .bf16⟩
  | .local _ .vmem, ⟨16, _⟩ => ⟨S1024x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v57 : BitVec 1 := Scalar.cmpi .eq arg0 c3_i32
  let v58 : BitVec 32 := Scalar.extui v57
  let c0_i32_43 : BitVec 32 := 0#32
  let v59 : BitVec 1 := Scalar.cmpi .ne v58 c0_i32_43
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel6.lean ====
abbrev S2048x1024 : Shape := ⟨2, ![2048, 1024]⟩
abbrev S1024x3072 : Shape := ⟨2, ![1024, 3072]⟩
abbrev S3072x1024 : Shape := ⟨2, ![3072, 1024]⟩
abbrev S1x1024 : Shape := ⟨2, ![1, 1024]⟩
abbrev S2048x3072 : Shape := ⟨2, ![2048, 3072]⟩
abbrev S_ : Shape := ⟨0, ![]⟩
abbrev S2048x1 : Shape := ⟨2, ![2048, 1]⟩
abbrev S512x3072 : Shape := ⟨2, ![512, 3072]⟩
abbrev S512x1024 : Shape := ⟨2, ![512, 1024]⟩
abbrev S512x1 : Shape := ⟨2, ![512, 1]⟩
abbrev S512 : Shape := ⟨1, ![512]⟩

abbrev nBuf : Space → Nat
  | .hbm => 23
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S1024x3072, .f32⟩
  | .hbm, ⟨3, _⟩ => ⟨S3072x1024, .f32⟩
  | .hbm, ⟨4, _⟩ => ⟨S1x1024, .f32⟩
  | .hbm, ⟨5, _⟩ => ⟨S1x1024, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S_, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3072, .bf16⟩
  | .hbm, ⟨19, _⟩ => ⟨S3072x1024, .bf16⟩
  | .hbm, ⟨20, _⟩ => ⟨S2048x1024, .f32⟩
  | .hbm, ⟨21, _⟩ => ⟨S2048x1024, .f32⟩
  | .hbm, ⟨22, _⟩ => ⟨S2048x1, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S3072x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S2048x1024 : Shape := ⟨2, ![2048, 1024]⟩
abbrev S1024x3072 : Shape := ⟨2, ![1024, 3072]⟩
abbrev S3072x1024 : Shape := ⟨2, ![3072, 1024]⟩
abbrev S1x1024 : Shape := ⟨2, ![1, 1024]⟩
abbrev S_ : Shape := ⟨0, ![]⟩
abbrev S2048x3072 : Shape := ⟨2, ![2048, 3072]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S1024x3072, .f32⟩
  | .hbm, ⟨3, _⟩ => ⟨S3072x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel5.lean ====
abbrev S2048x1024 : Shape := ⟨2, ![2048, 1024]⟩
abbrev S1024x2048 : Shape := ⟨2, ![1024, 2048]⟩
abbrev S2048x2048 : Shape := ⟨2, ![2048, 2048]⟩
abbrev S2048x512 : Shape := ⟨2, ![2048, 512]⟩
abbrev S512x1024 : Shape := ⟨2, ![512, 1024]⟩
abbrev S512x512 : Shape := ⟨2, ![512, 512]⟩
abbrev S1024x512 : Shape := ⟨2, ![1024, 512]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .f32⟩
  | .hbm, ⟨3, _⟩ => ⟨S2048x2048, .f32⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S2048x512, .bf16⟩
  | .hbm, ⟨8, _⟩ => ⟨S2048x1024, .f32⟩
  | .hbm, ⟨9, _⟩ => ⟨S2048x1024, .bf16⟩
  | .hbm, ⟨10, _⟩ => ⟨S1024x2048, .bf16⟩
  | .hbm, ⟨11, _⟩ => ⟨S2048x1024, .bf16⟩
  | .hbm, ⟨12, _⟩ => ⟨S2048x1024, .f32⟩
  | .hbm, ⟨13, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x2048, .bf16⟩
  | .local _ .vmem, ⟨11, _⟩ => ⟨S512x1024, .f32⟩
  | .local _ .vmem, ⟨12, _⟩ => ⟨S512x1024, .f32⟩
  | .local _ .vmem, ⟨13, _⟩ => ⟨S1024x2048, .bf16⟩
  | .local _ .vmem, ⟨14, _⟩ => ⟨S1024x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v45 : BitVec 1 := Scalar.cmpi .eq arg0 c3_i32
  let v46 : BitVec 32 := Scalar.extui v45
  let c0_i32_34 : BitVec 32 := 0#32
  let v47 : BitVec 1 := Scalar.cmpi .ne v46 c0_i32_34
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel7.lean ====
abbrev S2048x1024 : Shape := ⟨2, ![2048, 1024]⟩
abbrev S1024x2048 : Shape := ⟨2, ![1024, 2048]⟩
abbrev S2048x2048 : Shape := ⟨2, ![2048, 2048]⟩
abbrev S2048x1536 : Shape := ⟨2, ![2048, 1536]⟩
abbrev S512x1024 : Shape := ⟨2, ![512, 1024]⟩
abbrev S512x2048 : Shape := ⟨2, ![512, 2048]⟩
abbrev S512x1536 : Shape := ⟨2, ![512, 1536]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .bf16⟩
  | .hbm, ⟨3, _⟩ => ⟨S2048x2048, .f32⟩
  | .hbm, ⟨4, _⟩ => ⟨S2048x1024, .bf16⟩
  | .hbm, ⟨5, _⟩ => ⟨S2048x1536, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | .local _ .vmem, ⟨5, _⟩ => ⟨S512x1024, .bf16⟩
  | .local _ .vmem, ⟨6, _⟩ => ⟨S512x1024, .bf16⟩
  | .local _ .vmem, ⟨7, _⟩ => ⟨S512x1536, .bf16⟩
  | .local _ .vmem, ⟨8, _⟩ => ⟨S512x1536, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S2048x1024 : Shape := ⟨2, ![2048, 1024]⟩
abbrev S1024x2048 : Shape := ⟨2, ![1024, 2048]⟩
abbrev S2048x2048 : Shape := ⟨2, ![2048, 2048]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .bf16⟩
  | .hbm, ⟨4, _⟩ => ⟨S2048x1536, .f32⟩
  | .hbm, ⟨5, _⟩ => ⟨S2048x1536, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S2048x1024 : Shape := ⟨2, ![2048, 1024]⟩
abbrev S1024x2048 : Shape := ⟨2, ![1024, 2048]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .bf16⟩
  | .hbm, ⟨3, _⟩ => ⟨S2048x2048, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S2048x512 : Shape := ⟨2, ![2048, 512]⟩
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S2048x512, .bf16⟩
  | .hbm, ⟨7, _⟩ => ⟨S2048x512, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S2048x512 : Shape := ⟨2, ![2048, 512]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel10.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩

abbrev nBuf : Space → Nat
  | .hbm => 12
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S2048x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x256, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel11.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S1024 : Shape := ⟨1, ![1024]⟩

abbrev nBuf : Space → Nat
  | .hbm => 15
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S2048x1024, .f32⟩
  | .hbm, ⟨6, _⟩ => ⟨S1024x1024, .bf16⟩
  | .hbm, ⟨7, _⟩ => ⟨S256x1024, .bf16⟩
  | .hbm, ⟨8, _⟩ => ⟨S2048x1024, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x256, .bf16⟩
  | .hbm, ⟨13, _⟩ => ⟨S2048x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x256, .bf16⟩
  | .local _ .vmem, ⟨18, _⟩ => ⟨S512x256, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_29 : BitVec 32 := 0#32
  let v39 : BitVec 1 := Scalar.cmpi .ne v38 c0_i32_29
  v39

def k0_cond2 (i : grid0.Coords) : BitVec 1 :=
  let arg0 : BitVec 32 := BitVec.ofNat 32 (i 0).val
  let c0_i32_30 : BitVec 32 := 0#32
  let v40 : BitVec 1 := Scalar.cmpi .ne arg0 c0_i32_30
  let v41 : BitVec 32 := Scalar.extui v40
  let c0_i32_31 : BitVec 32 := 0#32
  let v42 : BitVec 1 := Scalar.cmpi .ne v41 c0_i32_31
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference11Ideal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S2048 : Shape := ⟨1, ![2048]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .bf16⟩
  | .hbm, ⟨44, _⟩ => ⟨S2048x1024, .bf16⟩
  | .hbm, ⟨45, _⟩ => ⟨S2048x1024, .bf16⟩
  | .hbm, ⟨46, _⟩ => ⟨S2048x256, .bf16⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩
abbrev S1024 : Shape := ⟨1, ![1024]⟩

abbrev nBuf : Space → Nat
  | .hbm => 46
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x512, .f32⟩
  | .hbm, ⟨37, _⟩ => ⟨S2048x512, .bf16⟩
  | .hbm, ⟨38, _⟩ => ⟨S2048x512, .f32⟩
  | .hbm, ⟨39, _⟩ => ⟨S2048x512, .bf16⟩
  | .hbm, ⟨40, _⟩ => ⟨S1024x1024, .bf16⟩
  | .hbm, ⟨41, _⟩ => ⟨S2048x1024, .f32⟩
  | .hbm, ⟨42, _⟩ => ⟨S2048x1024, .f32⟩
  | .hbm, ⟨43, _⟩ => ⟨S1x1024, .f32⟩
  | .hbm, ⟨44, _⟩ => ⟨S1x1024, .f32⟩
  | .hbm, ⟨45, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_22 : BitVec 32 := 0#32
  let v40 : BitVec 1 := Scalar.cmpi .eq arg0 c0_i32_22
  let v41 : BitVec 32 := Scalar.extui v40
  let c0_i32_23 : BitVec 32 := 0#32
  let v42 : BitVec 1 := Scalar.cmpi .ne v41 c0_i32_23
  v42

def k0_cond3 (i : grid0.Coords) : BitVec 1 :=
  let arg0 : BitVec 32 := BitVec.ofNat 32 (i 0).val
  let c0_i32_24 : BitVec 32 := 0#32
  let v43 : BitVec 1 := Scalar.cmpi .ne arg0 c0_i32_24
  let v44 : BitVec 32 := Scalar.extui v43
  let c0_i32_25 : BitVec 32 := 0#32
  let v45 : BitVec 1 := Scalar.cmpi .ne v44 c0_i32_25
  v45

def k0_cond4 (i : grid0.Coords) : BitVec 1 :=
  let arg0 : BitVec 32 := BitVec.ofNat 32 (i 0).val
  let c0_i32_27 : BitVec 32 := 0#32
  let v48 : BitVec 1 := Scalar.cmpi .eq arg0 c0_i32_27
  let v49 : BitVec 32 := Scalar.extui v48
  let c0_i32_28 : BitVec 32 := 0#32
  let v50 : BitVec 1 := Scalar.cmpi .ne v49 c0_i32_28
  v50

def k0_cond5 (i : grid0.Coords) : BitVec 1 :=
  let arg0 : BitVec 32 := BitVec.ofNat 32 (i 0).val
  let c0_i32_29 : BitVec 32 := 0#32
  let v51 : BitVec 1 := Scalar.cmpi .ne arg0 c0_i32_29
  let v52 : BitVec 32 := Scalar.extui v51
  let c0_i32_30 : BitVec 32 := 0#32
  let v53 : BitVec 1 := Scalar.cmpi .ne v52 c0_i32_30
  v53

def k0_cond6 (i : grid0.Coords) : BitVec 1 :=
  let arg0 : BitVec 32 := BitVec.ofNat 32 (i 0).val
  let c3_i32 : BitVec 32 := 3#32
  let v70 : BitVec 1 := Scalar.cmpi .eq arg0 c3_i32
  let v71 : BitVec 32 := Scalar.extui v70
  let c0_i32_44 : BitVec 32 := 0#32
  let v72 : BitVec 1 := Scalar.cmpi .ne v71 c0_i32_44
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference12Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x1024, .f32⟩
  | .hbm, ⟨91, _⟩ => ⟨S2048x1024, .f32⟩
  | .hbm, ⟨92, _⟩ => ⟨S1024x1024, .f32⟩
  | .hbm, ⟨93, _⟩ => ⟨S1024x1024, .f32⟩
  | .hbm, ⟨94, _⟩ => ⟨S2048x1024, .f32⟩
  | .hbm, ⟨95, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Kernel13.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S512x256 : Shape := ⟨2, ![512, 256]⟩
abbrev S512x1 : Shape := ⟨2, ![512, 1]⟩
abbrev S1024 : Shape := ⟨1, ![1024]⟩
abbrev S512 : Shape := ⟨1, ![512]⟩

abbrev nBuf : Space → Nat
  | .hbm => 61
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | .hbm, ⟨50, _⟩ => ⟨S2048x1024, .bf16⟩
  | .hbm, ⟨51, _⟩ => ⟨S2048x1024, .bf16⟩
  | .hbm, ⟨52, _⟩ => ⟨S2048x256, .bf16⟩
  | .hbm, ⟨53, _⟩ => ⟨S1024x1024, .bf16⟩
  | .hbm, ⟨54, _⟩ => ⟨S2048x1024, .f32⟩
  | .hbm, ⟨55, _⟩ => ⟨S2048x1024, .bf16⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1024x1024, .bf16⟩
  | .hbm, ⟨60, _⟩ => ⟨S256x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1024x1024, .bf16⟩
  | .local _ .vmem, ⟨24, _⟩ => ⟨S256x1024, .bf16⟩
  | .local _ .vmem, ⟨25, _⟩ => ⟨S1024x1024, .f32⟩
  | .local _ .vmem, ⟨26, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v39_2 : Ref sig .tc := ⟨.hbm, 56, rfl⟩
abbrev main_v39_3 : Ref sig .tc := ⟨.hbm, 57, rfl⟩
abbrev main_v39_4 : Ref sig .tc := ⟨.hbm, 58, rfl⟩
abbrev main_v39_5 : Ref sig .tc := ⟨.hbm, 59, rfl⟩
abbrev main_v39_6 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c0_i32_23 : BitVec 32 := 0#32
  let v39 : BitVec 1 := Scalar.cmpi .eq arg0 c0_i32_23
  let v40 : BitVec 32 := Scalar.extui v39
  let c0_i32_24 : BitVec 32 := 0#32
  let v41 : BitVec 1 := Scalar.cmpi .ne v40 c0_i32_24
  v41

def k0_cond4 (i : grid0.Coords) : BitVec 1 :=
  let arg0 : BitVec 32 := BitVec.ofNat 32 (i 0).val
  let c0_i32_25 : BitVec 32 := 0#32
  let v42 : BitVec 1 := Scalar.cmpi .ne arg0 c0_i32_25
  let v43 : BitVec 32 := Scalar.extui v42
  let c0_i32_26 : BitVec 32 := 0#32
  let v44 : BitVec 1 := Scalar.cmpi .ne v43 c0_i32_26
  v44

def k0_cond5 (i : grid0.Coords) : BitVec 1 :=
  let arg0 : BitVec 32 := BitVec.ofNat 32 (i 0).val
  let c0_i32_45 : BitVec 32 := 0#32
  let v78 : BitVec 1 := Scalar.cmpi .eq arg0 c0_i32_45
  let v79 : BitVec 32 := Scalar.extui v78
  let c0_i32_46 : BitVec 32 := 0#32
  let v80 : BitVec 1 := Scalar.cmpi .ne v79 c0_i32_46
  v80

def k0_cond6 (i : grid0.Coords) : BitVec 1 :=
  let arg0 : BitVec 32 := BitVec.ofNat 32 (i 0).val
  let c0_i32_47 : BitVec 32 := 0#32
  let v81 : BitVec 1 := Scalar.cmpi .ne arg0 c0_i32_47
  let v82 : BitVec 32 := Scalar.extui v81
  let c0_i32_48 : BitVec 32 := 0#32
  let v83 : BitVec 1 := Scalar.cmpi .ne v82 c0_i32_48
  v83

def k0_cond7 (i : grid0.Coords) : BitVec 1 :=
  let arg0 : BitVec 32 := BitVec.ofNat 32 (i 0).val
  let c0_i32_50 : BitVec 32 := 0#32
  let v86 : BitVec 1 := Scalar.cmpi .eq arg0 c0_i32_50
  let v87 : BitVec 32 := Scalar.extui v86
  let c0_i32_51 : BitVec 32 := 0#32
  let v88 : BitVec 1 := Scalar.cmpi .ne v87 c0_i32_51
  v88

def k0_cond8 (i : grid0.Coords) : BitVec 1 :=
  let arg0 : BitVec 32 := BitVec.ofNat 32 (i 0).val
  let c0_i32_52 : BitVec 32 := 0#32
  let v89 : BitVec 1 := Scalar.cmpi .ne arg0 c0_i32_52
  let v90 : BitVec 32 := Scalar.extui v89
  let c0_i32_53 : BitVec 32 := 0#32
  let v91 : BitVec 1 := Scalar.cmpi .ne v90 c0_i32_53
  v91

def k0_cond9 (i : grid0.Coords) : BitVec 1 :=
  let arg0 : BitVec 32 := BitVec.ofNat 32 (i 0).val
  let c3_i32 : BitVec 32 := 3#32
  let v92 : BitVec 1 := Scalar.cmpi .eq arg0 c3_i32
  let v93 : BitVec 32 := Scalar.extui v92
  let c0_i32_54 : BitVec 32 := 0#32
  let v94 : BitVec 1 := Scalar.cmpi .ne v93 c0_i32_54
  v94

def k0_cond10 (i : grid0.Coords) : BitVec 1 :=
  let arg0 : BitVec 32 := BitVec.ofNat 32 (i 0).val
  let c3_i32_55 : BitVec 32 := 3#32
  let v95 : BitVec 1 := Scalar.cmpi .eq arg0 c3_i32_55
  let v96 : BitVec 32 := Scalar.extui v95
  let c0_i32_56 : BitVec 32 := 0#32
  let v97 : BitVec 1 := Scalar.cmpi .ne v96 c0_i32_56
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference13Ideal.lean ====
abbrev S2048x1024 : Shape := ⟨2, ![2048, 1024]⟩
abbrev S2048x256 : Shape := ⟨2, ![2048, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x256 : Shape := ⟨2, ![1024, 256]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1024x256, .f32⟩
  | .hbm, ⟨65, _⟩ => ⟨S256x1024, .f32⟩
  | .hbm, ⟨66, _⟩ => ⟨S2048x256, .f32⟩
  | .hbm, ⟨67, _⟩ => ⟨S2048x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S1024x1024, .f32⟩
  | .hbm, ⟨72, _⟩ => ⟨S1024x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S2048, .f32⟩
  | .hbm, ⟨105, _⟩ => ⟨S2048x1, .f32⟩
  | .hbm, ⟨106, _⟩ => ⟨S2048x1024, .f32⟩
  | .hbm, ⟨107, _⟩ => ⟨S2048x1, .f32⟩
  | .hbm, ⟨108, _⟩ => ⟨S_, .f32⟩
  | .hbm, ⟨109, _⟩ => ⟨S2048x1, .f32⟩
  | .hbm, ⟨110, _⟩ => ⟨S2048x1, .f32⟩
  | .hbm, ⟨111, _⟩ => ⟨S_, .f32⟩
  | .hbm, ⟨112, _⟩ => ⟨S2048, .f32⟩
  | .hbm, ⟨113, _⟩ => ⟨S2048x1024, .f32⟩
  | .hbm, ⟨114, _⟩ => ⟨S2048x1024, .f32⟩
  | .hbm, ⟨115, _⟩ => ⟨S2048x1024, .bf16⟩
  | .hbm, ⟨116, _⟩ => ⟨S1024x1024, .bf16⟩
  | .hbm, ⟨117, _⟩ => ⟨S256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Proof.Spec.lean ====
module
public import Mathlib.Analysis.SpecialFunctions.Log.Basic
public import Mathlib.Data.EReal.Operations
public import Mathlib.Algebra.BigOperators.Fin
@[expose] public section
noncomputable section

/-! The gradients of the stick-breaking attention over the real numbers, written as plain sums, and
the finite-sum identities the block computation rests on. -/

namespace StickBreak
open Finset

/-- A finite sum of real numbers is the same sum taken among the extended reals. -/
theorem coe_sum {ι : Type} (s : Finset ι) (f : ι → ℝ) :
    ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The softplus in its stable form. -/
def sp (x : ℝ) : ℝ := max x 0 + Real.log (1 + Real.exp (-|x|))

/-- The four real arrays of the problem: queries, keys, values and the gradient of the output. -/
structure Arg where
  /-- queries -/
  q : ℕ → ℕ → ℝ
  /-- keys -/
  k : ℕ → ℕ → ℝ
  /-- values -/
  v : ℕ → ℕ → ℝ
  /-- the output's gradient -/
  d : ℕ → ℕ → ℝ

variable (A : Arg)

/-- The logit of query `t` and key `s` in head `h`. -/
def z (h t s : ℕ) : ℝ := ∑ e ∈ range 64, A.q t (64 * h + e) * 0.125 * A.k s (64 * h + e)
/-- The softplus of the logit where the key lies strictly before the query, and nothing elsewhere. -/
def msp (h t s : ℕ) : ℝ := if s < t then sp (z A h t s) else 0
/-- The sum of `msp` over the first `n` keys. -/
def pre (h t n : ℕ) : ℝ := ∑ s ∈ range n, msp A h t s
/-- The attention weight. -/
def w (h t s : ℕ) : ℝ :=
  if s < t then Real.exp (z A h t s - sp (z A h t s) - (pre A h t t - pre A h t (s + 1))) else 0
/-- The gradient of the attention weight. -/
def dw (h t s : ℕ) : ℝ := ∑ e ∈ range 64, A.d t (64 * h + e) * A.v s (64 * h + e)
/-- The weight's gradient times the weight. -/
def g (h t s : ℕ) : ℝ := dw A h t s * w A h t s
/-- The sum of `g` over the first `n` keys. -/
def G (h t n : ℕ) : ℝ := ∑ s ∈ range n, g A h t s
/-- The gradient of the logit. -/
def dz (h t s : ℕ) : ℝ :=
  if s < t then g A h t s - Real.exp (z A h t s - sp (z A h t s)) * (g A h t s + G A h t s) else 0
/-- The query's gradient from the first `n` keys. -/
def dqn (n t c : ℕ) : ℝ := ∑ s ∈ range n, dz A (c / 64) t s * A.k s c
/-- The key's gradient from the first `n` queries. -/
def dkn (n s c : ℕ) : ℝ := ∑ t ∈ range n, dz A (c / 64) t s * (A.q t c * 0.125)
/-- The value's gradient from the first `n` queries. -/
def dvn (n s c : ℕ) : ℝ := ∑ t ∈ range n, w A (c / 64) t s * A.d t c

theorem dz_of_le {h t s : ℕ} (hs : t ≤ s) : dz A h t s = 0 := if_neg (by omega)
theorem w_of_le {h t s : ℕ} (hs : t ≤ s) : w A h t s = 0 := if_neg (by omega)

/-- Keys from the query on add nothing to the query's gradient. -/
theorem dqn_eq {n n' t : ℕ} (c : ℕ) (h : t ≤ n) (h' : n ≤ n') : dqn A n t c = dqn A n' t c := by
  unfold dqn
  refine Finset.sum_subset (Finset.range_mono h') fun s _ hs => ?_
  rw [dz_of_le A (by simp at hs; omega), zero_mul]

/-- Queries up to the key add nothing to the key's gradient. -/
theorem dkn_eq {n n' s : ℕ} (c : ℕ) (h : n' ≤ s + 1) (h' : n ≤ n') : dkn A n s c = dkn A n' s c := by
  unfold dkn
  refine Finset.sum_subset (Finset.range_mono h') fun t ht _ => ?_
  rw [dz_of_le A (by simp at ht; omega), zero_mul]

/-- Queries up to the key add nothing to the value's gradient. -/
theorem dvn_eq {n n' s : ℕ} (c : ℕ) (h : n' ≤ s + 1) (h' : n ≤ n') : dvn A n s c = dvn A n' s c := by
  unfold dvn
  refine Finset.sum_subset (Finset.range_mono h') fun t ht _ => ?_
  rw [w_of_le A (by simp at ht; omega), zero_mul]

/-- A row of the two heads stacked on one another: the query scaled, in its own head's columns. -/
def qh (i pp r x : ℕ) : ℝ := if x / 64 = r / 256 then A.q (256 * i + r % 256) (128 * pp + x) * 0.125 else 0
/-- A row of the two heads stacked on one another: the output's gradient, in its own head's columns. -/
def dh (i pp r x : ℕ) : ℝ := if x / 64 = r / 256 then A.d (256 * i + r % 256) (128 * pp + x) else 0

/-- A sum over 128 columns of which only one head's 64 count. -/
theorem sum_head (pp b : ℕ) (hb : b < 2) (f : ℕ → ℝ) :
    ∑ x ∈ range 128, (if x / 64 = b then f (128 * pp + x) else 0) = ∑ e ∈ range 64, f (64 * (2 * pp + b) + e) := by
  rw [show (128 : ℕ) = 64 + 64 from rfl, Finset.sum_range_add]
  rcases (by omega : b = 0 ∨ b = 1) with rfl | rfl
  · rw [Finset.sum_eq_zero (s := range 64) (f := fun x => if (64 + x) / 64 = 0 then f ((64 + 64) * pp + (64 + x)) else 0), add_zero]
    · refine Finset.sum_congr rfl fun x hx => ?_
      rw [if_pos (by simp at hx; omega)]; congr 1; omega
    · intro x hx; rw [if_neg (by omega)]
  · rw [Finset.sum_eq_zero (s := range 64) (f := fun x => if x / 64 = 1 then f ((64 + 64) * pp + x) else 0), zero_add]
    · refine Finset.sum_congr rfl fun x hx => ?_
      rw [if_pos (by simp at hx; omega)]; congr 1; omega
    · intro x hx; rw [if_neg (by simp at hx; omega)]

/-- The logit from the stacked query row. -/
theorem sum_qh (i pp r s : ℕ) (hr : r < 512) :
    ∑ x : Fin 128, qh A i pp r x * A.k s (128 * pp + x) = z A (2 * pp + r / 256) (256 * i + r % 256) s := by
  rw [Fin.sum_univ_eq_sum_range (fun x => qh A i pp r x * A.k s (128 * pp + x)) 128]
  unfold qh z
  rw [← sum_head pp (r / 256) (by omega) (fun c => A.q (256 * i + r % 256) c * 0.125 * A.k s c)]
  refine Finset.sum_congr rfl fun x _ => ?_
  split <;> simp

/-- The weight's gradient from the stacked row. -/
theorem sum_dh (i pp r s : ℕ) (hr : r < 512) :
    ∑ x : Fin 128, dh A i pp r x * A.v s (128 * pp + x) = dw A (2 * pp + r / 256) (256 * i + r % 256) s := by
  rw [Fin.sum_univ_eq_sum_range (fun x => dh A i pp r x * A.v s (128 * pp + x)) 128]
  unfold dh dw
  rw [← sum_head pp (r / 256) (by omega) (fun c => A.d (256 * i + r % 256) c * A.v s c)]
  refine Finset.sum_congr rfl fun x _ => ?_
  split <;> simp

/-- A product with the triangle of ones, the diagonal included, sums a prefix. -/
theorem sum_le (c : Fin 256) (f : ℕ → ℝ) :
    ∑ x : Fin 256, f x * (if x.val ≤ c.val then 1 else 0) = ∑ x ∈ range (c.val + 1), f x := by
  rw [Fin.sum_univ_eq_sum_range (fun x => f x * (if x ≤ c.val then 1 else 0)) 256]
  rw [← Finset.sum_subset (s₁ := range (c.val + 1)) (s₂ := range 256) (Finset.range_mono (by omega))
    (fun x _ hx => by rw [if_neg (by simp at hx; omega), mul_zero])]
  refine Finset.sum_congr rfl fun x hx => ?_
  rw [if_pos (by simp at hx; omega), mul_one]

/-- A product with the triangle of ones, the diagonal excluded, sums a prefix. -/
theorem sum_lt (c : Fin 256) (f : ℕ → ℝ) :
    ∑ x : Fin 256, f x * (if x.val < c.val then 1 else 0) = ∑ x ∈ range c.val, f x := by
  rw [Fin.sum_univ_eq_sum_range (fun x => f x * (if x < c.val then 1 else 0)) 256]
  rw [← Finset.sum_subset (s₁ := range c.val) (s₂ := range 256) (Finset.range_mono (by omega))
    (fun x _ hx => by rw [if_neg (by simp at hx; omega), mul_zero])]
  refine Finset.sum_congr rfl fun x hx => ?_
  rw [if_pos (by simp at hx; omega), mul_one]

theorem pre_block (h t n c : ℕ) :
    ∑ x ∈ range c, msp A h t (n + x) = pre A h t (n + c) - pre A h t n := by
  unfold pre; rw [Finset.sum_range_add]; ring

theorem G_block (h t n c : ℕ) : ∑ x ∈ range c, g A h t (n + x) = G A h t (n + c) - G A h t n := by
  unfold G; rw [Finset.sum_range_add]; ring

/-- A sum over the 512 stacked rows of which only one head's 256 count. -/
theorem sum_rows (b : ℕ) (hb : b < 2) (F : ℕ → ℕ → ℝ) (e : ℕ → ℝ) :
    ∑ r : Fin 512, F (r.val / 256) (r.val % 256) * (if b = r.val / 256 then e (r.val % 256) else 0)
      = ∑ a ∈ range 256, F b a * e a := by
  rw [Fin.sum_univ_eq_sum_range (fun r => F (r / 256) (r % 256) * (if b = r / 256 then e (r % 256) else 0)) 512,
    show (512 : ℕ) = 256 + 256 from rfl, Finset.sum_range_add]
  rcases (by omega : b = 0 ∨ b = 1) with rfl | rfl
  · rw [Finset.sum_eq_zero (s := range 256) (f := fun x => F ((256 + x) / 256) ((256 + x) % 256) * _), add_zero]
    · refine Finset.sum_congr rfl fun x hx => ?_
      simp only [Finset.mem_range] at hx
      rw [if_pos (by omega), Nat.div_eq_of_lt hx, Nat.mod_eq_of_lt hx]
    · intro x hx
      simp only [Finset.mem_range] at hx
      rw [if_neg (by omega), mul_zero]
  · rw [Finset.sum_eq_zero (s := range 256) (f := fun x => F (x / 256) (x % 256) * _), zero_add]
    · refine Finset.sum_congr rfl fun x hx => ?_
      simp only [Finset.mem_range] at hx
      rw [if_pos (by omega), show (256 + x) / 256 = 1 by omega, show (256 + x) % 256 = x by omega]
    · intro x hx
      simp only [Finset.mem_range] at hx
      rw [if_neg (by omega), mul_zero]

/-- One block of queries added to a key's gradient. -/
theorem dk_block (i pp s x : ℕ) (hx : x < 128) :
    dkn A (256 * i) s (128 * pp + x)
      + ∑ r : Fin 512, dz A (2 * pp + r.val / 256) (256 * i + r.val % 256) s * qh A i pp r x
      = dkn A (256 * (i + 1)) s (128 * pp + x) := by
  have e := sum_rows (x / 64) (by omega) (fun b a => dz A (2 * pp + b) (256 * i + a) s)
    (fun a => A.q (256 * i + a) (128 * pp + x) * 0.125)
  unfold qh
  rw [e]
  unfold dkn
  rw [show 256 * (i + 1) = 256 * i + 256 by ring, Finset.sum_range_add,
    show (128 * pp + x) / 64 = 2 * pp + x / 64 by omega]

/-- One block of queries added to a value's gradient. -/
theorem dv_block (i pp s x : ℕ) (hx : x < 128) :
    dvn A (256 * i) s (128 * pp + x)
      + ∑ r : Fin 512, w A (2 * pp + r.val / 256) (256 * i + r.val % 256) s * dh A i pp r x
      = dvn A (256 * (i + 1)) s (128 * pp + x) := by
  have e := sum_rows (x / 64) (by omega) (fun b a => w A (2 * pp + b) (256 * i + a) s)
    (fun a => A.d (256 * i + a) (128 * pp + x))
  unfold dh
  rw [e]
  unfold dvn
  rw [show 256 * (i + 1) = 256 * i + 256 by ring, Finset.sum_range_add,
    show (128 * pp + x) / 64 = 2 * pp + x / 64 by omega]

/-- One block of keys added to a query's gradient: of the two heads' products one is masked away. -/
theorem dq_block (kb t pp c : ℕ) (hc : c < 128) :
    dqn A (256 * kb) t (128 * pp + c)
      + (∑ x : Fin 256, dz A (2 * pp) t (256 * kb + x.val) * (if c < 64 then A.k (256 * kb + x.val) (128 * pp + c) else 0)
        + ∑ x : Fin 256, dz A (2 * pp + 1) t (256 * kb + x.val) * (if c < 64 then 0 else A.k (256 * kb + x.val) (128 * pp + c)))
      = dqn A (256 * (kb + 1)) t (128 * pp + c) := by
  unfold dqn
  rw [show 256 * (kb + 1) = 256 * kb + 256 by ring, Finset.sum_range_add]
  congr 1
  rw [← Fin.sum_univ_eq_sum_range (fun x => dz A ((128 * pp + c) / 64) t (256 * kb + x) * A.k (256 * kb + x) (128 * pp + c)) 256]
  by_cases h : c < 64
  · simp only [h, if_true, mul_zero, Finset.sum_const_zero, add_zero]
    rw [show (128 * pp + c) / 64 = 2 * pp by omega]
  · simp only [h, if_false, mul_zero, Finset.sum_const_zero, zero_add]
    rw [show (128 * pp + c) / 64 = 2 * pp + 1 by omega]

end StickBreak
end
end
-- ==== Proof.Window.lean ====
module
public import proofs.«01_k».proof.Proof.Spec
public import Idealize.ShloMosaic.Lib.Pointwise
public import Idealize.ShloMosaic.Lib.WordCmp
@[expose] public section
noncomputable section

/-! Sums over the windows of a row, and the softplus among the extended reals. -/

namespace StickBreak
open Finset Idealize.ShloMosaic

/-- A running sum over a list is the start plus the list's total. -/
theorem foldl_sum {ι : Type} (l : List ι) (g : ι → EReal) (a : EReal) :
    l.foldl (fun r n => r + g n) a = a + (l.map g).sum := by
  induction l generalizing a with
  | nil => simp
  | cons x l ih => rw [List.foldl_cons, ih, List.map_cons, List.sum_cons, add_assoc]

/-- The window along one row: 1 × 1 × 2048. -/
abbrev Win : Shape := ⟨3, ![1, 1, 2048]⟩

theorem win_numel : Win.numel = 2048 := by
  show ∏ a : Fin 3, (![1, 1, 2048] : Fin 3 → ℕ) a = 2048
  simp [Fin.prod_univ_succ]

/-- The place `n` of the window is `(0, 0, n)`. -/
theorem win_symm (n : Fin Win.numel) :
    Win.rowMajor.symm n = ix3 (0 : Fin 1) (0 : Fin 1) (n.cast win_numel) :=
  (Win.rowMajor.symm_apply_eq).2 (Fin.ext (by
    rw [Shape.rowMajor_val_three]
    show n.val = (0 * 1 + 0) * 2048 + n.val
    omega))

/-- A sum over the window's places, of a value that depends on the place's number. -/
theorem win_fold (g : Fin Win.numel → EReal) (f : ℕ → ℝ) (h : ∀ n, g n = ((f n.val : ℝ) : EReal)) :
    (List.finRange Win.numel).foldl (fun r n => r + g n) 0 = ((∑ n ∈ range 2048, f n : ℝ) : EReal) := by
  have hn : ∀ M, M = 2048 → ∀ g : Fin M → EReal, (∀ n, g n = ((f n.val : ℝ) : EReal)) →
      ∑ n, g n = ((∑ n ∈ range 2048, f n : ℝ) : EReal) := by
    intro M e g h
    subst e
    rw [coe_sum, ← Fin.sum_univ_eq_sum_range (fun n => ((f n : ℝ) : EReal))]
    exact Finset.sum_congr rfl fun n _ => h n
  rw [foldl_sum, zero_add, ← Fin.sum_univ_def]
  exact hn _ win_numel g h

theorem sum_suffix (f : ℕ → ℝ) (s : ℕ) (hs : s ≤ 2048) :
    ∑ n ∈ range 2048, (if s + n < 2048 then f (s + n) else 0) = ∑ n ∈ range 2048, f n - ∑ n ∈ range s, f n := by
  rw [← Finset.sum_filter]
  have e : (range 2048).filter (fun n => s + n < 2048) = range (2048 - s) := by
    ext n; simp only [mem_filter, mem_range]; omega
  rw [e, eq_sub_iff_add_eq, add_comm, ← Finset.sum_range_add, Nat.add_sub_cancel' hs]

theorem sum_prefix (f : ℕ → ℝ) (s : ℕ) (hs : s < 2048) :
    ∑ n ∈ range 2048, (if 2047 ≤ s + n then f (s + n - 2047) else 0) = ∑ n ∈ range (s + 1), f n := by
  rw [← Finset.sum_filter]
  have e : (range 2048).filter (fun n => 2047 ≤ s + n) = Finset.Ico (2047 - s) 2048 := by
    ext n; simp only [mem_filter, mem_range, mem_Ico]; omega
  rw [e, Finset.sum_Ico_eq_sum_range]
  rw [show 2048 - (2047 - s) = s + 1 by omega]
  exact Finset.sum_congr rfl fun n _ => by rw [show s + (2047 - s + n) - 2047 = n by omega]

/-- The array of rows the windows run over. -/
abbrev Rows : Shape := ⟨3, ![8, 2048, 2048]⟩

/-- The sum from place `s` of a row to its end. -/
theorem window_suffix (w : Rows.ReduceWindows ![1, 1, 2048] ![1, 1, 1] ![0, 0, 0] ![0, 0, 2047] Rows)
    (x : Rows.Idx → EReal) (h : Fin 8) (t s : Fin 2048) (f : ℕ → ℝ)
    (hx : ∀ s : Fin 2048, x (ix3 h t s) = ((f s : ℝ) : EReal)) :
    Ideal.hostReduceWindowAdd ![1, 1, 2048] ![1, 1, 1] ![0, 0, 0] ![0, 0, 2047] w x 0 (ix3 h t s)
      = ((∑ n ∈ range 2048, f n - ∑ n ∈ range s.val, f n : ℝ) : EReal) := by
  have hs := s.isLt
  unfold Ideal.hostReduceWindowAdd Host.reduceWindow
  rw [← sum_suffix f s.val hs.le]
  refine win_fold _ _ fun n => ?_
  have w0 : (Win.rowMajor.symm n 0).val = 0 := by rw [win_symm]; rfl
  have w1 : (Win.rowMajor.symm n 1).val = 0 := by rw [win_symm]; rfl
  have w2 : (Win.rowMajor.symm n 2).val = n.val := by rw [win_symm]; rfl
  split
  · next hin =>
    have h2 := hin 2
    change 0 ≤ s.val * 1 + (Win.rowMajor.symm n 2).val ∧ s.val * 1 + (Win.rowMajor.symm n 2).val - 0 < 2048 at h2
    rw [w2] at h2
    rw [if_pos (by omega)]
    refine (congrArg x (funext fun a => Fin.ext ?_)).trans (hx ⟨s.val + n.val, by omega⟩)
    match a with
    | ⟨0, _⟩ =>
      show h.val * 1 + (Win.rowMajor.symm n 0).val - 0 = h.val
      rw [w0]; omega
    | ⟨1, _⟩ =>
      show t.val * 1 + (Win.rowMajor.symm n 1).val - 0 = t.val
      rw [w1]; omega
    | ⟨2, _⟩ =>
      show s.val * 1 + (Win.rowMajor.symm n 2).val - 0 = s.val + n.val
      rw [w2]; omega
  · next hin =>
    rw [if_neg fun hle => hin fun a => by
      match a with
      | ⟨0, _⟩ =>
        show 0 ≤ h.val * 1 + (Win.rowMajor.symm n 0).val ∧ h.val * 1 + (Win.rowMajor.symm n 0).val - 0 < 8
        rw [w0]; have := h.isLt; omega
      | ⟨1, _⟩ =>
        show 0 ≤ t.val * 1 + (Win.rowMajor.symm n 1).val ∧ t.val * 1 + (Win.rowMajor.symm n 1).val - 0 < 2048
        rw [w1]; have := t.isLt; omega
      | ⟨2, _⟩ =>
        show 0 ≤ s.val * 1 + (Win.rowMajor.symm n 2).val ∧ s.val * 1 + (Win.rowMajor.symm n 2).val - 0 < 2048
        rw [w2]; omega]
    exact EReal.coe_zero.symm

/-- The sum of a row up to and including place `s`. -/
theorem window_prefix (w : Rows.ReduceWindows ![1, 1, 2048] ![1, 1, 1] ![0, 0, 2047] ![0, 0, 0] Rows)
    (x : Rows.Idx → EReal) (h : Fin 8) (t s : Fin 2048) (f : ℕ → ℝ)
    (hx : ∀ s : Fin 2048, x (ix3 h t s) = ((f s : ℝ) : EReal)) :
    Ideal.hostReduceWindowAdd ![1, 1, 2048] ![1, 1, 1] ![0, 0, 2047] ![0, 0, 0] w x 0 (ix3 h t s)
      = ((∑ n ∈ range (s.val + 1), f n : ℝ) : EReal) := by
  have hs := s.isLt
  unfold Ideal.hostReduceWindowAdd Host.reduceWindow
  rw [← sum_prefix f s.val hs]
  refine win_fold _ _ fun n => ?_
  have w0 : (Win.rowMajor.symm n 0).val = 0 := by rw [win_symm]; rfl
  have w1 : (Win.rowMajor.symm n 1).val = 0 := by rw [win_symm]; rfl
  have w2 : (Win.rowMajor.symm n 2).val = n.val := by rw [win_symm]; rfl
  have hn : n.val < 2048 := (n.cast win_numel).isLt
  split
  · next hin =>
    have h2 := hin 2
    change 2047 ≤ s.val * 1 + (Win.rowMajor.symm n 2).val ∧ s.val * 1 + (Win.rowMajor.symm n 2).val - 2047 < 2048 at h2
    rw [w2] at h2
    rw [if_pos (by omega)]
    refine (congrArg x (funext fun a => Fin.ext ?_)).trans (hx ⟨s.val + n.val - 2047, by omega⟩)
    match a with
    | ⟨0, _⟩ =>
      show h.val * 1 + (Win.rowMajor.symm n 0).val - 0 = h.val
      rw [w0]; omega
    | ⟨1, _⟩ =>
      show t.val * 1 + (Win.rowMajor.symm n 1).val - 0 = t.val
      rw [w1]; omega
    | ⟨2, _⟩ =>
      show s.val * 1 + (Win.rowMajor.symm n 2).val - 2047 = s.val + n.val - 2047
      rw [w2]; omega
  · next hin =>
    rw [if_neg fun hle => hin fun a => by
      match a with
      | ⟨0, _⟩ =>
        show 0 ≤ h.val * 1 + (Win.rowMajor.symm n 0).val ∧ h.val * 1 + (Win.rowMajor.symm n 0).val - 0 < 8
        rw [w0]; have := h.isLt; omega
      | ⟨1, _⟩ =>
        show 0 ≤ t.val * 1 + (Win.rowMajor.symm n 1).val ∧ t.val * 1 + (Win.rowMajor.symm n 1).val - 0 < 2048
        rw [w1]; have := t.isLt; omega
      | ⟨2, _⟩ =>
        show 2047 ≤ s.val * 1 + (Win.rowMajor.symm n 2).val ∧ s.val * 1 + (Win.rowMajor.symm n 2).val - 2047 < 2048
        rw [w2]; omega]
    exact EReal.coe_zero.symm

/-- The host's window sum of a row to its end. -/
theorem host_suffix (w : Rows.ReduceWindows ![1, 1, 2048] ![1, 1, 1] ![0, 0, 0] ![0, 0, 2047] Rows)
    (x : FVec Ideal Rows .f32) (init : (⟨0, ![]⟩ : Shape).Idx → Ideal .f32) (hu : 0 < (⟨0, ![]⟩ : Shape).numel)
    (h : Fin 8) (t s : Fin 2048) (f : ℕ → ℝ)
    (hi : ∀ i, init i = (0 : EReal)) (hx : ∀ s : Fin 2048, x (ix3 h t s) = ((f s : ℝ) : EReal)) :
    Host.reduceWindowAdd (F := Ideal) ![1, 1, 2048] ![1, 1, 1] ![0, 0, 0] ![0, 0, 2047] x init w hu (ix3 h t s)
      = ((∑ n ∈ range 2048, f n - ∑ n ∈ range s.val, f n : ℝ) : EReal) := by
  refine Eq.trans ?_ (window_suffix w x h t s f hx)
  unfold Host.reduceWindowAdd
  rw [Ideal.hostReduceWindowAdd_def, hi]

/-- The host's window sum of a row from its start. -/
theorem host_prefix (w : Rows.ReduceWindows ![1, 1, 2048] ![1, 1, 1] ![0, 0, 2047] ![0, 0, 0] Rows)
    (x : FVec Ideal Rows .f32) (init : (⟨0, ![]⟩ : Shape).Idx → Ideal .f32) (hu : 0 < (⟨0, ![]⟩ : Shape).numel)
    (h : Fin 8) (t s : Fin 2048) (f : ℕ → ℝ)
    (hi : ∀ i, init i = (0 : EReal)) (hx : ∀ s : Fin 2048, x (ix3 h t s) = ((f s : ℝ) : EReal)) :
    Host.reduceWindowAdd (F := Ideal) ![1, 1, 2048] ![1, 1, 1] ![0, 0, 2047] ![0, 0, 0] x init w hu (ix3 h t s)
      = ((∑ n ∈ range (s.val + 1), f n : ℝ) : EReal) := by
  refine Eq.trans ?_ (window_prefix w x h t s f hx)
  unfold Host.reduceWindowAdd
  rw [Ideal.hostReduceWindowAdd_def, hi]

/-! The softplus. -/

theorem sp_neg (x : ℝ) : sp (-x) = sp x - x := by
  unfold sp
  rw [abs_neg]
  rcases le_total 0 x with h | h
  · rw [max_eq_right (by linarith), max_eq_left h]; ring
  · rw [max_eq_left (by linarith), max_eq_right h]; ring

theorem exp_sp (x : ℝ) : Real.exp (sp x) = 1 + Real.exp x := by
  unfold sp
  rw [Real.exp_add, Real.exp_log (by positivity)]
  rcases le_total 0 x with h | h
  · rw [max_eq_left h, abs_of_nonneg h, mul_add, mul_one, ← Real.exp_add, add_neg_cancel, Real.exp_zero, add_comm]
  · rw [max_eq_right h, abs_of_nonpos h, neg_neg, Real.exp_zero, one_mul]

/-- The complement of the logistic function. -/
theorem exp_compl (x : ℝ) : Real.exp (-x - sp (-x)) = 1 - Real.exp (x - sp x) := by
  have e := exp_sp x
  have p : (0 : ℝ) < 1 + Real.exp x := by positivity
  rw [sp_neg, show -x - (sp x - x) = -sp x by ring, Real.exp_sub, Real.exp_neg, e]
  field_simp
  ring

/-- The stable softplus of a real number, as the reference writes it. -/
theorem softplus_real (x : ℝ) :
    max ((x : ℝ) : EReal) 0 + Ideal.log1p (Ideal.exp (-FloatOps.absf (F := Ideal) (φ := .f32) ((x : ℝ) : EReal)))
      = ((sp x : ℝ) : EReal) := by
  have a : FloatOps.absf (F := Ideal) (φ := .f32) ((x : ℝ) : EReal) = ((|x| : ℝ) : EReal) := by
    show max ((x : ℝ) : EReal) (-(x : EReal)) = _
    rw [← EReal.coe_neg, ← EReal.coe_strictMono.monotone.map_max]; rfl
  have p : ¬ 1 + Real.exp (-|x|) ≤ 0 := by have := Real.exp_pos (-|x|); linarith
  rw [a, ← EReal.coe_neg, Ideal.exp_coe, Ideal.log1p, ← EReal.coe_one, ← EReal.coe_add, Ideal.log_coe, if_neg p,
    ← EReal.coe_zero, ← EReal.coe_strictMono.monotone.map_max, ← EReal.coe_add]
  rfl

theorem inf_f32 : Ideal.ofBits .f32 0x7F800000#32 = (⊤ : EReal) := by
  simp [Ideal.ofBits, Ideal.ieee]

/-- The replacement of an infinite value leaves a finite one. -/
theorem keep_real (x : ℝ) (y : EReal) :
    (if ((x : ℝ) : EReal) = Ideal.ofBits .f32 0x7F800000#32 then y else ((x : ℝ) : EReal)) = ((x : ℝ) : EReal) := by
  rw [inf_f32, if_neg (EReal.coe_ne_top x)]

theorem eighth : Ideal.ofBits .f32 0x3E000000#32 = ((0.125 : ℝ) : EReal) := by
  simp [Ideal.ofBits, Ideal.ieee, -EReal.coe_mul]; norm_num

/-- The comparison of two places of a row as a number. -/
theorem select_place {α : Type} (x c : ℕ) (hx : x < 2048) (hc : c < 2048) (a b : α) :
    Scalar.select (IntOp.cmpi .slt (BitVec.ofNat 32 x) (BitVec.ofNat 32 c)) a b = if x < c then a else b := by
  rw [WordCmp.cmpi_slt_of_lt (by simp [BitVec.toNat_ofNat]; omega) (by simp [BitVec.toNat_ofNat]; omega)]
  simp only [BitVec.toNat_ofNat, Nat.mod_eq_of_lt (show x < 2 ^ 32 by omega), Nat.mod_eq_of_lt (show c < 2 ^ 32 by omega)]
  by_cases h : x < c <;> simp [h, Scalar.select]

/-- A sum over a head's columns, read at their numbers. -/
theorem sum_cols {n : ℕ} (F : Fin n → EReal) (f : ℕ → ℝ) (h : ∀ x, F x = ((f x.val : ℝ) : EReal)) :
    ∑ x, F x = ((∑ x ∈ range n, f x : ℝ) : EReal) := by
  rw [coe_sum, ← Fin.sum_univ_eq_sum_range (fun n => ((f n : ℝ) : EReal))]
  exact Finset.sum_congr rfl fun n _ => h n

variable (A : Arg)

/-- Nothing is masked out before the place of the row, everything from it on. -/
theorem pre_all (h t n : ℕ) (hn : t ≤ n) : pre A h t n = pre A h t t := by
  unfold pre
  refine (Finset.sum_subset (range_subset_range.mpr hn) fun s _ hs => ?_).symm
  rw [mem_range] at hs
  exact if_neg hs

theorem pre_succ (h t n : ℕ) : pre A h t (n + 1) = pre A h t n + msp A h t n := Finset.sum_range_succ _ _

theorem G_succ (h t n : ℕ) : G A h t (n + 1) = G A h t n + g A h t n := Finset.sum_range_succ _ _

end StickBreak
-- ==== Proof.Entries.lean ====
module
public import proofs.«01_k».proof.Defs
public import proofs.«01_k».proof.Proof.Window
@[expose] public section
set_option maxRecDepth 16384
noncomputable section

/-! The precondition read at an entry, and the real arrays the two arguments hold under it. -/

namespace StickBreak
open Idealize.ShloMosaic

/-- The side conditions the precondition's operations state. -/
theorem finite_facts : Cert.Pre_finite.Facts where
  bcast_S_S2048x1536 := by decide
  bcast_S_S2048x1024 := by decide
  concatenates_S2048x1536_S2048x1024_S2048x2560_d1 := by decide

/-- A value whose magnitude is below the infinity is a real number. -/
theorem real_of_lt {x : EReal}
    (h : BitVec.ofBool (decide (FloatOps.absf (F := Ideal) (φ := .f32) x < Ideal.ofBits .f32 0x7F800000#32)) = 1#1) :
    ((x.toReal : ℝ) : EReal) = x := by
  rw [inf_f32] at h
  have h' : max x (-x) < ⊤ := by
    by_contra hn
    have e : decide (FloatOps.absf (F := Ideal) (φ := .f32) x < (⊤ : EReal)) = false := decide_eq_false hn
    rw [e] at h
    exact absurd h (by decide)
  refine EReal.coe_toReal ?_ ?_
  · rintro rfl; simp at h'
  · rintro rfl; simp at h'

variable (x0 : FVec Ideal Cert.Pre_finite.S2048x1536 .f32) (x1 : FVec Ideal Cert.Pre_finite.S2048x1024 .f32)

theorem finite_left [Cert.Pre_finite.Facts] (h : Cert.Pre_finite.fn (F := Ideal) x0 x1 = fun _ => 1#1) (t : Fin 2048) (j : Fin 1536) :
    (((x0 (ix2 t j) : EReal).toReal : ℝ) : EReal) = x0 (ix2 t j) := by
  have e := congrFun h (ix2 t ⟨j.val, by omega⟩)
  unfold Cert.Pre_finite.fn at e
  pointwise at e
  exact real_of_lt e

theorem finite_right [Cert.Pre_finite.Facts] (h : Cert.Pre_finite.fn (F := Ideal) x0 x1 = fun _ => 1#1) (t : Fin 2048) (j : Fin 1024) :
    (((x1 (ix2 t j) : EReal).toReal : ℝ) : EReal) = x1 (ix2 t j) := by
  have e := congrFun h (ix2 t ⟨1536 + j.val, by omega⟩)
  unfold Cert.Pre_finite.fn at e
  pointwise at e
  exact real_of_lt e

/-- The four real arrays inside the two arguments. -/
def arg : Arg where
  q t j := if h : t < 2048 ∧ j < 512 then (x0 (ix2 ⟨t, h.1⟩ ⟨j, by omega⟩) : EReal).toReal else 0
  k t j := if h : t < 2048 ∧ j < 512 then (x0 (ix2 ⟨t, h.1⟩ ⟨512 + j, by omega⟩) : EReal).toReal else 0
  v t j := if h : t < 2048 ∧ j < 512 then (x0 (ix2 ⟨t, h.1⟩ ⟨1024 + j, by omega⟩) : EReal).toReal else 0
  d t j := if h : t < 2048 ∧ j < 512 then (x1 (ix2 ⟨t, h.1⟩ ⟨j, by omega⟩) : EReal).toReal else 0

variable [Cert.Pre_finite.Facts] (h : Cert.Pre_finite.fn (F := Ideal) x0 x1 = fun _ => 1#1)
include h

theorem arg_q (t : Fin 2048) (j : Fin 1536) (hj : j.val < 512) : x0 (ix2 t j) = (((arg x0 x1).q t j : ℝ) : EReal) := by
  unfold arg
  dsimp only
  rw [dif_pos ⟨t.isLt, hj⟩]
  exact (finite_left x0 x1 h t j).symm

theorem arg_k (t : Fin 2048) (j : Fin 1536) (hl : 512 ≤ j.val) (hj : j.val < 1024) :
    x0 (ix2 t j) = (((arg x0 x1).k t (j.val - 512) : ℝ) : EReal) := by
  have e : (⟨512 + (j.val - 512), by omega⟩ : Fin 1536) = j := Fin.ext (by show 512 + (j.val - 512) = j.val; omega)
  unfold arg
  dsimp only
  rw [dif_pos ⟨t.isLt, by omega⟩]
  exact (finite_left x0 x1 h t j).symm.trans (congrArg (fun i => (((x0 (ix2 t i) : EReal).toReal : ℝ) : EReal)) e.symm)

theorem arg_v (t : Fin 2048) (j : Fin 1536) (hl : 1024 ≤ j.val) :
    x0 (ix2 t j) = (((arg x0 x1).v t (j.val - 1024) : ℝ) : EReal) := by
  have e : (⟨1024 + (j.val - 1024), by omega⟩ : Fin 1536) = j := Fin.ext (by show 1024 + (j.val - 1024) = j.val; omega)
  unfold arg
  dsimp only
  rw [dif_pos ⟨t.isLt, by omega⟩]
  exact (finite_left x0 x1 h t j).symm.trans (congrArg (fun i => (((x0 (ix2 t i) : EReal).toReal : ℝ) : EReal)) e.symm)

theorem arg_d (t : Fin 2048) (j : Fin 1024) (hj : j.val < 512) : x1 (ix2 t j) = (((arg x0 x1).d t j : ℝ) : EReal) := by
  unfold arg
  dsimp only
  rw [dif_pos ⟨t.isLt, hj⟩]
  exact (finite_right x0 x1 h t j).symm

end StickBreak
-- ==== Proof.Block.lean ====
module
public import proofs.«01_k».proof.Proof.Gen.KernelIdeal.Skeleton
public import proofs.«01_k».proof.Proof.Spec
public import Idealize.ShloMosaic.PureOps.Ideal
public import Idealize.ShloMosaic.Lib.Pointwise
public import Idealize.ShloMosaic.Lib.WordCmp
@[expose] public section
set_option maxRecDepth 16384
noncomputable section

/-! One block of the attention's backward pass for one pair of heads, as functions of the arrays the
block loads, each read at an index over the reals. -/

namespace Cert.KernelIdeal.Hand
open Cert.KernelIdeal Cert.KernelIdeal.Gen Idealize.ShloMosaic Idealize.ShloMosaic.TcCoe
open StickBreak (sp Arg z msp pre dw qh dh dqn dkn dvn)

/-- The absolute value of a real number. -/
theorem absf_real (x : ℝ) : FloatOps.absf (F := Ideal) (φ := .f32) ((x : ℝ) : EReal) = ((|x| : ℝ) : EReal) := by
  show max ((x : ℝ) : EReal) (-((x : ℝ) : EReal)) = _
  rw [← EReal.coe_neg, ← EReal.coe_strictMono.monotone.map_max]; rfl

/-- The stable softplus of a real number. -/
theorem sp_real (x : ℝ) :
    max ((x : ℝ) : EReal) 0 + Ideal.log (1 + Ideal.exp (0 - FloatOps.absf (F := Ideal) (φ := .f32) ((x : ℝ) : EReal)))
      = ((sp x : ℝ) : EReal) := by
  have hp : (0 : ℝ) < 1 + Real.exp (-|x|) := by positivity
  rw [absf_real, zero_sub, ← EReal.coe_neg, Ideal.exp_coe, ← EReal.coe_one, ← EReal.coe_add, Ideal.log_coe, if_neg (not_le.mpr hp),
    ← EReal.coe_zero, ← EReal.coe_strictMono.monotone.map_max, ← EReal.coe_add]; rfl

/-- The lower comparison of two small numbers as a number. -/
theorem mask_le (x c : ℕ) (hx : x < 512) (hc : c < 512) :
    FloatOps.sitofp (F := Ideal) .f32 (BitVec.setWidth 32 (IntOp.cmpi .sle (BitVec.ofNat 32 x) (BitVec.ofNat 32 c)))
      = ((if x ≤ c then 1 else 0 : ℝ) : EReal) := by
  rw [WordCmp.cmpi_sle_of_lt (by simp [BitVec.toNat_ofNat]; omega) (by simp [BitVec.toNat_ofNat]; omega)]
  simp only [BitVec.toNat_ofNat, Nat.mod_eq_of_lt (show x < 2 ^ 32 by omega), Nat.mod_eq_of_lt (show c < 2 ^ 32 by omega)]
  show (((BitVec.setWidth 32 (BitVec.ofBool (decide (x ≤ c)))).toInt : ℝ) : EReal) = _
  by_cases h : x ≤ c <;> simp [h]

/-- The strict comparison of two small numbers as a number. -/
theorem mask_lt (x c : ℕ) (hx : x < 512) (hc : c < 512) :
    FloatOps.sitofp (F := Ideal) .f32 (BitVec.setWidth 32 (IntOp.cmpi .slt (BitVec.ofNat 32 x) (BitVec.ofNat 32 c)))
      = ((if x < c then 1 else 0 : ℝ) : EReal) := by
  rw [WordCmp.cmpi_slt_of_lt (by simp [BitVec.toNat_ofNat]; omega) (by simp [BitVec.toNat_ofNat]; omega)]
  simp only [BitVec.toNat_ofNat, Nat.mod_eq_of_lt (show x < 2 ^ 32 by omega), Nat.mod_eq_of_lt (show c < 2 ^ 32 by omega)]
  show (((BitVec.setWidth 32 (BitVec.ofBool (decide (x < c)))).toInt : ℝ) : EReal) = _
  by_cases h : x < c <;> simp [h]

theorem mask_le' (x c : Fin 256) :
    FloatOps.sitofp (F := Ideal) .f32 (BitVec.setWidth 32 (IntOp.cmpi .sle (BitVec.ofNat 32 x.val) (BitVec.ofNat 32 c.val)))
      = ((if x.val ≤ c.val then 1 else 0 : ℝ) : EReal) := mask_le x c (by omega) (by omega)

theorem mask_lt' (x c : Fin 256) :
    FloatOps.sitofp (F := Ideal) .f32 (BitVec.setWidth 32 (IntOp.cmpi .slt (BitVec.ofNat 32 x.val) (BitVec.ofNat 32 c.val)))
      = ((if x.val < c.val then 1 else 0 : ℝ) : EReal) := mask_lt x c (by omega) (by omega)

/-- A select by a strict comparison of two small numbers. -/
theorem select_lt {α : Type} (x c : ℕ) (hx : x < 512) (hc : c < 512) (a b : α) :
    Scalar.select (IntOp.cmpi .slt (BitVec.ofNat 32 x) (BitVec.ofNat 32 c)) a b = if x < c then a else b := by
  rw [WordCmp.cmpi_slt_of_lt (by simp [BitVec.toNat_ofNat]; omega) (by simp [BitVec.toNat_ofNat]; omega)]
  simp only [BitVec.toNat_ofNat, Nat.mod_eq_of_lt (show x < 2 ^ 32 by omega), Nat.mod_eq_of_lt (show c < 2 ^ 32 by omega)]
  by_cases h : x < c <;> simp [h, Scalar.select]

theorem eighth_bf16 : Ideal.ofBits .bf16 0x3E00#16 = ((0.125 : ℝ) : EReal) := by
  simp [Ideal.ofBits, Ideal.ieee, -EReal.coe_mul]; norm_num

theorem eighth_f32 : Ideal.ofBits .f32 0x3E000000#32 = ((0.125 : ℝ) : EReal) := by
  simp [Ideal.ofBits, Ideal.ieee, -EReal.coe_mul]; norm_num

/-- The causal mask of the diagonal block, at an index. -/
theorem causal_at (r : Fin 512) (c : Fin 256) :
    k0_pay150 (ix2 r c) = BitVec.ofBool (decide (c.val < r.val % 256)) := by
  pointwise [k0_pay150]
  have hr := r.isLt
  have hc := c.isLt
  rw [WordCmp.cmpi_sge_of_lt (by simp [BitVec.toNat_ofNat]; omega) (by decide)]
  simp only [BitVec.toNat_ofNat, Nat.mod_eq_of_lt (show r.val < 2 ^ 32 by omega)]
  by_cases h : 256 ≤ r.val
  · have e : IntOp.subi (BitVec.ofNat 32 r.val) 256#32 = BitVec.ofNat 32 (r.val % 256) := by
      apply BitVec.eq_of_toNat_eq
      show (BitVec.ofNat 32 r.val - 256#32).toNat = _
      simp [BitVec.toNat_sub, BitVec.toNat_ofNat]; omega
    rw [show (256 % 2 ^ 32 : ℕ) = 256 from rfl, decide_eq_true h]
    show IntOp.cmpi .slt _ (IntOp.subi (BitVec.ofNat 32 r.val) 256#32) = _
    rw [e, WordCmp.cmpi_slt_of_lt (by simp [BitVec.toNat_ofNat]; omega) (by simp [BitVec.toNat_ofNat]; omega)]
    simp only [BitVec.toNat_ofNat, Nat.mod_eq_of_lt (show r.val % 256 < 2 ^ 32 by omega), Nat.mod_eq_of_lt (show c.val < 2 ^ 32 by omega)]
  · rw [show (256 % 2 ^ 32 : ℕ) = 256 from rfl, decide_eq_false h]
    show IntOp.cmpi .slt _ (BitVec.ofNat 32 r.val) = _
    rw [WordCmp.cmpi_slt_of_lt (by simp [BitVec.toNat_ofNat]; omega) (by simp [BitVec.toNat_ofNat]; omega)]
    simp only [BitVec.toNat_ofNat, Nat.mod_eq_of_lt (show r.val < 2 ^ 32 by omega), Nat.mod_eq_of_lt (show c.val < 2 ^ 32 by omega),
      Nat.mod_eq_of_lt (show r.val < 256 by omega)]

/-- A select by the causal mask. -/
theorem select_causal {α : Type} (r : Fin 512) (c : Fin 256) (a b : α) :
    Scalar.select (k0_pay150 (ix2 r c)) a b = if c.val < r.val % 256 then a else b := by
  rw [causal_at]
  by_cases h : c.val < r.val % 256 <;> simp [h, Scalar.select]

section stages
variable (A : Arg) (i kb pp : ℕ)

/-- The stacked query rows of a pair of heads at grid point `i`. -/
abbrev IsQ (q : Vec Ideal S1x512x128 .bf16) : Prop := ∀ (r : Fin 512) (x : Fin 128), q (ix3 0 r x) = ((qh A i pp r x : ℝ) : EReal)
/-- The stacked rows of the output's gradient. -/
abbrev IsD (d : Vec Ideal S1x512x128 .bf16) : Prop := ∀ (r : Fin 512) (x : Fin 128), d (ix3 0 r x) = ((dh A i pp r x : ℝ) : EReal)
/-- Key block `kb` in the pair's columns. -/
abbrev IsK (k : Vec Ideal S256x128 .bf16) : Prop := ∀ (a : Fin 256) (x : Fin 128), k (ix2 a x) = ((A.k (256 * kb + a) (128 * pp + x) : ℝ) : EReal)
/-- Value block `kb` in the pair's columns. -/
abbrev IsV (v : Vec Ideal S256x128 .bf16) : Prop := ∀ (a : Fin 256) (x : Fin 128), v (ix2 a x) = ((A.v (256 * kb + a) (128 * pp + x) : ℝ) : EReal)
/-- A real function of head, query and key over the block's rows and columns. -/
abbrev IsRC {φ : FTy} (f : ℕ → ℕ → ℕ → ℝ) (X : FVec Ideal S512x256 φ) : Prop :=
  ∀ (r : Fin 512) (c : Fin 256), X (ix2 r c) = ((f (2 * pp + r / 256) (256 * i + r % 256) (256 * kb + c) : ℝ) : EReal)
/-- A real function of head and query over the block's rows, the same in every column. -/
abbrev IsRow (f : ℕ → ℕ → ℝ) (X : Vec Ideal S1x512x256 .f32) : Prop :=
  ∀ (r : Fin 512) (c : Fin 256), X (ix3 0 r c) = ((f (2 * pp + r / 256) (256 * i + r % 256) : ℝ) : EReal)

/-- The remaining sum of softplus before block `kb`. -/
def rem (kb h t : ℕ) : ℝ := pre A h t t - pre A h t (256 * kb)

variable {A i kb pp}

theorem z_at {q : Vec Ideal S1x512x128 .bf16} {k : Vec Ideal S256x128 .bf16} (hq : IsQ A i pp q) (hk : IsK A kb pp k) :
    IsRC i kb pp (z A) (k0_pay3 (F := Ideal) q k) := by
  intro r c
  pointwise [k0_pay3]
  simp only [hq _ _, hk _ _, ← EReal.coe_mul, ← StickBreak.coe_sum]
  rw [StickBreak.sum_qh A i pp r _ r.isLt]

theorem dw_at {d : Vec Ideal S1x512x128 .bf16} {v : Vec Ideal S256x128 .bf16} (hd : IsD A i pp d) (hv : IsV A kb pp v) :
    IsRC i kb pp (dw A) (k0_pay7 (F := Ideal) d v) := by
  intro r c
  pointwise [k0_pay7]
  simp only [hd _ _, hv _ _, ← EReal.coe_mul, ← StickBreak.coe_sum]
  rw [StickBreak.sum_dh A i pp r _ r.isLt]

theorem sp_at {Z : FVec Ideal S512x256 .f32} {r : Fin 512} {c : Fin 256} {x : ℝ} (h : Z (ix2 r c) = (x : EReal)) :
    k0_pay11 (F := Ideal) Z (ix2 r c) = ((sp x : ℝ) : EReal) := by
  pointwise [k0_pay11]
  rw [h]
  exact sp_real x

theorem a_at {Z : FVec Ideal S512x256 .f32} (hZ : IsRC i kb pp (z A) Z) :
    IsRC i kb pp (fun h t s => z A h t s - sp (z A h t s)) (k0_pay12 (F := Ideal) Z) := by
  intro r c
  pointwise [k0_pay12]
  rw [sp_at (hZ r c), hZ r c, EReal.coe_sub]

theorem sum_mask (f : ℕ → ℝ) (c : Fin 256) :
    ∑ x : Fin 256, ((f x.val : ℝ) : EReal) * ((if x.val ≤ c.val then 1 else 0 : ℝ) : EReal)
      + ∑ x : Fin 256, (((f x.val : ℝ) : EReal) - ((f x.val : ℝ) : EReal)) * ((if x.val ≤ c.val then 1 else 0 : ℝ) : EReal)
      = ((∑ x ∈ Finset.range (c.val + 1), f x : ℝ) : EReal) := by
  simp only [← EReal.coe_sub, ← EReal.coe_mul, ← StickBreak.coe_sum, sub_self, zero_mul, Finset.sum_const_zero, EReal.coe_zero, add_zero]
  rw [StickBreak.sum_le]

/-- The running softplus sum of a block below the diagonal. -/
theorem p_at {Z : FVec Ideal S512x256 .f32} (hZ : IsRC i kb pp (z A) Z) (hk : kb < i) :
    IsRC i kb pp (fun h t s => pre A h t (s + 1) - pre A h t (256 * kb)) (k0_pay13 (F := Ideal) k0_pay151 Z) := by
  intro r c
  pointwise [k0_pay13, k0_pay151]
  have hs : ∀ x : Fin 256, k0_pay11 (F := Ideal) Z (ix2 r x)
      = ((msp A (2 * pp + r.val / 256) (256 * i + r.val % 256) (256 * kb + x.val) : ℝ) : EReal) := fun x => by
    rw [sp_at (hZ r x), msp, if_pos (by have := x.isLt; omega)]
  simp only [hs, mask_le' _ _]
  rw [sum_mask (fun x => msp A (2 * pp + r.val / 256) (256 * i + r.val % 256) (256 * kb + x)), StickBreak.pre_block]
  rfl

/-- The running softplus sum of the diagonal block. -/
theorem pD_at {Z : FVec Ideal S512x256 .f32} (hZ : IsRC i kb pp (z A) Z) (hk : kb = i) :
    IsRC i kb pp (fun h t s => pre A h t (s + 1) - pre A h t (256 * kb)) (k0_pay209 (F := Ideal) k0_pay150 k0_pay151 Z) := by
  intro r c
  pointwise [k0_pay209, k0_pay151]
  have hs : ∀ x : Fin 256, (if x.val < r.val % 256 then k0_pay207 (F := Ideal) Z (ix2 r x) else 0)
      = ((msp A (2 * pp + r.val / 256) (256 * i + r.val % 256) (256 * kb + x.val) : ℝ) : EReal) := fun x => by
    rw [show k0_pay207 (F := Ideal) Z (ix2 r x) = _ from sp_at (hZ r x), msp]
    subst hk
    by_cases h : x.val < r.val % 256
    · rw [if_pos h, if_pos (by omega)]
    · rw [if_neg h, if_neg (by omega), EReal.coe_zero]
  have hm : ∀ (x : Fin 256) (y : EReal), (if x.val < r.val % 256 then k0_pay207 (F := Ideal) Z (ix2 r x) * y else 0)
      = ((msp A (2 * pp + r.val / 256) (256 * i + r.val % 256) (256 * kb + x.val) : ℝ) : EReal) * y := fun x y => by
    rw [← hs x, ite_mul, zero_mul]
  simp only [select_causal, hs, hm, mask_le' _ _]
  rw [sum_mask (fun x => msp A (2 * pp + r.val / 256) (256 * i + r.val % 256) (256 * kb + x)), StickBreak.pre_block]
  rfl

/-- The attention weights of a block below the diagonal. -/
theorem w_at {a p : FVec Ideal S512x256 .f32} {pc : Vec Ideal S1x512x256 .f32}
    (ha : IsRC i kb pp (fun h t s => z A h t s - sp (z A h t s)) a)
    (hp : IsRC i kb pp (fun h t s => pre A h t (s + 1) - pre A h t (256 * kb)) p)
    (hc : IsRow i pp (rem A kb) pc) (hk : kb < i) :
    IsRC i kb pp (StickBreak.w A) (k0_pay28 (F := Ideal) a p pc) := by
  intro r c
  pointwise [k0_pay28, k0_pay27]
  rw [ha r c, hp r c, hc r c, ← EReal.coe_sub, ← EReal.coe_add, Ideal.exp_coe, StickBreak.w, if_pos (by have := c.isLt; omega), rem]
  congr 2; ring

/-- The attention weights of the diagonal block. -/
theorem wD_at {a p : FVec Ideal S512x256 .f32} {pc : Vec Ideal S1x512x256 .f32}
    (ha : IsRC i kb pp (fun h t s => z A h t s - sp (z A h t s)) a)
    (hp : IsRC i kb pp (fun h t s => pre A h t (s + 1) - pre A h t (256 * kb)) p)
    (hc : IsRow i pp (rem A kb) pc) (hk : kb = i) :
    IsRC i kb pp (StickBreak.w A) (k0_pay223 (F := Ideal) k0_pay150 a p (k0_pay222 pc)) := by
  intro r c
  pointwise [k0_pay223, k0_pay222]
  rw [select_causal, ha r c, hp r c, hc r c, ← EReal.coe_sub, ← EReal.coe_add, Ideal.exp_coe, StickBreak.w]
  by_cases h : c.val < r.val % 256
  · rw [if_pos h, if_pos (by omega), rem]
    congr 2; ring
  · rw [if_neg h, if_neg (by omega), EReal.coe_zero]

/-- The weight times its gradient. -/
theorem g_at {W D : FVec Ideal S512x256 .f32} (hW : IsRC i kb pp (StickBreak.w A) W) (hD : IsRC i kb pp (dw A) D) :
    IsRC i kb pp (StickBreak.g A) (mulf D W) := by
  intro r c
  show D (ix2 r c) * W (ix2 r c) = _
  rw [hD r c, hW r c, ← EReal.coe_mul]; rfl

/-- The sum of `g` over the block's earlier keys. -/
theorem s_at {g : FVec Ideal S512x256 .f32} (hg : IsRC i kb pp (StickBreak.g A) g) :
    IsRC i kb pp (fun h t s => StickBreak.G A h t s - StickBreak.G A h t (256 * kb)) (k0_pay238 (F := Ideal) k0_pay152 (constant _ .f32 0x3F800000#32) g) := by
  intro r c
  pointwise [k0_pay238, k0_pay236, k0_pay152]
  simp only [hg _ _, one_mul, mask_lt' _ _,
    ← EReal.coe_mul, ← StickBreak.coe_sum]
  rw [StickBreak.sum_lt c (fun x => StickBreak.g A (2 * pp + r.val / 256) (256 * i + r.val % 256) (256 * kb + x)), StickBreak.G_block]

/-- The gradient of the logits in a block below the diagonal. -/
theorem dz_at {a g s : FVec Ideal S512x256 .f32} {gc : Vec Ideal S1x512x256 .f32}
    (ha : IsRC i kb pp (fun h t s => z A h t s - sp (z A h t s)) a) (hg : IsRC i kb pp (StickBreak.g A) g)
    (hs : IsRC i kb pp (fun h t s => StickBreak.G A h t s - StickBreak.G A h t (256 * kb)) s)
    (hc : IsRow i pp (fun h t => StickBreak.G A h t (256 * kb)) gc) (hk : kb < i) :
    IsRC i kb pp (StickBreak.dz A) (k0_pay52 (F := Ideal) a g s gc) := by
  intro r c
  pointwise [k0_pay52, k0_pay51]
  rw [ha r c, hg r c, hc r c, hs r c, StickBreak.dz, if_pos (by have := c.isLt; omega), Ideal.exp_coe]
  simp only [← EReal.coe_sub, ← EReal.coe_add, ← EReal.coe_mul]
  congr 4; ring

/-- The gradient of the logits in the diagonal block. -/
theorem dzD_at {a g s : FVec Ideal S512x256 .f32} {gc : Vec Ideal S1x512x256 .f32}
    (ha : IsRC i kb pp (fun h t s => z A h t s - sp (z A h t s)) a) (hg : IsRC i kb pp (StickBreak.g A) g)
    (hs : IsRC i kb pp (fun h t s => StickBreak.G A h t s - StickBreak.G A h t (256 * kb)) s)
    (hc : IsRow i pp (fun h t => StickBreak.G A h t (256 * kb)) gc) (hk : kb = i) :
    IsRC i kb pp (StickBreak.dz A) (k0_pay247 (F := Ideal) k0_pay150 a g s gc) := by
  intro r c
  pointwise [k0_pay247, k0_pay246]
  rw [select_causal, ha r c, hg r c, hc r c, hs r c, StickBreak.dz, Ideal.exp_coe]
  simp only [← EReal.coe_sub, ← EReal.coe_add, ← EReal.coe_mul]
  by_cases h : c.val < r.val % 256
  · rw [if_pos h, if_pos (by omega)]
    congr 4; ring
  · rw [if_neg h, if_neg (by omega), EReal.coe_zero]

/-- The remaining softplus sum after the block. -/
theorem pc_at {p : FVec Ideal S512x256 .f32} {pc : Vec Ideal S1x512x256 .f32}
    (hp : IsRC i kb pp (fun h t s => pre A h t (s + 1) - pre A h t (256 * kb)) p) (hc : IsRow i pp (rem A kb) pc) :
    IsRow i pp (rem A (kb + 1)) (k0_pay32 (F := Ideal) p pc) := by
  intro r c
  pointwise [k0_pay32, k0_pay27]
  rw [hc r c, show p (ix2 r 255) = _ from hp r 255, ← EReal.coe_sub]
  unfold rem
  congr 1
  show _ - _ - (pre A _ _ (256 * (kb + 1)) - _) = _
  ring

/-- The sum of `g` over all keys up to the block's end. -/
theorem gc_at {g s : FVec Ideal S512x256 .f32} {gc : Vec Ideal S1x512x256 .f32}
    (hg : IsRC i kb pp (StickBreak.g A) g)
    (hs : IsRC i kb pp (fun h t s => StickBreak.G A h t s - StickBreak.G A h t (256 * kb)) s)
    (hc : IsRow i pp (fun h t => StickBreak.G A h t (256 * kb)) gc) :
    IsRow i pp (fun h t => StickBreak.G A h t (256 * (kb + 1))) (k0_pay58 (F := Ideal) g (k0_pay51 s gc)) := by
  intro r c
  pointwise [k0_pay58, k0_pay51]
  rw [hc r 255, hs r 255, hg r 255, ← EReal.coe_add, ← EReal.coe_add]
  congr 1
  show _ + (_ - _) + StickBreak.g A _ _ (256 * kb + 255) = StickBreak.G A _ _ (256 * (kb + 1))
  rw [show 256 * (kb + 1) = 256 * kb + 255 + 1 by ring]
  unfold StickBreak.G
  rw [Finset.sum_range_succ]
  show _ + (StickBreak.G A _ _ (256 * kb + 255) - _) + _ = _
  unfold StickBreak.G
  ring

/-- The query's gradient after one more block of keys. -/
theorem dq_at {dz : FVec Ideal S512x256 .bf16} {dqa : Vec Ideal S256x128 .f32} {k : Vec Ideal S256x128 .bf16}
    (hdz : IsRC i kb pp (StickBreak.dz A) dz) (hk : IsK A kb pp k)
    (hq : ∀ (a : Fin 256) (c : Fin 128), dqa (ix2 a c) = ((dqn A (256 * kb) (256 * i + a) (128 * pp + c) : ℝ) : EReal))
    (a : Fin 256) (c : Fin 128) :
    k0_pay248 (F := Ideal) k0_pay149 dz dqa k (ix2 a c) = ((dqn A (256 * (kb + 1)) (256 * i + a) (128 * pp + c) : ℝ) : EReal) := by
  pointwise [k0_pay248, k0_pay149]
  have ha := a.isLt
  have e0 : ∀ x : Fin 256, dz (ix2 ⟨a.val, by omega⟩ x) = ((StickBreak.dz A (2 * pp) (256 * i + a.val) (256 * kb + x.val) : ℝ) : EReal) := fun x => by
    rw [hdz]; simp only [Nat.div_eq_of_lt ha, Nat.mod_eq_of_lt ha, Nat.add_zero]
  have e1 : ∀ x : Fin 256, dz (ix2 ⟨256 + a.val, by omega⟩ x) = ((StickBreak.dz A (2 * pp + 1) (256 * i + a.val) (256 * kb + x.val) : ℝ) : EReal) := fun x => by
    rw [hdz]; simp only [show (256 + a.val) / 256 = 1 by omega, show (256 + a.val) % 256 = a.val by omega]
  have z0 : (((0#32).toInt : ℝ) : EReal) = ((0 : ℝ) : EReal) := by simp
  simp only [e0, e1, hk _ _, select_lt c.val 64 (by have := c.isLt; omega) (by decide), z0, hq a c]
  rw [← StickBreak.dq_block A kb (256 * i + a.val) pp c.val c.isLt]
  simp only [EReal.coe_add, StickBreak.coe_sum, EReal.coe_mul, apply_ite (fun y : ℝ => (y : EReal))]

/-- The key's gradient after one more block of queries. -/
theorem dk_at {dz : FVec Ideal S512x256 .bf16} {dka : Vec Ideal S256x128 .f32} {q : Vec Ideal S1x512x128 .bf16}
    (hdz : IsRC i kb pp (StickBreak.dz A) dz) (hq : IsQ A i pp q)
    (hk : ∀ (b : Fin 256) (c : Fin 128), dka (ix2 b c) = ((dkn A (256 * i) (256 * kb + b) (128 * pp + c) : ℝ) : EReal))
    (b : Fin 256) (c : Fin 128) :
    k0_pay249 (F := Ideal) dz dka q (ix2 b c) = ((dkn A (256 * (i + 1)) (256 * kb + b) (128 * pp + c) : ℝ) : EReal) := by
  pointwise [k0_pay249]
  simp only [hdz _ _, hq _ _, hk _ _]
  rw [← StickBreak.dk_block A i pp _ c.val c.isLt]
  simp only [EReal.coe_add, StickBreak.coe_sum, EReal.coe_mul]

/-- The value's gradient after one more block of queries. -/
theorem dv_at {w : FVec Ideal S512x256 .bf16} {dva : Vec Ideal S256x128 .f32} {d : Vec Ideal S1x512x128 .bf16}
    (hw : IsRC i kb pp (StickBreak.w A) w) (hd : IsD A i pp d)
    (hv : ∀ (b : Fin 256) (c : Fin 128), dva (ix2 b c) = ((dvn A (256 * i) (256 * kb + b) (128 * pp + c) : ℝ) : EReal))
    (b : Fin 256) (c : Fin 128) :
    k0_pay257 (F := Ideal) w dva d (ix2 b c) = ((dvn A (256 * (i + 1)) (256 * kb + b) (128 * pp + c) : ℝ) : EReal) := by
  pointwise [k0_pay257]
  simp only [hw _ _, hd _ _, hv _ _]
  rw [← StickBreak.dv_block A i pp _ c.val c.isLt]
  simp only [EReal.coe_add, StickBreak.coe_sum, EReal.coe_mul]

end stages
end Cert.KernelIdeal.Hand
end
end
-- ==== Proof.Trip.lean ====
module
public import proofs.«01_k».proof.Proof.Gen.KernelIdeal.Value
public import proofs.«01_k».proof.Proof.Block
public import Idealize.ShloMosaic.Lib.WritesUnit
@[expose] public section
set_option maxRecDepth 16384
noncomputable section

/-! One trip of the kernel's loop over earlier key blocks: the pieces it writes as functions of the
tiles it loads, and what they are over the reals. -/

namespace Cert.KernelIdeal.Hand
open Cert.KernelIdeal Cert.KernelIdeal.Gen Idealize.ShloMosaic Idealize.ShloMosaic.TcCoe
open StickBreak (sp Arg z msp pre dw qh dh dqn dkn dvn)

section plain
variable (q : Vec Ideal S1x512x128 .bf16) (k : Vec Ideal S256x128 .bf16) (d : Vec Ideal S1x512x128 .bf16)
  (v : Vec Ideal S256x128 .bf16) (pc gc : Vec Ideal S1x512x256 .f32)
/-- The logits less their softplus. -/
def aN : FVec Ideal S512x256 .f32 := k0_pay12 (k0_pay3 q k)
/-- The running softplus sums of a block below the diagonal. -/
def pN : FVec Ideal S512x256 .f32 := k0_pay13 k0_pay151 (k0_pay3 q k)
/-- The weights times their gradients. -/
def gN : FVec Ideal S512x256 .f32 := k0_pay29 (k0_pay7 d v) (aN q k) (pN q k) pc
/-- The sums of those over the block's earlier keys. -/
def sN : FVec Ideal S512x256 .f32 := k0_pay31 k0_pay152 (k0_pay7 d v) (aN q k) (pN q k) pc
/-- The gradients of the logits. -/
def dzN : FVec Ideal S512x256 .bf16 := k0_pay52 (aN q k) (gN q k d v pc) (sN q k d v pc) gc
/-- The query gradients' tile after the block. -/
def dqN (dqa : Vec Ideal S256x128 .f32) : Vec Ideal S256x128 .f32 := k0_pay248 k0_pay149 (dzN q k d v pc gc) dqa k
/-- The key gradients' tile after the block. -/
def dkN (dka : Vec Ideal S256x128 .f32) : Vec Ideal S256x128 .f32 := k0_pay249 (dzN q k d v pc gc) dka q
/-- The value gradients' tile after the block. -/
def dvN (dva : Vec Ideal S256x128 .f32) : Vec Ideal S256x128 .f32 := k0_pay257 (k0_pay30 (aN q k) (pN q k) pc) dva d
/-- The remaining softplus sums after the block. -/
def pcN : Vec Ideal S1x512x256 .f32 := k0_pay32 (pN q k) pc
/-- The sums of the weights' gradients after the block. -/
def gcN : Vec Ideal S1x512x256 .f32 := k0_pay58 (gN q k d v pc) (k0_pay51 (sN q k d v pc) gc)
end plain

section loads
/-- A tile of a tall array. -/
abbrev ldT {e : EltTy} (a : Memref sig .tc .vmem S2048x512 e) (o : Fin 2 → ℕ) (h : ∀ x, o x + S256x128.size x ≤ S2048x512.size x)
    (X : BufTy.Contents (Elt Ideal) a.view.ty) : Vec Ideal S256x128 e :=
  View.readAt (Elt Ideal) a.view (Rect.unit (s := S2048x512) o S256x128.size h).toLoadRect X
theorem inbC (p : Fin 4) : ∀ x, (![0, 128 * p.val] : Fin 2 → ℕ) x + S256x128.size x ≤ S256x512.size x := by
  revert p; decide
/-- A pair's columns of a block row. -/
abbrev ldC {e : EltTy} (a : Memref sig .tc .vmem S256x512 e) (p : Fin 4)
    (X : BufTy.Contents (Elt Ideal) a.view.ty) : Vec Ideal S256x128 e :=
  View.readAt (Elt Ideal) a.view (Rect.unit (s := S256x512) ![0, 128 * p.val] S256x128.size (inbC p)).toLoadRect X
theorem inbS128 (p : Fin 4) : ∀ x, (![p.val, 0, 0] : Fin 3 → ℕ) x + S1x512x128.size x ≤ S4x512x128.size x := by
  revert p; decide
/-- A pair's slab of 128 columns. -/
abbrev ldS128 {e : EltTy} (a : Memref sig .tc .vmem S4x512x128 e) (p : Fin 4)
    (X : BufTy.Contents (Elt Ideal) a.view.ty) : Vec Ideal S1x512x128 e :=
  View.readAt (Elt Ideal) a.view (Rect.unit (s := S4x512x128) ![p.val, 0, 0] S1x512x128.size (inbS128 p)).toLoadRect X
theorem inbS256 (p : Fin 4) : ∀ x, (![p.val, 0, 0] : Fin 3 → ℕ) x + S1x512x256.size x ≤ S4x512x256.size x := by
  revert p; decide
/-- A pair's slab of 256 columns. -/
abbrev ldS256 {e : EltTy} (a : Memref sig .tc .vmem S4x512x256 e) (p : Fin 4)
    (X : BufTy.Contents (Elt Ideal) a.view.ty) : Vec Ideal S1x512x256 e :=
  View.readAt (Elt Ideal) a.view (Rect.unit (s := S4x512x256) ![p.val, 0, 0] S1x512x256.size (inbS256 p)).toLoadRect X
end loads

section trip
variable (𝒱 : Variants) (c : Dev nD) (bd : Option 𝒱.V) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole) (a9 : Memref sig .tc .vmem S2048x512 .f32) (b9 : a9.IsWhole) (a10 : Memref sig .tc .vmem S2048x512 .f32) (b10 : a10.IsWhole) (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole) (a0 : BitVec 32)
variable (X2 : BufTy.Contents (Elt Ideal) a2.view.ty) (X3 : BufTy.Contents (Elt Ideal) a3.view.ty) (X14 : BufTy.Contents (Elt Ideal) a14.view.ty) (X15 : BufTy.Contents (Elt Ideal) a15.view.ty) (k : Fin (k0_t1_loop i).trips)
variable (f9 : BufTy.Contents (Elt Ideal) a9.view.ty) (f10 : BufTy.Contents (Elt Ideal) a10.view.ty) (f11 : BufTy.Contents (Elt Ideal) a11.view.ty) (f12 : BufTy.Contents (Elt Ideal) a12.view.ty) (f13 : BufTy.Contents (Elt Ideal) a13.view.ty)

/-- The pieces a trip writes into the key gradients. -/
theorem trip_eq9 : (trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).1 f9 f10 f11 f12 f13
    = [⟨Rect.unit (k0_off4 i k) S256x128.size (k0_off4_inb i k), dkN (ldS128 a14 3 X14) (ldT a2 (k0_off4 i k) (k0_off4_inb i k) X2) (ldS128 a15 3 X15) (ldT a3 (k0_off4 i k) (k0_off4_inb i k) X3) (ldS256 a12 3 f12) (ldS256 a13 3 f13) (ldT a9 (k0_off4 i k) (k0_off4_inb i k) f9)⟩,
      ⟨Rect.unit (k0_off3 i k) S256x128.size (k0_off3_inb i k), dkN (ldS128 a14 2 X14) (ldT a2 (k0_off3 i k) (k0_off3_inb i k) X2) (ldS128 a15 2 X15) (ldT a3 (k0_off3 i k) (k0_off3_inb i k) X3) (ldS256 a12 2 f12) (ldS256 a13 2 f13) (ldT a9 (k0_off3 i k) (k0_off3_inb i k) f9)⟩,
      ⟨Rect.unit (k0_off2 i k) S256x128.size (k0_off2_inb i k), dkN (ldS128 a14 1 X14) (ldT a2 (k0_off2 i k) (k0_off2_inb i k) X2) (ldS128 a15 1 X15) (ldT a3 (k0_off2 i k) (k0_off2_inb i k) X3) (ldS256 a12 1 f12) (ldS256 a13 1 f13) (ldT a9 (k0_off2 i k) (k0_off2_inb i k) f9)⟩,
      ⟨Rect.unit (k0_off1 i k) S256x128.size (k0_off1_inb i k), dkN (ldS128 a14 0 X14) (ldT a2 (k0_off1 i k) (k0_off1_inb i k) X2) (ldS128 a15 0 X15) (ldT a3 (k0_off1 i k) (k0_off1_inb i k) X3) (ldS256 a12 0 f12) (ldS256 a13 0 f13) (ldT a9 (k0_off1 i k) (k0_off1_inb i k) f9)⟩] := by
  unfold trip_k0_t1
  dsimp only
  rfl

/-- The pieces a trip writes into the value gradients. -/
theorem trip_eq10 : (trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.1 f9 f10 f11 f12 f13
    = [⟨Rect.unit (k0_off4 i k) S256x128.size (k0_off4_inb i k), dvN (ldS128 a14 3 X14) (ldT a2 (k0_off4 i k) (k0_off4_inb i k) X2) (ldS128 a15 3 X15) (ldS256 a12 3 f12) (ldT a10 (k0_off4 i k) (k0_off4_inb i k) f10)⟩,
      ⟨Rect.unit (k0_off3 i k) S256x128.size (k0_off3_inb i k), dvN (ldS128 a14 2 X14) (ldT a2 (k0_off3 i k) (k0_off3_inb i k) X2) (ldS128 a15 2 X15) (ldS256 a12 2 f12) (ldT a10 (k0_off3 i k) (k0_off3_inb i k) f10)⟩,
      ⟨Rect.unit (k0_off2 i k) S256x128.size (k0_off2_inb i k), dvN (ldS128 a14 1 X14) (ldT a2 (k0_off2 i k) (k0_off2_inb i k) X2) (ldS128 a15 1 X15) (ldS256 a12 1 f12) (ldT a10 (k0_off2 i k) (k0_off2_inb i k) f10)⟩,
      ⟨Rect.unit (k0_off1 i k) S256x128.size (k0_off1_inb i k), dvN (ldS128 a14 0 X14) (ldT a2 (k0_off1 i k) (k0_off1_inb i k) X2) (ldS128 a15 0 X15) (ldS256 a12 0 f12) (ldT a10 (k0_off1 i k) (k0_off1_inb i k) f10)⟩] := by
  unfold trip_k0_t1
  dsimp only
  rfl

/-- The pieces a trip writes into the query gradients. -/
theorem trip_eq11 : (trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.2.1 f9 f10 f11 f12 f13
    = [⟨Rect.unit ![0, 384] S256x128.size inb_S256x512_S256x128_0_384, dqN (ldS128 a14 3 X14) (ldT a2 (k0_off4 i k) (k0_off4_inb i k) X2) (ldS128 a15 3 X15) (ldT a3 (k0_off4 i k) (k0_off4_inb i k) X3) (ldS256 a12 3 f12) (ldS256 a13 3 f13) (ldC a11 3 f11)⟩,
      ⟨Rect.unit ![0, 256] S256x128.size inb_S256x512_S256x128_0_256, dqN (ldS128 a14 2 X14) (ldT a2 (k0_off3 i k) (k0_off3_inb i k) X2) (ldS128 a15 2 X15) (ldT a3 (k0_off3 i k) (k0_off3_inb i k) X3) (ldS256 a12 2 f12) (ldS256 a13 2 f13) (ldC a11 2 f11)⟩,
      ⟨Rect.unit ![0, 128] S256x128.size inb_S256x512_S256x128_0_128, dqN (ldS128 a14 1 X14) (ldT a2 (k0_off2 i k) (k0_off2_inb i k) X2) (ldS128 a15 1 X15) (ldT a3 (k0_off2 i k) (k0_off2_inb i k) X3) (ldS256 a12 1 f12) (ldS256 a13 1 f13) (ldC a11 1 f11)⟩,
      ⟨Rect.unit ![0, 0] S256x128.size inb_S256x512_S256x128_0_0, dqN (ldS128 a14 0 X14) (ldT a2 (k0_off1 i k) (k0_off1_inb i k) X2) (ldS128 a15 0 X15) (ldT a3 (k0_off1 i k) (k0_off1_inb i k) X3) (ldS256 a12 0 f12) (ldS256 a13 0 f13) (ldC a11 0 f11)⟩] := by
  unfold trip_k0_t1
  dsimp only
  rfl

/-- The pieces a trip writes into the remaining softplus sums. -/
theorem trip_eq12 : (trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.2.2.1 f9 f10 f11 f12 f13
    = [⟨Rect.unit ![3, 0, 0] S1x512x256.size inb_S4x512x256_S1x512x256_3_0_0, pcN (ldS128 a14 3 X14) (ldT a2 (k0_off4 i k) (k0_off4_inb i k) X2) (ldS256 a12 3 f12)⟩,
      ⟨Rect.unit ![2, 0, 0] S1x512x256.size inb_S4x512x256_S1x512x256_2_0_0, pcN (ldS128 a14 2 X14) (ldT a2 (k0_off3 i k) (k0_off3_inb i k) X2) (ldS256 a12 2 f12)⟩,
      ⟨Rect.unit ![1, 0, 0] S1x512x256.size inb_S4x512x256_S1x512x256_1_0_0, pcN (ldS128 a14 1 X14) (ldT a2 (k0_off2 i k) (k0_off2_inb i k) X2) (ldS256 a12 1 f12)⟩,
      ⟨Rect.unit ![0, 0, 0] S1x512x256.size inb_S4x512x256_S1x512x256_0_0_0, pcN (ldS128 a14 0 X14) (ldT a2 (k0_off1 i k) (k0_off1_inb i k) X2) (ldS256 a12 0 f12)⟩] := by
  unfold trip_k0_t1
  dsimp only
  rfl

/-- The pieces a trip writes into the sums of the weights' gradients. -/
theorem trip_eq13 : (trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.2.2.2.1 f9 f10 f11 f12 f13
    = [⟨Rect.unit ![3, 0, 0] S1x512x256.size inb_S4x512x256_S1x512x256_3_0_0, gcN (ldS128 a14 3 X14) (ldT a2 (k0_off4 i k) (k0_off4_inb i k) X2) (ldS128 a15 3 X15) (ldT a3 (k0_off4 i k) (k0_off4_inb i k) X3) (ldS256 a12 3 f12) (ldS256 a13 3 f13)⟩,
      ⟨Rect.unit ![2, 0, 0] S1x512x256.size inb_S4x512x256_S1x512x256_2_0_0, gcN (ldS128 a14 2 X14) (ldT a2 (k0_off3 i k) (k0_off3_inb i k) X2) (ldS128 a15 2 X15) (ldT a3 (k0_off3 i k) (k0_off3_inb i k) X3) (ldS256 a12 2 f12) (ldS256 a13 2 f13)⟩,
      ⟨Rect.unit ![1, 0, 0] S1x512x256.size inb_S4x512x256_S1x512x256_1_0_0, gcN (ldS128 a14 1 X14) (ldT a2 (k0_off2 i k) (k0_off2_inb i k) X2) (ldS128 a15 1 X15) (ldT a3 (k0_off2 i k) (k0_off2_inb i k) X3) (ldS256 a12 1 f12) (ldS256 a13 1 f13)⟩,
      ⟨Rect.unit ![0, 0, 0] S1x512x256.size inb_S4x512x256_S1x512x256_0_0_0, gcN (ldS128 a14 0 X14) (ldT a2 (k0_off1 i k) (k0_off1_inb i k) X2) (ldS128 a15 0 X15) (ldT a3 (k0_off1 i k) (k0_off1_inb i k) X3) (ldS256 a12 0 f12) (ldS256 a13 0 f13)⟩] := by
  unfold trip_k0_t1
  dsimp only
  rfl

end trip
end Cert.KernelIdeal.Hand
end
end
-- ==== Proof.Tiles.lean ====
module
public import proofs.«01_k».proof.Proof.Trip
@[expose] public section
set_option maxRecDepth 16384
noncomputable section

/-! The loop's invariant over the reals, a block's tiles read out of the arrays it holds for, and the
arrays' contents after the block's four pairs of heads have been written back. -/

namespace Cert.KernelIdeal.Hand
open Cert.KernelIdeal Cert.KernelIdeal.Gen Idealize.ShloMosaic Idealize.ShloMosaic.TcCoe
open StickBreak (sp Arg z msp pre dw qh dh dqn dkn dvn)

/-- The arrays a grid point only reads: keys, values, and the stacked rows of both heads of a pair. -/
structure Fix (A : Arg) (i : ℕ) (R2 R3 : Vec Ideal S2048x512 .bf16) (R14 R15 : Vec Ideal S4x512x128 .bf16) : Prop where
  k : ∀ (s : Fin 2048) (c : Fin 512), R2 (ix2 s c) = ((A.k s c : ℝ) : EReal)
  v : ∀ (s : Fin 2048) (c : Fin 512), R3 (ix2 s c) = ((A.v s c : ℝ) : EReal)
  q : ∀ (p : Fin 4) (r : Fin 512) (x : Fin 128), R14 (ix3 p r x) = ((qh A i p r x : ℝ) : EReal)
  d : ∀ (p : Fin 4) (r : Fin 512) (x : Fin 128), R15 (ix3 p r x) = ((dh A i p r x : ℝ) : EReal)

/-- The arrays a grid point updates, when it has been through the key blocks before `kb`. -/
structure Inv (A : Arg) (i kb : ℕ) (R9 R10 : Vec Ideal S2048x512 .f32) (R11 : Vec Ideal S256x512 .f32)
    (R12 R13 : Vec Ideal S4x512x256 .f32) : Prop where
  dk : ∀ (s : Fin 2048) (c : Fin 512), R9 (ix2 s c) = ((dkn A (if s.val < 256 * kb then 256 * (i + 1) else 256 * i) s c : ℝ) : EReal)
  dv : ∀ (s : Fin 2048) (c : Fin 512), R10 (ix2 s c) = ((dvn A (if s.val < 256 * kb then 256 * (i + 1) else 256 * i) s c : ℝ) : EReal)
  dq : ∀ (a : Fin 256) (c : Fin 512), R11 (ix2 a c) = ((dqn A (256 * kb) (256 * i + a) c : ℝ) : EReal)
  pc : ∀ (p : Fin 4) (r : Fin 512) (x : Fin 256), R12 (ix3 p r x) = ((rem A kb (2 * p + r / 256) (256 * i + r % 256) : ℝ) : EReal)
  gc : ∀ (p : Fin 4) (r : Fin 512) (x : Fin 256), R13 (ix3 p r x) = ((StickBreak.G A (2 * p + r / 256) (256 * i + r % 256) (256 * kb) : ℝ) : EReal)

/-- What a block loads for one pair of heads. -/
structure TileIn (A : Arg) (i kb pp : ℕ) (q : Vec Ideal S1x512x128 .bf16) (k : Vec Ideal S256x128 .bf16) (d : Vec Ideal S1x512x128 .bf16)
    (v : Vec Ideal S256x128 .bf16) (pc gc : Vec Ideal S1x512x256 .f32) (dka dva dqa : Vec Ideal S256x128 .f32) : Prop where
  hq : IsQ A i pp q
  hk : IsK A kb pp k
  hd : IsD A i pp d
  hv : IsV A kb pp v
  hp : IsRow i pp (rem A kb) pc
  hg : IsRow i pp (fun h t => StickBreak.G A h t (256 * kb)) gc
  hdk : ∀ (b : Fin 256) (c : Fin 128), dka (ix2 b c) = ((dkn A (256 * i) (256 * kb + b) (128 * pp + c) : ℝ) : EReal)
  hdv : ∀ (b : Fin 256) (c : Fin 128), dva (ix2 b c) = ((dvn A (256 * i) (256 * kb + b) (128 * pp + c) : ℝ) : EReal)
  hdq : ∀ (a : Fin 256) (c : Fin 128), dqa (ix2 a c) = ((dqn A (256 * kb) (256 * i + a) (128 * pp + c) : ℝ) : EReal)

/-- What a block stores for one pair of heads. -/
structure TileOut (A : Arg) (i kb pp : ℕ) (dka dva dqa : Vec Ideal S256x128 .f32) (pc gc : Vec Ideal S1x512x256 .f32) : Prop where
  hdk : ∀ (b : Fin 256) (c : Fin 128), dka (ix2 b c) = ((dkn A (256 * (i + 1)) (256 * kb + b) (128 * pp + c) : ℝ) : EReal)
  hdv : ∀ (b : Fin 256) (c : Fin 128), dva (ix2 b c) = ((dvn A (256 * (i + 1)) (256 * kb + b) (128 * pp + c) : ℝ) : EReal)
  hdq : ∀ (a : Fin 256) (c : Fin 128), dqa (ix2 a c) = ((dqn A (256 * (kb + 1)) (256 * i + a) (128 * pp + c) : ℝ) : EReal)
  hp : IsRow i pp (rem A (kb + 1)) pc
  hg : IsRow i pp (fun h t => StickBreak.G A h t (256 * (kb + 1))) gc

section diag
variable (q : Vec Ideal S1x512x128 .bf16) (k : Vec Ideal S256x128 .bf16) (d : Vec Ideal S1x512x128 .bf16)
  (v : Vec Ideal S256x128 .bf16) (pc gc : Vec Ideal S1x512x256 .f32)
/-- The running softplus sums of the diagonal block. -/
def pD : FVec Ideal S512x256 .f32 := k0_pay209 k0_pay150 k0_pay151 (k0_pay3 q k)
/-- The weights times their gradients, in the diagonal block. -/
def gD : FVec Ideal S512x256 .f32 := k0_pay224 k0_pay150 (k0_pay7 d v) (aN q k) (pD q k) (k0_pay222 pc)
/-- The sums of those over the diagonal block's earlier keys. -/
def sD : FVec Ideal S512x256 .f32 := k0_pay226 k0_pay150 k0_pay152 (k0_pay7 d v) (aN q k) (pD q k) (k0_pay222 pc)
/-- The gradients of the logits in the diagonal block. -/
def dzD : FVec Ideal S512x256 .bf16 := k0_pay247 k0_pay150 (aN q k) (gD q k d v pc) (sD q k d v pc) gc
/-- The query gradients' tile after the diagonal block. -/
def dqD (dqa : Vec Ideal S256x128 .f32) : Vec Ideal S256x128 .f32 := k0_pay248 k0_pay149 (dzD q k d v pc gc) dqa k
/-- The key gradients' tile after the diagonal block. -/
def dkD (dka : Vec Ideal S256x128 .f32) : Vec Ideal S256x128 .f32 := k0_pay249 (dzD q k d v pc gc) dka q
/-- The value gradients' tile after the diagonal block. -/
def dvD (dva : Vec Ideal S256x128 .f32) : Vec Ideal S256x128 .f32 := k0_pay257 (k0_pay225 k0_pay150 (aN q k) (pD q k) (k0_pay222 pc)) dva d
/-- The remaining softplus sums after the diagonal block. -/
def pcD : Vec Ideal S1x512x256 .f32 := k0_pay32 (pD q k) pc
/-- The sums of the weights' gradients after the diagonal block. -/
def gcD : Vec Ideal S1x512x256 .f32 := k0_pay58 (gD q k d v pc) (k0_pay51 (sD q k d v pc) gc)
end diag

section tiles
variable {A : Arg} {i kb pp : ℕ} {q : Vec Ideal S1x512x128 .bf16} {k : Vec Ideal S256x128 .bf16} {d : Vec Ideal S1x512x128 .bf16}
    {v : Vec Ideal S256x128 .bf16} {pc gc : Vec Ideal S1x512x256 .f32} {dka dva dqa : Vec Ideal S256x128 .f32}

theorem s_at' {g : FVec Ideal S512x256 .f32} (hg : IsRC i kb pp (StickBreak.g A) g) :
    IsRC i kb pp (fun h t s => StickBreak.G A h t s - StickBreak.G A h t (256 * kb))
      (matmul dot_S512x256_S256x256_S512x256_1_0_0_1_n_n none (truncf .bf16 g bitsLt_bf16_f32 : FVec Ideal S512x256 .bf16) k0_pay152 (constant S512x256 .f32 0x00000000#32)) := by
  intro r c
  pointwise [k0_pay152]
  simp only [hg _ _, mask_lt' _ _, ← EReal.coe_mul, ← StickBreak.coe_sum]
  rw [StickBreak.sum_lt c (fun x => StickBreak.g A (2 * pp + r.val / 256) (256 * i + r.val % 256) (256 * kb + x)), StickBreak.G_block]

/-- A block below the diagonal, for one pair of heads. -/
theorem tile_plain (h : TileIn A i kb pp q k d v pc gc dka dva dqa) (hk : kb < i) :
    TileOut A i kb pp (dkN q k d v pc gc dka) (dvN q k d pc dva) (dqN q k d v pc gc dqa) (pcN q k pc) (gcN q k d v pc gc) := by
  have hz := z_at h.hq h.hk
  have ha : IsRC i kb pp _ (aN q k) := a_at hz
  have hp : IsRC i kb pp _ (pN q k) := p_at hz hk
  have hw := w_at ha hp h.hp hk
  have hg : IsRC i kb pp _ (gN q k d v pc) := g_at hw (dw_at h.hd h.hv)
  have hs : IsRC i kb pp _ (sN q k d v pc) := s_at' hg
  have hdz : IsRC i kb pp _ (dzN q k d v pc gc) := dz_at ha hg hs h.hg hk
  exact ⟨dk_at hdz h.hq h.hdk, dv_at (w := k0_pay30 (aN q k) (pN q k) pc) hw h.hd h.hdv, dq_at hdz h.hk h.hdq, pc_at hp h.hp, gc_at hg hs h.hg⟩

/-- The diagonal block, for one pair of heads. -/
theorem tile_diag (h : TileIn A i kb pp q k d v pc gc dka dva dqa) (hk : kb = i) :
    TileOut A i kb pp (dkD q k d v pc gc dka) (dvD q k d pc dva) (dqD q k d v pc gc dqa) (pcD q k pc) (gcD q k d v pc gc) := by
  have hz := z_at h.hq h.hk
  have ha : IsRC i kb pp _ (aN q k) := a_at hz
  have hp : IsRC i kb pp _ (pD q k) := pD_at hz hk
  have hw := wD_at ha hp h.hp hk
  have hg : IsRC i kb pp _ (gD q k d v pc) := g_at hw (dw_at h.hd h.hv)
  have hs : IsRC i kb pp _ (sD q k d v pc) := s_at' hg
  have hdz : IsRC i kb pp _ (dzD q k d v pc gc) := dzD_at ha hg hs h.hg hk
  exact ⟨dk_at hdz h.hq h.hdk, dv_at (w := k0_pay225 k0_pay150 (aN q k) (pD q k) (k0_pay222 pc)) hw h.hd h.hdv, dq_at hdz h.hk h.hdq, pc_at hp h.hp, gc_at hg hs h.hg⟩
end tiles

section reads
theorem ldT_at {e : EltTy} (a : Memref sig .tc .vmem S2048x512 e) (o : Fin 2 → ℕ) (h) (X : BufTy.Contents (Elt Ideal) a.view.ty)
    (kb : ℕ) (p : Fin 4) (ho : o = ![256 * kb, 128 * p.val]) (hkb : kb < 8) (b : Fin 256) (x : Fin 128) :
    ldT a o h X (ix2 b x) = a.view.read (Elt Ideal) X (ix2 (⟨256 * kb + b.val, by omega⟩ : Fin 2048) (⟨128 * p.val + x.val, by omega⟩ : Fin 512)) := by
  subst ho
  unfold ldT
  rw [View.readAt_apply]
  congr 1
  funext y
  refine Fin.ext ?_
  match y with
  | ⟨0, _⟩ => show 256 * kb + 1 * b.val = 256 * kb + b.val; omega
  | ⟨1, _⟩ => show 128 * p.val + 1 * x.val = 128 * p.val + x.val; omega

theorem ldC_at {e : EltTy} (a : Memref sig .tc .vmem S256x512 e) (X : BufTy.Contents (Elt Ideal) a.view.ty)
    (p : Fin 4) (b : Fin 256) (x : Fin 128) :
    ldC a p X (ix2 b x) = a.view.read (Elt Ideal) X (ix2 b (⟨128 * p.val + x.val, by omega⟩ : Fin 512)) := by
  unfold ldC
  rw [View.readAt_apply]
  congr 1
  funext y
  refine Fin.ext ?_
  match y with
  | ⟨0, _⟩ => show 0 + 1 * b.val = b.val; omega
  | ⟨1, _⟩ => show 128 * p.val + 1 * x.val = 128 * p.val + x.val; omega

theorem ldS128_at {e : EltTy} (a : Memref sig .tc .vmem S4x512x128 e) (X : BufTy.Contents (Elt Ideal) a.view.ty)
    (p : Fin 4) (r : Fin 512) (x : Fin 128) :
    ldS128 a p X (ix3 0 r x) = a.view.read (Elt Ideal) X (ix3 p r x) := by
  unfold ldS128
  rw [View.readAt_apply]
  congr 1
  funext y
  refine Fin.ext ?_
  match y with
  | ⟨0, _⟩ => show p.val + 1 * 0 = p.val; omega
  | ⟨1, _⟩ => show 0 + 1 * r.val = r.val; omega
  | ⟨2, _⟩ => show 0 + 1 * x.val = x.val; omega

theorem ldS256_at {e : EltTy} (a : Memref sig .tc .vmem S4x512x256 e) (X : BufTy.Contents (Elt Ideal) a.view.ty)
    (p : Fin 4) (r : Fin 512) (x : Fin 256) :
    ldS256 a p X (ix3 0 r x) = a.view.read (Elt Ideal) X (ix3 p r x) := by
  unfold ldS256
  rw [View.readAt_apply]
  congr 1
  funext y
  refine Fin.ext ?_
  match y with
  | ⟨0, _⟩ => show p.val + 1 * 0 = p.val; omega
  | ⟨1, _⟩ => show 0 + 1 * r.val = r.val; omega
  | ⟨2, _⟩ => show 0 + 1 * x.val = x.val; omega

variable {arg2 : Memref sig .tc .vmem S2048x512 .bf16} {arg3 : Memref sig .tc .vmem S2048x512 .bf16}
  {arg9 : Memref sig .tc .vmem S2048x512 .f32} {arg10 : Memref sig .tc .vmem S2048x512 .f32} {arg11 : Memref sig .tc .vmem S256x512 .f32}
  {arg12 : Memref sig .tc .vmem S4x512x256 .f32} {arg13 : Memref sig .tc .vmem S4x512x256 .f32}
  {arg14 : Memref sig .tc .vmem S4x512x128 .bf16} {arg15 : Memref sig .tc .vmem S4x512x128 .bf16}
  {X2 : BufTy.Contents (Elt Ideal) arg2.view.ty} {X3 : BufTy.Contents (Elt Ideal) arg3.view.ty}
  {X14 : BufTy.Contents (Elt Ideal) arg14.view.ty} {X15 : BufTy.Contents (Elt Ideal) arg15.view.ty}
  {f9 : BufTy.Contents (Elt Ideal) arg9.view.ty} {f10 : BufTy.Contents (Elt Ideal) arg10.view.ty} {f11 : BufTy.Contents (Elt Ideal) arg11.view.ty}
  {f12 : BufTy.Contents (Elt Ideal) arg12.view.ty} {f13 : BufTy.Contents (Elt Ideal) arg13.view.ty}

/-- The tiles of one pair of heads, read out of the arrays. -/
theorem tileIn_of {A : Arg} {i kb : ℕ}
    (hF : Fix A i (arg2.view.read (Elt Ideal) X2) (arg3.view.read (Elt Ideal) X3) (arg14.view.read (Elt Ideal) X14) (arg15.view.read (Elt Ideal) X15))
    (hI : Inv A i kb (arg9.view.read (Elt Ideal) f9) (arg10.view.read (Elt Ideal) f10) (arg11.view.read (Elt Ideal) f11) (arg12.view.read (Elt Ideal) f12) (arg13.view.read (Elt Ideal) f13))
    (hkb : kb < 8) (p : Fin 4) (o : Fin 2 → ℕ) (h) (ho : o = ![256 * kb, 128 * p.val]) :
    TileIn A i kb p (ldS128 arg14 p X14) (ldT arg2 o h X2) (ldS128 arg15 p X15) (ldT arg3 o h X3) (ldS256 arg12 p f12) (ldS256 arg13 p f13)
      (ldT arg9 o h f9) (ldT arg10 o h f10) (ldC arg11 p f11) where
  hq r x := by rw [ldS128_at, hF.q]
  hk a x := by rw [ldT_at _ _ _ _ kb p ho hkb, hF.k]
  hd r x := by rw [ldS128_at, hF.d]
  hv a x := by rw [ldT_at _ _ _ _ kb p ho hkb, hF.v]
  hp r x := by rw [ldS256_at, hI.pc]
  hg r x := by rw [ldS256_at, hI.gc]
  hdk b c := by rw [ldT_at _ _ _ _ kb p ho hkb, hI.dk, if_neg (by dsimp only; omega)]
  hdv b c := by rw [ldT_at _ _ _ _ kb p ho hkb, hI.dv, if_neg (by dsimp only; omega)]
  hdq a c := by rw [ldC_at, hI.dq]
end reads

section writes
variable {κ : Kind} {ss : Space} {e : EltTy}

/-- Four pairs' tiles written into the rows of block `kb`, read there. -/
theorem rows4 (V : View sig κ ss S2048x512 e) (f : V.ty.Contents (Elt Ideal)) (L : List (View.Piece (Elt Ideal) S2048x512 e)) (kb : ℕ)
    (o0 o1 o2 o3 : Fin 2 → ℕ) (h0 h1 h2 h3) (e0 : o0 = ![256 * kb, 0]) (e1 : o1 = ![256 * kb, 128]) (e2 : o2 = ![256 * kb, 256]) (e3 : o3 = ![256 * kb, 384])
    (w0 w1 w2 w3 : Vec Ideal S256x128 e) (F : ℕ → ℕ → Elt Ideal e)
    (g0 : ∀ (b : Fin 256) (x : Fin 128), w0 (ix2 b x) = F (256 * kb + b) (128 * 0 + x))
    (g1 : ∀ (b : Fin 256) (x : Fin 128), w1 (ix2 b x) = F (256 * kb + b) (128 * 1 + x))
    (g2 : ∀ (b : Fin 256) (x : Fin 128), w2 (ix2 b x) = F (256 * kb + b) (128 * 2 + x))
    (g3 : ∀ (b : Fin 256) (x : Fin 128), w3 (ix2 b x) = F (256 * kb + b) (128 * 3 + x))
    (s : Fin 2048) (c : Fin 512) :
    V.read (Elt Ideal) (V.writes (Elt Ideal) f (⟨Rect.unit o3 S256x128.size h3, w3⟩ :: ⟨Rect.unit o2 S256x128.size h2, w2⟩ :: ⟨Rect.unit o1 S256x128.size h1, w1⟩ :: ⟨Rect.unit o0 S256x128.size h0, w0⟩ :: L)) (ix2 s c)
      = if s.val / 256 = kb then F s c else V.read (Elt Ideal) (V.writes (Elt Ideal) f L) (ix2 s c) := by
  by_cases hs : s.val / 256 = kb
  · rw [if_pos hs]
    by_cases c3 : 384 ≤ c.val
    · rw [View.read_writes_cons_unit_of_mem V f h3 w3 _ _ (ix2 ⟨s.val - 256 * kb, by omega⟩ ⟨c.val - 384, by omega⟩ : (Rect.unit (s := S2048x512) o3 S256x128.size h3).shape.Idx) e3, g3]
      · congr 1 <;> (dsimp only; omega)
      · intro y; match y with
        | ⟨0, _⟩ => show s.val = 256 * kb + (s.val - 256 * kb); omega
        | ⟨1, _⟩ => show c.val = 384 + (c.val - 384); omega
    rw [View.read_writes_cons_unit_of_not_mem V f h3 w3 _ _ e3 1 (Or.inl (show c.val < 384 by omega))]
    by_cases c2 : 256 ≤ c.val
    · rw [View.read_writes_cons_unit_of_mem V f h2 w2 _ _ (ix2 ⟨s.val - 256 * kb, by omega⟩ ⟨c.val - 256, by omega⟩ : (Rect.unit (s := S2048x512) o2 S256x128.size h2).shape.Idx) e2, g2]
      · congr 1 <;> (dsimp only; omega)
      · intro y; match y with
        | ⟨0, _⟩ => show s.val = 256 * kb + (s.val - 256 * kb); omega
        | ⟨1, _⟩ => show c.val = 256 + (c.val - 256); omega
    rw [View.read_writes_cons_unit_of_not_mem V f h2 w2 _ _ e2 1 (Or.inl (show c.val < 256 by omega))]
    by_cases c1 : 128 ≤ c.val
    · rw [View.read_writes_cons_unit_of_mem V f h1 w1 _ _ (ix2 ⟨s.val - 256 * kb, by omega⟩ ⟨c.val - 128, by omega⟩ : (Rect.unit (s := S2048x512) o1 S256x128.size h1).shape.Idx) e1, g1]
      · congr 1 <;> (dsimp only; omega)
      · intro y; match y with
        | ⟨0, _⟩ => show s.val = 256 * kb + (s.val - 256 * kb); omega
        | ⟨1, _⟩ => show c.val = 128 + (c.val - 128); omega
    rw [View.read_writes_cons_unit_of_not_mem V f h1 w1 _ _ e1 1 (Or.inl (show c.val < 128 by omega))]
    rw [View.read_writes_cons_unit_of_mem V f h0 w0 _ _ (ix2 ⟨s.val - 256 * kb, by omega⟩ ⟨c.val, by omega⟩ : (Rect.unit (s := S2048x512) o0 S256x128.size h0).shape.Idx) e0, g0]
    · congr 1 <;> (dsimp only; omega)
    · intro y; match y with
      | ⟨0, _⟩ => show s.val = 256 * kb + (s.val - 256 * kb); omega
      | ⟨1, _⟩ => show c.val = 0 + c.val; omega
  · rw [if_neg hs]
    have hr : s.val < 256 * kb ∨ 256 * kb + 256 ≤ s.val := by omega
    rw [View.read_writes_cons_unit_of_not_mem V f h3 w3 _ _ e3 0 hr, View.read_writes_cons_unit_of_not_mem V f h2 w2 _ _ e2 0 hr,
      View.read_writes_cons_unit_of_not_mem V f h1 w1 _ _ e1 0 hr, View.read_writes_cons_unit_of_not_mem V f h0 w0 _ _ e0 0 hr]

/-- Four pairs' tiles written into the columns of a block row, read anywhere. -/
theorem cols4 (V : View sig κ ss S256x512 e) (f : V.ty.Contents (Elt Ideal)) (L : List (View.Piece (Elt Ideal) S256x512 e))
    (h0 h1 h2 h3) (w0 w1 w2 w3 : Vec Ideal S256x128 e) (F : ℕ → ℕ → Elt Ideal e)
    (g0 : ∀ (b : Fin 256) (x : Fin 128), w0 (ix2 b x) = F b (128 * 0 + x))
    (g1 : ∀ (b : Fin 256) (x : Fin 128), w1 (ix2 b x) = F b (128 * 1 + x))
    (g2 : ∀ (b : Fin 256) (x : Fin 128), w2 (ix2 b x) = F b (128 * 2 + x))
    (g3 : ∀ (b : Fin 256) (x : Fin 128), w3 (ix2 b x) = F b (128 * 3 + x))
    (s : Fin 256) (c : Fin 512) :
    V.read (Elt Ideal) (V.writes (Elt Ideal) f (⟨Rect.unit ![0, 384] S256x128.size h3, w3⟩ :: ⟨Rect.unit ![0, 256] S256x128.size h2, w2⟩ :: ⟨Rect.unit ![0, 128] S256x128.size h1, w1⟩ :: ⟨Rect.unit ![0, 0] S256x128.size h0, w0⟩ :: L)) (ix2 s c)
      = F s c := by
  by_cases c3 : 384 ≤ c.val
  · rw [View.read_writes_cons_unit_of_mem V f h3 w3 _ _ (ix2 s ⟨c.val - 384, by omega⟩ : (Rect.unit (s := S256x512) ![0, 384] S256x128.size h3).shape.Idx) rfl, g3]
    · congr 1; dsimp only; omega
    · intro y; match y with
      | ⟨0, _⟩ => show s.val = 0 + s.val; omega
      | ⟨1, _⟩ => show c.val = 384 + (c.val - 384); omega
  rw [View.read_writes_cons_unit_of_not_mem V f h3 w3 _ _ rfl 1 (Or.inl (show c.val < 384 by omega))]
  by_cases c2 : 256 ≤ c.val
  · rw [View.read_writes_cons_unit_of_mem V f h2 w2 _ _ (ix2 s ⟨c.val - 256, by omega⟩ : (Rect.unit (s := S256x512) ![0, 256] S256x128.size h2).shape.Idx) rfl, g2]
    · congr 1; dsimp only; omega
    · intro y; match y with
      | ⟨0, _⟩ => show s.val = 0 + s.val; omega
      | ⟨1, _⟩ => show c.val = 256 + (c.val - 256); omega
  rw [View.read_writes_cons_unit_of_not_mem V f h2 w2 _ _ rfl 1 (Or.inl (show c.val < 256 by omega))]
  by_cases c1 : 128 ≤ c.val
  · rw [View.read_writes_cons_unit_of_mem V f h1 w1 _ _ (ix2 s ⟨c.val - 128, by omega⟩ : (Rect.unit (s := S256x512) ![0, 128] S256x128.size h1).shape.Idx) rfl, g1]
    · congr 1; dsimp only; omega
    · intro y; match y with
      | ⟨0, _⟩ => show s.val = 0 + s.val; omega
      | ⟨1, _⟩ => show c.val = 128 + (c.val - 128); omega
  rw [View.read_writes_cons_unit_of_not_mem V f h1 w1 _ _ rfl 1 (Or.inl (show c.val < 128 by omega))]
  rw [View.read_writes_cons_unit_of_mem V f h0 w0 _ _ (ix2 s ⟨c.val, by omega⟩ : (Rect.unit (s := S256x512) ![0, 0] S256x128.size h0).shape.Idx) rfl, g0]
  · congr 1; dsimp only; omega
  · intro y; match y with
    | ⟨0, _⟩ => show s.val = 0 + s.val; omega
    | ⟨1, _⟩ => show c.val = 0 + c.val; omega

/-- Four slabs written, read anywhere. -/
theorem slabs4 (V : View sig κ ss S4x512x256 e) (f : V.ty.Contents (Elt Ideal)) (L : List (View.Piece (Elt Ideal) S4x512x256 e))
    (h0 h1 h2 h3) (w0 w1 w2 w3 : Vec Ideal S1x512x256 e) (F : ℕ → ℕ → ℕ → Elt Ideal e)
    (g0 : ∀ (b : Fin 512) (x : Fin 256), w0 (ix3 0 b x) = F 0 b x)
    (g1 : ∀ (b : Fin 512) (x : Fin 256), w1 (ix3 0 b x) = F 1 b x)
    (g2 : ∀ (b : Fin 512) (x : Fin 256), w2 (ix3 0 b x) = F 2 b x)
    (g3 : ∀ (b : Fin 512) (x : Fin 256), w3 (ix3 0 b x) = F 3 b x)
    (p : Fin 4) (r : Fin 512) (c : Fin 256) :
    V.read (Elt Ideal) (V.writes (Elt Ideal) f (⟨Rect.unit ![3, 0, 0] S1x512x256.size h3, w3⟩ :: ⟨Rect.unit ![2, 0, 0] S1x512x256.size h2, w2⟩ :: ⟨Rect.unit ![1, 0, 0] S1x512x256.size h1, w1⟩ :: ⟨Rect.unit ![0, 0, 0] S1x512x256.size h0, w0⟩ :: L)) (ix3 p r c)
      = F p r c := by
  have hm : ∀ (n : ℕ) (hp : p.val = n) (y : Fin 3), ((ix3 p r c : S4x512x256.Idx) y).val = (![n, 0, 0] : Fin 3 → ℕ) y + ((ix3 0 r c : S1x512x256.Idx) y).val := by
    intro n hp y; match y with
      | ⟨0, _⟩ => show p.val = n + 0; omega
      | ⟨1, _⟩ => show r.val = 0 + r.val; omega
      | ⟨2, _⟩ => show c.val = 0 + c.val; omega
  by_cases c3 : p.val = 3
  · rw [View.read_writes_cons_unit_of_mem V f h3 w3 _ _ (ix3 0 r c : S1x512x256.Idx) rfl (hm 3 c3), g3, c3]
  rw [View.read_writes_cons_unit_of_not_mem V f h3 w3 _ _ rfl 0 (show p.val < 3 ∨ 3 + 1 ≤ p.val by omega)]
  by_cases c2 : p.val = 2
  · rw [View.read_writes_cons_unit_of_mem V f h2 w2 _ _ (ix3 0 r c : S1x512x256.Idx) rfl (hm 2 c2), g2, c2]
  rw [View.read_writes_cons_unit_of_not_mem V f h2 w2 _ _ rfl 0 (show p.val < 2 ∨ 2 + 1 ≤ p.val by omega)]
  by_cases c1 : p.val = 1
  · rw [View.read_writes_cons_unit_of_mem V f h1 w1 _ _ (ix3 0 r c : S1x512x256.Idx) rfl (hm 1 c1), g1, c1]
  rw [View.read_writes_cons_unit_of_not_mem V f h1 w1 _ _ rfl 0 (show p.val < 1 ∨ 1 + 1 ≤ p.val by omega)]
  rw [View.read_writes_cons_unit_of_mem V f h0 w0 _ _ (ix3 0 r c : S1x512x256.Idx) rfl (hm 0 (by omega)), g0, show p.val = 0 by omega]
end writes

end Cert.KernelIdeal.Hand
end
end
-- ==== Proof.Step.lean ====
module
public import proofs.«01_k».proof.Proof.Tiles
@[expose] public section
set_option maxRecDepth 16384
noncomputable section

/-! The loop over earlier key blocks keeps the invariant. -/

namespace Cert.KernelIdeal.Hand
open Cert.KernelIdeal Cert.KernelIdeal.Gen Idealize.ShloMosaic Idealize.ShloMosaic.TcCoe
open StickBreak (sp Arg z msp pre dw qh dh dqn dkn dvn)

section tiles
variable {κ : Kind} {ss : Space} {A : Arg} {n kb : ℕ}
variable (V9 V10 : View sig κ ss S2048x512 .f32) (V11 : View sig κ ss S256x512 .f32) (V12 V13 : View sig κ ss S4x512x256 .f32)
variable (f9 : V9.ty.Contents (Elt Ideal)) (f10 : V10.ty.Contents (Elt Ideal)) (f11 : V11.ty.Contents (Elt Ideal)) (f12 : V12.ty.Contents (Elt Ideal)) (f13 : V13.ty.Contents (Elt Ideal))
variable (L9 L10 : List (View.Piece (Elt Ideal) S2048x512 .f32)) (L11 : List (View.Piece (Elt Ideal) S256x512 .f32)) (L12 L13 : List (View.Piece (Elt Ideal) S4x512x256 .f32))

/-- A pair's slab at one row, by the row's head and time. -/
theorem slab_of {f : ℕ → ℕ → ℝ} {X : Vec Ideal S1x512x256 .f32} {p : ℕ} (h : IsRow n p f X) (r : Fin 512) (x : Fin 256) :
    X (ix3 0 r x) = (fun p r _ => ((f (2 * p + r / 256) (256 * n + r % 256) : ℝ) : EReal)) p r.val x.val := h r x

/-- A block's tiles written back, the invariant holds for the next block. -/
theorem inv_of_tiles (hI : Inv A n kb (V9.read (Elt Ideal) (V9.writes (Elt Ideal) f9 L9)) (V10.read (Elt Ideal) (V10.writes (Elt Ideal) f10 L10)) (V11.read (Elt Ideal) (V11.writes (Elt Ideal) f11 L11)) (V12.read (Elt Ideal) (V12.writes (Elt Ideal) f12 L12)) (V13.read (Elt Ideal) (V13.writes (Elt Ideal) f13 L13)))
    (o0 o1 o2 o3 : Fin 2 → ℕ) (e0 : o0 = ![256 * kb, 0]) (e1 : o1 = ![256 * kb, 128]) (e2 : o2 = ![256 * kb, 256]) (e3 : o3 = ![256 * kb, 384])
    (hk0 hk1 hk2 hk3 hv0 hv1 hv2 hv3 hq0 hq1 hq2 hq3 hp0 hp1 hp2 hp3 hg0 hg1 hg2 hg3)
    {dk0 dk1 dk2 dk3 dv0 dv1 dv2 dv3 dq0 dq1 dq2 dq3 : Vec Ideal S256x128 .f32} {pc0 pc1 pc2 pc3 gc0 gc1 gc2 gc3 : Vec Ideal S1x512x256 .f32}
    (T0 : TileOut A n kb 0 dk0 dv0 dq0 pc0 gc0) (T1 : TileOut A n kb 1 dk1 dv1 dq1 pc1 gc1) (T2 : TileOut A n kb 2 dk2 dv2 dq2 pc2 gc2) (T3 : TileOut A n kb 3 dk3 dv3 dq3 pc3 gc3) :
    Inv A n (kb + 1)
      (V9.read (Elt Ideal) (V9.writes (Elt Ideal) f9 (⟨Rect.unit (s := S2048x512) o3 S256x128.size hk3, dk3⟩ :: ⟨Rect.unit (s := S2048x512) o2 S256x128.size hk2, dk2⟩ :: ⟨Rect.unit (s := S2048x512) o1 S256x128.size hk1, dk1⟩ :: ⟨Rect.unit (s := S2048x512) o0 S256x128.size hk0, dk0⟩ :: L9)))
      (V10.read (Elt Ideal) (V10.writes (Elt Ideal) f10 (⟨Rect.unit (s := S2048x512) o3 S256x128.size hv3, dv3⟩ :: ⟨Rect.unit (s := S2048x512) o2 S256x128.size hv2, dv2⟩ :: ⟨Rect.unit (s := S2048x512) o1 S256x128.size hv1, dv1⟩ :: ⟨Rect.unit (s := S2048x512) o0 S256x128.size hv0, dv0⟩ :: L10)))
      (V11.read (Elt Ideal) (V11.writes (Elt Ideal) f11 (⟨Rect.unit (s := S256x512) ![0, 384] S256x128.size hq3, dq3⟩ :: ⟨Rect.unit (s := S256x512) ![0, 256] S256x128.size hq2, dq2⟩ :: ⟨Rect.unit (s := S256x512) ![0, 128] S256x128.size hq1, dq1⟩ :: ⟨Rect.unit (s := S256x512) ![0, 0] S256x128.size hq0, dq0⟩ :: L11)))
      (V12.read (Elt Ideal) (V12.writes (Elt Ideal) f12 (⟨Rect.unit (s := S4x512x256) ![3, 0, 0] S1x512x256.size hp3, pc3⟩ :: ⟨Rect.unit (s := S4x512x256) ![2, 0, 0] S1x512x256.size hp2, pc2⟩ :: ⟨Rect.unit (s := S4x512x256) ![1, 0, 0] S1x512x256.size hp1, pc1⟩ :: ⟨Rect.unit (s := S4x512x256) ![0, 0, 0] S1x512x256.size hp0, pc0⟩ :: L12)))
      (V13.read (Elt Ideal) (V13.writes (Elt Ideal) f13 (⟨Rect.unit (s := S4x512x256) ![3, 0, 0] S1x512x256.size hg3, gc3⟩ :: ⟨Rect.unit (s := S4x512x256) ![2, 0, 0] S1x512x256.size hg2, gc2⟩ :: ⟨Rect.unit (s := S4x512x256) ![1, 0, 0] S1x512x256.size hg1, gc1⟩ :: ⟨Rect.unit (s := S4x512x256) ![0, 0, 0] S1x512x256.size hg0, gc0⟩ :: L13))) where
  dk s c := by
    rw [rows4 V9 f9 L9 kb o0 o1 o2 o3 _ _ _ _ e0 e1 e2 e3 dk0 dk1 dk2 dk3 (fun s c => ((dkn A (256 * (n + 1)) s c : ℝ) : EReal)) T0.hdk T1.hdk T2.hdk T3.hdk, hI.dk]
    by_cases h : s.val / 256 = kb
    · rw [if_pos h, if_pos (by omega)]
    · rw [if_neg h]
      have e : (s.val < 256 * kb) = (s.val < 256 * (kb + 1)) := propext (by omega)
      simp only [e]
  dv s c := by
    rw [rows4 V10 f10 L10 kb o0 o1 o2 o3 _ _ _ _ e0 e1 e2 e3 dv0 dv1 dv2 dv3 (fun s c => ((dvn A (256 * (n + 1)) s c : ℝ) : EReal)) T0.hdv T1.hdv T2.hdv T3.hdv, hI.dv]
    by_cases h : s.val / 256 = kb
    · rw [if_pos h, if_pos (by omega)]
    · rw [if_neg h]
      have e : (s.val < 256 * kb) = (s.val < 256 * (kb + 1)) := propext (by omega)
      simp only [e]
  dq a c := cols4 V11 f11 L11 _ _ _ _ dq0 dq1 dq2 dq3 (fun a c => ((dqn A (256 * (kb + 1)) (256 * n + a) c : ℝ) : EReal)) T0.hdq T1.hdq T2.hdq T3.hdq a c
  pc p r x := slabs4 V12 f12 L12 _ _ _ _ pc0 pc1 pc2 pc3 (fun p r _ => ((rem A (kb + 1) (2 * p + r / 256) (256 * n + r % 256) : ℝ) : EReal)) (slab_of T0.hp) (slab_of T1.hp) (slab_of T2.hp) (slab_of T3.hp) p r x
  gc p r x := slabs4 V13 f13 L13 _ _ _ _ gc0 gc1 gc2 gc3 (fun p r _ => ((StickBreak.G A (2 * p + r / 256) (256 * n + r % 256) (256 * (kb + 1)) : ℝ) : EReal)) (slab_of T0.hg) (slab_of T1.hg) (slab_of T2.hg) (slab_of T3.hg) p r x
end tiles

theorem trips_t1 : ∀ i : grid0.Coords, (k0_t1_loop i).trips = (i 0).val := by decide +kernel
theorem trips_t2 : ∀ i : grid0.Coords, (k0_t2_loop i).trips = 0 := fun i => Nat.le_zero.1 (k0_t2_abs i).2.1

section loop
variable (𝒱 : Variants) (c : Dev nD) (bd : Option 𝒱.V) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole) (a9 : Memref sig .tc .vmem S2048x512 .f32) (b9 : a9.IsWhole) (a10 : Memref sig .tc .vmem S2048x512 .f32) (b10 : a10.IsWhole) (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole) (a0 : BitVec 32)
variable (X2 : BufTy.Contents (Elt Ideal) a2.view.ty) (X3 : BufTy.Contents (Elt Ideal) a3.view.ty) (X14 : BufTy.Contents (Elt Ideal) a14.view.ty) (X15 : BufTy.Contents (Elt Ideal) a15.view.ty)
variable (f9 : BufTy.Contents (Elt Ideal) a9.view.ty) (f10 : BufTy.Contents (Elt Ideal) a10.view.ty) (f11 : BufTy.Contents (Elt Ideal) a11.view.ty) (f12 : BufTy.Contents (Elt Ideal) a12.view.ty) (f13 : BufTy.Contents (Elt Ideal) a13.view.ty)
variable (g9 : BufTy.Contents (Elt Ideal) a9.view.ty) (g10 : BufTy.Contents (Elt Ideal) a10.view.ty) (g11 : BufTy.Contents (Elt Ideal) a11.view.ty) (g12 : BufTy.Contents (Elt Ideal) a12.view.ty) (g13 : BufTy.Contents (Elt Ideal) a13.view.ty)

/-- One trip keeps the invariant. -/
theorem trip_step {A : Arg} {n : ℕ} (hn : n = (i 0).val) (k : Fin (k0_t1_loop i).trips)
    (hF : Fix A n (a2.view.read (Elt Ideal) X2) (a3.view.read (Elt Ideal) X3) (a14.view.read (Elt Ideal) X14) (a15.view.read (Elt Ideal) X15))
    (hI : Inv A n k.val (a9.view.read (Elt Ideal) f9) (a10.view.read (Elt Ideal) f10) (a11.view.read (Elt Ideal) f11) (a12.view.read (Elt Ideal) f12) (a13.view.read (Elt Ideal) f13)) :
    Inv A n (k.val + 1)
      (a9.view.read (Elt Ideal) (a9.view.writes (Elt Ideal) f9 ((trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).1 f9 f10 f11 f12 f13)))
      (a10.view.read (Elt Ideal) (a10.view.writes (Elt Ideal) f10 ((trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.1 f9 f10 f11 f12 f13)))
      (a11.view.read (Elt Ideal) (a11.view.writes (Elt Ideal) f11 ((trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.2.1 f9 f10 f11 f12 f13)))
      (a12.view.read (Elt Ideal) (a12.view.writes (Elt Ideal) f12 ((trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.2.2.1 f9 f10 f11 f12 f13)))
      (a13.view.read (Elt Ideal) (a13.view.writes (Elt Ideal) f13 ((trip_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 k).2.2.2.2.1 f9 f10 f11 f12 f13))) := by
  have hk : k.val < n := by rw [hn, ← trips_t1 i]; exact k.isLt
  have hn8 : n < 8 := hn ▸ (i 0).isLt
  have e0 := k0_off1_eq i k
  have e1 := k0_off2_eq i k
  have e2 := k0_off3_eq i k
  have e3 := k0_off4_eq i k
  have T := fun p o h ho => tile_plain (tileIn_of hF hI (by omega) p o h ho) hk
  rw [trip_eq9, trip_eq10, trip_eq11, trip_eq12, trip_eq13]
  exact inv_of_tiles a9.view a10.view a11.view a12.view a13.view f9 f10 f11 f12 f13 [] [] [] [] [] hI _ _ _ _ e0 e1 e2 e3 _ _ _ _ _ _ _ _ _ _ _ _ _ _ _ _ _ _ _ _
    (T 0 _ _ e0) (T 1 _ _ e1) (T 2 _ _ e2) (T 3 _ _ e3)

/-- The trips before the `m`th keep the invariant. -/
theorem loop_inv {A : Arg} {n : ℕ} (hn : n = (i 0).val)
    (hF : Fix A n (a2.view.read (Elt Ideal) X2) (a3.view.read (Elt Ideal) X3) (a14.view.read (Elt Ideal) X14) (a15.view.read (Elt Ideal) X15))
    (hI : Inv A n 0 (a9.view.read (Elt Ideal) g9) (a10.view.read (Elt Ideal) g10) (a11.view.read (Elt Ideal) g11) (a12.view.read (Elt Ideal) g12) (a13.view.read (Elt Ideal) g13)) :
    ∀ m : ℕ, m ≤ (k0_t1_loop i).trips → Inv A n m
      (a9.view.read (Elt Ideal) (a9.view.writes (Elt Ideal) g9 (pb_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 g9 g10 g11 g12 g13 m).1))
      (a10.view.read (Elt Ideal) (a10.view.writes (Elt Ideal) g10 (pb_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 g9 g10 g11 g12 g13 m).2.1))
      (a11.view.read (Elt Ideal) (a11.view.writes (Elt Ideal) g11 (pb_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 g9 g10 g11 g12 g13 m).2.2.1))
      (a12.view.read (Elt Ideal) (a12.view.writes (Elt Ideal) g12 (pb_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 g9 g10 g11 g12 g13 m).2.2.2.1))
      (a13.view.read (Elt Ideal) (a13.view.writes (Elt Ideal) g13 (pb_k0_t1 (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 g9 g10 g11 g12 g13 m).2.2.2.2))
  | 0, _ => hI
  | m + 1, hm => by
    rw [pb_k0_t1_succ (F := Ideal) 𝒱 c bd i a1 b1 a2 b2 a3 b3 a4 b4 a5 b5 a6 b6 a7 b7 a8 b8 a9 b9 a10 b10 a11 b11 a12 b12 a13 b13 a14 b14 a15 b15 a0 k0_pay149 k0_pay151 k0_pay152 X2 X3 X14 X15 g9 g10 g11 g12 g13 ⟨m, hm⟩]
    simp only [View.writes_append]
    exact trip_step 𝒱 c bd i a1 b1 a2 b2 a3 b3 a4 b4 a5 b5 a6 b6 a7 b7 a8 b8 a9 b9 a10 b10 a11 b11 a12 b12 a13 b13 a14 b14 a15 b15 a0 X2 X3 X14 X15 _ _ _ _ _ hn ⟨m, hm⟩ hF (loop_inv hn hF hI m (by omega))
end loop

end Cert.KernelIdeal.Hand
end
end
-- ==== Proof.Diag.lean ====
module
public import proofs.«01_k».proof.Proof.Step
@[expose] public section
set_option maxRecDepth 16384
noncomputable section

/-! The diagonal block: the pieces its four pairs of heads write one after another, each read through
the pieces of the pairs before it, and the invariant after it. -/

namespace Cert.KernelIdeal.Hand
open Cert.KernelIdeal Cert.KernelIdeal.Gen Idealize.ShloMosaic Idealize.ShloMosaic.TcCoe
open StickBreak (sp Arg z msp pre dw qh dh dqn dkn dvn)

section skip
variable {e : EltTy}
/-- A tile is read as before when another pair's tile has been written. -/
theorem ldT_skip (a : Memref sig .tc .vmem S2048x512 e) (o o' : Fin 2 → ℕ) (h h') (w : Vec Ideal S256x128 e)
    (f : BufTy.Contents (Elt Ideal) a.view.ty) (L : List (View.Piece (Elt Ideal) S2048x512 e))
    (hd : o 1 + 128 ≤ o' 1 ∨ o' 1 + 128 ≤ o 1) :
    ldT a o h (a.view.writes (Elt Ideal) f (⟨Rect.unit (s := S2048x512) o' S256x128.size h', w⟩ :: L)) = ldT a o h (a.view.writes (Elt Ideal) f L) := by
  funext y
  unfold ldT
  rw [View.readAt_apply, View.readAt_apply]
  refine View.read_writes_cons_unit_of_not_mem a.view f h' w L _ rfl 1 ?_
  have hy : (y 1).val < 128 := (y 1).isLt
  show o 1 + 1 * (y 1).val < o' 1 ∨ o' 1 + 128 ≤ o 1 + 1 * (y 1).val
  omega

/-- Columns are read as before when another pair's columns have been written. -/
theorem ldC_skip (a : Memref sig .tc .vmem S256x512 e) (p p' : Fin 4) (h') (w : Vec Ideal S256x128 e)
    (f : BufTy.Contents (Elt Ideal) a.view.ty) (L : List (View.Piece (Elt Ideal) S256x512 e)) (hp : p ≠ p') :
    ldC a p (a.view.writes (Elt Ideal) f (⟨Rect.unit (s := S256x512) ![0, 128 * p'.val] S256x128.size h', w⟩ :: L)) = ldC a p (a.view.writes (Elt Ideal) f L) := by
  funext y
  unfold ldC
  rw [View.readAt_apply, View.readAt_apply]
  refine View.read_writes_cons_unit_of_not_mem a.view f h' w L _ rfl 1 ?_
  have hy : (y 1).val < 128 := (y 1).isLt
  show 128 * p.val + 1 * (y 1).val < 128 * p'.val ∨ 128 * p'.val + 128 ≤ 128 * p.val + 1 * (y 1).val
  have : p.val ≠ p'.val := fun h => hp (Fin.ext h)
  omega

/-- A slab is read as before when another slab has been written. -/
theorem ldS_skip (a : Memref sig .tc .vmem S4x512x256 e) (p p' : Fin 4) (h') (w : Vec Ideal S1x512x256 e)
    (f : BufTy.Contents (Elt Ideal) a.view.ty) (L : List (View.Piece (Elt Ideal) S4x512x256 e)) (hp : p ≠ p') :
    ldS256 a p (a.view.writes (Elt Ideal) f (⟨Rect.unit (s := S4x512x256) ![p'.val, 0, 0] S1x512x256.size h', w⟩ :: L)) = ldS256 a p (a.view.writes (Elt Ideal) f L) := by
  funext y
  unfold ldS256
  rw [View.readAt_apply, View.readAt_apply]
  refine View.read_writes_cons_unit_of_not_mem a.view f h' w L _ rfl 0 ?_
  have hy : (y 0).val < 1 := (y 0).isLt
  show p.val + 1 * (y 0).val < p'.val ∨ p'.val + 1 ≤ p.val + 1 * (y 0).val
  have : p.val ≠ p'.val := fun h => hp (Fin.ext h)
  omega
end skip

section diag
variable (i : grid0.Coords) (a2 a3 : Memref sig .tc .vmem S2048x512 .bf16)
  (a9 a10 : Memref sig .tc .vmem S2048x512 .f32) (a11 : Memref sig .tc .vmem S256x512 .f32) (a12 a13 : Memref sig .tc .vmem S4x512x256 .f32)
  (a14 a15 : Memref sig .tc .vmem S4x512x128 .bf16)
variable (X2 : BufTy.Contents (Elt Ideal) a2.view.ty) (X3 : BufTy.Contents (Elt Ideal) a3.view.ty) (X14 : BufTy.Contents (Elt Ideal) a14.view.ty) (X15 : BufTy.Contents (Elt Ideal) a15.view.ty)
variable (f9 : BufTy.Contents (Elt Ideal) a9.view.ty) (f10 : BufTy.Contents (Elt Ideal) a10.view.ty) (f11 : BufTy.Contents (Elt Ideal) a11.view.ty) (f12 : BufTy.Contents (Elt Ideal) a12.view.ty) (f13 : BufTy.Contents (Elt Ideal) a13.view.ty)
variable (L9 L10 : List (View.Piece (Elt Ideal) S2048x512 .f32)) (L11 : List (View.Piece (Elt Ideal) S256x512 .f32)) (L12 L13 : List (View.Piece (Elt Ideal) S4x512x256 .f32))

/-- The next pair's tile of the remaining softplus sums, read then. -/
def pcV0 := ldS256 a12 0 (a12.view.writes (Elt Ideal) f12 L12)
/-- The pieces over the remaining softplus sums after the first pair. -/
def pcL1 : List (View.Piece (Elt Ideal) S4x512x256 .f32) := ⟨Rect.unit (s := S4x512x256) ![0, 0, 0] S1x512x256.size inb_S4x512x256_S1x512x256_0_0_0, pcD (ldS128 a14 0 X14) (ldT a2 (k0_off9 i) (k0_off9_inb i) X2) (pcV0 a12 f12 L12)⟩ :: L12
/-- The next pair's tile of the remaining softplus sums, read then. -/
def pcV1 := ldS256 a12 1 (a12.view.writes (Elt Ideal) f12 (pcL1 i a2 a12 a14 X2 X14 f12 L12))
/-- The pieces over the remaining softplus sums after two pairs. -/
def pcL2 : List (View.Piece (Elt Ideal) S4x512x256 .f32) := ⟨Rect.unit (s := S4x512x256) ![1, 0, 0] S1x512x256.size inb_S4x512x256_S1x512x256_1_0_0, pcD (ldS128 a14 1 X14) (ldT a2 (k0_off10 i) (k0_off10_inb i) X2) (pcV1 i a2 a12 a14 X2 X14 f12 L12)⟩ :: (pcL1 i a2 a12 a14 X2 X14 f12 L12)
/-- The next pair's tile of the remaining softplus sums, read then. -/
def pcV2 := ldS256 a12 2 (a12.view.writes (Elt Ideal) f12 (pcL2 i a2 a12 a14 X2 X14 f12 L12))
/-- The pieces over the remaining softplus sums after three pairs. -/
def pcL3 : List (View.Piece (Elt Ideal) S4x512x256 .f32) := ⟨Rect.unit (s := S4x512x256) ![2, 0, 0] S1x512x256.size inb_S4x512x256_S1x512x256_2_0_0, pcD (ldS128 a14 2 X14) (ldT a2 (k0_off11 i) (k0_off11_inb i) X2) (pcV2 i a2 a12 a14 X2 X14 f12 L12)⟩ :: (pcL2 i a2 a12 a14 X2 X14 f12 L12)
/-- The next pair's tile of the remaining softplus sums, read then. -/
def pcV3 := ldS256 a12 3 (a12.view.writes (Elt Ideal) f12 (pcL3 i a2 a12 a14 X2 X14 f12 L12))
/-- The pieces over the remaining softplus sums after all four pairs. -/
def pcL4 : List (View.Piece (Elt Ideal) S4x512x256 .f32) := ⟨Rect.unit (s := S4x512x256) ![3, 0, 0] S1x512x256.size inb_S4x512x256_S1x512x256_3_0_0, pcD (ldS128 a14 3 X14) (ldT a2 (k0_off12 i) (k0_off12_inb i) X2) (pcV3 i a2 a12 a14 X2 X14 f12 L12)⟩ :: (pcL3 i a2 a12 a14 X2 X14 f12 L12)
/-- The next pair's tile of the sums of the weights' gradients, read then. -/
def gcV0 := ldS256 a13 0 (a13.view.writes (Elt Ideal) f13 L13)
/-- The pieces over the sums of the weights' gradients after the first pair. -/
def gcL1 : List (View.Piece (Elt Ideal) S4x512x256 .f32) := ⟨Rect.unit (s := S4x512x256) ![0, 0, 0] S1x512x256.size inb_S4x512x256_S1x512x256_0_0_0, gcD (ldS128 a14 0 X14) (ldT a2 (k0_off9 i) (k0_off9_inb i) X2) (ldS128 a15 0 X15) (ldT a3 (k0_off9 i) (k0_off9_inb i) X3) (pcV0 a12 f12 L12) (gcV0 a13 f13 L13)⟩ :: L13
/-- The next pair's tile of the sums of the weights' gradients, read then. -/
def gcV1 := ldS256 a13 1 (a13.view.writes (Elt Ideal) f13 (gcL1 i a2 a3 a12 a13 a14 a15 X2 X3 X14 X15 f12 f13 L12 L13))
/-- The pieces over the sums of the weights' gradients after two pairs. -/
def gcL2 : List (View.Piece (Elt Ideal) S4x512x256 .f32) := ⟨Rect.unit (s := S4x512x256) ![1, 0, 0] S1x512x256.size inb_S4x512x256_S1x512x256_1_0_0, gcD (ldS128 a14 1 X14) (ldT a2 (k0_off10 i) (k0_off10_inb i) X2) (ldS128 a15 1 X15) (ldT a3 (k0_off10 i) (k0_off10_inb i) X3) (pcV1 i a2 a12 a14 X2 X14 f12 L12) (gcV1 i a2 a3 a12 a13 a14 a15 X2 X3 X14 X15 f12 f13 L12 L13)⟩ :: (gcL1 i a2 a3 a12 a13 a14 a15 X2 X3 X14 X15 f12 f13 L12 L13)
/-- The next pair's tile of the sums of the weights' gradients, read then. -/
def gcV2 := ldS256 a13 2 (a13.view.writes (Elt Ideal) f13 (gcL2 i a2 a3 a12 a13 a14 a15 X2 X3 X14 X15 f12 f13 L12 L13))
/-- The pieces over the sums of the weights' gradients after three pairs. -/
def gcL3 : List (View.Piece (Elt Ideal) S4x512x256 .f32) := ⟨Rect.unit (s := S4x512x256) ![2, 0, 0] S1x512x256.size inb_S4x512x256_S1x512x256_2_0_0, gcD (ldS128 a14 2 X14) (ldT a2 (k0_off11 i) (k0_off11_inb i) X2) (ldS128 a15 2 X15) (ldT a3 (k0_off11 i) (k0_off11_inb i) X3) (pcV2 i a2 a12 a14 X2 X14 f12 L12) (gcV2 i a2 a3 a12 a13 a14 a15 X2 X3 X14 X15 f12 f13 L12 L13)⟩ :: (gcL2 i a2 a3 a12 a13 a14 a15 X2 X3 X14 X15 f12 f13 L12 L13)
/-- The next pair's tile of the sums of the weights' gradients, read then. -/
def gcV3 := ldS256 a13 3 (a13.view.writes (Elt Ideal) f13 (gcL3 i a2 a3 a12 a13 a14 a15 X2 X3 X14 X15 f12 f13 L12 L13))
/-- The pieces over the sums of the weights' gradients after all four pairs. -/
def gcL4 : List (View.Piece (Elt Ideal) S4x512x256 .f32) := ⟨Rect.unit (s := S4x512x256) ![3, 0, 0] S1x512x256.size inb_S4x512x256_S1x512x256_3_0_0, gcD (ldS128 a14 3 X14) (ldT a2 (k0_off12 i) (k0_off12_inb i) X2) (ldS128 a15 3 X15) (ldT a3 (k0_off12 i) (k0_off12_inb i) X3) (pcV3 i a2 a12 a14 X2 X14 f12 L12) (gcV3 i a2 a3 a12 a13 a14 a15 X2 X3 X14 X15 f12 f13 L12 L13)⟩ :: (gcL3 i a2 a3 a12 a13 a14 a15 X2 X3 X14 X15 f12 f13 L12 L13)
/-- The next pair's tile of the key gradients, read then. -/
def dkV0 := ldT a9 (k0_off9 i) (k0_off9_inb i) (a9.view.writes (Elt Ideal) f9 L9)
/-- The pieces over the key gradients after the first pair. -/
def dkL1 : List (View.Piece (Elt Ideal) S2048x512 .f32) := ⟨Rect.unit (s := S2048x512) (k0_off9 i) S256x128.size (k0_off9_inb i), dkD (ldS128 a14 0 X14) (ldT a2 (k0_off9 i) (k0_off9_inb i) X2) (ldS128 a15 0 X15) (ldT a3 (k0_off9 i) (k0_off9_inb i) X3) (pcV0 a12 f12 L12) (gcV0 a13 f13 L13) (dkV0 i a9 f9 L9)⟩ :: L9
/-- The next pair's tile of the key gradients, read then. -/
def dkV1 := ldT a9 (k0_off10 i) (k0_off10_inb i) (a9.view.writes (Elt Ideal) f9 (dkL1 i a2 a3 a9 a12 a13 a14 a15 X2 X3 X14 X15 f9 f12 f13 L9 L12 L13))
/-- The pieces over the key gradients after two pairs. -/
def dkL2 : List (View.Piece (Elt Ideal) S2048x512 .f32) := ⟨Rect.unit (s := S2048x512) (k0_off10 i) S256x128.size (k0_off10_inb i), dkD (ldS128 a14 1 X14) (ldT a2 (k0_off10 i) (k0_off10_inb i) X2) (ldS128 a15 1 X15) (ldT a3 (k0_off10 i) (k0_off10_inb i) X3) (pcV1 i a2 a12 a14 X2 X14 f12 L12) (gcV1 i a2 a3 a12 a13 a14 a15 X2 X3 X14 X15 f12 f13 L12 L13) (dkV1 i a2 a3 a9 a12 a13 a14 a15 X2 X3 X14 X15 f9 f12 f13 L9 L12 L13)⟩ :: (dkL1 i a2 a3 a9 a12 a13 a14 a15 X2 X3 X14 X15 f9 f12 f13 L9 L12 L13)
/-- The next pair's tile of the key gradients, read then. -/
def dkV2 := ldT a9 (k0_off11 i) (k0_off11_inb i) (a9.view.writes (Elt Ideal) f9 (dkL2 i a2 a3 a9 a12 a13 a14 a15 X2 X3 X14 X15 f9 f12 f13 L9 L12 L13))
/-- The pieces over the key gradients after three pairs. -/
def dkL3 : List (View.Piece (Elt Ideal) S2048x512 .f32) := ⟨Rect.unit (s := S2048x512) (k0_off11 i) S256x128.size (k0_off11_inb i), dkD (ldS128 a14 2 X14) (ldT a2 (k0_off11 i) (k0_off11_inb i) X2) (ldS128 a15 2 X15) (ldT a3 (k0_off11 i) (k0_off11_inb i) X3) (pcV2 i a2 a12 a14 X2 X14 f12 L12) (gcV2 i a2 a3 a12 a13 a14 a15 X2 X3 X14 X15 f12 f13 L12 L13) (dkV2 i a2 a3 a9 a12 a13 a14 a15 X2 X3 X14 X15 f9 f12 f13 L9 L12 L13)⟩ :: (dkL2 i a2 a3 a9 a12 a13 a14 a15 X2 X3 X14 X15 f9 f12 f13 L9 L12 L13)
/-- The next pair's tile of the key gradients, read then. -/
def dkV3 := ldT a9 (k0_off12 i) (k0_off12_inb i) (a9.view.writes (Elt Ideal) f9 (dkL3 i a2 a3 a9 a12 a13 a14 a15 X2 X3 X14 X15 f9 f12 f13 L9 L12 L13))
/-- The pieces over the key gradients after all four pairs. -/
def dkL4 : List (View.Piece (Elt Ideal) S2048x512 .f32) := ⟨Rect.unit (s := S2048x512) (k0_off12 i) S256x128.size (k0_off12_inb i), dkD (ldS128 a14 3 X14) (ldT a2 (k0_off12 i) (k0_off12_inb i) X2) (ldS128 a15 3 X15) (ldT a3 (k0_off12 i) (k0_off12_inb i) X3) (pcV3 i a2 a12 a14 X2 X14 f12 L12) (gcV3 i a2 a3 a12 a13 a14 a15 X2 X3 X14 X15 f12 f13 L12 L13) (dkV3 i a2 a3 a9 a12 a13 a14 a15 X2 X3 X14 X15 f9 f12 f13 L9 L12 L13)⟩ :: (dkL3 i a2 a3 a9 a12 a13 a14 a15 X2 X3 X14 X15 f9 f12 f13 L9 L12 L13)
/-- The next pair's tile of the value gradients, read then. -/
def dvV0 := ldT a10 (k0_off9 i) (k0_off9_inb i) (a10.view.writes (Elt Ideal) f10 L10)
/-- The pieces over the value gradients after the first pair. -/
def dvL1 : List (View.Piece (Elt Ideal) S2048x512 .f32) := ⟨Rect.unit (s := S2048x512) (k0_off9 i) S256x128.size (k0_off9_inb i), dvD (ldS128 a14 0 X14) (ldT a2 (k0_off9 i) (k0_off9_inb i) X2) (ldS128 a15 0 X15) (pcV0 a12 f12 L12) (dvV0 i a10 f10 L10)⟩ :: L10
/-- The next pair's tile of the value gradients, read then. -/
def dvV1 := ldT a10 (k0_off10 i) (k0_off10_inb i) (a10.view.writes (Elt Ideal) f10 (dvL1 i a2 a10 a12 a14 a15 X2 X14 X15 f10 f12 L10 L12))
/-- The pieces over the value gradients after two pairs. -/
def dvL2 : List (View.Piece (Elt Ideal) S2048x512 .f32) := ⟨Rect.unit (s := S2048x512) (k0_off10 i) S256x128.size (k0_off10_inb i), dvD (ldS128 a14 1 X14) (ldT a2 (k0_off10 i) (k0_off10_inb i) X2) (ldS128 a15 1 X15) (pcV1 i a2 a12 a14 X2 X14 f12 L12) (dvV1 i a2 a10 a12 a14 a15 X2 X14 X15 f10 f12 L10 L12)⟩ :: (dvL1 i a2 a10 a12 a14 a15 X2 X14 X15 f10 f12 L10 L12)
/-- The next pair's tile of the value gradients, read then. -/
def dvV2 := ldT a10 (k0_off11 i) (k0_off11_inb i) (a10.view.writes (Elt Ideal) f10 (dvL2 i a2 a10 a12 a14 a15 X2 X14 X15 f10 f12 L10 L12))
/-- The pieces over the value gradients after three pairs. -/
def dvL3 : List (View.Piece (Elt Ideal) S2048x512 .f32) := ⟨Rect.unit (s := S2048x512) (k0_off11 i) S256x128.size (k0_off11_inb i), dvD (ldS128 a14 2 X14) (ldT a2 (k0_off11 i) (k0_off11_inb i) X2) (ldS128 a15 2 X15) (pcV2 i a2 a12 a14 X2 X14 f12 L12) (dvV2 i a2 a10 a12 a14 a15 X2 X14 X15 f10 f12 L10 L12)⟩ :: (dvL2 i a2 a10 a12 a14 a15 X2 X14 X15 f10 f12 L10 L12)
/-- The next pair's tile of the value gradients, read then. -/
def dvV3 := ldT a10 (k0_off12 i) (k0_off12_inb i) (a10.view.writes (Elt Ideal) f10 (dvL3 i a2 a10 a12 a14 a15 X2 X14 X15 f10 f12 L10 L12))
/-- The pieces over the value gradients after all four pairs. -/
def dvL4 : List (View.Piece (Elt Ideal) S2048x512 .f32) := ⟨Rect.unit (s := S2048x512) (k0_off12 i) S256x128.size (k0_off12_inb i), dvD (ldS128 a14 3 X14) (ldT a2 (k0_off12 i) (k0_off12_inb i) X2) (ldS128 a15 3 X15) (pcV3 i a2 a12 a14 X2 X14 f12 L12) (dvV3 i a2 a10 a12 a14 a15 X2 X14 X15 f10 f12 L10 L12)⟩ :: (dvL3 i a2 a10 a12 a14 a15 X2 X14 X15 f10 f12 L10 L12)
/-- The next pair's tile of the query gradients, read then. -/
def dqV0 := ldC a11 0 (a11.view.writes (Elt Ideal) f11 L11)
/-- The pieces over the query gradients after the first pair. -/
def dqL1 : List (View.Piece (Elt Ideal) S256x512 .f32) := ⟨Rect.unit (s := S256x512) ![0, 0] S256x128.size inb_S256x512_S256x128_0_0, dqD (ldS128 a14 0 X14) (ldT a2 (k0_off9 i) (k0_off9_inb i) X2) (ldS128 a15 0 X15) (ldT a3 (k0_off9 i) (k0_off9_inb i) X3) (pcV0 a12 f12 L12) (gcV0 a13 f13 L13) (dqV0 a11 f11 L11)⟩ :: L11
/-- The next pair's tile of the query gradients, read then. -/
def dqV1 := ldC a11 1 (a11.view.writes (Elt Ideal) f11 (dqL1 i a2 a3 a11 a12 a13 a14 a15 X2 X3 X14 X15 f11 f12 f13 L11 L12 L13))
/-- The pieces over the query gradients after two pairs. -/
def dqL2 : List (View.Piece (Elt Ideal) S256x512 .f32) := ⟨Rect.unit (s := S256x512) ![0, 128] S256x128.size inb_S256x512_S256x128_0_128, dqD (ldS128 a14 1 X14) (ldT a2 (k0_off10 i) (k0_off10_inb i) X2) (ldS128 a15 1 X15) (ldT a3 (k0_off10 i) (k0_off10_inb i) X3) (pcV1 i a2 a12 a14 X2 X14 f12 L12) (gcV1 i a2 a3 a12 a13 a14 a15 X2 X3 X14 X15 f12 f13 L12 L13) (dqV1 i a2 a3 a11 a12 a13 a14 a15 X2 X3 X14 X15 f11 f12 f13 L11 L12 L13)⟩ :: (dqL1 i a2 a3 a11 a12 a13 a14 a15 X2 X3 X14 X15 f11 f12 f13 L11 L12 L13)
/-- The next pair's tile of the query gradients, read then. -/
def dqV2 := ldC a11 2 (a11.view.writes (Elt Ideal) f11 (dqL2 i a2 a3 a11 a12 a13 a14 a15 X2 X3 X14 X15 f11 f12 f13 L11 L12 L13))
/-- The pieces over the query gradients after three pairs. -/
def dqL3 : List (View.Piece (Elt Ideal) S256x512 .f32) := ⟨Rect.unit (s := S256x512) ![0, 256] S256x128.size inb_S256x512_S256x128_0_256, dqD (ldS128 a14 2 X14) (ldT a2 (k0_off11 i) (k0_off11_inb i) X2) (ldS128 a15 2 X15) (ldT a3 (k0_off11 i) (k0_off11_inb i) X3) (pcV2 i a2 a12 a14 X2 X14 f12 L12) (gcV2 i a2 a3 a12 a13 a14 a15 X2 X3 X14 X15 f12 f13 L12 L13) (dqV2 i a2 a3 a11 a12 a13 a14 a15 X2 X3 X14 X15 f11 f12 f13 L11 L12 L13)⟩ :: (dqL2 i a2 a3 a11 a12 a13 a14 a15 X2 X3 X14 X15 f11 f12 f13 L11 L12 L13)
/-- The next pair's tile of the query gradients, read then. -/
def dqV3 := ldC a11 3 (a11.view.writes (Elt Ideal) f11 (dqL3 i a2 a3 a11 a12 a13 a14 a15 X2 X3 X14 X15 f11 f12 f13 L11 L12 L13))
/-- The pieces over the query gradients after all four pairs. -/
def dqL4 : List (View.Piece (Elt Ideal) S256x512 .f32) := ⟨Rect.unit (s := S256x512) ![0, 384] S256x128.size inb_S256x512_S256x128_0_384, dqD (ldS128 a14 3 X14) (ldT a2 (k0_off12 i) (k0_off12_inb i) X2) (ldS128 a15 3 X15) (ldT a3 (k0_off12 i) (k0_off12_inb i) X3) (pcV3 i a2 a12 a14 X2 X14 f12 L12) (gcV3 i a2 a3 a12 a13 a14 a15 X2 X3 X14 X15 f12 f13 L12 L13) (dqV3 i a2 a3 a11 a12 a13 a14 a15 X2 X3 X14 X15 f11 f12 f13 L11 L12 L13)⟩ :: (dqL3 i a2 a3 a11 a12 a13 a14 a15 X2 X3 X14 X15 f11 f12 f13 L11 L12 L13)
theorem pcV1_eq : pcV1 i a2 a12 a14 X2 X14 f12 L12 = ldS256 a12 1 (a12.view.writes (Elt Ideal) f12 L12) := by
  unfold pcV1
  unfold pcL1; refine (ldS_skip a12 1 0 _ _ f12 _ (by decide)).trans ?_
  rfl
theorem gcV1_eq : gcV1 i a2 a3 a12 a13 a14 a15 X2 X3 X14 X15 f12 f13 L12 L13 = ldS256 a13 1 (a13.view.writes (Elt Ideal) f13 L13) := by
  unfold gcV1
  unfold gcL1; refine (ldS_skip a13 1 0 _ _ f13 _ (by decide)).trans ?_
  rfl
theorem dkV1_eq : dkV1 i a2 a3 a9 a12 a13 a14 a15 X2 X3 X14 X15 f9 f12 f13 L9 L12 L13 = ldT a9 (k0_off10 i) (k0_off10_inb i) (a9.view.writes (Elt Ideal) f9 L9) := by
  unfold dkV1
  unfold dkL1; refine (ldT_skip a9 _ _ _ _ _ f9 _ (by rw [k0_off10_eq, k0_off9_eq]; exact Or.inr (show 0 + 128 ≤ 128 by decide))).trans ?_
  rfl
theorem dvV1_eq : dvV1 i a2 a10 a12 a14 a15 X2 X14 X15 f10 f12 L10 L12 = ldT a10 (k0_off10 i) (k0_off10_inb i) (a10.view.writes (Elt Ideal) f10 L10) := by
  unfold dvV1
  unfold dvL1; refine (ldT_skip a10 _ _ _ _ _ f10 _ (by rw [k0_off10_eq, k0_off9_eq]; exact Or.inr (show 0 + 128 ≤ 128 by decide))).trans ?_
  rfl
theorem dqV1_eq : dqV1 i a2 a3 a11 a12 a13 a14 a15 X2 X3 X14 X15 f11 f12 f13 L11 L12 L13 = ldC a11 1 (a11.view.writes (Elt Ideal) f11 L11) := by
  unfold dqV1
  unfold dqL1; refine (ldC_skip a11 1 0 _ _ f11 _ (by decide)).trans ?_
  rfl
theorem pcV2_eq : pcV2 i a2 a12 a14 X2 X14 f12 L12 = ldS256 a12 2 (a12.view.writes (Elt Ideal) f12 L12) := by
  unfold pcV2
  unfold pcL2; refine (ldS_skip a12 2 1 _ _ f12 _ (by decide)).trans ?_
  unfold pcL1; refine (ldS_skip a12 2 0 _ _ f12 _ (by decide)).trans ?_
  rfl
theorem gcV2_eq : gcV2 i a2 a3 a12 a13 a14 a15 X2 X3 X14 X15 f12 f13 L12 L13 = ldS256 a13 2 (a13.view.writes (Elt Ideal) f13 L13) := by
  unfold gcV2
  unfold gcL2; refine (ldS_skip a13 2 1 _ _ f13 _ (by decide)).trans ?_
  unfold gcL1; refine (ldS_skip a13 2 0 _ _ f13 _ (by decide)).trans ?_
  rfl
theorem dkV2_eq : dkV2 i a2 a3 a9 a12 a13 a14 a15 X2 X3 X14 X15 f9 f12 f13 L9 L12 L13 = ldT a9 (k0_off11 i) (k0_off11_inb i) (a9.view.writes (Elt Ideal) f9 L9) := by
  unfold dkV2
  unfold dkL2; refine (ldT_skip a9 _ _ _ _ _ f9 _ (by rw [k0_off11_eq, k0_off10_eq]; exact Or.inr (show 128 + 128 ≤ 256 by decide))).trans ?_
  unfold dkL1; refine (ldT_skip a9 _ _ _ _ _ f9 _ (by rw [k0_off11_eq, k0_off9_eq]; exact Or.inr (show 0 + 128 ≤ 256 by decide))).trans ?_
  rfl
theorem dvV2_eq : dvV2 i a2 a10 a12 a14 a15 X2 X14 X15 f10 f12 L10 L12 = ldT a10 (k0_off11 i) (k0_off11_inb i) (a10.view.writes (Elt Ideal) f10 L10) := by
  unfold dvV2
  unfold dvL2; refine (ldT_skip a10 _ _ _ _ _ f10 _ (by rw [k0_off11_eq, k0_off10_eq]; exact Or.inr (show 128 + 128 ≤ 256 by decide))).trans ?_
  unfold dvL1; refine (ldT_skip a10 _ _ _ _ _ f10 _ (by rw [k0_off11_eq, k0_off9_eq]; exact Or.inr (show 0 + 128 ≤ 256 by decide))).trans ?_
  rfl
theorem dqV2_eq : dqV2 i a2 a3 a11 a12 a13 a14 a15 X2 X3 X14 X15 f11 f12 f13 L11 L12 L13 = ldC a11 2 (a11.view.writes (Elt Ideal) f11 L11) := by
  unfold dqV2
  unfold dqL2; refine (ldC_skip a11 2 1 _ _ f11 _ (by decide)).trans ?_
  unfold dqL1; refine (ldC_skip a11 2 0 _ _ f11 _ (by decide)).trans ?_
  rfl
theorem pcV3_eq : pcV3 i a2 a12 a14 X2 X14 f12 L12 = ldS256 a12 3 (a12.view.writes (Elt Ideal) f12 L12) := by
  unfold pcV3
  unfold pcL3; refine (ldS_skip a12 3 2 _ _ f12 _ (by decide)).trans ?_
  unfold pcL2; refine (ldS_skip a12 3 1 _ _ f12 _ (by decide)).trans ?_
  unfold pcL1; refine (ldS_skip a12 3 0 _ _ f12 _ (by decide)).trans ?_
  rfl
theorem gcV3_eq : gcV3 i a2 a3 a12 a13 a14 a15 X2 X3 X14 X15 f12 f13 L12 L13 = ldS256 a13 3 (a13.view.writes (Elt Ideal) f13 L13) := by
  unfold gcV3
  unfold gcL3; refine (ldS_skip a13 3 2 _ _ f13 _ (by decide)).trans ?_
  unfold gcL2; refine (ldS_skip a13 3 1 _ _ f13 _ (by decide)).trans ?_
  unfold gcL1; refine (ldS_skip a13 3 0 _ _ f13 _ (by decide)).trans ?_
  rfl
theorem dkV3_eq : dkV3 i a2 a3 a9 a12 a13 a14 a15 X2 X3 X14 X15 f9 f12 f13 L9 L12 L13 = ldT a9 (k0_off12 i) (k0_off12_inb i) (a9.view.writes (Elt Ideal) f9 L9) := by
  unfold dkV3
  unfold dkL3; refine (ldT_skip a9 _ _ _ _ _ f9 _ (by rw [k0_off12_eq, k0_off11_eq]; exact Or.inr (show 256 + 128 ≤ 384 by decide))).trans ?_
  unfold dkL2; refine (ldT_skip a9 _ _ _ _ _ f9 _ (by rw [k0_off12_eq, k0_off10_eq]; exact Or.inr (show 128 + 128 ≤ 384 by decide))).trans ?_
  unfold dkL1; refine (ldT_skip a9 _ _ _ _ _ f9 _ (by rw [k0_off12_eq, k0_off9_eq]; exact Or.inr (show 0 + 128 ≤ 384 by decide))).trans ?_
  rfl
theorem dvV3_eq : dvV3 i a2 a10 a12 a14 a15 X2 X14 X15 f10 f12 L10 L12 = ldT a10 (k0_off12 i) (k0_off12_inb i) (a10.view.writes (Elt Ideal) f10 L10) := by
  unfold dvV3
  unfold dvL3; refine (ldT_skip a10 _ _ _ _ _ f10 _ (by rw [k0_off12_eq, k0_off11_eq]; exact Or.inr (show 256 + 128 ≤ 384 by decide))).trans ?_
  unfold dvL2; refine (ldT_skip a10 _ _ _ _ _ f10 _ (by rw [k0_off12_eq, k0_off10_eq]; exact Or.inr (show 128 + 128 ≤ 384 by decide))).trans ?_
  unfold dvL1; refine (ldT_skip a10 _ _ _ _ _ f10 _ (by rw [k0_off12_eq, k0_off9_eq]; exact Or.inr (show 0 + 128 ≤ 384 by decide))).trans ?_
  rfl
theorem dqV3_eq : dqV3 i a2 a3 a11 a12 a13 a14 a15 X2 X3 X14 X15 f11 f12 f13 L11 L12 L13 = ldC a11 3 (a11.view.writes (Elt Ideal) f11 L11) := by
  unfold dqV3
  unfold dqL3; refine (ldC_skip a11 3 2 _ _ f11 _ (by decide)).trans ?_
  unfold dqL2; refine (ldC_skip a11 3 1 _ _ f11 _ (by decide)).trans ?_
  unfold dqL1; refine (ldC_skip a11 3 0 _ _ f11 _ (by decide)).trans ?_
  rfl

/-- The diagonal block keeps the invariant. -/
theorem diag_inv {A : Arg} {n : ℕ} (hn : n = (i 0).val)
    (hF : Fix A n (a2.view.read (Elt Ideal) X2) (a3.view.read (Elt Ideal) X3) (a14.view.read (Elt Ideal) X14) (a15.view.read (Elt Ideal) X15))
    (hI : Inv A n n (a9.view.read (Elt Ideal) (a9.view.writes (Elt Ideal) f9 L9)) (a10.view.read (Elt Ideal) (a10.view.writes (Elt Ideal) f10 L10)) (a11.view.read (Elt Ideal) (a11.view.writes (Elt Ideal) f11 L11)) (a12.view.read (Elt Ideal) (a12.view.writes (Elt Ideal) f12 L12)) (a13.view.read (Elt Ideal) (a13.view.writes (Elt Ideal) f13 L13))) :
    Inv A n (n + 1)
      (a9.view.read (Elt Ideal) (a9.view.writes (Elt Ideal) f9 (dkL4 i a2 a3 a9 a12 a13 a14 a15 X2 X3 X14 X15 f9 f12 f13 L9 L12 L13)))
      (a10.view.read (Elt Ideal) (a10.view.writes (Elt Ideal) f10 (dvL4 i a2 a10 a12 a14 a15 X2 X14 X15 f10 f12 L10 L12)))
      (a11.view.read (Elt Ideal) (a11.view.writes (Elt Ideal) f11 (dqL4 i a2 a3 a11 a12 a13 a14 a15 X2 X3 X14 X15 f11 f12 f13 L11 L12 L13)))
      (a12.view.read (Elt Ideal) (a12.view.writes (Elt Ideal) f12 (pcL4 i a2 a12 a14 X2 X14 f12 L12)))
      (a13.view.read (Elt Ideal) (a13.view.writes (Elt Ideal) f13 (gcL4 i a2 a3 a12 a13 a14 a15 X2 X3 X14 X15 f12 f13 L12 L13))) := by
  have hn8 : n < 8 := hn ▸ (i 0).isLt
  have e0 : k0_off9 i = ![256 * n, 0] := hn ▸ k0_off9_eq i
  have e1 : k0_off10 i = ![256 * n, 128] := hn ▸ k0_off10_eq i
  have e2 : k0_off11 i = ![256 * n, 256] := hn ▸ k0_off11_eq i
  have e3 : k0_off12 i = ![256 * n, 384] := hn ▸ k0_off12_eq i
  have T := fun p o h ho => tile_diag (tileIn_of hF hI (by omega) p o h ho) rfl
  unfold dkL4 dkL3 dkL2 dkL1 dvL4 dvL3 dvL2 dvL1 dqL4 dqL3 dqL2 dqL1 pcL4 pcL3 pcL2 pcL1 gcL4 gcL3 gcL2 gcL1
  rw [dkV1_eq, dkV2_eq, dkV3_eq, dvV1_eq, dvV2_eq, dvV3_eq, dqV1_eq, dqV2_eq, dqV3_eq, pcV1_eq, pcV2_eq, pcV3_eq, gcV1_eq, gcV2_eq, gcV3_eq]
  exact inv_of_tiles a9.view a10.view a11.view a12.view a13.view f9 f10 f11 f12 f13 L9 L10 L11 L12 L13 hI _ _ _ _ e0 e1 e2 e3 _ _ _ _ _ _ _ _ _ _ _ _ _ _ _ _ _ _ _ _
    (T 0 _ _ e0) (T 1 _ _ e1) (T 2 _ _ e2) (T 3 _ _ e3)
end diag
end Cert.KernelIdeal.Hand
end
end
-- ==== Proof.Run.lean ====
module
public import proofs.«01_k».proof.Proof.Diag
public import Idealize.ShloMosaic.Lib.WholeRead
@[expose] public section
set_option maxRecDepth 16384
noncomputable section

/-! A grid point's body as a whole: what it leaves in the two long accumulators and in the query
gradients' block, by cases of the grid point. -/

namespace Cert.KernelIdeal.Hand
open Cert.KernelIdeal Cert.KernelIdeal.Gen Idealize.ShloMosaic Idealize.ShloMosaic.TcCoe
open StickBreak (sp Arg z msp pre dw qh dh dqn dkn dvn)

/-- The zeros the query gradients' tile starts from. -/
def Z11 : List (View.Piece (Elt Ideal) S256x512 .f32) := [⟨Rect.unit (s := S256x512) ![0, 0] S256x512.size inb_S256x512_S256x512_0_0, k0_pay155 (F := Ideal)⟩]
/-- The zeros the sums of the weights' gradients start from. -/
def Z13 : List (View.Piece (Elt Ideal) S4x512x256 .f32) := [⟨Rect.unit (s := S4x512x256) ![0, 0, 0] S4x512x256.size inb_S4x512x256_S4x512x256_0_0_0, k0_pay156 (F := Ideal)⟩]
/-- The zeros the key gradients start from. -/
def Z9 : List (View.Piece (Elt Ideal) S2048x512 .f32) := [⟨Rect.unit (s := S2048x512) ![0, 0] S2048x512.size inb_S2048x512_S2048x512_0_0, k0_pay153 (F := Ideal)⟩]
/-- The zeros the value gradients start from. -/
def Z10 : List (View.Piece (Elt Ideal) S2048x512 .f32) := [⟨Rect.unit (s := S2048x512) ![0, 0] S2048x512.size inb_S2048x512_S2048x512_0_0, k0_pay154 (F := Ideal)⟩]

/-- The scaled queries of each pair, stacked by head. -/
def Q14 (a1 : Memref sig .tc .vmem S256x512 .bf16) (b1 : a1.IsWhole) (x0 : Vec Ideal S256x512 .bf16) : List (View.Piece (Elt Ideal) S4x512x128 .bf16) :=
  [⟨Rect.unit (s := S4x512x128) ![3, 0, 0] S1x512x128.size inb_S4x512x128_S1x512x128_3_0_0, k0_pay176 k0_pay149 (ldC a1 3 (b1.unread x0))⟩, ⟨Rect.unit (s := S4x512x128) ![2, 0, 0] S1x512x128.size inb_S4x512x128_S1x512x128_2_0_0, k0_pay176 k0_pay149 (ldC a1 2 (b1.unread x0))⟩, ⟨Rect.unit (s := S4x512x128) ![1, 0, 0] S1x512x128.size inb_S4x512x128_S1x512x128_1_0_0, k0_pay176 k0_pay149 (ldC a1 1 (b1.unread x0))⟩, ⟨Rect.unit (s := S4x512x128) ![0, 0, 0] S1x512x128.size inb_S4x512x128_S1x512x128_0_0_0, k0_pay176 k0_pay149 (ldC a1 0 (b1.unread x0))⟩]
/-- The output's gradients of each pair, stacked by head. -/
def D15 (a4 : Memref sig .tc .vmem S256x512 .f32) (b4 : a4.IsWhole) (x3 : Vec Ideal S256x512 .f32) : List (View.Piece (Elt Ideal) S4x512x128 .bf16) :=
  [⟨Rect.unit (s := S4x512x128) ![3, 0, 0] S1x512x128.size inb_S4x512x128_S1x512x128_3_0_0, k0_pay161 k0_pay149 (ldC a4 3 (b4.unread x3))⟩, ⟨Rect.unit (s := S4x512x128) ![2, 0, 0] S1x512x128.size inb_S4x512x128_S1x512x128_2_0_0, k0_pay161 k0_pay149 (ldC a4 2 (b4.unread x3))⟩, ⟨Rect.unit (s := S4x512x128) ![1, 0, 0] S1x512x128.size inb_S4x512x128_S1x512x128_1_0_0, k0_pay161 k0_pay149 (ldC a4 1 (b4.unread x3))⟩, ⟨Rect.unit (s := S4x512x128) ![0, 0, 0] S1x512x128.size inb_S4x512x128_S1x512x128_0_0_0, k0_pay161 k0_pay149 (ldC a4 0 (b4.unread x3))⟩]
/-- The arrays that hold them. -/
abbrev sq (a14 : Memref sig .tc .vmem S4x512x128 .bf16) {a1 : Memref sig .tc .vmem S256x512 .bf16} (b1 : a1.IsWhole) (x0 : Vec Ideal S256x512 .bf16) : BufTy.Contents (Elt Ideal) a14.view.ty :=
  a14.view.writes (Elt Ideal) a14.view.junk (Q14 a1 b1 x0)
abbrev sd (a15 : Memref sig .tc .vmem S4x512x128 .bf16) {a4 : Memref sig .tc .vmem S256x512 .f32} (b4 : a4.IsWhole) (x3 : Vec Ideal S256x512 .f32) : BufTy.Contents (Elt Ideal) a15.view.ty :=
  a15.view.writes (Elt Ideal) a15.view.junk (D15 a4 b4 x3)
theorem inbH (h : Fin 8) : ∀ x, (![h.val, 0, 0] : Fin 3 → ℕ) x + S1x256x128.size x ≤ S8x256x128.size x := by
  revert h; decide
/-- A head's softplus sums, repeated over 128 columns. -/
abbrev ldH (a : Memref sig .tc .vmem S8x256x128 .f32) (h : Fin 8) (X : BufTy.Contents (Elt Ideal) a.view.ty) : Vec Ideal S1x256x128 .f32 :=
  View.readAt (Elt Ideal) a.view (Rect.unit (s := S8x256x128) ![h.val, 0, 0] S1x256x128.size (inbH h)).toLoadRect X
/-- The softplus sums of each head, repeated over a block's columns. -/
def P12 (a5 : Memref sig .tc .vmem S8x256x128 .f32) (b5 : a5.IsWhole) (x4 : Vec Ideal S8x256x128 .f32) : List (View.Piece (Elt Ideal) S4x512x256 .f32) :=
  [⟨Rect.unit (s := S4x512x256) ![3, 256, 128] S1x256x128.size inb_S4x512x256_S1x256x128_3_256_128, k0_pay162 (ldH a5 7 (b5.unread x4))⟩,
   ⟨Rect.unit (s := S4x512x256) ![3, 256, 0] S1x256x128.size inb_S4x512x256_S1x256x128_3_256_0, k0_pay162 (ldH a5 7 (b5.unread x4))⟩,
   ⟨Rect.unit (s := S4x512x256) ![3, 0, 128] S1x256x128.size inb_S4x512x256_S1x256x128_3_0_128, k0_pay162 (ldH a5 6 (b5.unread x4))⟩,
   ⟨Rect.unit (s := S4x512x256) ![3, 0, 0] S1x256x128.size inb_S4x512x256_S1x256x128_3_0_0, k0_pay162 (ldH a5 6 (b5.unread x4))⟩,
   ⟨Rect.unit (s := S4x512x256) ![2, 256, 128] S1x256x128.size inb_S4x512x256_S1x256x128_2_256_128, k0_pay162 (ldH a5 5 (b5.unread x4))⟩,
   ⟨Rect.unit (s := S4x512x256) ![2, 256, 0] S1x256x128.size inb_S4x512x256_S1x256x128_2_256_0, k0_pay162 (ldH a5 5 (b5.unread x4))⟩,
   ⟨Rect.unit (s := S4x512x256) ![2, 0, 128] S1x256x128.size inb_S4x512x256_S1x256x128_2_0_128, k0_pay162 (ldH a5 4 (b5.unread x4))⟩,
   ⟨Rect.unit (s := S4x512x256) ![2, 0, 0] S1x256x128.size inb_S4x512x256_S1x256x128_2_0_0, k0_pay162 (ldH a5 4 (b5.unread x4))⟩,
   ⟨Rect.unit (s := S4x512x256) ![1, 256, 128] S1x256x128.size inb_S4x512x256_S1x256x128_1_256_128, k0_pay162 (ldH a5 3 (b5.unread x4))⟩,
   ⟨Rect.unit (s := S4x512x256) ![1, 256, 0] S1x256x128.size inb_S4x512x256_S1x256x128_1_256_0, k0_pay162 (ldH a5 3 (b5.unread x4))⟩,
   ⟨Rect.unit (s := S4x512x256) ![1, 0, 128] S1x256x128.size inb_S4x512x256_S1x256x128_1_0_128, k0_pay162 (ldH a5 2 (b5.unread x4))⟩,
   ⟨Rect.unit (s := S4x512x256) ![1, 0, 0] S1x256x128.size inb_S4x512x256_S1x256x128_1_0_0, k0_pay162 (ldH a5 2 (b5.unread x4))⟩,
   ⟨Rect.unit (s := S4x512x256) ![0, 256, 128] S1x256x128.size inb_S4x512x256_S1x256x128_0_256_128, k0_pay162 (ldH a5 1 (b5.unread x4))⟩,
   ⟨Rect.unit (s := S4x512x256) ![0, 256, 0] S1x256x128.size inb_S4x512x256_S1x256x128_0_256_0, k0_pay162 (ldH a5 1 (b5.unread x4))⟩,
   ⟨Rect.unit (s := S4x512x256) ![0, 0, 128] S1x256x128.size inb_S4x512x256_S1x256x128_0_0_128, k0_pay162 (ldH a5 0 (b5.unread x4))⟩,
   ⟨Rect.unit (s := S4x512x256) ![0, 0, 0] S1x256x128.size inb_S4x512x256_S1x256x128_0_0_0, k0_pay162 (ldH a5 0 (b5.unread x4))⟩]

/-- The pieces stored to each of the five arrays. -/
abbrev Parts := List (View.Piece (Elt Ideal) S2048x512 .f32) × List (View.Piece (Elt Ideal) S2048x512 .f32) × List (View.Piece (Elt Ideal) S256x512 .f32) × List (View.Piece (Elt Ideal) S4x512x256 .f32) × List (View.Piece (Elt Ideal) S4x512x256 .f32)

/- A grid point, and the arrays its body reads and writes. -/
variable (c : Dev nD) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole) (a9 : Memref sig .tc .vmem S2048x512 .f32) (b9 : a9.IsWhole) (a10 : Memref sig .tc .vmem S2048x512 .f32) (b10 : a10.IsWhole) (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole)
section run
variable (x0 : Vec Ideal S256x512 .bf16) (x1 : Vec Ideal S2048x512 .bf16) (x2 : Vec Ideal S2048x512 .bf16) (x3 : Vec Ideal S256x512 .f32) (x4 : Vec Ideal S8x256x128 .f32)
variable (g9 : BufTy.Contents (Elt Ideal) a9.view.ty) (g10 : BufTy.Contents (Elt Ideal) a10.view.ty)
variable (e9 : BufTy.Contents (Elt Ideal) a9.view.ty) (e10 : BufTy.Contents (Elt Ideal) a10.view.ty) (e11 : BufTy.Contents (Elt Ideal) a11.view.ty) (e12 : BufTy.Contents (Elt Ideal) a12.view.ty) (e13 : BufTy.Contents (Elt Ideal) a13.view.ty)
/-- The pieces of the loop over earlier key blocks. -/
def lp1 : Parts :=
  pb_k0_t1 (F := Ideal) Variants.none c none i a1 b1 a2 b2 a3 b3 a4 b4 a5 b5 a6 b6 a7 b7 a8 b8 a9 b9 a10 b10 a11 b11 a12 b12 a13 b13 a14 b14 a15 b15 (BitVec.ofNat 32 (i 0).val) k0_pay149 k0_pay151 k0_pay152 (b2.unread x1) (b3.unread x2) (sq a14 b1 x0) (sd a15 b4 x3) g9 g10 (a11.view.writes (Elt Ideal) a11.view.junk Z11) (a12.view.writes (Elt Ideal) a12.view.junk (P12 a5 b5 x4)) (a13.view.writes (Elt Ideal) a13.view.junk Z13) (k0_t1_loop i).trips
/-- The pieces of the loop's remainder, which has no trips. -/
def lp2 : Parts :=
  pb_k0_t2 (F := Ideal) Variants.none c none i a1 b1 a2 b2 a3 b3 a4 b4 a5 b5 a6 b6 a7 b7 a8 b8 a9 b9 a10 b10 a11 b11 a12 b12 a13 b13 a14 b14 a15 b15 (BitVec.ofNat 32 (i 0).val) k0_pay149 k0_pay151 k0_pay152 (k0_t1_loop i).ub (b2.unread x1) (b3.unread x2) (sq a14 b1 x0) (sd a15 b4 x3) e9 e10 e11 e12 e13 (k0_t2_loop i).trips
theorem lp2_nil : lp2 c i a1 b1 a2 b2 a3 b3 a4 b4 a5 b5 a6 b6 a7 b7 a8 b8 a9 b9 a10 b10 a11 b11 a12 b12 a13 b13 a14 b14 a15 b15 x0 x1 x2 x3 e9 e10 e11 e12 e13 = ([], [], [], [], []) := by
  unfold lp2
  rw [trips_t2]
  rfl
/-- The pieces of the loop's remainder after the loop's. -/
def lpT (h9 : BufTy.Contents (Elt Ideal) a9.view.ty) (h10 : BufTy.Contents (Elt Ideal) a10.view.ty) :
    Parts :=
  (lp2 c i a1 b1 a2 b2 a3 b3 a4 b4 a5 b5 a6 b6 a7 b7 a8 b8 a9 b9 a10 b10 a11 b11 a12 b12 a13 b13 a14 b14 a15 b15 x0 x1 x2 x3 h9 h10 (a11.view.writes (Elt Ideal) a11.view.junk ((lp1 c i a1 b1 a2 b2 a3 b3 a4 b4 a5 b5 a6 b6 a7 b7 a8 b8 a9 b9 a10 b10 a11 b11 a12 b12 a13 b13 a14 b14 a15 b15 x0 x1 x2 x3 x4 g9 g10).2.2.1 ++ Z11)) (a12.view.writes (Elt Ideal) a12.view.junk ((lp1 c i a1 b1 a2 b2 a3 b3 a4 b4 a5 b5 a6 b6 a7 b7 a8 b8 a9 b9 a10 b10 a11 b11 a12 b12 a13 b13 a14 b14 a15 b15 x0 x1 x2 x3 x4 g9 g10).2.2.2.1 ++ (P12 a5 b5 x4))) (a13.view.writes (Elt Ideal) a13.view.junk ((lp1 c i a1 b1 a2 b2 a3 b3 a4 b4 a5 b5 a6 b6 a7 b7 a8 b8 a9 b9 a10 b10 a11 b11 a12 b12 a13 b13 a14 b14 a15 b15 x0 x1 x2 x3 x4 g9 g10).2.2.2.2 ++ Z13)))
theorem lpT_nil (h9 : BufTy.Contents (Elt Ideal) a9.view.ty) (h10 : BufTy.Contents (Elt Ideal) a10.view.ty) : lpT c i a1 b1 a2 b2 a3 b3 a4 b4 a5 b5 a6 b6 a7 b7 a8 b8 a9 b9 a10 b10 a11 b11 a12 b12 a13 b13 a14 b14 a15 b15 x0 x1 x2 x3 x4 g9 g10 h9 h10 = ([], [], [], [], []) := by
  unfold lpT
  exact lp2_nil ..
/-- The remainder's pieces where the two long arrays come in as `g9` and `g10`. -/
def lpL : Parts := lpT c i a1 b1 a2 b2 a3 b3 a4 b4 a5 b5 a6 b6 a7 b7 a8 b8 a9 b9 a10 b10 a11 b11 a12 b12 a13 b13 a14 b14 a15 b15 x0 x1 x2 x3 x4 g9 g10 (a9.view.writes (Elt Ideal) g9 (lp1 c i a1 b1 a2 b2 a3 b3 a4 b4 a5 b5 a6 b6 a7 b7 a8 b8 a9 b9 a10 b10 a11 b11 a12 b12 a13 b13 a14 b14 a15 b15 x0 x1 x2 x3 x4 g9 g10).1) (a10.view.writes (Elt Ideal) g10 (lp1 c i a1 b1 a2 b2 a3 b3 a4 b4 a5 b5 a6 b6 a7 b7 a8 b8 a9 b9 a10 b10 a11 b11 a12 b12 a13 b13 a14 b14 a15 b15 x0 x1 x2 x3 x4 g9 g10).2.1)
/-- What the two loops leave in each of the arrays they store to. -/
def L9 : List (View.Piece (Elt Ideal) S2048x512 .f32) := (lpL c i a1 b1 a2 b2 a3 b3 a4 b4 a5 b5 a6 b6 a7 b7 a8 b8 a9 b9 a10 b10 a11 b11 a12 b12 a13 b13 a14 b14 a15 b15 x0 x1 x2 x3 x4 g9 g10).1 ++ (lp1 c i a1 b1 a2 b2 a3 b3 a4 b4 a5 b5 a6 b6 a7 b7 a8 b8 a9 b9 a10 b10 a11 b11 a12 b12 a13 b13 a14 b14 a15 b15 x0 x1 x2 x3 x4 g9 g10).1
theorem L9_eq : L9 c i a1 b1 a2 b2 a3 b3 a4 b4 a5 b5 a6 b6 a7 b7 a8 b8 a9 b9 a10 b10 a11 b11 a12 b12 a13 b13 a14 b14 a15 b15 x0 x1 x2 x3 x4 g9 g10 = (lp1 c i a1 b1 a2 b2 a3 b3 a4 b4 a5 b5 a6 b6 a7 b7 a8 b8 a9 b9 a10 b10 a11 b11 a12 b12 a13 b13 a14 b14 a15 b15 x0 x1 x2 x3 x4 g9 g10).1 := by
  unfold L9 lpL
  rw [lpT_nil]
  rfl
def L10 : List (View.Piece (Elt Ideal) S2048x512 .f32) := (lpL c i a1 b1 a2 b2 a3 b3 a4 b4 a5 b5 a6 b6 a7 b7 a8 b8 a9 b9 a10 b10 a11 b11 a12 b12 a13 b13 a14 b14 a15 b15 x0 x1 x2 x3 x4 g9 g10).2.1 ++ (lp1 c i a1 b1 a2 b2 a3 b3 a4 b4 a5 b5 a6 b6 a7 b7 a8 b8 a9 b9 a10 b10 a11 b11 a12 b12 a13 b13 a14 b14 a15 b15 x0 x1 x2 x3 x4 g9 g10).2.1
theorem L10_eq : L10 c i a1 b1 a2 b2 a3 b3 a4 b4 a5 b5 a6 b6 a7 b7 a8 b8 a9 b9 a10 b10 a11 b11 a12 b12 a13 b13 a14 b14 a15 b15 x0 x1 x2 x3 x4 g9 g10 = (lp1 c i a1 b1 a2 b2 a3 b3 a4 b4 a5 b5 a6 b6 a7 b7 a8 b8 a9 b9 a10 b10 a11 b11 a12 b12 a13 b13 a14 b14 a15 b15 x0 x1 x2 x3 x4 g9 g10).2.1 := by
  unfold L10 lpL
  rw [lpT_nil]
  rfl
def L11 : List (View.Piece (Elt Ideal) S256x512 .f32) := (lpL c i a1 b1 a2 b2 a3 b3 a4 b4 a5 b5 a6 b6 a7 b7 a8 b8 a9 b9 a10 b10 a11 b11 a12 b12 a13 b13 a14 b14 a15 b15 x0 x1 x2 x3 x4 g9 g10).2.2.1 ++ ((lp1 c i a1 b1 a2 b2 a3 b3 a4 b4 a5 b5 a6 b6 a7 b7 a8 b8 a9 b9 a10 b10 a11 b11 a12 b12 a13 b13 a14 b14 a15 b15 x0 x1 x2 x3 x4 g9 g10).2.2.1 ++ Z11)
theorem L11_eq : L11 c i a1 b1 a2 b2 a3 b3 a4 b4 a5 b5 a6 b6 a7 b7 a8 b8 a9 b9 a10 b10 a11 b11 a12 b12 a13 b13 a14 b14 a15 b15 x0 x1 x2 x3 x4 g9 g10 = (lp1 c i a1 b1 a2 b2 a3 b3 a4 b4 a5 b5 a6 b6 a7 b7 a8 b8 a9 b9 a10 b10 a11 b11 a12 b12 a13 b13 a14 b14 a15 b15 x0 x1 x2 x3 x4 g9 g10).2.2.1 ++ Z11 := by
  unfold L11 lpL
  rw [lpT_nil]
  rfl
def L12 : List (View.Piece (Elt Ideal) S4x512x256 .f32) := (lpL c i a1 b1 a2 b2 a3 b3 a4 b4 a5 b5 a6 b6 a7 b7 a8 b8 a9 b9 a10 b10 a11 b11 a12 b12 a13 b13 a14 b14 a15 b15 x0 x1 x2 x3 x4 g9 g10).2.2.2.1 ++ ((lp1 c i a1 b1 a2 b2 a3 b3 a4 b4 a5 b5 a6 b6 a7 b7 a8 b8 a9 b9 a10 b10 a11 b11 a12 b12 a13 b13 a14 b14 a15 b15 x0 x1 x2 x3 x4 g9 g10).2.2.2.1 ++ (P12 a5 b5 x4))
theorem L12_eq : L12 c i a1 b1 a2 b2 a3 b3 a4 b4 a5 b5 a6 b6 a7 b7 a8 b8 a9 b9 a10 b10 a11 b11 a12 b12 a13 b13 a14 b14 a15 b15 x0 x1 x2 x3 x4 g9 g10 = (lp1 c i a1 b1 a2 b2 a3 b3 a4 b4 a5 b5 a6 b6 a7 b7 a8 b8 a9 b9 a10 b10 a11 b11 a12 b12 a13 b13 a14 b14 a15 b15 x0 x1 x2 x3 x4 g9 g10).2.2.2.1 ++ (P12 a5 b5 x4) := by
  unfold L12 lpL
  rw [lpT_nil]
  rfl
def L13 : List (View.Piece (Elt Ideal) S4x512x256 .f32) := (lpL c i a1 b1 a2 b2 a3 b3 a4 b4 a5 b5 a6 b6 a7 b7 a8 b8 a9 b9 a10 b10 a11 b11 a12 b12 a13 b13 a14 b14 a15 b15 x0 x1 x2 x3 x4 g9 g10).2.2.2.2 ++ ((lp1 c i a1 b1 a2 b2 a3 b3 a4 b4 a5 b5 a6 b6 a7 b7 a8 b8 a9 b9 a10 b10 a11 b11 a12 b12 a13 b13 a14 b14 a15 b15 x0 x1 x2 x3 x4 g9 g10).2.2.2.2 ++ Z13)
theorem L13_eq : L13 c i a1 b1 a2 b2 a3 b3 a4 b4 a5 b5 a6 b6 a7 b7 a8 b8 a9 b9 a10 b10 a11 b11 a12 b12 a13 b13 a14 b14 a15 b15 x0 x1 x2 x3 x4 g9 g10 = (lp1 c i a1 b1 a2 b2 a3 b3 a4 b4 a5 b5 a6 b6 a7 b7 a8 b8 a9 b9 a10 b10 a11 b11 a12 b12 a13 b13 a14 b14 a15 b15 x0 x1 x2 x3 x4 g9 g10).2.2.2.2 ++ Z13 := by
  unfold L13 lpL
  rw [lpT_nil]
  rfl
/-- The loop's pieces at the first point. -/
def lpA : Parts := lp1 c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10)
/-- The remainder's at the first point. -/
def lpM : Parts := lpT c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10) (a9.view.writes (Elt Ideal) a9.view.junk ((lpA c i a1 b1 a2 b2 a3 b3 a4 b4 a5 b5 a6 b6 a7 b7 a8 b8 a9 b9 a10 b10 a11 b11 a12 b12 a13 b13 a14 b14 a15 b15 x0 x1 x2 x3 x4).1 ++ Z9)) (a10.view.writes (Elt Ideal) a10.view.junk ((lpA c i a1 b1 a2 b2 a3 b3 a4 b4 a5 b5 a6 b6 a7 b7 a8 b8 a9 b9 a10 b10 a11 b11 a12 b12 a13 b13 a14 b14 a15 b15 x0 x1 x2 x3 x4).2.1 ++ Z10))
/-- The same at the first point, where the two long arrays start from zeros. -/
def M9 : List (View.Piece (Elt Ideal) S2048x512 .f32) := (lpM c i a1 b1 a2 b2 a3 b3 a4 b4 a5 b5 a6 b6 a7 b7 a8 b8 a9 b9 a10 b10 a11 b11 a12 b12 a13 b13 a14 b14 a15 b15 x0 x1 x2 x3 x4).1 ++ ((lpA c i a1 b1 a2 b2 a3 b3 a4 b4 a5 b5 a6 b6 a7 b7 a8 b8 a9 b9 a10 b10 a11 b11 a12 b12 a13 b13 a14 b14 a15 b15 x0 x1 x2 x3 x4).1 ++ Z9)
theorem M9_eq : M9 c i a1 b1 a2 b2 a3 b3 a4 b4 a5 b5 a6 b6 a7 b7 a8 b8 a9 b9 a10 b10 a11 b11 a12 b12 a13 b13 a14 b14 a15 b15 x0 x1 x2 x3 x4 = (lp1 c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10)).1 ++ Z9 := by
  unfold M9 lpM
  rw [lpT_nil]
  rfl
def M10 : List (View.Piece (Elt Ideal) S2048x512 .f32) := (lpM c i a1 b1 a2 b2 a3 b3 a4 b4 a5 b5 a6 b6 a7 b7 a8 b8 a9 b9 a10 b10 a11 b11 a12 b12 a13 b13 a14 b14 a15 b15 x0 x1 x2 x3 x4).2.1 ++ ((lpA c i a1 b1 a2 b2 a3 b3 a4 b4 a5 b5 a6 b6 a7 b7 a8 b8 a9 b9 a10 b10 a11 b11 a12 b12 a13 b13 a14 b14 a15 b15 x0 x1 x2 x3 x4).2.1 ++ Z10)
theorem M10_eq : M10 c i a1 b1 a2 b2 a3 b3 a4 b4 a5 b5 a6 b6 a7 b7 a8 b8 a9 b9 a10 b10 a11 b11 a12 b12 a13 b13 a14 b14 a15 b15 x0 x1 x2 x3 x4 = (lp1 c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10)).2.1 ++ Z10 := by
  unfold M10 lpM
  rw [lpT_nil]
  rfl
def M11 : List (View.Piece (Elt Ideal) S256x512 .f32) := (lpM c i a1 b1 a2 b2 a3 b3 a4 b4 a5 b5 a6 b6 a7 b7 a8 b8 a9 b9 a10 b10 a11 b11 a12 b12 a13 b13 a14 b14 a15 b15 x0 x1 x2 x3 x4).2.2.1 ++ ((lpA c i a1 b1 a2 b2 a3 b3 a4 b4 a5 b5 a6 b6 a7 b7 a8 b8 a9 b9 a10 b10 a11 b11 a12 b12 a13 b13 a14 b14 a15 b15 x0 x1 x2 x3 x4).2.2.1 ++ Z11)
theorem M11_eq : M11 c i a1 b1 a2 b2 a3 b3 a4 b4 a5 b5 a6 b6 a7 b7 a8 b8 a9 b9 a10 b10 a11 b11 a12 b12 a13 b13 a14 b14 a15 b15 x0 x1 x2 x3 x4 = (lp1 c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10)).2.2.1 ++ Z11 := by
  unfold M11 lpM
  rw [lpT_nil]
  rfl
def M12 : List (View.Piece (Elt Ideal) S4x512x256 .f32) := (lpM c i a1 b1 a2 b2 a3 b3 a4 b4 a5 b5 a6 b6 a7 b7 a8 b8 a9 b9 a10 b10 a11 b11 a12 b12 a13 b13 a14 b14 a15 b15 x0 x1 x2 x3 x4).2.2.2.1 ++ ((lpA c i a1 b1 a2 b2 a3 b3 a4 b4 a5 b5 a6 b6 a7 b7 a8 b8 a9 b9 a10 b10 a11 b11 a12 b12 a13 b13 a14 b14 a15 b15 x0 x1 x2 x3 x4).2.2.2.1 ++ (P12 a5 b5 x4))
theorem M12_eq : M12 c i a1 b1 a2 b2 a3 b3 a4 b4 a5 b5 a6 b6 a7 b7 a8 b8 a9 b9 a10 b10 a11 b11 a12 b12 a13 b13 a14 b14 a15 b15 x0 x1 x2 x3 x4 = (lp1 c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10)).2.2.2.1 ++ (P12 a5 b5 x4) := by
  unfold M12 lpM
  rw [lpT_nil]
  rfl
def M13 : List (View.Piece (Elt Ideal) S4x512x256 .f32) := (lpM c i a1 b1 a2 b2 a3 b3 a4 b4 a5 b5 a6 b6 a7 b7 a8 b8 a9 b9 a10 b10 a11 b11 a12 b12 a13 b13 a14 b14 a15 b15 x0 x1 x2 x3 x4).2.2.2.2 ++ ((lpA c i a1 b1 a2 b2 a3 b3 a4 b4 a5 b5 a6 b6 a7 b7 a8 b8 a9 b9 a10 b10 a11 b11 a12 b12 a13 b13 a14 b14 a15 b15 x0 x1 x2 x3 x4).2.2.2.2 ++ Z13)
theorem M13_eq : M13 c i a1 b1 a2 b2 a3 b3 a4 b4 a5 b5 a6 b6 a7 b7 a8 b8 a9 b9 a10 b10 a11 b11 a12 b12 a13 b13 a14 b14 a15 b15 x0 x1 x2 x3 x4 = (lp1 c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10)).2.2.2.2 ++ Z13 := by
  unfold M13 lpM
  rw [lpT_nil]
  rfl
end run

section caseB
variable (hc0 : ¬cond0_0 i) (hc1 : ¬cond0_1 i)
    (x0 : Vec Ideal S256x512 .bf16) (x1 : Vec Ideal S2048x512 .bf16) (x2 : Vec Ideal S2048x512 .bf16) (x3 : Vec Ideal S256x512 .f32) (x4 : Vec Ideal S8x256x128 .f32) (xs0 : Vec Ideal S2048x512 .f32) (xs1 : Vec Ideal S2048x512 .f32)
variable (LL9 : List (View.Piece (Elt Ideal) S2048x512 .f32)) (h9 : LL9 = L9 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL10 : List (View.Piece (Elt Ideal) S2048x512 .f32)) (h10 : LL10 = L10 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL11 : List (View.Piece (Elt Ideal) S256x512 .f32)) (h11 : LL11 = L11 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL12 : List (View.Piece (Elt Ideal) S4x512x256 .f32)) (h12 : LL12 = L12 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL13 : List (View.Piece (Elt Ideal) S4x512x256 .f32)) (h13 : LL13 = L13 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
include h9 h12 h13 in
theorem runB_9 :
    (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.1 = dkL4 i a2 a3 a9 a12 a13 a14 a15 (b2.unread x1) (b3.unread x2) (sq a14 b1 x0) (sd a15 b4 x3) (b9.unread xs0) a12.view.junk a13.view.junk LL9 LL12 LL13 := by
  subst h9 h12 h13
  unfold kernelRun0_B L9 L12 L13
  dsimp only
  rfl

include h10 h12 in
theorem runB_10 :
    (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.2.1 = dvL4 i a2 a10 a12 a14 a15 (b2.unread x1) (sq a14 b1 x0) (sd a15 b4 x3) (b10.unread xs1) a12.view.junk LL10 LL12 := by
  subst h10 h12
  unfold kernelRun0_B L10 L12
  dsimp only
  rfl

include h11 h12 h13 in
theorem runB_5 :
    (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).1 = [⟨Rect.unit (s := S256x512) ![0, 0] S256x512.size inb_S256x512_S256x512_0_0, k0_pay274 (a11.view.readAt (Elt Ideal) (Rect.unit (s := S256x512) ![0, 0] S256x512.size inb_S256x512_S256x512_0_0).toLoadRect (a11.view.writes (Elt Ideal) a11.view.junk (dqL4 i a2 a3 a11 a12 a13 a14 a15 (b2.unread x1) (b3.unread x2) (sq a14 b1 x0) (sd a15 b4 x3) a11.view.junk a12.view.junk a13.view.junk LL11 LL12 LL13)))⟩] := by
  subst h11 h12 h13
  unfold kernelRun0_B L11 L12 L13
  dsimp only
  rfl

end caseB
section caseC
variable (hc0 : ¬cond0_0 i) (hc1 : cond0_1 i)
    (x0 : Vec Ideal S256x512 .bf16) (x1 : Vec Ideal S2048x512 .bf16) (x2 : Vec Ideal S2048x512 .bf16) (x3 : Vec Ideal S256x512 .f32) (x4 : Vec Ideal S8x256x128 .f32) (xs0 : Vec Ideal S2048x512 .f32) (xs1 : Vec Ideal S2048x512 .f32)
variable (LL9 : List (View.Piece (Elt Ideal) S2048x512 .f32)) (h9 : LL9 = L9 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL10 : List (View.Piece (Elt Ideal) S2048x512 .f32)) (h10 : LL10 = L10 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL11 : List (View.Piece (Elt Ideal) S256x512 .f32)) (h11 : LL11 = L11 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL12 : List (View.Piece (Elt Ideal) S4x512x256 .f32)) (h12 : LL12 = L12 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
    (LL13 : List (View.Piece (Elt Ideal) S4x512x256 .f32)) (h13 : LL13 = L13 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1))
include h9 h12 h13 in
theorem runC_9 :
    (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.1 = dkL4 i a2 a3 a9 a12 a13 a14 a15 (b2.unread x1) (b3.unread x2) (sq a14 b1 x0) (sd a15 b4 x3) (b9.unread xs0) a12.view.junk a13.view.junk LL9 LL12 LL13 := by
  subst h9 h12 h13
  unfold kernelRun0_C L9 L12 L13
  dsimp only
  rfl

include h10 h12 in
theorem runC_10 :
    (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.2.1 = dvL4 i a2 a10 a12 a14 a15 (b2.unread x1) (sq a14 b1 x0) (sd a15 b4 x3) (b10.unread xs1) a12.view.junk LL10 LL12 := by
  subst h10 h12
  unfold kernelRun0_C L10 L12
  dsimp only
  rfl

include h11 h12 h13 in
theorem runC_5 :
    (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).1 = [⟨Rect.unit (s := S256x512) ![0, 0] S256x512.size inb_S256x512_S256x512_0_0, k0_pay274 (a11.view.readAt (Elt Ideal) (Rect.unit (s := S256x512) ![0, 0] S256x512.size inb_S256x512_S256x512_0_0).toLoadRect (a11.view.writes (Elt Ideal) a11.view.junk (dqL4 i a2 a3 a11 a12 a13 a14 a15 (b2.unread x1) (b3.unread x2) (sq a14 b1 x0) (sd a15 b4 x3) a11.view.junk a12.view.junk a13.view.junk LL11 LL12 LL13)))⟩] := by
  subst h11 h12 h13
  unfold kernelRun0_C L11 L12 L13
  dsimp only
  rfl

include h9 h12 h13 in
theorem runC_6 :
    (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.1 = [⟨Rect.unit (s := S2048x512) ![0, 0] S2048x512.size inb_S2048x512_S2048x512_0_0, k0_pay1 (a9.view.readAt (Elt Ideal) (Rect.unit (s := S2048x512) ![0, 0] S2048x512.size inb_S2048x512_S2048x512_0_0).toLoadRect (a9.view.writes (Elt Ideal) (b9.unread xs0) (dkL4 i a2 a3 a9 a12 a13 a14 a15 (b2.unread x1) (b3.unread x2) (sq a14 b1 x0) (sd a15 b4 x3) (b9.unread xs0) a12.view.junk a13.view.junk LL9 LL12 LL13)))⟩] := by
  subst h9 h12 h13
  unfold kernelRun0_C L9 L12 L13
  dsimp only
  rfl
include h10 h12 in
theorem runC_7 :
    (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.1 = [⟨Rect.unit (s := S2048x512) ![0, 0] S2048x512.size inb_S2048x512_S2048x512_0_0, k0_pay2 (a10.view.readAt (Elt Ideal) (Rect.unit (s := S2048x512) ![0, 0] S2048x512.size inb_S2048x512_S2048x512_0_0).toLoadRect (a10.view.writes (Elt Ideal) (b10.unread xs1) (dvL4 i a2 a10 a12 a14 a15 (b2.unread x1) (sq a14 b1 x0) (sd a15 b4 x3) (b10.unread xs1) a12.view.junk LL10 LL12)))⟩] := by
  subst h10 h12
  unfold kernelRun0_C L10 L12
  dsimp only
  rfl

end caseC
section caseA
variable (hc0 : cond0_0 i) (hc1 : ¬cond0_1 i)
    (x0 : Vec Ideal S256x512 .bf16) (x1 : Vec Ideal S2048x512 .bf16) (x2 : Vec Ideal S2048x512 .bf16) (x3 : Vec Ideal S256x512 .f32) (x4 : Vec Ideal S8x256x128 .f32)
variable (LL9 : List (View.Piece (Elt Ideal) S2048x512 .f32)) (h9 : LL9 = M9 c i a1 b1 a2 b2 a3 b3 a4 b4 a5 b5 a6 b6 a7 b7 a8 b8 a9 b9 a10 b10 a11 b11 a12 b12 a13 b13 a14 b14 a15 b15 x0 x1 x2 x3 x4)
    (LL10 : List (View.Piece (Elt Ideal) S2048x512 .f32)) (h10 : LL10 = M10 c i a1 b1 a2 b2 a3 b3 a4 b4 a5 b5 a6 b6 a7 b7 a8 b8 a9 b9 a10 b10 a11 b11 a12 b12 a13 b13 a14 b14 a15 b15 x0 x1 x2 x3 x4)
    (LL11 : List (View.Piece (Elt Ideal) S256x512 .f32)) (h11 : LL11 = M11 c i a1 b1 a2 b2 a3 b3 a4 b4 a5 b5 a6 b6 a7 b7 a8 b8 a9 b9 a10 b10 a11 b11 a12 b12 a13 b13 a14 b14 a15 b15 x0 x1 x2 x3 x4)
    (LL12 : List (View.Piece (Elt Ideal) S4x512x256 .f32)) (h12 : LL12 = M12 c i a1 b1 a2 b2 a3 b3 a4 b4 a5 b5 a6 b6 a7 b7 a8 b8 a9 b9 a10 b10 a11 b11 a12 b12 a13 b13 a14 b14 a15 b15 x0 x1 x2 x3 x4)
    (LL13 : List (View.Piece (Elt Ideal) S4x512x256 .f32)) (h13 : LL13 = M13 c i a1 b1 a2 b2 a3 b3 a4 b4 a5 b5 a6 b6 a7 b7 a8 b8 a9 b9 a10 b10 a11 b11 a12 b12 a13 b13 a14 b14 a15 b15 x0 x1 x2 x3 x4)
include h9 h12 h13 in
theorem runA_9 :
    (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).2.2.2.1 = dkL4 i a2 a3 a9 a12 a13 a14 a15 (b2.unread x1) (b3.unread x2) (sq a14 b1 x0) (sd a15 b4 x3) a9.view.junk a12.view.junk a13.view.junk LL9 LL12 LL13 := by
  subst h9 h12 h13
  unfold kernelRun0_A M9 M12 M13
  dsimp only
  rfl

include h10 h12 in
theorem runA_10 :
    (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).2.2.2.2.1 = dvL4 i a2 a10 a12 a14 a15 (b2.unread x1) (sq a14 b1 x0) (sd a15 b4 x3) a10.view.junk a12.view.junk LL10 LL12 := by
  subst h10 h12
  unfold kernelRun0_A M10 M12
  dsimp only
  rfl

include h11 h12 h13 in
theorem runA_5 :
    (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).1 = [⟨Rect.unit (s := S256x512) ![0, 0] S256x512.size inb_S256x512_S256x512_0_0, k0_pay274 (a11.view.readAt (Elt Ideal) (Rect.unit (s := S256x512) ![0, 0] S256x512.size inb_S256x512_S256x512_0_0).toLoadRect (a11.view.writes (Elt Ideal) a11.view.junk (dqL4 i a2 a3 a11 a12 a13 a14 a15 (b2.unread x1) (b3.unread x2) (sq a14 b1 x0) (sd a15 b4 x3) a11.view.junk a12.view.junk a13.view.junk LL11 LL12 LL13)))⟩] := by
  subst h11 h12 h13
  unfold kernelRun0_A M11 M12 M13
  dsimp only
  rfl

end caseA
end Cert.KernelIdeal.Hand
end
end
-- ==== Proof.Point.lean ====
module
public import proofs.«01_k».proof.Proof.Run
@[expose] public section
set_option maxRecDepth 16384
noncomputable section

/-! What a grid point leaves, over the reals: the accumulators' contents after it and its block of the
query gradients. -/

namespace Cert.KernelIdeal.Hand
open Cert.KernelIdeal Cert.KernelIdeal.Gen Idealize.ShloMosaic Idealize.ShloMosaic.TcCoe
open StickBreak (sp Arg z msp pre dw qh dh dqn dkn dvn)

/-- The blocks of grid point `n`: queries, keys, values, output gradients, whole softplus sums. -/
structure Blk (A : Arg) (n : ℕ) (x0 : Vec Ideal S256x512 .bf16) (x1 x2 : Vec Ideal S2048x512 .bf16) (x3 : Vec Ideal S256x512 .f32) (x4 : Vec Ideal S8x256x128 .f32) : Prop where
  q : ∀ (a : Fin 256) (c : Fin 512), x0 (ix2 a c) = ((A.q (256 * n + a) c : ℝ) : EReal)
  k : ∀ (s : Fin 2048) (c : Fin 512), x1 (ix2 s c) = ((A.k s c : ℝ) : EReal)
  v : ∀ (s : Fin 2048) (c : Fin 512), x2 (ix2 s c) = ((A.v s c : ℝ) : EReal)
  d : ∀ (a : Fin 256) (c : Fin 512), x3 (ix2 a c) = ((A.d (256 * n + a) c : ℝ) : EReal)
  t : ∀ (h : Fin 8) (a : Fin 256) (x : Fin 128), x4 (ix3 h a x) = ((pre A h (256 * n + a) (256 * n + a) : ℝ) : EReal)

section fills
variable {κ : Kind} {ss : Space} {e : EltTy}
/-- Four slabs of 128 columns written, read anywhere. -/
theorem slabsN4 (V : View sig κ ss S4x512x128 e) (f : V.ty.Contents (Elt Ideal)) (L : List (View.Piece (Elt Ideal) S4x512x128 e))
    (h0 h1 h2 h3) (w0 w1 w2 w3 : Vec Ideal S1x512x128 e) (F : ℕ → ℕ → ℕ → Elt Ideal e)
    (g0 : ∀ (b : Fin 512) (x : Fin 128), w0 (ix3 0 b x) = F 0 b x)
    (g1 : ∀ (b : Fin 512) (x : Fin 128), w1 (ix3 0 b x) = F 1 b x)
    (g2 : ∀ (b : Fin 512) (x : Fin 128), w2 (ix3 0 b x) = F 2 b x)
    (g3 : ∀ (b : Fin 512) (x : Fin 128), w3 (ix3 0 b x) = F 3 b x)
    (p : Fin 4) (r : Fin 512) (c : Fin 128) :
    V.read (Elt Ideal) (V.writes (Elt Ideal) f (⟨Rect.unit ![3, 0, 0] S1x512x128.size h3, w3⟩ :: ⟨Rect.unit ![2, 0, 0] S1x512x128.size h2, w2⟩ :: ⟨Rect.unit ![1, 0, 0] S1x512x128.size h1, w1⟩ :: ⟨Rect.unit ![0, 0, 0] S1x512x128.size h0, w0⟩ :: L)) (ix3 p r c)
      = F p r c := by
  have hm : ∀ (n : ℕ) (hp : p.val = n) (y : Fin 3), ((ix3 p r c : S4x512x128.Idx) y).val = (![n, 0, 0] : Fin 3 → ℕ) y + ((ix3 0 r c : S1x512x128.Idx) y).val := by
    intro n hp y; match y with
      | ⟨0, _⟩ => show p.val = n + 0; omega
      | ⟨1, _⟩ => show r.val = 0 + r.val; omega
      | ⟨2, _⟩ => show c.val = 0 + c.val; omega
  by_cases c3 : p.val = 3
  · rw [View.read_writes_cons_unit_of_mem V f h3 w3 _ _ (ix3 0 r c : S1x512x128.Idx) rfl (hm 3 c3), g3, c3]
  rw [View.read_writes_cons_unit_of_not_mem V f h3 w3 _ _ rfl 0 (show p.val < 3 ∨ 3 + 1 ≤ p.val by omega)]
  by_cases c2 : p.val = 2
  · rw [View.read_writes_cons_unit_of_mem V f h2 w2 _ _ (ix3 0 r c : S1x512x128.Idx) rfl (hm 2 c2), g2, c2]
  rw [View.read_writes_cons_unit_of_not_mem V f h2 w2 _ _ rfl 0 (show p.val < 2 ∨ 2 + 1 ≤ p.val by omega)]
  by_cases c1 : p.val = 1
  · rw [View.read_writes_cons_unit_of_mem V f h1 w1 _ _ (ix3 0 r c : S1x512x128.Idx) rfl (hm 1 c1), g1, c1]
  rw [View.read_writes_cons_unit_of_not_mem V f h1 w1 _ _ rfl 0 (show p.val < 1 ∨ 1 + 1 ≤ p.val by omega)]
  rw [View.read_writes_cons_unit_of_mem V f h0 w0 _ _ (ix3 0 r c : S1x512x128.Idx) rfl (hm 0 (by omega)), g0, show p.val = 0 by omega]

/-- One of a slab's quarters last written: read there or below it. -/
theorem quarter (V : View sig κ ss S4x512x256 e) (f : V.ty.Contents (Elt Ideal)) (L : List (View.Piece (Elt Ideal) S4x512x256 e))
    (P H C : ℕ) (h) (w : Vec Ideal S1x256x128 e) (F : ℕ → ℕ → ℕ → Elt Ideal e)
    (g : ∀ (b : Fin 256) (x : Fin 128), w (ix3 0 b x) = F P (H + b) (C + x)) (p : Fin 4) (r : Fin 512) (c : Fin 256)
    (hL : (p.val ≠ P ∨ r.val < H ∨ H + 256 ≤ r.val ∨ c.val < C ∨ C + 128 ≤ c.val) → V.read (Elt Ideal) (V.writes (Elt Ideal) f L) (ix3 p r c) = F p r c) :
    V.read (Elt Ideal) (V.writes (Elt Ideal) f (⟨Rect.unit ![P, H, C] S1x256x128.size h, w⟩ :: L)) (ix3 p r c) = F p r c := by
  by_cases hp : p.val = P
  · by_cases hr : H ≤ r.val ∧ r.val < H + 256
    · by_cases hc : C ≤ c.val ∧ c.val < C + 128
      · rw [View.read_writes_cons_unit_of_mem V f h w _ _ (ix3 0 ⟨r.val - H, by omega⟩ ⟨c.val - C, by omega⟩ : S1x256x128.Idx) rfl, g, hp]
        · congr 1 <;> (dsimp only; omega)
        · intro y; match y with
          | ⟨0, _⟩ => show p.val = P + 0; omega
          | ⟨1, _⟩ => show r.val = H + (r.val - H); omega
          | ⟨2, _⟩ => show c.val = C + (c.val - C); omega
      · rw [View.read_writes_cons_unit_of_not_mem V f h w _ _ rfl 2 (show c.val < C ∨ C + 128 ≤ c.val by omega)]
        exact hL (by omega)
    · rw [View.read_writes_cons_unit_of_not_mem V f h w _ _ rfl 1 (show r.val < H ∨ H + 256 ≤ r.val by omega)]
      exact hL (by omega)
  · rw [View.read_writes_cons_unit_of_not_mem V f h w _ _ rfl 0 (show p.val < P ∨ P + 1 ≤ p.val by omega)]
    exact hL (by omega)
end fills

section prologue
variable {A : Arg} {n : ℕ}
theorem zero_f32 : Ideal.ofBits .f32 0x00000000#32 = ((0 : ℝ) : EReal) := by
  simp [Ideal.ofBits, Ideal.ieee]

theorem read_Q14 (a1 : Memref sig .tc .vmem S256x512 .bf16) (b1 : a1.IsWhole) (a14 : Memref sig .tc .vmem S4x512x128 .bf16) {x0 : Vec Ideal S256x512 .bf16}
    (h : ∀ (a : Fin 256) (c : Fin 512), x0 (ix2 a c) = ((A.q (256 * n + a) c : ℝ) : EReal)) (p : Fin 4) (r : Fin 512) (x : Fin 128) :
    a14.view.read (Elt Ideal) (sq a14 b1 x0) (ix3 p r x) = ((qh A n p r x : ℝ) : EReal) := by
  have key : ∀ (p : Fin 4) (r : Fin 512) (x : Fin 128), k0_pay176 (F := Ideal) k0_pay149 (ldC a1 p (b1.unread x0)) (ix3 0 r x) = ((qh A n p r x : ℝ) : EReal) := by
    intro p r x
    have hl : ∀ (a : Fin 256), ldC a1 p (b1.unread x0) (ix2 a x) = ((A.q (256 * n + a) (128 * p.val + x.val) : ℝ) : EReal) := fun a => by
      rw [ldC_at, Memref.IsWhole.read_unread, h]
    have hq : ∀ (a : Fin 256), ldC a1 p (b1.unread x0) (ix2 a x) * ((0.125 : ℝ) : EReal) = ((A.q (256 * n + a) (128 * p.val + x.val) * 0.125 : ℝ) : EReal) := fun a => by
      rw [hl, ← EReal.coe_mul]
    pointwise [k0_pay176, k0_pay149]
    have e2 : r.val % 256 = if r.val < 256 then r.val else r.val - 256 := by split <;> omega
    have tail : ∀ (y : EReal) (t hf : ℕ), y = ((A.q (256 * n + t) (128 * p.val + x.val) * 0.125 : ℝ) : EReal) → t = r.val % 256 → hf = r.val / 256 →
        (if x.val / 64 = hf then y else ((0 : ℝ) : EReal)) = ((qh A n p r x : ℝ) : EReal) := by
      intro y t hf hy ht hh
      subst ht hh
      unfold qh
      by_cases hx : x.val / 64 = r.val / 256
      · rw [if_pos hx, if_pos hx, hy]
      · rw [if_neg hx, if_neg hx]
    split
    · rename_i hr
      rw [eighth_bf16, select_lt x.val 64 (by omega) (by omega)]
      refine Eq.trans ?_ (tail _ r.val 0 (hq ⟨r.val, hr⟩) (by omega) (by omega))
      by_cases hx : x.val < 64
      · rw [if_pos hx]; exact (if_pos (by omega)).symm
      · rw [if_neg hx]; exact Eq.trans (by simp) (if_neg (by omega)).symm
    · rename_i hr
      rw [eighth_bf16, select_lt x.val 64 (by omega) (by omega)]
      refine Eq.trans ?_ (tail _ (r.val - 256) 1 (hq ⟨r.val - 256, by omega⟩) (by omega) (by omega))
      by_cases hx : x.val < 64
      · rw [if_pos hx]; exact Eq.trans (by simp) (if_neg (by omega)).symm
      · rw [if_neg hx]; exact (if_pos (by omega)).symm
  exact slabsN4 a14.view _ [] _ _ _ _ _ _ _ _ (fun p r x => ((qh A n p r x : ℝ) : EReal)) (key 0) (key 1) (key 2) (key 3) p r x

theorem read_D15 (a4 : Memref sig .tc .vmem S256x512 .f32) (b4 : a4.IsWhole) (a15 : Memref sig .tc .vmem S4x512x128 .bf16) {x3 : Vec Ideal S256x512 .f32}
    (h : ∀ (a : Fin 256) (c : Fin 512), x3 (ix2 a c) = ((A.d (256 * n + a) c : ℝ) : EReal)) (p : Fin 4) (r : Fin 512) (x : Fin 128) :
    a15.view.read (Elt Ideal) (sd a15 b4 x3) (ix3 p r x) = ((dh A n p r x : ℝ) : EReal) := by
  have key : ∀ (p : Fin 4) (r : Fin 512) (x : Fin 128), k0_pay161 (F := Ideal) k0_pay149 (ldC a4 p (b4.unread x3)) (ix3 0 r x) = ((dh A n p r x : ℝ) : EReal) := by
    intro p r x
    have hl : ∀ (a : Fin 256), ldC a4 p (b4.unread x3) (ix2 a x) = ((A.d (256 * n + a) (128 * p.val + x.val) : ℝ) : EReal) := fun a => by
      rw [ldC_at, Memref.IsWhole.read_unread, h]
    pointwise [k0_pay161, k0_pay149]
    have e2 : r.val % 256 = if r.val < 256 then r.val else r.val - 256 := by split <;> omega
    have tail : ∀ (y : EReal) (t hf : ℕ), y = ((A.d (256 * n + t) (128 * p.val + x.val) : ℝ) : EReal) → t = r.val % 256 → hf = r.val / 256 →
        (if x.val / 64 = hf then y else ((0 : ℝ) : EReal)) = ((dh A n p r x : ℝ) : EReal) := by
      intro y t hf hy ht hh
      subst ht hh
      unfold dh
      by_cases hx : x.val / 64 = r.val / 256
      · rw [if_pos hx, if_pos hx, hy]
      · rw [if_neg hx, if_neg hx]
    split
    · rename_i hr
      rw [select_lt x.val 64 (by omega) (by omega)]
      refine Eq.trans ?_ (tail _ r.val 0 (hl ⟨r.val, hr⟩) (by omega) (by omega))
      by_cases hx : x.val < 64
      · rw [if_pos hx]; exact (if_pos (by omega)).symm
      · rw [if_neg hx]; exact Eq.trans (by simp) (if_neg (by omega)).symm
    · rename_i hr
      rw [select_lt x.val 64 (by omega) (by omega)]
      refine Eq.trans ?_ (tail _ (r.val - 256) 1 (hl ⟨r.val - 256, by omega⟩) (by omega) (by omega))
      by_cases hx : x.val < 64
      · rw [if_pos hx]; exact Eq.trans (by simp) (if_neg (by omega)).symm
      · rw [if_neg hx]; exact (if_pos (by omega)).symm
  exact slabsN4 a15.view _ [] _ _ _ _ _ _ _ _ (fun p r x => ((dh A n p r x : ℝ) : EReal)) (key 0) (key 1) (key 2) (key 3) p r x

/-- Every entry of a slab lies in one of its quarters. -/
theorem hits (p : Fin 4) (r : Fin 512) (x : Fin 256)
    (all : ∀ (P : Fin 4) (H C : Fin 2), p.val ≠ P.val ∨ r.val < 256 * H.val ∨ 256 * H.val + 256 ≤ r.val ∨ x.val < 128 * C.val ∨ 128 * C.val + 128 ≤ x.val) : False := by
  have h := all p ⟨r.val / 256, by omega⟩ ⟨x.val / 128, by omega⟩
  dsimp only at h
  omega

/-- The remaining softplus sums at the start, by pair, row and column. -/
def remF (A : Arg) (n p r _c : ℕ) : EReal := ((rem A 0 (2 * p + r / 256) (256 * n + r % 256) : ℝ) : EReal)

theorem read_P12 (a5 : Memref sig .tc .vmem S8x256x128 .f32) (b5 : a5.IsWhole) (a12 : Memref sig .tc .vmem S4x512x256 .f32) {x4 : Vec Ideal S8x256x128 .f32}
    (h : ∀ (h : Fin 8) (a : Fin 256) (x : Fin 128), x4 (ix3 h a x) = ((pre A h (256 * n + a) (256 * n + a) : ℝ) : EReal)) (p : Fin 4) (r : Fin 512) (x : Fin 256) :
    a12.view.read (Elt Ideal) (a12.view.writes (Elt Ideal) a12.view.junk (P12 a5 b5 x4)) (ix3 p r x) = ((rem A 0 (2 * p + r / 256) (256 * n + r % 256) : ℝ) : EReal) := by
  have key : ∀ (P R C : ℕ) (hd : Fin 8) (e : hd.val = 2 * P + R / 256) (e' : R % 256 = 0) (b : Fin 256) (x : Fin 128),
      k0_pay162 (F := Ideal) (ldH a5 hd (b5.unread x4)) (ix3 0 b x)
        = remF A n P (R + b.val) (C + x.val) := by
    intro P R C hd e e' b x
    have hl : ldH a5 hd (b5.unread x4) (ix3 0 b x) = ((pre A hd (256 * n + b) (256 * n + b) : ℝ) : EReal) := by
      unfold ldH
      rw [View.readAt_apply, Memref.IsWhole.read_unread]
      refine Eq.trans ?_ (h hd b x)
      congr 1
      funext y
      refine Fin.ext ?_
      match y with
      | ⟨0, _⟩ => show hd.val + 1 * 0 = hd.val; omega
      | ⟨1, _⟩ => show 0 + 1 * b.val = b.val; omega
      | ⟨2, _⟩ => show 0 + 1 * x.val = x.val; omega
    pointwise [k0_pay162]
    rw [hl, remF, rem]
    have e1 : (R + b.val) / 256 = R / 256 := by omega
    have e2 : (R + b.val) % 256 = b.val := by omega
    rw [e1, e2, e, show pre A (2 * P + R / 256) (256 * n + b.val) (256 * 0) = 0 from by simp [pre], sub_zero]

  have e0 : ((rem A 0 (2 * p.val + r.val / 256) (256 * n + r.val % 256) : ℝ) : EReal) = remF A n p r x := rfl
  rw [e0]
  clear e0
  unfold P12
  have q311 := fun L h => quarter a12.view a12.view.junk L 3 256 128 h (k0_pay162 (F := Ideal) (ldH a5 7 (b5.unread x4))) (remF A n) (key 3 256 128 7 rfl rfl) p r x
  refine q311 _ _ fun h311 => ?_
  have q310 := fun L h => quarter a12.view a12.view.junk L 3 256 0 h (k0_pay162 (F := Ideal) (ldH a5 7 (b5.unread x4))) (remF A n) (key 3 256 0 7 rfl rfl) p r x
  refine q310 _ _ fun h310 => ?_
  have q301 := fun L h => quarter a12.view a12.view.junk L 3 0 128 h (k0_pay162 (F := Ideal) (ldH a5 6 (b5.unread x4))) (remF A n) (key 3 0 128 6 rfl rfl) p r x
  refine q301 _ _ fun h301 => ?_
  have q300 := fun L h => quarter a12.view a12.view.junk L 3 0 0 h (k0_pay162 (F := Ideal) (ldH a5 6 (b5.unread x4))) (remF A n) (key 3 0 0 6 rfl rfl) p r x
  refine q300 _ _ fun h300 => ?_
  have q211 := fun L h => quarter a12.view a12.view.junk L 2 256 128 h (k0_pay162 (F := Ideal) (ldH a5 5 (b5.unread x4))) (remF A n) (key 2 256 128 5 rfl rfl) p r x
  refine q211 _ _ fun h211 => ?_
  have q210 := fun L h => quarter a12.view a12.view.junk L 2 256 0 h (k0_pay162 (F := Ideal) (ldH a5 5 (b5.unread x4))) (remF A n) (key 2 256 0 5 rfl rfl) p r x
  refine q210 _ _ fun h210 => ?_
  have q201 := fun L h => quarter a12.view a12.view.junk L 2 0 128 h (k0_pay162 (F := Ideal) (ldH a5 4 (b5.unread x4))) (remF A n) (key 2 0 128 4 rfl rfl) p r x
  refine q201 _ _ fun h201 => ?_
  have q200 := fun L h => quarter a12.view a12.view.junk L 2 0 0 h (k0_pay162 (F := Ideal) (ldH a5 4 (b5.unread x4))) (remF A n) (key 2 0 0 4 rfl rfl) p r x
  refine q200 _ _ fun h200 => ?_
  have q111 := fun L h => quarter a12.view a12.view.junk L 1 256 128 h (k0_pay162 (F := Ideal) (ldH a5 3 (b5.unread x4))) (remF A n) (key 1 256 128 3 rfl rfl) p r x
  refine q111 _ _ fun h111 => ?_
  have q110 := fun L h => quarter a12.view a12.view.junk L 1 256 0 h (k0_pay162 (F := Ideal) (ldH a5 3 (b5.unread x4))) (remF A n) (key 1 256 0 3 rfl rfl) p r x
  refine q110 _ _ fun h110 => ?_
  have q101 := fun L h => quarter a12.view a12.view.junk L 1 0 128 h (k0_pay162 (F := Ideal) (ldH a5 2 (b5.unread x4))) (remF A n) (key 1 0 128 2 rfl rfl) p r x
  refine q101 _ _ fun h101 => ?_
  have q100 := fun L h => quarter a12.view a12.view.junk L 1 0 0 h (k0_pay162 (F := Ideal) (ldH a5 2 (b5.unread x4))) (remF A n) (key 1 0 0 2 rfl rfl) p r x
  refine q100 _ _ fun h100 => ?_
  have q011 := fun L h => quarter a12.view a12.view.junk L 0 256 128 h (k0_pay162 (F := Ideal) (ldH a5 1 (b5.unread x4))) (remF A n) (key 0 256 128 1 rfl rfl) p r x
  refine q011 _ _ fun h011 => ?_
  have q010 := fun L h => quarter a12.view a12.view.junk L 0 256 0 h (k0_pay162 (F := Ideal) (ldH a5 1 (b5.unread x4))) (remF A n) (key 0 256 0 1 rfl rfl) p r x
  refine q010 _ _ fun h010 => ?_
  have q001 := fun L h => quarter a12.view a12.view.junk L 0 0 128 h (k0_pay162 (F := Ideal) (ldH a5 0 (b5.unread x4))) (remF A n) (key 0 0 128 0 rfl rfl) p r x
  refine q001 _ _ fun h001 => ?_
  have q000 := fun L h => quarter a12.view a12.view.junk L 0 0 0 h (k0_pay162 (F := Ideal) (ldH a5 0 (b5.unread x4))) (remF A n) (key 0 0 0 0 rfl rfl) p r x
  refine q000 _ _ fun h000 => ?_
  exact (hits p r x fun P H C => by
    match P, H, C with
    | 0, 0, 0 => exact h000
    | 0, 0, 1 => exact h001
    | 0, 1, 0 => exact h010
    | 0, 1, 1 => exact h011
    | 1, 0, 0 => exact h100
    | 1, 0, 1 => exact h101
    | 1, 1, 0 => exact h110
    | 1, 1, 1 => exact h111
    | 2, 0, 0 => exact h200
    | 2, 0, 1 => exact h201
    | 2, 1, 0 => exact h210
    | 2, 1, 1 => exact h211
    | 3, 0, 0 => exact h300
    | 3, 0, 1 => exact h301
    | 3, 1, 0 => exact h310
    | 3, 1, 1 => exact h311
    ).elim

theorem read_whole {κ : Kind} {ss : Space} {e : EltTy} {R C : ℕ} (V : View sig κ ss ⟨2, ![R, C]⟩ e) (f : V.ty.Contents (Elt Ideal)) (L : List (View.Piece (Elt Ideal) ⟨2, ![R, C]⟩ e))
    (h) (w : Vec Ideal ⟨2, ![R, C]⟩ e) (a : Fin R) (b : Fin C) :
    V.read (Elt Ideal) (V.writes (Elt Ideal) f (⟨Rect.unit (s := ⟨2, ![R, C]⟩) ![0, 0] ![R, C] h, w⟩ :: L)) (ix2 a b) = w (ix2 a b) := by
  rw [View.read_writes_cons_unit_of_mem V f h w _ _ (ix2 a b) rfl]
  intro y; match y with
  | ⟨0, _⟩ => show a.val = 0 + a.val; omega
  | ⟨1, _⟩ => show b.val = 0 + b.val; omega

theorem load_whole {κ : Kind} {ss : Space} {e : EltTy} {R C : ℕ} (V : View sig κ ss ⟨2, ![R, C]⟩ e) (f : V.ty.Contents (Elt Ideal)) (h) (a : Fin R) (b : Fin C) :
    V.readAt (Elt Ideal) (Rect.unit (s := ⟨2, ![R, C]⟩) ![0, 0] ![R, C] h).toLoadRect f (ix2 a b) = V.read (Elt Ideal) f (ix2 a b) := by
  rw [View.readAt_apply]
  congr 1
  funext y
  refine Fin.ext ?_
  match y with
  | ⟨0, _⟩ => show 0 + 1 * a.val = a.val; omega
  | ⟨1, _⟩ => show 0 + 1 * b.val = b.val; omega

theorem read_Z11 (a11 : Memref sig .tc .vmem S256x512 .f32) (a : Fin 256) (c : Fin 512) :
    a11.view.read (Elt Ideal) (a11.view.writes (Elt Ideal) a11.view.junk Z11) (ix2 a c) = ((0 : ℝ) : EReal) := by
  refine (read_whole a11.view _ [] _ (k0_pay155 (F := Ideal)) a c).trans ?_
  pointwise [k0_pay155]
  exact EReal.coe_zero.symm
theorem read_Z9 (a9 : Memref sig .tc .vmem S2048x512 .f32) (a : Fin 2048) (c : Fin 512) :
    a9.view.read (Elt Ideal) (a9.view.writes (Elt Ideal) a9.view.junk Z9) (ix2 a c) = ((0 : ℝ) : EReal) := by
  refine (read_whole a9.view _ [] _ (k0_pay153 (F := Ideal)) a c).trans ?_
  pointwise [k0_pay153]
  exact EReal.coe_zero.symm
theorem read_Z10 (a10 : Memref sig .tc .vmem S2048x512 .f32) (a : Fin 2048) (c : Fin 512) :
    a10.view.read (Elt Ideal) (a10.view.writes (Elt Ideal) a10.view.junk Z10) (ix2 a c) = ((0 : ℝ) : EReal) := by
  refine (read_whole a10.view _ [] _ (k0_pay154 (F := Ideal)) a c).trans ?_
  pointwise [k0_pay154]
  exact EReal.coe_zero.symm
theorem read_Z13 (a13 : Memref sig .tc .vmem S4x512x256 .f32) (p : Fin 4) (r : Fin 512) (x : Fin 256) :
    a13.view.read (Elt Ideal) (a13.view.writes (Elt Ideal) a13.view.junk Z13) (ix3 p r x) = ((0 : ℝ) : EReal) := by
  refine (View.read_writes_cons_unit_of_mem (Val := Elt Ideal) a13.view _ inb_S4x512x256_S4x512x256_0_0_0 (k0_pay156 (F := Ideal) : Vec Ideal S4x512x256 .f32) [] _ (ix3 p r x) rfl ?_).trans ?_
  · intro y; match y with
    | ⟨0, _⟩ => show p.val = 0 + p.val; omega
    | ⟨1, _⟩ => show r.val = 0 + r.val; omega
    | ⟨2, _⟩ => show x.val = 0 + x.val; omega
  pointwise [k0_pay156]
  exact EReal.coe_zero.symm
end prologue

section core
variable (c : Dev nD) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole) (a9 : Memref sig .tc .vmem S2048x512 .f32) (b9 : a9.IsWhole) (a10 : Memref sig .tc .vmem S2048x512 .f32) (b10 : a10.IsWhole) (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole)
variable (x0 : Vec Ideal S256x512 .bf16) (x1 : Vec Ideal S2048x512 .bf16) (x2 : Vec Ideal S2048x512 .bf16) (x3 : Vec Ideal S256x512 .f32) (x4 : Vec Ideal S8x256x128 .f32)
variable (g9 : BufTy.Contents (Elt Ideal) a9.view.ty) (g10 : BufTy.Contents (Elt Ideal) a10.view.ty)
variable {A : Arg} {n : ℕ}
include b1 b2 b3 b4 b5 in
/-- The arrays a grid point reads, as its prologue leaves them. -/
theorem fix_of (hB : Blk A n x0 x1 x2 x3 x4) : Fix A n (a2.view.read (Elt Ideal) (b2.unread x1)) (a3.view.read (Elt Ideal) (b3.unread x2)) (a14.view.read (Elt Ideal) (sq a14 b1 x0)) (a15.view.read (Elt Ideal) (sd a15 b4 x3)) where
  k s c := by rw [b2.read_unread, hB.k]
  v s c := by rw [b3.read_unread, hB.v]
  q := read_Q14 a1 b1 a14 hB.q
  d := read_D15 a4 b4 a15 hB.d

/-- The invariant when the loop begins. -/
theorem inv_zero (hB : Blk A n x0 x1 x2 x3 x4)
    (h9 : ∀ (s : Fin 2048) (c : Fin 512), (a9.view.read (Elt Ideal) g9) (ix2 s c) = ((dkn A (256 * n) s c : ℝ) : EReal))
    (h10 : ∀ (s : Fin 2048) (c : Fin 512), (a10.view.read (Elt Ideal) g10) (ix2 s c) = ((dvn A (256 * n) s c : ℝ) : EReal)) :
    Inv A n 0 (a9.view.read (Elt Ideal) g9) (a10.view.read (Elt Ideal) g10) (a11.view.read (Elt Ideal) (a11.view.writes (Elt Ideal) a11.view.junk Z11)) (a12.view.read (Elt Ideal) (a12.view.writes (Elt Ideal) a12.view.junk (P12 a5 b5 x4))) (a13.view.read (Elt Ideal) (a13.view.writes (Elt Ideal) a13.view.junk Z13)) where
  dk s c := by rw [h9, if_neg (by omega)]
  dv s c := by rw [h10, if_neg (by omega)]
  dq a c := by rw [read_Z11]; simp [dqn]
  pc p r x := read_P12 a5 b5 a12 hB.t p r x
  gc p r x := by rw [read_Z13]; simp [StickBreak.G]

/-- The invariant when the loop over earlier key blocks has ended. -/
theorem inv_loop (hn : n = (i 0).val) (hB : Blk A n x0 x1 x2 x3 x4)
    (h9 : ∀ (s : Fin 2048) (c : Fin 512), (a9.view.read (Elt Ideal) g9) (ix2 s c) = ((dkn A (256 * n) s c : ℝ) : EReal))
    (h10 : ∀ (s : Fin 2048) (c : Fin 512), (a10.view.read (Elt Ideal) g10) (ix2 s c) = ((dvn A (256 * n) s c : ℝ) : EReal)) :
    Inv A n n (a9.view.read (Elt Ideal) (a9.view.writes (Elt Ideal) g9 (lp1 c i a1 b1 a2 b2 a3 b3 a4 b4 a5 b5 a6 b6 a7 b7 a8 b8 a9 b9 a10 b10 a11 b11 a12 b12 a13 b13 a14 b14 a15 b15 x0 x1 x2 x3 x4 g9 g10).1)) (a10.view.read (Elt Ideal) (a10.view.writes (Elt Ideal) g10 (lp1 c i a1 b1 a2 b2 a3 b3 a4 b4 a5 b5 a6 b6 a7 b7 a8 b8 a9 b9 a10 b10 a11 b11 a12 b12 a13 b13 a14 b14 a15 b15 x0 x1 x2 x3 x4 g9 g10).2.1)) (a11.view.read (Elt Ideal) (a11.view.writes (Elt Ideal) (a11.view.writes (Elt Ideal) a11.view.junk Z11) (lp1 c i a1 b1 a2 b2 a3 b3 a4 b4 a5 b5 a6 b6 a7 b7 a8 b8 a9 b9 a10 b10 a11 b11 a12 b12 a13 b13 a14 b14 a15 b15 x0 x1 x2 x3 x4 g9 g10).2.2.1)) (a12.view.read (Elt Ideal) (a12.view.writes (Elt Ideal) (a12.view.writes (Elt Ideal) a12.view.junk (P12 a5 b5 x4)) (lp1 c i a1 b1 a2 b2 a3 b3 a4 b4 a5 b5 a6 b6 a7 b7 a8 b8 a9 b9 a10 b10 a11 b11 a12 b12 a13 b13 a14 b14 a15 b15 x0 x1 x2 x3 x4 g9 g10).2.2.2.1)) (a13.view.read (Elt Ideal) (a13.view.writes (Elt Ideal) (a13.view.writes (Elt Ideal) a13.view.junk Z13) (lp1 c i a1 b1 a2 b2 a3 b3 a4 b4 a5 b5 a6 b6 a7 b7 a8 b8 a9 b9 a10 b10 a11 b11 a12 b12 a13 b13 a14 b14 a15 b15 x0 x1 x2 x3 x4 g9 g10).2.2.2.2)) := by
  have h := loop_inv Variants.none c none i a1 b1 a2 b2 a3 b3 a4 b4 a5 b5 a6 b6 a7 b7 a8 b8 a9 b9 a10 b10 a11 b11 a12 b12 a13 b13 a14 b14 a15 b15 (BitVec.ofNat 32 (i 0).val) (b2.unread x1) (b3.unread x2) (sq a14 b1 x0) (sd a15 b4 x3) g9 g10 (a11.view.writes (Elt Ideal) a11.view.junk Z11) (a12.view.writes (Elt Ideal) a12.view.junk (P12 a5 b5 x4)) (a13.view.writes (Elt Ideal) a13.view.junk Z13) hn
    (by apply fix_of <;> assumption) (by apply inv_zero <;> assumption) (k0_t1_loop i).trips le_rfl
  rw [trips_t1, ← hn] at h
  unfold lp1
  rw [trips_t1, ← hn]
  exact h
end core

end Cert.KernelIdeal.Hand
end
end
-- ==== Proof.Cases.lean ====
module
public import proofs.«01_k».proof.Proof.Point
@[expose] public section
set_option maxRecDepth 16384
noncomputable section

/-! What each kind of grid point leaves: the first, the last, and those between. -/

namespace Cert.KernelIdeal.Hand
open Cert.KernelIdeal Cert.KernelIdeal.Gen Idealize.ShloMosaic Idealize.ShloMosaic.TcCoe
open StickBreak (sp Arg z msp pre dw qh dh dqn dkn dvn dkn_eq dvn_eq dqn_eq)

theorem dq_pay {A : Arg} {n : ℕ} (v : Vec Ideal S256x512 .f32) (hn : n < 8) (h : ∀ (a : Fin 256) (j : Fin 512), v (ix2 a j) = ((dqn A (256 * (n + 1)) (256 * n + a) j : ℝ) : EReal))
    (a : Fin 256) (j : Fin 512) : k0_pay274 (F := Ideal) v (ix2 a j) = ((dqn A 2048 (256 * n + a) j * 0.125 : ℝ) : EReal) := by
  pointwise [k0_pay274]
  have e : Ideal.ofBits .f32 0x3E000000#32 = ((0.125 : ℝ) : EReal) := eighth_f32
  rw [h, dqn_eq A (n' := 2048) _ (by omega) (by omega)]
  first | rw [e, ← EReal.coe_mul] | rw [← EReal.coe_mul]
theorem dk_pay (v : Vec Ideal S2048x512 .f32) (a : Fin 2048) (j : Fin 512) : k0_pay1 (F := Ideal) v (ix2 a j) = v (ix2 a j) := by
  pointwise [k0_pay1]
theorem dv_pay (v : Vec Ideal S2048x512 .f32) (a : Fin 2048) (j : Fin 512) : k0_pay2 (F := Ideal) v (ix2 a j) = v (ix2 a j) := by
  pointwise [k0_pay2]

/- A grid point, and the arrays its body reads and writes. -/
variable (c : Dev nD) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole) (a9 : Memref sig .tc .vmem S2048x512 .f32) (b9 : a9.IsWhole) (a10 : Memref sig .tc .vmem S2048x512 .f32) (b10 : a10.IsWhole) (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole)
section caseB
variable (hc0 : ¬cond0_0 i) (hc1 : ¬cond0_1 i)
    (x0 : Vec Ideal S256x512 .bf16) (x1 : Vec Ideal S2048x512 .bf16) (x2 : Vec Ideal S2048x512 .bf16) (x3 : Vec Ideal S256x512 .f32) (x4 : Vec Ideal S8x256x128 .f32) (xs0 : Vec Ideal S2048x512 .f32) (xs1 : Vec Ideal S2048x512 .f32)
theorem point_B_of (LL9 : List (View.Piece (Elt Ideal) S2048x512 .f32)) (e9 : LL9 = L9 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL10 : List (View.Piece (Elt Ideal) S2048x512 .f32)) (e10 : LL10 = L10 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL11 : List (View.Piece (Elt Ideal) S256x512 .f32)) (e11 : LL11 = L11 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL12 : List (View.Piece (Elt Ideal) S4x512x256 .f32)) (e12 : LL12 = L12 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL13 : List (View.Piece (Elt Ideal) S4x512x256 .f32)) (e13 : LL13 = L13 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) {A : Arg} {n : ℕ} (hn : n = (i 0).val) (hB : Blk A n x0 x1 x2 x3 x4)
    (h9 : ∀ (s : Fin 2048) (j : Fin 512), xs0 (ix2 s j) = ((dkn A (256 * n) s j : ℝ) : EReal))
    (h10 : ∀ (s : Fin 2048) (j : Fin 512), xs1 (ix2 s j) = ((dvn A (256 * n) s j : ℝ) : EReal)) :
    (∀ (s : Fin 2048) (j : Fin 512), (a9.view.read (Elt Ideal) (a9.view.writes (Elt Ideal) (b9.unread xs0) (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.1)) (ix2 s j) = ((dkn A (256 * (n + 1)) s j : ℝ) : EReal))
    ∧ (∀ (s : Fin 2048) (j : Fin 512), (a10.view.read (Elt Ideal) (a10.view.writes (Elt Ideal) (b10.unread xs1) (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.2.1)) (ix2 s j) = ((dvn A (256 * (n + 1)) s j : ℝ) : EReal))
    ∧ (∀ (V : View sig .tc .vmem S256x512 .bf16) (f : V.ty.Contents (Elt Ideal)) (a : Fin 256) (j : Fin 512), V.read (Elt Ideal) (V.writes (Elt Ideal) f (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).1) (ix2 a j) = ((dqn A 2048 (256 * n + a) j * 0.125 : ℝ) : EReal)) := by
  have hn8 : n < 8 := hn ▸ (i 0).isLt
  have hF : Fix A n (a2.view.read (Elt Ideal) (b2.unread x1)) (a3.view.read (Elt Ideal) (b3.unread x2)) (a14.view.read (Elt Ideal) (sq a14 b1 x0)) (a15.view.read (Elt Ideal) (sd a15 b4 x3)) := by apply fix_of <;> assumption
  have hI : Inv A n n (a9.view.read (Elt Ideal) (a9.view.writes (Elt Ideal) (b9.unread xs0) LL9)) (a10.view.read (Elt Ideal) (a10.view.writes (Elt Ideal) (b10.unread xs1) LL10)) (a11.view.read (Elt Ideal) (a11.view.writes (Elt Ideal) a11.view.junk LL11)) (a12.view.read (Elt Ideal) (a12.view.writes (Elt Ideal) a12.view.junk LL12)) (a13.view.read (Elt Ideal) (a13.view.writes (Elt Ideal) a13.view.junk LL13)) := by
    rw [e9, e10, e11, e12, e13, L9_eq, L10_eq, L11_eq, L12_eq, L13_eq]
    simp only [View.writes_append]
    exact inv_loop c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1) hn hB (fun s j => by rw [b9.read_unread]; exact h9 s j) (fun s j => by rw [b10.read_unread]; exact h10 s j)
  have hD := diag_inv (hn := hn) (hF := hF) (hI := hI)
  have K : ∀ (s : Fin 2048) (j : Fin 512), (a9.view.read (Elt Ideal) (a9.view.writes (Elt Ideal) (b9.unread xs0) (dkL4 i a2 a3 a9 a12 a13 a14 a15 (b2.unread x1) (b3.unread x2) (sq a14 b1 x0) (sd a15 b4 x3) (b9.unread xs0) a12.view.junk a13.view.junk LL9 LL12 LL13))) (ix2 s j) = ((dkn A (256 * (n + 1)) s j : ℝ) : EReal) := fun s j => by
    rw [hD.dk s j]
    split
    · rfl
    · rw [dkn_eq A (n' := 256 * (n + 1)) _ (by omega) (by omega)]
  have W : ∀ (s : Fin 2048) (j : Fin 512), (a10.view.read (Elt Ideal) (a10.view.writes (Elt Ideal) (b10.unread xs1) (dvL4 i a2 a10 a12 a14 a15 (b2.unread x1) (sq a14 b1 x0) (sd a15 b4 x3) (b10.unread xs1) a12.view.junk LL10 LL12))) (ix2 s j) = ((dvn A (256 * (n + 1)) s j : ℝ) : EReal) := fun s j => by
    rw [hD.dv s j]
    split
    · rfl
    · rw [dvn_eq A (n' := 256 * (n + 1)) _ (by omega) (by omega)]
  refine ⟨fun s j => ?_, fun s j => ?_, fun V f a j => ?_⟩
  · rw [runB_9 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL9 e9 LL12 e12 LL13 e13]
    exact K s j
  · rw [runB_10 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL10 e10 LL12 e12]
    exact W s j
  · rw [runB_5 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL11 e11 LL12 e12 LL13 e13]
    refine (read_whole V f [] _ _ a j).trans ?_
    refine dq_pay _ hn8 (fun a j => ?_) a j
    rw [load_whole]
    exact hD.dq a j
/-- A grid point between adds its part to the sums and writes its block of the query gradients. -/
theorem point_B {A : Arg} {n : ℕ} (hn : n = (i 0).val) (hB : Blk A n x0 x1 x2 x3 x4)
    (h9 : ∀ (s : Fin 2048) (j : Fin 512), xs0 (ix2 s j) = ((dkn A (256 * n) s j : ℝ) : EReal))
    (h10 : ∀ (s : Fin 2048) (j : Fin 512), xs1 (ix2 s j) = ((dvn A (256 * n) s j : ℝ) : EReal)) :
    (∀ (s : Fin 2048) (j : Fin 512), (a9.view.read (Elt Ideal) (a9.view.writes (Elt Ideal) (b9.unread xs0) (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.1)) (ix2 s j) = ((dkn A (256 * (n + 1)) s j : ℝ) : EReal))
    ∧ (∀ (s : Fin 2048) (j : Fin 512), (a10.view.read (Elt Ideal) (a10.view.writes (Elt Ideal) (b10.unread xs1) (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.2.1)) (ix2 s j) = ((dvn A (256 * (n + 1)) s j : ℝ) : EReal))
    ∧ (∀ (V : View sig .tc .vmem S256x512 .bf16) (f : V.ty.Contents (Elt Ideal)) (a : Fin 256) (j : Fin 512), V.read (Elt Ideal) (V.writes (Elt Ideal) f (kernelRun0_B (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).1) (ix2 a j) = ((dqn A 2048 (256 * n + a) j * 0.125 : ℝ) : EReal)) := by
  apply point_B_of (e9 := rfl) (e10 := rfl) (e11 := rfl) (e12 := rfl) (e13 := rfl) <;> assumption
end caseB

section caseC
variable (hc0 : ¬cond0_0 i) (hc1 : cond0_1 i)
    (x0 : Vec Ideal S256x512 .bf16) (x1 : Vec Ideal S2048x512 .bf16) (x2 : Vec Ideal S2048x512 .bf16) (x3 : Vec Ideal S256x512 .f32) (x4 : Vec Ideal S8x256x128 .f32) (xs0 : Vec Ideal S2048x512 .f32) (xs1 : Vec Ideal S2048x512 .f32)
theorem point_C_of (LL9 : List (View.Piece (Elt Ideal) S2048x512 .f32)) (e9 : LL9 = L9 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL10 : List (View.Piece (Elt Ideal) S2048x512 .f32)) (e10 : LL10 = L10 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL11 : List (View.Piece (Elt Ideal) S256x512 .f32)) (e11 : LL11 = L11 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL12 : List (View.Piece (Elt Ideal) S4x512x256 .f32)) (e12 : LL12 = L12 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) (LL13 : List (View.Piece (Elt Ideal) S4x512x256 .f32)) (e13 : LL13 = L13 c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1)) {A : Arg} {n : ℕ} (hn : n = (i 0).val) (hB : Blk A n x0 x1 x2 x3 x4)
    (h9 : ∀ (s : Fin 2048) (j : Fin 512), xs0 (ix2 s j) = ((dkn A (256 * n) s j : ℝ) : EReal))
    (h10 : ∀ (s : Fin 2048) (j : Fin 512), xs1 (ix2 s j) = ((dvn A (256 * n) s j : ℝ) : EReal)) :
    (∀ (s : Fin 2048) (j : Fin 512), (a9.view.read (Elt Ideal) (a9.view.writes (Elt Ideal) (b9.unread xs0) (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.1)) (ix2 s j) = ((dkn A (256 * (n + 1)) s j : ℝ) : EReal))
    ∧ (∀ (s : Fin 2048) (j : Fin 512), (a10.view.read (Elt Ideal) (a10.view.writes (Elt Ideal) (b10.unread xs1) (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.2.1)) (ix2 s j) = ((dvn A (256 * (n + 1)) s j : ℝ) : EReal))
    ∧ (∀ (V : View sig .tc .vmem S256x512 .bf16) (f : V.ty.Contents (Elt Ideal)) (a : Fin 256) (j : Fin 512), V.read (Elt Ideal) (V.writes (Elt Ideal) f (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).1) (ix2 a j) = ((dqn A 2048 (256 * n + a) j * 0.125 : ℝ) : EReal))
    ∧ (∀ (V : View sig .tc .vmem S2048x512 .bf16) (f : V.ty.Contents (Elt Ideal)) (s : Fin 2048) (j : Fin 512), V.read (Elt Ideal) (V.writes (Elt Ideal) f (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.1) (ix2 s j) = ((dkn A (256 * (n + 1)) s j : ℝ) : EReal))
    ∧ (∀ (V : View sig .tc .vmem S2048x512 .bf16) (f : V.ty.Contents (Elt Ideal)) (s : Fin 2048) (j : Fin 512), V.read (Elt Ideal) (V.writes (Elt Ideal) f (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.1) (ix2 s j) = ((dvn A (256 * (n + 1)) s j : ℝ) : EReal)) := by
  have hn8 : n < 8 := hn ▸ (i 0).isLt
  have hF : Fix A n (a2.view.read (Elt Ideal) (b2.unread x1)) (a3.view.read (Elt Ideal) (b3.unread x2)) (a14.view.read (Elt Ideal) (sq a14 b1 x0)) (a15.view.read (Elt Ideal) (sd a15 b4 x3)) := by apply fix_of <;> assumption
  have hI : Inv A n n (a9.view.read (Elt Ideal) (a9.view.writes (Elt Ideal) (b9.unread xs0) LL9)) (a10.view.read (Elt Ideal) (a10.view.writes (Elt Ideal) (b10.unread xs1) LL10)) (a11.view.read (Elt Ideal) (a11.view.writes (Elt Ideal) a11.view.junk LL11)) (a12.view.read (Elt Ideal) (a12.view.writes (Elt Ideal) a12.view.junk LL12)) (a13.view.read (Elt Ideal) (a13.view.writes (Elt Ideal) a13.view.junk LL13)) := by
    rw [e9, e10, e11, e12, e13, L9_eq, L10_eq, L11_eq, L12_eq, L13_eq]
    simp only [View.writes_append]
    exact inv_loop c i a1 b1 a2 b2 a3 b3 a4 b4 a5 b5 a6 b6 a7 b7 a8 b8 a9 b9 a10 b10 a11 b11 a12 b12 a13 b13 a14 b14 a15 b15 x0 x1 x2 x3 x4 (b9.unread xs0) (b10.unread xs1) hn hB (fun s j => by rw [b9.read_unread]; exact h9 s j) (fun s j => by rw [b10.read_unread]; exact h10 s j)
  have hD := diag_inv (hn := hn) (hF := hF) (hI := hI)
  have K : ∀ (s : Fin 2048) (j : Fin 512), (a9.view.read (Elt Ideal) (a9.view.writes (Elt Ideal) (b9.unread xs0) (dkL4 i a2 a3 a9 a12 a13 a14 a15 (b2.unread x1) (b3.unread x2) (sq a14 b1 x0) (sd a15 b4 x3) (b9.unread xs0) a12.view.junk a13.view.junk LL9 LL12 LL13))) (ix2 s j) = ((dkn A (256 * (n + 1)) s j : ℝ) : EReal) := fun s j => by
    rw [hD.dk s j]
    split
    · rfl
    · rw [dkn_eq A (n' := 256 * (n + 1)) _ (by omega) (by omega)]
  have W : ∀ (s : Fin 2048) (j : Fin 512), (a10.view.read (Elt Ideal) (a10.view.writes (Elt Ideal) (b10.unread xs1) (dvL4 i a2 a10 a12 a14 a15 (b2.unread x1) (sq a14 b1 x0) (sd a15 b4 x3) (b10.unread xs1) a12.view.junk LL10 LL12))) (ix2 s j) = ((dvn A (256 * (n + 1)) s j : ℝ) : EReal) := fun s j => by
    rw [hD.dv s j]
    split
    · rfl
    · rw [dvn_eq A (n' := 256 * (n + 1)) _ (by omega) (by omega)]
  refine ⟨fun s j => ?_, fun s j => ?_, fun V f a j => ?_, fun V f s j => ?_, fun V f s j => ?_⟩
  · rw [runC_9 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL9 e9 LL12 e12 LL13 e13]
    exact K s j
  · rw [runC_10 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL10 e10 LL12 e12]
    exact W s j
  · rw [runC_5 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL11 e11 LL12 e12 LL13 e13]
    refine (read_whole V f [] _ _ a j).trans ?_
    refine dq_pay _ hn8 (fun a j => ?_) a j
    rw [load_whole]
    exact hD.dq a j
  · rw [runC_6 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL9 e9 LL12 e12 LL13 e13]
    refine (read_whole V f [] _ _ s j).trans ?_
    rw [dk_pay, load_whole]
    exact K s j
  · rw [runC_7 c i a1 b1 a2 b2 a3 b3 a4 b4 a5 b5 a6 b6 a7 b7 a8 b8 a9 b9 a10 b10 a11 b11 a12 b12 a13 b13 a14 b14 a15 b15 hc0 hc1 x0 x1 x2 x3 x4 xs0 xs1 LL10 e10 LL12 e12]
    refine (read_whole V f [] _ _ s j).trans ?_
    rw [dv_pay, load_whole]
    exact W s j
/-- The last grid point does so too, and writes the key and value gradients. -/
theorem point_C {A : Arg} {n : ℕ} (hn : n = (i 0).val) (hB : Blk A n x0 x1 x2 x3 x4)
    (h9 : ∀ (s : Fin 2048) (j : Fin 512), xs0 (ix2 s j) = ((dkn A (256 * n) s j : ℝ) : EReal))
    (h10 : ∀ (s : Fin 2048) (j : Fin 512), xs1 (ix2 s j) = ((dvn A (256 * n) s j : ℝ) : EReal)) :
    (∀ (s : Fin 2048) (j : Fin 512), (a9.view.read (Elt Ideal) (a9.view.writes (Elt Ideal) (b9.unread xs0) (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.1)) (ix2 s j) = ((dkn A (256 * (n + 1)) s j : ℝ) : EReal))
    ∧ (∀ (s : Fin 2048) (j : Fin 512), (a10.view.read (Elt Ideal) (a10.view.writes (Elt Ideal) (b10.unread xs1) (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.2.2.1)) (ix2 s j) = ((dvn A (256 * (n + 1)) s j : ℝ) : EReal))
    ∧ (∀ (V : View sig .tc .vmem S256x512 .bf16) (f : V.ty.Contents (Elt Ideal)) (a : Fin 256) (j : Fin 512), V.read (Elt Ideal) (V.writes (Elt Ideal) f (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).1) (ix2 a j) = ((dqn A 2048 (256 * n + a) j * 0.125 : ℝ) : EReal))
    ∧ (∀ (V : View sig .tc .vmem S2048x512 .bf16) (f : V.ty.Contents (Elt Ideal)) (s : Fin 2048) (j : Fin 512), V.read (Elt Ideal) (V.writes (Elt Ideal) f (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.1) (ix2 s j) = ((dkn A (256 * (n + 1)) s j : ℝ) : EReal))
    ∧ (∀ (V : View sig .tc .vmem S2048x512 .bf16) (f : V.ty.Contents (Elt Ideal)) (s : Fin 2048) (j : Fin 512), V.read (Elt Ideal) (V.writes (Elt Ideal) f (kernelRun0_C (F := Ideal) c i a1 b1 a2 b2 a3 b3 a4 b4 a5 b5 a6 b6 a7 b7 a8 b8 a9 b9 a10 b10 a11 b11 a12 b12 a13 b13 a14 b14 a15 b15 hc0 hc1 x0 x1 x2 x3 x4 xs0 xs1).2.2.1) (ix2 s j) = ((dvn A (256 * (n + 1)) s j : ℝ) : EReal)) := by
  apply point_C_of (e9 := rfl) (e10 := rfl) (e11 := rfl) (e12 := rfl) (e13 := rfl) <;> assumption
end caseC

section caseA
variable (hc0 : cond0_0 i) (hc1 : ¬cond0_1 i)
    (x0 : Vec Ideal S256x512 .bf16) (x1 : Vec Ideal S2048x512 .bf16) (x2 : Vec Ideal S2048x512 .bf16) (x3 : Vec Ideal S256x512 .f32) (x4 : Vec Ideal S8x256x128 .f32)
theorem point_A_of (LL9 : List (View.Piece (Elt Ideal) S2048x512 .f32)) (e9 : LL9 = M9 c i a1 b1 a2 b2 a3 b3 a4 b4 a5 b5 a6 b6 a7 b7 a8 b8 a9 b9 a10 b10 a11 b11 a12 b12 a13 b13 a14 b14 a15 b15 x0 x1 x2 x3 x4) (LL10 : List (View.Piece (Elt Ideal) S2048x512 .f32)) (e10 : LL10 = M10 c i a1 b1 a2 b2 a3 b3 a4 b4 a5 b5 a6 b6 a7 b7 a8 b8 a9 b9 a10 b10 a11 b11 a12 b12 a13 b13 a14 b14 a15 b15 x0 x1 x2 x3 x4) (LL11 : List (View.Piece (Elt Ideal) S256x512 .f32)) (e11 : LL11 = M11 c i a1 b1 a2 b2 a3 b3 a4 b4 a5 b5 a6 b6 a7 b7 a8 b8 a9 b9 a10 b10 a11 b11 a12 b12 a13 b13 a14 b14 a15 b15 x0 x1 x2 x3 x4) (LL12 : List (View.Piece (Elt Ideal) S4x512x256 .f32)) (e12 : LL12 = M12 c i a1 b1 a2 b2 a3 b3 a4 b4 a5 b5 a6 b6 a7 b7 a8 b8 a9 b9 a10 b10 a11 b11 a12 b12 a13 b13 a14 b14 a15 b15 x0 x1 x2 x3 x4) (LL13 : List (View.Piece (Elt Ideal) S4x512x256 .f32)) (e13 : LL13 = M13 c i a1 b1 a2 b2 a3 b3 a4 b4 a5 b5 a6 b6 a7 b7 a8 b8 a9 b9 a10 b10 a11 b11 a12 b12 a13 b13 a14 b14 a15 b15 x0 x1 x2 x3 x4) {A : Arg} {n : ℕ} (hn : n = (i 0).val) (hB : Blk A n x0 x1 x2 x3 x4) (h0 : n = 0) :
    (∀ (s : Fin 2048) (j : Fin 512), (a9.view.read (Elt Ideal) (a9.view.writes (Elt Ideal) a9.view.junk (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).2.2.2.1)) (ix2 s j) = ((dkn A (256 * (n + 1)) s j : ℝ) : EReal))
    ∧ (∀ (s : Fin 2048) (j : Fin 512), (a10.view.read (Elt Ideal) (a10.view.writes (Elt Ideal) a10.view.junk (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).2.2.2.2.1)) (ix2 s j) = ((dvn A (256 * (n + 1)) s j : ℝ) : EReal))
    ∧ (∀ (V : View sig .tc .vmem S256x512 .bf16) (f : V.ty.Contents (Elt Ideal)) (a : Fin 256) (j : Fin 512), V.read (Elt Ideal) (V.writes (Elt Ideal) f (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).1) (ix2 a j) = ((dqn A 2048 (256 * n + a) j * 0.125 : ℝ) : EReal)) := by
  have hn8 : n < 8 := hn ▸ (i 0).isLt
  have hF : Fix A n (a2.view.read (Elt Ideal) (b2.unread x1)) (a3.view.read (Elt Ideal) (b3.unread x2)) (a14.view.read (Elt Ideal) (sq a14 b1 x0)) (a15.view.read (Elt Ideal) (sd a15 b4 x3)) := by apply fix_of <;> assumption
  have hI : Inv A n n (a9.view.read (Elt Ideal) (a9.view.writes (Elt Ideal) a9.view.junk LL9)) (a10.view.read (Elt Ideal) (a10.view.writes (Elt Ideal) a10.view.junk LL10)) (a11.view.read (Elt Ideal) (a11.view.writes (Elt Ideal) a11.view.junk LL11)) (a12.view.read (Elt Ideal) (a12.view.writes (Elt Ideal) a12.view.junk LL12)) (a13.view.read (Elt Ideal) (a13.view.writes (Elt Ideal) a13.view.junk LL13)) := by
    rw [e9, e10, e11, e12, e13, M9_eq, M10_eq, M11_eq, M12_eq, M13_eq]
    simp only [View.writes_append]
    exact inv_loop c i a1 b1 a2 b2 a3 b3 a4 b4 a5 b5 a6 b6 a7 b7 a8 b8 a9 b9 a10 b10 a11 b11 a12 b12 a13 b13 a14 b14 a15 b15 x0 x1 x2 x3 x4 (a9.view.writes (Elt Ideal) a9.view.junk Z9) (a10.view.writes (Elt Ideal) a10.view.junk Z10) hn hB (fun s j => by subst h0; rw [read_Z9]; simp [dkn]) (fun s j => by subst h0; rw [read_Z10]; simp [dvn])
  have hD := diag_inv (hn := hn) (hF := hF) (hI := hI)
  have K : ∀ (s : Fin 2048) (j : Fin 512), (a9.view.read (Elt Ideal) (a9.view.writes (Elt Ideal) a9.view.junk (dkL4 i a2 a3 a9 a12 a13 a14 a15 (b2.unread x1) (b3.unread x2) (sq a14 b1 x0) (sd a15 b4 x3) a9.view.junk a12.view.junk a13.view.junk LL9 LL12 LL13))) (ix2 s j) = ((dkn A (256 * (n + 1)) s j : ℝ) : EReal) := fun s j => by
    rw [hD.dk s j]
    split
    · rfl
    · rw [dkn_eq A (n' := 256 * (n + 1)) _ (by omega) (by omega)]
  have W : ∀ (s : Fin 2048) (j : Fin 512), (a10.view.read (Elt Ideal) (a10.view.writes (Elt Ideal) a10.view.junk (dvL4 i a2 a10 a12 a14 a15 (b2.unread x1) (sq a14 b1 x0) (sd a15 b4 x3) a10.view.junk a12.view.junk LL10 LL12))) (ix2 s j) = ((dvn A (256 * (n + 1)) s j : ℝ) : EReal) := fun s j => by
    rw [hD.dv s j]
    split
    · rfl
    · rw [dvn_eq A (n' := 256 * (n + 1)) _ (by omega) (by omega)]
  refine ⟨fun s j => ?_, fun s j => ?_, fun V f a j => ?_⟩
  · rw [runA_9 c i a1 b1 a2 b2 a3 b3 a4 b4 a5 b5 a6 b6 a7 b7 a8 b8 a9 b9 a10 b10 a11 b11 a12 b12 a13 b13 a14 b14 a15 b15 hc0 hc1 x0 x1 x2 x3 x4 LL9 e9 LL12 e12 LL13 e13]
    exact K s j
  · rw [runA_10 c i a1 b1 a2 b2 a3 b3 a4 b4 a5 b5 a6 b6 a7 b7 a8 b8 a9 b9 a10 b10 a11 b11 a12 b12 a13 b13 a14 b14 a15 b15 hc0 hc1 x0 x1 x2 x3 x4 LL10 e10 LL12 e12]
    exact W s j
  · rw [runA_5 c i a1 b1 a2 b2 a3 b3 a4 b4 a5 b5 a6 b6 a7 b7 a8 b8 a9 b9 a10 b10 a11 b11 a12 b12 a13 b13 a14 b14 a15 b15 hc0 hc1 x0 x1 x2 x3 x4 LL11 e11 LL12 e12 LL13 e13]
    refine (read_whole V f [] _ _ a j).trans ?_
    refine dq_pay _ hn8 (fun a j => ?_) a j
    rw [load_whole]
    exact hD.dq a j
/-- The first grid point leaves its part of the sums. -/
theorem point_A {A : Arg} {n : ℕ} (hn : n = (i 0).val) (hB : Blk A n x0 x1 x2 x3 x4) (h0 : n = 0) :
    (∀ (s : Fin 2048) (j : Fin 512), (a9.view.read (Elt Ideal) (a9.view.writes (Elt Ideal) a9.view.junk (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).2.2.2.1)) (ix2 s j) = ((dkn A (256 * (n + 1)) s j : ℝ) : EReal))
    ∧ (∀ (s : Fin 2048) (j : Fin 512), (a10.view.read (Elt Ideal) (a10.view.writes (Elt Ideal) a10.view.junk (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).2.2.2.2.1)) (ix2 s j) = ((dvn A (256 * (n + 1)) s j : ℝ) : EReal))
    ∧ (∀ (V : View sig .tc .vmem S256x512 .bf16) (f : V.ty.Contents (Elt Ideal)) (a : Fin 256) (j : Fin 512), V.read (Elt Ideal) (V.writes (Elt Ideal) f (kernelRun0_A (F := Ideal) c i a1 b1 a2 b2 a3 b3 a4 b4 a5 b5 a6 b6 a7 b7 a8 b8 a9 b9 a10 b10 a11 b11 a12 b12 a13 b13 a14 b14 a15 b15 hc0 hc1 x0 x1 x2 x3 x4).1) (ix2 a j) = ((dqn A 2048 (256 * n + a) j * 0.125 : ℝ) : EReal)) := by
  apply point_A_of (e9 := rfl) (e10 := rfl) (e11 := rfl) (e12 := rfl) (e13 := rfl) <;> assumption
end caseA

end Cert.KernelIdeal.Hand
end
end
-- ==== Proof.At.lean ====
module
public import Idealize.ShloMosaic.Lib.Pointwise
@[expose] public section

namespace Gather
open Idealize.ShloMosaic

/-- Two places of a matrix with the same row and the same column. -/
theorem at2 {R C : ℕ} {x y : (⟨2, ![R, C]⟩ : Shape).Idx} (h0 : (x 0).val = (y 0).val) (h1 : (x 1).val = (y 1).val) : x = y := by
  funext z; refine Fin.ext ?_
  match z with
  | ⟨0, _⟩ => exact h0
  | ⟨1, _⟩ => exact h1

/-- A place of the block `(p0, p1)` of a matrix, as a place of the matrix. -/
theorem at_block {R C : ℕ} {x y : (⟨2, ![R, C]⟩ : Shape).Idx} {i0 i1 p0 p1 : ℕ} (A a J j : ℕ) (e : i0 = p0 ∧ i1 = p1)
    (hx : (x 0).val = i0 * A + 1 * a ∧ (x 1).val = i1 * J + 1 * j) (h0 : (y 0).val = p0 * A + a) (h1 : (y 1).val = p1 * J + j) : x = y :=
  at2 (hx.1.trans (by rw [e.1, h0, Nat.one_mul])) (hx.2.trans (by rw [e.2, h1, Nat.one_mul]))

/-- `r` reads the block `n` of `A` whole rows, of which an array of `R` rows and `C` columns is made. -/
def Rows (R C A J n : ℕ) {E : Type} (r : ((⟨2, ![R, C]⟩ : Shape).Idx → E) → (⟨2, ![A, J]⟩ : Shape).Idx → E) : Prop :=
  ∀ W (a : Fin A) (j : Fin J) (x : (⟨2, ![R, C]⟩ : Shape).Idx), (x 0).val = A * n + a.val → (x 1).val = j.val → r W (ix2 a j) = W x
/-- `r` reads the block `n` of `J` whole columns. -/
def Cols (R C J n : ℕ) {E : Type} (r : ((⟨2, ![R, C]⟩ : Shape).Idx → E) → (⟨2, ![R, J]⟩ : Shape).Idx → E) : Prop :=
  ∀ W (a : Fin R) (j : Fin J) (x : (⟨2, ![R, C]⟩ : Shape).Idx), (x 0).val = a.val → (x 1).val = J * n + j.val → r W (ix2 a j) = W x
/-- `r` reads the array whole. -/
def Whole (R C : ℕ) {E : Type} (r : ((⟨2, ![R, C]⟩ : Shape).Idx → E) → (⟨2, ![R, C]⟩ : Shape).Idx → E) : Prop :=
  ∀ W (a : Fin R) (j : Fin C) (x : (⟨2, ![R, C]⟩ : Shape).Idx), (x 0).val = a.val → (x 1).val = j.val → r W (ix2 a j) = W x

section blocks
variable {N R C A J : ℕ} {E : Type} {ix : Fin N → Fin 2 → ℕ}
theorem rows {r : Fin N → ((⟨2, ![R, C]⟩ : Shape).Idx → E) → (⟨2, ![A, J]⟩ : Shape).Idx → E} (h : ∀ t, ix t 0 = t.val ∧ ix t 1 = 0 := by decide +kernel)
    (hr : ∀ t W (a : Fin A) (j : Fin J), ∃ y : (⟨2, ![R, C]⟩ : Shape).Idx, r t W (ix2 a j) = W y ∧ (y 0).val = ix t 0 * A + 1 * a.val ∧ (y 1).val = ix t 1 * J + 1 * j.val := by exact fun _ _ _ _ => ⟨_, rfl, rfl, rfl⟩)
    (t : Fin N) : Rows R C A J t.val (r t) := fun W a j x h0 h1 => by
  obtain ⟨y, e, hy⟩ := hr t W a j
  exact e.trans (congrArg W (at_block A a J j (h t) hy (by rw [h0, Nat.mul_comm]) (by rw [h1, Nat.zero_mul, Nat.zero_add])))
theorem cols {r : Fin N → ((⟨2, ![R, C]⟩ : Shape).Idx → E) → (⟨2, ![R, J]⟩ : Shape).Idx → E} (h : ∀ t, ix t 0 = 0 ∧ ix t 1 = t.val := by decide +kernel)
    (hr : ∀ t W (a : Fin R) (j : Fin J), ∃ y : (⟨2, ![R, C]⟩ : Shape).Idx, r t W (ix2 a j) = W y ∧ (y 0).val = ix t 0 * R + 1 * a.val ∧ (y 1).val = ix t 1 * J + 1 * j.val := by exact fun _ _ _ _ => ⟨_, rfl, rfl, rfl⟩)
    (t : Fin N) : Cols R C J t.val (r t) := fun W a j x h0 h1 => by
  obtain ⟨y, e, hy⟩ := hr t W a j
  exact e.trans (congrArg W (at_block R a J j (h t) hy (by rw [h0, Nat.zero_mul, Nat.zero_add]) (by rw [h1, Nat.mul_comm])))
theorem whole {r : Fin N → ((⟨2, ![R, C]⟩ : Shape).Idx → E) → (⟨2, ![R, C]⟩ : Shape).Idx → E} (h : ∀ t, ix t 0 = 0 ∧ ix t 1 = 0 := by decide +kernel)
    (hr : ∀ t W (a : Fin R) (j : Fin C), ∃ y : (⟨2, ![R, C]⟩ : Shape).Idx, r t W (ix2 a j) = W y ∧ (y 0).val = ix t 0 * R + 1 * a.val ∧ (y 1).val = ix t 1 * C + 1 * j.val := by exact fun _ _ _ _ => ⟨_, rfl, rfl, rfl⟩)
    (t : Fin N) : Whole R C (r t) := fun W a j x h0 h1 => by
  obtain ⟨y, e, hy⟩ := hr t W a j
  exact e.trans (congrArg W (at_block R a C j (h t) hy (by rw [h0, Nat.zero_mul, Nat.zero_add]) (by rw [h1, Nat.zero_mul, Nat.zero_add])))
end blocks

end Gather
-- ==== Proof.Grid.lean ====
module
public import proofs.«01_k».proof.Proof.Cases
public import proofs.«01_k».proof.Proof.At
public import proofs.«01_k».proof.Proof.Gen.KernelIdeal.Value
@[expose] public section
set_option maxRecDepth 16384
noncomputable section

/-! The grid: every point's blocks, the sums after every point, and the three arrays at the end. -/

namespace Cert.KernelIdeal.Hand
open Cert.KernelIdeal Cert.KernelIdeal.Gen Cert.KernelIdeal.Value Idealize.ShloMosaic Idealize.ShloMosaic.TcCoe
open StickBreak (Arg pre dqn dkn dvn)

variable (m : (ℓ : Loc nD τ sig) → Buf (Elt Ideal) ℓ) (c : Dev nD)

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- What the call's arrays hold, over the reals. -/
structure Arrs (A : Arg) : Prop where
  q : ∀ (t : Fin 2048) (j : Fin 1536), j.val < 512 → V m c main_v21 (ix2 t j) = ((A.q t j : ℝ) : EReal)
  k : ∀ (t : Fin 2048) (j : Fin 1536), 512 ≤ j.val → j.val < 1024 → V m c main_v21 (ix2 t j) = ((A.k t (j.val - 512) : ℝ) : EReal)
  v : ∀ (t : Fin 2048) (j : Fin 1536), 1024 ≤ j.val → V m c main_v21 (ix2 t j) = ((A.v t (j.val - 1024) : ℝ) : EReal)
  d : ∀ (t : Fin 2048) (j : Fin 1024), j.val < 512 → V m c main_arg1 (ix2 t j) = ((A.d t j : ℝ) : EReal)
  t : ∀ (h : Fin 8) (t : Fin 2048) (x : Fin 128), V m c main_v20 (ix3 h t x) = ((pre A h t t : ℝ) : EReal)

theorem idx4 : ∀ t : Fin cfg0.N, win0_4.index t (0 : Fin 3) = 0 ∧ win0_4.index t (1 : Fin 3) = t.val ∧ win0_4.index t (2 : Fin 3) = 0 := (by decide +kernel : ∀ t : Fin grid0.N, _)

variable {m c}
theorem read_blk0 : ∀ t : Fin cfg0.N, Gather.Rows 2048 1536 256 512 t.val (((cfg0.win 0).blk t).view.read (Elt Ideal)) :=
  Gather.rows (ix := win0_0.index)
theorem read_blk1 (t : Fin cfg0.N) (W : S2048x1536.Idx → Elt Ideal .bf16) (a : Fin 2048) (j : Fin 512) (x : S2048x1536.Idx)
    (h0 : (x 0).val = a.val) (h1 : (x 1).val = 512 + j.val) : ((cfg0.win 1).blk t).view.read (Elt Ideal) W (ix2 a j) = W x :=
  congrArg W (Gather.at_block 2048 a 512 j ((by decide +kernel : ∀ t : Fin grid0.N, win0_1.index t (0 : Fin 2) = 0 ∧ win0_1.index t (1 : Fin 2) = 1) t) ⟨rfl, rfl⟩ (by omega) (by omega))
theorem read_blk2 (t : Fin cfg0.N) (W : S2048x1536.Idx → Elt Ideal .bf16) (a : Fin 2048) (j : Fin 512) (x : S2048x1536.Idx)
    (h0 : (x 0).val = a.val) (h1 : (x 1).val = 1024 + j.val) : ((cfg0.win 2).blk t).view.read (Elt Ideal) W (ix2 a j) = W x :=
  congrArg W (Gather.at_block 2048 a 512 j ((by decide +kernel : ∀ t : Fin grid0.N, win0_2.index t (0 : Fin 2) = 0 ∧ win0_2.index t (1 : Fin 2) = 2) t) ⟨rfl, rfl⟩ (by omega) (by omega))
theorem read_blk3 : ∀ t : Fin cfg0.N, Gather.Rows 2048 1024 256 512 t.val (((cfg0.win 3).blk t).view.read (Elt Ideal)) :=
  Gather.rows (ix := win0_3.index)
theorem read_blk4 (t : Fin cfg0.N) (W : S8x2048x128.Idx → Elt Ideal .f32) (h : Fin 8) (a : Fin 256) (u : Fin 128) (x : S8x2048x128.Idx)
    (h0 : (x 0).val = h.val) (h1 : (x 1).val = 256 * t.val + a.val) (h2 : (x 2).val = u.val) : ((cfg0.win 4).blk t).view.read (Elt Ideal) W (ix3 h a u) = W x := by
  obtain ⟨e0, e1, e2⟩ := idx4 t
  show W _ = W x
  congr 1
  funext y; refine Fin.ext ?_
  match y with
  | ⟨0, _⟩ => show win0_4.index t (0 : Fin 3) * 8 + 1 * h.val = (x 0).val; rw [e0, h0]; omega
  | ⟨1, _⟩ => show win0_4.index t (1 : Fin 3) * 256 + 1 * a.val = (x 1).val; rw [e1, h1]; omega
  | ⟨2, _⟩ => show win0_4.index t (2 : Fin 3) * 128 + 1 * u.val = (x 2).val; rw [e2, h2]; omega

/-- Every grid point's blocks are its parts of the arrays. -/
theorem blk_of {A : Arg} (hA : Arrs m c A) (t : Fin cfg0.N) : Blk A t.val (iblk m c 0 t) (iblk m c 1 t) (iblk m c 2 t) (iblk m c 3 t) (iblk m c 4 t) := by
  have ht : t.val < 8 := Nat.lt_of_lt_of_eq t.isLt N_0
  constructor
  · intro a j
    exact (read_blk0 t _ a j (ix2 ⟨256 * t.val + a.val, by omega⟩ ⟨j.val, by omega⟩) rfl rfl).trans (hA.q ⟨256 * t.val + a.val, by omega⟩ ⟨j.val, by omega⟩ j.isLt)
  · intro a j
    refine (read_blk1 t _ a j (ix2 a ⟨512 + j.val, by omega⟩) rfl rfl).trans ((hA.k a ⟨512 + j.val, by omega⟩ (Nat.le_add_right _ _) (by show 512 + j.val < 1024; omega)).trans ?_)
    exact congrArg (fun n => ((A.k a n : ℝ) : EReal)) (show 512 + j.val - 512 = j.val by omega)
  · intro a j
    refine (read_blk2 t _ a j (ix2 a ⟨1024 + j.val, by omega⟩) rfl rfl).trans ((hA.v a ⟨1024 + j.val, by omega⟩ (Nat.le_add_right _ _)).trans ?_)
    exact congrArg (fun n => ((A.v a n : ℝ) : EReal)) (show 1024 + j.val - 1024 = j.val by omega)
  · intro a j
    exact (read_blk3 t _ a j (ix2 ⟨256 * t.val + a.val, by omega⟩ ⟨j.val, by omega⟩) rfl rfl).trans (hA.d ⟨256 * t.val + a.val, by omega⟩ ⟨j.val, by omega⟩ j.isLt)
  · intro h a u
    exact (read_blk4 t _ h a u (ix3 h ⟨256 * t.val + a.val, by omega⟩ u) rfl rfl rfl).trans (hA.t h ⟨256 * t.val + a.val, by omega⟩ u)

/-- What the outputs' blocks and the two sums hold after grid point `n`. -/
structure After (A : Arg) (n : ℕ) (st : Vec Ideal S256x512 .bf16 × Vec Ideal S2048x512 .bf16 × Vec Ideal S2048x512 .bf16 × Vec Ideal S2048x512 .f32 × Vec Ideal S2048x512 .f32) : Prop where
  sk : ∀ (s : Fin 2048) (j : Fin 512), st.2.2.2.1 (ix2 s j) = ((dkn A (256 * (n + 1)) s j : ℝ) : EReal)
  sv : ∀ (s : Fin 2048) (j : Fin 512), st.2.2.2.2 (ix2 s j) = ((dvn A (256 * (n + 1)) s j : ℝ) : EReal)
  dq : ∀ (a : Fin 256) (j : Fin 512), st.1 (ix2 a j) = ((dqn A 2048 (256 * n + a) j * 0.125 : ℝ) : EReal)
  dk : n = 7 → ∀ (s : Fin 2048) (j : Fin 512), st.2.1 (ix2 s j) = ((dkn A 2048 s j : ℝ) : EReal)
  dv : n = 7 → ∀ (s : Fin 2048) (j : Fin 512), st.2.2.1 (ix2 s j) = ((dvn A 2048 s j : ℝ) : EReal)

section caseA
variable  (c : Dev nD) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole)     (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole) (hc0 : cond0_0 i) (hc1 : ¬cond0_1 i)
    (x0 : Vec Ideal S256x512 .bf16) (x1 : Vec Ideal S2048x512 .bf16) (x2 : Vec Ideal S2048x512 .bf16) (x3 : Vec Ideal S256x512 .f32) (x4 : Vec Ideal S8x256x128 .f32)
theorem tuple_A {A : Arg} {n : ℕ} (hn : n = (i 0).val) (h7 : n < 7) (hB : Blk A n x0 x1 x2 x3 x4) (h0 : n = 0) :
    After A n (out0_A_5 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4, out0_A_6 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4, out0_A_7 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4, sout0_A_0 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4, sout0_A_1 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4) := by
  have P := point_A c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 hn hB h0
  have Q : ∀ (a : Fin 256) (j : Fin 512), out0_A_5 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 (ix2 a j) = ((dqn A 2048 (256 * n + a) j * 0.125 : ℝ) : EReal) := by
    intro a j
    unfold out0_A_5
    exact P.2.2 VO0_5 VO0_5.junk a j
  exact
    { sk := fun s j => by
        show sout0_A_0 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 (ix2 s j) = _
        unfold sout0_A_0
        exact P.1 s j
      sv := fun s j => by
        show sout0_A_1 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 (ix2 s j) = _
        unfold sout0_A_1
        exact P.2.1 s j
      dq := by
        dsimp only
        exact Q
      dk := fun h => absurd h (by omega)
      dv := fun h => absurd h (by omega) }
end caseA

theorem after_A {A : Arg} (hA : Arrs m c A) (t : Fin cfg0.N) (acc : Vec Ideal S256x512 .bf16 × Vec Ideal S2048x512 .bf16 × Vec Ideal S2048x512 .bf16 × Vec Ideal S2048x512 .f32 × Vec Ideal S2048x512 .f32) (h0 : t.val % 8 = 0) (h1 : ¬t.val % 8 = 7) :
    After A t.val (stAt0 m c t.val t.isLt acc) := by
  have ht : t.val < 8 := Nat.lt_of_lt_of_eq t.isLt N_0
  rw [stAt0_A m c t acc h0 h1]
  apply tuple_A (hn := (coord t).symm) (hB := blk_of hA t) <;> first | assumption | omega

section caseB
variable  (c : Dev nD) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole)     (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole) (hc0 : ¬cond0_0 i) (hc1 : ¬cond0_1 i)
    (x0 : Vec Ideal S256x512 .bf16) (x1 : Vec Ideal S2048x512 .bf16) (x2 : Vec Ideal S2048x512 .bf16) (x3 : Vec Ideal S256x512 .f32) (x4 : Vec Ideal S8x256x128 .f32) (xs0 : Vec Ideal S2048x512 .f32) (xs1 : Vec Ideal S2048x512 .f32)
theorem tuple_B {A : Arg} {n : ℕ} (hn : n = (i 0).val) (h7 : n < 7) (hB : Blk A n x0 x1 x2 x3 x4)
    (h9 : ∀ (s : Fin 2048) (j : Fin 512), xs0 (ix2 s j) = ((dkn A (256 * n) s j : ℝ) : EReal))
    (h10 : ∀ (s : Fin 2048) (j : Fin 512), xs1 (ix2 s j) = ((dvn A (256 * n) s j : ℝ) : EReal)) :
    After A n (out0_B_5 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, out0_B_6 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, out0_B_7 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, sout0_B_0 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, sout0_B_1 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1) := by
  have P := point_B c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 hn hB h9 h10
  have Q : ∀ (a : Fin 256) (j : Fin 512), out0_B_5 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 (ix2 a j) = ((dqn A 2048 (256 * n + a) j * 0.125 : ℝ) : EReal) := by
    intro a j
    unfold out0_B_5
    exact P.2.2 VO0_5 VO0_5.junk a j
  exact
    { sk := fun s j => by
        show sout0_B_0 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 (ix2 s j) = _
        unfold sout0_B_0
        exact P.1 s j
      sv := fun s j => by
        show sout0_B_1 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 (ix2 s j) = _
        unfold sout0_B_1
        exact P.2.1 s j
      dq := by
        dsimp only
        exact Q
      dk := fun h => absurd h (by omega)
      dv := fun h => absurd h (by omega) }
end caseB

theorem after_B {A : Arg} (hA : Arrs m c A) (t : Fin cfg0.N) (acc : Vec Ideal S256x512 .bf16 × Vec Ideal S2048x512 .bf16 × Vec Ideal S2048x512 .bf16 × Vec Ideal S2048x512 .f32 × Vec Ideal S2048x512 .f32) (h0 : ¬t.val % 8 = 0) (h1 : ¬t.val % 8 = 7)
    (h9 : ∀ (s : Fin 2048) (j : Fin 512), acc.2.2.2.1 (ix2 s j) = ((dkn A (256 * t.val) s j : ℝ) : EReal))
    (h10 : ∀ (s : Fin 2048) (j : Fin 512), acc.2.2.2.2 (ix2 s j) = ((dvn A (256 * t.val) s j : ℝ) : EReal)) :
    After A t.val (stAt0 m c t.val t.isLt acc) := by
  have ht : t.val < 8 := Nat.lt_of_lt_of_eq t.isLt N_0
  rw [stAt0_B m c t acc h0 h1]
  apply tuple_B (hn := (coord t).symm) (hB := blk_of hA t) <;> first | assumption | omega

section caseC
variable  (c : Dev nD) (i : grid0.Coords) (a1 : Memref sig .tc .vmem S256x512 .bf16) (b1 : a1.IsWhole) (a2 : Memref sig .tc .vmem S2048x512 .bf16) (b2 : a2.IsWhole) (a3 : Memref sig .tc .vmem S2048x512 .bf16) (b3 : a3.IsWhole) (a4 : Memref sig .tc .vmem S256x512 .f32) (b4 : a4.IsWhole) (a5 : Memref sig .tc .vmem S8x256x128 .f32) (b5 : a5.IsWhole) (a6 : Memref sig .tc .vmem S256x512 .bf16) (b6 : a6.IsWhole) (a7 : Memref sig .tc .vmem S2048x512 .bf16) (b7 : a7.IsWhole) (a8 : Memref sig .tc .vmem S2048x512 .bf16) (b8 : a8.IsWhole)     (a11 : Memref sig .tc .vmem S256x512 .f32) (b11 : a11.IsWhole) (a12 : Memref sig .tc .vmem S4x512x256 .f32) (b12 : a12.IsWhole) (a13 : Memref sig .tc .vmem S4x512x256 .f32) (b13 : a13.IsWhole) (a14 : Memref sig .tc .vmem S4x512x128 .bf16) (b14 : a14.IsWhole) (a15 : Memref sig .tc .vmem S4x512x128 .bf16) (b15 : a15.IsWhole) (hc0 : ¬cond0_0 i) (hc1 : cond0_1 i)
    (x0 : Vec Ideal S256x512 .bf16) (x1 : Vec Ideal S2048x512 .bf16) (x2 : Vec Ideal S2048x512 .bf16) (x3 : Vec Ideal S256x512 .f32) (x4 : Vec Ideal S8x256x128 .f32) (xs0 : Vec Ideal S2048x512 .f32) (xs1 : Vec Ideal S2048x512 .f32)
theorem tuple_C {A : Arg} {n : ℕ} (hn : n = (i 0).val) (hB : Blk A n x0 x1 x2 x3 x4)
    (h9 : ∀ (s : Fin 2048) (j : Fin 512), xs0 (ix2 s j) = ((dkn A (256 * n) s j : ℝ) : EReal))
    (h10 : ∀ (s : Fin 2048) (j : Fin 512), xs1 (ix2 s j) = ((dvn A (256 * n) s j : ℝ) : EReal)) :
    After A n (out0_C_5 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, out0_C_6 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, out0_C_7 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, sout0_C_0 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1, sout0_C_1 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1) := by
  have P := point_C c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 hn hB h9 h10
  have Q : ∀ (a : Fin 256) (j : Fin 512), out0_C_5 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 (ix2 a j) = ((dqn A 2048 (256 * n + a) j * 0.125 : ℝ) : EReal) := by
    intro a j
    unfold out0_C_5
    exact P.2.2.1 VO0_5 VO0_5.junk a j
  exact
    { sk := fun s j => by
        show sout0_C_0 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 (ix2 s j) = _
        unfold sout0_C_0
        exact P.1 s j
      sv := fun s j => by
        show sout0_C_1 (F := Ideal) c i a1 b1 a2 b2 a3 b3 a4 b4 a5 b5 a6 b6 a7 b7 a8 b8 scM0_0 (Memref.isWhole_whole _) scM0_1 (Memref.isWhole_whole _) a11 b11 a12 b12 a13 b13 a14 b14 a15 b15 hc0 hc1 x0 x1 x2 x3 x4 xs0 xs1 (ix2 s j) = _
        unfold sout0_C_1
        exact P.2.1 s j
      dq := by
        dsimp only
        exact Q
      dk := fun h s j => by
        dsimp only
        unfold out0_C_6
        exact (P.2.2.2.1 VO0_6 VO0_6.junk s j).trans (congrArg (fun n => ((dkn A n s j : ℝ) : EReal)) (show 256 * (n + 1) = 2048 by omega))
      dv := fun h s j => by
        dsimp only
        unfold out0_C_7
        exact (P.2.2.2.2 VO0_7 VO0_7.junk s j).trans (congrArg (fun n => ((dvn A n s j : ℝ) : EReal)) (show 256 * (n + 1) = 2048 by omega)) }
end caseC

theorem after_C {A : Arg} (hA : Arrs m c A) (t : Fin cfg0.N) (acc : Vec Ideal S256x512 .bf16 × Vec Ideal S2048x512 .bf16 × Vec Ideal S2048x512 .bf16 × Vec Ideal S2048x512 .f32 × Vec Ideal S2048x512 .f32) (h0 : ¬t.val % 8 = 0) (h1 : t.val % 8 = 7)
    (h9 : ∀ (s : Fin 2048) (j : Fin 512), acc.2.2.2.1 (ix2 s j) = ((dkn A (256 * t.val) s j : ℝ) : EReal))
    (h10 : ∀ (s : Fin 2048) (j : Fin 512), acc.2.2.2.2 (ix2 s j) = ((dvn A (256 * t.val) s j : ℝ) : EReal)) :
    After A t.val (stAt0 m c t.val t.isLt acc) := by
  have ht : t.val < 8 := Nat.lt_of_lt_of_eq t.isLt N_0
  rw [stAt0_C m c t acc h0 h1]
  apply tuple_C (hn := (coord t).symm) (hB := blk_of hA t) <;> first | assumption | omega

/-- After every grid point the sums run over the queries so far. -/
theorem after_all {A : Arg} (hA : Arrs m c A) : ∀ (n : ℕ) (hn : n < cfg0.N), After A n (Pipeline.accAt (fun n h => stAt0 m c n h junk0) (stAt0 m c) 0 n (by omega))
  | 0, hn => after_A hA ⟨0, hn⟩ junk0 rfl (by show ¬ 0 % 8 = 7; decide)
  | n + 1, hn => by
    have ih := after_all hA n (Nat.lt_of_succ_lt hn)
    have hN : n + 1 < 8 := Nat.lt_of_lt_of_eq hn N_0
    have e := Pipeline.accAt_succ (fun n h => stAt0 m c n h junk0) (stAt0 m c) 0 n (by omega)
    have q : ∀ (j j' : ℕ) (h : j < cfg0.N) (h' : j' < cfg0.N) (acc), j = j' → stAt0 m c j h acc = stAt0 m c j' h' acc := by
      intro j j' h h' acc e; subst e; rfl
    rw [e, q _ (n + 1) _ hn _ (Nat.zero_add _)]
    by_cases h1 : (n + 1) % 8 = 7
    · exact after_C hA ⟨n + 1, hn⟩ _ (by show ¬ (n + 1) % 8 = 0; omega) h1 ih.sk ih.sv
    · exact after_B hA ⟨n + 1, hn⟩ _ (by show ¬ (n + 1) % 8 = 0; omega) h1 ih.sk ih.sv

/-- The query gradients at the end. -/
theorem fin5 {A : Arg} (hA : Arrs m c A) (t : Fin 2048) (j : Fin 512) : G5 m c (ix2 t j) = ((dqn A 2048 t j * 0.125 : ℝ) : EReal) := by
  have hp : pt5Of (ix2 t j) = t.val / 256 := by
    show 1 * (t.val / 256 - 0) + 1 * (j.val / 512 - 0) = _
    omega
  have hl : loc5Of (ix2 t j) = ix2 ⟨t.val % 256, by omega⟩ j := by
    funext a; apply Fin.ext
    match a with
    | ⟨0, _⟩ => rfl
    | ⟨1, _⟩ => show j.val % 512 = j.val; omega
  have hN : t.val / 256 < cfg0.N := Nat.lt_of_lt_of_eq (by omega) N_0.symm
  unfold G5
  rw [dif_pos (by rw [hp]; exact hN), hl, fold0_congr m c _ _ (t.val / 256) (by omega) hp]
  refine ((after_all hA _ hN).dq ⟨t.val % 256, by omega⟩ j).trans ?_
  have e : 256 * (t.val / 256) + t.val % 256 = t.val := by omega
  show ((dqn A 2048 (256 * (t.val / 256) + t.val % 256) j * 0.125 : ℝ) : EReal) = _
  rw [e]

/-- The key gradients at the end. -/
theorem fin6 {A : Arg} (hA : Arrs m c A) (t : Fin 2048) (j : Fin 512) : G6 m c (ix2 t j) = ((dkn A 2048 t j : ℝ) : EReal) := by
  rw [G6_last]
  exact (after_all hA 7 (Nat.lt_of_lt_of_eq (by decide) N_0.symm)).dk rfl t j

/-- The value gradients at the end. -/
theorem fin7 {A : Arg} (hA : Arrs m c A) (t : Fin 2048) (j : Fin 512) : G7 m c (ix2 t j) = ((dvn A 2048 t j : ℝ) : EReal) := by
  rw [G7_last]
  exact (after_all hA 7 (Nat.lt_of_lt_of_eq (by decide) N_0.symm)).dv rfl t j
end Cert.KernelIdeal.Hand
end
end
-- ==== Proof.Host.lean ====
module
public import proofs.«01_k».proof.Proof.Window
public import proofs.«01_k».proof.Proof.Grid
public import Idealize.ShloMosaic.Lib.StableHlo.ReadAt
@[expose] public section
set_option maxRecDepth 16384
noncomputable section

/-! The operations before the launch: the sums of the softplus over a row, and what the launch's
arrays hold. -/

namespace Cert.KernelIdeal.Hand
open Cert.KernelIdeal Cert.KernelIdeal.Gen Idealize.ShloMosaic Idealize.ShloMosaic.TcCoe
open StickBreak

section Stretch
variable (W : Valuation τ sig (Elt Ideal))

theorem after_two (l l' : List (HloOp τ sig (Elt Ideal))) : StableHlo.after (l ++ l') W = StableHlo.after l' (StableHlo.after l W) := by
  induction l generalizing W with
  | nil => rfl
  | cons o l ih => exact ih _

theorem mask_at (t s : Fin 2048) :
    StableHlo.after hostOps0 W (Proc.devRef .tc main_v13) (ix2 t s)
      = IntOp.cmpi .slt (BitVec.ofNat 32 s.val) (BitVec.ofNat 32 t.val) := by
  after_reads_at

theorem soft_at (h : Fin 8) (t s : Fin 2048) {x : ℝ} (hx : W (Proc.devRef .tc main_v14) (ix3 h t s) = ((-x : ℝ) : EReal)) :
    StableHlo.after hostOps0_1 W (Proc.devRef .tc main_v15) (ix3 h t s) = ((-sp x : ℝ) : EReal) := by
  after_reads_at
  rw [if_neg (not_not.mpr rfl), hx, ← EReal.coe_neg, neg_neg, softplus_real, EReal.coe_neg]

theorem soft_mask : StableHlo.after hostOps0_1 W (Proc.devRef .tc main_v13) = W (Proc.devRef .tc main_v13) := by
  after_reads_simp

theorem pick_at (h : Fin 8) (t s : Fin 2048) {x : ℝ}
    (hm : W (Proc.devRef .tc main_v13) (ix2 t s) = IntOp.cmpi .slt (BitVec.ofNat 32 s.val) (BitVec.ofNat 32 t.val))
    (hx : W (Proc.devRef .tc main_v15) (ix3 h t s) = ((x : ℝ) : EReal)) :
    StableHlo.after hostOps0_3 (StableHlo.after hostOps0_2 W) (Proc.devRef .tc main_v16) (ix3 h t s)
      = ((if s.val < t.val then x else 0 : ℝ) : EReal) := by
  after_reads_at
  rw [hm, hx, select_place _ _ s.isLt t.isLt]
  split
  · rfl
  · exact Ideal.ofBits_zero_f32.trans EReal.coe_zero.symm

theorem total_at (h : Fin 8) (t : Fin 2048) (x : Fin 128) (f : ℕ → ℝ)
    (hf : ∀ s : Fin 2048, W (Proc.devRef .tc main_v16) (ix3 h t s) = ((f s : ℝ) : EReal)) :
    StableHlo.after hostOps0_4 W (Proc.devRef .tc main_v20) (ix3 h t x) = ((-∑ s ∈ Finset.range 2048, f s : ℝ) : EReal) := by
  after_reads_at
  rw [sum_cols _ f hf, EReal.coe_neg]

theorem cast_at (t : Fin 2048) (j : Fin 1536) {x : ℝ} (hx : W (Proc.devRef .tc main_arg0) (ix2 t j) = ((x : ℝ) : EReal)) :
    StableHlo.after hostOps0_4 W (Proc.devRef .tc main_v21) (ix2 t j) = ((x : ℝ) : EReal) := by
  after_reads_at
  exact hx

theorem kept3 : StableHlo.after hostOps0_3 (StableHlo.after hostOps0_2 (StableHlo.after hostOps0_1 (StableHlo.after hostOps0 W))) (Proc.devRef .tc main_arg0)
    = W (Proc.devRef .tc main_arg0) := by
  after_reads_simp

theorem stages : StableHlo.after (List.flatten [hostOps0, hostOps0_1, hostOps0_2, hostOps0_3, hostOps0_4]) W
    = StableHlo.after hostOps0_4 (StableHlo.after hostOps0_3 (StableHlo.after hostOps0_2 (StableHlo.after hostOps0_1 (StableHlo.after hostOps0 W)))) := by
  rw [List.flatten_cons, List.flatten_cons, List.flatten_cons, List.flatten_cons, List.flatten_cons, List.flatten_nil, List.append_nil,
    after_two, after_two, after_two, after_two]

variable {W} {A : Arg}
  (hq : ∀ (t : Fin 2048) (j : Fin 1536), j.val < 512 → W (Proc.devRef .tc main_arg0) (ix2 t j) = ((A.q t j : ℝ) : EReal))
  (hk : ∀ (t : Fin 2048) (j : Fin 1536), 512 ≤ j.val → j.val < 1024 →
    W (Proc.devRef .tc main_arg0) (ix2 t j) = ((A.k t (j.val - 512) : ℝ) : EReal))
include hq hk

/-- A logit before the launch, negated. -/
theorem neg_z_at (h : Fin 8) (t s : Fin 2048) :
    StableHlo.after hostOps0 W (Proc.devRef .tc main_v14) (ix3 h t s) = ((-z A h t s : ℝ) : EReal) := by
  after_reads_at
  rw [eighth, sum_cols _ (fun e => A.q t (64 * h + e) * A.k s (64 * h + e)) fun e => ?_, ← EReal.coe_mul, ← EReal.coe_neg, z, Finset.sum_mul]
  · exact congrArg (fun x : ℝ => ((-x : ℝ) : EReal)) (Finset.sum_congr rfl fun e _ => by ring)
  · have e1 : h.val * 64 + e.val = 64 * h.val + e.val := by omega
    have e2 : 512 + (h.val * 64 + e.val) - 512 = 64 * h.val + e.val := by omega
    rw [EReal.coe_mul]
    refine congrArg₂ (fun a b : EReal => a * b) ((hq t _ ?_).trans ?_) ((hk s _ ?_ ?_).trans ?_)
    · show h.val * 64 + e.val < 512; omega
    · exact congrArg (fun n : ℕ => ((A.q t n : ℝ) : EReal)) e1
    · show 512 ≤ 512 + (h.val * 64 + e.val); omega
    · show 512 + (h.val * 64 + e.val) < 1024; omega
    · exact congrArg (fun n : ℕ => ((A.k s n : ℝ) : EReal)) e2

/-- The masked softplus before the launch, negated. -/
theorem neg_msp_at (h : Fin 8) (t s : Fin 2048) :
    StableHlo.after hostOps0_3 (StableHlo.after hostOps0_2 (StableHlo.after hostOps0_1 (StableHlo.after hostOps0 W))) (Proc.devRef .tc main_v16) (ix3 h t s)
      = ((-msp A h t s : ℝ) : EReal) := by
  refine (pick_at _ h t s ?_ (soft_at _ h t s (neg_z_at hq hk h t s))).trans ?_
  · rw [soft_mask]; exact mask_at W t s
  · rw [msp]
    split
    · rfl
    · rw [neg_zero]

/-- The total of a row's softplus. -/
theorem pre_at (h : Fin 8) (t : Fin 2048) (x : Fin 128) :
    StableHlo.after (List.flatten [hostOps0, hostOps0_1, hostOps0_2, hostOps0_3, hostOps0_4]) W (Proc.devRef .tc main_v20) (ix3 h t x)
      = ((pre A h t t : ℝ) : EReal) := by
  rw [stages, total_at _ h t x (fun s => -msp A h t s) (neg_msp_at hq hk h t), Finset.sum_neg_distrib, neg_neg,
    ← pre_all A h t 2048 t.isLt.le, pre]

end Stretch

variable {m : (ℓ : Loc nD τ sig) → Buf (Elt Ideal) ℓ} {c : Dev nD} {A : Arg}

/-- The launch's arrays hold the four arrays and the rows' totals. -/
theorem arrs
    (hq : ∀ (t : Fin 2048) (j : Fin 1536), j.val < 512 → m ((c : Thread nD τ).loc main_arg0) (ix2 t j) = ((A.q t j : ℝ) : EReal))
    (hk : ∀ (t : Fin 2048) (j : Fin 1536), 512 ≤ j.val → j.val < 1024 →
      m ((c : Thread nD τ).loc main_arg0) (ix2 t j) = ((A.k t (j.val - 512) : ℝ) : EReal))
    (hv : ∀ (t : Fin 2048) (j : Fin 1536), 1024 ≤ j.val →
      m ((c : Thread nD τ).loc main_arg0) (ix2 t j) = ((A.v t (j.val - 1024) : ℝ) : EReal))
    (hd : ∀ (t : Fin 2048) (j : Fin 1024), j.val < 512 → m ((c : Thread nD τ).loc main_arg1) (ix2 t j) = ((A.d t j : ℝ) : EReal)) :
    Arrs m c A := by
  have e21 : ∀ (t : Fin 2048) (j : Fin 1536) (x : ℝ), m ((c : Thread nD τ).loc main_arg0) (ix2 t j) = ((x : ℝ) : EReal) →
      V m c main_v21 (ix2 t j) = ((x : ℝ) : EReal) := fun t j x hx => by
    show StableHlo.after (List.flatten [hostOps0, hostOps0_1, hostOps0_2, hostOps0_3, hostOps0_4]) (fun b => m (c, b)) (Proc.devRef .tc main_v21) (ix2 t j) = _
    rw [stages]
    refine cast_at _ t j ?_
    rw [kept3]
    exact hx
  exact {
    q := fun t j hj => e21 t j _ (hq t j hj)
    k := fun t j hl hj => e21 t j _ (hk t j hl hj)
    v := fun t j hl => e21 t j _ (hv t j hl)
    d := fun t j hj => (congrFun (V_main_arg1 m c) (ix2 t j)).trans (hd t j hj)
    t := fun h t x => pre_at (W := fun b => m (c, b)) hq hk h t x }

end Cert.KernelIdeal.Hand
-- ==== Proof.Ref.lean ====
module
public import proofs.«01_k».proof.Proof.Window
public import proofs.«01_k».proof.Proof.Gen.ReferenceIdeal.Run
@[expose] public section
set_option maxRecDepth 16384
noncomputable section

/-! The reference's results at an index, as the plain sums over the real numbers. -/

namespace Cert.ReferenceIdeal.Hand
open Cert.ReferenceIdeal Cert.ReferenceIdeal.Gen Cert.ReferenceIdeal.Value Idealize.ShloMosaic Idealize.ShloMosaic.TcCoe
open StickBreak

/-- The reference's two arguments hold the four arrays. -/
structure Holds (V0 : Valuation τ sig (Elt Ideal)) (A : Arg) : Prop where
  /-- queries -/
  q : ∀ (t : Fin 2048) (j : Fin 1536), j.val < 512 → V0 (Proc.devRef .tc main_arg0) (ix2 t j) = ((A.q t j : ℝ) : EReal)
  /-- keys -/
  k : ∀ (t : Fin 2048) (j : Fin 1536), 512 ≤ j.val → j.val < 1024 →
    V0 (Proc.devRef .tc main_arg0) (ix2 t j) = ((A.k t (j.val - 512) : ℝ) : EReal)
  /-- values -/
  v : ∀ (t : Fin 2048) (j : Fin 1536), 1024 ≤ j.val →
    V0 (Proc.devRef .tc main_arg0) (ix2 t j) = ((A.v t (j.val - 1024) : ℝ) : EReal)
  /-- the gradient of the output -/
  d : ∀ (t : Fin 2048) (j : Fin 1024), j.val < 512 → V0 (Proc.devRef .tc main_arg1) (ix2 t j) = ((A.d t j : ℝ) : EReal)

variable {V0 : Valuation τ sig (Elt Ideal)} {A : Arg} (H : Holds V0 A)
include H

theorem q_at (t : Fin 2048) (h : Fin 8) (e : Fin 64) :
    res_main_v1 V0 (ix3 t h e) = ((A.q t (64 * h + e) : ℝ) : EReal) := by
  pointwise [res_main_v1]
  refine (H.q t _ ?_).trans ?_
  · show h.val * 64 + e.val < 512; omega
  · exact congrArg (fun n : ℕ => ((A.q t n : ℝ) : EReal)) (show h.val * 64 + e.val = 64 * h.val + e.val by omega)

theorem k_at (t : Fin 2048) (h : Fin 8) (e : Fin 64) :
    res_main_v3 V0 (ix3 t h e) = ((A.k t (64 * h + e) : ℝ) : EReal) := by
  pointwise [res_main_v3]
  refine (H.k t _ ?_ ?_).trans ?_
  · show 512 ≤ 512 + (h.val * 64 + e.val); omega
  · show 512 + (h.val * 64 + e.val) < 1024; omega
  · exact congrArg (fun n : ℕ => ((A.k t n : ℝ) : EReal)) (show 512 + (h.val * 64 + e.val) - 512 = 64 * h.val + e.val by omega)

theorem v_at (t : Fin 2048) (h : Fin 8) (e : Fin 64) :
    res_main_v15 V0 (ix3 t h e) = ((A.v t (64 * h + e) : ℝ) : EReal) := by
  pointwise [res_main_v15]
  refine (H.v t _ ?_).trans ?_
  · show 1024 ≤ 1024 + (h.val * 64 + e.val); omega
  · exact congrArg (fun n : ℕ => ((A.v t n : ℝ) : EReal)) (show 1024 + (h.val * 64 + e.val) - 1024 = 64 * h.val + e.val by omega)

theorem d_at (h : Fin 8) (e : Fin 64) (t : Fin 2048) :
    res_main_v30 V0 (ix3 h e t) = ((A.d t (64 * h + e) : ℝ) : EReal) := by
  pointwise [res_main_v30]
  refine (H.d t _ ?_).trans ?_
  · show h.val * 64 + e.val < 512; omega
  · exact congrArg (fun n : ℕ => ((A.d t n : ℝ) : EReal)) (show h.val * 64 + e.val = 64 * h.val + e.val by omega)

theorem z_at (h : Fin 8) (t s : Fin 2048) : res_main_v6 V0 (ix3 h t s) = ((z A h t s : ℝ) : EReal) := by
  pointwise [res_main_v6]
  rw [eighth, sum_cols _ (fun e => A.q t (64 * h + e) * A.k s (64 * h + e)) fun e => by rw [q_at H, k_at H, ← EReal.coe_mul],
    ← EReal.coe_mul, z, Finset.sum_mul]
  exact congrArg _ (Finset.sum_congr rfl fun e _ => by ring)

omit H in
theorem sel13 (t s : Fin 2048) (a b : EReal) :
    Scalar.select (res_main_v13 V0 (ix2 t s)) a b = if s.val < t.val then a else b := by
  rw [← select_place s t s.isLt t.isLt a b]
  pointwise [res_main_v13]

omit H in
theorem sel18 (h : Fin 8) (t s : Fin 2048) (a b : EReal) :
    Scalar.select (res_main_v18_1 V0 (ix3 h t s)) a b = if s.val < t.val then a else b := by
  rw [← sel13 (V0 := V0)]
  pointwise [res_main_v18_1]

omit H in
theorem sel24 (h : Fin 8) (t s : Fin 2048) (a b : EReal) :
    Scalar.select (res_main_v24_1 V0 (ix3 h t s)) a b = if s.val < t.val then a else b := by
  rw [← sel13 (V0 := V0)]
  pointwise [res_main_v24_1]

theorem call0_at (h : Fin 8) (t s : Fin 2048) : res_main_call0_v0 V0 (ix3 h t s) = ((z A h t s : ℝ) : EReal) := by
  pointwise [res_main_call0_v0]
  rw [z_at H, neg_neg]

theorem sp0_at (h : Fin 8) (t s : Fin 2048) : res_main_call0_v1_0 V0 (ix3 h t s) = ((sp (z A h t s) : ℝ) : EReal) := by
  pointwise [res_main_call0_v1_0, res_main_call0_call0_v3, res_main_call0_call0_cst, res_main_call0_v0]
  rw [if_neg (not_not.mpr rfl), z_at H, neg_neg]
  exact softplus_real _

theorem call3_at (h : Fin 8) (t s : Fin 2048) : res_main_call3_v0 V0 (ix3 h t s) = ((-z A h t s : ℝ) : EReal) := by
  pointwise [res_main_call3_v0]
  rw [z_at H, EReal.coe_neg]

theorem sp3_at (h : Fin 8) (t s : Fin 2048) : res_main_call3_v1_0 V0 (ix3 h t s) = ((sp (-z A h t s) : ℝ) : EReal) := by
  pointwise [res_main_call3_v1_0, res_main_call3_call0_v3, res_main_call3_call0_cst, res_main_call3_v0]
  rw [if_neg (not_not.mpr rfl), z_at H, ← EReal.coe_neg]
  exact softplus_real _

theorem m_at (h : Fin 8) (t s : Fin 2048) : res_main_v18_0 V0 (ix3 h t s) = ((-msp A h t s : ℝ) : EReal) := by
  pointwise [res_main_v18_0]
  rw [sel18, sp0_at H, msp]
  split
  · rw [EReal.coe_neg]
  · show Ideal.ofBits .f32 0#32 = _
    rw [Ideal.ofBits_zero_f32, neg_zero, EReal.coe_zero]

omit H in
theorem zero_at (i : S_.Idx) : broadcastInDim S_ ![] bcast_S_S_ (constant (F := Ideal) S_ .f32 0x00000000#32) i = (0 : EReal) := by
  pointwise []

theorem w23_at (h : Fin 8) (t s : Fin 2048) : res_main_v23 V0 (ix3 h t s)
    = ((Real.exp (z A h t s - sp (z A h t s) - (pre A h t t - pre A h t (s + 1))) : ℝ) : EReal) := by
  pointwise [res_main_v23]
  have e : Host.reduceWindowAdd (F := Ideal) (φ := .f32) ![1, 1, 2048] ![1, 1, 1] ![0, 0, 0] ![0, 0, 2047] (res_main_v18_0 V0)
            (broadcastInDim S_ ![] bcast_S_S_ (constant S_ FTy.f32 0#32))
            reduceWindows_S8x2048x2048_S8x2048x2048_w1s1p0_0_w1s1p0_0_w2048s1p0_2047 h_S_ (ix3 h t s)
      = ((-(pre A h t t - pre A h t s) : ℝ) : EReal) := by
    refine (host_suffix _ _ _ _ h t s (fun n => -msp A h t n) zero_at (m_at H h t)).trans ?_
    rw [Finset.sum_neg_distrib, Finset.sum_neg_distrib, ← pre_all A h t 2048 t.isLt.le, pre, pre]
    exact congrArg _ (by ring)
  rw [e, m_at H, sp3_at H, ← EReal.coe_neg, ← EReal.coe_sub, ← EReal.coe_add, Ideal.exp_coe, sp_neg, pre_succ]
  exact congrArg _ (congrArg _ (by ring))

theorem w_at (h : Fin 8) (t s : Fin 2048) : res_main_v24_0 V0 (ix3 h t s) = ((w A h t s : ℝ) : EReal) := by
  pointwise [res_main_v24_0, res_main_v24_1]
  rw [sel13, w23_at H, w]
  split
  · rfl
  · show Ideal.ofBits .f32 0#32 = _
    rw [Ideal.ofBits_zero_f32, EReal.coe_zero]

theorem g_at (h : Fin 8) (t s : Fin 2048) : res_main_v35 V0 (ix3 h t s) = ((g A h t s : ℝ) : EReal) := by
  pointwise [res_main_v35]
  rw [sel24, sum_cols _ (fun e => A.d t (64 * h + e) * A.v s (64 * h + e)) fun e => by rw [d_at H, v_at H, ← EReal.coe_mul],
    w23_at H, g, dw, w]
  split
  · rw [EReal.coe_mul]
  · rw [mul_zero, EReal.coe_zero]

theorem dz_at (h : Fin 8) (t s : Fin 2048) : res_main_v47 V0 (ix3 h t s) = ((dz A h t s * 0.125 : ℝ) : EReal) := by
  pointwise [res_main_v47]
  have e : Host.reduceWindowAdd (F := Ideal) (φ := .f32) ![1, 1, 2048] ![1, 1, 1] ![0, 0, 2047] ![0, 0, 0] (res_main_v35 V0)
            (broadcastInDim S_ ![] bcast_S_S_ (constant S_ FTy.f32 0#32))
            reduceWindows_S8x2048x2048_S8x2048x2048_w1s1p0_0_w1s1p0_0_w2048s1p2047_0 h_S_ (ix3 h t s)
      = ((G A h t (s + 1) : ℝ) : EReal) := by
    exact host_prefix _ _ _ _ h t s (fun n => g A h t n) zero_at (g_at H h t)
  rw [e, sel18, g_at H, call3_at H, sp3_at H, call0_at H, sp0_at H, keep_real, keep_real, keep_real, keep_real, eighth]
  have i : (if s.val < t.val then -((g A h t s : ℝ) : EReal) + ((G A h t (s + 1) : ℝ) : EReal) else 0)
      = ((if s.val < t.val then G A h t s else 0 : ℝ) : EReal) := by
    split
    · rw [← EReal.coe_neg, ← EReal.coe_add, G_succ]; exact congrArg _ (by ring)
    · rw [EReal.coe_zero]
  rw [i]
  simp only [← EReal.coe_sub, ← EReal.coe_neg, Ideal.exp_coe, ← EReal.coe_mul, ← EReal.coe_add]
  rw [exp_compl, dz]
  refine congrArg _ ?_
  split
  · ring
  · rw [g, w_of_le A (by omega)]; ring

/-- The gradient of the queries. -/
theorem dq_at (t : Fin 2048) (j : Fin 512) :
    extractStridedSlice S2048x512 ![0, 0] (res_main_v58 V0) slices_S2048x1536_S2048x512_0_0 (ix2 t j)
      = ((dqn A 2048 t j * 0.125 : ℝ) : EReal) := by
  have hj := j.isLt
  have e : 64 * (j.val / 64) + j.val % 64 = j.val := by omega
  pointwise [res_main_v58]
  rw [dif_neg (by omega), dif_neg (fun h => h.1), zero_add, zero_add,
    sum_cols _ (fun x => dz A (j / 64) t x * 0.125 * A.k x j) fun x => by
      rw [dz_at H, k_at H, ← EReal.coe_mul]; exact congrArg (fun n => ((dz A (j / 64) t x * 0.125 * A.k x n : ℝ) : EReal)) e,
    dqn, Finset.sum_mul]
  exact congrArg _ (Finset.sum_congr rfl fun x _ => by ring)

/-- The gradient of the keys. -/
theorem dk_at (t : Fin 2048) (j : Fin 512) :
    extractStridedSlice S2048x512 ![0, 512] (res_main_v58 V0) slices_S2048x1536_S2048x512_0_512 (ix2 t j)
      = ((dkn A 2048 t j : ℝ) : EReal) := by
  have hj := j.isLt
  have e : 64 * (j.val / 64) + j.val % 64 = j.val := by omega
  pointwise [res_main_v58]
  rw [dif_neg (by omega), zero_add,
    sum_cols _ (fun x => dz A (j / 64) x t * 0.125 * A.q x j) fun x => by
      rw [dz_at H, q_at H, ← EReal.coe_mul]; exact congrArg (fun n => ((dz A (j / 64) x t * 0.125 * A.q x n : ℝ) : EReal)) e,
    dkn]
  exact congrArg _ (Finset.sum_congr rfl fun x _ => by ring)

/-- The gradient of the values. -/
theorem dv_at (t : Fin 2048) (j : Fin 512) :
    extractStridedSlice S2048x512 ![0, 1024] (res_main_v58 V0) slices_S2048x1536_S2048x512_0_1024 (ix2 t j)
      = ((dvn A 2048 t j : ℝ) : EReal) := by
  have hj := j.isLt
  have e : 64 * (j.val / 64) + j.val % 64 = j.val := by omega
  pointwise [res_main_v58]
  rw [dif_neg (by omega), dif_neg (by omega), add_zero, add_zero,
    sum_cols _ (fun x => A.d x j * w A (j / 64) x t) fun x => by
      rw [d_at H, w_at H, ← EReal.coe_mul]; exact congrArg (fun n => ((A.d x n * w A (j / 64) x t : ℝ) : EReal)) e,
    dvn]
  exact congrArg _ (Finset.sum_congr rfl fun x _ => by ring)

end Cert.ReferenceIdeal.Hand
-- ==== Proof.Ff.Spec.lean ====
module
public import Mathlib.Analysis.SpecialFunctions.Log.Basic
public import Mathlib.Data.EReal.Operations
public import Mathlib.Algebra.BigOperators.Fin
@[expose] public section
noncomputable section

/-! The gated feed-forward layer `(silu (x G) * (x U)) D` over the reals and its gradients, written
plainly: 1024 features, 3072 hidden units, 2048 tokens. -/

namespace FeedForward
open Finset

/-- The five arrays: the input, the three weights and the gradient of the output. -/
structure Arg where
  x : ℕ → ℕ → ℝ
  g : ℕ → ℕ → ℝ
  u : ℕ → ℕ → ℝ
  d : ℕ → ℕ → ℝ
  r : ℕ → ℕ → ℝ

/-- The logistic function. -/
def sg (z : ℝ) : ℝ := 1 / (1 + Real.exp (-z))

variable (A : Arg)

/-- The gate's pre-activation. -/
def gate (t f : ℕ) : ℝ := ∑ d ∈ range 1024, A.x t d * A.g d f
/-- The linear half. -/
def up (t f : ℕ) : ℝ := ∑ d ∈ range 1024, A.x t d * A.u d f
/-- The hidden activation. -/
def hid (t f : ℕ) : ℝ := gate A t f * sg (gate A t f) * up A t f
/-- The gradient of the hidden activation. -/
def dh (t f : ℕ) : ℝ := ∑ d ∈ range 1024, A.r t d * A.d f d
/-- The gradient of the gate's pre-activation. -/
def dg (t f : ℕ) : ℝ := dh A t f * up A t f * sg (gate A t f) * (1 + gate A t f * (1 - sg (gate A t f)))
/-- The gradient of the linear half. -/
def du (t f : ℕ) : ℝ := dh A t f * gate A t f * sg (gate A t f)
/-- What the hidden units below a bound contribute to the gradient of the input. -/
def dxn (n t d : ℕ) : ℝ := ∑ f ∈ range n, (dg A t f * A.g d f + du A t f * A.u d f)
/-- The gradient of the gate's weights. -/
def dwg (d f : ℕ) : ℝ := ∑ t ∈ range 2048, A.x t d * dg A t f
/-- The gradient of the linear half's weights. -/
def dwu (d f : ℕ) : ℝ := ∑ t ∈ range 2048, A.x t d * du A t f
/-- The gradient of the output's weights. -/
def dwd (f d : ℕ) : ℝ := ∑ t ∈ range 2048, hid A t f * A.r t d

/-- The next 512 hidden units' contribution. -/
theorem dxn_next (n t d : ℕ) :
    dxn A n t d + (∑ f ∈ range 512, dg A t (n + f) * A.g d (n + f) + ∑ f ∈ range 512, du A t (n + f) * A.u d (n + f))
      = dxn A (n + 512) t d := by
  unfold dxn
  rw [Finset.sum_range_add, Finset.sum_add_distrib (s := range 512)]

end FeedForward
-- ==== Proof.Ff.Entries.lean ====
module
public import proofs.«01_k».proof.Defs
public import proofs.«01_k».proof.Proof.Ff.Spec
public import proofs.«01_k».proof.Proof.Entries
@[expose] public section
set_option maxRecDepth 32768
noncomputable section

/-! The feed-forward layer's precondition read at an entry, and the five real arrays its arguments
hold under it. -/

namespace FeedForward
open Idealize.ShloMosaic
open StickBreak (real_of_lt)

/-- The side conditions the precondition's operations state. -/
theorem finite_facts : Cert.Pre_finite2.Facts where
  transposes_S1024x3072_S3072x1024_1_0 := by decide
  concatenates_S2048x1024_S2048x1024_S3072x1024_S3072x1024_S3072x1024_S13312x1024_d0 := by decide
  bcast_S_S13312x1024 := by decide

variable (x0 : FVec Ideal Cert.Pre_finite2.S2048x1024 .f32) (x1 x2 : FVec Ideal Cert.Pre_finite2.S1024x3072 .f32)
  (x3 : FVec Ideal Cert.Pre_finite2.S3072x1024 .f32) (x4 : FVec Ideal Cert.Pre_finite2.S2048x1024 .f32)

/-- The real arrays inside the five arguments. -/
def arg : Arg where
  x t d := if h : t < 2048 ∧ d < 1024 then (x0 (ix2 ⟨t, h.1⟩ ⟨d, h.2⟩) : EReal).toReal else 0
  g d f := if h : d < 1024 ∧ f < 3072 then (x1 (ix2 ⟨d, h.1⟩ ⟨f, h.2⟩) : EReal).toReal else 0
  u d f := if h : d < 1024 ∧ f < 3072 then (x2 (ix2 ⟨d, h.1⟩ ⟨f, h.2⟩) : EReal).toReal else 0
  d f d := if h : f < 3072 ∧ d < 1024 then (x3 (ix2 ⟨f, h.1⟩ ⟨d, h.2⟩) : EReal).toReal else 0
  r t d := if h : t < 2048 ∧ d < 1024 then (x4 (ix2 ⟨t, h.1⟩ ⟨d, h.2⟩) : EReal).toReal else 0

variable [Cert.Pre_finite2.Facts] (h : Cert.Pre_finite2.fn (F := Ideal) x0 x1 x2 x3 x4 = fun _ => 1#1)
include h

theorem arg_x (t : Fin 2048) (d : Fin 1024) : x0 (ix2 t d) = (((arg x0 x1 x2 x3 x4).x t d : ℝ) : EReal) := by
  have e := congrFun h (ix2 ⟨t.val, by omega⟩ d)
  unfold Cert.Pre_finite2.fn at e
  pointwise at e
  replace e := real_of_lt e
  unfold arg
  dsimp only
  rw [dif_pos ⟨t.isLt, d.isLt⟩]
  exact e.symm

theorem arg_r (t : Fin 2048) (d : Fin 1024) : x4 (ix2 t d) = (((arg x0 x1 x2 x3 x4).r t d : ℝ) : EReal) := by
  have e := congrFun h (ix2 ⟨2048 + t.val, by omega⟩ d)
  unfold Cert.Pre_finite2.fn at e
  pointwise at e
  replace e := real_of_lt e
  unfold arg
  dsimp only
  rw [dif_pos ⟨t.isLt, d.isLt⟩]
  exact e.symm

theorem arg_d (f : Fin 3072) (d : Fin 1024) : x3 (ix2 f d) = (((arg x0 x1 x2 x3 x4).d f d : ℝ) : EReal) := by
  have e := congrFun h (ix2 ⟨4096 + f.val, by omega⟩ d)
  unfold Cert.Pre_finite2.fn at e
  pointwise at e
  replace e := real_of_lt e
  rw [dif_neg (by omega), dif_neg (by omega), dif_pos (by omega)] at e
  unfold arg
  dsimp only
  rw [dif_pos ⟨f.isLt, d.isLt⟩]
  have i : (⟨4096 + f.val - 2048 - 2048, by omega⟩ : Fin 3072) = f := Fin.ext (by show 4096 + f.val - 2048 - 2048 = f.val; omega)
  exact ((congrArg (fun i => (((x3 (ix2 i d) : EReal).toReal : ℝ) : EReal)) i).symm.trans (e.trans (congrArg (fun i => x3 (ix2 i d)) i))).symm

theorem arg_g (d : Fin 1024) (f : Fin 3072) : x1 (ix2 d f) = (((arg x0 x1 x2 x3 x4).g d f : ℝ) : EReal) := by
  have e := congrFun h (ix2 ⟨7168 + f.val, by omega⟩ d)
  unfold Cert.Pre_finite2.fn at e
  pointwise at e
  replace e := real_of_lt e
  rw [dif_neg (by omega), dif_neg (by omega), dif_neg (by omega), dif_pos (by omega)] at e
  unfold arg
  dsimp only
  rw [dif_pos ⟨d.isLt, f.isLt⟩]
  have i : (⟨7168 + f.val - 2048 - 2048 - 3072, by omega⟩ : Fin 3072) = f := Fin.ext (by show 7168 + f.val - 2048 - 2048 - 3072 = f.val; omega)
  exact ((congrArg (fun i => (((x1 (ix2 d i) : EReal).toReal : ℝ) : EReal)) i).symm.trans (e.trans (congrArg (fun i => x1 (ix2 d i)) i))).symm

theorem arg_u (d : Fin 1024) (f : Fin 3072) : x2 (ix2 d f) = (((arg x0 x1 x2 x3 x4).u d f : ℝ) : EReal) := by
  have e := congrFun h (ix2 ⟨10240 + f.val, by omega⟩ d)
  unfold Cert.Pre_finite2.fn at e
  pointwise at e
  replace e := real_of_lt e
  rw [dif_neg (by omega), dif_neg (by omega), dif_neg (by omega), dif_neg (by omega)] at e
  unfold arg
  dsimp only
  rw [dif_pos ⟨d.isLt, f.isLt⟩]
  have i : (⟨10240 + f.val - 2048 - 2048 - 3072 - 3072, by omega⟩ : Fin 3072) = f := Fin.ext (by show 10240 + f.val - 2048 - 2048 - 3072 - 3072 = f.val; omega)
  exact ((congrArg (fun i => (((x2 (ix2 d i) : EReal).toReal : ℝ) : EReal)) i).symm.trans (e.trans (congrArg (fun i => x2 (ix2 d i)) i))).symm

end FeedForward
-- ==== Proof.Ff.Block.lean ====
module
public import proofs.«01_k».proof.Proof.Gen.Kernel2Ideal.Skeleton
public import proofs.«01_k».proof.Proof.Ff.Spec
public import proofs.«01_k».proof.Proof.Window
public import Idealize.ShloMosaic.PureOps.Ideal
public import Idealize.ShloMosaic.Lib.Pointwise
@[expose] public section
set_option maxRecDepth 16384
noncomputable section

/-! The arithmetic of one block of hidden units, as functions of the arrays it loads, each read at
an index over the reals. -/

namespace Cert.Kernel2Ideal.Hand
open Cert.Kernel2Ideal Cert.Kernel2Ideal.Gen Idealize.ShloMosaic Idealize.ShloMosaic.TcCoe
open FeedForward (sg)
open StickBreak (sum_cols)
open Finset

/-- The logistic function of a real number. -/
theorem sg_real (x : ℝ) :
    Ideal.div 1 (1 + Ideal.exp (0 - ((x : ℝ) : EReal))) = ((sg x : ℝ) : EReal) := by
  have hp : (1 + Real.exp (-x) : ℝ) ≠ 0 := by positivity
  rw [zero_sub, ← EReal.coe_neg, Ideal.exp_coe, ← EReal.coe_one, ← EReal.coe_add, Ideal.div_coe hp, ← EReal.coe_mul, one_mul]
  rfl

/-- A sum of products of real entries. -/
theorem sum_mul {n : ℕ} (F G : Fin n → EReal) (f g : ℕ → ℝ) (hf : ∀ x, F x = ((f x.val : ℝ) : EReal)) (hg : ∀ x, G x = ((g x.val : ℝ) : EReal)) :
    ∑ x, F x * G x = ((∑ x ∈ range n, f x * g x : ℝ) : EReal) :=
  sum_cols _ _ fun x => by rw [hf x, hg x, ← EReal.coe_mul]

section chunk
variable {v3 : Vec Ideal S256x1024 .bf16} {v4 : Vec Ideal S512x1024 .bf16} {v7 v10 : Vec Ideal S256x512 .bf16}
variable {r w g u : ℕ → ℕ → ℝ}
variable (h3 : ∀ a d, v3 (ix2 a d) = ((r a.val d.val : ℝ) : EReal)) (h4 : ∀ j d, v4 (ix2 j d) = ((w j.val d.val : ℝ) : EReal))
variable (h7 : ∀ a j, v7 (ix2 a j) = ((g a.val j.val : ℝ) : EReal)) (h10 : ∀ a j, v10 (ix2 a j) = ((u a.val j.val : ℝ) : EReal))

include h3 h4 in
/-- The gradient of the hidden activation, of 256 tokens and 512 hidden units. -/
theorem pay2_at (a : Fin 256) (j : Fin 512) :
    k0_pay2 (F := Ideal) v3 v4 (ix2 a j) = ((∑ d ∈ range 1024, r a.val d * w j.val d : ℝ) : EReal) := by
  pointwise [k0_pay2]
  exact sum_mul _ _ _ _ (h3 a) (h4 j)

include h7 in
/-- The logistic function of the gate. -/
theorem pay4_at (a : Fin 256) (j : Fin 512) : k0_pay4 (F := Ideal) v7 (ix2 a j) = ((sg (g a.val j.val) : ℝ) : EReal) := by
  pointwise [k0_pay4, k0_pay3]
  rw [h7]
  exact sg_real _

include h3 h4 h7 h10 in
/-- The gradient of the gate's pre-activation. -/
theorem pay5_at (a : Fin 256) (j : Fin 512) : k0_pay5 (F := Ideal) v3 v4 v7 v10 (ix2 a j)
      = (((∑ d ∈ range 1024, r a.val d * w j.val d) * u a.val j.val * sg (g a.val j.val) * (1 + g a.val j.val * (1 - sg (g a.val j.val))) : ℝ) : EReal) := by
  pointwise [k0_pay5, k0_pay3]
  rw [pay2_at h3 h4, pay4_at h7, h7, h10]
  simp only [← EReal.coe_one, ← EReal.coe_mul, ← EReal.coe_sub, ← EReal.coe_add]

include h3 h4 h7 in
/-- The gradient of the linear half. -/
theorem pay6_at (a : Fin 256) (j : Fin 512) : k0_pay6 (F := Ideal) v3 v4 v7 (ix2 a j)
      = (((∑ d ∈ range 1024, r a.val d * w j.val d) * g a.val j.val * sg (g a.val j.val) : ℝ) : EReal) := by
  pointwise [k0_pay6, k0_pay3]
  rw [pay2_at h3 h4, pay4_at h7, h7]
  simp only [← EReal.coe_mul]

end chunk

section out

/-- What 512 hidden units add to the gradient of the input. -/
theorem pay9_at {v28 v31 : Vec Ideal S256x512 .bf16} {v38 : Vec Ideal S256x1024 .f32} {v40 v43 : Vec Ideal S1024x512 .bf16}
    {p q o wg wu : ℕ → ℕ → ℝ} (h28 : ∀ a j, v28 (ix2 a j) = ((p a.val j.val : ℝ) : EReal)) (h31 : ∀ a j, v31 (ix2 a j) = ((q a.val j.val : ℝ) : EReal))
    (h38 : ∀ a d, v38 (ix2 a d) = ((o a.val d.val : ℝ) : EReal)) (h40 : ∀ d j, v40 (ix2 d j) = ((wg d.val j.val : ℝ) : EReal))
    (h43 : ∀ d j, v43 (ix2 d j) = ((wu d.val j.val : ℝ) : EReal)) (a : Fin 256) (d : Fin 1024) :
    k0_pay9 (F := Ideal) v28 v31 v38 v40 v43 (ix2 a d)
      = ((o a.val d.val + (∑ f ∈ range 512, p a.val f * wg d.val f + ∑ f ∈ range 512, q a.val f * wu d.val f) : ℝ) : EReal) := by
  pointwise [k0_pay9]
  rw [h38, sum_mul _ _ _ _ (h28 a) (h40 d), sum_mul _ _ _ _ (h31 a) (h43 d), ← EReal.coe_add, ← EReal.coe_add]

variable {x : Vec Ideal S2048x1024 .bf16} {y : Vec Ideal S2048x512 .bf16} {p q : ℕ → ℕ → ℝ}
variable (hx : ∀ t d, x (ix2 t d) = ((p t.val d.val : ℝ) : EReal)) (hy : ∀ t j, y (ix2 t j) = ((q t.val j.val : ℝ) : EReal))
include hx hy

/-- The gradient of the gate's weights. -/
theorem pay76_at (d : Fin 1024) (j : Fin 512) : k0_pay76 (F := Ideal) x y (ix2 d j) = ((∑ t ∈ range 2048, p t d.val * q t j.val : ℝ) : EReal) := by
  pointwise [k0_pay76]
  exact sum_mul _ _ (fun t => p t d.val) (fun t => q t j.val) (fun t => hx t d) (fun t => hy t j)

/-- The gradient of the linear half's weights. -/
theorem pay77_at (d : Fin 1024) (j : Fin 512) : k0_pay77 (F := Ideal) x y (ix2 d j) = ((∑ t ∈ range 2048, p t d.val * q t j.val : ℝ) : EReal) := by
  pointwise [k0_pay77]
  exact sum_mul _ _ (fun t => p t d.val) (fun t => q t j.val) (fun t => hx t d) (fun t => hy t j)

/-- The gradient of the output's weights. -/
theorem pay78_at (j : Fin 512) (d : Fin 1024) : k0_pay78 (F := Ideal) y x (ix2 j d) = ((∑ t ∈ range 2048, q t j.val * p t d.val : ℝ) : EReal) := by
  pointwise [k0_pay78]
  exact sum_mul _ _ (fun t => q t j.val) (fun t => p t d.val) (fun t => hy t j) (fun t => hx t d)

end out

/-- The zeros the gradient of the input starts from. -/
theorem pay1_at (a : Fin 2048) (j : Fin 1024) : k0_pay1 (F := Ideal) (ix2 a j) = ((0 : ℝ) : EReal) := by
  pointwise [k0_pay1]
  exact EReal.coe_zero.symm

end Cert.Kernel2Ideal.Hand
-- ==== Proof.Ff.Run.lean ====
module
public import proofs.«01_k».proof.Proof.Gen.Kernel2Ideal.Frame
public import proofs.«01_k».proof.Proof.Ff.Block
public import Idealize.ShloMosaic.Lib.WholeRead
@[expose] public section
set_option maxRecDepth 16384
noncomputable section

/-! What a grid point's body stores, as lists of pieces: eight chunks of 256 tokens each. -/

namespace Cert.Kernel2Ideal.Hand
open Cert.Kernel2Ideal Cert.Kernel2Ideal.Gen Idealize.ShloMosaic Idealize.ShloMosaic.TcCoe

theorem inbD (n : ℕ) : ∀ x, (![256 * (n % 8), 0] : Fin 2 → ℕ) x + S256x1024.size x ≤ S2048x1024.size x := by
  intro x
  have := Nat.mod_lt n (show 8 > 0 by decide)
  fin_cases x
  · show 256 * (n % 8) + 256 ≤ 2048; omega
  · show 0 + 1024 ≤ 1024; omega
theorem inbR (n : ℕ) : ∀ x, (![256 * (n % 8), 0] : Fin 2 → ℕ) x + S256x512.size x ≤ S2048x512.size x := by
  intro x
  have := Nat.mod_lt n (show 8 > 0 by decide)
  fin_cases x
  · show 256 * (n % 8) + 256 ≤ 2048; omega
  · show 0 + 512 ≤ 512; omega

/-- The rectangle of a chunk's rows in an array of 1024 columns. -/
abbrev rectD (n : ℕ) : Rect S2048x1024 := Rect.unit (s := S2048x1024) ![256 * (n % 8), 0] S256x1024.size (inbD n)
/-- The rectangle of a chunk's rows in an array of 512 columns. -/
abbrev rectR (n : ℕ) : Rect S2048x512 := Rect.unit (s := S2048x512) ![256 * (n % 8), 0] S256x512.size (inbR n)

/-- A chunk's rows of an array of 512 columns. -/
def ldR (a : Memref sig .tc .vmem S2048x512 .bf16) (ha : a.IsWhole) (x : Vec Ideal S2048x512 .bf16) (n : ℕ) : Vec Ideal S256x512 .bf16 :=
  View.readAt (Elt Ideal) a.view (rectR n).toLoadRect (ha.unread x)
/-- A chunk's rows of an array of 1024 columns. -/
def ldD {e : EltTy} (a : Memref sig .tc .vmem S2048x1024 e) (ha : a.IsWhole) (x : Vec Ideal S2048x1024 e) (n : ℕ) : Vec Ideal S256x1024 e :=
  View.readAt (Elt Ideal) a.view (rectD n).toLoadRect (ha.unread x)
/-- The whole of one of the first two weights' blocks. -/
def ldW (a : Memref sig .tc .vmem S1024x512 .bf16) (ha : a.IsWhole) (x : Vec Ideal S1024x512 .bf16) : Vec Ideal S1024x512 .bf16 :=
  View.readAt (Elt Ideal) a.view (Rect.unit (s := S1024x512) ![0, 0] S1024x512.size inb_S1024x512_S1024x512_0_0).toLoadRect (ha.unread x)
/-- The whole of the last weight's block. -/
def ldV (a : Memref sig .tc .vmem S512x1024 .bf16) (ha : a.IsWhole) (x : Vec Ideal S512x1024 .bf16) : Vec Ideal S512x1024 .bf16 :=
  View.readAt (Elt Ideal) a.view (Rect.unit (s := S512x1024) ![0, 0] S512x1024.size inb_S512x1024_S512x1024_0_0).toLoadRect (ha.unread x)
/-- The whole of the hidden activation's block. -/
def ldH (a : Memref sig .tc .vmem S2048x512 .bf16) (ha : a.IsWhole) (x : Vec Ideal S2048x512 .bf16) : Vec Ideal S2048x512 .bf16 :=
  View.readAt (Elt Ideal) a.view (Rect.unit (s := S2048x512) ![0, 0] S2048x512.size inb_S2048x512_S2048x512_0_0).toLoadRect (ha.unread x)
/-- The whole of an array of 1024 columns. -/
def ldF (a : Memref sig .tc .vmem S2048x1024 .bf16) (ha : a.IsWhole) (x : Vec Ideal S2048x1024 .bf16) : Vec Ideal S2048x1024 .bf16 :=
  View.readAt (Elt Ideal) a.view (Rect.unit (s := S2048x1024) ![0, 0] S2048x1024.size inb_S2048x1024_S2048x1024_0_0).toLoadRect (ha.unread x)
/-- A chunk's rows of an array just copied whole. -/
def cvD (a : Memref sig .tc .vmem S2048x1024 .bf16) (x : Vec Ideal S2048x1024 .bf16) (n : ℕ) : Vec Ideal S256x1024 .bf16 :=
  a.view.readCov [(⟨Rect.whole S2048x1024, x⟩ : View.Piece (Elt Ideal) S2048x1024 .bf16)] (rectD n).toLoadRect
/-- The whole of an array just copied whole. -/
def cvF (a : Memref sig .tc .vmem S2048x1024 .bf16) (x : Vec Ideal S2048x1024 .bf16) : Vec Ideal S2048x1024 .bf16 :=
  a.view.readCov [(⟨Rect.whole S2048x1024, x⟩ : View.Piece (Elt Ideal) S2048x1024 .bf16)] (Rect.unit (s := S2048x1024) ![0, 0] S2048x1024.size inb_S2048x1024_S2048x1024_0_0).toLoadRect

section lists
variable (dr : ℕ → Vec Ideal S256x1024 .bf16) (w : Vec Ideal S512x1024 .bf16) (g u : ℕ → Vec Ideal S256x512 .bf16)
variable (wg wu : Vec Ideal S1024x512 .bf16)

/-- The gradients of the gate's pre-activation, by chunks. -/
def L16 : ℕ → List (View.Piece (Elt Ideal) S2048x512 .bf16)
  | 0 => []
  | n + 1 => ⟨rectR n, k0_pay7 (dr n) w (g n) (u n)⟩ :: L16 n
/-- The gradients of the linear half, by chunks. -/
def L17 : ℕ → List (View.Piece (Elt Ideal) S2048x512 .bf16)
  | 0 => []
  | n + 1 => ⟨rectR n, k0_pay8 (k0_pay6 (dr n) w (g n))⟩ :: L17 n
/-- The gradients of the input added to what the point before left, by chunks. -/
def L9B (old : ℕ → Vec Ideal S256x1024 .f32) : ℕ → List (View.Piece (Elt Ideal) S2048x1024 .f32)
  | 0 => []
  | n + 1 => ⟨rectD n, k0_pay9 (k0_pay5 (dr n) w (g n) (u n)) (k0_pay6 (dr n) w (g n)) (old n) wg wu⟩ :: L9B old n
/-- The gradients of the input added to zeros, by chunks. -/
def L9A (a : Memref sig .tc .vmem S2048x1024 .f32) : ℕ → List (View.Piece (Elt Ideal) S2048x1024 .f32)
  | 0 => [⟨Rect.unit (s := S2048x1024) ![0, 0] S2048x1024.size inb_S2048x1024_S2048x1024_0_0, k0_pay1 (F := Ideal)⟩]
  | n + 1 => ⟨rectD n, k0_pay9 (k0_pay5 (dr n) w (g n) (u n)) (k0_pay6 (dr n) w (g n)) (a.view.readCov (L9A a n) (rectD n).toLoadRect) wg wu⟩ :: L9A a n

/-- What a load of the whole of a scratch array reads after its chunks were stored. -/
def cvH (a : Memref sig .tc .vmem S2048x512 .bf16) (L : List (View.Piece (Elt Ideal) S2048x512 .bf16)) : Vec Ideal S2048x512 .bf16 :=
  a.view.readCov L (Rect.unit (s := S2048x512) ![0, 0] S2048x512.size inb_S2048x512_S2048x512_0_0).toLoadRect

end lists

section caseB
variable (c : Dev nD) (i : grid0.Coords) (a3 : Memref sig .tc .vmem S2048x512 .bf16) (b3 : a3.IsWhole) (a4 : Memref sig .tc .vmem S2048x512 .bf16) (b4 : a4.IsWhole) (a5 : Memref sig .tc .vmem S2048x512 .bf16) (b5 : a5.IsWhole) (a6 : Memref sig .tc .vmem S1024x512 .bf16) (b6 : a6.IsWhole) (a7 : Memref sig .tc .vmem S1024x512 .bf16) (b7 : a7.IsWhole) (a8 : Memref sig .tc .vmem S512x1024 .bf16) (b8 : a8.IsWhole) (a9 : Memref sig .tc .vmem S2048x1024 .f32) (b9 : a9.IsWhole) (a10 : Memref sig .tc .vmem S1024x512 .bf16) (b10 : a10.IsWhole) (a11 : Memref sig .tc .vmem S1024x512 .bf16) (b11 : a11.IsWhole) (a12 : Memref sig .tc .vmem S512x1024 .bf16) (b12 : a12.IsWhole) (a13 : Memref sig .tc .vmem S2048x1024 .bf16) (b13 : a13.IsWhole) (a14 : Memref sig .tc .vmem S2048x1024 .bf16) (b14 : a14.IsWhole) (a16 : Memref sig .tc .vmem S2048x512 .bf16) (b16 : a16.IsWhole) (a17 : Memref sig .tc .vmem S2048x512 .bf16) (b17 : a17.IsWhole) (hc0 : ¬cond0_0 i)
    (x0 : Vec Ideal S2048x512 .bf16) (x1 : Vec Ideal S2048x512 .bf16) (x2 : Vec Ideal S2048x512 .bf16) (x3 : Vec Ideal S1024x512 .bf16) (x4 : Vec Ideal S1024x512 .bf16) (x5 : Vec Ideal S512x1024 .bf16) (xo6 : Vec Ideal S2048x1024 .f32) (xs0 : Vec Ideal S2048x1024 .bf16) (xs1 : Vec Ideal S2048x1024 .bf16) (fh0 : HbBuf0 (F := Ideal) c hbM0_0) (fh1 : HbBuf0 (F := Ideal) c hbM0_1)
theorem runB_6 : (kernelRun0_B (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1).1 = L9B (ldD a13 b13 xs0) (ldV a8 b8 x5) (ldR a3 b3 x0) (ldR a4 b4 x1) (ldW a6 b6 x3) (ldW a7 b7 x4) (ldD a9 b9 xo6) 8 := by
  unfold kernelRun0_B
  dsimp only
  rfl

theorem runB_7 : (kernelRun0_B (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1).2.1 = [⟨Rect.unit (s := S1024x512) ![0, 0] S1024x512.size inb_S1024x512_S1024x512_0_0, k0_pay76 (ldF a14 b14 xs1) (cvH a16 (L16 (ldD a13 b13 xs0) (ldV a8 b8 x5) (ldR a3 b3 x0) (ldR a4 b4 x1) 8))⟩] := by
  unfold kernelRun0_B
  dsimp only
  rfl

theorem runB_8 : (kernelRun0_B (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1).2.2.1 = [⟨Rect.unit (s := S1024x512) ![0, 0] S1024x512.size inb_S1024x512_S1024x512_0_0, k0_pay77 (ldF a14 b14 xs1) (cvH a17 (L17 (ldD a13 b13 xs0) (ldV a8 b8 x5) (ldR a3 b3 x0) 8))⟩] := by
  unfold kernelRun0_B
  dsimp only
  rfl

theorem runB_9 : (kernelRun0_B (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1).2.2.2.1 = [⟨Rect.unit (s := S512x1024) ![0, 0] S512x1024.size inb_S512x1024_S512x1024_0_0, k0_pay78 (ldH a5 b5 x2) (ldF a13 b13 xs0)⟩] := by
  unfold kernelRun0_B
  dsimp only
  rfl

theorem runB_s0 : (kernelRun0_B (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1).2.2.2.2.1 = [] := by
  unfold kernelRun0_B
  dsimp only

theorem runB_s1 : (kernelRun0_B (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1).2.2.2.2.2.1 = [] := by
  unfold kernelRun0_B
  dsimp only

end caseB

section caseA
variable (c : Dev nD) (i : grid0.Coords) (a3 : Memref sig .tc .vmem S2048x512 .bf16) (b3 : a3.IsWhole) (a4 : Memref sig .tc .vmem S2048x512 .bf16) (b4 : a4.IsWhole) (a5 : Memref sig .tc .vmem S2048x512 .bf16) (b5 : a5.IsWhole) (a6 : Memref sig .tc .vmem S1024x512 .bf16) (b6 : a6.IsWhole) (a7 : Memref sig .tc .vmem S1024x512 .bf16) (b7 : a7.IsWhole) (a8 : Memref sig .tc .vmem S512x1024 .bf16) (b8 : a8.IsWhole) (a9 : Memref sig .tc .vmem S2048x1024 .f32) (b9 : a9.IsWhole) (a10 : Memref sig .tc .vmem S1024x512 .bf16) (b10 : a10.IsWhole) (a11 : Memref sig .tc .vmem S1024x512 .bf16) (b11 : a11.IsWhole) (a12 : Memref sig .tc .vmem S512x1024 .bf16) (b12 : a12.IsWhole) (a13 : Memref sig .tc .vmem S2048x1024 .bf16) (b13 : a13.IsWhole) (a14 : Memref sig .tc .vmem S2048x1024 .bf16) (b14 : a14.IsWhole) (a16 : Memref sig .tc .vmem S2048x512 .bf16) (b16 : a16.IsWhole) (a17 : Memref sig .tc .vmem S2048x512 .bf16) (b17 : a17.IsWhole) (hc0 : cond0_0 i)
    (x0 : Vec Ideal S2048x512 .bf16) (x1 : Vec Ideal S2048x512 .bf16) (x2 : Vec Ideal S2048x512 .bf16) (x3 : Vec Ideal S1024x512 .bf16) (x4 : Vec Ideal S1024x512 .bf16) (x5 : Vec Ideal S512x1024 .bf16) (fh0 : HbBuf0 (F := Ideal) c hbM0_0) (fh1 : HbBuf0 (F := Ideal) c hbM0_1)
theorem runA_6 : (kernelRun0_A (F := Ideal) c i a3 b3 a4 b4 a5 b5 a6 b6 a7 b7 a8 b8 a9 b9 a10 b10 a11 b11 a12 b12 a13 b13 a14 b14 a16 b16 a17 b17 hc0 x0 x1 x2 x3 x4 x5 fh0 fh1).1 = L9A (cvD a13 (kernelRun0_A.sl.dma0 c fh0)) (ldV a8 b8 x5) (ldR a3 b3 x0) (ldR a4 b4 x1) (ldW a6 b6 x3) (ldW a7 b7 x4) a9 8 := by
  unfold kernelRun0_A
  dsimp only
  rfl

theorem runA_7 : (kernelRun0_A (F := Ideal) c i a3 b3 a4 b4 a5 b5 a6 b6 a7 b7 a8 b8 a9 b9 a10 b10 a11 b11 a12 b12 a13 b13 a14 b14 a16 b16 a17 b17 hc0 x0 x1 x2 x3 x4 x5 fh0 fh1).2.1 = [⟨Rect.unit (s := S1024x512) ![0, 0] S1024x512.size inb_S1024x512_S1024x512_0_0, k0_pay76 (cvF a14 (kernelRun0_A.sl.dma0_1 c fh1)) (cvH a16 (L16 (cvD a13 (kernelRun0_A.sl.dma0 c fh0)) (ldV a8 b8 x5) (ldR a3 b3 x0) (ldR a4 b4 x1) 8))⟩] := by
  unfold kernelRun0_A
  dsimp only
  rfl

theorem runA_8 : (kernelRun0_A (F := Ideal) c i a3 b3 a4 b4 a5 b5 a6 b6 a7 b7 a8 b8 a9 b9 a10 b10 a11 b11 a12 b12 a13 b13 a14 b14 a16 b16 a17 b17 hc0 x0 x1 x2 x3 x4 x5 fh0 fh1).2.2.1 = [⟨Rect.unit (s := S1024x512) ![0, 0] S1024x512.size inb_S1024x512_S1024x512_0_0, k0_pay77 (cvF a14 (kernelRun0_A.sl.dma0_1 c fh1)) (cvH a17 (L17 (cvD a13 (kernelRun0_A.sl.dma0 c fh0)) (ldV a8 b8 x5) (ldR a3 b3 x0) 8))⟩] := by
  unfold kernelRun0_A
  dsimp only
  rfl

theorem runA_9 : (kernelRun0_A (F := Ideal) c i a3 b3 a4 b4 a5 b5 a6 b6 a7 b7 a8 b8 a9 b9 a10 b10 a11 b11 a12 b12 a13 b13 a14 b14 a16 b16 a17 b17 hc0 x0 x1 x2 x3 x4 x5 fh0 fh1).2.2.2.1 = [⟨Rect.unit (s := S512x1024) ![0, 0] S512x1024.size inb_S512x1024_S512x1024_0_0, k0_pay78 (ldH a5 b5 x2) (cvF a13 (kernelRun0_A.sl.dma0 c fh0))⟩] := by
  unfold kernelRun0_A
  dsimp only
  rfl

theorem runA_s0 : (kernelRun0_A (F := Ideal) c i a3 b3 a4 b4 a5 b5 a6 b6 a7 b7 a8 b8 a9 b9 a10 b10 a11 b11 a12 b12 a13 b13 a14 b14 a16 b16 a17 b17 hc0 x0 x1 x2 x3 x4 x5 fh0 fh1).2.2.2.2.1 = [⟨Rect.whole S2048x1024, kernelRun0_A.sl.dma0 c fh0⟩] := by
  unfold kernelRun0_A
  dsimp only

theorem runA_s1 : (kernelRun0_A (F := Ideal) c i a3 b3 a4 b4 a5 b5 a6 b6 a7 b7 a8 b8 a9 b9 a10 b10 a11 b11 a12 b12 a13 b13 a14 b14 a16 b16 a17 b17 hc0 x0 x1 x2 x3 x4 x5 fh0 fh1).2.2.2.2.2.1 = [⟨Rect.whole S2048x1024, kernelRun0_A.sl.dma0_1 c fh1⟩] := by
  unfold kernelRun0_A
  dsimp only

end caseA

end Cert.Kernel2Ideal.Hand
-- ==== Proof.Ff.Point.lean ====
module
public import proofs.«01_k».proof.Proof.Ff.Run
public import Idealize.ShloMosaic.Lib.WritesUnit
@[expose] public section
set_option maxRecDepth 16384
noncomputable section

/-! A grid point's stores read back over the reals, chunk by chunk. -/

namespace Cert.Kernel2Ideal.Hand
open Cert.Kernel2Ideal Cert.Kernel2Ideal.Gen Idealize.ShloMosaic Idealize.ShloMosaic.TcCoe
open FeedForward (Arg sg gate up hid dh dg du dxn)

section reads
variable {κ : Kind} {ss : Space} {e : EltTy} {C : ℕ} (V : View sig κ ss ⟨2, ![2048, C]⟩ e) (f : V.ty.Contents (Elt Ideal))

/-- Reading the rows a chunk's store has just written, or those written before it. -/
theorem read_rows (L : List (View.Piece (Elt Ideal) ⟨2, ![2048, C]⟩ e)) (o : ℕ) (h) (w : Vec Ideal ⟨2, ![256, C]⟩ e) (G : ℕ → ℕ → Elt Ideal e)
    (hw : ∀ (a : Fin 256) (b : Fin C), w (ix2 a b) = G (o + a.val) b.val)
    (hL : ∀ (r : Fin 2048) (b : Fin C), r.val < o → V.read (Elt Ideal) (V.writes (Elt Ideal) f L) (ix2 r b) = G r.val b.val)
    (r : Fin 2048) (b : Fin C) (hr : r.val < o + 256) :
    V.read (Elt Ideal) (V.writes (Elt Ideal) f (⟨Rect.unit (s := ⟨2, ![2048, C]⟩) ![o, 0] ![256, C] h, w⟩ :: L)) (ix2 r b) = G r.val b.val := by
  by_cases hb : r.val < o
  · rw [View.read_writes_cons_unit_of_not_mem V f h w _ _ rfl 0 (Or.inl hb)]
    exact hL r b hb
  · rw [View.read_writes_cons_unit_of_mem V f h w _ _ (ix2 ⟨r.val - o, by omega⟩ b) rfl, hw]
    · exact congrArg (fun n => G n b.val) (show o + (r.val - o) = r.val by omega)
    · intro y; match y with
      | ⟨0, _⟩ => show r.val = o + (r.val - o); omega
      | ⟨1, _⟩ => show b.val = 0 + b.val; omega

/-- Reading the rows below those a chunk's store has written. -/
theorem read_below (L : List (View.Piece (Elt Ideal) ⟨2, ![2048, C]⟩ e)) (o : ℕ) (h) (w : Vec Ideal ⟨2, ![256, C]⟩ e)
    (r : Fin 2048) (b : Fin C) (hr : o + 256 ≤ r.val) :
    V.read (Elt Ideal) (V.writes (Elt Ideal) f (⟨Rect.unit (s := ⟨2, ![2048, C]⟩) ![o, 0] ![256, C] h, w⟩ :: L)) (ix2 r b)
      = V.read (Elt Ideal) (V.writes (Elt Ideal) f L) (ix2 r b) :=
  View.read_writes_cons_unit_of_not_mem V f h w _ _ rfl 0 (Or.inr hr)

/-- Loading a chunk's rows. -/
theorem load_rows (o : ℕ) (h) (a : Fin 256) (b : Fin C) (ho : o + a.val < 2048) :
    V.readAt (Elt Ideal) (Rect.unit (s := ⟨2, ![2048, C]⟩) ![o, 0] ![256, C] h).toLoadRect f (ix2 a b)
      = V.read (Elt Ideal) f (ix2 ⟨o + a.val, ho⟩ b) := by
  rw [View.readAt_apply]
  congr 1
  funext y
  refine Fin.ext ?_
  match y with
  | ⟨0, _⟩ => show o + 1 * a.val = o + a.val; omega
  | ⟨1, _⟩ => show 0 + 1 * b.val = b.val; omega

end reads

section whole
variable {κ : Kind} {ss : Space} {e : EltTy} {R C : ℕ} (V : View sig κ ss ⟨2, ![R, C]⟩ e) (f : V.ty.Contents (Elt Ideal))

theorem read_whole (L : List (View.Piece (Elt Ideal) ⟨2, ![R, C]⟩ e)) (h) (w : Vec Ideal ⟨2, ![R, C]⟩ e) (a : Fin R) (b : Fin C) :
    V.read (Elt Ideal) (V.writes (Elt Ideal) f (⟨Rect.unit (s := ⟨2, ![R, C]⟩) ![0, 0] ![R, C] h, w⟩ :: L)) (ix2 a b) = w (ix2 a b) := by
  rw [View.read_writes_cons_unit_of_mem V f h w _ _ (ix2 a b) rfl]
  intro y; match y with
  | ⟨0, _⟩ => show a.val = 0 + a.val; omega
  | ⟨1, _⟩ => show b.val = 0 + b.val; omega

theorem read_copied (L : List (View.Piece (Elt Ideal) ⟨2, ![R, C]⟩ e)) (w : Vec Ideal ⟨2, ![R, C]⟩ e) (a : Fin R) (b : Fin C) :
    V.read (Elt Ideal) (V.writes (Elt Ideal) f (⟨Rect.whole ⟨2, ![R, C]⟩, w⟩ :: L)) (ix2 a b) = w (ix2 a b) := by
  refine (View.read_writes_cons_unit_of_mem V f (off := fun _ => 0) (size := ![R, C]) (fun x => by show 0 + ![R, C] x ≤ ![R, C] x; omega) w _ _ (ix2 a b) rfl ?_)
  intro y
  show _ = 0 + _
  omega

theorem load_whole (h) (a : Fin R) (b : Fin C) :
    V.readAt (Elt Ideal) (Rect.unit (s := ⟨2, ![R, C]⟩) ![0, 0] ![R, C] h).toLoadRect f (ix2 a b) = V.read (Elt Ideal) f (ix2 a b) := by
  rw [View.readAt_apply]
  congr 1
  funext y
  refine Fin.ext ?_
  match y with
  | ⟨0, _⟩ => show 0 + 1 * a.val = a.val; omega
  | ⟨1, _⟩ => show 0 + 1 * b.val = b.val; omega

end whole

theorem row_lt (n : ℕ) (a : Fin 256) : 256 * (n % 8) + a.val < 2048 := by
  have := Nat.mod_lt n (show 8 > 0 by decide)
  omega

theorem ldR_at (a : Memref sig .tc .vmem S2048x512 .bf16) (ha : a.IsWhole) {x : Vec Ideal S2048x512 .bf16} {p : ℕ → ℕ → ℝ}
    (h : ∀ (t : Fin 2048) (j : Fin 512), x (ix2 t j) = ((p t j : ℝ) : EReal)) (n : ℕ) (i : Fin 256) (j : Fin 512) :
    ldR a ha x n (ix2 i j) = ((p (256 * (n % 8) + i) j : ℝ) : EReal) := by
  refine (load_rows a.view _ _ _ i j (row_lt n i)).trans ?_
  rw [ha.read_unread]
  exact h ⟨_, row_lt n i⟩ j

theorem ldD_at (a : Memref sig .tc .vmem S2048x1024 .bf16) (ha : a.IsWhole) {x : Vec Ideal S2048x1024 .bf16} {p : ℕ → ℕ → ℝ}
    (h : ∀ (t : Fin 2048) (j : Fin 1024), x (ix2 t j) = ((p t j : ℝ) : EReal)) (n : ℕ) (i : Fin 256) (j : Fin 1024) :
    ldD a ha x n (ix2 i j) = ((p (256 * (n % 8) + i) j : ℝ) : EReal) := by
  refine (load_rows a.view _ _ _ i j (row_lt n i)).trans ?_
  rw [ha.read_unread]
  exact h ⟨_, row_lt n i⟩ j

theorem ldD32_at (a : Memref sig .tc .vmem S2048x1024 .f32) (ha : a.IsWhole) {x : Vec Ideal S2048x1024 .f32} {p : ℕ → ℕ → ℝ}
    (h : ∀ (t : Fin 2048) (j : Fin 1024), x (ix2 t j) = ((p t j : ℝ) : EReal)) (n : ℕ) (i : Fin 256) (j : Fin 1024) :
    ldD a ha x n (ix2 i j) = ((p (256 * (n % 8) + i) j : ℝ) : EReal) := by
  refine (load_rows a.view _ _ _ i j (row_lt n i)).trans ?_
  rw [ha.read_unread]
  exact h ⟨_, row_lt n i⟩ j

theorem cvD_at (a : Memref sig .tc .vmem S2048x1024 .bf16) {x : Vec Ideal S2048x1024 .bf16} {p : ℕ → ℕ → ℝ}
    (h : ∀ (t : Fin 2048) (j : Fin 1024), x (ix2 t j) = ((p t j : ℝ) : EReal)) (n : ℕ) (i : Fin 256) (j : Fin 1024) :
    cvD a x n (ix2 i j) = ((p (256 * (n % 8) + i) j : ℝ) : EReal) := by
  refine (load_rows a.view _ _ _ i j (row_lt n i)).trans ?_
  exact (read_copied a.view _ _ x _ _).trans (h ⟨_, row_lt n i⟩ j)

theorem cvF_at (a : Memref sig .tc .vmem S2048x1024 .bf16) (x : Vec Ideal S2048x1024 .bf16) (i : Fin 2048) (j : Fin 1024) :
    cvF a x (ix2 i j) = x (ix2 i j) :=
  (load_whole a.view _ _ i j).trans (read_copied a.view _ _ x _ _)

theorem ldF_at (a : Memref sig .tc .vmem S2048x1024 .bf16) (ha : a.IsWhole) (x : Vec Ideal S2048x1024 .bf16) (i : Fin 2048) (j : Fin 1024) :
    ldF a ha x (ix2 i j) = x (ix2 i j) := by
  refine (load_whole a.view _ _ i j).trans ?_
  rw [ha.read_unread]

theorem ldH_at (a : Memref sig .tc .vmem S2048x512 .bf16) (ha : a.IsWhole) (x : Vec Ideal S2048x512 .bf16) (i : Fin 2048) (j : Fin 512) :
    ldH a ha x (ix2 i j) = x (ix2 i j) := by
  refine (load_whole a.view _ _ i j).trans ?_
  rw [ha.read_unread]

theorem ldW_at (a : Memref sig .tc .vmem S1024x512 .bf16) (ha : a.IsWhole) (x : Vec Ideal S1024x512 .bf16) (i : Fin 1024) (j : Fin 512) :
    ldW a ha x (ix2 i j) = x (ix2 i j) := by
  refine (load_whole a.view _ _ i j).trans ?_
  rw [ha.read_unread]

theorem ldV_at (a : Memref sig .tc .vmem S512x1024 .bf16) (ha : a.IsWhole) (x : Vec Ideal S512x1024 .bf16) (i : Fin 512) (j : Fin 1024) :
    ldV a ha x (ix2 i j) = x (ix2 i j) := by
  refine (load_whole a.view _ _ i j).trans ?_
  rw [ha.read_unread]

section lists
variable {dr : ℕ → Vec Ideal S256x1024 .bf16} {w : Vec Ideal S512x1024 .bf16} {g u : ℕ → Vec Ideal S256x512 .bf16}
variable {wg wu : Vec Ideal S1024x512 .bf16} {A : Arg} {n : ℕ}
variable (hr : ∀ (k : ℕ) (a : Fin 256) (d : Fin 1024), dr k (ix2 a d) = ((A.r (256 * (k % 8) + a) d : ℝ) : EReal))
variable (hw : ∀ (j : Fin 512) (d : Fin 1024), w (ix2 j d) = ((A.d (512 * n + j) d : ℝ) : EReal))
variable (hg : ∀ (k : ℕ) (a : Fin 256) (j : Fin 512), g k (ix2 a j) = ((gate A (256 * (k % 8) + a) (512 * n + j) : ℝ) : EReal))
variable (hu : ∀ (k : ℕ) (a : Fin 256) (j : Fin 512), u k (ix2 a j) = ((up A (256 * (k % 8) + a) (512 * n + j) : ℝ) : EReal))
variable (hwg : ∀ (d : Fin 1024) (j : Fin 512), wg (ix2 d j) = ((A.g d (512 * n + j) : ℝ) : EReal))
variable (hwu : ∀ (d : Fin 1024) (j : Fin 512), wu (ix2 d j) = ((A.u d (512 * n + j) : ℝ) : EReal))

include hr hw hg hu in
theorem dg_at (k : ℕ) (a : Fin 256) (j : Fin 512) :
    k0_pay5 (F := Ideal) (dr k) w (g k) (u k) (ix2 a j) = ((dg A (256 * (k % 8) + a) (512 * n + j) : ℝ) : EReal) :=
  pay5_at (r := fun a d => A.r (256 * (k % 8) + a) d) (w := fun j d => A.d (512 * n + j) d)
    (g := fun a j => gate A (256 * (k % 8) + a) (512 * n + j)) (u := fun a j => up A (256 * (k % 8) + a) (512 * n + j)) (hr k) hw (hg k) (hu k) a j

include hr hw hg in
theorem du_at (k : ℕ) (a : Fin 256) (j : Fin 512) :
    k0_pay6 (F := Ideal) (dr k) w (g k) (ix2 a j) = ((du A (256 * (k % 8) + a) (512 * n + j) : ℝ) : EReal) :=
  pay6_at (r := fun a d => A.r (256 * (k % 8) + a) d) (w := fun j d => A.d (512 * n + j) d)
    (g := fun a j => gate A (256 * (k % 8) + a) (512 * n + j)) (hr k) hw (hg k) a j

include hr hw hg hu hwg hwu in
theorem dx_at {old : Vec Ideal S256x1024 .f32} (k : ℕ)
    (ho : ∀ (a : Fin 256) (d : Fin 1024), old (ix2 a d) = ((dxn A (512 * n) (256 * (k % 8) + a) d : ℝ) : EReal)) (a : Fin 256) (d : Fin 1024) :
    k0_pay9 (F := Ideal) (k0_pay5 (dr k) w (g k) (u k)) (k0_pay6 (dr k) w (g k)) old wg wu (ix2 a d)
      = ((dxn A (512 * (n + 1)) (256 * (k % 8) + a) d : ℝ) : EReal) := by
  refine (pay9_at (p := fun a j => dg A (256 * (k % 8) + a) (512 * n + j)) (q := fun a j => du A (256 * (k % 8) + a) (512 * n + j))
    (o := fun a d => dxn A (512 * n) (256 * (k % 8) + a) d) (wg := fun d j => A.g d (512 * n + j)) (wu := fun d j => A.u d (512 * n + j))
    (dg_at hr hw hg hu k) (du_at hr hw hg k) ho hwg hwu a d).trans ?_
  exact congrArg (fun x : ℝ => (x : EReal)) (FeedForward.dxn_next A (512 * n) _ _)

section rows
variable {κ : Kind} {ss : Space}

include hr hw hg hu in
theorem read_L16 (V : View sig κ ss S2048x512 .bf16) (f : V.ty.Contents (Elt Ideal)) : ∀ (k : ℕ), k ≤ 8 → ∀ (t : Fin 2048) (j : Fin 512), t.val < 256 * k →
    V.read (Elt Ideal) (V.writes (Elt Ideal) f (L16 dr w g u k)) (ix2 t j) = ((dg A t (512 * n + j) : ℝ) : EReal)
  | 0, _, t, j, h => absurd h (by omega)
  | k + 1, hk, t, j, h => by
    have hm : k % 8 = k := Nat.mod_eq_of_lt (by omega)
    refine read_rows V f (L16 dr w g u k) (256 * (k % 8)) (inbR k) _ (fun t j => ((dg A t (512 * n + j) : ℝ) : EReal)) ?_
      (fun r b hb => read_L16 V f k (by omega) r b (by omega)) t j (by omega)
    intro a b
    pointwise [k0_pay7]
    exact dg_at hr hw hg hu k a b

include hr hw hg in
theorem read_L17 (V : View sig κ ss S2048x512 .bf16) (f : V.ty.Contents (Elt Ideal)) : ∀ (k : ℕ), k ≤ 8 → ∀ (t : Fin 2048) (j : Fin 512), t.val < 256 * k →
    V.read (Elt Ideal) (V.writes (Elt Ideal) f (L17 dr w g k)) (ix2 t j) = ((du A t (512 * n + j) : ℝ) : EReal)
  | 0, _, t, j, h => absurd h (by omega)
  | k + 1, hk, t, j, h => by
    have hm : k % 8 = k := Nat.mod_eq_of_lt (by omega)
    refine read_rows V f (L17 dr w g k) (256 * (k % 8)) (inbR k) _ (fun t j => ((du A t (512 * n + j) : ℝ) : EReal)) ?_
      (fun r b hb => read_L17 V f k (by omega) r b (by omega)) t j (by omega)
    intro a b
    pointwise [k0_pay8]
    exact du_at hr hw hg k a b

include hr hw hg hu hwg hwu in
theorem read_L9B (V : View sig κ ss S2048x1024 .f32) (f : V.ty.Contents (Elt Ideal)) {old : ℕ → Vec Ideal S256x1024 .f32}
    (ho : ∀ (k : ℕ) (a : Fin 256) (d : Fin 1024), old k (ix2 a d) = ((dxn A (512 * n) (256 * (k % 8) + a) d : ℝ) : EReal)) :
    ∀ (k : ℕ), k ≤ 8 → ∀ (t : Fin 2048) (d : Fin 1024), t.val < 256 * k →
    V.read (Elt Ideal) (V.writes (Elt Ideal) f (L9B dr w g u wg wu old k)) (ix2 t d) = ((dxn A (512 * (n + 1)) t d : ℝ) : EReal)
  | 0, _, t, j, h => absurd h (by omega)
  | k + 1, hk, t, j, h => by
    have hm : k % 8 = k := Nat.mod_eq_of_lt (by omega)
    exact read_rows V f (L9B dr w g u wg wu old k) (256 * (k % 8)) (inbD k) _ (fun t d => ((dxn A (512 * (n + 1)) t d : ℝ) : EReal))
      (dx_at hr hw hg hu hwg hwu k (ho k)) (fun r b hb => read_L9B V f ho k (by omega) r b (by omega)) t j (by omega)

/-- Below the chunks stored so far the first point's gradient of the input is still zero. -/
theorem read_L9A_zero (a : Memref sig .tc .vmem S2048x1024 .f32) (V : View sig κ ss S2048x1024 .f32) (f : V.ty.Contents (Elt Ideal)) :
    ∀ (k : ℕ), k ≤ 8 → ∀ (t : Fin 2048) (d : Fin 1024), 256 * k ≤ t.val →
    V.read (Elt Ideal) (V.writes (Elt Ideal) f (L9A dr w g u wg wu a k)) (ix2 t d) = ((0 : ℝ) : EReal)
  | 0, _, t, j, h => (read_whole V f [] _ (k0_pay1 (F := Ideal)) t j).trans (pay1_at t j)
  | k + 1, hk, t, j, h => by
    have hm : k % 8 = k := Nat.mod_eq_of_lt (by omega)
    exact (read_below V f (L9A dr w g u wg wu a k) (256 * (k % 8)) (inbD k) _ t j (by omega)).trans (read_L9A_zero a V f k (by omega) t j (by omega))

end rows
end lists

section first
variable {dr : ℕ → Vec Ideal S256x1024 .bf16} {w : Vec Ideal S512x1024 .bf16} {g u : ℕ → Vec Ideal S256x512 .bf16}
variable {wg wu : Vec Ideal S1024x512 .bf16} {A : Arg}
variable (hr : ∀ (k : ℕ) (a : Fin 256) (d : Fin 1024), dr k (ix2 a d) = ((A.r (256 * (k % 8) + a) d : ℝ) : EReal))
variable (hw : ∀ (j : Fin 512) (d : Fin 1024), w (ix2 j d) = ((A.d (512 * 0 + j) d : ℝ) : EReal))
variable (hg : ∀ (k : ℕ) (a : Fin 256) (j : Fin 512), g k (ix2 a j) = ((gate A (256 * (k % 8) + a) (512 * 0 + j) : ℝ) : EReal))
variable (hu : ∀ (k : ℕ) (a : Fin 256) (j : Fin 512), u k (ix2 a j) = ((up A (256 * (k % 8) + a) (512 * 0 + j) : ℝ) : EReal))
variable (hwg : ∀ (d : Fin 1024) (j : Fin 512), wg (ix2 d j) = ((A.g d (512 * 0 + j) : ℝ) : EReal))
variable (hwu : ∀ (d : Fin 1024) (j : Fin 512), wu (ix2 d j) = ((A.u d (512 * 0 + j) : ℝ) : EReal))
include hr hw hg hu hwg hwu

theorem read_L9A {κ : Kind} {ss : Space} (a : Memref sig .tc .vmem S2048x1024 .f32) (V : View sig κ ss S2048x1024 .f32) (f : V.ty.Contents (Elt Ideal)) :
    ∀ (k : ℕ), k ≤ 8 → ∀ (t : Fin 2048) (d : Fin 1024), t.val < 256 * k →
    V.read (Elt Ideal) (V.writes (Elt Ideal) f (L9A dr w g u wg wu a k)) (ix2 t d) = ((dxn A 512 t d : ℝ) : EReal)
  | 0, _, t, j, h => absurd h (by omega)
  | k + 1, hk, t, j, h => by
    have hm : k % 8 = k := Nat.mod_eq_of_lt (by omega)
    refine read_rows V f (L9A dr w g u wg wu a k) (256 * (k % 8)) (inbD k) _ (fun t d => ((dxn A 512 t d : ℝ) : EReal))
      (fun i d => dx_at (n := 0) hr hw hg hu hwg hwu k (fun i d => ?_) i d) (fun r b hb => read_L9A a V f k (by omega) r b (by omega)) t j (by omega)
    refine (load_rows a.view _ _ _ i d (row_lt k i)).trans ?_
    refine (read_L9A_zero a a.view _ k (by omega) _ _ (by show 256 * k ≤ 256 * (k % 8) + i.val; omega)).trans ?_
    exact congrArg (fun x : ℝ => (x : EReal)) (by simp [dxn])

end first
end Cert.Kernel2Ideal.Hand
-- ==== Proof.Ff.Grid.lean ====
module
public import proofs.«01_k».proof.Proof.Ff.Point
public import proofs.«01_k».proof.Proof.Gen.Kernel2Ideal.Value
public import proofs.«01_k».proof.Proof.At
@[expose] public section
set_option maxRecDepth 16384
noncomputable section

/-! The grid: what every point leaves, by induction over the six points, and the four arrays at the
end. -/

namespace Cert.Kernel2Ideal.Hand
open Cert.Kernel2Ideal Cert.Kernel2Ideal.Gen Cert.Kernel2Ideal.Value Idealize.ShloMosaic Idealize.ShloMosaic.TcCoe
open FeedForward (Arg sg gate up hid dh dg du dxn dwg dwu dwd)

/-- What a grid point's six blocks hold, over the reals. -/
structure Blk (A : Arg) (n : ℕ) (x0 x1 x2 : Vec Ideal S2048x512 .bf16) (x3 x4 : Vec Ideal S1024x512 .bf16) (x5 : Vec Ideal S512x1024 .bf16) : Prop where
  gate : ∀ (t : Fin 2048) (j : Fin 512), x0 (ix2 t j) = ((gate A t (512 * n + j) : ℝ) : EReal)
  up : ∀ (t : Fin 2048) (j : Fin 512), x1 (ix2 t j) = ((up A t (512 * n + j) : ℝ) : EReal)
  hid : ∀ (t : Fin 2048) (j : Fin 512), x2 (ix2 t j) = ((hid A t (512 * n + j) : ℝ) : EReal)
  g : ∀ (d : Fin 1024) (j : Fin 512), x3 (ix2 d j) = ((A.g d (512 * n + j) : ℝ) : EReal)
  u : ∀ (d : Fin 1024) (j : Fin 512), x4 (ix2 d j) = ((A.u d (512 * n + j) : ℝ) : EReal)
  d : ∀ (j : Fin 512) (d : Fin 1024), x5 (ix2 j d) = ((A.d (512 * n + j) d : ℝ) : EReal)

/-- What the outputs' blocks and the two copied arrays hold after grid point `n`. -/
structure After (A : Arg) (n : ℕ) (st : Vec Ideal S2048x1024 .f32 × Vec Ideal S1024x512 .bf16 × Vec Ideal S1024x512 .bf16 × Vec Ideal S512x1024 .bf16 × Vec Ideal S2048x1024 .bf16 × Vec Ideal S2048x1024 .bf16) : Prop where
  dx : ∀ (t : Fin 2048) (d : Fin 1024), st.1 (ix2 t d) = ((dxn A (512 * (n + 1)) t d : ℝ) : EReal)
  wg : ∀ (d : Fin 1024) (j : Fin 512), st.2.1 (ix2 d j) = ((dwg A d (512 * n + j) : ℝ) : EReal)
  wu : ∀ (d : Fin 1024) (j : Fin 512), st.2.2.1 (ix2 d j) = ((dwu A d (512 * n + j) : ℝ) : EReal)
  wd : ∀ (j : Fin 512) (d : Fin 1024), st.2.2.2.1 (ix2 j d) = ((dwd A (512 * n + j) d : ℝ) : EReal)
  r : ∀ (t : Fin 2048) (d : Fin 1024), st.2.2.2.2.1 (ix2 t d) = ((A.r t d : ℝ) : EReal)
  x : ∀ (t : Fin 2048) (d : Fin 1024), st.2.2.2.2.2 (ix2 t d) = ((A.x t d : ℝ) : EReal)

section caseA
variable (c : Dev nD) (i : grid0.Coords) (a3 : Memref sig .tc .vmem S2048x512 .bf16) (b3 : a3.IsWhole) (a4 : Memref sig .tc .vmem S2048x512 .bf16) (b4 : a4.IsWhole) (a5 : Memref sig .tc .vmem S2048x512 .bf16) (b5 : a5.IsWhole) (a6 : Memref sig .tc .vmem S1024x512 .bf16) (b6 : a6.IsWhole) (a7 : Memref sig .tc .vmem S1024x512 .bf16) (b7 : a7.IsWhole) (a8 : Memref sig .tc .vmem S512x1024 .bf16) (b8 : a8.IsWhole) (a9 : Memref sig .tc .vmem S2048x1024 .f32) (b9 : a9.IsWhole) (a10 : Memref sig .tc .vmem S1024x512 .bf16) (b10 : a10.IsWhole) (a11 : Memref sig .tc .vmem S1024x512 .bf16) (b11 : a11.IsWhole) (a12 : Memref sig .tc .vmem S512x1024 .bf16) (b12 : a12.IsWhole) (a13 : Memref sig .tc .vmem S2048x1024 .bf16) (b13 : a13.IsWhole) (a14 : Memref sig .tc .vmem S2048x1024 .bf16) (b14 : a14.IsWhole) (a16 : Memref sig .tc .vmem S2048x512 .bf16) (b16 : a16.IsWhole) (a17 : Memref sig .tc .vmem S2048x512 .bf16) (b17 : a17.IsWhole) (hc0 : cond0_0 i)
    (x0 : Vec Ideal S2048x512 .bf16) (x1 : Vec Ideal S2048x512 .bf16) (x2 : Vec Ideal S2048x512 .bf16) (x3 : Vec Ideal S1024x512 .bf16) (x4 : Vec Ideal S1024x512 .bf16) (x5 : Vec Ideal S512x1024 .bf16) (fh0 : HbBuf0 (F := Ideal) c hbM0_0) (fh1 : HbBuf0 (F := Ideal) c hbM0_1)
theorem tuple_A {A : Arg} (hB : Blk A 0 x0 x1 x2 x3 x4 x5)
    (hr : ∀ (t : Fin 2048) (d : Fin 1024), (fh0 : Vec Ideal S2048x1024 .bf16) (ix2 t d) = ((A.r t d : ℝ) : EReal))
    (hx : ∀ (t : Fin 2048) (d : Fin 1024), (fh1 : Vec Ideal S2048x1024 .bf16) (ix2 t d) = ((A.x t d : ℝ) : EReal)) :
    After A 0 (out0_A_6 (F := Ideal) c i a3 b3 a4 b4 a5 b5 a6 b6 a7 b7 a8 b8 a9 b9 a10 b10 a11 b11 a12 b12 a13 b13 a14 b14 a16 b16 a17 b17 hc0 x0 x1 x2 x3 x4 x5 fh0 fh1, out0_A_7 (F := Ideal) c i a3 b3 a4 b4 a5 b5 a6 b6 a7 b7 a8 b8 a9 b9 a10 b10 a11 b11 a12 b12 a13 b13 a14 b14 a16 b16 a17 b17 hc0 x0 x1 x2 x3 x4 x5 fh0 fh1, out0_A_8 (F := Ideal) c i a3 b3 a4 b4 a5 b5 a6 b6 a7 b7 a8 b8 a9 b9 a10 b10 a11 b11 a12 b12 a13 b13 a14 b14 a16 b16 a17 b17 hc0 x0 x1 x2 x3 x4 x5 fh0 fh1, out0_A_9 (F := Ideal) c i a3 b3 a4 b4 a5 b5 a6 b6 a7 b7 a8 b8 a9 b9 a10 b10 a11 b11 a12 b12 a13 b13 a14 b14 a16 b16 a17 b17 hc0 x0 x1 x2 x3 x4 x5 fh0 fh1, sout0_A_0 (F := Ideal) c i a3 b3 a4 b4 a5 b5 a6 b6 a7 b7 a8 b8 a9 b9 a10 b10 a11 b11 a12 b12 a13 b13 a14 b14 a16 b16 a17 b17 hc0 x0 x1 x2 x3 x4 x5 fh0 fh1, sout0_A_1 (F := Ideal) c i a3 b3 a4 b4 a5 b5 a6 b6 a7 b7 a8 b8 a9 b9 a10 b10 a11 b11 a12 b12 a13 b13 a14 b14 a16 b16 a17 b17 hc0 x0 x1 x2 x3 x4 x5 fh0 fh1) := by
  have hr' := cvD_at a13 (x := kernelRun0_A.sl.dma0 c fh0) (p := A.r) hr
  have hw : ∀ (j : Fin 512) (d : Fin 1024), ldV a8 b8 x5 (ix2 j d) = ((A.d (512 * 0 + j) d : ℝ) : EReal) := fun j d => (ldV_at a8 b8 x5 j d).trans (hB.d j d)
  have hg := ldR_at a3 b3 (p := fun t j => gate A t (512 * 0 + j)) hB.gate
  have hu := ldR_at a4 b4 (p := fun t j => up A t (512 * 0 + j)) hB.up
  have hwg : ∀ (d : Fin 1024) (j : Fin 512), ldW a6 b6 x3 (ix2 d j) = ((A.g d (512 * 0 + j) : ℝ) : EReal) := fun d j => (ldW_at a6 b6 x3 d j).trans (hB.g d j)
  have hwu : ∀ (d : Fin 1024) (j : Fin 512), ldW a7 b7 x4 (ix2 d j) = ((A.u d (512 * 0 + j) : ℝ) : EReal) := fun d j => (ldW_at a7 b7 x4 d j).trans (hB.u d j)
  have D : ∀ (t : Fin 2048) (d : Fin 1024), out0_A_6 (F := Ideal) c i a3 b3 a4 b4 a5 b5 a6 b6 a7 b7 a8 b8 a9 b9 a10 b10 a11 b11 a12 b12 a13 b13 a14 b14 a16 b16 a17 b17 hc0 x0 x1 x2 x3 x4 x5 fh0 fh1 (ix2 t d) = ((dxn A (512 * (0 + 1)) t d : ℝ) : EReal) := by
    intro t d
    have e : VO0_6.read (Elt Ideal) (VO0_6.writes (Elt Ideal) VO0_6.junk (L9A (cvD a13 (kernelRun0_A.sl.dma0 c fh0)) (ldV a8 b8 x5) (ldR a3 b3 x0) (ldR a4 b4 x1) (ldW a6 b6 x3) (ldW a7 b7 x4) a9 8)) (ix2 t d) = ((dxn A (512 * (0 + 1)) t d : ℝ) : EReal) := read_L9A hr' hw hg hu hwg hwu a9 VO0_6 VO0_6.junk 8 (le_refl 8) t d (by omega)
    unfold out0_A_6
    rw [runA_6]
    exact e
  have D7 : ∀ (d : Fin 1024) (j : Fin 512), out0_A_7 (F := Ideal) c i a3 b3 a4 b4 a5 b5 a6 b6 a7 b7 a8 b8 a9 b9 a10 b10 a11 b11 a12 b12 a13 b13 a14 b14 a16 b16 a17 b17 hc0 x0 x1 x2 x3 x4 x5 fh0 fh1 (ix2 d j) = ((dwg A d (512 * 0 + j) : ℝ) : EReal) := by
    intro d j
    unfold out0_A_7
    rw [runA_7]
    refine (read_whole VO0_7 _ [] _ _ d j).trans ?_
    exact pay76_at (p := A.x) (q := fun t j => dg A t (512 * 0 + j)) (fun t d => (cvF_at a14 (kernelRun0_A.sl.dma0_1 c fh1) t d).trans (hx t d))
      (fun t j => (load_whole a16.view _ _ t j).trans (read_L16 hr' hw hg hu a16.view _ 8 (le_refl 8) t j (by omega))) d j
  have D8 : ∀ (d : Fin 1024) (j : Fin 512), out0_A_8 (F := Ideal) c i a3 b3 a4 b4 a5 b5 a6 b6 a7 b7 a8 b8 a9 b9 a10 b10 a11 b11 a12 b12 a13 b13 a14 b14 a16 b16 a17 b17 hc0 x0 x1 x2 x3 x4 x5 fh0 fh1 (ix2 d j) = ((dwu A d (512 * 0 + j) : ℝ) : EReal) := by
    intro d j
    unfold out0_A_8
    rw [runA_8]
    refine (read_whole VO0_8 _ [] _ _ d j).trans ?_
    exact pay77_at (p := A.x) (q := fun t j => du A t (512 * 0 + j)) (fun t d => (cvF_at a14 (kernelRun0_A.sl.dma0_1 c fh1) t d).trans (hx t d))
      (fun t j => (load_whole a17.view _ _ t j).trans (read_L17 hr' hw hg a17.view _ 8 (le_refl 8) t j (by omega))) d j
  have D9 : ∀ (j : Fin 512) (d : Fin 1024), out0_A_9 (F := Ideal) c i a3 b3 a4 b4 a5 b5 a6 b6 a7 b7 a8 b8 a9 b9 a10 b10 a11 b11 a12 b12 a13 b13 a14 b14 a16 b16 a17 b17 hc0 x0 x1 x2 x3 x4 x5 fh0 fh1 (ix2 j d) = ((dwd A (512 * 0 + j) d : ℝ) : EReal) := by
    intro j d
    unfold out0_A_9
    rw [runA_9]
    refine (read_whole VO0_9 _ [] _ _ j d).trans ?_
    exact pay78_at (p := A.r) (q := fun t j => hid A t (512 * 0 + j)) (fun t d => (cvF_at a13 (kernelRun0_A.sl.dma0 c fh0) t d).trans (hr t d))
      (fun t j => (ldH_at a5 b5 x2 t j).trans (hB.hid t j)) j d
  have S0 : ∀ (t : Fin 2048) (d : Fin 1024), sout0_A_0 (F := Ideal) c i a3 b3 a4 b4 a5 b5 a6 b6 a7 b7 a8 b8 a9 b9 a10 b10 a11 b11 a12 b12 a13 b13 a14 b14 a16 b16 a17 b17 hc0 x0 x1 x2 x3 x4 x5 fh0 fh1 (ix2 t d) = ((A.r t d : ℝ) : EReal) := by
    intro t d
    unfold sout0_A_0
    rw [runA_s0]
    exact (read_copied VS0_0 _ _ _ t d).trans (hr t d)
  have S1 : ∀ (t : Fin 2048) (d : Fin 1024), sout0_A_1 (F := Ideal) c i a3 b3 a4 b4 a5 b5 a6 b6 a7 b7 a8 b8 a9 b9 a10 b10 a11 b11 a12 b12 a13 b13 a14 b14 a16 b16 a17 b17 hc0 x0 x1 x2 x3 x4 x5 fh0 fh1 (ix2 t d) = ((A.x t d : ℝ) : EReal) := by
    intro t d
    unfold sout0_A_1
    rw [runA_s1]
    exact (read_copied VS0_1 _ _ _ t d).trans (hx t d)
  exact
  { dx := by
      dsimp only
      exact D
    wg := by
      dsimp only
      exact D7
    wu := by
      dsimp only
      exact D8
    wd := by
      dsimp only
      exact D9
    r := by
      dsimp only
      exact S0
    x := by
      dsimp only
      exact S1 }
end caseA

section caseB
variable (c : Dev nD) (i : grid0.Coords) (a3 : Memref sig .tc .vmem S2048x512 .bf16) (b3 : a3.IsWhole) (a4 : Memref sig .tc .vmem S2048x512 .bf16) (b4 : a4.IsWhole) (a5 : Memref sig .tc .vmem S2048x512 .bf16) (b5 : a5.IsWhole) (a6 : Memref sig .tc .vmem S1024x512 .bf16) (b6 : a6.IsWhole) (a7 : Memref sig .tc .vmem S1024x512 .bf16) (b7 : a7.IsWhole) (a8 : Memref sig .tc .vmem S512x1024 .bf16) (b8 : a8.IsWhole) (a9 : Memref sig .tc .vmem S2048x1024 .f32) (b9 : a9.IsWhole) (a10 : Memref sig .tc .vmem S1024x512 .bf16) (b10 : a10.IsWhole) (a11 : Memref sig .tc .vmem S1024x512 .bf16) (b11 : a11.IsWhole) (a12 : Memref sig .tc .vmem S512x1024 .bf16) (b12 : a12.IsWhole) (a13 : Memref sig .tc .vmem S2048x1024 .bf16) (b13 : a13.IsWhole) (a14 : Memref sig .tc .vmem S2048x1024 .bf16) (b14 : a14.IsWhole) (a16 : Memref sig .tc .vmem S2048x512 .bf16) (b16 : a16.IsWhole) (a17 : Memref sig .tc .vmem S2048x512 .bf16) (b17 : a17.IsWhole) (hc0 : ¬cond0_0 i)
    (x0 : Vec Ideal S2048x512 .bf16) (x1 : Vec Ideal S2048x512 .bf16) (x2 : Vec Ideal S2048x512 .bf16) (x3 : Vec Ideal S1024x512 .bf16) (x4 : Vec Ideal S1024x512 .bf16) (x5 : Vec Ideal S512x1024 .bf16) (xo6 : Vec Ideal S2048x1024 .f32) (xs0 : Vec Ideal S2048x1024 .bf16) (xs1 : Vec Ideal S2048x1024 .bf16) (fh0 : HbBuf0 (F := Ideal) c hbM0_0) (fh1 : HbBuf0 (F := Ideal) c hbM0_1)
theorem tuple_B {A : Arg} {n : ℕ} (hB : Blk A n x0 x1 x2 x3 x4 x5)
    (ho : ∀ (t : Fin 2048) (d : Fin 1024), xo6 (ix2 t d) = ((dxn A (512 * n) t d : ℝ) : EReal))
    (hr : ∀ (t : Fin 2048) (d : Fin 1024), xs0 (ix2 t d) = ((A.r t d : ℝ) : EReal))
    (hx : ∀ (t : Fin 2048) (d : Fin 1024), xs1 (ix2 t d) = ((A.x t d : ℝ) : EReal)) :
    After A n (out0_B_6 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1, out0_B_7 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1, out0_B_8 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1, out0_B_9 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1, sout0_B_0 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1, sout0_B_1 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1) := by
  have hr' := ldD_at a13 b13 (p := A.r) hr
  have hw : ∀ (j : Fin 512) (d : Fin 1024), ldV a8 b8 x5 (ix2 j d) = ((A.d (512 * n + j) d : ℝ) : EReal) := fun j d => (ldV_at a8 b8 x5 j d).trans (hB.d j d)
  have hg := ldR_at a3 b3 (p := fun t j => gate A t (512 * n + j)) hB.gate
  have hu := ldR_at a4 b4 (p := fun t j => up A t (512 * n + j)) hB.up
  have hwg : ∀ (d : Fin 1024) (j : Fin 512), ldW a6 b6 x3 (ix2 d j) = ((A.g d (512 * n + j) : ℝ) : EReal) := fun d j => (ldW_at a6 b6 x3 d j).trans (hB.g d j)
  have hwu : ∀ (d : Fin 1024) (j : Fin 512), ldW a7 b7 x4 (ix2 d j) = ((A.u d (512 * n + j) : ℝ) : EReal) := fun d j => (ldW_at a7 b7 x4 d j).trans (hB.u d j)
  have D : ∀ (t : Fin 2048) (d : Fin 1024), out0_B_6 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1 (ix2 t d) = ((dxn A (512 * (n + 1)) t d : ℝ) : EReal) := by
    intro t d
    have e : VO0_6.read (Elt Ideal) (VO0_6.writes (Elt Ideal) VO0_6.junk (L9B (ldD a13 b13 xs0) (ldV a8 b8 x5) (ldR a3 b3 x0) (ldR a4 b4 x1) (ldW a6 b6 x3) (ldW a7 b7 x4) (ldD a9 b9 xo6) 8)) (ix2 t d) = ((dxn A (512 * (n + 1)) t d : ℝ) : EReal) := read_L9B hr' hw hg hu hwg hwu VO0_6 VO0_6.junk (ldD32_at a9 b9 (p := fun t d => dxn A (512 * n) t d) ho) 8 (le_refl 8) t d (by omega)
    unfold out0_B_6
    rw [runB_6]
    exact e
  have D7 : ∀ (d : Fin 1024) (j : Fin 512), out0_B_7 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1 (ix2 d j) = ((dwg A d (512 * n + j) : ℝ) : EReal) := by
    intro d j
    unfold out0_B_7
    rw [runB_7]
    refine (read_whole VO0_7 _ [] _ _ d j).trans ?_
    exact pay76_at (p := A.x) (q := fun t j => dg A t (512 * n + j)) (fun t d => (ldF_at a14 b14 xs1 t d).trans (hx t d))
      (fun t j => (load_whole a16.view _ _ t j).trans (read_L16 hr' hw hg hu a16.view _ 8 (le_refl 8) t j (by omega))) d j
  have D8 : ∀ (d : Fin 1024) (j : Fin 512), out0_B_8 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1 (ix2 d j) = ((dwu A d (512 * n + j) : ℝ) : EReal) := by
    intro d j
    unfold out0_B_8
    rw [runB_8]
    refine (read_whole VO0_8 _ [] _ _ d j).trans ?_
    exact pay77_at (p := A.x) (q := fun t j => du A t (512 * n + j)) (fun t d => (ldF_at a14 b14 xs1 t d).trans (hx t d))
      (fun t j => (load_whole a17.view _ _ t j).trans (read_L17 hr' hw hg a17.view _ 8 (le_refl 8) t j (by omega))) d j
  have D9 : ∀ (j : Fin 512) (d : Fin 1024), out0_B_9 (F := Ideal) c i a3 b3 a4 b4 a5 b5 a6 b6 a7 b7 a8 b8 a9 b9 a10 b10 a11 b11 a12 b12 a13 b13 a14 b14 a16 b16 a17 b17 hc0 x0 x1 x2 x3 x4 x5 xo6 xs0 xs1 fh0 fh1 (ix2 j d) = ((dwd A (512 * n + j) d : ℝ) : EReal) := by
    intro j d
    unfold out0_B_9
    rw [runB_9]
    refine (read_whole VO0_9 _ [] _ _ j d).trans ?_
    exact pay78_at (p := A.r) (q := fun t j => hid A t (512 * n + j)) (fun t d => (ldF_at a13 b13 xs0 t d).trans (hr t d))
      (fun t j => (ldH_at a5 b5 x2 t j).trans (hB.hid t j)) j d
  exact
  { dx := by
      dsimp only
      exact D
    wg := by
      dsimp only
      exact D7
    wu := by
      dsimp only
      exact D8
    wd := by
      dsimp only
      exact D9
    r := by
      dsimp only
      exact hr
    x := by
      dsimp only
      exact hx }
end caseB

variable (m : (ℓ : Loc nD τ sig) → Buf (Elt Ideal) ℓ) (c : Dev nD)

/-- What the call's arrays hold, over the reals. -/
structure Arrs (A : Arg) : Prop where
  gate : ∀ (t : Fin 2048) (f : Fin 3072), V m c main_v7 (ix2 t f) = ((gate A t f : ℝ) : EReal)
  up : ∀ (t : Fin 2048) (f : Fin 3072), V m c main_v8 (ix2 t f) = ((up A t f : ℝ) : EReal)
  hid : ∀ (t : Fin 2048) (f : Fin 3072), V m c main_v4 (ix2 t f) = ((hid A t f : ℝ) : EReal)
  g : ∀ (d : Fin 1024) (f : Fin 3072), V m c main_v9 (ix2 d f) = ((A.g d f : ℝ) : EReal)
  u : ∀ (d : Fin 1024) (f : Fin 3072), V m c main_v10 (ix2 d f) = ((A.u d f : ℝ) : EReal)
  d : ∀ (f : Fin 3072) (d : Fin 1024), V m c main_v11 (ix2 f d) = ((A.d f d : ℝ) : EReal)
  r : ∀ (t : Fin 2048) (d : Fin 1024), V m c main_v5 (ix2 t d) = ((A.r t d : ℝ) : EReal)
  x : ∀ (t : Fin 2048) (d : Fin 1024), V m c main_v6 (ix2 t d) = ((A.x t d : ℝ) : EReal)

theorem last6 : ∀ t : Fin cfg0.N, (cfg0.win 6).flush t = decide (t.val = 5) := (by decide +kernel : ∀ t : Fin grid0.N, _)
theorem all7 : ∀ t : Fin cfg0.N, (cfg0.win 7).flush t = true := (by decide +kernel : ∀ t : Fin grid0.N, _)
theorem all8 : ∀ t : Fin cfg0.N, (cfg0.win 8).flush t = true := (by decide +kernel : ∀ t : Fin grid0.N, _)
theorem all9 : ∀ t : Fin cfg0.N, (cfg0.win 9).flush t = true := (by decide +kernel : ∀ t : Fin grid0.N, _)

variable {m c}
theorem read_blk0 : ∀ t : Fin cfg0.N, Gather.Cols 2048 3072 512 t.val (((cfg0.win 0).blk t).view.read (Elt Ideal)) :=
  Gather.cols (ix := win0_0.index)
theorem read_blk1 : ∀ t : Fin cfg0.N, Gather.Cols 2048 3072 512 t.val (((cfg0.win 1).blk t).view.read (Elt Ideal)) :=
  Gather.cols (ix := win0_1.index)
theorem read_blk2 : ∀ t : Fin cfg0.N, Gather.Cols 2048 3072 512 t.val (((cfg0.win 2).blk t).view.read (Elt Ideal)) :=
  Gather.cols (ix := win0_2.index)
theorem read_blk3 : ∀ t : Fin cfg0.N, Gather.Cols 1024 3072 512 t.val (((cfg0.win 3).blk t).view.read (Elt Ideal)) :=
  Gather.cols (ix := win0_3.index)
theorem read_blk4 : ∀ t : Fin cfg0.N, Gather.Cols 1024 3072 512 t.val (((cfg0.win 4).blk t).view.read (Elt Ideal)) :=
  Gather.cols (ix := win0_4.index)
theorem read_blk7 : ∀ t : Fin cfg0.N, Gather.Cols 1024 3072 512 t.val (((cfg0.win 7).blk t).view.read (Elt Ideal)) :=
  Gather.cols (ix := win0_7.index)
theorem read_blk8 : ∀ t : Fin cfg0.N, Gather.Cols 1024 3072 512 t.val (((cfg0.win 8).blk t).view.read (Elt Ideal)) :=
  Gather.cols (ix := win0_8.index)
theorem read_blk5 : ∀ t : Fin cfg0.N, Gather.Rows 3072 1024 512 1024 t.val (((cfg0.win 5).blk t).view.read (Elt Ideal)) :=
  Gather.rows (ix := win0_5.index)
theorem read_blk9 : ∀ t : Fin cfg0.N, Gather.Rows 3072 1024 512 1024 t.val (((cfg0.win 9).blk t).view.read (Elt Ideal)) :=
  Gather.rows (ix := win0_9.index)
theorem read_blk6 : ∀ t : Fin cfg0.N, Gather.Whole 2048 1024 (((cfg0.win 6).blk t).view.read (Elt Ideal)) :=
  Gather.whole (ix := win0_6.index)

/-- Every grid point's blocks are its parts of the arrays. -/
theorem blk_of {A : Arg} (hA : Arrs m c A) (t : Fin cfg0.N) : Blk A t.val (iblk m c 0 t) (iblk m c 1 t) (iblk m c 2 t) (iblk m c 3 t) (iblk m c 4 t) (iblk m c 5 t) := by
  have ht : t.val < 6 := Nat.lt_of_lt_of_eq t.isLt N_0
  constructor
  · exact fun a j => (read_blk0 t _ a j (ix2 a ⟨512 * t.val + j.val, by omega⟩) rfl rfl).trans (hA.gate a ⟨512 * t.val + j.val, by omega⟩)
  · exact fun a j => (read_blk1 t _ a j (ix2 a ⟨512 * t.val + j.val, by omega⟩) rfl rfl).trans (hA.up a ⟨512 * t.val + j.val, by omega⟩)
  · exact fun a j => (read_blk2 t _ a j (ix2 a ⟨512 * t.val + j.val, by omega⟩) rfl rfl).trans (hA.hid a ⟨512 * t.val + j.val, by omega⟩)
  · exact fun a j => (read_blk3 t _ a j (ix2 a ⟨512 * t.val + j.val, by omega⟩) rfl rfl).trans (hA.g a ⟨512 * t.val + j.val, by omega⟩)
  · exact fun a j => (read_blk4 t _ a j (ix2 a ⟨512 * t.val + j.val, by omega⟩) rfl rfl).trans (hA.u a ⟨512 * t.val + j.val, by omega⟩)
  · exact fun a j => (read_blk5 t _ a j (ix2 ⟨512 * t.val + a.val, by omega⟩ j) rfl rfl).trans (hA.d ⟨512 * t.val + a.val, by omega⟩ j)

theorem after_A {A : Arg} (hA : Arrs m c A) (t : Fin cfg0.N) (h : t.val = 0) : After A 0 (outsAt0 m c t.val t.isLt) := by
  have hB := blk_of hA t
  rw [h] at hB
  rw [outsAt0_A m c t (by omega)]
  apply tuple_A (hB := hB)
  · exact hA.r
  · exact hA.x

theorem after_B {A : Arg} (hA : Arrs m c A) (t : Fin cfg0.N) (h : t.val ≠ 0)
    (ih : After A (t.val - 1) (outsAt0 m c (t.val - 1) (Nat.lt_of_le_of_lt (Nat.sub_le _ _) t.isLt))) : After A t.val (outsAt0 m c t.val t.isLt) := by
  have ht : t.val < 6 := Nat.lt_of_lt_of_eq t.isLt N_0
  rw [outsAt0_B m c t (by omega)]
  apply tuple_B (hB := blk_of hA t)
  · have e := ih.dx
    rw [show t.val - 1 + 1 = t.val by omega] at e
    exact e
  · exact ih.r
  · exact ih.x

/-- After every grid point the gradient of the input runs over the hidden units so far. -/
theorem after_all {A : Arg} (hA : Arrs m c A) : ∀ (n : ℕ) (hn : n < cfg0.N), After A n (outsAt0 m c n hn)
  | 0, hn => after_A hA ⟨0, hn⟩ rfl
  | n + 1, hn => after_B hA ⟨n + 1, hn⟩ (Nat.succ_ne_zero n) (after_all hA n (Nat.lt_of_succ_lt hn))

theorem disjoint6 : ∀ t t' : Fin cfg0.N, (cfg0.win 6).flush t = true → (cfg0.win 6).flush t' = true → t ≠ t' →
    Disjoint ((cfg0.win 6).blk t).view.set ((cfg0.win 6).blk t').view.set := by
  intro t t' h h' hne
  rw [last6] at h h'
  exact absurd (Fin.ext ((of_decide_eq_true h).trans (of_decide_eq_true h').symm)) hne

/-- The gradient of the input at the end. -/
theorem fin6 {A : Arg} (hA : Arrs m c A) (t : Fin 2048) (d : Fin 1024) :
    (dats m 0 c).arrAt 6 cfg0.N (ix2 t d) = ((dxn A 3072 t d : ℝ) : EReal) := by
  have h5 : 5 < cfg0.N := Nat.lt_of_lt_of_eq (by decide) N_0.symm
  have e := (dats m 0 c).read_blk_arrAt_eq_flushed 6 disjoint6 cfg0.N ⟨5, h5⟩ h5 (last6 ⟨5, h5⟩)
  rw [flushed6] at e
  exact (read_blk6 ⟨5, h5⟩ _ t d (ix2 t d) rfl rfl).symm.trans ((congrFun e (ix2 t d)).trans ((after_all hA 5 h5).dx t d))

/-- The gradient of the gate's weights at the end. -/
theorem fin7 {A : Arg} (hA : Arrs m c A) (d : Fin 1024) (f : Fin 3072) :
    (dats m 0 c).arrAt 7 cfg0.N (ix2 d f) = ((dwg A d f : ℝ) : EReal) := by
  have hq : f.val / 512 < cfg0.N := Nat.lt_of_lt_of_eq (by omega) N_0.symm
  have e := blocks7 m c ⟨f.val / 512, hq⟩ (all7 _)
  rw [flushed7] at e
  refine (read_blk7 ⟨f.val / 512, hq⟩ _ d ⟨f.val % 512, by omega⟩ (ix2 d f) rfl (show f.val = 512 * (f.val / 512) + f.val % 512 by omega)).symm.trans ((congrFun e (ix2 d ⟨f.val % 512, by omega⟩ : S1024x512.Idx)).trans (((after_all hA _ hq).wg d ⟨f.val % 512, by omega⟩).trans ?_))
  exact congrArg (fun n : ℕ => ((dwg A d n : ℝ) : EReal)) (show 512 * (f.val / 512) + f.val % 512 = f.val by omega)

/-- The gradient of the linear half's weights at the end. -/
theorem fin8 {A : Arg} (hA : Arrs m c A) (d : Fin 1024) (f : Fin 3072) :
    (dats m 0 c).arrAt 8 cfg0.N (ix2 d f) = ((dwu A d f : ℝ) : EReal) := by
  have hq : f.val / 512 < cfg0.N := Nat.lt_of_lt_of_eq (by omega) N_0.symm
  have e := blocks8 m c ⟨f.val / 512, hq⟩ (all8 _)
  rw [flushed8] at e
  refine (read_blk8 ⟨f.val / 512, hq⟩ _ d ⟨f.val % 512, by omega⟩ (ix2 d f) rfl (show f.val = 512 * (f.val / 512) + f.val % 512 by omega)).symm.trans ((congrFun e (ix2 d ⟨f.val % 512, by omega⟩ : S1024x512.Idx)).trans (((after_all hA _ hq).wu d ⟨f.val % 512, by omega⟩).trans ?_))
  exact congrArg (fun n : ℕ => ((dwu A d n : ℝ) : EReal)) (show 512 * (f.val / 512) + f.val % 512 = f.val by omega)

/-- The gradient of the output's weights at the end. -/
theorem fin9 {A : Arg} (hA : Arrs m c A) (f : Fin 3072) (d : Fin 1024) :
    (dats m 0 c).arrAt 9 cfg0.N (ix2 f d) = ((dwd A f d : ℝ) : EReal) := by
  have hq : f.val / 512 < cfg0.N := Nat.lt_of_lt_of_eq (by omega) N_0.symm
  have e := blocks9 m c ⟨f.val / 512, hq⟩ (all9 _)
  rw [flushed9] at e
  refine (read_blk9 ⟨f.val / 512, hq⟩ _ ⟨f.val % 512, by omega⟩ d (ix2 f d) (show f.val = 512 * (f.val / 512) + f.val % 512 by omega) rfl).symm.trans ((congrFun e (ix2 ⟨f.val % 512, by omega⟩ d : S512x1024.Idx)).trans (((after_all hA _ hq).wd ⟨f.val % 512, by omega⟩ d).trans ?_))
  exact congrArg (fun n : ℕ => ((dwd A n d : ℝ) : EReal)) (show 512 * (f.val / 512) + f.val % 512 = f.val by omega)

end Cert.Kernel2Ideal.Hand
-- ==== Proof.Ff.Host.lean ====
module
public import proofs.«01_k».proof.Proof.Ff.Grid
public import Idealize.ShloMosaic.Lib.StableHlo.ReadAt
@[expose] public section
set_option maxRecDepth 16384
noncomputable section

/-! The operations before the feed-forward layer's launch, and what the launch's arrays hold. -/

namespace Cert.Kernel2Ideal.Hand
open Cert.Kernel2Ideal Cert.Kernel2Ideal.Gen Idealize.ShloMosaic Idealize.ShloMosaic.TcCoe
open FeedForward

section Stretch
variable (W : Valuation τ sig (Elt Ideal))

theorem after_two (l l' : List (HloOp τ sig (Elt Ideal))) : StableHlo.after (l ++ l') W = StableHlo.after l' (StableHlo.after l W) := by
  induction l generalizing W with
  | nil => rfl
  | cons o l ih => exact ih _

theorem stages : StableHlo.after (List.flatten [hostOps0, hostOps0_1, hostOps0_2]) W
    = StableHlo.after hostOps0_2 (StableHlo.after hostOps0_1 (StableHlo.after hostOps0 W)) := by
  rw [List.flatten_cons, List.flatten_cons, List.flatten_cons, List.flatten_nil, List.append_nil, after_two, after_two]

theorem keptX : StableHlo.after hostOps0_1 (StableHlo.after hostOps0 W) (Proc.devRef .tc main_arg0) = W (Proc.devRef .tc main_arg0) := by
  after_reads_simp
theorem keptG : StableHlo.after hostOps0_1 (StableHlo.after hostOps0 W) (Proc.devRef .tc main_arg1) = W (Proc.devRef .tc main_arg1) := by
  after_reads_simp
theorem keptU : StableHlo.after hostOps0_1 (StableHlo.after hostOps0 W) (Proc.devRef .tc main_arg2) = W (Proc.devRef .tc main_arg2) := by
  after_reads_simp
theorem keptD : StableHlo.after hostOps0_1 (StableHlo.after hostOps0 W) (Proc.devRef .tc main_arg3) = W (Proc.devRef .tc main_arg3) := by
  after_reads_simp
theorem keptR : StableHlo.after hostOps0_1 (StableHlo.after hostOps0 W) (Proc.devRef .tc main_arg4) = W (Proc.devRef .tc main_arg4) := by
  after_reads_simp
theorem kept0 : StableHlo.after hostOps0_1 W (Proc.devRef .tc main_v0) = W (Proc.devRef .tc main_v0) := by
  after_reads_simp
theorem kept1 : StableHlo.after hostOps0_1 W (Proc.devRef .tc main_v1) = W (Proc.devRef .tc main_v1) := by
  after_reads_simp

theorem castX (t : Fin 2048) (d : Fin 1024) {x : ℝ} (h : W (Proc.devRef .tc main_arg0) (ix2 t d) = ((x : ℝ) : EReal)) :
    StableHlo.after hostOps0_2 W (Proc.devRef .tc main_v6) (ix2 t d) = ((x : ℝ) : EReal) := by
  after_reads_at
  exact h
theorem castR (t : Fin 2048) (d : Fin 1024) {x : ℝ} (h : W (Proc.devRef .tc main_arg4) (ix2 t d) = ((x : ℝ) : EReal)) :
    StableHlo.after hostOps0_2 W (Proc.devRef .tc main_v5) (ix2 t d) = ((x : ℝ) : EReal) := by
  after_reads_at
  exact h
theorem castG (d : Fin 1024) (f : Fin 3072) {x : ℝ} (h : W (Proc.devRef .tc main_arg1) (ix2 d f) = ((x : ℝ) : EReal)) :
    StableHlo.after hostOps0_2 W (Proc.devRef .tc main_v9) (ix2 d f) = ((x : ℝ) : EReal) := by
  after_reads_at
  exact h
theorem castU (d : Fin 1024) (f : Fin 3072) {x : ℝ} (h : W (Proc.devRef .tc main_arg2) (ix2 d f) = ((x : ℝ) : EReal)) :
    StableHlo.after hostOps0_2 W (Proc.devRef .tc main_v10) (ix2 d f) = ((x : ℝ) : EReal) := by
  after_reads_at
  exact h
theorem castD (f : Fin 3072) (d : Fin 1024) {x : ℝ} (h : W (Proc.devRef .tc main_arg3) (ix2 f d) = ((x : ℝ) : EReal)) :
    StableHlo.after hostOps0_2 W (Proc.devRef .tc main_v11) (ix2 f d) = ((x : ℝ) : EReal) := by
  after_reads_at
  exact h
theorem cast7 (t : Fin 2048) (f : Fin 3072) {x : ℝ} (h : W (Proc.devRef .tc main_v0) (ix2 t f) = ((x : ℝ) : EReal)) :
    StableHlo.after hostOps0_2 W (Proc.devRef .tc main_v7) (ix2 t f) = ((x : ℝ) : EReal) := by
  after_reads_at
  exact h
theorem cast8 (t : Fin 2048) (f : Fin 3072) {x : ℝ} (h : W (Proc.devRef .tc main_v1) (ix2 t f) = ((x : ℝ) : EReal)) :
    StableHlo.after hostOps0_2 W (Proc.devRef .tc main_v8) (ix2 t f) = ((x : ℝ) : EReal) := by
  after_reads_at
  exact h

/-- The gated product. -/
theorem prod_at (t : Fin 2048) (f : Fin 3072) {x y : ℝ} (h : W (Proc.devRef .tc main_v2) (ix2 t f) = ((x : ℝ) : EReal))
    (k : W (Proc.devRef .tc main_v1) (ix2 t f) = ((y : ℝ) : EReal)) :
    StableHlo.after hostOps0_2 W (Proc.devRef .tc main_v4) (ix2 t f) = ((x * y : ℝ) : EReal) := by
  after_reads_at
  rw [h, k, ← EReal.coe_mul]

/-- The gate's activation. -/
theorem silu_at (t : Fin 2048) (f : Fin 3072) {x : ℝ} (h : W (Proc.devRef .tc main_v0) (ix2 t f) = ((x : ℝ) : EReal)) :
    StableHlo.after hostOps0_1 W (Proc.devRef .tc main_v2) (ix2 t f) = ((x * sg x : ℝ) : EReal) := by
  after_reads_at
  rw [h, EReal.coe_mul, ← sg_real, zero_sub]

variable {W} {A : Arg} (hx : ∀ (t : Fin 2048) (d : Fin 1024), W (Proc.devRef .tc main_arg0) (ix2 t d) = ((A.x t d : ℝ) : EReal))
include hx

theorem gate0 (hg : ∀ (d : Fin 1024) (f : Fin 3072), W (Proc.devRef .tc main_arg1) (ix2 d f) = ((A.g d f : ℝ) : EReal))
    (t : Fin 2048) (f : Fin 3072) :
    StableHlo.after hostOps0 W (Proc.devRef .tc main_v0) (ix2 t f) = ((gate A t f : ℝ) : EReal) := by
  after_reads_at
  exact sum_mul _ _ (fun d => A.x t d) (fun d => A.g d f) (fun d => hx t d) fun d => hg d f

theorem up0 (hu : ∀ (d : Fin 1024) (f : Fin 3072), W (Proc.devRef .tc main_arg2) (ix2 d f) = ((A.u d f : ℝ) : EReal))
    (t : Fin 2048) (f : Fin 3072) :
    StableHlo.after hostOps0 W (Proc.devRef .tc main_v1) (ix2 t f) = ((up A t f : ℝ) : EReal) := by
  after_reads_at
  exact sum_mul _ _ (fun d => A.x t d) (fun d => A.u d f) (fun d => hx t d) fun d => hu d f

end Stretch

variable {m : (ℓ : Loc nD τ sig) → Buf (Elt Ideal) ℓ} {c : Dev nD} {A : Arg}

/-- The launch's arrays hold the arguments, the two projections and the hidden activation. -/
theorem arrs
    (hx : ∀ (t : Fin 2048) (d : Fin 1024), m ((c : Thread nD τ).loc main_arg0) (ix2 t d) = ((A.x t d : ℝ) : EReal))
    (hg : ∀ (d : Fin 1024) (f : Fin 3072), m ((c : Thread nD τ).loc main_arg1) (ix2 d f) = ((A.g d f : ℝ) : EReal))
    (hu : ∀ (d : Fin 1024) (f : Fin 3072), m ((c : Thread nD τ).loc main_arg2) (ix2 d f) = ((A.u d f : ℝ) : EReal))
    (hd : ∀ (f : Fin 3072) (d : Fin 1024), m ((c : Thread nD τ).loc main_arg3) (ix2 f d) = ((A.d f d : ℝ) : EReal))
    (hr : ∀ (t : Fin 2048) (d : Fin 1024), m ((c : Thread nD τ).loc main_arg4) (ix2 t d) = ((A.r t d : ℝ) : EReal)) :
    Arrs m c A := by
  have e : ∀ b : Ref sig .tc, V m c b = StableHlo.after hostOps0_2 (StableHlo.after hostOps0_1 (StableHlo.after hostOps0 fun b => m (c, b)))
      (Proc.devRef .tc b) := fun b => congrFun (stages fun b => m (c, b)) (Proc.devRef .tc b)
  have hG := gate0 (W := fun b => m (c, b)) hx hg
  have hU := up0 (W := fun b => m (c, b)) hx hu
  refine ⟨fun t f => ?_, fun t f => ?_, fun t f => ?_, fun d f => ?_, fun d f => ?_, fun f d => ?_, fun t d => ?_, fun t d => ?_⟩
  · refine (congrFun (e main_v7) _).trans (cast7 _ t f ?_)
    rw [kept0]; exact hG t f
  · refine (congrFun (e main_v8) _).trans (cast8 _ t f ?_)
    rw [kept1]; exact hU t f
  · refine (congrFun (e main_v4) _).trans (prod_at _ t f (silu_at _ t f (hG t f)) ?_)
    rw [kept1]; exact hU t f
  · refine (congrFun (e main_v9) _).trans (castG _ d f ?_)
    rw [keptG]; exact hg d f
  · refine (congrFun (e main_v10) _).trans (castU _ d f ?_)
    rw [keptU]; exact hu d f
  · refine (congrFun (e main_v11) _).trans (castD _ f d ?_)
    rw [keptD]; exact hd f d
  · refine (congrFun (e main_v5) _).trans (castR _ t d ?_)
    rw [keptR]; exact hr t d
  · refine (congrFun (e main_v6) _).trans (castX _ t d ?_)
    rw [keptX]; exact hx t d

end Cert.Kernel2Ideal.Hand
-- ==== Proof.Ff.Ref.lean ====
module
public import proofs.«01_k».proof.Proof.Ff.Block
public import proofs.«01_k».proof.Proof.Gen.Reference2Ideal.Run
@[expose] public section
set_option maxRecDepth 16384
noncomputable section

/-! The feed-forward layer's reference at an index, as the plain sums over the real numbers. -/

namespace Cert.Reference2Ideal.Hand
open Cert.Reference2Ideal Cert.Reference2Ideal.Gen Idealize.ShloMosaic Idealize.ShloMosaic.TcCoe
open FeedForward
open Cert.Kernel2Ideal.Hand (sum_mul sg_real)

section Terms
variable (a0 a4 : FVec Ideal S2048x1024 .f32) (a1 a2 : FVec Ideal S1024x3072 .f32) (a3 : FVec Ideal S3072x1024 .f32)

/-- A projection of the input. -/
def proj : FVec Ideal S2048x3072 .f32 := Host.dotGeneral (F := Ideal) dot_S2048x1024_S1024x3072_S2048x3072_1_0_0_1_n_n none a0 a1
/-- All ones. -/
def ones : FVec Ideal S2048x3072 .f32 := broadcastInDim S2048x3072 ![] bcast_S_S2048x3072 (constant S_ .f32 0x3F800000#32)
/-- The logistic function of the gate. -/
def sig0 : FVec Ideal S2048x3072 .f32 := Host.divf (F := Ideal) ones (addf ones (Host.exp (Host.negf (proj a0 a1))))
/-- The hidden activation's gradient. -/
def back : FVec Ideal S2048x3072 .f32 := Host.dotGeneral (F := Ideal) dot_S2048x1024_S3072x1024_S2048x3072_1_1_0_0_n_n none a4 a3
/-- The hidden activation. -/
def hidT : FVec Ideal S2048x3072 .f32 := mulf (mulf (proj a0 a1) (sig0 a0 a1)) (proj a0 a2)
/-- The linear half's gradient. -/
def duT : FVec Ideal S2048x3072 .f32 := mulf (mulf (proj a0 a1) (sig0 a0 a1)) (back a4 a3)
/-- The gate's gradient. -/
def dgT : FVec Ideal S2048x3072 .f32 :=
  addf (mulf (mulf (back a4 a3) (proj a0 a2)) (sig0 a0 a1))
    (mulf (mulf (proj a0 a1) (mulf (back a4 a3) (proj a0 a2))) (mulf (sig0 a0 a1) (subf ones (sig0 a0 a1))))
/-- The input's gradient. -/
def dxT : FVec Ideal S2048x1024 .f32 :=
  addf (Host.dotGeneral (F := Ideal) dot_S2048x3072_S1024x3072_S2048x1024_1_1_0_0_n_n none (duT a0 a4 a1 a3) a2)
    (Host.dotGeneral (F := Ideal) dot_S2048x3072_S1024x3072_S2048x1024_1_1_0_0_n_n none (dgT a0 a4 a1 a2 a3) a1)
/-- The gradient of an input projection's weights. -/
def dwT (y : FVec Ideal S2048x3072 .f32) : FVec Ideal S1024x3072 .bf16 :=
  truncf .bf16 (transpose S1024x3072 [1, 0] (Host.dotGeneral (F := Ideal) dot_S2048x3072_S2048x1024_S3072x1024_0_0_1_1_n_n none y a0)
    transposes_S3072x1024_S1024x3072_1_0) bitsLt_bf16_f32
/-- The gradient of the output's weights. -/
def dwdT : FVec Ideal S3072x1024 .bf16 :=
  truncf .bf16 (transpose S3072x1024 [1, 0] (Host.dotGeneral (F := Ideal) dot_S2048x1024_S2048x3072_S1024x3072_0_0_1_1_n_n none a4 (hidT a0 a1 a2))
    transposes_S1024x3072_S3072x1024_1_0) bitsLt_bf16_f32
end Terms

/-- The five arguments hold the real arrays. -/
structure Holds (a0 : FVec Ideal S2048x1024 .f32) (a1 a2 : FVec Ideal S1024x3072 .f32) (a3 : FVec Ideal S3072x1024 .f32)
    (a4 : FVec Ideal S2048x1024 .f32) (A : Arg) : Prop where
  x : ∀ (t : Fin 2048) (d : Fin 1024), a0 (ix2 t d) = ((A.x t d : ℝ) : EReal)
  g : ∀ (d : Fin 1024) (f : Fin 3072), a1 (ix2 d f) = ((A.g d f : ℝ) : EReal)
  u : ∀ (d : Fin 1024) (f : Fin 3072), a2 (ix2 d f) = ((A.u d f : ℝ) : EReal)
  d : ∀ (f : Fin 3072) (d : Fin 1024), a3 (ix2 f d) = ((A.d f d : ℝ) : EReal)
  r : ∀ (t : Fin 2048) (d : Fin 1024), a4 (ix2 t d) = ((A.r t d : ℝ) : EReal)

variable {a0 a4 : FVec Ideal S2048x1024 .f32} {a1 a2 : FVec Ideal S1024x3072 .f32} {a3 : FVec Ideal S3072x1024 .f32} {A : Arg}
  (H : Holds a0 a1 a2 a3 a4 A)

theorem ones_at (t : Fin 2048) (f : Fin 3072) : ones (ix2 t f) = (1 : EReal) := by
  pointwise [ones]

include H

theorem gate_at (t : Fin 2048) (f : Fin 3072) : proj a0 a1 (ix2 t f) = ((gate A t f : ℝ) : EReal) := by
  pointwise [proj]
  exact sum_mul _ _ (fun d => A.x t d) (fun d => A.g d f) (fun d => H.x t d) fun d => H.g d f

theorem up_at (t : Fin 2048) (f : Fin 3072) : proj a0 a2 (ix2 t f) = ((up A t f : ℝ) : EReal) := by
  pointwise [proj]
  exact sum_mul _ _ (fun d => A.x t d) (fun d => A.u d f) (fun d => H.x t d) fun d => H.u d f

theorem back_at (t : Fin 2048) (f : Fin 3072) : back a4 a3 (ix2 t f) = ((dh A t f : ℝ) : EReal) := by
  pointwise [back]
  exact sum_mul _ _ (fun d => A.r t d) (fun d => A.d f d) (fun d => H.r t d) fun d => H.d f d

theorem sig_at (t : Fin 2048) (f : Fin 3072) : sig0 a0 a1 (ix2 t f) = ((sg (gate A t f) : ℝ) : EReal) := by
  pointwise [sig0]
  rw [gate_at H, ones_at, ← sg_real, zero_sub]

theorem hid_at (t : Fin 2048) (f : Fin 3072) : hidT a0 a1 a2 (ix2 t f) = ((hid A t f : ℝ) : EReal) := by
  pointwise [hidT]
  rw [gate_at H, sig_at H, up_at H, ← EReal.coe_mul, ← EReal.coe_mul, hid]

theorem du_at (t : Fin 2048) (f : Fin 3072) : duT a0 a4 a1 a3 (ix2 t f) = ((du A t f : ℝ) : EReal) := by
  pointwise [duT]
  rw [gate_at H, sig_at H, back_at H, ← EReal.coe_mul, ← EReal.coe_mul, du]
  exact congrArg _ (by ring)

theorem dg_at (t : Fin 2048) (f : Fin 3072) : dgT a0 a4 a1 a2 a3 (ix2 t f) = ((dg A t f : ℝ) : EReal) := by
  pointwise [dgT]
  rw [gate_at H, sig_at H, back_at H, up_at H, ones_at, ← EReal.coe_one]
  simp only [← EReal.coe_sub, ← EReal.coe_mul, ← EReal.coe_add]
  rw [dg]
  exact congrArg _ (by ring)

/-- The gradient of the input. -/
theorem dx_at (t : Fin 2048) (d : Fin 1024) : dxT a0 a4 a1 a2 a3 (ix2 t d) = ((dxn A 3072 t d : ℝ) : EReal) := by
  pointwise [dxT]
  rw [sum_mul _ _ (fun f => du A t f) (fun f => A.u d f) (fun f => du_at H t f) (fun f => H.u d f),
    sum_mul _ _ (fun f => dg A t f) (fun f => A.g d f) (fun f => dg_at H t f) (fun f => H.g d f), ← EReal.coe_add, dxn,
    Finset.sum_add_distrib, add_comm]

/-- The gradient of the gate's weights. -/
theorem dwg_at (d : Fin 1024) (f : Fin 3072) : dwT a0 (dgT a0 a4 a1 a2 a3) (ix2 d f) = ((dwg A d f : ℝ) : EReal) := by
  pointwise [dwT]
  rw [sum_mul _ _ (fun t => dg A t f) (fun t => A.x t d) (fun t => dg_at H t f) (fun t => H.x t d), dwg]
  exact congrArg _ (Finset.sum_congr rfl fun t _ => mul_comm _ _)

/-- The gradient of the linear half's weights. -/
theorem dwu_at (d : Fin 1024) (f : Fin 3072) : dwT a0 (duT a0 a4 a1 a3) (ix2 d f) = ((dwu A d f : ℝ) : EReal) := by
  pointwise [dwT]
  rw [sum_mul _ _ (fun t => du A t f) (fun t => A.x t d) (fun t => du_at H t f) (fun t => H.x t d), dwu]
  exact congrArg _ (Finset.sum_congr rfl fun t _ => mul_comm _ _)

/-- The gradient of the output's weights. -/
theorem dwd_at (f : Fin 3072) (d : Fin 1024) : dwdT a0 a4 a1 a2 (ix2 f d) = ((dwd A f d : ℝ) : EReal) := by
  pointwise [dwdT]
  rw [sum_mul _ _ (fun t => A.r t d) (fun t => hid A t f) (fun t => H.r t d) (fun t => hid_at H t f), dwd]
  exact congrArg _ (Finset.sum_congr rfl fun t _ => mul_comm _ _)

end Cert.Reference2Ideal.Hand
-- ==== Proof.Up.lean ====
module
public import Idealize.ShloMosaic.Lib.Pointwise
public import Idealize.ShloMosaic.Lib.StableHlo.ReadAt
public import Idealize.ShloMosaic.Lib.Pipeline.ValueKit.Basic
public import proofs.«01_k».proof.Proof.Gen.Kernel3Ideal.Value
public import proofs.«01_k».proof.Proof.At
public import proofs.«01_k».proof.Proof.Gen.Reference3Ideal.Run
@[expose] public section
set_option maxRecDepth 16384
noncomputable section

/-! The feed-forward layer's two input projections and its hidden activation: what the launch leaves at
every index, and the same sums in the reference. Everything holds over the extended real numbers. -/

namespace Cert.Kernel3Ideal.Hand
open Cert.Kernel3Ideal Cert.Kernel3Ideal.Gen Cert.Kernel3Ideal.Value Idealize.ShloMosaic Idealize.ShloMosaic.TcCoe

/-- The gated product of a gate `g` and a linear half `u`. -/
def act (g u : EReal) : EReal := g * Ideal.div 1 (1 + Ideal.exp (-g)) * u

/-- An entry of a projection of the rows `x` by the weights `w`. -/
def proj (x : S2048x1024.Idx → EReal) (w : S1024x3072.Idx → EReal) (t : Fin 2048) (f : Fin 3072) : EReal := ∑ d : Fin 1024, x (ix2 t d) * w (ix2 d f)

section Block
variable (x0 : Vec Ideal S256x1024 .f32) (x1 x2 : Vec Ideal S1024x3072 .bf16)

theorem pay4_at (a : Fin 256) (f : Fin 3072) : k0_pay4 (F := Ideal) x0 x1 (ix2 a f) = ∑ d : Fin 1024, x0 (ix2 a d) * x1 (ix2 d f) := by
  pointwise [k0_pay4, k0_pay2, k0_pay1]
theorem pay5_at (a : Fin 256) (f : Fin 3072) : k0_pay5 (F := Ideal) x0 x2 (ix2 a f) = ∑ d : Fin 1024, x0 (ix2 a d) * x2 (ix2 d f) := by
  pointwise [k0_pay5, k0_pay3, k0_pay1]
theorem pay6_at (a : Fin 256) (f : Fin 3072) :
    k0_pay6 (F := Ideal) x0 x1 x2 (ix2 a f) = act (∑ d : Fin 1024, x0 (ix2 a d) * x1 (ix2 d f)) (∑ d : Fin 1024, x0 (ix2 a d) * x2 (ix2 d f)) := by
  pointwise [k0_pay6, k0_pay3, k0_pay2, k0_pay1]
  unfold act
  rw [sub_eq_add_neg, zero_add]
theorem pay1_at (a : Fin 256) (d : Fin 1024) : k0_pay1 (F := Ideal) x0 (ix2 a d) = x0 (ix2 a d) := by
  pointwise [k0_pay1]

theorem ld_x : View.ld x0 r0_0 = x0 := View.ld_unit_lit _ _ (by decide)
theorem ld_w : View.ld x1 r0_1 = x1 := View.ld_unit_lit _ _ (by decide)
theorem out3 : out0_3 (F := Ideal) x0 x1 x2 = k0_pay4 (F := Ideal) x0 x1 := by
  refine (View.canon_cons_unit_lit _ _ _ (by decide)).trans ?_
  rw [ld_x, ld_w]
theorem out4 : out0_4 (F := Ideal) x0 x1 x2 = k0_pay5 (F := Ideal) x0 x2 := by
  refine (View.canon_cons_unit_lit _ _ _ (by decide)).trans ?_
  rw [ld_x, ld_w]
theorem out5 : out0_5 (F := Ideal) x0 x1 x2 = k0_pay6 (F := Ideal) x0 x1 x2 := by
  refine (View.canon_cons_unit_lit _ _ _ (by decide)).trans ?_
  rw [ld_x, ld_w, ld_w]
theorem out6 : out0_6 (F := Ideal) x0 x1 x2 = k0_pay1 (F := Ideal) x0 := by
  refine (View.canon_cons_unit_lit _ _ _ (by decide)).trans ?_
  rw [ld_x]
end Block

theorem read_blk0 : ∀ t : Fin cfg0.N, Gather.Rows 2048 1024 256 1024 t.val (((cfg0.win 0).blk t).view.read (Elt Ideal)) :=
  Gather.rows (ix := win0_0.index)
theorem read_blk1 : ∀ t : Fin cfg0.N, Gather.Whole 1024 3072 (((cfg0.win 1).blk t).view.read (Elt Ideal)) :=
  Gather.whole (ix := win0_1.index)
theorem read_blk2 : ∀ t : Fin cfg0.N, Gather.Whole 1024 3072 (((cfg0.win 2).blk t).view.read (Elt Ideal)) :=
  Gather.whole (ix := win0_2.index)
theorem read_blk3 : ∀ t : Fin cfg0.N, Gather.Rows 2048 3072 256 3072 t.val (((cfg0.win 3).blk t).view.read (Elt Ideal)) :=
  Gather.rows (ix := win0_3.index)
theorem all3 : ∀ t : Fin cfg0.N, (cfg0.win 3).flush t = true := (by decide +kernel : ∀ t : Fin grid0.N, _)
theorem read_blk4 : ∀ t : Fin cfg0.N, Gather.Rows 2048 3072 256 3072 t.val (((cfg0.win 4).blk t).view.read (Elt Ideal)) :=
  Gather.rows (ix := win0_4.index)
theorem all4 : ∀ t : Fin cfg0.N, (cfg0.win 4).flush t = true := (by decide +kernel : ∀ t : Fin grid0.N, _)
theorem read_blk5 : ∀ t : Fin cfg0.N, Gather.Rows 2048 3072 256 3072 t.val (((cfg0.win 5).blk t).view.read (Elt Ideal)) :=
  Gather.rows (ix := win0_5.index)
theorem all5 : ∀ t : Fin cfg0.N, (cfg0.win 5).flush t = true := (by decide +kernel : ∀ t : Fin grid0.N, _)
theorem read_blk6 : ∀ t : Fin cfg0.N, Gather.Rows 2048 1024 256 1024 t.val (((cfg0.win 6).blk t).view.read (Elt Ideal)) :=
  Gather.rows (ix := win0_6.index)
theorem all6 : ∀ t : Fin cfg0.N, (cfg0.win 6).flush t = true := (by decide +kernel : ∀ t : Fin grid0.N, _)

variable (m : (ℓ : Loc nD τ sig) → Buf (Elt Ideal) ℓ) (c : Dev nD)

theorem V_g (d : Fin 1024) (f : Fin 3072) : V m c main_v0 (ix2 d f) = m ((c : Thread nD τ).loc main_arg1) (ix2 d f) := by
  show StableHlo.after hostOps0 (fun b => m (c, b)) (Proc.devRef .tc main_v0) (ix2 d f) = _
  after_reads_at
theorem V_u (d : Fin 1024) (f : Fin 3072) : V m c main_v1 (ix2 d f) = m ((c : Thread nD τ).loc main_arg2) (ix2 d f) := by
  show StableHlo.after hostOps0 (fun b => m (c, b)) (Proc.devRef .tc main_v1) (ix2 d f) = _
  after_reads_at

/-- The rows of the input, and the two weights, that a grid point's blocks hold. -/
theorem blk_x (q : Fin cfg0.N) (a : Fin 256) (d : Fin 1024) (t : Fin 2048) (h : t.val = 256 * q.val + a.val) :
    iblk m c 0 q (ix2 a d) = m ((c : Thread nD τ).loc main_arg0) (ix2 t d) :=
  (read_blk0 q _ a d (ix2 t d) h rfl).trans (congrFun (V_main_arg0 m c) (ix2 t d))
theorem blk_g (q : Fin cfg0.N) (d : Fin 1024) (f : Fin 3072) : iblk m c 1 q (ix2 d f) = m ((c : Thread nD τ).loc main_arg1) (ix2 d f) :=
  (read_blk1 q _ d f (ix2 d f) rfl rfl).trans (V_g m c d f)
theorem blk_u (q : Fin cfg0.N) (d : Fin 1024) (f : Fin 3072) : iblk m c 2 q (ix2 d f) = m ((c : Thread nD τ).loc main_arg2) (ix2 d f) :=
  (read_blk2 q _ d f (ix2 d f) rfl rfl).trans (V_u m c d f)

theorem sum_blk {X : Vec Ideal S256x1024 .f32} {Y : Vec Ideal S1024x3072 .bf16} {x : S2048x1024.Idx → EReal} {w : S1024x3072.Idx → EReal} {a : Fin 256} {t : Fin 2048} {f : Fin 3072}
    (hx : ∀ d : Fin 1024, X (ix2 a d) = x (ix2 t d)) (hy : ∀ d : Fin 1024, Y (ix2 d f) = w (ix2 d f)) :
    ∑ d : Fin 1024, X (ix2 a d) * Y (ix2 d f) = proj x w t f :=
  Finset.sum_congr rfl fun d _ => by rw [hx, hy]
theorem pay4_of {X : Vec Ideal S256x1024 .f32} {Y : Vec Ideal S1024x3072 .bf16} {x : S2048x1024.Idx → EReal} {w : S1024x3072.Idx → EReal} {a : Fin 256} {t : Fin 2048} {f : Fin 3072}
    (hx : ∀ d : Fin 1024, X (ix2 a d) = x (ix2 t d)) (hy : ∀ d : Fin 1024, Y (ix2 d f) = w (ix2 d f)) :
    k0_pay4 (F := Ideal) X Y (ix2 a f) = proj x w t f := (pay4_at X Y a f).trans (sum_blk hx hy)
theorem pay5_of {X : Vec Ideal S256x1024 .f32} {Y : Vec Ideal S1024x3072 .bf16} {x : S2048x1024.Idx → EReal} {w : S1024x3072.Idx → EReal} {a : Fin 256} {t : Fin 2048} {f : Fin 3072}
    (hx : ∀ d : Fin 1024, X (ix2 a d) = x (ix2 t d)) (hy : ∀ d : Fin 1024, Y (ix2 d f) = w (ix2 d f)) :
    k0_pay5 (F := Ideal) X Y (ix2 a f) = proj x w t f := (pay5_at X Y a f).trans (sum_blk hx hy)
theorem pay6_of {X : Vec Ideal S256x1024 .f32} {Y Z : Vec Ideal S1024x3072 .bf16} {x : S2048x1024.Idx → EReal} {w v : S1024x3072.Idx → EReal} {a : Fin 256} {t : Fin 2048} {f : Fin 3072}
    (hx : ∀ d : Fin 1024, X (ix2 a d) = x (ix2 t d)) (hy : ∀ d : Fin 1024, Y (ix2 d f) = w (ix2 d f)) (hz : ∀ d : Fin 1024, Z (ix2 d f) = v (ix2 d f)) :
    k0_pay6 (F := Ideal) X Y Z (ix2 a f) = act (proj x w t f) (proj x v t f) :=
  (pay6_at X Y Z a f).trans (by rw [sum_blk hx hy, sum_blk hx hz])

/-- The block and the row in it of a token. -/
theorem token (t : Fin 2048) : ∃ (q : Fin cfg0.N) (a : Fin 256), t.val = 256 * q.val + a.val :=
  ⟨⟨t.val / 256, Nat.lt_of_lt_of_eq (by omega) N_0.symm⟩, ⟨t.val % 256, by omega⟩, by show t.val = 256 * (t.val / 256) + t.val % 256; omega⟩

/-- The gate at the end. -/
theorem fin3 (t : Fin 2048) (f : Fin 3072) : (dats m 0 c).arrAt 3 cfg0.N (ix2 t f) = proj (m ((c : Thread nD τ).loc main_arg0)) (m ((c : Thread nD τ).loc main_arg1)) t f := by
  obtain ⟨q, a, h⟩ := token t
  have e := blocks3 m c q (all3 _)
  rw [flushed3, out3] at e
  exact (read_blk3 q _ a f (ix2 t f) h rfl).symm.trans ((congrFun e (ix2 a f : S256x3072.Idx)).trans (pay4_of (fun d => blk_x m c _ _ d t h) (fun d => blk_g m c _ d f)))

/-- The linear half at the end. -/
theorem fin4 (t : Fin 2048) (f : Fin 3072) : (dats m 0 c).arrAt 4 cfg0.N (ix2 t f) = proj (m ((c : Thread nD τ).loc main_arg0)) (m ((c : Thread nD τ).loc main_arg2)) t f := by
  obtain ⟨q, a, h⟩ := token t
  have e := blocks4 m c q (all4 _)
  rw [flushed4, out4] at e
  exact (read_blk4 q _ a f (ix2 t f) h rfl).symm.trans ((congrFun e (ix2 a f : S256x3072.Idx)).trans (pay5_of (fun d => blk_x m c _ _ d t h) (fun d => blk_u m c _ d f)))

/-- The hidden activation at the end. -/
theorem fin5 (t : Fin 2048) (f : Fin 3072) : (dats m 0 c).arrAt 5 cfg0.N (ix2 t f) = act (proj (m ((c : Thread nD τ).loc main_arg0)) (m ((c : Thread nD τ).loc main_arg1)) t f) (proj (m ((c : Thread nD τ).loc main_arg0)) (m ((c : Thread nD τ).loc main_arg2)) t f) := by
  obtain ⟨q, a, h⟩ := token t
  have e := blocks5 m c q (all5 _)
  rw [flushed5, out5] at e
  exact (read_blk5 q _ a f (ix2 t f) h rfl).symm.trans ((congrFun e (ix2 a f : S256x3072.Idx)).trans (pay6_of (fun d => blk_x m c _ _ d t h) (fun d => blk_g m c _ d f) (fun d => blk_u m c _ d f)))

/-- The copy of the input at the end. -/
theorem fin6 (t : Fin 2048) (f : Fin 1024) : (dats m 0 c).arrAt 6 cfg0.N (ix2 t f) = m ((c : Thread nD τ).loc main_arg0) (ix2 t f) := by
  obtain ⟨q, a, h⟩ := token t
  have e := blocks6 m c q (all6 _)
  rw [flushed6, out6] at e
  exact (read_blk6 q _ a f (ix2 t f) h rfl).symm.trans ((congrFun e (ix2 a f : S256x1024.Idx)).trans ((pay1_at _ _ _).trans (blk_x m c _ _ f t h)))

end Cert.Kernel3Ideal.Hand

namespace Cert.Reference3Ideal.Hand
open Cert.Reference3Ideal Cert.Reference3Ideal.Gen Idealize.ShloMosaic Idealize.ShloMosaic.TcCoe
open Cert.Kernel3Ideal.Hand (act proj)

variable (a0 : FVec Ideal S2048x1024 .f32) (a1 a2 : FVec Ideal S1024x3072 .f32) (t : Fin 2048)

/-- The reference's gate or linear half. -/
theorem proj_at (f : Fin 3072) :
    truncf .bf16 (Host.dotGeneral (F := Ideal) dot_S2048x1024_S1024x3072_S2048x3072_1_0_0_1_n_n none a0 a1) bitsLt_bf16_f32 (ix2 t f) = proj a0 a1 t f := by
  pointwise
  rfl
/-- The reference's hidden activation. -/
theorem act_at (f : Fin 3072) :
    truncf .bf16 (mulf (mulf (Host.dotGeneral (F := Ideal) dot_S2048x1024_S1024x3072_S2048x3072_1_0_0_1_n_n none a0 a1)
      (Host.divf (broadcastInDim S2048x3072 ![] bcast_S_S2048x3072 (constant S_ .f32 0x3F800000#32))
        (addf (broadcastInDim S2048x3072 ![] bcast_S_S2048x3072 (constant S_ .f32 0x3F800000#32))
          (Host.exp (Host.negf (Host.dotGeneral (F := Ideal) dot_S2048x1024_S1024x3072_S2048x3072_1_0_0_1_n_n none a0 a1))))))
      (Host.dotGeneral (F := Ideal) dot_S2048x1024_S1024x3072_S2048x3072_1_0_0_1_n_n none a0 a2)) bitsLt_bf16_f32 (ix2 t f) = act (proj a0 a1 t f) (proj a0 a2 t f) := by
  pointwise
  rfl
theorem copy_at (d : Fin 1024) : truncf .bf16 a0 bitsLt_bf16_f32 (ix2 t d) = a0 (ix2 t d) := by
  pointwise

end Cert.Reference3Ideal.Hand

end
-- ==== Proof.Norm.lean ====
module
public import Idealize.ShloMosaic.Lib.Pointwise
@[expose] public section
noncomputable section

/-! The normalisation of a row of 1024 entries, over the extended real numbers. -/

namespace RowNorm
open Idealize.ShloMosaic

/-- A row's mean. -/
def mean (u : Fin 1024 → EReal) : EReal := Ideal.div (∑ x : Fin 1024, u x) (Ideal.ofBits .f32 1149239296#32)
/-- A row about its mean. -/
def cen (u : Fin 1024 → EReal) (d : Fin 1024) : EReal := u d - mean u
/-- The reciprocal of a row's standard deviation. -/
def rs (u : Fin 1024 → EReal) : EReal := Ideal.rsqrt (mean (fun x => cen u x * cen u x) + Ideal.ofBits .f32 925353388#32)
/-- The normalised row. -/
def xh (u : Fin 1024 → EReal) (d : Fin 1024) : EReal := cen u d * rs u
/-- A residual row: the input scaled, and a branch's output. -/
def res (x y : Fin 1024 → EReal) (d : Fin 1024) : EReal := Ideal.ofBits .f32 1068827891#32 * x d + y d

end RowNorm

end
-- ==== Proof.Down.lean ====
module
public import Idealize.ShloMosaic.Lib.Pointwise
public import Idealize.ShloMosaic.Lib.StableHlo.ReadAt
public import Idealize.ShloMosaic.Lib.Pipeline.ValueKit.Basic
public import proofs.«01_k».proof.Proof.Up
public import proofs.«01_k».proof.Proof.Norm
public import proofs.«01_k».proof.Proof.Gen.Kernel6Ideal.Value
public import proofs.«01_k».proof.Proof.At
public import proofs.«01_k».proof.Proof.Gen.Reference6Ideal.Run
@[expose] public section
set_option maxRecDepth 16384
noncomputable section

/-! The feed-forward layer's output projection with the residual and the normalisation after it: what the
launch leaves at every index, and the same in the reference. Everything holds over the extended real numbers. -/

namespace Cert.Kernel6Ideal.Hand
open Cert.Kernel6Ideal Cert.Kernel6Ideal.Gen Cert.Kernel6Ideal.Value Idealize.ShloMosaic Idealize.ShloMosaic.TcCoe
open Cert.Kernel3Ideal.Hand (act proj)
open RowNorm (mean cen rs xh res)

/-- The residual row: the input row scaled, plus the hidden row `h` through the output projection `w`. -/
def pre (x : S2048x1024.Idx → EReal) (h : Fin 3072 → EReal) (w : S3072x1024.Idx → EReal) (t : Fin 2048) : Fin 1024 → EReal :=
  res (fun d => x (ix2 t d)) (fun d => ∑ f : Fin 3072, h f * w (ix2 f d))

section Block
variable (x0 : Vec Ideal S512x3072 .bf16) (x1 : Vec Ideal S512x1024 .f32) (x2 : Vec Ideal S3072x1024 .bf16) (x3 x4 : Vec Ideal S1x1024 .f32)

theorem out5 : out0_5 (F := Ideal) x0 x1 x2 x3 x4 = k0_pay4 (F := Ideal) x0 x2 x1 x3 x4 := by
  refine (View.canon_cons_unit_lit _ _ _ (by decide)).trans ?_
  rw [show View.ld x0 r0_0 = x0 from View.ld_unit_lit _ _ (by decide), show View.ld x1 r0_2 = x1 from View.ld_unit_lit _ _ (by decide),
    show View.ld x2 r0_1 = x2 from View.ld_unit_lit _ _ (by decide), show View.ld x3 r0_3 = x3 from View.ld_unit_lit _ _ (by decide),
    show View.ld x4 r0_3 = x4 from View.ld_unit_lit _ _ (by decide)]
theorem out6 : out0_6 (F := Ideal) x0 x1 x2 x3 x4 = k0_pay3 (F := Ideal) x0 x2 x1 := by
  refine (View.canon_cons_unit_lit _ _ _ (by decide)).trans ?_
  rw [show View.ld x0 r0_0 = x0 from View.ld_unit_lit _ _ (by decide), show View.ld x1 r0_2 = x1 from View.ld_unit_lit _ _ (by decide),
    show View.ld x2 r0_1 = x2 from View.ld_unit_lit _ _ (by decide)]
theorem out7 : out0_7 (F := Ideal) x0 x1 x2 x3 x4 = k0_pay2 (F := Ideal) x0 x2 x1 := by
  refine (View.canon_cons_unit_lit _ _ _ (by decide)).trans ?_
  rw [show View.ld x0 r0_0 = x0 from View.ld_unit_lit _ _ (by decide), show View.ld x1 r0_2 = x1 from View.ld_unit_lit _ _ (by decide),
    show View.ld x2 r0_1 = x2 from View.ld_unit_lit _ _ (by decide)]

/-- What a block's rows hold, as rows of whole arrays. -/
structure Rows (a : Fin 512) (t : Fin 2048) (x : S2048x1024.Idx → EReal) (h : Fin 3072 → EReal) (w : S3072x1024.Idx → EReal) : Prop where
  hid : ∀ f : Fin 3072, x0 (ix2 a f) = h f
  inp : ∀ d : Fin 1024, x1 (ix2 a d) = x (ix2 t d)
  wgt : ∀ (f : Fin 3072) (d : Fin 1024), x2 (ix2 f d) = w (ix2 f d)

variable {x0 x1 x2 x3 x4} {a : Fin 512} {t : Fin 2048} {x : S2048x1024.Idx → EReal} {h : Fin 3072 → EReal} {w : S3072x1024.Idx → EReal}

theorem pay1_of (R : Rows x0 x1 x2 a t x h w) (d : Fin 1024) : k0_pay1 (F := Ideal) x0 x2 x1 (ix2 a d) = cen (pre x h w t) d := by
  pointwise [k0_pay1]
  simp only [R.hid, R.inp, R.wgt]
  rfl
theorem pay2_of (R : Rows x0 x1 x2 a t x h w) (z : Fin 1) : k0_pay2 (F := Ideal) x0 x2 x1 (ix2 a z) = rs (pre x h w t) := by
  pointwise [k0_pay2]
  simp only [pay1_of R]
  rfl
theorem pay3_of (R : Rows x0 x1 x2 a t x h w) (d : Fin 1024) : k0_pay3 (F := Ideal) x0 x2 x1 (ix2 a d) = xh (pre x h w t) d := by
  pointwise [k0_pay3]
  rw [pay1_of R, pay2_of R]
  rfl
theorem pay4_of (R : Rows x0 x1 x2 a t x h w) (d : Fin 1024) {g b : EReal} (hg : x3 (ix2 0 d) = g) (hb : x4 (ix2 0 d) = b) :
    k0_pay4 (F := Ideal) x0 x2 x1 x3 x4 (ix2 a d) = xh (pre x h w t) d * g + b := by
  pointwise [k0_pay4]
  rw [pay3_of R, hg, hb]
end Block

theorem read_blk0 : ∀ t : Fin cfg0.N, Gather.Rows 2048 3072 512 3072 t.val (((cfg0.win 0).blk t).view.read (Elt Ideal)) :=
  Gather.rows (ix := win0_0.index)
theorem read_blk1 : ∀ t : Fin cfg0.N, Gather.Rows 2048 1024 512 1024 t.val (((cfg0.win 1).blk t).view.read (Elt Ideal)) :=
  Gather.rows (ix := win0_1.index)
theorem read_blk2 : ∀ t : Fin cfg0.N, Gather.Whole 3072 1024 (((cfg0.win 2).blk t).view.read (Elt Ideal)) :=
  Gather.whole (ix := win0_2.index)
theorem read_blk3 : ∀ t : Fin cfg0.N, Gather.Whole 1 1024 (((cfg0.win 3).blk t).view.read (Elt Ideal)) :=
  Gather.whole (ix := win0_3.index)
theorem read_blk4 : ∀ t : Fin cfg0.N, Gather.Whole 1 1024 (((cfg0.win 4).blk t).view.read (Elt Ideal)) :=
  Gather.whole (ix := win0_4.index)
theorem read_blk5 : ∀ t : Fin cfg0.N, Gather.Rows 2048 1024 512 1024 t.val (((cfg0.win 5).blk t).view.read (Elt Ideal)) :=
  Gather.rows (ix := win0_5.index)
theorem all5 : ∀ t : Fin cfg0.N, (cfg0.win 5).flush t = true := (by decide +kernel : ∀ t : Fin grid0.N, _)
theorem read_blk6 : ∀ t : Fin cfg0.N, Gather.Rows 2048 1024 512 1024 t.val (((cfg0.win 6).blk t).view.read (Elt Ideal)) :=
  Gather.rows (ix := win0_6.index)
theorem all6 : ∀ t : Fin cfg0.N, (cfg0.win 6).flush t = true := (by decide +kernel : ∀ t : Fin grid0.N, _)
theorem read_blk7 : ∀ t : Fin cfg0.N, Gather.Rows 2048 1 512 1 t.val (((cfg0.win 7).blk t).view.read (Elt Ideal)) :=
  Gather.rows (ix := win0_7.index)
theorem all7 : ∀ t : Fin cfg0.N, (cfg0.win 7).flush t = true := (by decide +kernel : ∀ t : Fin grid0.N, _)

section Stretch
variable (W : Valuation τ sig (Elt Ideal))

theorem after_two (l l' : List (HloOp τ sig (Elt Ideal))) : StableHlo.after (l ++ l') W = StableHlo.after l' (StableHlo.after l W) := by
  induction l generalizing W with
  | nil => rfl
  | cons o l ih => exact ih _
theorem stages : StableHlo.after (List.flatten [hostOps0, hostOps0_1, hostOps0_2]) W
    = StableHlo.after hostOps0_2 (StableHlo.after hostOps0_1 (StableHlo.after hostOps0 W)) := by
  rw [List.flatten_cons, List.flatten_cons, List.flatten_cons, List.flatten_nil, List.append_nil, after_two, after_two]

theorem kept0 : StableHlo.after hostOps0_1 (StableHlo.after hostOps0 W) (Proc.devRef .tc main_arg0) = W (Proc.devRef .tc main_arg0) := by
  after_reads_simp
theorem kept2 : StableHlo.after hostOps0_1 (StableHlo.after hostOps0 W) (Proc.devRef .tc main_arg2) = W (Proc.devRef .tc main_arg2) := by
  after_reads_simp
theorem kept3 : StableHlo.after hostOps0_1 (StableHlo.after hostOps0 W) (Proc.devRef .tc main_arg3) = W (Proc.devRef .tc main_arg3) := by
  after_reads_simp

theorem cast3 (f : Fin 3072) (d : Fin 1024) : StableHlo.after hostOps0_2 W (Proc.devRef .tc main_v5) (ix2 f d) = W (Proc.devRef .tc main_arg3) (ix2 f d) := by
  after_reads_at
theorem gate_at (t : Fin 2048) (f : Fin 3072) : StableHlo.after hostOps0 W (Proc.devRef .tc main_v0) (ix2 t f)
    = proj (W (Proc.devRef .tc main_arg0)) (W (Proc.devRef .tc main_arg1)) t f := by
  after_reads_at
  rfl
theorem silu_at (t : Fin 2048) (f : Fin 3072) {g : EReal} (h : W (Proc.devRef .tc main_v0) (ix2 t f) = g) :
    StableHlo.after hostOps0_1 W (Proc.devRef .tc main_v1) (ix2 t f) = g * Ideal.div 1 (1 + Ideal.exp (-g)) := by
  after_reads_at
  rw [h]
theorem prod_at (t : Fin 2048) (f : Fin 3072) {s : EReal} (h : W (Proc.devRef .tc main_v1) (ix2 t f) = s) :
    StableHlo.after hostOps0_2 W (Proc.devRef .tc main_v4) (ix2 t f) = s * proj (W (Proc.devRef .tc main_arg0)) (W (Proc.devRef .tc main_arg2)) t f := by
  after_reads_at
  rw [h]
  rfl
end Stretch

variable (m : (ℓ : Loc nD τ sig) → Buf (Elt Ideal) ℓ) (c : Dev nD)

/-- The hidden row of token `t`. -/
def hid (t : Fin 2048) (f : Fin 3072) : EReal :=
  act (proj (m ((c : Thread nD τ).loc main_arg0)) (m ((c : Thread nD τ).loc main_arg1)) t f) (proj (m ((c : Thread nD τ).loc main_arg0)) (m ((c : Thread nD τ).loc main_arg2)) t f)

theorem V_h (t : Fin 2048) (f : Fin 3072) : V m c main_v4 (ix2 t f) = hid m c t f := by
  have e := congrFun (stages fun b => m (c, b)) (Proc.devRef .tc main_v4)
  have p := prod_at (StableHlo.after hostOps0_1 (StableHlo.after hostOps0 fun b => m (c, b))) t f (silu_at _ t f (gate_at (fun b => m (c, b)) t f))
  rw [kept0, kept2] at p
  exact (congrFun e (ix2 t f)).trans p
theorem V_w (f : Fin 3072) (d : Fin 1024) : V m c main_v5 (ix2 f d) = m ((c : Thread nD τ).loc main_arg3) (ix2 f d) := by
  have e := congrFun (stages fun b => m (c, b)) (Proc.devRef .tc main_v5)
  have p := cast3 (StableHlo.after hostOps0_1 (StableHlo.after hostOps0 fun b => m (c, b))) f d
  rw [kept3] at p
  exact (congrFun e (ix2 f d)).trans p

theorem rows (q : Fin cfg0.N) (a : Fin 512) (t : Fin 2048) (h : t.val = 512 * q.val + a.val) :
    Rows (iblk m c 0 q) (iblk m c 1 q) (iblk m c 2 q) a t (m ((c : Thread nD τ).loc main_arg0)) (hid m c t) (m ((c : Thread nD τ).loc main_arg3)) where
  hid f := (read_blk0 q _ a f (ix2 t f) h rfl).trans (V_h m c t f)
  inp d := (read_blk1 q _ a d (ix2 t d) h rfl).trans (congrFun (V_main_arg0 m c) (ix2 t d))
  wgt f d := (read_blk2 q _ f d (ix2 f d) rfl rfl).trans (V_w m c f d)
theorem blk_g (q : Fin cfg0.N) (d : Fin 1024) : iblk m c 3 q (ix2 0 d) = m ((c : Thread nD τ).loc main_arg4) (ix2 0 d) :=
  (read_blk3 q _ 0 d (ix2 0 d) rfl rfl).trans (congrFun (V_main_arg4 m c) (ix2 0 d))
theorem blk_b (q : Fin cfg0.N) (d : Fin 1024) : iblk m c 4 q (ix2 0 d) = m ((c : Thread nD τ).loc main_arg5) (ix2 0 d) :=
  (read_blk4 q _ 0 d (ix2 0 d) rfl rfl).trans (congrFun (V_main_arg5 m c) (ix2 0 d))

/-- The block and the row in it of a token. -/
theorem token (t : Fin 2048) : ∃ (q : Fin cfg0.N) (a : Fin 512), t.val = 512 * q.val + a.val :=
  ⟨⟨t.val / 512, Nat.lt_of_lt_of_eq (by omega) N_0.symm⟩, ⟨t.val % 512, by omega⟩, by show t.val = 512 * (t.val / 512) + t.val % 512; omega⟩

/-- The scaled and shifted rows at the end. -/
theorem fin5 (t : Fin 2048) (d : Fin 1024) : (dats m 0 c).arrAt 5 cfg0.N (ix2 t d) = xh (pre (m ((c : Thread nD τ).loc main_arg0)) (hid m c t) (m ((c : Thread nD τ).loc main_arg3)) t) d * m ((c : Thread nD τ).loc main_arg4) (ix2 0 d) + m ((c : Thread nD τ).loc main_arg5) (ix2 0 d) := by
  obtain ⟨q, a, h⟩ := token t
  have e := blocks5 m c q (all5 _)
  rw [flushed5, out5] at e
  exact (read_blk5 q _ a d (ix2 t d) h rfl).symm.trans ((congrFun e (ix2 a d : S512x1024.Idx)).trans (pay4_of (rows m c _ _ t h) d (blk_g m c _ d) (blk_b m c _ d)))

/-- The normalised rows at the end. -/
theorem fin6 (t : Fin 2048) (d : Fin 1024) : (dats m 0 c).arrAt 6 cfg0.N (ix2 t d) = xh (pre (m ((c : Thread nD τ).loc main_arg0)) (hid m c t) (m ((c : Thread nD τ).loc main_arg3)) t) d := by
  obtain ⟨q, a, h⟩ := token t
  have e := blocks6 m c q (all6 _)
  rw [flushed6, out6] at e
  exact (read_blk6 q _ a d (ix2 t d) h rfl).symm.trans ((congrFun e (ix2 a d : S512x1024.Idx)).trans (pay3_of (rows m c _ _ t h) d))

/-- The reciprocals of the standard deviations at the end. -/
theorem fin7 (t : Fin 2048) (d : Fin 1) : (dats m 0 c).arrAt 7 cfg0.N (ix2 t d) = rs (pre (m ((c : Thread nD τ).loc main_arg0)) (hid m c t) (m ((c : Thread nD τ).loc main_arg3)) t) := by
  obtain ⟨q, a, h⟩ := token t
  have e := blocks7 m c q (all7 _)
  rw [flushed7, out7] at e
  exact (read_blk7 q _ a d (ix2 t d) h rfl).symm.trans ((congrFun e (ix2 a d : S512x1.Idx)).trans (pay2_of (rows m c _ _ t h) d))

end Cert.Kernel6Ideal.Hand

namespace Cert.Reference6Ideal.Hand
open Cert.Reference6Ideal Cert.Reference6Ideal.Gen Idealize.ShloMosaic Idealize.ShloMosaic.TcCoe
open Cert.Kernel3Ideal.Hand (act proj)
open RowNorm (mean cen rs xh res)

/-- The rows before they are normalised. -/
def preT (a0 : FVec Ideal S2048x1024 .f32) (h : FVec Ideal S2048x3072 .f32) (a3 : FVec Ideal S3072x1024 .f32) : FVec Ideal S2048x1024 .f32 :=
  addf (mulf (broadcastInDim S2048x1024 ![] bcast_S_S2048x1024 (constant S_ .f32 0x3FB504F3#32)) a0) (Host.dotGeneral (F := Ideal) dot_S2048x3072_S3072x1024_S2048x1024_1_0_0_1_n_n none h a3)
/-- A row's mean. -/
def meanT (u : FVec Ideal S2048x1024 .f32) : FVec Ideal S2048x1 .f32 :=
  Host.divf (broadcastInDim S2048x1 ![0] bcast_S2048_S2048x1_0 (Host.reduceAdd u (constant S_ .f32 0x00000000#32) reducesTo_S2048x1024_S2048_d1 h_S_)) (broadcastInDim S2048x1 ![] bcast_S_S2048x1 (constant S_ .f32 0x44800000#32))
/-- The rows about their means. -/
def cenT (u : FVec Ideal S2048x1024 .f32) : FVec Ideal S2048x1024 .f32 :=
  subf u (broadcastInDim S2048x1024 ![0, 1] bcast_S2048x1_S2048x1024_0_1 (meanT u))
/-- The reciprocal of a row's standard deviation. -/
def rsT (u : FVec Ideal S2048x1024 .f32) : FVec Ideal S2048x1 .f32 :=
  Host.rsqrt (addf (meanT (mulf (cenT u) (cenT u))) (broadcastInDim S2048x1 ![] bcast_S_S2048x1 (constant S_ .f32 0x3727C5AC#32)))
/-- The normalised rows. -/
def xhT (u : FVec Ideal S2048x1024 .f32) : FVec Ideal S2048x1024 .f32 :=
  mulf (cenT u) (broadcastInDim S2048x1024 ![0, 1] bcast_S2048x1_S2048x1024_0_1 (rsT u))
/-- The scaled and shifted rows. -/
def yT (u : FVec Ideal S2048x1024 .f32) (g b : FVec Ideal S1x1024 .f32) : FVec Ideal S2048x1024 .f32 :=
  addf (mulf (xhT u) (broadcastInDim S2048x1024 ![0, 1] bcast_S1x1024_S2048x1024_0_1 g)) (broadcastInDim S2048x1024 ![0, 1] bcast_S1x1024_S2048x1024_0_1 b)
/-- The hidden activation. -/
def hT (a0 : FVec Ideal S2048x1024 .f32) (a1 a2 : FVec Ideal S1024x3072 .f32) : FVec Ideal S2048x3072 .f32 :=
  mulf (mulf (Host.dotGeneral (F := Ideal) dot_S2048x1024_S1024x3072_S2048x3072_1_0_0_1_n_n none a0 a1)
      (Host.divf (broadcastInDim S2048x3072 ![] bcast_S_S2048x3072 (constant S_ .f32 0x3F800000#32))
        (addf (broadcastInDim S2048x3072 ![] bcast_S_S2048x3072 (constant S_ .f32 0x3F800000#32))
          (Host.exp (Host.negf (Host.dotGeneral (F := Ideal) dot_S2048x1024_S1024x3072_S2048x3072_1_0_0_1_n_n none a0 a1))))))
      (Host.dotGeneral (F := Ideal) dot_S2048x1024_S1024x3072_S2048x3072_1_0_0_1_n_n none a0 a2)

theorem h_at (a0 : FVec Ideal S2048x1024 .f32) (a1 a2 : FVec Ideal S1024x3072 .f32) (t : Fin 2048) (f : Fin 3072) :
    hT a0 a1 a2 (ix2 t f) = act (proj a0 a1 t f) (proj a0 a2 t f) := by
  pointwise [hT]
  rfl
theorem pre_at (a0 : FVec Ideal S2048x1024 .f32) (h : FVec Ideal S2048x3072 .f32) (a3 : FVec Ideal S3072x1024 .f32) (t : Fin 2048) (d : Fin 1024) :
    preT a0 h a3 (ix2 t d) = res (fun d => a0 (ix2 t d)) (fun d => ∑ f : Fin 3072, h (ix2 t f) * a3 (ix2 f d)) d := by
  pointwise [preT]
  rfl

section Norm
variable {u : FVec Ideal S2048x1024 .f32} {t : Fin 2048} {v : Fin 1024 → EReal} (hv : ∀ d : Fin 1024, u (ix2 t d) = v d)
include hv

theorem mean_at (z : Fin 1) : meanT u (ix2 t z) = mean v := by
  pointwise [meanT]
  simp only [hv]
  rfl
theorem cen_at (d : Fin 1024) : cenT u (ix2 t d) = cen v d := by
  pointwise [cenT]
  rw [mean_at hv, hv]
  rfl
theorem rs_at (z : Fin 1) : rsT u (ix2 t z) = rs v := by
  pointwise [rsT]
  rw [mean_at (v := fun d => cen v d * cen v d) (fun d => ?_)]
  · rfl
  · pointwise
    rw [cen_at hv]
theorem xh_at (d : Fin 1024) : xhT u (ix2 t d) = xh v d := by
  pointwise [xhT]
  rw [cen_at hv, rs_at hv]
  rfl
theorem y_at (g b : FVec Ideal S1x1024 .f32) (d : Fin 1024) : yT u g b (ix2 t d) = xh v d * g (ix2 0 d) + b (ix2 0 d) := by
  pointwise [yT]
  rw [xh_at hv]
end Norm

variable (m : (ℓ : Loc nD τ sig) → Buf (Elt Ideal) ℓ) (c : Dev nD)

/-- The residual rows of the arguments. -/
def preM : FVec Ideal S2048x1024 .f32 :=
  preT (m ((c.tc : Thread nD τ).loc main_arg0)) (hT (m ((c.tc : Thread nD τ).loc main_arg0)) (m ((c.tc : Thread nD τ).loc main_arg1)) (m ((c.tc : Thread nD τ).loc main_arg2))) (m ((c.tc : Thread nD τ).loc main_arg3))
theorem res2 : Value.res_main_v21 m c = rsT (preM m c) := rfl
theorem res1 : Value.res_main_v25 m c = xhT (preM m c) := rfl
theorem res0 : Value.res_main_v29 m c = yT (preM m c) (m ((c.tc : Thread nD τ).loc main_arg4)) (m ((c.tc : Thread nD τ).loc main_arg5)) := rfl

theorem preM_at (t : Fin 2048) (d : Fin 1024) : preM m c (ix2 t d)
    = Cert.Kernel6Ideal.Hand.pre (m ((c.tc : Thread nD τ).loc main_arg0))
        (fun f => act (proj (m ((c.tc : Thread nD τ).loc main_arg0)) (m ((c.tc : Thread nD τ).loc main_arg1)) t f) (proj (m ((c.tc : Thread nD τ).loc main_arg0)) (m ((c.tc : Thread nD τ).loc main_arg2)) t f))
        (m ((c.tc : Thread nD τ).loc main_arg3)) t d := by
  refine (pre_at _ _ _ t d).trans ?_
  simp only [h_at]
  rfl

end Cert.Reference6Ideal.Hand

end
-- ==== Proof.Cols.lean ====
module
public import Idealize.ShloMosaic.Lib.Pointwise
public import Idealize.ShloMosaic.Lib.Pipeline.ValueKit.Basic
public import Idealize.ShloMosaic.Lib.Pipeline.ValueKit.Acc
public import Idealize.ShloMosaic.Lib.Pipeline.ValueKit.Tiles
@[expose] public section
set_option maxRecDepth 16384
noncomputable section

/-! Stores and loads of whole columns of an array, and a sum cut in pieces. -/

namespace Columns
open Idealize.ShloMosaic

/-- A sum over `n` terms as the sum of the first `a` and of the `b` after them. -/
theorem split {M : Type} [AddCommMonoid M] {n : ℕ} (a b : ℕ) (h : a + b = n) (f : Fin n → M) :
    ∑ i : Fin n, f i = (∑ i : Fin a, f ⟨i.val, by omega⟩) + ∑ i : Fin b, f ⟨a + i.val, by omega⟩ := by
  subst h
  exact Fin.sum_univ_add f

/-- A sum over 2048 terms in four equal pieces. -/
theorem split4 {M : Type} [AddCommMonoid M] (f : Fin 2048 → M) :
    ∑ i : Fin 2048, f i = (((∑ i : Fin 512, f ⟨i.val, by omega⟩) + ∑ i : Fin 512, f ⟨512 + i.val, by omega⟩) + ∑ i : Fin 512, f ⟨1024 + i.val, by omega⟩) + ∑ i : Fin 512, f ⟨1536 + i.val, by omega⟩ := by
  rw [split 1536 512 rfl f, split 1024 512 rfl (fun i : Fin 1536 => f ⟨i.val, by omega⟩), split 512 512 rfl (fun i : Fin 1024 => f ⟨i.val, by omega⟩)]

/-- A sum over 2048 terms in two quarters and a half. -/
theorem split3 {M : Type} [AddCommMonoid M] (f : Fin 2048 → M) :
    ∑ i : Fin 2048, f i = ((∑ i : Fin 512, f ⟨i.val, by omega⟩) + ∑ i : Fin 512, f ⟨512 + i.val, by omega⟩) + ∑ i : Fin 1024, f ⟨1024 + i.val, by omega⟩ := by
  rw [split 1024 1024 rfl f, split 512 512 rfl (fun i : Fin 1024 => f ⟨i.val, by omega⟩)]

section
variable {e : EltTy} {R C : ℕ} (L : List (View.Piece (Elt Ideal) ⟨2, ![R, C]⟩ e)) (o n : ℕ) (h : ∀ x, (![0, o] : Fin 2 → ℕ) x + (![R, n] : Fin 2 → ℕ) x ≤ (![R, C] : Fin 2 → ℕ) x)

/-- A column the last store wrote. -/
theorem canon_mem (w : Vec Ideal ⟨2, ![R, n]⟩ e) (d : Fin R) (j : Fin C) (k : Fin n) (hk : j.val = o + k.val) :
    View.canon ((⟨Rect.unit (s := ⟨2, ![R, C]⟩) ![0, o] ![R, n] h, w⟩ : View.Piece (Elt Ideal) ⟨2, ![R, C]⟩ e) :: L) (ix2 d j) = w (ix2 d k) := by
  have e0 : (Rect.unit (s := ⟨2, ![R, C]⟩) ![0, o] ![R, n] h).emb (ix2 d k) = (ix2 d j : (⟨2, ![R, C]⟩ : Shape).Idx) := by
    funext y; refine Fin.ext ?_
    match y with
    | ⟨0, _⟩ => show 0 + 1 * d.val = d.val; omega
    | ⟨1, _⟩ => show o + 1 * k.val = j.val; omega
  rw [← e0]
  exact View.canon_cons_emb (r := Rect.unit (s := ⟨2, ![R, C]⟩) ![0, o] ![R, n] h) w L (ix2 d k)

/-- A column the last store did not write. -/
theorem canon_not (w : Vec Ideal ⟨2, ![R, n]⟩ e) (d : Fin R) (j : Fin C) (hj : j.val < o ∨ o + n ≤ j.val) :
    View.canon ((⟨Rect.unit (s := ⟨2, ![R, C]⟩) ![0, o] ![R, n] h, w⟩ : View.Piece (Elt Ideal) ⟨2, ![R, C]⟩ e) :: L) (ix2 d j) = View.canon L (ix2 d j) := by
  refine View.canon_cons_of_not_mem _ L ?_
  show ix2 d j ∉ (Rect.unit (s := ⟨2, ![R, C]⟩) ![0, o] ![R, n] h).set
  rw [Rect.mem_set_unit]
  intro hm
  have h1 : o ≤ j.val ∧ j.val < o + n := hm 1
  omega

/-- Loading columns of an array just stored in pieces. -/
theorem cov_at {sig : RefSig} {κ : Kind} {sp : Space} (V : View sig κ sp ⟨2, ![R, C]⟩ e) (d : Fin R) (j : Fin C) (k : Fin n) (hk : j.val = o + k.val) :
    V.readCov L (Rect.unit (s := ⟨2, ![R, C]⟩) ![0, o] ![R, n] h).toLoadRect (ix2 d k) = View.canon L (ix2 d j) := by
  rw [View.readCov_eq_canon']
  refine congrArg (View.canon L) ?_
  funext y; refine Fin.ext ?_
  match y with
  | ⟨0, _⟩ => show 0 + 1 * d.val = d.val; omega
  | ⟨1, _⟩ => show o + 1 * k.val = j.val; omega

/-- Loading columns of an array. -/
theorem ld_at (X : Vec Ideal ⟨2, ![R, C]⟩ e) (d : Fin R) (j : Fin C) (k : Fin n) (hk : j.val = o + k.val) :
    View.ld X (Rect.unit (s := ⟨2, ![R, C]⟩) ![0, o] ![R, n] h) (ix2 d k) = X (ix2 d j) := by
  refine congrArg X ?_
  funext y; refine Fin.ext ?_
  match y with
  | ⟨0, _⟩ => show 0 + 1 * d.val = d.val; omega
  | ⟨1, _⟩ => show o + 1 * k.val = j.val; omega
end

section
variable {e : EltTy} {R : ℕ} (L : List (View.Piece (Elt Ideal) ⟨2, ![R, 2048]⟩ e)) {G : Fin R → Fin 2048 → Elt Ideal e}

/-- An array stored in four equal pieces. -/
theorem canon4 (h0) (h1) (h2) (h3) (w0 w1 w2 w3 : Vec Ideal ⟨2, ![R, 512]⟩ e)
    (e0 : ∀ (d : Fin R) (k : Fin 512), w0 (ix2 d k) = G d ⟨k.val, by omega⟩) (e1 : ∀ (d : Fin R) (k : Fin 512), w1 (ix2 d k) = G d ⟨512 + k.val, by omega⟩)
    (e2 : ∀ (d : Fin R) (k : Fin 512), w2 (ix2 d k) = G d ⟨1024 + k.val, by omega⟩) (e3 : ∀ (d : Fin R) (k : Fin 512), w3 (ix2 d k) = G d ⟨1536 + k.val, by omega⟩)
    (d : Fin R) (j : Fin 2048) :
    View.canon ((⟨Rect.unit (s := ⟨2, ![R, 2048]⟩) ![0, 1536] ![R, 512] h3, w3⟩ : View.Piece (Elt Ideal) ⟨2, ![R, 2048]⟩ e)
      :: ⟨Rect.unit (s := ⟨2, ![R, 2048]⟩) ![0, 1024] ![R, 512] h2, w2⟩ :: ⟨Rect.unit (s := ⟨2, ![R, 2048]⟩) ![0, 512] ![R, 512] h1, w1⟩
      :: ⟨Rect.unit (s := ⟨2, ![R, 2048]⟩) ![0, 0] ![R, 512] h0, w0⟩ :: L) (ix2 d j) = G d j := by
  by_cases c3 : 1536 ≤ j.val
  · refine (canon_mem _ 1536 512 h3 w3 d j ⟨j.val - 1536, by omega⟩ (by show j.val = 1536 + (j.val - 1536); omega)).trans ((e3 _ _).trans ?_)
    exact congrArg (G d) (Fin.ext (by show 1536 + (j.val - 1536) = j.val; omega))
  refine (canon_not _ 1536 512 h3 w3 d j (Or.inl (by omega))).trans ?_
  by_cases c2 : 1024 ≤ j.val
  · refine (canon_mem _ 1024 512 h2 w2 d j ⟨j.val - 1024, by omega⟩ (by show j.val = 1024 + (j.val - 1024); omega)).trans ((e2 _ _).trans ?_)
    exact congrArg (G d) (Fin.ext (by show 1024 + (j.val - 1024) = j.val; omega))
  refine (canon_not _ 1024 512 h2 w2 d j (Or.inl (by omega))).trans ?_
  by_cases c1 : 512 ≤ j.val
  · refine (canon_mem _ 512 512 h1 w1 d j ⟨j.val - 512, by omega⟩ (by show j.val = 512 + (j.val - 512); omega)).trans ((e1 _ _).trans ?_)
    exact congrArg (G d) (Fin.ext (by show 512 + (j.val - 512) = j.val; omega))
  refine (canon_not _ 512 512 h1 w1 d j (Or.inl (by omega))).trans ?_
  exact (canon_mem _ 0 512 h0 w0 d j ⟨j.val, by omega⟩ (by show j.val = 0 + j.val; omega)).trans (e0 _ _)

/-- An array stored in two quarters and a half. -/
theorem canon3 (h0) (h1) (h2) (w0 w1 : Vec Ideal ⟨2, ![R, 512]⟩ e) (w2 : Vec Ideal ⟨2, ![R, 1024]⟩ e)
    (e0 : ∀ (d : Fin R) (k : Fin 512), w0 (ix2 d k) = G d ⟨k.val, by omega⟩) (e1 : ∀ (d : Fin R) (k : Fin 512), w1 (ix2 d k) = G d ⟨512 + k.val, by omega⟩)
    (e2 : ∀ (d : Fin R) (k : Fin 1024), w2 (ix2 d k) = G d ⟨1024 + k.val, by omega⟩)
    (d : Fin R) (j : Fin 2048) :
    View.canon ((⟨Rect.unit (s := ⟨2, ![R, 2048]⟩) ![0, 1024] ![R, 1024] h2, w2⟩ : View.Piece (Elt Ideal) ⟨2, ![R, 2048]⟩ e)
      :: ⟨Rect.unit (s := ⟨2, ![R, 2048]⟩) ![0, 512] ![R, 512] h1, w1⟩
      :: ⟨Rect.unit (s := ⟨2, ![R, 2048]⟩) ![0, 0] ![R, 512] h0, w0⟩ :: L) (ix2 d j) = G d j := by
  by_cases c2 : 1024 ≤ j.val
  · refine (canon_mem _ 1024 1024 h2 w2 d j ⟨j.val - 1024, by omega⟩ (by show j.val = 1024 + (j.val - 1024); omega)).trans ((e2 _ _).trans ?_)
    exact congrArg (G d) (Fin.ext (by show 1024 + (j.val - 1024) = j.val; omega))
  refine (canon_not _ 1024 1024 h2 w2 d j (Or.inl (by omega))).trans ?_
  by_cases c1 : 512 ≤ j.val
  · refine (canon_mem _ 512 512 h1 w1 d j ⟨j.val - 512, by omega⟩ (by show j.val = 512 + (j.val - 512); omega)).trans ((e1 _ _).trans ?_)
    exact congrArg (G d) (Fin.ext (by show 512 + (j.val - 512) = j.val; omega))
  refine (canon_not _ 512 512 h1 w1 d j (Or.inl (by omega))).trans ?_
  exact (canon_mem _ 0 512 h0 w0 d j ⟨j.val, by omega⟩ (by show j.val = 0 + j.val; omega)).trans (e0 _ _)
end

end Columns

end
-- ==== Proof.Dx4.lean ====
module
public import Idealize.ShloMosaic.Lib.Pointwise
public import Idealize.ShloMosaic.Lib.StableHlo.ReadAt
public import Idealize.ShloMosaic.Lib.Pipeline.ValueKit.Basic
public import proofs.«01_k».proof.Proof.Cols
public import proofs.«01_k».proof.Proof.At
public import proofs.«01_k».proof.Proof.Gen.Kernel4Ideal.Value
@[expose] public section
set_option maxRecDepth 16384
noncomputable section

/-! The gradient of an input projection, its output gradient handed over in four pieces: what the launch leaves
at every index. Everything holds over the extended real numbers. -/

namespace Cert.Kernel4Ideal.Hand
open Cert.Kernel4Ideal Cert.Kernel4Ideal.Gen Cert.Kernel4Ideal.Value Idealize.ShloMosaic Idealize.ShloMosaic.TcCoe
open Columns (split4 split3 canon4 canon3 cov_at ld_at canon_mem canon_not)

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Rows 2048 512 512 512 t.val (((cfg0.win 1).blk t).view.read (Elt Ideal)) :=
  Gather.rows (ix := win0_1.index)
theorem read_blk2 : ∀ t : Fin cfg0.N, Gather.Rows 2048 512 512 512 t.val (((cfg0.win 2).blk t).view.read (Elt Ideal)) :=
  Gather.rows (ix := win0_2.index)
theorem read_blk3 : ∀ t : Fin cfg0.N, Gather.Rows 2048 512 512 512 t.val (((cfg0.win 3).blk t).view.read (Elt Ideal)) :=
  Gather.rows (ix := win0_3.index)
theorem read_blk4 : ∀ t : Fin cfg0.N, Gather.Rows 2048 512 512 512 t.val (((cfg0.win 4).blk t).view.read (Elt Ideal)) :=
  Gather.rows (ix := win0_4.index)
theorem read_blk5 : ∀ t : Fin cfg0.N, Gather.Rows 2048 1024 512 1024 t.val (((cfg0.win 5).blk t).view.read (Elt Ideal)) :=
  Gather.rows (ix := win0_5.index)
theorem read_blk6 : ∀ t : Fin cfg0.N, Gather.Whole 1024 2048 (((cfg0.win 6).blk t).view.read (Elt Ideal)) :=
  Gather.whole (ix := win0_6.index)
theorem read_blk7 : ∀ t : Fin cfg0.N, Gather.Rows 2048 1024 512 1024 t.val (((cfg0.win 7).blk t).view.read (Elt Ideal)) :=
  Gather.rows (ix := win0_7.index)
theorem all7 : ∀ t : Fin cfg0.N, (cfg0.win 7).flush t = true := (by decide +kernel : ∀ t : Fin grid0.N, _)
theorem read_blk8 : ∀ t : Fin cfg0.N, Gather.Whole 1024 2048 (((cfg0.win 8).blk t).view.read (Elt Ideal)) :=
  Gather.whole (ix := win0_8.index)

/-- The part of the weights' gradient a block of 512 tokens `T` adds. -/
def part (x : S2048x1024.Idx → EReal) (g : S2048x2048.Idx → EReal) (T : Fin 512 → Fin 2048) (d : Fin 1024) (j : Fin 2048) : EReal :=
  ∑ a : Fin 512, x (ix2 (T a) d) * g (ix2 (T a) j)
/-- The weights' gradient. -/
def dwv (x : S2048x1024.Idx → EReal) (g : S2048x2048.Idx → EReal) (d : Fin 1024) (j : Fin 2048) : EReal :=
  ∑ t : Fin 2048, x (ix2 t d) * g (ix2 t j)
/-- The input's gradient: the one handed on, scaled, plus the projection's. -/
def dxv (r : S2048x1024.Idx → EReal) (g : S2048x2048.Idx → EReal) (w : S1024x2048.Idx → EReal) (t : Fin 2048) (d : Fin 1024) : EReal :=
  Ideal.ofBits FTy.f32 1068827891#32 * r (ix2 t d) + ∑ j : Fin 2048, g (ix2 t j) * w (ix2 d j)

section Block
variable (x0 : Vec Ideal S512x1024 .f32) (p0 : Vec Ideal S512x512 .bf16) (p1 : Vec Ideal S512x512 .bf16) (p2 : Vec Ideal S512x512 .bf16) (p3 : Vec Ideal S512x512 .bf16) (xx : Vec Ideal S512x1024 .bf16) (ww : Vec Ideal S1024x2048 .bf16)
/-- What a block's rows hold, as rows of whole arrays. -/
structure Rows (T : Fin 512 → Fin 2048) (r x : S2048x1024.Idx → EReal) (g : S2048x2048.Idx → EReal) (w : S1024x2048.Idx → EReal) : Prop where
  dr : ∀ (a : Fin 512) (d : Fin 1024), x0 (ix2 a d) = r (ix2 (T a) d)
  c0 : ∀ (a : Fin 512) (k : Fin 512), p0 (ix2 a k) = g (ix2 (T a) ⟨k.val, by omega⟩)
  c1 : ∀ (a : Fin 512) (k : Fin 512), p1 (ix2 a k) = g (ix2 (T a) ⟨512 + k.val, by omega⟩)
  c2 : ∀ (a : Fin 512) (k : Fin 512), p2 (ix2 a k) = g (ix2 (T a) ⟨1024 + k.val, by omega⟩)
  c3 : ∀ (a : Fin 512) (k : Fin 512), p3 (ix2 a k) = g (ix2 (T a) ⟨1536 + k.val, by omega⟩)
  xs : ∀ (a : Fin 512) (d : Fin 1024), xx (ix2 a d) = x (ix2 (T a) d)
  ws : ∀ (d : Fin 1024) (j : Fin 2048), ww (ix2 d j) = w (ix2 d j)

variable {x0 p0 p1 p2 p3 xx ww} {T : Fin 512 → Fin 2048} {r x : S2048x1024.Idx → EReal} {g : S2048x2048.Idx → EReal} {w : S1024x2048.Idx → EReal}
theorem acc0 (R : Rows x0 p0 p1 p2 p3 xx ww T r x g w) {old : Vec Ideal S1024x512 .f32} (d : Fin 1024) (k : Fin 512) {v : EReal} (h : old (ix2 d k) = v) :
    k0_pay4 (F := Ideal) xx p0 old (ix2 d k) = v + part x g T d ⟨k.val, by omega⟩ := by
  pointwise [k0_pay4, k0_pay2, k0_pay3]
  simp only [h, R.xs, R.c0]
  rfl
theorem acc1 (R : Rows x0 p0 p1 p2 p3 xx ww T r x g w) {old : Vec Ideal S1024x512 .f32} (d : Fin 1024) (k : Fin 512) {v : EReal} (h : old (ix2 d k) = v) :
    k0_pay8 (F := Ideal) (k0_pay7 (F := Ideal) xx p1 old) (ix2 d k) = v + part x g T d ⟨512 + k.val, by omega⟩ := by
  pointwise [k0_pay8, k0_pay7, k0_pay2, k0_pay5]
  simp only [h, R.xs, R.c1]
  rfl
theorem acc2 (R : Rows x0 p0 p1 p2 p3 xx ww T r x g w) {old : Vec Ideal S1024x512 .f32} (d : Fin 1024) (k : Fin 512) {v : EReal} (h : old (ix2 d k) = v) :
    k0_pay10 (F := Ideal) (k0_pay2 (F := Ideal) xx) p2 old (ix2 d k) = v + part x g T d ⟨1024 + k.val, by omega⟩ := by
  pointwise [k0_pay10, k0_pay2, k0_pay9]
  simp only [h, R.xs, R.c2]
  rfl
theorem acc3 (R : Rows x0 p0 p1 p2 p3 xx ww T r x g w) {old : Vec Ideal S1024x512 .f32} (d : Fin 1024) (k : Fin 512) {v : EReal} (h : old (ix2 d k) = v) :
    k0_pay13 (F := Ideal) (k0_pay2 (F := Ideal) xx) p3 old (ix2 d k) = v + part x g T d ⟨1536 + k.val, by omega⟩ := by
  pointwise [k0_pay13, k0_pay2, k0_pay11]
  simp only [h, R.xs, R.c3]
  rfl
theorem dx_of (R : Rows x0 p0 p1 p2 p3 xx ww T r x g w) {w0 : Vec Ideal S1024x512 .bf16} (h0 : ∀ (d : Fin 1024) (k : Fin 512), w0 (ix2 d k) = w (ix2 d ⟨k.val, by omega⟩)) {w1 : Vec Ideal S1024x512 .bf16} (h1 : ∀ (d : Fin 1024) (k : Fin 512), w1 (ix2 d k) = w (ix2 d ⟨512 + k.val, by omega⟩)) {w2 : Vec Ideal S1024x512 .bf16} (h2 : ∀ (d : Fin 1024) (k : Fin 512), w2 (ix2 d k) = w (ix2 d ⟨1024 + k.val, by omega⟩)) {w3 : Vec Ideal S1024x512 .bf16} (h3 : ∀ (d : Fin 1024) (k : Fin 512), w3 (ix2 d k) = w (ix2 d ⟨1536 + k.val, by omega⟩)) (a : Fin 512) (d : Fin 1024) :
    k0_pay12 (F := Ideal) (k0_pay6 (F := Ideal) x0 p0 w0 p1 w1) p2 w2 p3 w3 (ix2 a d) = dxv r g w (T a) d := by
  pointwise [k0_pay12, k0_pay6, k0_pay3, k0_pay5, k0_pay9, k0_pay11]
  simp only [R.dr, R.c0, h0, R.c1, h1, R.c2, h2, R.c3, h3]
  unfold dxv
  rw [split4]
  simp only [add_assoc]
theorem zero_at (d : Fin 1024) (j : Fin 2048) : k0_pay1 (F := Ideal) (ix2 d j) = 0 := by
  pointwise [k0_pay1]
theorem cast_at (v : Vec Ideal S1024x2048 .f32) (d : Fin 1024) (j : Fin 2048) : k0_pay14 (F := Ideal) v (ix2 d j) = v (ix2 d j) := by
  pointwise [k0_pay14]
end Block

variable (m : (ℓ : Loc nD τ sig) → Buf (Elt Ideal) ℓ) (c : Dev nD)
theorem V_p0 (t : Fin 2048) (k : Fin 512) : V m c main_v1 (ix2 t k) = m ((c : Thread nD τ).loc main_arg3) (ix2 t ⟨k.val, by omega⟩) := by
  show StableHlo.after hostOps0 (fun b => m (c, b)) (Proc.devRef .tc main_v1) (ix2 t k) = _
  after_reads_at
theorem V_p1 (t : Fin 2048) (k : Fin 512) : V m c main_v3 (ix2 t k) = m ((c : Thread nD τ).loc main_arg3) (ix2 t ⟨512 + k.val, by omega⟩) := by
  show StableHlo.after hostOps0 (fun b => m (c, b)) (Proc.devRef .tc main_v3) (ix2 t k) = _
  after_reads_at
theorem V_p2 (t : Fin 2048) (k : Fin 512) : V m c main_v5 (ix2 t k) = m ((c : Thread nD τ).loc main_arg3) (ix2 t ⟨1024 + k.val, by omega⟩) := by
  show StableHlo.after hostOps0 (fun b => m (c, b)) (Proc.devRef .tc main_v5) (ix2 t k) = _
  after_reads_at
theorem V_p3 (t : Fin 2048) (k : Fin 512) : V m c main_v7 (ix2 t k) = m ((c : Thread nD τ).loc main_arg3) (ix2 t ⟨1536 + k.val, by omega⟩) := by
  show StableHlo.after hostOps0 (fun b => m (c, b)) (Proc.devRef .tc main_v7) (ix2 t k) = _
  after_reads_at
theorem V_x (a : Fin 2048) (b : Fin 1024) : V m c main_v9 (ix2 a b) = m ((c : Thread nD τ).loc main_arg0) (ix2 a b) := by
  show StableHlo.after hostOps0 (fun b => m (c, b)) (Proc.devRef .tc main_v9) (ix2 a b) = _
  after_reads_at
theorem V_w (a : Fin 1024) (b : Fin 2048) : V m c main_v8 (ix2 a b) = m ((c : Thread nD τ).loc main_arg1) (ix2 a b) := by
  show StableHlo.after hostOps0 (fun b => m (c, b)) (Proc.devRef .tc main_v8) (ix2 a b) = _
  after_reads_at

/-- The token of row `a` of block `q`. -/
def row (q : ℕ) (h : q < 4) (a : Fin 512) : Fin 2048 := ⟨512 * q + a.val, by omega⟩
/-- The part of the weights' gradient block `q` adds. -/
def pt (q : ℕ) (h : q < 4) : Fin 1024 → Fin 2048 → EReal :=
  part (m ((c : Thread nD τ).loc main_arg0)) (m ((c : Thread nD τ).loc main_arg3)) (row q h)

theorem rows (q : Fin cfg0.N) (h : q.val < 4) : Rows (iblk m c 0 q) (iblk m c 1 q) (iblk m c 2 q) (iblk m c 3 q) (iblk m c 4 q) (iblk m c 5 q) (iblk m c 6 q) (row q.val h)
    (m ((c : Thread nD τ).loc main_arg2)) (m ((c : Thread nD τ).loc main_arg0)) (m ((c : Thread nD τ).loc main_arg3)) (m ((c : Thread nD τ).loc main_arg1)) where
  dr a d := (read_blk0 q _ a d (ix2 (row q.val h a) d) rfl rfl).trans (congrFun (V_main_arg2 m c) (ix2 (row q.val h a) d))
  c0 a k := (read_blk1 q _ a k (ix2 (row q.val h a) k) rfl rfl).trans (V_p0 m c (row q.val h a) k)
  c1 a k := (read_blk2 q _ a k (ix2 (row q.val h a) k) rfl rfl).trans (V_p1 m c (row q.val h a) k)
  c2 a k := (read_blk3 q _ a k (ix2 (row q.val h a) k) rfl rfl).trans (V_p2 m c (row q.val h a) k)
  c3 a k := (read_blk4 q _ a k (ix2 (row q.val h a) k) rfl rfl).trans (V_p3 m c (row q.val h a) k)
  xs a d := (read_blk5 q _ a d (ix2 (row q.val h a) d) rfl rfl).trans (V_x m c (row q.val h a) d)
  ws d j := (read_blk6 q _ d j (ix2 d j) rfl rfl).trans (V_w m c d j)

set_option maxHeartbeats 1000000 in
/-- What the accumulator holds after the first block. -/
theorem scr_A (t : Fin cfg0.N) (hq : t.val < 4) (h0 : t.val % 4 = 0) (h1 : ¬t.val % 4 = 3) (d : Fin 1024) (j : Fin 2048) :
    (outsAt0 m c t.val t.isLt).2.2 (ix2 d j) = 0 + pt m c t.val hq d j := by
  rw [outsAt0_A m c t h0 h1]
  frame_out
  refine canon4 (R := 1024) (e := .f32) (G := fun d j => 0 + pt m c t.val hq d j) _ _ _ _ _ _ _ _ _ ?_ ?_ ?_ ?_ d j
  · exact fun d k => acc0 (rows m c t hq) d k ((cov_at (R := 1024) (C := 2048) (e := .f32) _ 0 512 _ _ d ⟨k.val, by omega⟩ k (Nat.zero_add _).symm).trans ((canon_mem (R := 1024) (C := 2048) (e := .f32) _ 0 2048 _ _ d _ ⟨k.val, by omega⟩ (Nat.zero_add _).symm).trans (zero_at d _)))
  · exact fun d k => acc1 (rows m c t hq) d k ((cov_at (R := 1024) (C := 2048) (e := .f32) _ 512 512 _ _ d ⟨512 + k.val, by omega⟩ k rfl).trans ((canon_not (R := 1024) (C := 2048) (e := .f32) _ 0 512 _ _ d _ (Or.inr (by show 512 ≤ 512 + k.val; omega))).trans ((canon_mem (R := 1024) (C := 2048) (e := .f32) _ 0 2048 _ _ d _ ⟨512 + k.val, by omega⟩ (Nat.zero_add _).symm).trans (zero_at d _))))
  · exact fun d k => acc2 (rows m c t hq) d k ((cov_at (R := 1024) (C := 2048) (e := .f32) _ 1024 512 _ _ d ⟨1024 + k.val, by omega⟩ k rfl).trans ((canon_not (R := 1024) (C := 2048) (e := .f32) _ 512 512 _ _ d _ (Or.inr (by show 1024 ≤ 1024 + k.val; omega))).trans ((canon_not (R := 1024) (C := 2048) (e := .f32) _ 0 512 _ _ d _ (Or.inr (by show 512 ≤ 1024 + k.val; omega))).trans ((canon_mem (R := 1024) (C := 2048) (e := .f32) _ 0 2048 _ _ d _ ⟨1024 + k.val, by omega⟩ (Nat.zero_add _).symm).trans (zero_at d _)))))
  · exact fun d k => acc3 (rows m c t hq) d k ((cov_at (R := 1024) (C := 2048) (e := .f32) _ 1536 512 _ _ d ⟨1536 + k.val, by omega⟩ k rfl).trans ((canon_not (R := 1024) (C := 2048) (e := .f32) _ 1024 512 _ _ d _ (Or.inr (by show 1536 ≤ 1536 + k.val; omega))).trans ((canon_not (R := 1024) (C := 2048) (e := .f32) _ 512 512 _ _ d _ (Or.inr (by show 1024 ≤ 1536 + k.val; omega))).trans ((canon_not (R := 1024) (C := 2048) (e := .f32) _ 0 512 _ _ d _ (Or.inr (by show 512 ≤ 1536 + k.val; omega))).trans ((canon_mem (R := 1024) (C := 2048) (e := .f32) _ 0 2048 _ _ d _ ⟨1536 + k.val, by omega⟩ (Nat.zero_add _).symm).trans (zero_at d _))))))
set_option maxHeartbeats 1000000 in
/-- The input's gradient a block writes. -/
theorem dx_A (t : Fin cfg0.N) (hq : t.val < 4) (h0 : t.val % 4 = 0) (h1 : ¬t.val % 4 = 3) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  rw [outsAt0_A m c t h0 h1]
  frame_out
  exact dx_of (rows m c t hq) (fun d k => (ld_at (R := 1024) (C := 2048) (e := .bf16) 0 512 _ _ d ⟨k.val, by omega⟩ k (Nat.zero_add _).symm).trans ((rows m c t hq).ws d _)) (fun d k => (ld_at (R := 1024) (C := 2048) (e := .bf16) 512 512 _ _ d ⟨512 + k.val, by omega⟩ k rfl).trans ((rows m c t hq).ws d _)) (fun d k => (ld_at (R := 1024) (C := 2048) (e := .bf16) 1024 512 _ _ d ⟨1024 + k.val, by omega⟩ k rfl).trans ((rows m c t hq).ws d _)) (fun d k => (ld_at (R := 1024) (C := 2048) (e := .bf16) 1536 512 _ _ d ⟨1536 + k.val, by omega⟩ k rfl).trans ((rows m c t hq).ws d _)) a d

set_option maxHeartbeats 1000000 in
/-- What the accumulator holds after a later block, `G` before it. -/
theorem scr_B (t : Fin cfg0.N) (hq : t.val < 4) (h0 : ¬t.val % 4 = 0) (h1 : ¬t.val % 4 = 3) {G : Fin 1024 → Fin 2048 → EReal}
    (h : ∀ (d : Fin 1024) (j : Fin 2048), (outsAt0 m c (t.val - 1) (Nat.lt_of_le_of_lt (Nat.sub_le _ _) t.isLt)).2.2 (ix2 d j) = G d j) (d : Fin 1024) (j : Fin 2048) :
    (outsAt0 m c t.val t.isLt).2.2 (ix2 d j) = G d j + pt m c t.val hq d j := by
  rw [outsAt0_B m c t h0 h1]
  frame_out
  refine canon4 (R := 1024) (e := .f32) (G := fun d j => G d j + pt m c t.val hq d j) _ _ _ _ _ _ _ _ _ ?_ ?_ ?_ ?_ d j
  · exact fun d k => acc0 (rows m c t hq) d k ((ld_at (R := 1024) (C := 2048) (e := .f32) 0 512 _ _ d ⟨k.val, by omega⟩ k (Nat.zero_add _).symm).trans ((congrFun (Memref.IsWhole.read_unread _ _) _).trans (h d _)))
  · exact fun d k => acc1 (rows m c t hq) d k ((ld_at (R := 1024) (C := 2048) (e := .f32) 512 512 _ _ d ⟨512 + k.val, by omega⟩ k rfl).trans ((congrFun (Memref.IsWhole.read_unread _ _) _).trans (h d _)))
  · exact fun d k => acc2 (rows m c t hq) d k ((ld_at (R := 1024) (C := 2048) (e := .f32) 1024 512 _ _ d ⟨1024 + k.val, by omega⟩ k rfl).trans ((congrFun (Memref.IsWhole.read_unread _ _) _).trans (h d _)))
  · exact fun d k => acc3 (rows m c t hq) d k ((ld_at (R := 1024) (C := 2048) (e := .f32) 1536 512 _ _ d ⟨1536 + k.val, by omega⟩ k rfl).trans ((congrFun (Memref.IsWhole.read_unread _ _) _).trans (h d _)))
set_option maxHeartbeats 1000000 in
/-- The input's gradient a block writes. -/
theorem dx_B (t : Fin cfg0.N) (hq : t.val < 4) (h0 : ¬t.val % 4 = 0) (h1 : ¬t.val % 4 = 3) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  rw [outsAt0_B m c t h0 h1]
  frame_out
  exact dx_of (rows m c t hq) (fun d k => (ld_at (R := 1024) (C := 2048) (e := .bf16) 0 512 _ _ d ⟨k.val, by omega⟩ k (Nat.zero_add _).symm).trans ((rows m c t hq).ws d _)) (fun d k => (ld_at (R := 1024) (C := 2048) (e := .bf16) 512 512 _ _ d ⟨512 + k.val, by omega⟩ k rfl).trans ((rows m c t hq).ws d _)) (fun d k => (ld_at (R := 1024) (C := 2048) (e := .bf16) 1024 512 _ _ d ⟨1024 + k.val, by omega⟩ k rfl).trans ((rows m c t hq).ws d _)) (fun d k => (ld_at (R := 1024) (C := 2048) (e := .bf16) 1536 512 _ _ d ⟨1536 + k.val, by omega⟩ k rfl).trans ((rows m c t hq).ws d _)) a d

set_option maxHeartbeats 1000000 in
/-- What the accumulator holds after a later block, `G` before it. -/
theorem scr_C (t : Fin cfg0.N) (hq : t.val < 4) (h0 : ¬t.val % 4 = 0) (h1 : t.val % 4 = 3) {G : Fin 1024 → Fin 2048 → EReal}
    (h : ∀ (d : Fin 1024) (j : Fin 2048), (outsAt0 m c (t.val - 1) (Nat.lt_of_le_of_lt (Nat.sub_le _ _) t.isLt)).2.2 (ix2 d j) = G d j) (d : Fin 1024) (j : Fin 2048) :
    (outsAt0 m c t.val t.isLt).2.1 (ix2 d j) = G d j + pt m c t.val hq d j := by
  rw [outsAt0_C m c t h0 h1]
  frame_out
  refine (cast_at _ d j).trans ((cov_at (R := 1024) (C := 2048) (e := .f32) _ 0 2048 _ _ d j j (Nat.zero_add _).symm).trans ?_)
  refine canon4 (R := 1024) (e := .f32) (G := fun d j => G d j + pt m c t.val hq d j) _ _ _ _ _ _ _ _ _ ?_ ?_ ?_ ?_ d j
  · exact fun d k => acc0 (rows m c t hq) d k ((ld_at (R := 1024) (C := 2048) (e := .f32) 0 512 _ _ d ⟨k.val, by omega⟩ k (Nat.zero_add _).symm).trans ((congrFun (Memref.IsWhole.read_unread _ _) _).trans (h d _)))
  · exact fun d k => acc1 (rows m c t hq) d k ((ld_at (R := 1024) (C := 2048) (e := .f32) 512 512 _ _ d ⟨512 + k.val, by omega⟩ k rfl).trans ((congrFun (Memref.IsWhole.read_unread _ _) _).trans (h d _)))
  · exact fun d k => acc2 (rows m c t hq) d k ((ld_at (R := 1024) (C := 2048) (e := .f32) 1024 512 _ _ d ⟨1024 + k.val, by omega⟩ k rfl).trans ((congrFun (Memref.IsWhole.read_unread _ _) _).trans (h d _)))
  · exact fun d k => acc3 (rows m c t hq) d k ((ld_at (R := 1024) (C := 2048) (e := .f32) 1536 512 _ _ d ⟨1536 + k.val, by omega⟩ k rfl).trans ((congrFun (Memref.IsWhole.read_unread _ _) _).trans (h d _)))
set_option maxHeartbeats 1000000 in
/-- The input's gradient a block writes. -/
theorem dx_C (t : Fin cfg0.N) (hq : t.val < 4) (h0 : ¬t.val % 4 = 0) (h1 : t.val % 4 = 3) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  rw [outsAt0_C m c t h0 h1]
  frame_out
  exact dx_of (rows m c t hq) (fun d k => (ld_at (R := 1024) (C := 2048) (e := .bf16) 0 512 _ _ d ⟨k.val, by omega⟩ k (Nat.zero_add _).symm).trans ((rows m c t hq).ws d _)) (fun d k => (ld_at (R := 1024) (C := 2048) (e := .bf16) 512 512 _ _ d ⟨512 + k.val, by omega⟩ k rfl).trans ((rows m c t hq).ws d _)) (fun d k => (ld_at (R := 1024) (C := 2048) (e := .bf16) 1024 512 _ _ d ⟨1024 + k.val, by omega⟩ k rfl).trans ((rows m c t hq).ws d _)) (fun d k => (ld_at (R := 1024) (C := 2048) (e := .bf16) 1536 512 _ _ d ⟨1536 + k.val, by omega⟩ k rfl).trans ((rows m c t hq).ws d _)) a d

theorem in_grid {n : ℕ} (h : n < 4) : n < cfg0.N := Nat.lt_of_lt_of_eq h N_0.symm

/-- The weights' gradient as the sum of the four blocks' parts. -/
theorem dwv_split (x : S2048x1024.Idx → EReal) (g : S2048x2048.Idx → EReal) (d : Fin 1024) (j : Fin 2048) :
    dwv x g d j = (((0 + part x g (row 0 (by decide)) d j) + part x g (row 1 (by decide)) d j) + part x g (row 2 (by decide)) d j) + part x g (row 3 (by decide)) d j := by
  unfold dwv
  rw [split4, zero_add]
  refine congrArg₂ (· + ·) (congrArg₂ (· + ·) (congrArg₂ (· + ·) ?_ rfl) rfl) rfl
  refine Finset.sum_congr rfl fun a _ => ?_
  rw [show row 0 (by decide) a = ⟨a.val, by omega⟩ from Fin.ext (by show 512 * 0 + a.val = a.val; omega)]

theorem pt_eq {n q : ℕ} (e : n = q) (h : n < 4) (h' : q < 4) : pt m c n h = pt m c q h' := by
  subst e
  rfl

theorem after0 (n : ℕ) (e : n = 0) (h : n < cfg0.N) (d : Fin 1024) (j : Fin 2048) : (outsAt0 m c n h).2.2 (ix2 d j) = 0 + pt m c 0 (by decide) d j := by
  have s := scr_A m c ⟨n, h⟩ (show n < 4 by omega) (show n % 4 = 0 by omega) (show ¬n % 4 = 3 by omega) d j
  refine s.trans ?_
  rw [pt_eq m c e _ (by decide)]
theorem after1 (n : ℕ) (e : n = 1) (h : n < cfg0.N) (d : Fin 1024) (j : Fin 2048) : (outsAt0 m c n h).2.2 (ix2 d j) = (0 + pt m c 0 (by decide) d j) + pt m c 1 (by decide) d j := by
  have s := scr_B m c ⟨n, h⟩ (show n < 4 by omega) (show ¬n % 4 = 0 by omega) (show ¬n % 4 = 3 by omega) (after0 m c (n - 1) (by omega) _) d j
  refine s.trans ?_
  rw [pt_eq m c e _ (by decide)]
theorem after2 (n : ℕ) (e : n = 2) (h : n < cfg0.N) (d : Fin 1024) (j : Fin 2048) : (outsAt0 m c n h).2.2 (ix2 d j) = ((0 + pt m c 0 (by decide) d j) + pt m c 1 (by decide) d j) + pt m c 2 (by decide) d j := by
  have s := scr_B m c ⟨n, h⟩ (show n < 4 by omega) (show ¬n % 4 = 0 by omega) (show ¬n % 4 = 3 by omega) (after1 m c (n - 1) (by omega) _) d j
  refine s.trans ?_
  rw [pt_eq m c e _ (by decide)]
theorem after3 (n : ℕ) (e : n = 3) (h : n < cfg0.N) (d : Fin 1024) (j : Fin 2048) : (outsAt0 m c n h).2.1 (ix2 d j) = (((0 + pt m c 0 (by decide) d j) + pt m c 1 (by decide) d j) + pt m c 2 (by decide) d j) + pt m c 3 (by decide) d j := by
  have s := scr_C m c ⟨n, h⟩ (show n < 4 by omega) (show ¬n % 4 = 0 by omega) (show n % 4 = 3 by omega) (after2 m c (n - 1) (by omega) _) d j
  refine s.trans ?_
  rw [pt_eq m c e _ (by decide)]

/-- The weights' gradient after the four blocks. -/
theorem scr_at (t : Fin cfg0.N) (ht : t.val = 3) (d : Fin 1024) (j : Fin 2048) : (outsAt0 m c t.val t.isLt).2.1 (ix2 d j)
    = dwv (m ((c : Thread nD τ).loc main_arg0)) (m ((c : Thread nD τ).loc main_arg3)) d j :=
  (after3 m c t.val ht t.isLt d j).trans (dwv_split _ _ d j).symm

theorem last8 : ∀ t : Fin cfg0.N, (cfg0.win 8).flush t = decide (t.val = 3) := (by decide +kernel : ∀ t : Fin grid0.N, _)
theorem disjoint8 : ∀ t t' : Fin cfg0.N, (cfg0.win 8).flush t = true → (cfg0.win 8).flush t' = true → t ≠ t' →
    Disjoint ((cfg0.win 8).blk t).view.set ((cfg0.win 8).blk t').view.set := by
  intro t t' h h' hne
  rw [last8] at h h'
  exact absurd (Fin.ext ((of_decide_eq_true h).trans (of_decide_eq_true h').symm)) hne

theorem cut8 (t : Fin cfg0.N) (X : Vec Ideal S1024x2048 .bf16) (d : Fin 1024) (j : Fin 2048) : (cfg0.win 8).cut (grid0.coords t) X (ix2 d j) = X (ix2 d j) := rfl

/-- The weights' gradient at the end. -/
theorem fin8 (d : Fin 1024) (j : Fin 2048) : (dats m 0 c).arrAt 8 cfg0.N (ix2 d j)
    = dwv (m ((c : Thread nD τ).loc main_arg0)) (m ((c : Thread nD τ).loc main_arg3)) d j := by
  obtain ⟨t, ht⟩ : ∃ t : Fin cfg0.N, t.val = 3 := ⟨⟨3, in_grid (by decide)⟩, rfl⟩
  have e := (dats m 0 c).read_blk_arrAt_eq_flushed 8 disjoint8 cfg0.N t t.isLt ((last8 t).trans (decide_eq_true ht))
  rw [flushed8] at e
  exact (read_blk8 t _ d j (ix2 d j) rfl rfl).symm.trans ((congrFun e (ix2 d j)).trans ((cut8 t _ d j).trans (scr_at m c t ht d j)))

theorem dx_at (t : Fin cfg0.N) (hq : t.val < 4) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  by_cases h0 : t.val % 4 = 0
  · exact dx_A m c t hq h0 (by omega) a d
  by_cases h1 : t.val % 4 = 3
  · exact dx_C m c t hq h0 h1 a d
  · exact dx_B m c t hq h0 h1 a d

/-- The input's gradient at the end. -/
theorem fin7 (t : Fin 2048) (d : Fin 1024) : (dats m 0 c).arrAt 7 cfg0.N (ix2 t d)
    = dxv (m ((c : Thread nD τ).loc main_arg2)) (m ((c : Thread nD τ).loc main_arg3)) (m ((c : Thread nD τ).loc main_arg1)) t d := by
  have hl : t.val / 512 < 4 := by omega
  have e := blocks7 m c ⟨t.val / 512, in_grid hl⟩ (all7 _)
  rw [flushed7] at e
  refine (read_blk7 ⟨t.val / 512, in_grid hl⟩ _ ⟨t.val % 512, by omega⟩ d (ix2 t d) (show t.val = 512 * (t.val / 512) + t.val % 512 by omega) rfl).symm.trans
    ((congrFun e (ix2 ⟨t.val % 512, by omega⟩ d : S512x1024.Idx)).trans ((dx_at m c ⟨t.val / 512, in_grid hl⟩ hl ⟨t.val % 512, by omega⟩ d).trans ?_))
  rw [show row (t.val / 512) hl ⟨t.val % 512, by omega⟩ = t from Fin.ext (by show 512 * (t.val / 512) + t.val % 512 = t.val; omega)]

end Cert.Kernel4Ideal.Hand

end
-- ==== Proof.Dx5.lean ====
module
public import Idealize.ShloMosaic.Lib.Pointwise
public import Idealize.ShloMosaic.Lib.StableHlo.ReadAt
public import Idealize.ShloMosaic.Lib.Pipeline.ValueKit.Basic
public import proofs.«01_k».proof.Proof.Cols
public import proofs.«01_k».proof.Proof.At
public import proofs.«01_k».proof.Proof.Gen.Kernel5Ideal.Value
@[expose] public section
set_option maxRecDepth 16384
noncomputable section

/-! The gradient of an input projection, its output gradient handed over in three pieces: what the launch leaves
at every index. Everything holds over the extended real numbers. -/

namespace Cert.Kernel5Ideal.Hand
open Cert.Kernel5Ideal Cert.Kernel5Ideal.Gen Cert.Kernel5Ideal.Value Idealize.ShloMosaic Idealize.ShloMosaic.TcCoe
open Columns (split4 split3 canon4 canon3 cov_at ld_at canon_mem canon_not)

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Rows 2048 512 512 512 t.val (((cfg0.win 1).blk t).view.read (Elt Ideal)) :=
  Gather.rows (ix := win0_1.index)
theorem read_blk2 : ∀ t : Fin cfg0.N, Gather.Rows 2048 512 512 512 t.val (((cfg0.win 2).blk t).view.read (Elt Ideal)) :=
  Gather.rows (ix := win0_2.index)
theorem read_blk3 : ∀ t : Fin cfg0.N, Gather.Rows 2048 1024 512 1024 t.val (((cfg0.win 3).blk t).view.read (Elt Ideal)) :=
  Gather.rows (ix := win0_3.index)
theorem read_blk4 : ∀ t : Fin cfg0.N, Gather.Rows 2048 1024 512 1024 t.val (((cfg0.win 4).blk t).view.read (Elt Ideal)) :=
  Gather.rows (ix := win0_4.index)
theorem read_blk5 : ∀ t : Fin cfg0.N, Gather.Whole 1024 2048 (((cfg0.win 5).blk t).view.read (Elt Ideal)) :=
  Gather.whole (ix := win0_5.index)
theorem read_blk6 : ∀ t : Fin cfg0.N, Gather.Rows 2048 1024 512 1024 t.val (((cfg0.win 6).blk t).view.read (Elt Ideal)) :=
  Gather.rows (ix := win0_6.index)
theorem all6 : ∀ t : Fin cfg0.N, (cfg0.win 6).flush t = true := (by decide +kernel : ∀ t : Fin grid0.N, _)
theorem read_blk7 : ∀ t : Fin cfg0.N, Gather.Whole 1024 2048 (((cfg0.win 7).blk t).view.read (Elt Ideal)) :=
  Gather.whole (ix := win0_7.index)

/-- The part of the weights' gradient a block of 512 tokens `T` adds. -/
def part (x : S2048x1024.Idx → EReal) (g : S2048x2048.Idx → EReal) (T : Fin 512 → Fin 2048) (d : Fin 1024) (j : Fin 2048) : EReal :=
  ∑ a : Fin 512, x (ix2 (T a) d) * g (ix2 (T a) j)
/-- The weights' gradient. -/
def dwv (x : S2048x1024.Idx → EReal) (g : S2048x2048.Idx → EReal) (d : Fin 1024) (j : Fin 2048) : EReal :=
  ∑ t : Fin 2048, x (ix2 t d) * g (ix2 t j)
/-- The input's gradient: the one handed on, scaled, plus the projection's. -/
def dxv (r : S2048x1024.Idx → EReal) (g : S2048x2048.Idx → EReal) (w : S1024x2048.Idx → EReal) (t : Fin 2048) (d : Fin 1024) : EReal :=
  Ideal.ofBits FTy.f32 1068827891#32 * r (ix2 t d) + ∑ j : Fin 2048, g (ix2 t j) * w (ix2 d j)

section Block
variable (x0 : Vec Ideal S512x1024 .f32) (p0 : Vec Ideal S512x512 .bf16) (p1 : Vec Ideal S512x512 .bf16) (p2 : Vec Ideal S512x1024 .bf16) (xx : Vec Ideal S512x1024 .bf16) (ww : Vec Ideal S1024x2048 .bf16)
/-- What a block's rows hold, as rows of whole arrays. -/
structure Rows (T : Fin 512 → Fin 2048) (r x : S2048x1024.Idx → EReal) (g : S2048x2048.Idx → EReal) (w : S1024x2048.Idx → EReal) : Prop where
  dr : ∀ (a : Fin 512) (d : Fin 1024), x0 (ix2 a d) = r (ix2 (T a) d)
  c0 : ∀ (a : Fin 512) (k : Fin 512), p0 (ix2 a k) = g (ix2 (T a) ⟨k.val, by omega⟩)
  c1 : ∀ (a : Fin 512) (k : Fin 512), p1 (ix2 a k) = g (ix2 (T a) ⟨512 + k.val, by omega⟩)
  c2 : ∀ (a : Fin 512) (k : Fin 1024), p2 (ix2 a k) = g (ix2 (T a) ⟨1024 + k.val, by omega⟩)
  xs : ∀ (a : Fin 512) (d : Fin 1024), xx (ix2 a d) = x (ix2 (T a) d)
  ws : ∀ (d : Fin 1024) (j : Fin 2048), ww (ix2 d j) = w (ix2 d j)

variable {x0 p0 p1 p2 xx ww} {T : Fin 512 → Fin 2048} {r x : S2048x1024.Idx → EReal} {g : S2048x2048.Idx → EReal} {w : S1024x2048.Idx → EReal}
theorem acc0 (R : Rows x0 p0 p1 p2 xx ww T r x g w) {old : Vec Ideal S1024x512 .f32} (d : Fin 1024) (k : Fin 512) {v : EReal} (h : old (ix2 d k) = v) :
    k0_pay9 (F := Ideal) xx p0 old (ix2 d k) = v + part x g T d ⟨k.val, by omega⟩ := by
  pointwise [k0_pay9, k0_pay7, k0_pay8]
  simp only [h, R.xs, R.c0]
  rfl
theorem acc1 (R : Rows x0 p0 p1 p2 xx ww T r x g w) {old : Vec Ideal S1024x512 .f32} (d : Fin 1024) (k : Fin 512) {v : EReal} (h : old (ix2 d k) = v) :
    k0_pay1 (F := Ideal) (k0_pay12 (F := Ideal) xx p1 old) (ix2 d k) = v + part x g T d ⟨512 + k.val, by omega⟩ := by
  pointwise [k0_pay1, k0_pay12, k0_pay7, k0_pay10]
  simp only [h, R.xs, R.c1]
  rfl
theorem acc2 (R : Rows x0 p0 p1 p2 xx ww T r x g w) {old : Vec Ideal S1024x1024 .f32} (d : Fin 1024) (k : Fin 1024) {v : EReal} (h : old (ix2 d k) = v) :
    k0_pay4 (F := Ideal) (k0_pay7 (F := Ideal) xx) p2 old (ix2 d k) = v + part x g T d ⟨1024 + k.val, by omega⟩ := by
  pointwise [k0_pay4, k0_pay7, k0_pay2]
  simp only [h, R.xs, R.c2]
  rfl
theorem dx_of (R : Rows x0 p0 p1 p2 xx ww T r x g w) {w0 : Vec Ideal S1024x512 .bf16} (h0 : ∀ (d : Fin 1024) (k : Fin 512), w0 (ix2 d k) = w (ix2 d ⟨k.val, by omega⟩)) {w1 : Vec Ideal S1024x512 .bf16} (h1 : ∀ (d : Fin 1024) (k : Fin 512), w1 (ix2 d k) = w (ix2 d ⟨512 + k.val, by omega⟩)) {w2 : Vec Ideal S1024x1024 .bf16} (h2 : ∀ (d : Fin 1024) (k : Fin 1024), w2 (ix2 d k) = w (ix2 d ⟨1024 + k.val, by omega⟩)) (a : Fin 512) (d : Fin 1024) :
    k0_pay3 (F := Ideal) (k0_pay11 (F := Ideal) x0 p0 w0 p1 w1) p2 w2 (ix2 a d) = dxv r g w (T a) d := by
  pointwise [k0_pay3, k0_pay11, k0_pay8, k0_pay10, k0_pay2]
  simp only [R.dr, R.c0, h0, R.c1, h1, R.c2, h2]
  unfold dxv
  rw [split3]
  simp only [add_assoc]
theorem zero_at (d : Fin 1024) (j : Fin 2048) : k0_pay6 (F := Ideal) (ix2 d j) = 0 := by
  pointwise [k0_pay6]
theorem cast_at (v : Vec Ideal S1024x2048 .f32) (d : Fin 1024) (j : Fin 2048) : k0_pay5 (F := Ideal) v (ix2 d j) = v (ix2 d j) := by
  pointwise [k0_pay5]
end Block

variable (m : (ℓ : Loc nD τ sig) → Buf (Elt Ideal) ℓ) (c : Dev nD)
theorem V_p0 (t : Fin 2048) (k : Fin 512) : V m c main_v1 (ix2 t k) = m ((c : Thread nD τ).loc main_arg3) (ix2 t ⟨k.val, by omega⟩) := by
  show StableHlo.after hostOps0 (fun b => m (c, b)) (Proc.devRef .tc main_v1) (ix2 t k) = _
  after_reads_at
theorem V_p1 (t : Fin 2048) (k : Fin 512) : V m c main_v3 (ix2 t k) = m ((c : Thread nD τ).loc main_arg3) (ix2 t ⟨512 + k.val, by omega⟩) := by
  show StableHlo.after hostOps0 (fun b => m (c, b)) (Proc.devRef .tc main_v3) (ix2 t k) = _
  after_reads_at
theorem V_p2 (t : Fin 2048) (k : Fin 1024) : V m c main_v5 (ix2 t k) = m ((c : Thread nD τ).loc main_arg3) (ix2 t ⟨1024 + k.val, by omega⟩) := by
  show StableHlo.after hostOps0 (fun b => m (c, b)) (Proc.devRef .tc main_v5) (ix2 t k) = _
  after_reads_at
theorem V_x (a : Fin 2048) (b : Fin 1024) : V m c main_v7 (ix2 a b) = m ((c : Thread nD τ).loc main_arg0) (ix2 a b) := by
  show StableHlo.after hostOps0 (fun b => m (c, b)) (Proc.devRef .tc main_v7) (ix2 a b) = _
  after_reads_at
theorem V_w (a : Fin 1024) (b : Fin 2048) : V m c main_v6 (ix2 a b) = m ((c : Thread nD τ).loc main_arg1) (ix2 a b) := by
  show StableHlo.after hostOps0 (fun b => m (c, b)) (Proc.devRef .tc main_v6) (ix2 a b) = _
  after_reads_at

/-- The token of row `a` of block `q`. -/
def row (q : ℕ) (h : q < 4) (a : Fin 512) : Fin 2048 := ⟨512 * q + a.val, by omega⟩
/-- The part of the weights' gradient block `q` adds. -/
def pt (q : ℕ) (h : q < 4) : Fin 1024 → Fin 2048 → EReal :=
  part (m ((c : Thread nD τ).loc main_arg0)) (m ((c : Thread nD τ).loc main_arg3)) (row q h)

theorem rows (q : Fin cfg0.N) (h : q.val < 4) : Rows (iblk m c 0 q) (iblk m c 1 q) (iblk m c 2 q) (iblk m c 3 q) (iblk m c 4 q) (iblk m c 5 q) (row q.val h)
    (m ((c : Thread nD τ).loc main_arg2)) (m ((c : Thread nD τ).loc main_arg0)) (m ((c : Thread nD τ).loc main_arg3)) (m ((c : Thread nD τ).loc main_arg1)) where
  dr a d := (read_blk0 q _ a d (ix2 (row q.val h a) d) rfl rfl).trans (congrFun (V_main_arg2 m c) (ix2 (row q.val h a) d))
  c0 a k := (read_blk1 q _ a k (ix2 (row q.val h a) k) rfl rfl).trans (V_p0 m c (row q.val h a) k)
  c1 a k := (read_blk2 q _ a k (ix2 (row q.val h a) k) rfl rfl).trans (V_p1 m c (row q.val h a) k)
  c2 a k := (read_blk3 q _ a k (ix2 (row q.val h a) k) rfl rfl).trans (V_p2 m c (row q.val h a) k)
  xs a d := (read_blk4 q _ a d (ix2 (row q.val h a) d) rfl rfl).trans (V_x m c (row q.val h a) d)
  ws d j := (read_blk5 q _ d j (ix2 d j) rfl rfl).trans (V_w m c d j)

set_option maxHeartbeats 1000000 in
/-- What the accumulator holds after the first block. -/
theorem scr_A (t : Fin cfg0.N) (hq : t.val < 4) (h0 : t.val % 4 = 0) (h1 : ¬t.val % 4 = 3) (d : Fin 1024) (j : Fin 2048) :
    (outsAt0 m c t.val t.isLt).2.2 (ix2 d j) = 0 + pt m c t.val hq d j := by
  rw [outsAt0_A m c t h0 h1]
  frame_out
  refine canon3 (R := 1024) (e := .f32) (G := fun d j => 0 + pt m c t.val hq d j) _ _ _ _ _ _ _ ?_ ?_ ?_ d j
  · exact fun d k => acc0 (rows m c t hq) d k ((cov_at (R := 1024) (C := 2048) (e := .f32) _ 0 512 _ _ d ⟨k.val, by omega⟩ k (Nat.zero_add _).symm).trans ((canon_mem (R := 1024) (C := 2048) (e := .f32) _ 0 2048 _ _ d _ ⟨k.val, by omega⟩ (Nat.zero_add _).symm).trans (zero_at d _)))
  · exact fun d k => acc1 (rows m c t hq) d k ((cov_at (R := 1024) (C := 2048) (e := .f32) _ 512 512 _ _ d ⟨512 + k.val, by omega⟩ k rfl).trans ((canon_not (R := 1024) (C := 2048) (e := .f32) _ 0 512 _ _ d _ (Or.inr (by show 512 ≤ 512 + k.val; omega))).trans ((canon_mem (R := 1024) (C := 2048) (e := .f32) _ 0 2048 _ _ d _ ⟨512 + k.val, by omega⟩ (Nat.zero_add _).symm).trans (zero_at d _))))
  · exact fun d k => acc2 (rows m c t hq) d k ((cov_at (R := 1024) (C := 2048) (e := .f32) _ 1024 1024 _ _ d ⟨1024 + k.val, by omega⟩ k rfl).trans ((canon_not (R := 1024) (C := 2048) (e := .f32) _ 512 512 _ _ d _ (Or.inr (by show 1024 ≤ 1024 + k.val; omega))).trans ((canon_not (R := 1024) (C := 2048) (e := .f32) _ 0 512 _ _ d _ (Or.inr (by show 512 ≤ 1024 + k.val; omega))).trans ((canon_mem (R := 1024) (C := 2048) (e := .f32) _ 0 2048 _ _ d _ ⟨1024 + k.val, by omega⟩ (Nat.zero_add _).symm).trans (zero_at d _)))))
set_option maxHeartbeats 1000000 in
/-- The input's gradient a block writes. -/
theorem dx_A (t : Fin cfg0.N) (hq : t.val < 4) (h0 : t.val % 4 = 0) (h1 : ¬t.val % 4 = 3) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  rw [outsAt0_A m c t h0 h1]
  frame_out
  exact dx_of (rows m c t hq) (fun d k => (ld_at (R := 1024) (C := 2048) (e := .bf16) 0 512 _ _ d ⟨k.val, by omega⟩ k (Nat.zero_add _).symm).trans ((rows m c t hq).ws d _)) (fun d k => (ld_at (R := 1024) (C := 2048) (e := .bf16) 512 512 _ _ d ⟨512 + k.val, by omega⟩ k rfl).trans ((rows m c t hq).ws d _)) (fun d k => (ld_at (R := 1024) (C := 2048) (e := .bf16) 1024 1024 _ _ d ⟨1024 + k.val, by omega⟩ k rfl).trans ((rows m c t hq).ws d _)) a d

set_option maxHeartbeats 1000000 in
/-- What the accumulator holds after a later block, `G` before it. -/
theorem scr_B (t : Fin cfg0.N) (hq : t.val < 4) (h0 : ¬t.val % 4 = 0) (h1 : ¬t.val % 4 = 3) {G : Fin 1024 → Fin 2048 → EReal}
    (h : ∀ (d : Fin 1024) (j : Fin 2048), (outsAt0 m c (t.val - 1) (Nat.lt_of_le_of_lt (Nat.sub_le _ _) t.isLt)).2.2 (ix2 d j) = G d j) (d : Fin 1024) (j : Fin 2048) :
    (outsAt0 m c t.val t.isLt).2.2 (ix2 d j) = G d j + pt m c t.val hq d j := by
  rw [outsAt0_B m c t h0 h1]
  frame_out
  refine canon3 (R := 1024) (e := .f32) (G := fun d j => G d j + pt m c t.val hq d j) _ _ _ _ _ _ _ ?_ ?_ ?_ d j
  · exact fun d k => acc0 (rows m c t hq) d k ((ld_at (R := 1024) (C := 2048) (e := .f32) 0 512 _ _ d ⟨k.val, by omega⟩ k (Nat.zero_add _).symm).trans ((congrFun (Memref.IsWhole.read_unread _ _) _).trans (h d _)))
  · exact fun d k => acc1 (rows m c t hq) d k ((ld_at (R := 1024) (C := 2048) (e := .f32) 512 512 _ _ d ⟨512 + k.val, by omega⟩ k rfl).trans ((congrFun (Memref.IsWhole.read_unread _ _) _).trans (h d _)))
  · exact fun d k => acc2 (rows m c t hq) d k ((ld_at (R := 1024) (C := 2048) (e := .f32) 1024 1024 _ _ d ⟨1024 + k.val, by omega⟩ k rfl).trans ((congrFun (Memref.IsWhole.read_unread _ _) _).trans (h d _)))
set_option maxHeartbeats 1000000 in
/-- The input's gradient a block writes. -/
theorem dx_B (t : Fin cfg0.N) (hq : t.val < 4) (h0 : ¬t.val % 4 = 0) (h1 : ¬t.val % 4 = 3) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  rw [outsAt0_B m c t h0 h1]
  frame_out
  exact dx_of (rows m c t hq) (fun d k => (ld_at (R := 1024) (C := 2048) (e := .bf16) 0 512 _ _ d ⟨k.val, by omega⟩ k (Nat.zero_add _).symm).trans ((rows m c t hq).ws d _)) (fun d k => (ld_at (R := 1024) (C := 2048) (e := .bf16) 512 512 _ _ d ⟨512 + k.val, by omega⟩ k rfl).trans ((rows m c t hq).ws d _)) (fun d k => (ld_at (R := 1024) (C := 2048) (e := .bf16) 1024 1024 _ _ d ⟨1024 + k.val, by omega⟩ k rfl).trans ((rows m c t hq).ws d _)) a d

set_option maxHeartbeats 1000000 in
/-- What the accumulator holds after a later block, `G` before it. -/
theorem scr_C (t : Fin cfg0.N) (hq : t.val < 4) (h0 : ¬t.val % 4 = 0) (h1 : t.val % 4 = 3) {G : Fin 1024 → Fin 2048 → EReal}
    (h : ∀ (d : Fin 1024) (j : Fin 2048), (outsAt0 m c (t.val - 1) (Nat.lt_of_le_of_lt (Nat.sub_le _ _) t.isLt)).2.2 (ix2 d j) = G d j) (d : Fin 1024) (j : Fin 2048) :
    (outsAt0 m c t.val t.isLt).2.1 (ix2 d j) = G d j + pt m c t.val hq d j := by
  rw [outsAt0_C m c t h0 h1]
  frame_out
  refine (cast_at _ d j).trans ((cov_at (R := 1024) (C := 2048) (e := .f32) _ 0 2048 _ _ d j j (Nat.zero_add _).symm).trans ?_)
  refine canon3 (R := 1024) (e := .f32) (G := fun d j => G d j + pt m c t.val hq d j) _ _ _ _ _ _ _ ?_ ?_ ?_ d j
  · exact fun d k => acc0 (rows m c t hq) d k ((ld_at (R := 1024) (C := 2048) (e := .f32) 0 512 _ _ d ⟨k.val, by omega⟩ k (Nat.zero_add _).symm).trans ((congrFun (Memref.IsWhole.read_unread _ _) _).trans (h d _)))
  · exact fun d k => acc1 (rows m c t hq) d k ((ld_at (R := 1024) (C := 2048) (e := .f32) 512 512 _ _ d ⟨512 + k.val, by omega⟩ k rfl).trans ((congrFun (Memref.IsWhole.read_unread _ _) _).trans (h d _)))
  · exact fun d k => acc2 (rows m c t hq) d k ((ld_at (R := 1024) (C := 2048) (e := .f32) 1024 1024 _ _ d ⟨1024 + k.val, by omega⟩ k rfl).trans ((congrFun (Memref.IsWhole.read_unread _ _) _).trans (h d _)))
set_option maxHeartbeats 1000000 in
/-- The input's gradient a block writes. -/
theorem dx_C (t : Fin cfg0.N) (hq : t.val < 4) (h0 : ¬t.val % 4 = 0) (h1 : t.val % 4 = 3) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  rw [outsAt0_C m c t h0 h1]
  frame_out
  exact dx_of (rows m c t hq) (fun d k => (ld_at (R := 1024) (C := 2048) (e := .bf16) 0 512 _ _ d ⟨k.val, by omega⟩ k (Nat.zero_add _).symm).trans ((rows m c t hq).ws d _)) (fun d k => (ld_at (R := 1024) (C := 2048) (e := .bf16) 512 512 _ _ d ⟨512 + k.val, by omega⟩ k rfl).trans ((rows m c t hq).ws d _)) (fun d k => (ld_at (R := 1024) (C := 2048) (e := .bf16) 1024 1024 _ _ d ⟨1024 + k.val, by omega⟩ k rfl).trans ((rows m c t hq).ws d _)) a d

theorem in_grid {n : ℕ} (h : n < 4) : n < cfg0.N := Nat.lt_of_lt_of_eq h N_0.symm

/-- The weights' gradient as the sum of the four blocks' parts. -/
theorem dwv_split (x : S2048x1024.Idx → EReal) (g : S2048x2048.Idx → EReal) (d : Fin 1024) (j : Fin 2048) :
    dwv x g d j = (((0 + part x g (row 0 (by decide)) d j) + part x g (row 1 (by decide)) d j) + part x g (row 2 (by decide)) d j) + part x g (row 3 (by decide)) d j := by
  unfold dwv
  rw [split4, zero_add]
  refine congrArg₂ (· + ·) (congrArg₂ (· + ·) (congrArg₂ (· + ·) ?_ rfl) rfl) rfl
  refine Finset.sum_congr rfl fun a _ => ?_
  rw [show row 0 (by decide) a = ⟨a.val, by omega⟩ from Fin.ext (by show 512 * 0 + a.val = a.val; omega)]

theorem pt_eq {n q : ℕ} (e : n = q) (h : n < 4) (h' : q < 4) : pt m c n h = pt m c q h' := by
  subst e
  rfl

theorem after0 (n : ℕ) (e : n = 0) (h : n < cfg0.N) (d : Fin 1024) (j : Fin 2048) : (outsAt0 m c n h).2.2 (ix2 d j) = 0 + pt m c 0 (by decide) d j := by
  have s := scr_A m c ⟨n, h⟩ (show n < 4 by omega) (show n % 4 = 0 by omega) (show ¬n % 4 = 3 by omega) d j
  refine s.trans ?_
  rw [pt_eq m c e _ (by decide)]
theorem after1 (n : ℕ) (e : n = 1) (h : n < cfg0.N) (d : Fin 1024) (j : Fin 2048) : (outsAt0 m c n h).2.2 (ix2 d j) = (0 + pt m c 0 (by decide) d j) + pt m c 1 (by decide) d j := by
  have s := scr_B m c ⟨n, h⟩ (show n < 4 by omega) (show ¬n % 4 = 0 by omega) (show ¬n % 4 = 3 by omega) (after0 m c (n - 1) (by omega) _) d j
  refine s.trans ?_
  rw [pt_eq m c e _ (by decide)]
theorem after2 (n : ℕ) (e : n = 2) (h : n < cfg0.N) (d : Fin 1024) (j : Fin 2048) : (outsAt0 m c n h).2.2 (ix2 d j) = ((0 + pt m c 0 (by decide) d j) + pt m c 1 (by decide) d j) + pt m c 2 (by decide) d j := by
  have s := scr_B m c ⟨n, h⟩ (show n < 4 by omega) (show ¬n % 4 = 0 by omega) (show ¬n % 4 = 3 by omega) (after1 m c (n - 1) (by omega) _) d j
  refine s.trans ?_
  rw [pt_eq m c e _ (by decide)]
theorem after3 (n : ℕ) (e : n = 3) (h : n < cfg0.N) (d : Fin 1024) (j : Fin 2048) : (outsAt0 m c n h).2.1 (ix2 d j) = (((0 + pt m c 0 (by decide) d j) + pt m c 1 (by decide) d j) + pt m c 2 (by decide) d j) + pt m c 3 (by decide) d j := by
  have s := scr_C m c ⟨n, h⟩ (show n < 4 by omega) (show ¬n % 4 = 0 by omega) (show n % 4 = 3 by omega) (after2 m c (n - 1) (by omega) _) d j
  refine s.trans ?_
  rw [pt_eq m c e _ (by decide)]

/-- The weights' gradient after the four blocks. -/
theorem scr_at (t : Fin cfg0.N) (ht : t.val = 3) (d : Fin 1024) (j : Fin 2048) : (outsAt0 m c t.val t.isLt).2.1 (ix2 d j)
    = dwv (m ((c : Thread nD τ).loc main_arg0)) (m ((c : Thread nD τ).loc main_arg3)) d j :=
  (after3 m c t.val ht t.isLt d j).trans (dwv_split _ _ d j).symm

theorem last7 : ∀ t : Fin cfg0.N, (cfg0.win 7).flush t = decide (t.val = 3) := (by decide +kernel : ∀ t : Fin grid0.N, _)
theorem disjoint7 : ∀ t t' : Fin cfg0.N, (cfg0.win 7).flush t = true → (cfg0.win 7).flush t' = true → t ≠ t' →
    Disjoint ((cfg0.win 7).blk t).view.set ((cfg0.win 7).blk t').view.set := by
  intro t t' h h' hne
  rw [last7] at h h'
  exact absurd (Fin.ext ((of_decide_eq_true h).trans (of_decide_eq_true h').symm)) hne

theorem cut7 (t : Fin cfg0.N) (X : Vec Ideal S1024x2048 .bf16) (d : Fin 1024) (j : Fin 2048) : (cfg0.win 7).cut (grid0.coords t) X (ix2 d j) = X (ix2 d j) := rfl

/-- The weights' gradient at the end. -/
theorem fin7 (d : Fin 1024) (j : Fin 2048) : (dats m 0 c).arrAt 7 cfg0.N (ix2 d j)
    = dwv (m ((c : Thread nD τ).loc main_arg0)) (m ((c : Thread nD τ).loc main_arg3)) d j := by
  obtain ⟨t, ht⟩ : ∃ t : Fin cfg0.N, t.val = 3 := ⟨⟨3, in_grid (by decide)⟩, rfl⟩
  have e := (dats m 0 c).read_blk_arrAt_eq_flushed 7 disjoint7 cfg0.N t t.isLt ((last7 t).trans (decide_eq_true ht))
  rw [flushed7] at e
  exact (read_blk7 t _ d j (ix2 d j) rfl rfl).symm.trans ((congrFun e (ix2 d j)).trans ((cut7 t _ d j).trans (scr_at m c t ht d j)))

theorem dx_at (t : Fin cfg0.N) (hq : t.val < 4) (a : Fin 512) (d : Fin 1024) : (outsAt0 m c t.val t.isLt).1 (ix2 a d)
    = dxv (m ((c : Thread nD τ).loc main_arg2)) (m ((c : Thread nD τ).loc main_arg3)) (m ((c : Thread nD τ).loc main_arg1)) (row t.val hq a) d := by
  by_cases h0 : t.val % 4 = 0
  · exact dx_A m c t hq h0 (by omega) a d
  by_cases h1 : t.val % 4 = 3
  · exact dx_C m c t hq h0 h1 a d
  · exact dx_B m c t hq h0 h1 a d

/-- The input's gradient at the end. -/
theorem fin6 (t : Fin 2048) (d : Fin 1024) : (dats m 0 c).arrAt 6 cfg0.N (ix2 t d)
    = dxv (m ((c : Thread nD τ).loc main_arg2)) (m ((c : Thread nD τ).loc main_arg3)) (m ((c : Thread nD τ).loc main_arg1)) t d := by
  have hl : t.val / 512 < 4 := by omega
  have e := blocks6 m c ⟨t.val / 512, in_grid hl⟩ (all6 _)
  rw [flushed6] at e
  refine (read_blk6 ⟨t.val / 512, in_grid hl⟩ _ ⟨t.val % 512, by omega⟩ d (ix2 t d) (show t.val = 512 * (t.val / 512) + t.val % 512 by omega) rfl).symm.trans
    ((congrFun e (ix2 ⟨t.val % 512, by omega⟩ d : S512x1024.Idx)).trans ((dx_at m c ⟨t.val / 512, in_grid hl⟩ hl ⟨t.val % 512, by omega⟩ d).trans ?_))
  rw [show row (t.val / 512) hl ⟨t.val % 512, by omega⟩ = t from Fin.ext (by show 512 * (t.val / 512) + t.val % 512 = t.val; omega)]

end Cert.Kernel5Ideal.Hand

end
-- ==== Proof.DxRef.lean ====
module
public import Idealize.ShloMosaic.Lib.Pointwise
public import proofs.«01_k».proof.Proof.Dx4
public import proofs.«01_k».proof.Proof.Dx5
public import proofs.«01_k».proof.Proof.Gen.Reference4Ideal.Run
@[expose] public section
set_option maxRecDepth 16384
noncomputable section

/-! The reference gradient of an input projection at every index. -/

namespace Cert.Reference4Ideal.Hand
open Cert.Reference4Ideal Cert.Reference4Ideal.Gen Idealize.ShloMosaic Idealize.ShloMosaic.TcCoe
open Cert.Kernel4Ideal.Hand (dxv dwv)

variable (x r : FVec Ideal S2048x1024 .f32) (w : FVec Ideal S1024x2048 .f32) (g : FVec Ideal S2048x2048 .f32)

/-- The gradient of the input. -/
theorem dx_at (t : Fin 2048) (d : Fin 1024) :
    addf (F := Ideal) (Host.dotGeneral dot_S2048x2048_S1024x2048_S2048x1024_1_1_0_0_n_n none g w)
      (mulf (broadcastInDim S2048x1024 ![] bcast_S_S2048x1024 (constant S_ .f32 0x3FB504F3#32)) r) (ix2 t d) = dxv r g w t d := by
  pointwise
  exact add_comm _ _

/-- The gradient of the weights. -/
theorem dw_at (d : Fin 1024) (j : Fin 2048) :
    truncf (F := Ideal) .bf16 (transpose S1024x2048 [1, 0] (Host.dotGeneral dot_S2048x2048_S2048x1024_S2048x1024_0_0_1_1_n_n none g x) transposes_S2048x1024_S1024x2048_1_0) bitsLt_bf16_f32 (ix2 d j)
      = dwv x g d j := by
  pointwise
  exact Finset.sum_congr rfl fun t _ => mul_comm _ _

end Cert.Reference4Ideal.Hand

end
-- ==== Proof.Calls.lean ====
module
public import proofs.«01_k».proof.Defs
public import proofs.«01_k».proof.Proof.Gen.Kernel3Ideal
public import proofs.«01_k».proof.Proof.Gen.Kernel3Ideal.Value
public import proofs.«01_k».proof.Proof.Gen.Kernel4Ideal
public import proofs.«01_k».proof.Proof.Gen.Kernel4Ideal.Value
public import proofs.«01_k».proof.Proof.Gen.Kernel5Ideal
public import proofs.«01_k».proof.Proof.Gen.Kernel5Ideal.Value
public import proofs.«01_k».proof.Proof.Gen.Kernel6Ideal
public import proofs.«01_k».proof.Proof.Gen.Kernel6Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference6Ideal
public import proofs.«01_k».proof.Proof.Gen.Reference6Ideal.Run
public import proofs.«01_k».proof.Proof.Up
public import proofs.«01_k».proof.Proof.Down
public import proofs.«01_k».proof.Proof.DxRef
public import Idealize.ShloMosaic.Adequacy
public import Idealize.ShloMosaic.Init
@[expose] public section
noncomputable section

/-! The calls of the feed-forward layer's forward pass and of the input projections' gradients: each ends with
its reference's values. -/

namespace Cert.Calls

open Idealize.ShloMosaic Idealize.SL.Sem

theorem ext_rows {n k : ℕ} {α : Type} (f g : (⟨2, ![n, k]⟩ : Shape).Idx → α) (h : ∀ a b, f (ix2 a b) = g (ix2 a b)) : f = g :=
  funext fun i => by rw [ValueIdx.eq_ix2 i]; exact h _ _

/-- The reference runs and leaves its arguments as they were. -/
theorem frame3 : Cert.quiescent_Reference3Ideal (hReference3Ideal := Cert.Reference3Ideal.Gen.facts) :=
  fun m g _ => (θ_run _ _ _).mono
    (fun r h => ⟨fun c => (h c).2.2.2.2, Idealize.ShloMosaic.sem_eq_zero_of_no_sems (by decide) r.2⟩)
    (Cert.Reference3Ideal.Value.run (F := Ideal) m g)

/-- The reference runs and leaves its arguments as they were. -/
theorem frame4 : Cert.quiescent_Reference4Ideal (hReference4Ideal := Cert.Reference4Ideal.Gen.facts) :=
  fun m g _ => (θ_run _ _ _).mono
    (fun r h => ⟨fun c => (h c).2.2, Idealize.ShloMosaic.sem_eq_zero_of_no_sems (by decide) r.2⟩)
    (Cert.Reference4Ideal.Value.run (F := Ideal) m g)

/-- The reference runs and leaves its arguments as they were. -/
theorem frame6 : Cert.quiescent_Reference6Ideal (hReference6Ideal := Cert.Reference6Ideal.Gen.facts) :=
  fun m g _ => (θ_run _ _ _).mono
    (fun r h => ⟨fun c => (h c).2.2.2, Idealize.ShloMosaic.sem_eq_zero_of_no_sems (by decide) r.2⟩)
    (Cert.Reference6Ideal.Value.run (F := Ideal) m g)

/-- The gated projections, their activation and the rounded copy of the input. -/
theorem up_equal : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N, fun c => (Cert.Kernel3Ideal.Gen.dats m 0 c).arrAt 5 Cert.Kernel3Ideal.cfg0.N, fun c => (Cert.Kernel3Ideal.Gen.dats m 0 c).arrAt 6 Cert.Kernel3Ideal.cfg0.N,
    Cert.Kernel3Ideal.Value.run_blocks (F := Ideal) m g, (θ_run _ _ _).mono (fun r h c =>
      ⟨(h c).1.trans ?_, (h c).2.1.trans ?_, (h c).2.2.1.trans ?_, (h c).2.2.2.1.trans ?_, (h c).2.2.2.2⟩)
      (Cert.Reference3Ideal.Value.run (F := Ideal) m' g')⟩
  · refine ext_rows _ _ fun i j => ?_
    refine (Cert.Reference3Ideal.Hand.proj_at _ _ i j).trans (Eq.trans ?_ (Cert.Kernel3Ideal.Hand.fin3 m c i j).symm)
    rw [(ha c).1, (ha c).2.1]
  · refine ext_rows _ _ fun i j => ?_
    refine (Cert.Reference3Ideal.Hand.proj_at _ _ i j).trans (Eq.trans ?_ (Cert.Kernel3Ideal.Hand.fin4 m c i j).symm)
    rw [(ha c).1, (ha c).2.2]
  · refine ext_rows _ _ fun i j => ?_
    refine (Cert.Reference3Ideal.Hand.act_at _ _ _ i j).trans (Eq.trans ?_ (Cert.Kernel3Ideal.Hand.fin5 m c i j).symm)
    rw [(ha c).1, (ha c).2.1, (ha c).2.2]
  · refine ext_rows _ _ fun i j => ?_
    refine (Cert.Reference3Ideal.Hand.copy_at _ i j).trans (Eq.trans ?_ (Cert.Kernel3Ideal.Hand.fin6 m c i j).symm)
    rw [(ha c).1]

/-- The gradients of an input projection, handed over in four pieces. -/
theorem dx_even_equal : Cert.algebraic_Kernel4Ideal_Reference4Ideal (hKernel4Ideal := Cert.Kernel4Ideal.Gen.facts)
    (hReference4Ideal := Cert.Reference4Ideal.Gen.facts) := by
  intro m g m' g' _ ha
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    Cert.Kernel4Ideal.Value.run_blocks (F := Ideal) m g, (θ_run _ _ _).mono (fun r h c =>
      ⟨(h c).1.trans ?_, (h c).2.1.trans ?_, (h c).2.2⟩)
      (Cert.Reference4Ideal.Value.run (F := Ideal) m' g')⟩
  · refine ext_rows _ _ fun i j => ?_
    refine (Cert.Reference4Ideal.Hand.dx_at _ _ _ i j).trans (Eq.trans ?_ (Cert.Kernel4Ideal.Hand.fin7 m c i j).symm)
    rw [(ha c).2.1, (ha c).2.2.1, (ha c).2.2.2]
  · refine ext_rows _ _ fun i j => ?_
    refine (Cert.Reference4Ideal.Hand.dw_at _ _ i j).trans (Eq.trans ?_ (Cert.Kernel4Ideal.Hand.fin8 m c i j).symm)
    rw [(ha c).1, (ha c).2.2.2]

/-- The gradients of an input projection, handed over in three pieces. -/
theorem dx_odd_equal : Cert.algebraic_Kernel5Ideal_Reference4Ideal (hKernel5Ideal := Cert.Kernel5Ideal.Gen.facts)
    (hReference4Ideal := Cert.Reference4Ideal.Gen.facts) := by
  intro m g m' g' _ ha
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N,
    Cert.Kernel5Ideal.Value.run_blocks (F := Ideal) m g, (θ_run _ _ _).mono (fun r h c =>
      ⟨(h c).1.trans ?_, (h c).2.1.trans ?_, (h c).2.2⟩)
      (Cert.Reference4Ideal.Value.run (F := Ideal) m' g')⟩
  · refine ext_rows _ _ fun i j => ?_
    refine (Cert.Reference4Ideal.Hand.dx_at _ _ _ i j).trans (Eq.trans ?_ (Cert.Kernel5Ideal.Hand.fin6 m c i j).symm)
    rw [(ha c).2.1, (ha c).2.2.1, (ha c).2.2.2]
    rfl
  · refine ext_rows _ _ fun i j => ?_
    refine (Cert.Reference4Ideal.Hand.dw_at _ _ i j).trans (Eq.trans ?_ (Cert.Kernel5Ideal.Hand.fin7 m c i j).symm)
    rw [(ha c).1, (ha c).2.2.2]
    rfl

/-- The feed-forward layer's output, its normalised rows and their inverse deviations. -/
theorem down_equal : Cert.algebraic_Kernel6Ideal_Reference6Ideal (hKernel6Ideal := Cert.Kernel6Ideal.Gen.facts)
    (hReference6Ideal := Cert.Reference6Ideal.Gen.facts) := by
  intro m g m' g' _ ha
  refine ⟨fun c => (Cert.Kernel6Ideal.Gen.dats m 0 c).arrAt 5 Cert.Kernel6Ideal.cfg0.N, fun c => (Cert.Kernel6Ideal.Gen.dats m 0 c).arrAt 6 Cert.Kernel6Ideal.cfg0.N,
    fun c => (Cert.Kernel6Ideal.Gen.dats m 0 c).arrAt 7 Cert.Kernel6Ideal.cfg0.N,
    Cert.Kernel6Ideal.Value.run_blocks (F := Ideal) m g, (θ_run _ _ _).mono (fun r h c =>
      ⟨(h c).1.trans ((Cert.Reference6Ideal.Hand.res0 m' c).trans ?_), (h c).2.1.trans ((Cert.Reference6Ideal.Hand.res1 m' c).trans ?_),
        (h c).2.2.1.trans ((Cert.Reference6Ideal.Hand.res2 m' c).trans ?_), (h c).2.2.2⟩)
      (Cert.Reference6Ideal.Value.run (F := Ideal) m' g')⟩
  · refine ext_rows _ _ fun i j => ?_
    refine (Cert.Reference6Ideal.Hand.y_at (fun d => Cert.Reference6Ideal.Hand.preM_at m' c i d) _ _ j).trans (Eq.trans ?_ (Cert.Kernel6Ideal.Hand.fin5 m c i j).symm)
    rw [(ha c).1, (ha c).2.1, (ha c).2.2.1, (ha c).2.2.2.1, (ha c).2.2.2.2.1, (ha c).2.2.2.2.2]
    rfl
  · refine ext_rows _ _ fun i j => ?_
    refine (Cert.Reference6Ideal.Hand.xh_at (fun d => Cert.Reference6Ideal.Hand.preM_at m' c i d) j).trans (Eq.trans ?_ (Cert.Kernel6Ideal.Hand.fin6 m c i j).symm)
    rw [(ha c).1, (ha c).2.1, (ha c).2.2.1, (ha c).2.2.2.1]
    rfl
  · refine ext_rows _ _ fun i j => ?_
    refine (Cert.Reference6Ideal.Hand.rs_at (fun d => Cert.Reference6Ideal.Hand.preM_at m' c i d) j).trans (Eq.trans ?_ (Cert.Kernel6Ideal.Hand.fin7 m c i j).symm)
    rw [(ha c).1, (ha c).2.1, (ha c).2.2.1, (ha c).2.2.2.1]
    rfl

end Cert.Calls

end
-- ==== Proof.In.lean ====
module
public import Idealize.ShloMosaic.Lib.Pointwise
public import Idealize.ShloMosaic.Lib.StableHlo.ReadAt
public import Idealize.ShloMosaic.Lib.Pipeline.ValueKit.Basic
public import proofs.«01_k».proof.Proof.Gen.Kernel7Ideal.Value
public import proofs.«01_k».proof.Proof.Gen.Reference7Ideal.Run
public import proofs.«01_k».proof.Proof.Gen.Kernel8Ideal.Value
public import proofs.«01_k».proof.Proof.At
public import proofs.«01_k».proof.Proof.Gen.Reference8Ideal.Run
@[expose] public section
set_option maxRecDepth 16384
noncomputable section

/-! The two layers' input projections: what the launches leave at every index, and the same sums in the
references. Everything holds over the extended real numbers. -/

namespace Cert.Kernel7Ideal.Hand
open Cert.Kernel7Ideal Cert.Kernel7Ideal.Gen Cert.Kernel7Ideal.Value Idealize.ShloMosaic Idealize.ShloMosaic.TcCoe

/-- An entry of the projection of the rows `x` by the weights `w`. -/
def proj (x : S2048x1024.Idx → EReal) (w : S1024x2048.Idx → EReal) (t : Fin 2048) (f : Fin 2048) : EReal := ∑ d : Fin 1024, x (ix2 t d) * w (ix2 d f)

section Block
variable (x0 : Vec Ideal S512x1024 .f32) (x1 : Vec Ideal S1024x2048 .bf16)

theorem pay1_at (a : Fin 512) (d : Fin 1024) : k0_pay1 (F := Ideal) x0 (ix2 a d) = x0 (ix2 a d) := by
  pointwise [k0_pay1]
theorem pay2_at (a : Fin 512) (f : Fin 2048) : k0_pay2 (F := Ideal) x0 x1 (ix2 a f) = ∑ d : Fin 1024, x0 (ix2 a d) * x1 (ix2 d f) := by
  pointwise [k0_pay2, k0_pay1]
theorem pay3_at (a : Fin 512) (f : Fin 1536) : k0_pay3 (F := Ideal) x0 x1 (ix2 a f) = ∑ d : Fin 1024, x0 (ix2 a d) * x1 (ix2 d (⟨f.val, by omega⟩ : Fin 2048)) := by
  pointwise [k0_pay3]
  refine Eq.trans ?_ (pay2_at x0 x1 a ⟨f.val, by omega⟩)
  rfl
theorem ld_x : View.ld x0 r0_0 = x0 := View.ld_unit_lit _ _ (by decide)
theorem ld_w : View.ld x1 r0_1 = x1 := View.ld_unit_lit _ _ (by decide)
theorem out2 : out0_2 (F := Ideal) x0 x1 = k0_pay2 (F := Ideal) x0 x1 := by
  refine (View.canon_cons_unit_lit _ _ _ (by decide)).trans ?_
  rw [ld_x, ld_w]
theorem out3 : out0_3 (F := Ideal) x0 x1 = k0_pay1 (F := Ideal) x0 := by
  refine (View.canon_cons_unit_lit _ _ _ (by decide)).trans ?_
  rw [ld_x]
theorem out4 : out0_4 (F := Ideal) x0 x1 = k0_pay3 (F := Ideal) x0 x1 := by
  refine (View.canon_cons_unit_lit _ _ _ (by decide)).trans ?_
  rw [ld_x, ld_w]
end Block

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Whole 1024 2048 (((cfg0.win 1).blk t).view.read (Elt Ideal)) :=
  Gather.whole (ix := win0_1.index)
theorem read_blk2 : ∀ t : Fin cfg0.N, Gather.Rows 2048 2048 512 2048 t.val (((cfg0.win 2).blk t).view.read (Elt Ideal)) :=
  Gather.rows (ix := win0_2.index)
theorem all2 : ∀ t : Fin cfg0.N, (cfg0.win 2).flush t = true := (by decide +kernel : ∀ t : Fin grid0.N, _)
theorem read_blk3 : ∀ t : Fin cfg0.N, Gather.Rows 2048 1024 512 1024 t.val (((cfg0.win 3).blk t).view.read (Elt Ideal)) :=
  Gather.rows (ix := win0_3.index)
theorem all3 : ∀ t : Fin cfg0.N, (cfg0.win 3).flush t = true := (by decide +kernel : ∀ t : Fin grid0.N, _)
theorem read_blk4 : ∀ t : Fin cfg0.N, Gather.Rows 2048 1536 512 1536 t.val (((cfg0.win 4).blk t).view.read (Elt Ideal)) :=
  Gather.rows (ix := win0_4.index)
theorem all4 : ∀ t : Fin cfg0.N, (cfg0.win 4).flush t = true := (by decide +kernel : ∀ t : Fin grid0.N, _)

variable (m : (ℓ : Loc nD τ sig) → Buf (Elt Ideal) ℓ) (c : Dev nD)

theorem V_w (d : Fin 1024) (f : Fin 2048) : V m c main_v0 (ix2 d f) = m ((c : Thread nD τ).loc main_arg1) (ix2 d f) := by
  show StableHlo.after hostOps0 (fun b => m (c, b)) (Proc.devRef .tc main_v0) (ix2 d f) = _
  after_reads_at

/-- The rows of the input, and the weights, that a grid point's blocks hold. -/
theorem blk_x (q : Fin cfg0.N) (a : Fin 512) (d : Fin 1024) (t : Fin 2048) (h : t.val = 512 * q.val + a.val) :
    iblk m c 0 q (ix2 a d) = m ((c : Thread nD τ).loc main_arg0) (ix2 t d) :=
  (read_blk0 q _ a d (ix2 t d) h rfl).trans (congrFun (V_main_arg0 m c) (ix2 t d))
theorem blk_w (q : Fin cfg0.N) (d : Fin 1024) (f : Fin 2048) : iblk m c 1 q (ix2 d f) = m ((c : Thread nD τ).loc main_arg1) (ix2 d f) :=
  (read_blk1 q _ d f (ix2 d f) rfl rfl).trans (V_w m c d f)

theorem pay2_of {X : Vec Ideal S512x1024 .f32} {Y : Vec Ideal S1024x2048 .bf16} {x : S2048x1024.Idx → EReal} {w : S1024x2048.Idx → EReal} {a : Fin 512} {t : Fin 2048} {f : Fin 2048}
    (hx : ∀ d : Fin 1024, X (ix2 a d) = x (ix2 t d)) (hy : ∀ d : Fin 1024, Y (ix2 d f) = w (ix2 d f)) :
    k0_pay2 (F := Ideal) X Y (ix2 a f) = proj x w t f := (pay2_at X Y a f).trans (Finset.sum_congr rfl fun d _ => by rw [hx, hy])
theorem pay3_of {X : Vec Ideal S512x1024 .f32} {Y : Vec Ideal S1024x2048 .bf16} {x : S2048x1024.Idx → EReal} {w : S1024x2048.Idx → EReal} {a : Fin 512} {t : Fin 2048} {f : Fin 1536}
    (hx : ∀ d : Fin 1024, X (ix2 a d) = x (ix2 t d)) (hy : ∀ d : Fin 1024, Y (ix2 d (⟨f.val, by omega⟩ : Fin 2048)) = w (ix2 d (⟨f.val, by omega⟩ : Fin 2048))) :
    k0_pay3 (F := Ideal) X Y (ix2 a f) = proj x w t ⟨f.val, by omega⟩ := (pay3_at X Y a f).trans (Finset.sum_congr rfl fun d _ => by rw [hx, hy])
/-- The block and the row in it of a token. -/
theorem token (t : Fin 2048) : ∃ (q : Fin cfg0.N) (a : Fin 512), t.val = 512 * q.val + a.val :=
  ⟨⟨t.val / 512, Nat.lt_of_lt_of_eq (by omega) N_0.symm⟩, ⟨t.val % 512, by omega⟩, by show t.val = 512 * (t.val / 512) + t.val % 512; omega⟩

/-- The projection at the end. -/
theorem fin2 (t : Fin 2048) (f : Fin 2048) : (dats m 0 c).arrAt 2 cfg0.N (ix2 t f) = proj (m ((c : Thread nD τ).loc main_arg0)) (m ((c : Thread nD τ).loc main_arg1)) t f := by
  obtain ⟨q, a, h⟩ := token t
  have e := blocks2 m c q (all2 _)
  rw [flushed2, out2] at e
  exact (read_blk2 q _ a f (ix2 t f) h rfl).symm.trans ((congrFun e (ix2 a f : S512x2048.Idx)).trans (pay2_of (fun d => blk_x m c _ _ d t h) (fun d => blk_w m c _ d f)))

/-- The copy of the input at the end. -/
theorem fin3 (t : Fin 2048) (f : Fin 1024) : (dats m 0 c).arrAt 3 cfg0.N (ix2 t f) = m ((c : Thread nD τ).loc main_arg0) (ix2 t f) := by
  obtain ⟨q, a, h⟩ := token t
  have e := blocks3 m c q (all3 _)
  rw [flushed3, out3] at e
  exact (read_blk3 q _ a f (ix2 t f) h rfl).symm.trans ((congrFun e (ix2 a f : S512x1024.Idx)).trans ((pay1_at _ _ _).trans (blk_x m c _ _ f t h)))

/-- The copy of the projection's first part at the end. -/
theorem fin4 (t : Fin 2048) (f : Fin 1536) : (dats m 0 c).arrAt 4 cfg0.N (ix2 t f) = proj (m ((c : Thread nD τ).loc main_arg0)) (m ((c : Thread nD τ).loc main_arg1)) t ⟨f.val, by omega⟩ := by
  obtain ⟨q, a, h⟩ := token t
  have e := blocks4 m c q (all4 _)
  rw [flushed4, out4] at e
  exact (read_blk4 q _ a f (ix2 t f) h rfl).symm.trans ((congrFun e (ix2 a f : S512x1536.Idx)).trans (pay3_of (fun d => blk_x m c _ _ d t h) (fun d => blk_w m c _ d _)))

end Cert.Kernel7Ideal.Hand

namespace Cert.Reference7Ideal.Hand
open Cert.Reference7Ideal Cert.Reference7Ideal.Gen Idealize.ShloMosaic Idealize.ShloMosaic.TcCoe
open Cert.Kernel7Ideal.Hand (proj)

variable (a0 : FVec Ideal S2048x1024 .f32) (a1 : FVec Ideal S1024x2048 .f32) (t : Fin 2048)

/-- The reference's projection. -/
theorem proj_at (f : Fin 2048) :
    Host.dotGeneral (F := Ideal) dot_S2048x1024_S1024x2048_S2048x2048_1_0_0_1_n_n none a0 a1 (ix2 t f) = proj a0 a1 t f := by
  pointwise
  rfl
theorem copy_at (d : Fin 1024) : truncf (F := Ideal) .bf16 a0 bitsLt_bf16_f32 (ix2 t d) = a0 (ix2 t d) := by
  pointwise
/-- The copy of the projection's first part. -/
theorem part_at (f : Fin 1536) :
    truncf (F := Ideal) .bf16 (extractStridedSlice S2048x1536 ![0, 0] (Host.dotGeneral (F := Ideal) dot_S2048x1024_S1024x2048_S2048x2048_1_0_0_1_n_n none a0 a1) slices_S2048x2048_S2048x1536_0_0) bitsLt_bf16_f32 (ix2 t f)
      = proj a0 a1 t ⟨f.val, by omega⟩ := by
  refine Eq.trans ?_ (proj_at a0 a1 t ⟨f.val, by omega⟩)
  pointwise

end Cert.Reference7Ideal.Hand

namespace Cert.Kernel8Ideal.Hand
open Cert.Kernel8Ideal Cert.Kernel8Ideal.Gen Cert.Kernel8Ideal.Value Idealize.ShloMosaic Idealize.ShloMosaic.TcCoe

/-- An entry of the projection of the rows `x` by the weights `w`. -/
def proj (x : S2048x1024.Idx → EReal) (w : S1024x2048.Idx → EReal) (t : Fin 2048) (f : Fin 2048) : EReal := ∑ d : Fin 1024, x (ix2 t d) * w (ix2 d f)

section Block
variable (x0 : Vec Ideal S512x1024 .f32) (x1 : Vec Ideal S1024x2048 .bf16)

theorem pay1_at (a : Fin 512) (d : Fin 1024) : k0_pay1 (F := Ideal) x0 (ix2 a d) = x0 (ix2 a d) := by
  pointwise [k0_pay1]
theorem pay2_at (a : Fin 512) (f : Fin 2048) : k0_pay2 (F := Ideal) x0 x1 (ix2 a f) = ∑ d : Fin 1024, x0 (ix2 a d) * x1 (ix2 d f) := by
  pointwise [k0_pay2, k0_pay1]
theorem ld_x : View.ld x0 r0_0 = x0 := View.ld_unit_lit _ _ (by decide)
theorem ld_w : View.ld x1 r0_1 = x1 := View.ld_unit_lit _ _ (by decide)
theorem out2 : out0_2 (F := Ideal) x0 x1 = k0_pay2 (F := Ideal) x0 x1 := by
  refine (View.canon_cons_unit_lit _ _ _ (by decide)).trans ?_
  rw [ld_x, ld_w]
theorem out3 : out0_3 (F := Ideal) x0 x1 = k0_pay1 (F := Ideal) x0 := by
  refine (View.canon_cons_unit_lit _ _ _ (by decide)).trans ?_
  rw [ld_x]
end Block

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Whole 1024 2048 (((cfg0.win 1).blk t).view.read (Elt Ideal)) :=
  Gather.whole (ix := win0_1.index)
theorem read_blk2 : ∀ t : Fin cfg0.N, Gather.Rows 2048 2048 512 2048 t.val (((cfg0.win 2).blk t).view.read (Elt Ideal)) :=
  Gather.rows (ix := win0_2.index)
theorem all2 : ∀ t : Fin cfg0.N, (cfg0.win 2).flush t = true := (by decide +kernel : ∀ t : Fin grid0.N, _)
theorem read_blk3 : ∀ t : Fin cfg0.N, Gather.Rows 2048 1024 512 1024 t.val (((cfg0.win 3).blk t).view.read (Elt Ideal)) :=
  Gather.rows (ix := win0_3.index)
theorem all3 : ∀ t : Fin cfg0.N, (cfg0.win 3).flush t = true := (by decide +kernel : ∀ t : Fin grid0.N, _)

variable (m : (ℓ : Loc nD τ sig) → Buf (Elt Ideal) ℓ) (c : Dev nD)

theorem V_w (d : Fin 1024) (f : Fin 2048) : V m c main_v0 (ix2 d f) = m ((c : Thread nD τ).loc main_arg1) (ix2 d f) := by
  show StableHlo.after hostOps0 (fun b => m (c, b)) (Proc.devRef .tc main_v0) (ix2 d f) = _
  after_reads_at

/-- The rows of the input, and the weights, that a grid point's blocks hold. -/
theorem blk_x (q : Fin cfg0.N) (a : Fin 512) (d : Fin 1024) (t : Fin 2048) (h : t.val = 512 * q.val + a.val) :
    iblk m c 0 q (ix2 a d) = m ((c : Thread nD τ).loc main_arg0) (ix2 t d) :=
  (read_blk0 q _ a d (ix2 t d) h rfl).trans (congrFun (V_main_arg0 m c) (ix2 t d))
theorem blk_w (q : Fin cfg0.N) (d : Fin 1024) (f : Fin 2048) : iblk m c 1 q (ix2 d f) = m ((c : Thread nD τ).loc main_arg1) (ix2 d f) :=
  (read_blk1 q _ d f (ix2 d f) rfl rfl).trans (V_w m c d f)

theorem pay2_of {X : Vec Ideal S512x1024 .f32} {Y : Vec Ideal S1024x2048 .bf16} {x : S2048x1024.Idx → EReal} {w : S1024x2048.Idx → EReal} {a : Fin 512} {t : Fin 2048} {f : Fin 2048}
    (hx : ∀ d : Fin 1024, X (ix2 a d) = x (ix2 t d)) (hy : ∀ d : Fin 1024, Y (ix2 d f) = w (ix2 d f)) :
    k0_pay2 (F := Ideal) X Y (ix2 a f) = proj x w t f := (pay2_at X Y a f).trans (Finset.sum_congr rfl fun d _ => by rw [hx, hy])
/-- The block and the row in it of a token. -/
theorem token (t : Fin 2048) : ∃ (q : Fin cfg0.N) (a : Fin 512), t.val = 512 * q.val + a.val :=
  ⟨⟨t.val / 512, Nat.lt_of_lt_of_eq (by omega) N_0.symm⟩, ⟨t.val % 512, by omega⟩, by show t.val = 512 * (t.val / 512) + t.val % 512; omega⟩

/-- The projection at the end. -/
theorem fin2 (t : Fin 2048) (f : Fin 2048) : (dats m 0 c).arrAt 2 cfg0.N (ix2 t f) = proj (m ((c : Thread nD τ).loc main_arg0)) (m ((c : Thread nD τ).loc main_arg1)) t f := by
  obtain ⟨q, a, h⟩ := token t
  have e := blocks2 m c q (all2 _)
  rw [flushed2, out2] at e
  exact (read_blk2 q _ a f (ix2 t f) h rfl).symm.trans ((congrFun e (ix2 a f : S512x2048.Idx)).trans (pay2_of (fun d => blk_x m c _ _ d t h) (fun d => blk_w m c _ d f)))

/-- The copy of the input at the end. -/
theorem fin3 (t : Fin 2048) (f : Fin 1024) : (dats m 0 c).arrAt 3 cfg0.N (ix2 t f) = m ((c : Thread nD τ).loc main_arg0) (ix2 t f) := by
  obtain ⟨q, a, h⟩ := token t
  have e := blocks3 m c q (all3 _)
  rw [flushed3, out3] at e
  exact (read_blk3 q _ a f (ix2 t f) h rfl).symm.trans ((congrFun e (ix2 a f : S512x1024.Idx)).trans ((pay1_at _ _ _).trans (blk_x m c _ _ f t h)))

end Cert.Kernel8Ideal.Hand

namespace Cert.Reference8Ideal.Hand
open Cert.Reference8Ideal Cert.Reference8Ideal.Gen Idealize.ShloMosaic Idealize.ShloMosaic.TcCoe
open Cert.Kernel8Ideal.Hand (proj)

variable (a0 : FVec Ideal S2048x1024 .f32) (a1 : FVec Ideal S1024x2048 .f32) (t : Fin 2048)

/-- The reference's projection. -/
theorem proj_at (f : Fin 2048) :
    Host.dotGeneral (F := Ideal) dot_S2048x1024_S1024x2048_S2048x2048_1_0_0_1_n_n none a0 a1 (ix2 t f) = proj a0 a1 t f := by
  pointwise
  rfl
theorem copy_at (d : Fin 1024) : truncf (F := Ideal) .bf16 a0 bitsLt_bf16_f32 (ix2 t d) = a0 (ix2 t d) := by
  pointwise

end Cert.Reference8Ideal.Hand

end
-- ==== Proof.Out.lean ====
module
public import Idealize.ShloMosaic.Lib.Pointwise
public import Idealize.ShloMosaic.Lib.StableHlo.ReadAt
public import Idealize.ShloMosaic.Lib.Pipeline.ValueKit.Basic
public import proofs.«01_k».proof.Proof.Norm
public import proofs.«01_k».proof.Proof.Cols
public import proofs.«01_k».proof.Proof.Gen.Kernel9Ideal.Value
public import proofs.«01_k».proof.Proof.At
public import proofs.«01_k».proof.Proof.Gen.Reference9Ideal.Run
@[expose] public section
set_option maxRecDepth 16384
noncomputable section

/-! The mixing layer's output projection of two branches, with the residual and the normalisation after it:
what the launch leaves at every index, and the same in the reference. Everything holds over the extended real
numbers. -/

namespace Cert.Kernel9Ideal.Hand
open Cert.Kernel9Ideal Cert.Kernel9Ideal.Gen Cert.Kernel9Ideal.Value Idealize.ShloMosaic Idealize.ShloMosaic.TcCoe
open RowNorm (mean cen rs xh res)

/-- The residual row: the input row scaled, plus the two branches' rows through the two halves of the weights. -/
def pre (u v : S2048x512.Idx → EReal) (x : S2048x1024.Idx → EReal) (w : S1024x1024.Idx → EReal) (t : Fin 2048) : Fin 1024 → EReal :=
  res (fun d => x (ix2 t d)) (fun d => (∑ k : Fin 512, u (ix2 t k) * w (ix2 (⟨k.val, by omega⟩ : Fin 1024) d)) + ∑ k : Fin 512, v (ix2 t k) * w (ix2 (⟨512 + k.val, by omega⟩ : Fin 1024) d))

section Block
variable (x0 x1 : Vec Ideal S512x512 .bf16) (x2 : Vec Ideal S512x1024 .f32) (x3 : Vec Ideal S1024x1024 .bf16) (x4 x5 : Vec Ideal S1x1024 .f32)

theorem ld_0 : View.ld x0 r0_0 = x0 := View.ld_unit_lit _ _ (by decide)
theorem ld_2 : View.ld x2 r0_3 = x2 := View.ld_unit_lit _ _ (by decide)
theorem ld_4 : View.ld x4 r0_4 = x4 := View.ld_unit_lit _ _ (by decide)
/-- The upper and the lower half of the weights. -/
theorem top_at (k : Fin 512) (d : Fin 1024) : View.ld x3 r0_1 (ix2 k d) = x3 (ix2 (⟨k.val, by omega⟩ : Fin 1024) d) := by
  refine congrArg x3 ?_
  funext y; refine Fin.ext ?_
  match y with
  | ⟨0, _⟩ => show 0 + 1 * k.val = k.val; omega
  | ⟨1, _⟩ => show 0 + 1 * d.val = d.val; omega
theorem low_at (k : Fin 512) (d : Fin 1024) : View.ld x3 r0_2 (ix2 k d) = x3 (ix2 (⟨512 + k.val, by omega⟩ : Fin 1024) d) := by
  refine congrArg x3 ?_
  funext y; refine Fin.ext ?_
  match y with
  | ⟨0, _⟩ => show 512 + 1 * k.val = 512 + k.val; omega
  | ⟨1, _⟩ => show 0 + 1 * d.val = d.val; omega

theorem out6 : out0_6 (F := Ideal) x0 x1 x2 x3 x4 x5 = k0_pay4 (F := Ideal) x0 (View.ld x3 r0_1) x1 (View.ld x3 r0_2) x2 x4 x5 := by
  refine (View.canon_cons_unit_lit _ _ _ (by decide)).trans ?_
  rw [ld_0, ld_0, ld_2, ld_4, ld_4]
theorem out7 : out0_7 (F := Ideal) x0 x1 x2 x3 x4 x5 = k0_pay3 (F := Ideal) x0 (View.ld x3 r0_1) x1 (View.ld x3 r0_2) x2 := by
  refine (View.canon_cons_unit_lit _ _ _ (by decide)).trans ?_
  rw [ld_0, ld_0, ld_2]
theorem out8 : out0_8 (F := Ideal) x0 x1 x2 x3 x4 x5 = k0_pay2 (F := Ideal) x0 (View.ld x3 r0_1) x1 (View.ld x3 r0_2) x2 := by
  refine (View.canon_cons_unit_lit _ _ _ (by decide)).trans ?_
  rw [ld_0, ld_0, ld_2]

/-- What a block's rows hold, as rows of whole arrays. -/
structure Rows (w0 w1 : Vec Ideal S512x1024 .bf16) (a : Fin 512) (t : Fin 2048) (u v : S2048x512.Idx → EReal) (x : S2048x1024.Idx → EReal) (w : S1024x1024.Idx → EReal) : Prop where
  lhs : ∀ k : Fin 512, x0 (ix2 a k) = u (ix2 t k)
  rhs : ∀ k : Fin 512, x1 (ix2 a k) = v (ix2 t k)
  inp : ∀ d : Fin 1024, x2 (ix2 a d) = x (ix2 t d)
  top : ∀ (k : Fin 512) (d : Fin 1024), w0 (ix2 k d) = w (ix2 (⟨k.val, by omega⟩ : Fin 1024) d)
  low : ∀ (k : Fin 512) (d : Fin 1024), w1 (ix2 k d) = w (ix2 (⟨512 + k.val, by omega⟩ : Fin 1024) d)

variable {x0 x1 x2 x4 x5} {w0 w1 : Vec Ideal S512x1024 .bf16} {a : Fin 512} {t : Fin 2048} {u v : S2048x512.Idx → EReal} {x : S2048x1024.Idx → EReal} {w : S1024x1024.Idx → EReal}

theorem pay1_of (R : Rows x0 x1 x2 w0 w1 a t u v x w) (d : Fin 1024) : k0_pay1 (F := Ideal) x0 w0 x1 w1 x2 (ix2 a d) = cen (pre u v x w t) d := by
  pointwise [k0_pay1]
  simp only [R.lhs, R.rhs, R.inp, R.top, R.low]
  rfl
theorem pay2_of (R : Rows x0 x1 x2 w0 w1 a t u v x w) (z : Fin 1) : k0_pay2 (F := Ideal) x0 w0 x1 w1 x2 (ix2 a z) = rs (pre u v x w t) := by
  pointwise [k0_pay2]
  simp only [pay1_of R]
  rfl
theorem pay3_of (R : Rows x0 x1 x2 w0 w1 a t u v x w) (d : Fin 1024) : k0_pay3 (F := Ideal) x0 w0 x1 w1 x2 (ix2 a d) = xh (pre u v x w t) d := by
  pointwise [k0_pay3]
  rw [pay1_of R, pay2_of R]
  rfl
theorem pay4_of (R : Rows x0 x1 x2 w0 w1 a t u v x w) (d : Fin 1024) {g b : EReal} (hg : x4 (ix2 0 d) = g) (hb : x5 (ix2 0 d) = b) :
    k0_pay4 (F := Ideal) x0 w0 x1 w1 x2 x4 x5 (ix2 a d) = xh (pre u v x w t) d * g + b := by
  pointwise [k0_pay4]
  rw [pay3_of R, hg, hb]
end Block

theorem read_blk0 : ∀ t : Fin cfg0.N, Gather.Rows 2048 512 512 512 t.val (((cfg0.win 0).blk t).view.read (Elt Ideal)) :=
  Gather.rows (ix := win0_0.index)
theorem read_blk1 : ∀ t : Fin cfg0.N, Gather.Rows 2048 512 512 512 t.val (((cfg0.win 1).blk t).view.read (Elt Ideal)) :=
  Gather.rows (ix := win0_1.index)
theorem read_blk2 : ∀ t : Fin cfg0.N, Gather.Rows 2048 1024 512 1024 t.val (((cfg0.win 2).blk t).view.read (Elt Ideal)) :=
  Gather.rows (ix := win0_2.index)
theorem read_blk3 : ∀ t : Fin cfg0.N, Gather.Whole 1024 1024 (((cfg0.win 3).blk t).view.read (Elt Ideal)) :=
  Gather.whole (ix := win0_3.index)
theorem read_blk4 : ∀ t : Fin cfg0.N, Gather.Whole 1 1024 (((cfg0.win 4).blk t).view.read (Elt Ideal)) :=
  Gather.whole (ix := win0_4.index)
theorem read_blk5 : ∀ t : Fin cfg0.N, Gather.Whole 1 1024 (((cfg0.win 5).blk t).view.read (Elt Ideal)) :=
  Gather.whole (ix := win0_5.index)
theorem read_blk6 : ∀ t : Fin cfg0.N, Gather.Rows 2048 1024 512 1024 t.val (((cfg0.win 6).blk t).view.read (Elt Ideal)) :=
  Gather.rows (ix := win0_6.index)
theorem all6 : ∀ t : Fin cfg0.N, (cfg0.win 6).flush t = true := (by decide +kernel : ∀ t : Fin grid0.N, _)
theorem read_blk7 : ∀ t : Fin cfg0.N, Gather.Rows 2048 1024 512 1024 t.val (((cfg0.win 7).blk t).view.read (Elt Ideal)) :=
  Gather.rows (ix := win0_7.index)
theorem all7 : ∀ t : Fin cfg0.N, (cfg0.win 7).flush t = true := (by decide +kernel : ∀ t : Fin grid0.N, _)
theorem read_blk8 : ∀ t : Fin cfg0.N, Gather.Rows 2048 1 512 1 t.val (((cfg0.win 8).blk t).view.read (Elt Ideal)) :=
  Gather.rows (ix := win0_8.index)
theorem all8 : ∀ t : Fin cfg0.N, (cfg0.win 8).flush t = true := (by decide +kernel : ∀ t : Fin grid0.N, _)

variable (m : (ℓ : Loc nD τ sig) → Buf (Elt Ideal) ℓ) (c : Dev nD)

theorem V_u (t : Fin 2048) (k : Fin 512) : V m c main_v0 (ix2 t k) = m ((c : Thread nD τ).loc main_arg0) (ix2 t k) := by
  show StableHlo.after hostOps0 (fun b => m (c, b)) (Proc.devRef .tc main_v0) (ix2 t k) = _
  after_reads_at
theorem V_v (t : Fin 2048) (k : Fin 512) : V m c main_v1 (ix2 t k) = m ((c : Thread nD τ).loc main_arg1) (ix2 t k) := by
  show StableHlo.after hostOps0 (fun b => m (c, b)) (Proc.devRef .tc main_v1) (ix2 t k) = _
  after_reads_at
theorem V_w (k : Fin 1024) (d : Fin 1024) : V m c main_v2 (ix2 k d) = m ((c : Thread nD τ).loc main_arg3) (ix2 k d) := by
  show StableHlo.after hostOps0 (fun b => m (c, b)) (Proc.devRef .tc main_v2) (ix2 k d) = _
  after_reads_at
theorem blk_w (q : Fin cfg0.N) (k : Fin 1024) (d : Fin 1024) : iblk m c 3 q (ix2 k d) = m ((c : Thread nD τ).loc main_arg3) (ix2 k d) :=
  (read_blk3 q _ k d (ix2 k d) rfl rfl).trans (V_w m c k d)

/-- The residual row of a token, from the arguments. -/
def preM (t : Fin 2048) : Fin 1024 → EReal := pre (m ((c : Thread nD τ).loc main_arg0)) (m ((c : Thread nD τ).loc main_arg1)) (m ((c : Thread nD τ).loc main_arg2)) (m ((c : Thread nD τ).loc main_arg3)) t

theorem rows (q : Fin cfg0.N) (a : Fin 512) (t : Fin 2048) (h : t.val = 512 * q.val + a.val) :
    Rows (iblk m c 0 q) (iblk m c 1 q) (iblk m c 2 q) (View.ld (iblk m c 3 q) r0_1) (View.ld (iblk m c 3 q) r0_2) a t (m ((c : Thread nD τ).loc main_arg0)) (m ((c : Thread nD τ).loc main_arg1)) (m ((c : Thread nD τ).loc main_arg2)) (m ((c : Thread nD τ).loc main_arg3)) where
  lhs k := (read_blk0 q _ a k (ix2 t k) h rfl).trans (V_u m c t k)
  rhs k := (read_blk1 q _ a k (ix2 t k) h rfl).trans (V_v m c t k)
  inp d := (read_blk2 q _ a d (ix2 t d) h rfl).trans (congrFun (V_main_arg2 m c) (ix2 t d))
  top k d := (top_at _ k d).trans (blk_w m c q _ d)
  low k d := (low_at _ k d).trans (blk_w m c q _ d)
theorem blk_g (q : Fin cfg0.N) (d : Fin 1024) : iblk m c 4 q (ix2 0 d) = m ((c : Thread nD τ).loc main_arg4) (ix2 0 d) :=
  (read_blk4 q _ 0 d (ix2 0 d) rfl rfl).trans (congrFun (V_main_arg4 m c) (ix2 0 d))
theorem blk_b (q : Fin cfg0.N) (d : Fin 1024) : iblk m c 5 q (ix2 0 d) = m ((c : Thread nD τ).loc main_arg5) (ix2 0 d) :=
  (read_blk5 q _ 0 d (ix2 0 d) rfl rfl).trans (congrFun (V_main_arg5 m c) (ix2 0 d))

/-- The block and the row in it of a token. -/
theorem token (t : Fin 2048) : ∃ (q : Fin cfg0.N) (a : Fin 512), t.val = 512 * q.val + a.val :=
  ⟨⟨t.val / 512, Nat.lt_of_lt_of_eq (by omega) N_0.symm⟩, ⟨t.val % 512, by omega⟩, by show t.val = 512 * (t.val / 512) + t.val % 512; omega⟩

/-- The scaled and shifted rows at the end. -/
theorem fin6 (t : Fin 2048) (f : Fin 1024) : (dats m 0 c).arrAt 6 cfg0.N (ix2 t f) = xh (preM m c t) f * m ((c : Thread nD τ).loc main_arg4) (ix2 0 f) + m ((c : Thread nD τ).loc main_arg5) (ix2 0 f) := by
  obtain ⟨q, a, h⟩ := token t
  have e := blocks6 m c q (all6 _)
  rw [flushed6, out6] at e
  exact (read_blk6 q _ a f (ix2 t f) h rfl).symm.trans ((congrFun e (ix2 a f : S512x1024.Idx)).trans (pay4_of (rows m c _ _ t h) f (blk_g m c _ f) (blk_b m c _ f)))

/-- The normalised rows at the end. -/
theorem fin7 (t : Fin 2048) (f : Fin 1024) : (dats m 0 c).arrAt 7 cfg0.N (ix2 t f) = xh (preM m c t) f := by
  obtain ⟨q, a, h⟩ := token t
  have e := blocks7 m c q (all7 _)
  rw [flushed7, out7] at e
  exact (read_blk7 q _ a f (ix2 t f) h rfl).symm.trans ((congrFun e (ix2 a f : S512x1024.Idx)).trans (pay3_of (rows m c _ _ t h) f))

/-- The reciprocals of the standard deviations at the end. -/
theorem fin8 (t : Fin 2048) (f : Fin 1) : (dats m 0 c).arrAt 8 cfg0.N (ix2 t f) = rs (preM m c t) := by
  obtain ⟨q, a, h⟩ := token t
  have e := blocks8 m c q (all8 _)
  rw [flushed8, out8] at e
  exact (read_blk8 q _ a f (ix2 t f) h rfl).symm.trans ((congrFun e (ix2 a f : S512x1.Idx)).trans (pay2_of (rows m c _ _ t h) f))

end Cert.Kernel9Ideal.Hand

namespace Cert.Reference9Ideal.Hand
open Cert.Reference9Ideal Cert.Reference9Ideal.Gen Idealize.ShloMosaic Idealize.ShloMosaic.TcCoe
open RowNorm (mean cen rs xh res)

/-- The two branches side by side. -/
def catT (a0 a1 : FVec Ideal S2048x512 .f32) : FVec Ideal S2048x1024 .f32 :=
  concatenate S2048x1024 1 [⟨S2048x512, a0⟩, ⟨S2048x512, a1⟩] concatenates_S2048x512_S2048x512_S2048x1024_d1
/-- The rows before they are normalised. -/
def preT (l : FVec Ideal S2048x1024 .f32) (a2 : FVec Ideal S2048x1024 .f32) (a3 : FVec Ideal S1024x1024 .f32) : FVec Ideal S2048x1024 .f32 :=
  addf (mulf (broadcastInDim S2048x1024 ![] bcast_S_S2048x1024 (constant S_ .f32 0x3FB504F3#32)) a2) (Host.dotGeneral (F := Ideal) dot_S2048x1024_S1024x1024_S2048x1024_1_0_0_1_n_n none l a3)
/-- A row's mean. -/
def meanT (u : FVec Ideal S2048x1024 .f32) : FVec Ideal S2048x1 .f32 :=
  Host.divf (broadcastInDim S2048x1 ![0] bcast_S2048_S2048x1_0 (Host.reduceAdd u (constant S_ .f32 0x00000000#32) reducesTo_S2048x1024_S2048_d1 h_S_)) (broadcastInDim S2048x1 ![] bcast_S_S2048x1 (constant S_ .f32 0x44800000#32))
/-- The rows about their means. -/
def cenT (u : FVec Ideal S2048x1024 .f32) : FVec Ideal S2048x1024 .f32 :=
  subf u (broadcastInDim S2048x1024 ![0, 1] bcast_S2048x1_S2048x1024_0_1 (meanT u))
/-- The reciprocal of a row's standard deviation. -/
def rsT (u : FVec Ideal S2048x1024 .f32) : FVec Ideal S2048x1 .f32 :=
  Host.rsqrt (addf (meanT (mulf (cenT u) (cenT u))) (broadcastInDim S2048x1 ![] bcast_S_S2048x1 (constant S_ .f32 0x3727C5AC#32)))
/-- The normalised rows. -/
def xhT (u : FVec Ideal S2048x1024 .f32) : FVec Ideal S2048x1024 .f32 :=
  mulf (cenT u) (broadcastInDim S2048x1024 ![0, 1] bcast_S2048x1_S2048x1024_0_1 (rsT u))
/-- The scaled and shifted rows. -/
def yT (u : FVec Ideal S2048x1024 .f32) (g b : FVec Ideal S1x1024 .f32) : FVec Ideal S2048x1024 .f32 :=
  addf (mulf (xhT u) (broadcastInDim S2048x1024 ![0, 1] bcast_S1x1024_S2048x1024_0_1 g)) (broadcastInDim S2048x1024 ![0, 1] bcast_S1x1024_S2048x1024_0_1 b)

theorem pre_at (l : FVec Ideal S2048x1024 .f32) (a2 : FVec Ideal S2048x1024 .f32) (a3 : FVec Ideal S1024x1024 .f32) (t : Fin 2048) (d : Fin 1024) :
    preT l a2 a3 (ix2 t d) = res (fun d => a2 (ix2 t d)) (fun d => ∑ k : Fin 1024, l (ix2 t k) * a3 (ix2 k d)) d := by
  pointwise [preT]
  rfl
theorem cat_left (a0 a1 : FVec Ideal S2048x512 .f32) (t : Fin 2048) (k : Fin 512) : catT a0 a1 (ix2 t (⟨k.val, by omega⟩ : Fin 1024)) = a0 (ix2 t k) := by
  pointwise [catT]
theorem cat_right (a0 a1 : FVec Ideal S2048x512 .f32) (t : Fin 2048) (k : Fin 512) : catT a0 a1 (ix2 t (⟨512 + k.val, by omega⟩ : Fin 1024)) = a1 (ix2 t k) := by
  pointwise [catT]

section Norm
variable {u : FVec Ideal S2048x1024 .f32} {t : Fin 2048} {v : Fin 1024 → EReal} (hv : ∀ d : Fin 1024, u (ix2 t d) = v d)
include hv

theorem mean_at (z : Fin 1) : meanT u (ix2 t z) = mean v := by
  pointwise [meanT]
  simp only [hv]
  rfl
theorem cen_at (d : Fin 1024) : cenT u (ix2 t d) = cen v d := by
  pointwise [cenT]
  rw [mean_at hv, hv]
  rfl
theorem rs_at (z : Fin 1) : rsT u (ix2 t z) = rs v := by
  pointwise [rsT]
  rw [mean_at (v := fun d => cen v d * cen v d) (fun d => ?_)]
  · rfl
  · pointwise
    rw [cen_at hv]
theorem xh_at (d : Fin 1024) : xhT u (ix2 t d) = xh v d := by
  pointwise [xhT]
  rw [cen_at hv, rs_at hv]
  rfl
theorem y_at (g b : FVec Ideal S1x1024 .f32) (d : Fin 1024) : yT u g b (ix2 t d) = xh v d * g (ix2 0 d) + b (ix2 0 d) := by
  pointwise [yT]
  rw [xh_at hv]
end Norm

variable (m : (ℓ : Loc nD τ sig) → Buf (Elt Ideal) ℓ) (c : Dev nD)

/-- The residual rows of the arguments. -/
def preM : FVec Ideal S2048x1024 .f32 := preT (catT (m ((c.tc : Thread nD τ).loc main_arg0)) (m ((c.tc : Thread nD τ).loc main_arg1))) (m ((c.tc : Thread nD τ).loc main_arg2)) (m ((c.tc : Thread nD τ).loc main_arg3))
theorem res0 : Value.res_main_v26 m c = yT (preM m c) (m ((c.tc : Thread nD τ).loc main_arg4)) (m ((c.tc : Thread nD τ).loc main_arg5)) := rfl

theorem preM_at (t : Fin 2048) (d : Fin 1024) : preM m c (ix2 t d) = Cert.Kernel9Ideal.Hand.pre (m ((c.tc : Thread nD τ).loc main_arg0)) (m ((c.tc : Thread nD τ).loc main_arg1)) (m ((c.tc : Thread nD τ).loc main_arg2)) (m ((c.tc : Thread nD τ).loc main_arg3)) t d := by
  refine (pre_at _ _ _ t d).trans ?_
  unfold Cert.Kernel9Ideal.Hand.pre
  refine congrFun (congrArg (res _) (funext fun d => ?_)) d
  rw [Columns.split 512 512 rfl]
  simp only [cat_left, cat_right]

end Cert.Reference9Ideal.Hand

end
-- ==== Proof.Ple.lean ====
module
public import Idealize.ShloMosaic.Lib.Pointwise
public import Idealize.ShloMosaic.Lib.StableHlo.ReadAt
public import Idealize.ShloMosaic.Lib.Pipeline.ValueKit.Basic
public import proofs.«01_k».proof.Proof.Gen.Kernel10Ideal.Value
public import proofs.«01_k».proof.Proof.At
public import proofs.«01_k».proof.Proof.Gen.Reference10Ideal.Run
@[expose] public section
set_option maxRecDepth 16384
noncomputable section

/-! The side input's gated sum: what the launch leaves at every index, and the same in the reference.
Everything holds over the extended real numbers. -/

namespace SideInput
open Idealize.ShloMosaic

/-- The gate of a row `x` at one column, with the weights' column `w` and the shift `b`. -/
def gate (x w : Fin 1024 → EReal) (b : EReal) : EReal := Ideal.div 1 (1 + Ideal.exp (-((∑ d : Fin 1024, x d * w d) + b)))
/-- A side row `p` through the weights' column `w`. -/
def side (p w : Fin 256 → EReal) : EReal := ∑ d : Fin 256, p d * w d
/-- The gated sum of a row with its side row, at the column `f`. -/
def out (x : Fin 1024 → EReal) (wg : Fin 1024 → EReal) (b : EReal) (p wp : Fin 256 → EReal) (f : Fin 1024) : EReal := x f + gate x wg b * side p wp

end SideInput

namespace Cert.Kernel10Ideal.Hand
open Cert.Kernel10Ideal Cert.Kernel10Ideal.Gen Cert.Kernel10Ideal.Value Idealize.ShloMosaic Idealize.ShloMosaic.TcCoe

section Block
variable (x0 : Vec Ideal S512x1024 .f32) (x1 : Vec Ideal S512x256 .f32) (x2 : Vec Ideal S1024x1024 .bf16) (x3 : Vec Ideal S256x1024 .bf16) (x4 : Vec Ideal S1x1024 .f32)

theorem pay1_at (a : Fin 512) (d : Fin 1024) : k0_pay1 (F := Ideal) x0 (ix2 a d) = x0 (ix2 a d) := by
  pointwise [k0_pay1]
theorem pay2_at (a : Fin 512) (d : Fin 256) : k0_pay2 (F := Ideal) x1 (ix2 a d) = x1 (ix2 a d) := by
  pointwise [k0_pay2]
theorem pay3_at (a : Fin 512) (f : Fin 1024) : k0_pay3 (F := Ideal) x0 x2 x4 (ix2 a f)
    = SideInput.gate (fun d => x0 (ix2 a d)) (fun d => x2 (ix2 d f)) (x4 (ix2 0 f)) := by
  pointwise [k0_pay3, k0_pay1]
  unfold SideInput.gate
  rw [sub_eq_add_neg, zero_add]
theorem pay4_at (a : Fin 512) (f : Fin 1024) : k0_pay4 (F := Ideal) x1 x3 (ix2 a f)
    = SideInput.side (fun d => x1 (ix2 a d)) (fun d => x3 (ix2 d f)) := by
  pointwise [k0_pay4, k0_pay2]
  rfl
theorem pay5_at (a : Fin 512) (f : Fin 1024) : k0_pay5 (F := Ideal) x0 x2 x4 (ix2 a f)
    = SideInput.gate (fun d => x0 (ix2 a d)) (fun d => x2 (ix2 d f)) (x4 (ix2 0 f)) := by
  refine Eq.trans ?_ (pay3_at x0 x2 x4 a f)
  pointwise [k0_pay5]
theorem pay6_at (a : Fin 512) (f : Fin 1024) : k0_pay6 (F := Ideal) x1 x3 (ix2 a f)
    = SideInput.side (fun d => x1 (ix2 a d)) (fun d => x3 (ix2 d f)) := by
  refine Eq.trans ?_ (pay4_at x1 x3 a f)
  pointwise [k0_pay6]
theorem pay7_at (a : Fin 512) (f : Fin 1024) : k0_pay7 (F := Ideal) x0 x1 x2 x4 x3 (ix2 a f)
    = SideInput.out (fun d => x0 (ix2 a d)) (fun d => x2 (ix2 d f)) (x4 (ix2 0 f)) (fun d => x1 (ix2 a d)) (fun d => x3 (ix2 d f)) f := by
  pointwise [k0_pay7]
  rw [pay3_at, pay4_at]
  rfl

theorem ld_0 : View.ld x0 r0_0 = x0 := View.ld_unit_lit _ _ (by decide)
theorem ld_1 : View.ld x1 r0_1 = x1 := View.ld_unit_lit _ _ (by decide)
theorem ld_2 : View.ld x2 r0_2 = x2 := View.ld_unit_lit _ _ (by decide)
theorem ld_3 : View.ld x3 r0_4 = x3 := View.ld_unit_lit _ _ (by decide)
theorem ld_4 : View.ld x4 r0_3 = x4 := View.ld_unit_lit _ _ (by decide)
theorem out5 : out0_5 (F := Ideal) x0 x1 x2 x3 x4 = k0_pay7 (F := Ideal) x0 x1 x2 x4 x3 := by
  refine (View.canon_cons_unit_lit _ _ _ (by decide)).trans ?_
  rw [ld_0, ld_1, ld_2, ld_3, ld_4]
theorem out6 : out0_6 (F := Ideal) x0 x1 x2 x3 x4 = k0_pay5 (F := Ideal) x0 x2 x4 := by
  refine (View.canon_cons_unit_lit _ _ _ (by decide)).trans ?_
  rw [ld_0, ld_2, ld_4]
theorem out7 : out0_7 (F := Ideal) x0 x1 x2 x3 x4 = k0_pay6 (F := Ideal) x1 x3 := by
  refine (View.canon_cons_unit_lit _ _ _ (by decide)).trans ?_
  rw [ld_1, ld_3]
theorem out8 : out0_8 (F := Ideal) x0 x1 x2 x3 x4 = k0_pay1 (F := Ideal) x0 := by
  refine (View.canon_cons_unit_lit _ _ _ (by decide)).trans ?_
  rw [ld_0]
theorem out9 : out0_9 (F := Ideal) x0 x1 x2 x3 x4 = k0_pay2 (F := Ideal) x1 := by
  refine (View.canon_cons_unit_lit _ _ _ (by decide)).trans ?_
  rw [ld_1]
end Block

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Rows 2048 256 512 256 t.val (((cfg0.win 1).blk t).view.read (Elt Ideal)) :=
  Gather.rows (ix := win0_1.index)
theorem read_blk2 : ∀ t : Fin cfg0.N, Gather.Whole 1024 1024 (((cfg0.win 2).blk t).view.read (Elt Ideal)) :=
  Gather.whole (ix := win0_2.index)
theorem read_blk3 : ∀ t : Fin cfg0.N, Gather.Whole 256 1024 (((cfg0.win 3).blk t).view.read (Elt Ideal)) :=
  Gather.whole (ix := win0_3.index)
theorem read_blk4 : ∀ t : Fin cfg0.N, Gather.Whole 1 1024 (((cfg0.win 4).blk t).view.read (Elt Ideal)) :=
  Gather.whole (ix := win0_4.index)
theorem read_blk5 : ∀ t : Fin cfg0.N, Gather.Rows 2048 1024 512 1024 t.val (((cfg0.win 5).blk t).view.read (Elt Ideal)) :=
  Gather.rows (ix := win0_5.index)
theorem all5 : ∀ t : Fin cfg0.N, (cfg0.win 5).flush t = true := (by decide +kernel : ∀ t : Fin grid0.N, _)
theorem read_blk6 : ∀ t : Fin cfg0.N, Gather.Rows 2048 1024 512 1024 t.val (((cfg0.win 6).blk t).view.read (Elt Ideal)) :=
  Gather.rows (ix := win0_6.index)
theorem all6 : ∀ t : Fin cfg0.N, (cfg0.win 6).flush t = true := (by decide +kernel : ∀ t : Fin grid0.N, _)
theorem read_blk7 : ∀ t : Fin cfg0.N, Gather.Rows 2048 1024 512 1024 t.val (((cfg0.win 7).blk t).view.read (Elt Ideal)) :=
  Gather.rows (ix := win0_7.index)
theorem all7 : ∀ t : Fin cfg0.N, (cfg0.win 7).flush t = true := (by decide +kernel : ∀ t : Fin grid0.N, _)
theorem read_blk8 : ∀ t : Fin cfg0.N, Gather.Rows 2048 1024 512 1024 t.val (((cfg0.win 8).blk t).view.read (Elt Ideal)) :=
  Gather.rows (ix := win0_8.index)
theorem all8 : ∀ t : Fin cfg0.N, (cfg0.win 8).flush t = true := (by decide +kernel : ∀ t : Fin grid0.N, _)
theorem read_blk9 : ∀ t : Fin cfg0.N, Gather.Rows 2048 256 512 256 t.val (((cfg0.win 9).blk t).view.read (Elt Ideal)) :=
  Gather.rows (ix := win0_9.index)
theorem all9 : ∀ t : Fin cfg0.N, (cfg0.win 9).flush t = true := (by decide +kernel : ∀ t : Fin grid0.N, _)

variable (m : (ℓ : Loc nD τ sig) → Buf (Elt Ideal) ℓ) (c : Dev nD)

theorem V_g (d : Fin 1024) (f : Fin 1024) : V m c main_v0 (ix2 d f) = m ((c : Thread nD τ).loc main_arg2) (ix2 d f) := by
  show StableHlo.after hostOps0 (fun b => m (c, b)) (Proc.devRef .tc main_v0) (ix2 d f) = _
  after_reads_at
theorem V_p (d : Fin 256) (f : Fin 1024) : V m c main_v1 (ix2 d f) = m ((c : Thread nD τ).loc main_arg3) (ix2 d f) := by
  show StableHlo.after hostOps0 (fun b => m (c, b)) (Proc.devRef .tc main_v1) (ix2 d f) = _
  after_reads_at

/-- The rows, the side rows, the weights and the shift that a grid point's blocks hold. -/
theorem blk_x (q : Fin cfg0.N) (a : Fin 512) (d : Fin 1024) (t : Fin 2048) (h : t.val = 512 * q.val + a.val) :
    iblk m c 0 q (ix2 a d) = m ((c : Thread nD τ).loc main_arg0) (ix2 t d) :=
  (read_blk0 q _ a d (ix2 t d) h rfl).trans (congrFun (V_main_arg0 m c) (ix2 t d))
theorem blk_p (q : Fin cfg0.N) (a : Fin 512) (d : Fin 256) (t : Fin 2048) (h : t.val = 512 * q.val + a.val) :
    iblk m c 1 q (ix2 a d) = m ((c : Thread nD τ).loc main_arg1) (ix2 t d) :=
  (read_blk1 q _ a d (ix2 t d) h rfl).trans (congrFun (V_main_arg1 m c) (ix2 t d))
theorem blk_g (q : Fin cfg0.N) (d : Fin 1024) (f : Fin 1024) : iblk m c 2 q (ix2 d f) = m ((c : Thread nD τ).loc main_arg2) (ix2 d f) :=
  (read_blk2 q _ d f (ix2 d f) rfl rfl).trans (V_g m c d f)
theorem blk_w (q : Fin cfg0.N) (d : Fin 256) (f : Fin 1024) : iblk m c 3 q (ix2 d f) = m ((c : Thread nD τ).loc main_arg3) (ix2 d f) :=
  (read_blk3 q _ d f (ix2 d f) rfl rfl).trans (V_p m c d f)
theorem blk_b (q : Fin cfg0.N) (f : Fin 1024) : iblk m c 4 q (ix2 0 f) = m ((c : Thread nD τ).loc main_arg4) (ix2 0 f) :=
  (read_blk4 q _ 0 f (ix2 0 f) rfl rfl).trans (congrFun (V_main_arg4 m c) (ix2 0 f))

/-- The gate, the side rows' product and the gated sum of a token, from the arguments. -/
def gateM (t : Fin 2048) (f : Fin 1024) : EReal := SideInput.gate (fun d => m ((c : Thread nD τ).loc main_arg0) (ix2 t d)) (fun d => m ((c : Thread nD τ).loc main_arg2) (ix2 d f)) (m ((c : Thread nD τ).loc main_arg4) (ix2 0 f))
def sideM (t : Fin 2048) (f : Fin 1024) : EReal := SideInput.side (fun d => m ((c : Thread nD τ).loc main_arg1) (ix2 t d)) (fun d => m ((c : Thread nD τ).loc main_arg3) (ix2 d f))
def outM (t : Fin 2048) (f : Fin 1024) : EReal := SideInput.out (fun d => m ((c : Thread nD τ).loc main_arg0) (ix2 t d)) (fun d => m ((c : Thread nD τ).loc main_arg2) (ix2 d f)) (m ((c : Thread nD τ).loc main_arg4) (ix2 0 f)) (fun d => m ((c : Thread nD τ).loc main_arg1) (ix2 t d)) (fun d => m ((c : Thread nD τ).loc main_arg3) (ix2 d f)) f

variable {q : Fin cfg0.N} {a : Fin 512} {t : Fin 2048} (h : t.val = 512 * q.val + a.val)
include h
theorem pay7_of (f : Fin 1024) : k0_pay7 (F := Ideal) (iblk m c 0 q) (iblk m c 1 q) (iblk m c 2 q) (iblk m c 4 q) (iblk m c 3 q) (ix2 a f) = outM m c t f := by
  refine (pay7_at _ _ _ _ _ a f).trans ?_
  simp only [blk_x m c q a _ t h, blk_p m c q a _ t h, blk_g, blk_w, blk_b]
  rfl
theorem pay5_of (f : Fin 1024) : k0_pay5 (F := Ideal) (iblk m c 0 q) (iblk m c 2 q) (iblk m c 4 q) (ix2 a f) = gateM m c t f := by
  refine (pay5_at _ _ _ a f).trans ?_
  simp only [blk_x m c q a _ t h, blk_g, blk_b]
  rfl
theorem pay6_of (f : Fin 1024) : k0_pay6 (F := Ideal) (iblk m c 1 q) (iblk m c 3 q) (ix2 a f) = sideM m c t f := by
  refine (pay6_at _ _ a f).trans ?_
  simp only [blk_p m c q a _ t h, blk_w]
  rfl
omit h

/-- The block and the row in it of a token. -/
theorem token (t : Fin 2048) : ∃ (q : Fin cfg0.N) (a : Fin 512), t.val = 512 * q.val + a.val :=
  ⟨⟨t.val / 512, Nat.lt_of_lt_of_eq (by omega) N_0.symm⟩, ⟨t.val % 512, by omega⟩, by show t.val = 512 * (t.val / 512) + t.val % 512; omega⟩

/-- The gated sum at the end. -/
theorem fin5 (t : Fin 2048) (f : Fin 1024) : (dats m 0 c).arrAt 5 cfg0.N (ix2 t f) = outM m c t f := by
  obtain ⟨q, a, h⟩ := token t
  have e := blocks5 m c q (all5 _)
  rw [flushed5, out5] at e
  exact (read_blk5 q _ a f (ix2 t f) h rfl).symm.trans ((congrFun e (ix2 a f : S512x1024.Idx)).trans (pay7_of m c h f))

/-- The gate at the end. -/
theorem fin6 (t : Fin 2048) (f : Fin 1024) : (dats m 0 c).arrAt 6 cfg0.N (ix2 t f) = gateM m c t f := by
  obtain ⟨q, a, h⟩ := token t
  have e := blocks6 m c q (all6 _)
  rw [flushed6, out6] at e
  exact (read_blk6 q _ a f (ix2 t f) h rfl).symm.trans ((congrFun e (ix2 a f : S512x1024.Idx)).trans (pay5_of m c h f))

/-- The side rows' product at the end. -/
theorem fin7 (t : Fin 2048) (f : Fin 1024) : (dats m 0 c).arrAt 7 cfg0.N (ix2 t f) = sideM m c t f := by
  obtain ⟨q, a, h⟩ := token t
  have e := blocks7 m c q (all7 _)
  rw [flushed7, out7] at e
  exact (read_blk7 q _ a f (ix2 t f) h rfl).symm.trans ((congrFun e (ix2 a f : S512x1024.Idx)).trans (pay6_of m c h f))

/-- The copy of the rows at the end. -/
theorem fin8 (t : Fin 2048) (f : Fin 1024) : (dats m 0 c).arrAt 8 cfg0.N (ix2 t f) = m ((c : Thread nD τ).loc main_arg0) (ix2 t f) := by
  obtain ⟨q, a, h⟩ := token t
  have e := blocks8 m c q (all8 _)
  rw [flushed8, out8] at e
  exact (read_blk8 q _ a f (ix2 t f) h rfl).symm.trans ((congrFun e (ix2 a f : S512x1024.Idx)).trans ((pay1_at _ _ _).trans (blk_x m c _ _ f t h)))

/-- The copy of the side rows at the end. -/
theorem fin9 (t : Fin 2048) (f : Fin 256) : (dats m 0 c).arrAt 9 cfg0.N (ix2 t f) = m ((c : Thread nD τ).loc main_arg1) (ix2 t f) := by
  obtain ⟨q, a, h⟩ := token t
  have e := blocks9 m c q (all9 _)
  rw [flushed9, out9] at e
  exact (read_blk9 q _ a f (ix2 t f) h rfl).symm.trans ((congrFun e (ix2 a f : S512x256.Idx)).trans ((pay2_at _ _ _).trans (blk_p m c _ _ f t h)))

end Cert.Kernel10Ideal.Hand

namespace Cert.Reference10Ideal.Hand
open Cert.Reference10Ideal Cert.Reference10Ideal.Gen Idealize.ShloMosaic Idealize.ShloMosaic.TcCoe

variable (a0 : FVec Ideal S2048x1024 .f32) (a1 : FVec Ideal S2048x256 .f32) (a2 : FVec Ideal S1024x1024 .f32) (a3 : FVec Ideal S256x1024 .f32) (a4 : FVec Ideal S1x1024 .f32) (t : Fin 2048)

/-- The reference's gate. -/
def gateT : FVec Ideal S2048x1024 .f32 := (Host.divf (broadcastInDim S2048x1024 ![] bcast_S_S2048x1024 (constant S_ .f32 0x3F800000#32)) (addf (broadcastInDim S2048x1024 ![] bcast_S_S2048x1024 (constant S_ .f32 0x3F800000#32)) (Host.exp (Host.negf (addf (Host.dotGeneral (F := Ideal) dot_S2048x1024_S1024x1024_S2048x1024_1_0_0_1_n_n none a0 a2) (broadcastInDim S2048x1024 ![0, 1] bcast_S1x1024_S2048x1024_0_1 a4))))))
/-- The reference's side product. -/
def sideT : FVec Ideal S2048x1024 .f32 := (Host.dotGeneral (F := Ideal) dot_S2048x256_S256x1024_S2048x1024_1_0_0_1_n_n none a1 a3)
theorem gateT_at (f : Fin 1024) : gateT a0 a2 a4 (ix2 t f) = SideInput.gate (fun d => a0 (ix2 t d)) (fun d => a2 (ix2 d f)) (a4 (ix2 0 f)) := by
  pointwise [gateT]
  rfl
theorem sideT_at (f : Fin 1024) : sideT a1 a3 (ix2 t f) = SideInput.side (fun d => a1 (ix2 t d)) (fun d => a3 (ix2 d f)) := by
  pointwise [sideT]
  rfl
/-- The results of the reference. -/
theorem out_at (f : Fin 1024) : addf (F := Ideal) a0 (mulf (gateT a0 a2 a4) (sideT a1 a3)) (ix2 t f)
    = SideInput.out (fun d => a0 (ix2 t d)) (fun d => a2 (ix2 d f)) (a4 (ix2 0 f)) (fun d => a1 (ix2 t d)) (fun d => a3 (ix2 d f)) f := by
  pointwise
  rw [gateT_at, sideT_at]
  rfl
theorem gate_at (f : Fin 1024) : truncf (F := Ideal) .bf16 (gateT a0 a2 a4) bitsLt_bf16_f32 (ix2 t f)
    = SideInput.gate (fun d => a0 (ix2 t d)) (fun d => a2 (ix2 d f)) (a4 (ix2 0 f)) := by
  refine Eq.trans ?_ (gateT_at a0 a2 a4 t f)
  pointwise
theorem side_at (f : Fin 1024) : truncf (F := Ideal) .bf16 (sideT a1 a3) bitsLt_bf16_f32 (ix2 t f)
    = SideInput.side (fun d => a1 (ix2 t d)) (fun d => a3 (ix2 d f)) := by
  refine Eq.trans ?_ (sideT_at a1 a3 t f)
  pointwise
theorem copy_x (d : Fin 1024) : truncf (F := Ideal) .bf16 a0 bitsLt_bf16_f32 (ix2 t d) = a0 (ix2 t d) := by
  pointwise
theorem copy_p (d : Fin 256) : truncf (F := Ideal) .bf16 a1 bitsLt_bf16_f32 (ix2 t d) = a1 (ix2 t d) := by
  pointwise

end Cert.Reference10Ideal.Hand

end
-- ==== Proof.Calls2.lean ====
module
public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Calls
public import proofs.«01_k».proof.Proof.In
public import proofs.«01_k».proof.Proof.Out
public import proofs.«01_k».proof.Proof.Ple
public import Idealize.ShloMosaic.Adequacy
public import Idealize.ShloMosaic.Init
@[expose] public section
noncomputable section

/-! The calls of the forward pass around the mixing layer and the side input: each ends with its reference's
values. -/

namespace Cert.Calls

open Idealize.ShloMosaic Idealize.SL.Sem

/-- The reference runs and leaves its arguments as they were. -/
theorem frame7 : Cert.quiescent_Reference7Ideal (hReference7Ideal := Cert.Reference7Ideal.Gen.facts) :=
  fun m g _ => (θ_run _ _ _).mono
    (fun r h => ⟨fun c => (h c).2.2.2, Idealize.ShloMosaic.sem_eq_zero_of_no_sems (by decide) r.2⟩)
    (Cert.Reference7Ideal.Value.run (F := Ideal) m g)

/-- The reference runs and leaves its arguments as they were. -/
theorem frame8 : Cert.quiescent_Reference8Ideal (hReference8Ideal := Cert.Reference8Ideal.Gen.facts) :=
  fun m g _ => (θ_run _ _ _).mono
    (fun r h => ⟨fun c => (h c).2.2, Idealize.ShloMosaic.sem_eq_zero_of_no_sems (by decide) r.2⟩)
    (Cert.Reference8Ideal.Value.run (F := Ideal) m g)

/-- The reference runs and leaves its arguments as they were. -/
theorem frame9 : Cert.quiescent_Reference9Ideal (hReference9Ideal := Cert.Reference9Ideal.Gen.facts) :=
  fun m g _ => (θ_run _ _ _).mono
    (fun r h => ⟨fun c => (h c).2.2.2, Idealize.ShloMosaic.sem_eq_zero_of_no_sems (by decide) r.2⟩)
    (Cert.Reference9Ideal.Value.run (F := Ideal) m g)

/-- The reference runs and leaves its arguments as they were. -/
theorem frame10 : Cert.quiescent_Reference10Ideal (hReference10Ideal := Cert.Reference10Ideal.Gen.facts) :=
  fun m g _ => (θ_run _ _ _).mono
    (fun r h => ⟨fun c => (h c).2.2.2.2.2, Idealize.ShloMosaic.sem_eq_zero_of_no_sems (by decide) r.2⟩)
    (Cert.Reference10Ideal.Value.run (F := Ideal) m g)

/-- An input projection, the rounded copies of its rows and of its first part. -/
theorem in_even_equal : Cert.algebraic_Kernel7Ideal_Reference7Ideal (hKernel7Ideal := Cert.Kernel7Ideal.Gen.facts)
    (hReference7Ideal := Cert.Reference7Ideal.Gen.facts) := by
  intro m g m' g' _ ha
  refine ⟨fun c => (Cert.Kernel7Ideal.Gen.dats m 0 c).arrAt 2 Cert.Kernel7Ideal.cfg0.N,
    fun c => (Cert.Kernel7Ideal.Gen.dats m 0 c).arrAt 3 Cert.Kernel7Ideal.cfg0.N,
    fun c => (Cert.Kernel7Ideal.Gen.dats m 0 c).arrAt 4 Cert.Kernel7Ideal.cfg0.N,
    Cert.Kernel7Ideal.Value.run_blocks (F := Ideal) m g, (θ_run _ _ _).mono (fun r h c =>
      ⟨(h c).1.trans ?_, (h c).2.1.trans ?_, (h c).2.2.1.trans ?_, (h c).2.2.2⟩)
      (Cert.Reference7Ideal.Value.run (F := Ideal) m' g')⟩
  · refine ext_rows _ _ fun i j => ?_
    refine (Cert.Reference7Ideal.Hand.proj_at _ _ i j).trans (Eq.trans ?_ (Cert.Kernel7Ideal.Hand.fin2 m c i j).symm)
    rw [(ha c).1, (ha c).2]
  · refine ext_rows _ _ fun i j => ?_
    refine (Cert.Reference7Ideal.Hand.copy_at _ i j).trans (Eq.trans ?_ (Cert.Kernel7Ideal.Hand.fin3 m c i j).symm)
    rw [(ha c).1]
  · refine ext_rows _ _ fun i j => ?_
    refine (Cert.Reference7Ideal.Hand.part_at _ _ i j).trans (Eq.trans ?_ (Cert.Kernel7Ideal.Hand.fin4 m c i j).symm)
    rw [(ha c).1, (ha c).2]

/-- An input projection and the rounded copy of its rows. -/
theorem in_odd_equal : Cert.algebraic_Kernel8Ideal_Reference8Ideal (hKernel8Ideal := Cert.Kernel8Ideal.Gen.facts)
    (hReference8Ideal := Cert.Reference8Ideal.Gen.facts) := by
  intro m g m' g' _ ha
  refine ⟨fun c => (Cert.Kernel8Ideal.Gen.dats m 0 c).arrAt 2 Cert.Kernel8Ideal.cfg0.N,
    fun c => (Cert.Kernel8Ideal.Gen.dats m 0 c).arrAt 3 Cert.Kernel8Ideal.cfg0.N,
    Cert.Kernel8Ideal.Value.run_blocks (F := Ideal) m g, (θ_run _ _ _).mono (fun r h c =>
      ⟨(h c).1.trans ?_, (h c).2.1.trans ?_, (h c).2.2⟩)
      (Cert.Reference8Ideal.Value.run (F := Ideal) m' g')⟩
  · refine ext_rows _ _ fun i j => ?_
    refine (Cert.Reference8Ideal.Hand.proj_at _ _ i j).trans (Eq.trans ?_ (Cert.Kernel8Ideal.Hand.fin2 m c i j).symm)
    rw [(ha c).1, (ha c).2]
  · refine ext_rows _ _ fun i j => ?_
    refine (Cert.Reference8Ideal.Hand.copy_at _ i j).trans (Eq.trans ?_ (Cert.Kernel8Ideal.Hand.fin3 m c i j).symm)
    rw [(ha c).1]

/-- The mixing layer's output, its normalised rows and their inverse deviations. -/
theorem out_equal : Cert.algebraic_Kernel9Ideal_Reference9Ideal (hKernel9Ideal := Cert.Kernel9Ideal.Gen.facts)
    (hReference9Ideal := Cert.Reference9Ideal.Gen.facts) := by
  intro m g m' g' _ ha
  refine ⟨fun c => (Cert.Kernel9Ideal.Gen.dats m 0 c).arrAt 6 Cert.Kernel9Ideal.cfg0.N,
    fun c => (Cert.Kernel9Ideal.Gen.dats m 0 c).arrAt 7 Cert.Kernel9Ideal.cfg0.N,
    fun c => (Cert.Kernel9Ideal.Gen.dats m 0 c).arrAt 8 Cert.Kernel9Ideal.cfg0.N,
    Cert.Kernel9Ideal.Value.run_blocks (F := Ideal) m g, (θ_run _ _ _).mono (fun r h c =>
      ⟨(h c).1.trans ((Cert.Reference9Ideal.Hand.res0 m' c).trans ?_), (h c).2.1.trans ?_, (h c).2.2.1.trans ?_, (h c).2.2.2⟩)
      (Cert.Reference9Ideal.Value.run (F := Ideal) m' g')⟩
  · refine ext_rows _ _ fun i j => ?_
    refine (Cert.Reference9Ideal.Hand.y_at (fun d => Cert.Reference9Ideal.Hand.preM_at m' c i d) _ _ j).trans (Eq.trans ?_ (Cert.Kernel9Ideal.Hand.fin6 m c i j).symm)
    rw [(ha c).1, (ha c).2.1, (ha c).2.2.1, (ha c).2.2.2.1, (ha c).2.2.2.2.1, (ha c).2.2.2.2.2]
    rfl
  · refine ext_rows _ _ fun i j => ?_
    refine (Cert.Reference9Ideal.Hand.xh_at (fun d => Cert.Reference9Ideal.Hand.preM_at m' c i d) j).trans (Eq.trans ?_ (Cert.Kernel9Ideal.Hand.fin7 m c i j).symm)
    rw [(ha c).1, (ha c).2.1, (ha c).2.2.1, (ha c).2.2.2.1]
    rfl
  · refine ext_rows _ _ fun i j => ?_
    refine (Cert.Reference9Ideal.Hand.rs_at (fun d => Cert.Reference9Ideal.Hand.preM_at m' c i d) j).trans (Eq.trans ?_ (Cert.Kernel9Ideal.Hand.fin8 m c i j).symm)
    rw [(ha c).1, (ha c).2.1, (ha c).2.2.1, (ha c).2.2.2.1]
    rfl

/-- The gated sum with the side input, and the rounded values kept for the backward pass. -/
theorem ple_equal : Cert.algebraic_Kernel10Ideal_Reference10Ideal (hKernel10Ideal := Cert.Kernel10Ideal.Gen.facts)
    (hReference10Ideal := Cert.Reference10Ideal.Gen.facts) := by
  intro m g m' g' _ ha
  refine ⟨fun c => (Cert.Kernel10Ideal.Gen.dats m 0 c).arrAt 5 Cert.Kernel10Ideal.cfg0.N,
    fun c => (Cert.Kernel10Ideal.Gen.dats m 0 c).arrAt 6 Cert.Kernel10Ideal.cfg0.N,
    fun c => (Cert.Kernel10Ideal.Gen.dats m 0 c).arrAt 7 Cert.Kernel10Ideal.cfg0.N,
    fun c => (Cert.Kernel10Ideal.Gen.dats m 0 c).arrAt 8 Cert.Kernel10Ideal.cfg0.N,
    fun c => (Cert.Kernel10Ideal.Gen.dats m 0 c).arrAt 9 Cert.Kernel10Ideal.cfg0.N,
    Cert.Kernel10Ideal.Value.run_blocks (F := Ideal) m g, (θ_run _ _ _).mono (fun r h c =>
      ⟨(h c).1.trans ?_, (h c).2.1.trans ?_, (h c).2.2.1.trans ?_, (h c).2.2.2.1.trans ?_, (h c).2.2.2.2.1.trans ?_, (h c).2.2.2.2.2⟩)
      (Cert.Reference10Ideal.Value.run (F := Ideal) m' g')⟩
  · refine ext_rows _ _ fun i j => ?_
    refine (Cert.Reference10Ideal.Hand.out_at _ _ _ _ _ i j).trans (Eq.trans ?_ (Cert.Kernel10Ideal.Hand.fin5 m c i j).symm)
    rw [(ha c).1, (ha c).2.1, (ha c).2.2.1, (ha c).2.2.2.1, (ha c).2.2.2.2]
    rfl
  · refine ext_rows _ _ fun i j => ?_
    refine (Cert.Reference10Ideal.Hand.gate_at _ _ _ i j).trans (Eq.trans ?_ (Cert.Kernel10Ideal.Hand.fin6 m c i j).symm)
    rw [(ha c).1, (ha c).2.2.1, (ha c).2.2.2.2]
    rfl
  · refine ext_rows _ _ fun i j => ?_
    refine (Cert.Reference10Ideal.Hand.side_at _ _ i j).trans (Eq.trans ?_ (Cert.Kernel10Ideal.Hand.fin7 m c i j).symm)
    rw [(ha c).2.1, (ha c).2.2.2.1]
    rfl
  · refine ext_rows _ _ fun i j => ?_
    refine (Cert.Reference10Ideal.Hand.copy_x _ i j).trans (Eq.trans ?_ (Cert.Kernel10Ideal.Hand.fin8 m c i j).symm)
    rw [(ha c).1]
  · refine ext_rows _ _ fun i j => ?_
    refine (Cert.Reference10Ideal.Hand.copy_p _ i j).trans (Eq.trans ?_ (Cert.Kernel10Ideal.Hand.fin9 m c i j).symm)
    rw [(ha c).2.1]

end Cert.Calls

end
-- ==== Proof.Acc.lean ====
module
public import proofs.«01_k».proof.Proof.Cols
@[expose] public section
set_option maxRecDepth 16384
noncomputable section

/-! Stores and loads of whole rows of an array, and a sum gathered over the points of a grid. -/

namespace Gather
open Idealize.ShloMosaic

/-- What the points up to `n` add. -/
def upTo (P : ℕ → EReal) : ℕ → EReal
  | 0 => P 0
  | n + 1 => upTo P n + P (n + 1)

/-- The token of row `a` of block `q`. -/
def row (q : ℕ) (a : Fin 512) : Fin 2048 := ⟨(512 * q + a.val) % 2048, Nat.mod_lt _ (by decide)⟩
theorem row_val {q : ℕ} (h : q < 4) (a : Fin 512) : (row q a).val = 512 * q + a.val := Nat.mod_eq_of_lt (by omega)

/-- A sum over the tokens as what four blocks add. -/
theorem all (f : Fin 2048 → EReal) : ∑ t : Fin 2048, f t = upTo (fun q => ∑ a : Fin 512, f (row q a)) 3 := by
  rw [Columns.split4]
  have e : ∀ (q : ℕ) (_ : q < 4) (o : ℕ) (g : Fin 512 → Fin 2048), o = 512 * q → (∀ a, (g a).val = o + a.val) → ∑ a, f (g a) = ∑ a : Fin 512, f (row q a) :=
    fun q h o g eo hg => Finset.sum_congr rfl fun a _ => congrArg f (Fin.ext ((hg a).trans (eo ▸ (row_val h a).symm)))
  exact congrArg₂ (· + ·) (congrArg₂ (· + ·) (congrArg₂ (· + ·) (e 0 (by decide) 0 _ rfl fun a => (Nat.zero_add _).symm) (e 1 (by decide) 512 _ rfl fun a => rfl))
    (e 2 (by decide) 1024 _ rfl fun a => rfl)) (e 3 (by decide) 1536 _ rfl fun a => rfl)

/-- What is gathered point by point is the sum of what the points add. -/
theorem gathered {N : ℕ} (S : (n : ℕ) → n < N → EReal) (P : ℕ → EReal)
    (h0 : ∀ t : Fin N, t.val = 0 → S t.val t.isLt = P 0)
    (hs : ∀ (t : Fin N) (h : t.val - 1 < N), 1 ≤ t.val → S t.val t.isLt = S (t.val - 1) h + P t.val) :
    ∀ (n : ℕ) (h : n < N), S n h = upTo P n
  | 0, h => h0 ⟨0, h⟩ rfl
  | n + 1, h => (hs ⟨n + 1, h⟩ (by show n + 1 - 1 < N; omega) (by show 1 ≤ n + 1; omega)).trans
      (congrArg (· + P (n + 1)) (gathered S P h0 hs n (by omega)))

section
variable {e : EltTy} {R C : ℕ} (L : List (View.Piece (Elt Ideal) ⟨2, ![R, C]⟩ e)) (o n : ℕ) (h : ∀ x, (![o, 0] : Fin 2 → ℕ) x + (![n, C] : Fin 2 → ℕ) x ≤ (![R, C] : Fin 2 → ℕ) x)

/-- A row the last store wrote. -/
theorem canon_mem (w : Vec Ideal ⟨2, ![n, C]⟩ e) (i : Fin R) (j : Fin C) (k : Fin n) (hk : i.val = o + k.val) :
    View.canon ((⟨Rect.unit (s := ⟨2, ![R, C]⟩) ![o, 0] ![n, C] h, w⟩ : View.Piece (Elt Ideal) ⟨2, ![R, C]⟩ e) :: L) (ix2 i j) = w (ix2 k j) := by
  have e0 : (Rect.unit (s := ⟨2, ![R, C]⟩) ![o, 0] ![n, C] h).emb (ix2 k j) = (ix2 i j : (⟨2, ![R, C]⟩ : Shape).Idx) := by
    funext y; refine Fin.ext ?_
    match y with
    | ⟨0, _⟩ => show o + 1 * k.val = i.val; omega
    | ⟨1, _⟩ => show 0 + 1 * j.val = j.val; omega
  rw [← e0]
  exact View.canon_cons_emb (r := Rect.unit (s := ⟨2, ![R, C]⟩) ![o, 0] ![n, C] h) w L (ix2 k j)

/-- A row the last store did not write. -/
theorem canon_not (w : Vec Ideal ⟨2, ![n, C]⟩ e) (i : Fin R) (j : Fin C) (hi : i.val < o ∨ o + n ≤ i.val) :
    View.canon ((⟨Rect.unit (s := ⟨2, ![R, C]⟩) ![o, 0] ![n, C] h, w⟩ : View.Piece (Elt Ideal) ⟨2, ![R, C]⟩ e) :: L) (ix2 i j) = View.canon L (ix2 i j) := by
  refine View.canon_cons_of_not_mem _ L ?_
  show ix2 i j ∉ (Rect.unit (s := ⟨2, ![R, C]⟩) ![o, 0] ![n, C] h).set
  rw [Rect.mem_set_unit]
  intro hm
  have h1 : o ≤ i.val ∧ i.val < o + n := hm 0
  omega

/-- Loading rows of an array just stored in pieces. -/
theorem cov_at {sig : RefSig} {κ : Kind} {sp : Space} (V : View sig κ sp ⟨2, ![R, C]⟩ e) (i : Fin R) (j : Fin C) (k : Fin n) (hk : i.val = o + k.val) :
    V.readCov L (Rect.unit (s := ⟨2, ![R, C]⟩) ![o, 0] ![n, C] h).toLoadRect (ix2 k j) = View.canon L (ix2 i j) := by
  rw [View.readCov_eq_canon']
  refine congrArg (View.canon L) ?_
  funext y; refine Fin.ext ?_
  match y with
  | ⟨0, _⟩ => show o + 1 * k.val = i.val; omega
  | ⟨1, _⟩ => show 0 + 1 * j.val = j.val; omega

/-- Loading rows of an array. -/
theorem ld_at (X : Vec Ideal ⟨2, ![R, C]⟩ e) (i : Fin R) (j : Fin C) (k : Fin n) (hk : i.val = o + k.val) :
    View.ld X (Rect.unit (s := ⟨2, ![R, C]⟩) ![o, 0] ![n, C] h) (ix2 k j) = X (ix2 i j) := by
  refine congrArg X ?_
  funext y; refine Fin.ext ?_
  match y with
  | ⟨0, _⟩ => show o + 1 * k.val = i.val; omega
  | ⟨1, _⟩ => show 0 + 1 * j.val = j.val; omega
end

/-- An array stored in two halves of its rows. -/
theorem canon2 {e : EltTy} {C : ℕ} (L : List (View.Piece (Elt Ideal) ⟨2, ![1024, C]⟩ e)) {G : Fin 1024 → Fin C → Elt Ideal e} (h0) (h1) (w0 w1 : Vec Ideal ⟨2, ![512, C]⟩ e)
    (e0 : ∀ (k : Fin 512) (j : Fin C), w0 (ix2 k j) = G ⟨k.val, by omega⟩ j) (e1 : ∀ (k : Fin 512) (j : Fin C), w1 (ix2 k j) = G ⟨512 + k.val, by omega⟩ j)
    (i : Fin 1024) (j : Fin C) :
    View.canon ((⟨Rect.unit (s := ⟨2, ![1024, C]⟩) ![512, 0] ![512, C] h1, w1⟩ : View.Piece (Elt Ideal) ⟨2, ![1024, C]⟩ e)
      :: ⟨Rect.unit (s := ⟨2, ![1024, C]⟩) ![0, 0] ![512, C] h0, w0⟩ :: L) (ix2 i j) = G i j := by
  by_cases c1 : 512 ≤ i.val
  · refine (canon_mem _ 512 512 h1 w1 i j ⟨i.val - 512, by omega⟩ (by show i.val = 512 + (i.val - 512); omega)).trans ((e1 _ _).trans ?_)
    exact congrArg (G · j) (Fin.ext (by show 512 + (i.val - 512) = i.val; omega))
  refine (canon_not _ 512 512 h1 w1 i j (Or.inl (by omega))).trans ?_
  exact (canon_mem _ 0 512 h0 w0 i j ⟨i.val, by omega⟩ (by show i.val = 0 + i.val; omega)).trans (e0 _ _)

end Gather

end
-- ==== Proof.NormBwd.lean ====
module
public import proofs.«01_k».proof.Proof.Norm
public import proofs.«01_k».proof.Proof.Spec
@[expose] public section
noncomputable section

/-! The derivative of the normalisation of a row: the form that subtracts two means and the form
differentiation by parts gives are equal where the row and the gradient are finite. -/

namespace RowNorm
open Idealize.ShloMosaic
open StickBreak (coe_sum)

/-- The gradient less its mean and less its part along a row, scaled. -/
def less (r : EReal) (h x : Fin 1024 → EReal) (d : Fin 1024) : EReal := r * ((x d - mean x) - h d * mean (fun k => x k * h k))
/-- The derivative, as the gradient less its mean and less its part along the normalised row. -/
def bwd (u x : Fin 1024 → EReal) (d : Fin 1024) : EReal := less (rs u) (xh u) x d

/-- The variance the root is taken of. -/
def ve (u : Fin 1024 → EReal) : EReal := mean (fun x => cen u x * cen u x) + Ideal.ofBits .f32 925353388#32
/-- The gradient through the scale alone. -/
def thru (u x : Fin 1024 → EReal) (d : Fin 1024) : EReal := x d * rs u
/-- The gradient of the variance, over the row's length. -/
def dvar (u x : Fin 1024 → EReal) : EReal :=
  Ideal.div ((∑ k : Fin 1024, cen u k * x k) * (Ideal.ofBits .f32 0xBF000000#32 * Ideal.div (rs u) (ve u))) (Ideal.ofBits .f32 1149239296#32)
/-- The gradient through the variance. -/
def vari (u x : Fin 1024 → EReal) (d : Fin 1024) : EReal := dvar u x * (Ideal.ofBits .f32 0x40000000#32 * cen u d)
/-- The derivative, as differentiation by parts gives it. -/
def parts (u x : Fin 1024 → EReal) (d : Fin 1024) : EReal :=
  (thru u x d + vari u x d) + Ideal.div ((∑ k : Fin 1024, -thru u x k) + ∑ k : Fin 1024, -vari u x k) (Ideal.ofBits .f32 1149239296#32)

theorem len_real : Ideal.ofBits .f32 1149239296#32 = ((1024 : ℝ) : EReal) := by
  simp [Ideal.ofBits, Ideal.ieee, -EReal.coe_mul]; norm_num
theorem half_real : Ideal.ofBits .f32 0xBF000000#32 = ((-(1 / 2) : ℝ) : EReal) := by
  simp [Ideal.ofBits, Ideal.ieee, -EReal.coe_mul, -EReal.coe_neg]; norm_num
theorem two_real : Ideal.ofBits .f32 0x40000000#32 = ((2 : ℝ) : EReal) := by
  simp [Ideal.ofBits, Ideal.ieee, -EReal.coe_mul]; norm_num
theorem eps_real : ∃ e : ℝ, 0 < e ∧ Ideal.ofBits .f32 925353388#32 = (e : EReal) := by
  refine ⟨_, ?_, by simp only [Ideal.ofBits, Ideal.ieee]; simp [-EReal.coe_mul]; rfl⟩
  positivity

theorem div_len (a : ℝ) : Ideal.div (a : EReal) (Ideal.ofBits .f32 1149239296#32) = ((a / 1024 : ℝ) : EReal) := by
  rw [len_real, Ideal.div_coe (by norm_num), ← EReal.coe_mul, mul_one_div]

theorem mean_real (f : Fin 1024 → EReal) (F : Fin 1024 → ℝ) (h : ∀ k, f k = (F k : EReal)) : mean f = (((∑ k, F k) / 1024 : ℝ) : EReal) := by
  unfold mean
  rw [Finset.sum_congr rfl fun k _ => h k, ← coe_sum, div_len]

/-- The mean of a real row. -/
def meanR (U : Fin 1024 → ℝ) : ℝ := (∑ k, U k) / 1024
/-- A real row about its mean. -/
def cenR (U : Fin 1024 → ℝ) (d : Fin 1024) : ℝ := U d - meanR U

theorem cenR_sum (U : Fin 1024 → ℝ) : ∑ k, cenR U k = 0 := by
  unfold cenR meanR
  rw [Finset.sum_sub_distrib]
  simp only [Finset.sum_const, Finset.card_univ, Fintype.card_fin, nsmul_eq_mul]
  push_cast
  ring

section real
variable {u x : Fin 1024 → EReal} {U X : Fin 1024 → ℝ} (hu : ∀ k, u k = (U k : EReal)) (hx : ∀ k, x k = (X k : EReal))
include hu
theorem cen_real (d : Fin 1024) : cen u d = ((cenR U d : ℝ) : EReal) := by
  unfold cen cenR meanR
  rw [mean_real u U hu, hu, ← EReal.coe_sub]

theorem ve_real : ∃ V : ℝ, 0 < V ∧ ve u = (V : EReal) := by
  obtain ⟨e, he, h⟩ := eps_real
  refine ⟨(∑ k, cenR U k * cenR U k) / 1024 + e, ?_, ?_⟩
  · have : 0 ≤ ∑ k, cenR U k * cenR U k := Finset.sum_nonneg fun k _ => mul_self_nonneg _
    positivity
  · unfold ve
    rw [mean_real _ (fun k => cenR U k * cenR U k) fun k => by rw [cen_real hu k, ← EReal.coe_mul], h, ← EReal.coe_add]

theorem rs_real : ∃ R V : ℝ, V ≠ 0 ∧ ve u = (V : EReal) ∧ rs u = (R : EReal) ∧ R * R * V = 1 := by
  obtain ⟨V, hV, h⟩ := ve_real hu
  refine ⟨(Real.sqrt V)⁻¹, V, hV.ne', h, ?_, ?_⟩
  · show Ideal.rsqrt (ve u) = _
    rw [h, Ideal.rsqrt_coe, if_neg hV.le.not_gt, if_neg hV.ne']
  · rw [← mul_inv, Real.mul_self_sqrt hV.le, inv_mul_cancel₀ hV.ne']

theorem xh_real : ∃ R : ℝ, rs u = (R : EReal) ∧ ∀ d, xh u d = ((cenR U d * R : ℝ) : EReal) := by
  obtain ⟨R, V, _, _, h, _⟩ := rs_real hu
  exact ⟨R, h, fun d => by unfold xh; rw [cen_real hu, h, ← EReal.coe_mul]⟩

include hx
/-- The two forms of the derivative agree on finite rows. -/
theorem bwd_eq (d : Fin 1024) : bwd u x d = parts u x d := by
  obtain ⟨R, V, hV, hv, hr, hR⟩ := rs_real hu
  have hxh : ∀ k, xh u k = ((cenR U k * R : ℝ) : EReal) := fun k => by unfold xh; rw [cen_real hu, hr, ← EReal.coe_mul]
  have hth : ∀ k, thru u x k = ((X k * R : ℝ) : EReal) := fun k => by unfold thru; rw [hx, hr, ← EReal.coe_mul]
  have hdv : dvar u x = (((∑ k, cenR U k * X k) * (-(1 / 2) * (R / V)) / 1024 : ℝ) : EReal) := by
    unfold dvar
    rw [Finset.sum_congr rfl fun k _ => show cen u k * x k = ((cenR U k * X k : ℝ) : EReal) by rw [cen_real hu, hx, ← EReal.coe_mul],
      ← coe_sum, hr, hv, half_real, Ideal.div_coe hV, ← EReal.coe_mul, ← EReal.coe_mul, ← EReal.coe_mul, div_len, mul_one_div]
  have hva : ∀ k, vari u x k = (((∑ k, cenR U k * X k) * (-(1 / 2) * (R / V)) / 1024 * (2 * cenR U k) : ℝ) : EReal) := fun k => by
    unfold vari
    rw [hdv, two_real, cen_real hu, ← EReal.coe_mul, ← EReal.coe_mul]
  unfold bwd less parts
  rw [mean_real x X hx, mean_real _ (fun k => X k * (cenR U k * R)) fun k => by rw [hx, hxh, ← EReal.coe_mul], hr, hx, hxh, hth, hva,
    Finset.sum_congr rfl fun k _ => show -thru u x k = ((-(X k * R) : ℝ) : EReal) by rw [hth, ← EReal.coe_neg],
    Finset.sum_congr rfl fun k _ => show -vari u x k = ((-((∑ k, cenR U k * X k) * (-(1 / 2) * (R / V)) / 1024 * (2 * cenR U k)) : ℝ) : EReal) by rw [hva, ← EReal.coe_neg],
    ← coe_sum, ← coe_sum, ← EReal.coe_add, ← EReal.coe_add, div_len, ← EReal.coe_sub, ← EReal.coe_mul, ← EReal.coe_sub, ← EReal.coe_mul, ← EReal.coe_add]
  refine congrArg _ ?_
  have e1 : ∑ k, X k * (cenR U k * R) = (∑ k, cenR U k * X k) * R := by
    rw [Finset.sum_mul]
    exact Finset.sum_congr rfl fun k _ => by ring
  have e2 : ∑ k, -(X k * R) = -(∑ k, X k) * R := by
    rw [Finset.sum_neg_distrib, ← Finset.sum_mul, neg_mul]
  have e3 : ∀ a : ℝ, ∑ k, -(a * (2 * cenR U k)) = 0 := fun a => by
    rw [Finset.sum_neg_distrib, ← Finset.mul_sum, ← Finset.mul_sum, cenR_sum, mul_zero, mul_zero, neg_zero]
  have e4 : R / V = R * R * R := by
    rw [div_eq_iff hV]
    calc R = R * (R * R * V) := by rw [hR, mul_one]
      _ = R * R * R * V := by ring
  rw [e1, e2, e3, e4]
  ring
end real

end RowNorm

end
-- ==== Proof.Mix.lean ====
module
public import Idealize.ShloMosaic.Lib.Pointwise
public import Idealize.ShloMosaic.Lib.StableHlo.ReadAt
public import Idealize.ShloMosaic.Lib.Pipeline.ValueKit.Basic
public import proofs.«01_k».proof.Proof.Acc
public import proofs.«01_k».proof.Proof.NormBwd
public import proofs.«01_k».proof.Proof.Down
public import proofs.«01_k».proof.Proof.At
public import proofs.«01_k».proof.Proof.Gen.Kernel12Ideal.Value
@[expose] public section
set_option maxRecDepth 16384
noncomputable section

/-! The gradient of the output projection, its residual and its normalisation: what the launch leaves at every index.
Everything holds over the extended real numbers. -/

namespace Cert.Kernel12Ideal.Hand
open Cert.Kernel12Ideal Cert.Kernel12Ideal.Gen Cert.Kernel12Ideal.Value Idealize.ShloMosaic Idealize.ShloMosaic.TcCoe
open RowNorm
open Gather (upTo row row_val)

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Rows 2048 1024 512 1024 t.val (((cfg0.win 1).blk t).view.read (Elt Ideal)) :=
  Gather.rows (ix := win0_1.index)
theorem read_blk2 : ∀ t : Fin cfg0.N, Gather.Rows 2048 1024 512 1024 t.val (((cfg0.win 2).blk t).view.read (Elt Ideal)) :=
  Gather.rows (ix := win0_2.index)
theorem read_blk3 : ∀ t : Fin cfg0.N, Gather.Rows 2048 1 512 1 t.val (((cfg0.win 3).blk t).view.read (Elt Ideal)) :=
  Gather.rows (ix := win0_3.index)
theorem read_blk4 : ∀ t : Fin cfg0.N, Gather.Rows 2048 512 512 512 t.val (((cfg0.win 4).blk t).view.read (Elt Ideal)) :=
  Gather.rows (ix := win0_4.index)
theorem read_blk5 : ∀ t : Fin cfg0.N, Gather.Rows 2048 512 512 512 t.val (((cfg0.win 5).blk t).view.read (Elt Ideal)) :=
  Gather.rows (ix := win0_5.index)
theorem read_blk6 : ∀ t : Fin cfg0.N, Gather.Whole 1 1024 (((cfg0.win 6).blk t).view.read (Elt Ideal)) :=
  Gather.whole (ix := win0_6.index)
theorem read_blk7 : ∀ t : Fin cfg0.N, Gather.Whole 1024 1024 (((cfg0.win 7).blk t).view.read (Elt Ideal)) :=
  Gather.whole (ix := win0_7.index)
theorem read_blk8 : ∀ t : Fin cfg0.N, Gather.Rows 2048 1024 512 1024 t.val (((cfg0.win 8).blk t).view.read (Elt Ideal)) :=
  Gather.rows (ix := win0_8.index)
theorem all8 : ∀ t : Fin cfg0.N, (cfg0.win 8).flush t = true := (by decide +kernel : ∀ t : Fin grid0.N, _)
theorem read_blk9 : ∀ t : Fin cfg0.N, Gather.Rows 2048 1024 512 1024 t.val (((cfg0.win 9).blk t).view.read (Elt Ideal)) :=
  Gather.rows (ix := win0_9.index)
theorem all9 : ∀ t : Fin cfg0.N, (cfg0.win 9).flush t = true := (by decide +kernel : ∀ t : Fin grid0.N, _)
theorem read_blk10 : ∀ t : Fin cfg0.N, Gather.Whole 1 1024 (((cfg0.win 10).blk t).view.read (Elt Ideal)) :=
  Gather.whole (ix := win0_10.index)
theorem read_blk11 : ∀ t : Fin cfg0.N, Gather.Whole 1 1024 (((cfg0.win 11).blk t).view.read (Elt Ideal)) :=
  Gather.whole (ix := win0_11.index)
theorem read_blk12 : ∀ t : Fin cfg0.N, Gather.Whole 1024 1024 (((cfg0.win 12).blk t).view.read (Elt Ideal)) :=
  Gather.whole (ix := win0_12.index)

/-- The arrays the launch reads, entry by entry. -/
structure Arrs where
  dy : Fin 2048 → Fin 1024 → EReal
  xh : Fin 2048 → Fin 1024 → EReal
  rs : Fin 2048 → EReal
  l : Fin 2048 → Fin 1024 → EReal
  g : Fin 1024 → EReal
  w : Fin 1024 → Fin 1024 → EReal
variable (A : Arrs)
/-- The gradient before the normalisation. -/
def drv (t : Fin 2048) (d : Fin 1024) : EReal := less (A.rs t) (A.xh t) (fun k => A.dy t k * A.g k) d
/-- The gradient of the projection's input. -/
def dlv (t : Fin 2048) (j : Fin 1024) : EReal := ∑ d : Fin 1024, drv A t d * A.w j d
/-- The gradient of the projection's weights. -/
def dwv (i d : Fin 1024) : EReal := ∑ t : Fin 2048, A.l t i * drv A t d
/-- The gradient of the normalisation's scale. -/
def dgv (d : Fin 1024) : EReal := ∑ t : Fin 2048, A.dy t d * A.xh t d
/-- The gradient of the normalisation's shift. -/
def dbv (d : Fin 1024) : EReal := ∑ t : Fin 2048, A.dy t d

section Block
variable {x0 x1 x2 : Vec Ideal S512x1024 .f32} {x3 : Vec Ideal S512x1 .f32} {x4 x5 : Vec Ideal S512x512 .bf16} {x6 : Vec Ideal S1x1024 .f32} {x7 : Vec Ideal S1024x1024 .bf16}
/-- What a block's rows hold, as rows of whole arrays. -/
structure Rows (x0 x1 x2 : Vec Ideal S512x1024 .f32) (x3 : Vec Ideal S512x1 .f32) (x4 x5 : Vec Ideal S512x512 .bf16) (x6 : Vec Ideal S1x1024 .f32) (x7 : Vec Ideal S1024x1024 .bf16)
    (A : Arrs) (T : Fin 512 → Fin 2048) : Prop where
  dy : ∀ (a : Fin 512) (d : Fin 1024), Ideal.ofBits FTy.f32 1068827891#32 * x1 (ix2 a d) + x0 (ix2 a d) = A.dy (T a) d
  xh : ∀ (a : Fin 512) (d : Fin 1024), x2 (ix2 a d) = A.xh (T a) d
  rs : ∀ (a : Fin 512), x3 (ix2 a 0) = A.rs (T a)
  l1 : ∀ (a : Fin 512) (k : Fin 512), x4 (ix2 a k) = A.l (T a) ⟨k.val, by omega⟩
  l2 : ∀ (a : Fin 512) (k : Fin 512), x5 (ix2 a k) = A.l (T a) ⟨512 + k.val, by omega⟩
  g : ∀ (d : Fin 1024), x6 (ix2 0 d) = A.g d
  w : ∀ (j d : Fin 1024), x7 (ix2 j d) = A.w j d
variable {A : Arrs} {T : Fin 512 → Fin 2048} (R : Rows x0 x1 x2 x3 x4 x5 x6 x7 A T)
include R
theorem dy_of (a : Fin 512) (d : Fin 1024) : k0_pay4 (F := Ideal) x1 x0 (ix2 a d) = A.dy (T a) d := by
  pointwise [k0_pay4]
  exact R.dy a d
theorem xh_of (a : Fin 512) (d : Fin 1024) : k0_pay5 (F := Ideal) x2 (ix2 a d) = A.xh (T a) d := by
  pointwise [k0_pay5]
  exact R.xh a d
theorem dr_of (a : Fin 512) (d : Fin 1024) : k0_pay6 (F := Ideal) x1 x0 x2 x3 x6 (ix2 a d) = drv A (T a) d := by
  pointwise [k0_pay6]
  simp only [dy_of R, xh_of R, R.rs, R.g]
  rfl
theorem drb_of (a : Fin 512) (d : Fin 1024) : k0_pay7 (F := Ideal) x1 x0 x2 x3 x6 (ix2 a d) = drv A (T a) d := by
  pointwise [k0_pay7]
  exact dr_of R a d
theorem dl_of (a : Fin 512) (j : Fin 1024) : k0_pay9 (F := Ideal) (k0_pay7 x1 x0 x2 x3 x6) (k0_pay8 x7) (constant S512x1024 .f32 0x00000000#32) (ix2 a j) = dlv A (T a) j := by
  pointwise [k0_pay9, k0_pay8]
  simp only [drb_of R, R.w]
  rfl
theorem dg_of (d : Fin 1024) : k0_pay10 (F := Ideal) (k0_pay4 x1 x0) (k0_pay5 x2) (ix2 0 d) = ∑ a : Fin 512, A.dy (T a) d * A.xh (T a) d := by
  pointwise [k0_pay10]
  simp only [dy_of R, xh_of R]
theorem db_of (d : Fin 1024) : k0_pay12 (F := Ideal) (k0_pay4 x1 x0) (ix2 0 d) = ∑ a : Fin 512, A.dy (T a) d := by
  pointwise [k0_pay12]
  simp only [dy_of R]
theorem dgs_of (v : Vec Ideal S1x1024 .f32) (d : Fin 1024) : k0_pay11 (F := Ideal) (k0_pay4 x1 x0) (k0_pay5 x2) v (ix2 0 d) = v (ix2 0 d) + ∑ a : Fin 512, A.dy (T a) d * A.xh (T a) d := by
  pointwise [k0_pay11]
  rw [dg_of R]
theorem dbs_of (v : Vec Ideal S1x1024 .f32) (d : Fin 1024) : k0_pay13 (F := Ideal) (k0_pay4 x1 x0) v (ix2 0 d) = v (ix2 0 d) + ∑ a : Fin 512, A.dy (T a) d := by
  pointwise [k0_pay13]
  rw [db_of R]
theorem top_of {old : Vec Ideal S512x1024 .f32} (k : Fin 512) (d : Fin 1024) {v : EReal} (h : old (ix2 k d) = v) :
    k0_pay14 (F := Ideal) (k0_pay7 x1 x0 x2 x3 x6) old x4 (ix2 k d) = v + ∑ a : Fin 512, A.l (T a) ⟨k.val, by omega⟩ * drv A (T a) d := by
  pointwise [k0_pay14]
  simp only [h, drb_of R, R.l1]
theorem low_of {old : Vec Ideal S512x1024 .f32} (k : Fin 512) (d : Fin 1024) {v : EReal} (h : old (ix2 k d) = v) :
    k0_pay1 (F := Ideal) (k0_pay7 x1 x0 x2 x3 x6) old (k0_pay15 x5) (constant S512x1024 .f32 0x00000000#32) (ix2 k d) = v + ∑ a : Fin 512, A.l (T a) ⟨512 + k.val, by omega⟩ * drv A (T a) d := by
  pointwise [k0_pay1, k0_pay15]
  simp only [h, drb_of R, R.l2]
end Block
theorem zero_at (d : Fin 1024) (j : Fin 1024) : k0_pay3 (F := Ideal) (ix2 d j) = 0 := by
  pointwise [k0_pay3]
theorem cast_at (v : Vec Ideal S1024x1024 .f32) (d : Fin 1024) (j : Fin 1024) : k0_pay2 (F := Ideal) v (ix2 d j) = v (ix2 d j) := by
  pointwise [k0_pay2]

variable (m : (ℓ : Loc nD τ sig) → Buf (Elt Ideal) ℓ) (c : Dev nD)
/-- The residual rows. -/
def preT (a l : FVec Ideal S2048x1024 .f32) (w : FVec Ideal S1024x1024 .f32) : FVec Ideal S2048x1024 .f32 :=
  addf a (Host.dotGeneral (F := Ideal) dot_S2048x1024_S1024x1024_S2048x1024_1_0_0_1_n_n none l w)
def preM : FVec Ideal S2048x1024 .f32 := preT (m ((c : Thread nD τ).loc main_arg0)) (m ((c : Thread nD τ).loc main_arg1)) (m ((c : Thread nD τ).loc main_arg2))
theorem V_xh : V m c main_v19 = Reference6Ideal.Hand.xhT (preM m c) := by
  show StableHlo.after hostOps0 (fun b => m (c, b)) (Proc.devRef .tc main_v19) = _
  after_reads_simp
  rfl
theorem V_rs : V m c main_v15 = Reference6Ideal.Hand.rsT (preM m c) := by
  show StableHlo.after hostOps0 (fun b => m (c, b)) (Proc.devRef .tc main_v15) = _
  after_reads_simp
  rfl
theorem V_l1 (t : Fin 2048) (k : Fin 512) : V m c main_v25 (ix2 t k) = m ((c : Thread nD τ).loc main_arg1) (ix2 t ⟨k.val, by omega⟩) := by
  show StableHlo.after hostOps0 (fun b => m (c, b)) (Proc.devRef .tc main_v25) (ix2 t k) = _
  after_reads_at
theorem V_l2 (t : Fin 2048) (k : Fin 512) : V m c main_v27 (ix2 t k) = m ((c : Thread nD τ).loc main_arg1) (ix2 t ⟨512 + k.val, by omega⟩) := by
  show StableHlo.after hostOps0 (fun b => m (c, b)) (Proc.devRef .tc main_v27) (ix2 t k) = _
  after_reads_at
theorem V_w (a : Fin 1024) (b : Fin 1024) : V m c main_v28 (ix2 a b) = m ((c : Thread nD τ).loc main_arg2) (ix2 a b) := by
  show StableHlo.after hostOps0 (fun b => m (c, b)) (Proc.devRef .tc main_v28) (ix2 a b) = _
  after_reads_at

/-- What the launch reads, of the arguments. -/
def arrs : Arrs where
  dy t := res (fun d => m ((c : Thread nD τ).loc main_arg4) (ix2 t d)) (fun d => m ((c : Thread nD τ).loc main_arg5) (ix2 t d))
  xh t := xh fun d => preM m c (ix2 t d)
  rs t := rs fun d => preM m c (ix2 t d)
  l t j := m ((c : Thread nD τ).loc main_arg1) (ix2 t j)
  g d := m ((c : Thread nD τ).loc main_arg3) (ix2 0 d)
  w i d := m ((c : Thread nD τ).loc main_arg2) (ix2 i d)

theorem rows (q : Fin cfg0.N) (hq : q.val < 4) : Rows (iblk m c 0 q) (iblk m c 1 q) (iblk m c 2 q) (iblk m c 3 q) (iblk m c 4 q) (iblk m c 5 q) (iblk m c 6 q) (iblk m c 7 q) (arrs m c) (row q.val) where
  dy a d := congrArg₂ (fun x y => Ideal.ofBits FTy.f32 1068827891#32 * x + y)
    ((read_blk1 q _ a d (ix2 (row q.val a) d) (row_val hq a) rfl).trans (congrFun (V_main_arg4 m c) (ix2 (row q.val a) d)))
    ((read_blk0 q _ a d (ix2 (row q.val a) d) (row_val hq a) rfl).trans (congrFun (V_main_arg5 m c) (ix2 (row q.val a) d)))
  xh a d := (read_blk2 q _ a d (ix2 (row q.val a) d) (row_val hq a) rfl).trans ((congrFun (V_xh m c) (ix2 (row q.val a) d)).trans (Reference6Ideal.Hand.xh_at (fun _ => rfl) d))
  rs a := (read_blk3 q _ a 0 (ix2 (row q.val a) 0) (row_val hq a) rfl).trans ((congrFun (V_rs m c) (ix2 (row q.val a) 0)).trans (Reference6Ideal.Hand.rs_at (fun _ => rfl) 0))
  l1 a k := (read_blk4 q _ a k (ix2 (row q.val a) k) (row_val hq a) rfl).trans (V_l1 m c (row q.val a) k)
  l2 a k := (read_blk5 q _ a k (ix2 (row q.val a) k) (row_val hq a) rfl).trans (V_l2 m c (row q.val a) k)
  g d := (read_blk6 q _ 0 d (ix2 0 d) rfl rfl).trans (congrFun (V_main_arg3 m c) (ix2 0 d))
  w j d := (read_blk7 q _ j d (ix2 j d) rfl rfl).trans (V_w m c j d)

/-- What a block adds to the gradient of the weights, of the scale and of the shift. -/
def pw (i d : Fin 1024) (q : ℕ) : EReal := ∑ a : Fin 512, (arrs m c).l (row q a) i * drv (arrs m c) (row q a) d
def pg (d : Fin 1024) (q : ℕ) : EReal := ∑ a : Fin 512, (arrs m c).dy (row q a) d * (arrs m c).xh (row q a) d
def pb (d : Fin 1024) (q : ℕ) : EReal := ∑ a : Fin 512, (arrs m c).dy (row q a) d

theorem lt4 (t : Fin cfg0.N) : t.val < 4 := Nat.lt_of_lt_of_eq t.isLt N_0

section point
variable (t : Fin cfg0.N)
/-- The weights' gradient with a block's part added to its two halves. -/
theorem added (X : Vec Ideal S1024x1024 .f32) (L : List (View.Piece (Elt Ideal) S1024x1024 .f32)) (i d : Fin 1024) :
    View.canon ((⟨Rect.unit ![512, 0] ![512, 1024] inb_S1024x1024_S512x1024_512_0, k0_pay1 (F := Ideal) (k0_pay7 (iblk m c 1 t) (iblk m c 0 t) (iblk m c 2 t) (iblk m c 3 t) (iblk m c 6 t))
        (View.ld X (Rect.unit ![512, 0] ![512, 1024] inb_S1024x1024_S512x1024_512_0)) (k0_pay15 (iblk m c 5 t)) (constant S512x1024 .f32 0#32)⟩ : View.Piece (Elt Ideal) S1024x1024 .f32)
      :: ⟨Rect.unit ![0, 0] ![512, 1024] inb_S1024x1024_S512x1024_0_0, k0_pay14 (F := Ideal) (k0_pay7 (iblk m c 1 t) (iblk m c 0 t) (iblk m c 2 t) (iblk m c 3 t) (iblk m c 6 t))
        (View.ld X (Rect.unit ![0, 0] ![512, 1024] inb_S1024x1024_S512x1024_0_0)) (iblk m c 4 t)⟩ :: L) (ix2 i d) = X (ix2 i d) + pw m c i d t.val := by
  refine Gather.canon2 (e := .f32) (C := 1024) L (G := fun i d => X (ix2 i d) + pw m c i d t.val) _ _ _ _ ?_ ?_ i d
  · exact fun k d => top_of (rows m c t (lt4 t)) k d (Gather.ld_at (R := 1024) (C := 1024) (e := .f32) 0 512 _ X ⟨k.val, by omega⟩ d k (Nat.zero_add _).symm)
  · exact fun k d => low_of (rows m c t (lt4 t)) k d (Gather.ld_at (R := 1024) (C := 1024) (e := .f32) 512 512 _ X ⟨512 + k.val, by omega⟩ d k rfl)

set_option maxHeartbeats 1000000 in
theorem scr_first (ht : t.val = 0) (i d : Fin 1024) : (outsAt0 m c t.val t.isLt).2.2.2.2.2 (ix2 i d) = pw m c i d 0 := by
  rw [outsAt0_A m c t (by omega) (by omega) (by omega) (by omega) (by omega) (by omega)]
  frame_out
  refine (Gather.canon2 (e := .f32) (C := 1024) _ (G := fun i d => 0 + pw m c i d t.val) _ _ _ _ ?_ ?_ i d).trans ?_
  · exact fun k d => top_of (rows m c t (lt4 t)) k d ((Gather.cov_at (R := 1024) (C := 1024) (e := .f32) _ 0 512 _ _ ⟨k.val, by omega⟩ d k (Nat.zero_add _).symm).trans
      ((Gather.canon_mem (R := 1024) (C := 1024) (e := .f32) _ 0 1024 _ _ _ d ⟨k.val, by omega⟩ (Nat.zero_add _).symm).trans (zero_at _ d)))
  · exact fun k d => low_of (rows m c t (lt4 t)) k d ((Gather.cov_at (R := 1024) (C := 1024) (e := .f32) _ 512 512 _ _ ⟨512 + k.val, by omega⟩ d k rfl).trans
      ((Gather.canon_not (R := 1024) (C := 1024) (e := .f32) _ 0 512 _ _ _ d (Or.inr (by show 0 + 512 ≤ 512 + k.val; omega))).trans
      ((Gather.canon_mem (R := 1024) (C := 1024) (e := .f32) _ 0 1024 _ _ _ d ⟨512 + k.val, by omega⟩ (Nat.zero_add _).symm).trans (zero_at _ d))))
  · show 0 + pw m c i d t.val = _
    rw [zero_add, ht]
set_option maxHeartbeats 1000000 in
theorem scr_next (h : t.val - 1 < cfg0.N) (h1 : 1 ≤ t.val) (i d : Fin 1024) :
    (outsAt0 m c t.val t.isLt).2.2.2.2.2 (ix2 i d) = (outsAt0 m c (t.val - 1) h).2.2.2.2.2 (ix2 i d) + pw m c i d t.val := by
  have := lt4 t
  by_cases h3 : t.val = 3
  · rw [outsAt0_C m c t (by omega) (by omega) (by omega) (by omega) (by omega) (by omega)]
    frame_out
    refine (added m c t _ _ i d).trans ?_
    exact congrArg (· + pw m c i d t.val) (congrFun (Memref.IsWhole.read_unread _ _) (ix2 i d))
  · rw [outsAt0_B m c t (by omega) (by omega) (by omega) (by omega) (by omega) (by omega)]
    frame_out
    refine (added m c t _ _ i d).trans ?_
    exact congrArg (· + pw m c i d t.val) (congrFun (Memref.IsWhole.read_unread _ _) (ix2 i d))
set_option maxHeartbeats 1000000 in
theorem dw_last (h : t.val - 1 < cfg0.N) (ht : t.val = 3) (i d : Fin 1024) :
    (outsAt0 m c t.val t.isLt).2.2.2.2.1 (ix2 i d) = (outsAt0 m c (t.val - 1) h).2.2.2.2.2 (ix2 i d) + pw m c i d t.val := by
  rw [outsAt0_C m c t (by omega) (by omega) (by omega) (by omega) (by omega) (by omega)]
  frame_out
  refine (cast_at _ i d).trans ((Gather.cov_at (R := 1024) (C := 1024) (e := .f32) _ 0 1024 _ _ i d i (Nat.zero_add _).symm).trans ((added m c t _ _ i d).trans ?_))
  exact congrArg (· + pw m c i d t.val) (congrFun (Memref.IsWhole.read_unread _ _) (ix2 i d))
set_option maxHeartbeats 1000000 in
theorem dg_first (ht : t.val = 0) (d : Fin 1024) : (outsAt0 m c t.val t.isLt).2.2.1 (ix2 0 d) = pg m c d 0 := by
  rw [outsAt0_A m c t (by omega) (by omega) (by omega) (by omega) (by omega) (by omega)]
  frame_out
  exact (dg_of (rows m c t (lt4 t)) d).trans (congrArg (pg m c d) ht)
set_option maxHeartbeats 1000000 in
theorem dg_next (h : t.val - 1 < cfg0.N) (h1 : 1 ≤ t.val) (d : Fin 1024) :
    (outsAt0 m c t.val t.isLt).2.2.1 (ix2 0 d) = (outsAt0 m c (t.val - 1) h).2.2.1 (ix2 0 d) + pg m c d t.val := by
  have := lt4 t
  by_cases h3 : t.val = 3
  · rw [outsAt0_C m c t (by omega) (by omega) (by omega) (by omega) (by omega) (by omega)]
    frame_out
    exact dgs_of (rows m c t (lt4 t)) _ d
  · rw [outsAt0_B m c t (by omega) (by omega) (by omega) (by omega) (by omega) (by omega)]
    frame_out
    exact dgs_of (rows m c t (lt4 t)) _ d
set_option maxHeartbeats 1000000 in
theorem db_first (ht : t.val = 0) (d : Fin 1024) : (outsAt0 m c t.val t.isLt).2.2.2.1 (ix2 0 d) = pb m c d 0 := by
  rw [outsAt0_A m c t (by omega) (by omega) (by omega) (by omega) (by omega) (by omega)]
  frame_out
  exact (db_of (rows m c t (lt4 t)) d).trans (congrArg (pb m c d) ht)
set_option maxHeartbeats 1000000 in
theorem db_next (h : t.val - 1 < cfg0.N) (h1 : 1 ≤ t.val) (d : Fin 1024) :
    (outsAt0 m c t.val t.isLt).2.2.2.1 (ix2 0 d) = (outsAt0 m c (t.val - 1) h).2.2.2.1 (ix2 0 d) + pb m c d t.val := by
  have := lt4 t
  by_cases h3 : t.val = 3
  · rw [outsAt0_C m c t (by omega) (by omega) (by omega) (by omega) (by omega) (by omega)]
    frame_out
    exact dbs_of (rows m c t (lt4 t)) _ d
  · rw [outsAt0_B m c t (by omega) (by omega) (by omega) (by omega) (by omega) (by omega)]
    frame_out
    exact dbs_of (rows m c t (lt4 t)) _ d
set_option maxHeartbeats 1000000 in
/-- The rows a block writes: the gradient before the normalisation, and that of the projection's input. -/
theorem dr_at (a : Fin 512) (d : Fin 1024) : (outsAt0 m c t.val t.isLt).1 (ix2 a d) = drv (arrs m c) (row t.val a) d
    ∧ (outsAt0 m c t.val t.isLt).2.1 (ix2 a d) = dlv (arrs m c) (row t.val a) d := by
  have := lt4 t
  by_cases h0 : t.val = 0
  · rw [outsAt0_A m c t (by omega) (by omega) (by omega) (by omega) (by omega) (by omega)]
    frame_out
    exact ⟨dr_of (rows m c t (lt4 t)) a d, dl_of (rows m c t (lt4 t)) a d⟩
  by_cases h3 : t.val = 3
  · rw [outsAt0_C m c t (by omega) (by omega) (by omega) (by omega) (by omega) (by omega)]
    frame_out
    exact ⟨dr_of (rows m c t (lt4 t)) a d, dl_of (rows m c t (lt4 t)) a d⟩
  · rw [outsAt0_B m c t (by omega) (by omega) (by omega) (by omega) (by omega) (by omega)]
    frame_out
    exact ⟨dr_of (rows m c t (lt4 t)) a d, dl_of (rows m c t (lt4 t)) a d⟩
end point

theorem in_grid {n : ℕ} (h : n < 4) : n < cfg0.N := Nat.lt_of_lt_of_eq h N_0.symm
theorem row_of (t : Fin 2048) : row (t.val / 512) ⟨t.val % 512, by omega⟩ = t :=
  Fin.ext (by show (512 * (t.val / 512) + t.val % 512) % 2048 = t.val; omega)

/-- The gradient before the normalisation, at the end. -/
theorem fin8 (t : Fin 2048) (d : Fin 1024) : (dats m 0 c).arrAt 8 cfg0.N (ix2 t d) = drv (arrs m c) t d := by
  obtain ⟨q, hq⟩ : ∃ q : Fin cfg0.N, q.val = t.val / 512 := ⟨⟨t.val / 512, in_grid (by omega)⟩, rfl⟩
  have e := blocks8 m c q (all8 _)
  rw [flushed8] at e
  refine (read_blk8 q _ ⟨t.val % 512, by omega⟩ d (ix2 t d) (show t.val = 512 * q.val + t.val % 512 by omega) rfl).symm.trans
    ((congrFun e (ix2 ⟨t.val % 512, by omega⟩ d : S512x1024.Idx)).trans ((dr_at m c q ⟨t.val % 512, by omega⟩ d).1.trans ?_))
  rw [hq, row_of]

/-- The gradient of the projection's input, at the end. -/
theorem fin9 (t : Fin 2048) (d : Fin 1024) : (dats m 0 c).arrAt 9 cfg0.N (ix2 t d) = dlv (arrs m c) t d := by
  obtain ⟨q, hq⟩ : ∃ q : Fin cfg0.N, q.val = t.val / 512 := ⟨⟨t.val / 512, in_grid (by omega)⟩, rfl⟩
  have e := blocks9 m c q (all9 _)
  rw [flushed9] at e
  refine (read_blk9 q _ ⟨t.val % 512, by omega⟩ d (ix2 t d) (show t.val = 512 * q.val + t.val % 512 by omega) rfl).symm.trans
    ((congrFun e (ix2 ⟨t.val % 512, by omega⟩ d : S512x1024.Idx)).trans ((dr_at m c q ⟨t.val % 512, by omega⟩ d).2.trans ?_))
  rw [hq, row_of]

theorem last10 : ∀ t : Fin cfg0.N, (cfg0.win 10).flush t = decide (t.val = 3) := (by decide +kernel : ∀ t : Fin grid0.N, _)
theorem disjoint10 : ∀ t t' : Fin cfg0.N, (cfg0.win 10).flush t = true → (cfg0.win 10).flush t' = true → t ≠ t' →
    Disjoint ((cfg0.win 10).blk t).view.set ((cfg0.win 10).blk t').view.set := by
  intro t t' h h' hne
  rw [last10] at h h'
  exact absurd (Fin.ext ((of_decide_eq_true h).trans (of_decide_eq_true h').symm)) hne
theorem cut10 (t : Fin cfg0.N) (X : Vec Ideal S1x1024 .f32) (i : Fin 1) (d : Fin 1024) : (cfg0.win 10).cut (grid0.coords t) X (ix2 i d) = X (ix2 i d) := rfl

theorem last11 : ∀ t : Fin cfg0.N, (cfg0.win 11).flush t = decide (t.val = 3) := (by decide +kernel : ∀ t : Fin grid0.N, _)
theorem disjoint11 : ∀ t t' : Fin cfg0.N, (cfg0.win 11).flush t = true → (cfg0.win 11).flush t' = true → t ≠ t' →
    Disjoint ((cfg0.win 11).blk t).view.set ((cfg0.win 11).blk t').view.set := by
  intro t t' h h' hne
  rw [last11] at h h'
  exact absurd (Fin.ext ((of_decide_eq_true h).trans (of_decide_eq_true h').symm)) hne
theorem cut11 (t : Fin cfg0.N) (X : Vec Ideal S1x1024 .f32) (i : Fin 1) (d : Fin 1024) : (cfg0.win 11).cut (grid0.coords t) X (ix2 i d) = X (ix2 i d) := rfl

theorem last12 : ∀ t : Fin cfg0.N, (cfg0.win 12).flush t = decide (t.val = 3) := (by decide +kernel : ∀ t : Fin grid0.N, _)
theorem disjoint12 : ∀ t t' : Fin cfg0.N, (cfg0.win 12).flush t = true → (cfg0.win 12).flush t' = true → t ≠ t' →
    Disjoint ((cfg0.win 12).blk t).view.set ((cfg0.win 12).blk t').view.set := by
  intro t t' h h' hne
  rw [last12] at h h'
  exact absurd (Fin.ext ((of_decide_eq_true h).trans (of_decide_eq_true h').symm)) hne
theorem cut12 (t : Fin cfg0.N) (X : Vec Ideal S1024x1024 .bf16) (i : Fin 1024) (d : Fin 1024) : (cfg0.win 12).cut (grid0.coords t) X (ix2 i d) = X (ix2 i d) := rfl

/-- The gradient of the normalisation's scale, at the end. -/
theorem fin10 (d : Fin 1024) : (dats m 0 c).arrAt 10 cfg0.N (ix2 0 d) = dgv (arrs m c) d := by
  obtain ⟨t, ht⟩ : ∃ t : Fin cfg0.N, t.val = 3 := ⟨⟨3, in_grid (by decide)⟩, rfl⟩
  have e := (dats m 0 c).read_blk_arrAt_eq_flushed 10 disjoint10 cfg0.N t t.isLt ((last10 t).trans (decide_eq_true ht))
  rw [flushed10] at e
  have s := Gather.gathered (N := cfg0.N) (fun n h => (outsAt0 m c n h).2.2.1 (ix2 0 d)) (pg m c d) (fun t h => dg_first m c t h d) (fun t h h1 => dg_next m c t h h1 d) t.val t.isLt
  exact (read_blk10 t _ 0 d (ix2 0 d) rfl rfl).symm.trans ((congrFun e (ix2 0 d)).trans ((cut10 t _ 0 d).trans (s.trans
    ((congrArg (upTo (pg m c d)) ht).trans (Gather.all (fun t => (arrs m c).dy t d * (arrs m c).xh t d)).symm))))

/-- The gradient of the normalisation's shift, at the end. -/
theorem fin11 (d : Fin 1024) : (dats m 0 c).arrAt 11 cfg0.N (ix2 0 d) = dbv (arrs m c) d := by
  obtain ⟨t, ht⟩ : ∃ t : Fin cfg0.N, t.val = 3 := ⟨⟨3, in_grid (by decide)⟩, rfl⟩
  have e := (dats m 0 c).read_blk_arrAt_eq_flushed 11 disjoint11 cfg0.N t t.isLt ((last11 t).trans (decide_eq_true ht))
  rw [flushed11] at e
  have s := Gather.gathered (N := cfg0.N) (fun n h => (outsAt0 m c n h).2.2.2.1 (ix2 0 d)) (pb m c d) (fun t h => db_first m c t h d) (fun t h h1 => db_next m c t h h1 d) t.val t.isLt
  exact (read_blk11 t _ 0 d (ix2 0 d) rfl rfl).symm.trans ((congrFun e (ix2 0 d)).trans ((cut11 t _ 0 d).trans (s.trans
    ((congrArg (upTo (pb m c d)) ht).trans (Gather.all (fun t => (arrs m c).dy t d)).symm))))

/-- The gradient of the weights, at the end. -/
theorem fin12 (i d : Fin 1024) : (dats m 0 c).arrAt 12 cfg0.N (ix2 i d) = dwv (arrs m c) i d := by
  obtain ⟨t, ht⟩ : ∃ t : Fin cfg0.N, t.val = 3 := ⟨⟨3, in_grid (by decide)⟩, rfl⟩
  have e := (dats m 0 c).read_blk_arrAt_eq_flushed 12 disjoint12 cfg0.N t t.isLt ((last12 t).trans (decide_eq_true ht))
  rw [flushed12] at e
  have hn : t.val - 1 < cfg0.N := by have := t.isLt; omega
  have s := Gather.gathered (N := cfg0.N) (fun n h => (outsAt0 m c n h).2.2.2.2.2 (ix2 i d)) (pw m c i d) (fun t h => scr_first m c t h i d) (fun t h h1 => scr_next m c t h h1 i d) (t.val - 1) hn
  refine (read_blk12 t _ i d (ix2 i d) rfl rfl).symm.trans ((congrFun e (ix2 i d)).trans ((cut12 t _ i d).trans ((dw_last m c t hn ht i d).trans
    ((congrArg (· + pw m c i d t.val) s).trans (Eq.trans ?_ (Gather.all _).symm)))))
  rw [show t.val - 1 = 2 by omega, ht]
  rfl

end Cert.Kernel12Ideal.Hand

end
-- ==== Proof.MixRef.lean ====
module
public import Idealize.ShloMosaic.Lib.Pointwise
public import proofs.«01_k».proof.Proof.NormBwd
public import proofs.«01_k».proof.Proof.Down
public import proofs.«01_k».proof.Proof.Gen.Reference12Ideal.Run
@[expose] public section
set_option maxRecDepth 16384
noncomputable section

/-! The derivative of the normalised projection with its residual, as the reference computes it, at an index. -/

namespace Cert.Reference12Ideal.Hand
open Cert.Reference12Ideal Cert.Reference12Ideal.Gen Idealize.ShloMosaic Idealize.ShloMosaic.TcCoe
open Cert.Reference6Ideal.Hand (meanT cenT rsT xhT mean_at cen_at rs_at xh_at)
open RowNorm

/-- A row's sum, kept as a column. -/
def sumT (x : FVec Ideal S2048x1024 .f32) : FVec Ideal S2048x1 .f32 :=
  shapeCast _ (Host.reduceAdd x (constant S_ .f32 0x00000000#32) reducesTo_S2048x1024_S2048_d1 h_S_) shapeCasts_S2048_S2048x1
/-- A column over the row's length. -/
def overT (x : FVec Ideal S2048x1 .f32) : FVec Ideal S2048x1 .f32 :=
  Host.divf x (broadcastInDim S2048x1 ![] bcast_S_S2048x1 (constant S_ .f32 0x44800000#32))
/-- A column spread over the rows. -/
def spreadT (x : FVec Ideal S2048x1 .f32) : FVec Ideal S2048x1024 .f32 :=
  broadcastInDim S2048x1024 ![0] bcast_S2048_S2048x1024_0 (Host.reduceAdd x (constant S_ .f32 0x00000000#32) reducesTo_S2048x1_S2048_d1 h_S_)
/-- The variances the roots are taken of. -/
def veT (u : FVec Ideal S2048x1024 .f32) : FVec Ideal S2048x1 .f32 :=
  addf (meanT (mulf (cenT u) (cenT u))) (broadcastInDim S2048x1 ![] bcast_S_S2048x1 (constant S_ .f32 0x3727C5AC#32))
/-- The derivative of the inverse deviation. -/
def halfT (u : FVec Ideal S2048x1024 .f32) : FVec Ideal S2048x1 .f32 :=
  mulf (broadcastInDim S2048x1 ![] bcast_S_S2048x1 (constant S_ .f32 0xBF000000#32)) (Host.divf (rsT u) (veT u))
/-- The gradient through the scale alone. -/
def thruT (u x : FVec Ideal S2048x1024 .f32) : FVec Ideal S2048x1024 .f32 :=
  mulf x (broadcastInDim S2048x1024 ![0, 1] bcast_S2048x1_S2048x1024_0_1 (rsT u))
/-- The gradient of the variances. -/
def dvarT (u x : FVec Ideal S2048x1024 .f32) : FVec Ideal S2048x1 .f32 := overT (mulf (sumT (mulf (cenT u) x)) (halfT u))
/-- The gradient through the variances. -/
def variT (u x : FVec Ideal S2048x1024 .f32) : FVec Ideal S2048x1024 .f32 :=
  mulf (spreadT (dvarT u x)) (mulf (broadcastInDim S2048x1024 ![] bcast_S_S2048x1024 (constant S_ .f32 0x40000000#32)) (cenT u))
/-- The derivative of the normalised rows. -/
def partsT (u x : FVec Ideal S2048x1024 .f32) : FVec Ideal S2048x1024 .f32 :=
  addf (addf (thruT u x) (variT u x)) (spreadT (overT (addf (sumT (Host.negf (thruT u x))) (sumT (Host.negf (variT u x))))))

theorem sum_at (x : FVec Ideal S2048x1024 .f32) (t : Fin 2048) (z : Fin 1) : sumT x (ix2 t z) = ∑ d : Fin 1024, x (ix2 t d) := by
  pointwise [sumT]
theorem over_at (x : FVec Ideal S2048x1 .f32) (t : Fin 2048) (z : Fin 1) : overT x (ix2 t z) = Ideal.div (x (ix2 t z)) (Ideal.ofBits .f32 1149239296#32) := by
  pointwise [overT]
theorem spread_at (x : FVec Ideal S2048x1 .f32) (t : Fin 2048) (d : Fin 1024) : spreadT x (ix2 t d) = x (ix2 t 0) := by
  pointwise [spreadT]
  exact Fin.sum_univ_one _
section Row
variable {u x : FVec Ideal S2048x1024 .f32} {t : Fin 2048} {v y : Fin 1024 → EReal} (hu : ∀ d : Fin 1024, u (ix2 t d) = v d)
include hu
theorem ve_at (z : Fin 1) : veT u (ix2 t z) = ve v := by
  pointwise [veT]
  rw [mean_at (v := fun d => cen v d * cen v d) (fun d => ?_)]
  · rfl
  · pointwise
    rw [cen_at hu]
theorem half_at (z : Fin 1) : halfT u (ix2 t z) = Ideal.ofBits .f32 0xBF000000#32 * Ideal.div (rs v) (ve v) := by
  pointwise [halfT]
  rw [rs_at hu, ve_at hu]
variable (hx : ∀ d : Fin 1024, x (ix2 t d) = y d)
include hx
theorem thru_at (d : Fin 1024) : thruT u x (ix2 t d) = thru v y d := by
  pointwise [thruT]
  rw [rs_at hu, hx]
  rfl
theorem dvar_at (z : Fin 1) : dvarT u x (ix2 t z) = dvar v y := by
  unfold dvarT
  rw [over_at]
  pointwise
  rw [sum_at, half_at hu]
  pointwise
  simp only [cen_at hu, hx]
  rfl
theorem vari_at (d : Fin 1024) : variT u x (ix2 t d) = vari v y d := by
  pointwise [variT]
  rw [spread_at, dvar_at hu hx, cen_at hu]
  rfl
theorem parts_at (d : Fin 1024) : partsT u x (ix2 t d) = parts v y d := by
  pointwise [partsT]
  rw [spread_at, over_at]
  pointwise
  rw [sum_at, sum_at]
  pointwise
  simp only [thru_at hu hx, vari_at hu hx]
  rfl
end Row

/-- The rows before they are normalised. -/
def preT (a0 l : FVec Ideal S2048x1024 .f32) (w : FVec Ideal S1024x1024 .f32) : FVec Ideal S2048x1024 .f32 :=
  addf a0 (Host.dotGeneral (F := Ideal) dot_S2048x1024_S1024x1024_S2048x1024_1_0_0_1_n_n none l w)
/-- The gradient of the normalised output. -/
def dyT (a4 a5 : FVec Ideal S2048x1024 .f32) : FVec Ideal S2048x1024 .f32 :=
  addf a5 (mulf (broadcastInDim S2048x1024 ![] bcast_S_S2048x1024 (constant S_ .f32 0x3FB504F3#32)) a4)
/-- The gradient of the normalised rows. -/
def dxhT (dy : FVec Ideal S2048x1024 .f32) (g : FVec Ideal S1x1024 .f32) : FVec Ideal S2048x1024 .f32 :=
  mulf (shapeCast _ dy shapeCasts_S2048x1024_S2048x1024) (broadcastInDim S2048x1024 ![0, 1] bcast_S1x1024_S2048x1024_0_1 g)
/-- A column sum, kept as a row. -/
def colT (x : FVec Ideal S2048x1024 .f32) : FVec Ideal S1x1024 .f32 :=
  shapeCast _ (Host.reduceAdd x (constant S_ .f32 0x00000000#32) reducesTo_S2048x1024_S1024_d0 h_S_) shapeCasts_S1024_S1x1024
/-- The gradient of the scale. -/
def dgT (u dy : FVec Ideal S2048x1024 .f32) : FVec Ideal S1x1024 .f32 := colT (mulf (xhT u) (shapeCast _ dy shapeCasts_S2048x1024_S2048x1024))
/-- The gradient of the projection's input. -/
def dlT (r : FVec Ideal S2048x1024 .f32) (w : FVec Ideal S1024x1024 .f32) : FVec Ideal S2048x1024 .f32 :=
  Host.dotGeneral (F := Ideal) dot_S2048x1024_S1024x1024_S2048x1024_1_1_0_0_n_n none r w
/-- The gradient of the projection's weights. -/
def dwT (r l : FVec Ideal S2048x1024 .f32) : FVec Ideal S1024x1024 .bf16 :=
  truncf .bf16 (transpose S1024x1024 [1, 0] (Host.dotGeneral (F := Ideal) dot_S2048x1024_S2048x1024_S1024x1024_0_0_1_1_n_n none r l) transposes_S1024x1024_S1024x1024_1_0) bitsLt_bf16_f32

theorem pre_at (a0 l : FVec Ideal S2048x1024 .f32) (w : FVec Ideal S1024x1024 .f32) (t : Fin 2048) (d : Fin 1024) :
    preT a0 l w (ix2 t d) = a0 (ix2 t d) + ∑ k : Fin 1024, l (ix2 t k) * w (ix2 k d) := by
  pointwise [preT]
theorem dy_at (a4 a5 : FVec Ideal S2048x1024 .f32) (t : Fin 2048) (d : Fin 1024) : dyT a4 a5 (ix2 t d) = res (fun d => a4 (ix2 t d)) (fun d => a5 (ix2 t d)) d := by
  pointwise [dyT]
  exact add_comm _ _
theorem dxh_at (dy : FVec Ideal S2048x1024 .f32) (g : FVec Ideal S1x1024 .f32) (t : Fin 2048) (d : Fin 1024) : dxhT dy g (ix2 t d) = dy (ix2 t d) * g (ix2 0 d) := by
  pointwise [dxhT]
theorem col_at (x : FVec Ideal S2048x1024 .f32) (z : Fin 1) (d : Fin 1024) : colT x (ix2 z d) = ∑ t : Fin 2048, x (ix2 t d) := by
  pointwise [colT]
theorem dg_at (u dy : FVec Ideal S2048x1024 .f32) (z : Fin 1) (d : Fin 1024) : dgT u dy (ix2 z d) = ∑ t : Fin 2048, dy (ix2 t d) * xh (fun d => u (ix2 t d)) d := by
  unfold dgT
  rw [col_at]
  refine Finset.sum_congr rfl fun t _ => ?_
  pointwise
  rw [xh_at (fun _ => rfl)]
  exact mul_comm _ _
theorem dl_at (r : FVec Ideal S2048x1024 .f32) (w : FVec Ideal S1024x1024 .f32) (t : Fin 2048) (j : Fin 1024) : dlT r w (ix2 t j) = ∑ d : Fin 1024, r (ix2 t d) * w (ix2 j d) := by
  pointwise [dlT]
theorem dw_at (r l : FVec Ideal S2048x1024 .f32) (i d : Fin 1024) : dwT r l (ix2 i d) = ∑ t : Fin 2048, l (ix2 t i) * r (ix2 t d) := by
  pointwise [dwT]
  exact Finset.sum_congr rfl fun t _ => mul_comm _ _

variable (m : (ℓ : Loc nD τ sig) → Buf (Elt Ideal) ℓ) (c : Dev nD)
/-- The residual rows, the output's gradient and the gradient before the normalisation, of the arguments. -/
def preM : FVec Ideal S2048x1024 .f32 := preT (m ((c.tc : Thread nD τ).loc main_arg0)) (m ((c.tc : Thread nD τ).loc main_arg1)) (m ((c.tc : Thread nD τ).loc main_arg2))
def dyM : FVec Ideal S2048x1024 .f32 := dyT (m ((c.tc : Thread nD τ).loc main_arg4)) (m ((c.tc : Thread nD τ).loc main_arg5))
def drM : FVec Ideal S2048x1024 .f32 := partsT (preM m c) (dxhT (dyM m c) (m ((c.tc : Thread nD τ).loc main_arg3)))
theorem res0 : Value.res_main_v66 m c = drM m c := rfl
theorem res1 : Value.res_main_v69 m c = dlT (drM m c) (m ((c.tc : Thread nD τ).loc main_arg2)) := rfl
theorem res4 : Value.res_main_v70 m c = dwT (drM m c) (m ((c.tc : Thread nD τ).loc main_arg1)) := rfl

end Cert.Reference12Ideal.Hand

end
-- ==== Proof.MixNorm.lean ====
module
public import proofs.«01_k».proof.Defs
public import proofs.«01_k».proof.Proof.NormBwd
public import proofs.«01_k».proof.Proof.Entries
@[expose] public section
set_option maxRecDepth 32768
noncomputable section

/-! The precondition of the output projection's gradient read at an entry: every argument holds real numbers. -/

/-- A value that is a real number. -/
def IsReal (x : EReal) : Prop := ∃ r : ℝ, x = (r : EReal)

namespace IsReal
theorem add {x y : EReal} (hx : IsReal x) (hy : IsReal y) : IsReal (x + y) := by
  obtain ⟨a, rfl⟩ := hx
  obtain ⟨b, rfl⟩ := hy
  exact ⟨a + b, (EReal.coe_add a b).symm⟩
theorem mul {x y : EReal} (hx : IsReal x) (hy : IsReal y) : IsReal (x * y) := by
  obtain ⟨a, rfl⟩ := hx
  obtain ⟨b, rfl⟩ := hy
  exact ⟨a * b, (EReal.coe_mul a b).symm⟩
theorem sum {n : ℕ} {f : Fin n → EReal} (h : ∀ i, IsReal (f i)) : IsReal (∑ i, f i) := by
  choose r hr using h
  exact ⟨∑ i, r i, by rw [Finset.sum_congr rfl fun i _ => hr i, StickBreak.coe_sum]⟩
theorem of_toReal {x : EReal} (h : ((x.toReal : ℝ) : EReal) = x) : IsReal x := ⟨x.toReal, h.symm⟩
end IsReal

/-- The two forms of the normalisation's derivative agree on rows of real numbers. -/
theorem RowNorm.bwd_of_real {u x : Fin 1024 → EReal} (hu : ∀ k, IsReal (u k)) (hx : ∀ k, IsReal (x k)) (d : Fin 1024) :
    RowNorm.bwd u x d = RowNorm.parts u x d := by
  choose U hU using hu
  choose X hX using hx
  exact RowNorm.bwd_eq hU hX d

namespace MixNorm
open Idealize.ShloMosaic
open StickBreak (real_of_lt)

/-- The side conditions the precondition's operations state. -/
theorem finite_facts : Cert.Pre_finite12.Facts where
  concatenates_S2048x1024_S2048x1024_S2048x1024_S2048x1024_S1024x1024_S1x1024_S9217x1024_d0 := by decide
  bcast_S_S9217x1024 := by decide

theorem alpha_real : IsReal (Ideal.ofBits .f32 1068827891#32) := ⟨11863283 / 8388608, by
  simp [Ideal.ofBits, Ideal.ieee, -EReal.coe_mul]; norm_num⟩

variable {x0 x1 : FVec Ideal Cert.Pre_finite12.S2048x1024 .f32} {x2 : FVec Ideal Cert.Pre_finite12.S1024x1024 .f32}
  {x3 : FVec Ideal Cert.Pre_finite12.S1x1024 .f32} {x4 x5 : FVec Ideal Cert.Pre_finite12.S2048x1024 .f32}
variable [Cert.Pre_finite12.Facts] (h : Cert.Pre_finite12.fn (F := Ideal) x0 x1 x2 x3 x4 x5 = fun _ => 1#1)
include h

theorem real0 (t : Fin 2048) (d : Fin 1024) : IsReal (x0 (ix2 t d)) := by
  have e := congrFun h (ix2 ⟨t.val, by omega⟩ d)
  unfold Cert.Pre_finite12.fn at e
  pointwise at e
  exact IsReal.of_toReal (real_of_lt e)
theorem real1 (t : Fin 2048) (d : Fin 1024) : IsReal (x1 (ix2 t d)) := by
  have e := congrFun h (ix2 ⟨2048 + t.val, by omega⟩ d)
  unfold Cert.Pre_finite12.fn at e
  pointwise at e
  exact IsReal.of_toReal (real_of_lt e)
theorem real4 (t : Fin 2048) (d : Fin 1024) : IsReal (x4 (ix2 t d)) := by
  have e := congrFun h (ix2 ⟨4096 + t.val, by omega⟩ d)
  unfold Cert.Pre_finite12.fn at e
  pointwise at e
  replace e := IsReal.of_toReal (real_of_lt e)
  rw [dif_neg (by omega), dif_neg (by omega), dif_pos (by omega)] at e
  have i : (⟨4096 + t.val - 2048 - 2048, by omega⟩ : Fin 2048) = t := Fin.ext (by show 4096 + t.val - 2048 - 2048 = t.val; omega)
  exact (congrArg (fun i => IsReal (x4 (ix2 i d))) i).mp e
theorem real5 (t : Fin 2048) (d : Fin 1024) : IsReal (x5 (ix2 t d)) := by
  have e := congrFun h (ix2 ⟨6144 + t.val, by omega⟩ d)
  unfold Cert.Pre_finite12.fn at e
  pointwise at e
  replace e := IsReal.of_toReal (real_of_lt e)
  rw [dif_neg (by omega), dif_neg (by omega), dif_neg (by omega), dif_pos (by omega)] at e
  have i : (⟨6144 + t.val - 2048 - 2048 - 2048, by omega⟩ : Fin 2048) = t := Fin.ext (by show 6144 + t.val - 2048 - 2048 - 2048 = t.val; omega)
  exact (congrArg (fun i => IsReal (x5 (ix2 i d))) i).mp e
theorem real2 (t : Fin 1024) (d : Fin 1024) : IsReal (x2 (ix2 t d)) := by
  have e := congrFun h (ix2 ⟨8192 + t.val, by omega⟩ d)
  unfold Cert.Pre_finite12.fn at e
  pointwise at e
  replace e := IsReal.of_toReal (real_of_lt e)
  rw [dif_neg (by omega), dif_neg (by omega), dif_neg (by omega), dif_neg (by omega), dif_pos (by omega)] at e
  have i : (⟨8192 + t.val - 2048 - 2048 - 2048 - 2048, by omega⟩ : Fin 1024) = t := Fin.ext (by show 8192 + t.val - 2048 - 2048 - 2048 - 2048 = t.val; omega)
  exact (congrArg (fun i => IsReal (x2 (ix2 i d))) i).mp e
theorem real3 (d : Fin 1024) : IsReal (x3 (ix2 0 d)) := by
  have e := congrFun h (ix2 ⟨9216, by omega⟩ d)
  unfold Cert.Pre_finite12.fn at e
  pointwise at e
  exact IsReal.of_toReal (real_of_lt e)
end MixNorm

end
-- ==== Proof.Calls3.lean ====
module
public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Calls
public import proofs.«01_k».proof.Proof.Mix
public import proofs.«01_k».proof.Proof.MixRef
public import proofs.«01_k».proof.Proof.MixNorm
public import Idealize.ShloMosaic.Adequacy
public import Idealize.ShloMosaic.Init
@[expose] public section
noncomputable section

/-! The gradient of the output projection with its residual and normalisation ends with its reference's values,
where every entry of the arguments is finite. -/

namespace Cert.Calls

open Idealize.ShloMosaic Idealize.SL.Sem

/-- The reference runs and leaves its arguments as they were. -/
theorem frame12 : Cert.quiescent_Reference12Ideal (hReference12Ideal := Cert.Reference12Ideal.Gen.facts) :=
  fun m g _ => (θ_run _ _ _).mono
    (fun r h => ⟨fun c => (h c).2.2.2.2.2, Idealize.ShloMosaic.sem_eq_zero_of_no_sems (by decide) r.2⟩)
    (Cert.Reference12Ideal.Value.run (F := Ideal) m g)

/-- The gradients of the projection, its residual and its normalisation. -/
theorem mix_equal : Cert.algebraic_Kernel12Ideal_Reference12Ideal_pre_finite12 (hKernel12Ideal := Cert.Kernel12Ideal.Gen.facts)
    (hReference12Ideal := Cert.Reference12Ideal.Gen.facts) (hPre_finite12 := MixNorm.finite_facts) := by
  intro m g m' g' hp ha
  letI := MixNorm.finite_facts
  have hpre : ∀ c t d, Cert.Reference12Ideal.Hand.preM m' c (ix2 t d) = Cert.Kernel12Ideal.Hand.preM m c (ix2 t d) := fun c t d => by
    unfold Cert.Reference12Ideal.Hand.preM
    rw [(ha c).1, (ha c).2.1, (ha c).2.2.1]
    rfl
  have hdy : ∀ c t d, Cert.Reference12Ideal.Hand.dyM m' c (ix2 t d) = (Cert.Kernel12Ideal.Hand.arrs m c).dy t d := fun c t d => by
    unfold Cert.Reference12Ideal.Hand.dyM
    rw [(ha c).2.2.2.2.1, (ha c).2.2.2.2.2]
    exact Cert.Reference12Ideal.Hand.dy_at _ _ t d
  have hdr : ∀ c t d, Cert.Reference12Ideal.Hand.drM m' c (ix2 t d) = Cert.Kernel12Ideal.Hand.drv (Cert.Kernel12Ideal.Hand.arrs m c) t d := fun c t d => by
    unfold Cert.Reference12Ideal.Hand.drM
    refine (Cert.Reference12Ideal.Hand.parts_at (v := fun k => Cert.Kernel12Ideal.Hand.preM m c (ix2 t k))
      (y := fun k => (Cert.Kernel12Ideal.Hand.arrs m c).dy t k * (Cert.Kernel12Ideal.Hand.arrs m c).g k) (hpre c t) (fun k => ?_) d).trans
      (RowNorm.bwd_of_real (fun k => ?_) (fun k => ?_) d).symm
    · rw [(ha c).2.2.2.1]
      exact (Cert.Reference12Ideal.Hand.dxh_at _ _ t k).trans (congrArg (· * _) (hdy c t k))
    · exact (congrArg IsReal (Cert.Reference12Ideal.Hand.pre_at _ _ _ t k)).mpr ((MixNorm.real0 (hp c) t k).add (IsReal.sum fun j => (MixNorm.real1 (hp c) t j).mul (MixNorm.real2 (hp c) j k)))
    · exact ((MixNorm.alpha_real.mul (MixNorm.real4 (hp c) t k)).add (MixNorm.real5 (hp c) t k)).mul (MixNorm.real3 (hp c) k)
  refine ⟨fun c => (Cert.Kernel12Ideal.Gen.dats m 0 c).arrAt 8 Cert.Kernel12Ideal.cfg0.N,
    fun c => (Cert.Kernel12Ideal.Gen.dats m 0 c).arrAt 9 Cert.Kernel12Ideal.cfg0.N,
    fun c => (Cert.Kernel12Ideal.Gen.dats m 0 c).arrAt 10 Cert.Kernel12Ideal.cfg0.N,
    fun c => (Cert.Kernel12Ideal.Gen.dats m 0 c).arrAt 11 Cert.Kernel12Ideal.cfg0.N,
    fun c => (Cert.Kernel12Ideal.Gen.dats m 0 c).arrAt 12 Cert.Kernel12Ideal.cfg0.N,
    Cert.Kernel12Ideal.Value.run_blocks (F := Ideal) m g, (θ_run _ _ _).mono (fun r h c =>
      ⟨(h c).1.trans ((Cert.Reference12Ideal.Hand.res0 m' c).trans ?_), (h c).2.1.trans ((Cert.Reference12Ideal.Hand.res1 m' c).trans ?_), (h c).2.2.1.trans ?_,
        (h c).2.2.2.1.trans ?_, (h c).2.2.2.2.1.trans ((Cert.Reference12Ideal.Hand.res4 m' c).trans ?_), (h c).2.2.2.2.2⟩)
      (Cert.Reference12Ideal.Value.run (F := Ideal) m' g')⟩
  · exact ext_rows _ _ fun i j => (hdr c i j).trans (Cert.Kernel12Ideal.Hand.fin8 m c i j).symm
  · refine ext_rows _ _ fun i j => ?_
    refine (Cert.Reference12Ideal.Hand.dl_at _ _ i j).trans (Eq.trans ?_ (Cert.Kernel12Ideal.Hand.fin9 m c i j).symm)
    rw [(ha c).2.2.1]
    exact Finset.sum_congr rfl fun d _ => congrArg (· * _) (hdr c i d)
  · refine ext_rows _ _ fun z j => ?_
    rw [Fin.eq_zero z]
    refine (Cert.Reference12Ideal.Hand.dg_at (Cert.Reference12Ideal.Hand.preM m' c) (Cert.Reference12Ideal.Hand.dyM m' c) 0 j).trans (Eq.trans ?_ (Cert.Kernel12Ideal.Hand.fin10 m c j).symm)
    exact Finset.sum_congr rfl fun t _ => congrArg₂ (· * ·) (hdy c t j) (congrFun (congrArg RowNorm.xh (funext (hpre c t))) j)
  · refine ext_rows _ _ fun z j => ?_
    rw [Fin.eq_zero z]
    refine (Cert.Reference12Ideal.Hand.col_at (Cert.Reference12Ideal.Hand.dyM m' c) 0 j).trans (Eq.trans ?_ (Cert.Kernel12Ideal.Hand.fin11 m c j).symm)
    exact Finset.sum_congr rfl fun t _ => hdy c t j
  · refine ext_rows _ _ fun i j => ?_
    refine (Cert.Reference12Ideal.Hand.dw_at _ _ i j).trans (Eq.trans ?_ (Cert.Kernel12Ideal.Hand.fin12 m c i j).symm)
    rw [(ha c).2.1]
    exact Finset.sum_congr rfl fun t _ => congrArg₂ (fun a b : EReal => a * b) rfl (hdr c t j)

end Cert.Calls

end
-- ==== Proof.SideBwd.lean ====
module
public import Idealize.ShloMosaic.Lib.Pointwise
public import Idealize.ShloMosaic.Lib.StableHlo.ReadAt
public import Idealize.ShloMosaic.Lib.Pipeline.ValueKit.Basic
public import proofs.«01_k».proof.Proof.At
public import proofs.«01_k».proof.Proof.Acc
public import proofs.«01_k».proof.Proof.NormBwd
public import proofs.«01_k».proof.Proof.Down
public import proofs.«01_k».proof.Proof.Ple
public import proofs.«01_k».proof.Proof.Gen.Kernel13Ideal.Value
@[expose] public section
set_option maxRecDepth 16384
noncomputable section

/-! The gradient of the gated side input and the normalisation before it: what the launch leaves at every index.
Everything holds over the extended real numbers. -/

namespace Cert.Kernel13Ideal.Hand
open Cert.Kernel13Ideal Cert.Kernel13Ideal.Gen Cert.Kernel13Ideal.Value Idealize.ShloMosaic Idealize.ShloMosaic.TcCoe
open RowNorm
open Gather (upTo row row_val)

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Rows 2048 1024 512 1024 t.val (((cfg0.win 1).blk t).view.read (Elt Ideal)) :=
  Gather.rows (ix := win0_1.index)
theorem read_blk2 : ∀ t : Fin cfg0.N, Gather.Rows 2048 1024 512 1024 t.val (((cfg0.win 2).blk t).view.read (Elt Ideal)) :=
  Gather.rows (ix := win0_2.index)
theorem read_blk3 : ∀ t : Fin cfg0.N, Gather.Rows 2048 1024 512 1024 t.val (((cfg0.win 3).blk t).view.read (Elt Ideal)) :=
  Gather.rows (ix := win0_3.index)
theorem read_blk4 : ∀ t : Fin cfg0.N, Gather.Rows 2048 256 512 256 t.val (((cfg0.win 4).blk t).view.read (Elt Ideal)) :=
  Gather.rows (ix := win0_4.index)
theorem read_blk5 : ∀ t : Fin cfg0.N, Gather.Rows 2048 1024 512 1024 t.val (((cfg0.win 5).blk t).view.read (Elt Ideal)) :=
  Gather.rows (ix := win0_5.index)
theorem read_blk6 : ∀ t : Fin cfg0.N, Gather.Rows 2048 1 512 1 t.val (((cfg0.win 6).blk t).view.read (Elt Ideal)) :=
  Gather.rows (ix := win0_6.index)
theorem read_blk7 : ∀ t : Fin cfg0.N, Gather.Whole 1024 1024 (((cfg0.win 7).blk t).view.read (Elt Ideal)) :=
  Gather.whole (ix := win0_7.index)
theorem read_blk8 : ∀ t : Fin cfg0.N, Gather.Whole 1 1024 (((cfg0.win 8).blk t).view.read (Elt Ideal)) :=
  Gather.whole (ix := win0_8.index)
theorem read_blk9 : ∀ t : Fin cfg0.N, Gather.Rows 2048 1024 512 1024 t.val (((cfg0.win 9).blk t).view.read (Elt Ideal)) :=
  Gather.rows (ix := win0_9.index)
theorem all9 : ∀ t : Fin cfg0.N, (cfg0.win 9).flush t = true := (by decide +kernel : ∀ t : Fin grid0.N, _)
theorem read_blk10 : ∀ t : Fin cfg0.N, Gather.Rows 2048 1024 512 1024 t.val (((cfg0.win 10).blk t).view.read (Elt Ideal)) :=
  Gather.rows (ix := win0_10.index)
theorem all10 : ∀ t : Fin cfg0.N, (cfg0.win 10).flush t = true := (by decide +kernel : ∀ t : Fin grid0.N, _)
theorem read_blk11 : ∀ t : Fin cfg0.N, Gather.Whole 1 1024 (((cfg0.win 11).blk t).view.read (Elt Ideal)) :=
  Gather.whole (ix := win0_11.index)
theorem read_blk12 : ∀ t : Fin cfg0.N, Gather.Whole 1 1024 (((cfg0.win 12).blk t).view.read (Elt Ideal)) :=
  Gather.whole (ix := win0_12.index)
theorem read_blk13 : ∀ t : Fin cfg0.N, Gather.Whole 1 1024 (((cfg0.win 13).blk t).view.read (Elt Ideal)) :=
  Gather.whole (ix := win0_13.index)
theorem read_blk14 : ∀ t : Fin cfg0.N, Gather.Whole 1024 1024 (((cfg0.win 14).blk t).view.read (Elt Ideal)) :=
  Gather.whole (ix := win0_14.index)
theorem read_blk15 : ∀ t : Fin cfg0.N, Gather.Whole 256 1024 (((cfg0.win 15).blk t).view.read (Elt Ideal)) :=
  Gather.whole (ix := win0_15.index)

/-- The arrays the launch reads, entry by entry. -/
structure Arrs where
  d : Fin 2048 → Fin 1024 → EReal
  sg : Fin 2048 → Fin 1024 → EReal
  pp : Fin 2048 → Fin 1024 → EReal
  x : Fin 2048 → Fin 1024 → EReal
  p : Fin 2048 → Fin 256 → EReal
  xh : Fin 2048 → Fin 1024 → EReal
  rs : Fin 2048 → EReal
  w : Fin 1024 → Fin 1024 → EReal
  g : Fin 1024 → EReal
variable (A : Arrs)
/-- The gradient before the gate. -/
def dgp (t : Fin 2048) (d : Fin 1024) : EReal := A.d t d * A.pp t d * A.sg t d * (1 - A.sg t d)
/-- The gradient of the normalised rows after their scale and shift. -/
def dxv (t : Fin 2048) (j : Fin 1024) : EReal := A.d t j + ∑ k : Fin 1024, dgp A t k * A.w j k
/-- The gradient before the normalisation. -/
def drv (t : Fin 2048) (d : Fin 1024) : EReal := less (A.rs t) (A.xh t) (fun k => dxv A t k * A.g k) d
/-- The gradients of the gate's shift, the normalisation's scale and its shift. -/
def dbgv (d : Fin 1024) : EReal := ∑ t : Fin 2048, dgp A t d
def dlgv (d : Fin 1024) : EReal := ∑ t : Fin 2048, dxv A t d * A.xh t d
def dlbv (d : Fin 1024) : EReal := ∑ t : Fin 2048, dxv A t d
/-- The gradients of the gate's and of the side input's weights. -/
def dwgv (i d : Fin 1024) : EReal := ∑ t : Fin 2048, A.x t i * dgp A t d
def dwpv (i : Fin 256) (d : Fin 1024) : EReal := ∑ t : Fin 2048, A.p t i * (A.d t d * A.sg t d)

section Block
variable {x0 x5 : Vec Ideal S512x1024 .f32} {x1 x2 x3 : Vec Ideal S512x1024 .bf16} {x4 : Vec Ideal S512x256 .bf16} {x6 : Vec Ideal S512x1 .f32} {x7 : Vec Ideal S1024x1024 .bf16} {x8 : Vec Ideal S1x1024 .f32}
/-- What a block's rows hold, as rows of whole arrays. -/
structure Rows (x0 : Vec Ideal S512x1024 .f32) (x1 x2 x3 : Vec Ideal S512x1024 .bf16) (x4 : Vec Ideal S512x256 .bf16) (x5 : Vec Ideal S512x1024 .f32) (x6 : Vec Ideal S512x1 .f32)
    (x7 : Vec Ideal S1024x1024 .bf16) (x8 : Vec Ideal S1x1024 .f32) (A : Arrs) (T : Fin 512 → Fin 2048) : Prop where
  d : ∀ (a : Fin 512) (d : Fin 1024), x0 (ix2 a d) = A.d (T a) d
  sg : ∀ (a : Fin 512) (d : Fin 1024), x1 (ix2 a d) = A.sg (T a) d
  pp : ∀ (a : Fin 512) (d : Fin 1024), x2 (ix2 a d) = A.pp (T a) d
  x : ∀ (a : Fin 512) (d : Fin 1024), x3 (ix2 a d) = A.x (T a) d
  p : ∀ (a : Fin 512) (d : Fin 256), x4 (ix2 a d) = A.p (T a) d
  xh : ∀ (a : Fin 512) (d : Fin 1024), x5 (ix2 a d) = A.xh (T a) d
  rs : ∀ (a : Fin 512), x6 (ix2 a 0) = A.rs (T a)
  w : ∀ (j d : Fin 1024), x7 (ix2 j d) = A.w j d
  g : ∀ (d : Fin 1024), x8 (ix2 0 d) = A.g d
variable {A : Arrs} {T : Fin 512 → Fin 2048} (R : Rows x0 x1 x2 x3 x4 x5 x6 x7 x8 A T)
include R
theorem dgp_of (a : Fin 512) (d : Fin 1024) : k0_pay12 (F := Ideal) x0 x1 x2 (ix2 a d) = dgp A (T a) d := by
  pointwise [k0_pay12, k0_pay11]
  rw [R.d, R.sg, R.pp]
  rfl
theorem dgb_of (a : Fin 512) (d : Fin 1024) : k0_pay13 (F := Ideal) x0 x1 x2 (ix2 a d) = dgp A (T a) d := by
  pointwise [k0_pay13]
  exact dgp_of R a d
theorem dx_of (a : Fin 512) (j : Fin 1024) : k0_pay19 (F := Ideal) x0 (k0_pay13 x0 x1 x2) x7 (ix2 a j) = dxv A (T a) j := by
  pointwise [k0_pay19]
  simp only [R.d, dgb_of R, R.w]
  rfl
theorem xh_of (a : Fin 512) (d : Fin 1024) : k0_pay20 (F := Ideal) x5 (ix2 a d) = A.xh (T a) d := by
  pointwise [k0_pay20]
  exact R.xh a d
theorem dr_of (a : Fin 512) (d : Fin 1024) : k0_pay1 (F := Ideal) (k0_pay21 x6) (k0_pay22 x0 (k0_pay13 x0 x1 x2) x7 x5 x8) (ix2 a d) = drv A (T a) d := by
  pointwise [k0_pay1, k0_pay21, k0_pay22]
  simp only [dx_of R, xh_of R, R.rs, R.g]
  rfl
theorem drb_of (a : Fin 512) (d : Fin 1024) : k0_pay2 (F := Ideal) (k0_pay21 x6) (k0_pay22 x0 (k0_pay13 x0 x1 x2) x7 x5 x8) (ix2 a d) = drv A (T a) d := by
  pointwise [k0_pay2]
  exact dr_of R a d
theorem lg_of (d : Fin 1024) : k0_pay3 (F := Ideal) (k0_pay19 x0 (k0_pay13 x0 x1 x2) x7) (k0_pay20 x5) (ix2 0 d) = ∑ a : Fin 512, dxv A (T a) d * A.xh (T a) d := by
  pointwise [k0_pay3]
  simp only [dx_of R, xh_of R]
theorem lgs_of (v : Vec Ideal S1x1024 .f32) (d : Fin 1024) : k0_pay4 (F := Ideal) (k0_pay19 x0 (k0_pay13 x0 x1 x2) x7) (k0_pay20 x5) v (ix2 0 d) = v (ix2 0 d) + ∑ a : Fin 512, dxv A (T a) d * A.xh (T a) d := by
  pointwise [k0_pay4]
  rw [lg_of R]
theorem lb_of (d : Fin 1024) : k0_pay5 (F := Ideal) (k0_pay19 x0 (k0_pay13 x0 x1 x2) x7) (ix2 0 d) = ∑ a : Fin 512, dxv A (T a) d := by
  pointwise [k0_pay5]
  simp only [dx_of R]
theorem lbs_of (v : Vec Ideal S1x1024 .f32) (d : Fin 1024) : k0_pay6 (F := Ideal) (k0_pay19 x0 (k0_pay13 x0 x1 x2) x7) v (ix2 0 d) = v (ix2 0 d) + ∑ a : Fin 512, dxv A (T a) d := by
  pointwise [k0_pay6]
  rw [lb_of R]
theorem bg_of (d : Fin 1024) : k0_pay17 (F := Ideal) (k0_pay12 x0 x1 x2) (ix2 0 d) = ∑ a : Fin 512, dgp A (T a) d := by
  pointwise [k0_pay17]
  simp only [dgp_of R]
theorem bgs_of (v : Vec Ideal S1x1024 .f32) (d : Fin 1024) : k0_pay18 (F := Ideal) (k0_pay12 x0 x1 x2) v (ix2 0 d) = v (ix2 0 d) + ∑ a : Fin 512, dgp A (T a) d := by
  pointwise [k0_pay18]
  rw [bg_of R]
theorem wg_of (old : Vec Ideal S1024x1024 .f32) (i d : Fin 1024) : k0_pay14 (F := Ideal) x0 x1 x2 old x3 (ix2 i d) = old (ix2 i d) + ∑ a : Fin 512, A.x (T a) i * dgp A (T a) d := by
  pointwise [k0_pay14]
  simp only [dgb_of R, R.x]
theorem wp_of (old : Vec Ideal S256x1024 .f32) (i : Fin 256) (d : Fin 1024) : k0_pay16 (F := Ideal) old (k0_pay15 x0 x1 x4) (ix2 i d) = old (ix2 i d) + ∑ a : Fin 512, A.p (T a) i * (A.d (T a) d * A.sg (T a) d) := by
  pointwise [k0_pay16, k0_pay15, k0_pay11]
  simp only [R.d, R.sg, R.p]
end Block
theorem zero_g (d : Fin 1024) (j : Fin 1024) : k0_pay9 (F := Ideal) (ix2 d j) = 0 := by
  pointwise [k0_pay9]
theorem zero_p (d : Fin 256) (j : Fin 1024) : k0_pay10 (F := Ideal) (ix2 d j) = 0 := by
  pointwise [k0_pay10]
theorem cast_g (v : Vec Ideal S1024x1024 .f32) (d : Fin 1024) (j : Fin 1024) : k0_pay7 (F := Ideal) v (ix2 d j) = v (ix2 d j) := by
  pointwise [k0_pay7]
theorem cast_p (v : Vec Ideal S256x1024 .f32) (d : Fin 256) (j : Fin 1024) : k0_pay8 (F := Ideal) v (ix2 d j) = v (ix2 d j) := by
  pointwise [k0_pay8]

variable (m : (ℓ : Loc nD τ sig) → Buf (Elt Ideal) ℓ) (c : Dev nD)
/-- The normalised rows after their scale and shift. -/
def x2M : FVec Ideal S2048x1024 .f32 := Reference6Ideal.Hand.yT (m ((c : Thread nD τ).loc main_arg0)) (m ((c : Thread nD τ).loc main_arg4)) (m ((c : Thread nD τ).loc main_arg5))
theorem V_sg : V m c main_v34 = truncf (F := Ideal) .bf16 (Reference10Ideal.Hand.gateT (x2M m c) (m ((c : Thread nD τ).loc main_arg2)) (m ((c : Thread nD τ).loc main_arg6))) bitsLt_bf16_f32 := by
  show StableHlo.after hostOps0 (fun b => m (c, b)) (Proc.devRef .tc main_v34) = _
  after_reads_simp
  rfl
theorem V_pp : V m c main_v35 = truncf (F := Ideal) .bf16 (Reference10Ideal.Hand.sideT (m ((c : Thread nD τ).loc main_arg1)) (m ((c : Thread nD τ).loc main_arg3))) bitsLt_bf16_f32 := by
  show StableHlo.after hostOps0 (fun b => m (c, b)) (Proc.devRef .tc main_v35) = _
  after_reads_simp
  rfl
theorem V_x : V m c main_v36 = truncf (F := Ideal) .bf16 (x2M m c) bitsLt_bf16_f32 := by
  show StableHlo.after hostOps0 (fun b => m (c, b)) (Proc.devRef .tc main_v36) = _
  after_reads_simp
  rfl
theorem V_xh : V m c main_v17 = Reference6Ideal.Hand.xhT (m ((c : Thread nD τ).loc main_arg0)) := by
  show StableHlo.after hostOps0 (fun b => m (c, b)) (Proc.devRef .tc main_v17) = _
  after_reads_simp
  rfl
theorem V_rs : V m c main_v13 = Reference6Ideal.Hand.rsT (m ((c : Thread nD τ).loc main_arg0)) := by
  show StableHlo.after hostOps0 (fun b => m (c, b)) (Proc.devRef .tc main_v13) = _
  after_reads_simp
  rfl
theorem V_p (t : Fin 2048) (k : Fin 256) : V m c main_v37 (ix2 t k) = m ((c : Thread nD τ).loc main_arg1) (ix2 t k) := by
  show StableHlo.after hostOps0 (fun b => m (c, b)) (Proc.devRef .tc main_v37) (ix2 t k) = _
  after_reads_at
theorem V_w (a : Fin 1024) (b : Fin 1024) : V m c main_v38 (ix2 a b) = m ((c : Thread nD τ).loc main_arg2) (ix2 a b) := by
  show StableHlo.after hostOps0 (fun b => m (c, b)) (Proc.devRef .tc main_v38) (ix2 a b) = _
  after_reads_at

/-- What the launch reads, of the arguments. -/
def arrs : Arrs where
  d t j := m ((c : Thread nD τ).loc main_arg7) (ix2 t j)
  sg t f := SideInput.gate (fun k => x2M m c (ix2 t k)) (fun k => m ((c : Thread nD τ).loc main_arg2) (ix2 k f)) (m ((c : Thread nD τ).loc main_arg6) (ix2 0 f))
  pp t f := SideInput.side (fun k => m ((c : Thread nD τ).loc main_arg1) (ix2 t k)) (fun k => m ((c : Thread nD τ).loc main_arg3) (ix2 k f))
  x t j := x2M m c (ix2 t j)
  p t k := m ((c : Thread nD τ).loc main_arg1) (ix2 t k)
  xh t := xh fun d => m ((c : Thread nD τ).loc main_arg0) (ix2 t d)
  rs t := rs fun d => m ((c : Thread nD τ).loc main_arg0) (ix2 t d)
  w i d := m ((c : Thread nD τ).loc main_arg2) (ix2 i d)
  g d := m ((c : Thread nD τ).loc main_arg4) (ix2 0 d)

theorem rows (q : Fin cfg0.N) (hq : q.val < 4) : Rows (iblk m c 0 q) (iblk m c 1 q) (iblk m c 2 q) (iblk m c 3 q) (iblk m c 4 q) (iblk m c 5 q) (iblk m c 6 q) (iblk m c 7 q) (iblk m c 8 q) (arrs m c) (row q.val) where
  d a d := (read_blk0 q _ a d (ix2 (row q.val a) d) (row_val hq a) rfl).trans (congrFun (V_main_arg7 m c) (ix2 (row q.val a) d))
  sg a d := (read_blk1 q _ a d (ix2 (row q.val a) d) (row_val hq a) rfl).trans ((congrFun (V_sg m c) (ix2 (row q.val a) d)).trans (Reference10Ideal.Hand.gate_at _ _ _ _ d))
  pp a d := (read_blk2 q _ a d (ix2 (row q.val a) d) (row_val hq a) rfl).trans ((congrFun (V_pp m c) (ix2 (row q.val a) d)).trans (Reference10Ideal.Hand.side_at _ _ _ d))
  x a d := (read_blk3 q _ a d (ix2 (row q.val a) d) (row_val hq a) rfl).trans ((congrFun (V_x m c) (ix2 (row q.val a) d)).trans (Reference10Ideal.Hand.copy_x _ _ d))
  p a k := (read_blk4 q _ a k (ix2 (row q.val a) k) (row_val hq a) rfl).trans (V_p m c (row q.val a) k)
  xh a d := (read_blk5 q _ a d (ix2 (row q.val a) d) (row_val hq a) rfl).trans ((congrFun (V_xh m c) (ix2 (row q.val a) d)).trans (Reference6Ideal.Hand.xh_at (fun _ => rfl) d))
  rs a := (read_blk6 q _ a 0 (ix2 (row q.val a) 0) (row_val hq a) rfl).trans ((congrFun (V_rs m c) (ix2 (row q.val a) 0)).trans (Reference6Ideal.Hand.rs_at (fun _ => rfl) 0))
  w j d := (read_blk7 q _ j d (ix2 j d) rfl rfl).trans (V_w m c j d)
  g d := (read_blk8 q _ 0 d (ix2 0 d) rfl rfl).trans (congrFun (V_main_arg4 m c) (ix2 0 d))

/-- What a block adds to the gradients of the two weights, and of the three shifts and scales. -/
def pwg (i d : Fin 1024) (q : ℕ) : EReal := ∑ a : Fin 512, (arrs m c).x (row q a) i * dgp (arrs m c) (row q a) d
def pwp (i : Fin 256) (d : Fin 1024) (q : ℕ) : EReal := ∑ a : Fin 512, (arrs m c).p (row q a) i * ((arrs m c).d (row q a) d * (arrs m c).sg (row q a) d)
def pbg (d : Fin 1024) (q : ℕ) : EReal := ∑ a : Fin 512, dgp (arrs m c) (row q a) d
def plg (d : Fin 1024) (q : ℕ) : EReal := ∑ a : Fin 512, dxv (arrs m c) (row q a) d * (arrs m c).xh (row q a) d
def plb (d : Fin 1024) (q : ℕ) : EReal := ∑ a : Fin 512, dxv (arrs m c) (row q a) d

theorem lt4 (t : Fin cfg0.N) : t.val < 4 := Nat.lt_of_lt_of_eq t.isLt N_0

section point
variable (t : Fin cfg0.N)
set_option maxHeartbeats 1000000 in
theorem wg_first (ht : t.val = 0) (i : Fin 1024) (d : Fin 1024) : (outsAt0 m c t.val t.isLt).2.2.2.2.2.2.2.1 (ix2 i d) = pwg m c i d 0 := by
  rw [outsAt0_A m c t (by omega) (by omega) (by omega) (by omega) (by omega) (by omega) (by omega) (by omega) (by omega) (by omega)]
  frame_out
  refine (wg_of (rows m c t (lt4 t)) _ i d).trans ?_
  refine (congrArg (· + pwg m c i d t.val) ?_).trans ((zero_add _).trans (congrArg (pwg m c i d) ht))
  exact zero_g i d
set_option maxHeartbeats 1000000 in
theorem wg_next (h : t.val - 1 < cfg0.N) (h1 : 1 ≤ t.val) (i : Fin 1024) (d : Fin 1024) :
    (outsAt0 m c t.val t.isLt).2.2.2.2.2.2.2.1 (ix2 i d) = (outsAt0 m c (t.val - 1) h).2.2.2.2.2.2.2.1 (ix2 i d) + pwg m c i d t.val := by
  have := lt4 t
  by_cases h3 : t.val = 3
  · rw [outsAt0_C m c t (by omega) (by omega) (by omega) (by omega) (by omega) (by omega) (by omega) (by omega) (by omega) (by omega)]
    frame_out
    exact (wg_of (rows m c t (lt4 t)) _ i d).trans (congrArg (· + pwg m c i d t.val) (congrFun (Memref.IsWhole.read_unread _ _) (ix2 i d)))
  · rw [outsAt0_B m c t (by omega) (by omega) (by omega) (by omega) (by omega) (by omega) (by omega) (by omega) (by omega) (by omega)]
    frame_out
    exact (wg_of (rows m c t (lt4 t)) _ i d).trans (congrArg (· + pwg m c i d t.val) (congrFun (Memref.IsWhole.read_unread _ _) (ix2 i d)))
set_option maxHeartbeats 1000000 in
theorem wg_last (h : t.val - 1 < cfg0.N) (ht : t.val = 3) (i : Fin 1024) (d : Fin 1024) :
    (outsAt0 m c t.val t.isLt).2.2.2.2.2.1 (ix2 i d) = (outsAt0 m c (t.val - 1) h).2.2.2.2.2.2.2.1 (ix2 i d) + pwg m c i d t.val := by
  rw [outsAt0_C m c t (by omega) (by omega) (by omega) (by omega) (by omega) (by omega) (by omega) (by omega) (by omega) (by omega)]
  frame_out
  refine (cast_g _ i d).trans ?_
  exact (wg_of (rows m c t (lt4 t)) _ i d).trans (congrArg (· + pwg m c i d t.val) (congrFun (Memref.IsWhole.read_unread _ _) (ix2 i d)))
set_option maxHeartbeats 1000000 in
theorem wp_first (ht : t.val = 0) (i : Fin 256) (d : Fin 1024) : (outsAt0 m c t.val t.isLt).2.2.2.2.2.2.2.2 (ix2 i d) = pwp m c i d 0 := by
  rw [outsAt0_A m c t (by omega) (by omega) (by omega) (by omega) (by omega) (by omega) (by omega) (by omega) (by omega) (by omega)]
  frame_out
  refine (wp_of (rows m c t (lt4 t)) _ i d).trans ?_
  refine (congrArg (· + pwp m c i d t.val) ?_).trans ((zero_add _).trans (congrArg (pwp m c i d) ht))
  exact zero_p i d
set_option maxHeartbeats 1000000 in
theorem wp_next (h : t.val - 1 < cfg0.N) (h1 : 1 ≤ t.val) (i : Fin 256) (d : Fin 1024) :
    (outsAt0 m c t.val t.isLt).2.2.2.2.2.2.2.2 (ix2 i d) = (outsAt0 m c (t.val - 1) h).2.2.2.2.2.2.2.2 (ix2 i d) + pwp m c i d t.val := by
  have := lt4 t
  by_cases h3 : t.val = 3
  · rw [outsAt0_C m c t (by omega) (by omega) (by omega) (by omega) (by omega) (by omega) (by omega) (by omega) (by omega) (by omega)]
    frame_out
    exact (wp_of (rows m c t (lt4 t)) _ i d).trans (congrArg (· + pwp m c i d t.val) (congrFun (Memref.IsWhole.read_unread _ _) (ix2 i d)))
  · rw [outsAt0_B m c t (by omega) (by omega) (by omega) (by omega) (by omega) (by omega) (by omega) (by omega) (by omega) (by omega)]
    frame_out
    exact (wp_of (rows m c t (lt4 t)) _ i d).trans (congrArg (· + pwp m c i d t.val) (congrFun (Memref.IsWhole.read_unread _ _) (ix2 i d)))
set_option maxHeartbeats 1000000 in
theorem wp_last (h : t.val - 1 < cfg0.N) (ht : t.val = 3) (i : Fin 256) (d : Fin 1024) :
    (outsAt0 m c t.val t.isLt).2.2.2.2.2.2.1 (ix2 i d) = (outsAt0 m c (t.val - 1) h).2.2.2.2.2.2.2.2 (ix2 i d) + pwp m c i d t.val := by
  rw [outsAt0_C m c t (by omega) (by omega) (by omega) (by omega) (by omega) (by omega) (by omega) (by omega) (by omega) (by omega)]
  frame_out
  refine (cast_p _ i d).trans ?_
  exact (wp_of (rows m c t (lt4 t)) _ i d).trans (congrArg (· + pwp m c i d t.val) (congrFun (Memref.IsWhole.read_unread _ _) (ix2 i d)))
set_option maxHeartbeats 1000000 in
theorem bg_first (ht : t.val = 0) (d : Fin 1024) : (outsAt0 m c t.val t.isLt).2.2.1 (ix2 0 d) = pbg m c d 0 := by
  rw [outsAt0_A m c t (by omega) (by omega) (by omega) (by omega) (by omega) (by omega) (by omega) (by omega) (by omega) (by omega)]
  frame_out
  exact (bg_of (rows m c t (lt4 t)) d).trans (congrArg (pbg m c d) ht)
set_option maxHeartbeats 1000000 in
theorem bg_next (h : t.val - 1 < cfg0.N) (h1 : 1 ≤ t.val) (d : Fin 1024) :
    (outsAt0 m c t.val t.isLt).2.2.1 (ix2 0 d) = (outsAt0 m c (t.val - 1) h).2.2.1 (ix2 0 d) + pbg m c d t.val := by
  have := lt4 t
  by_cases h3 : t.val = 3
  · rw [outsAt0_C m c t (by omega) (by omega) (by omega) (by omega) (by omega) (by omega) (by omega) (by omega) (by omega) (by omega)]
    frame_out
    exact bgs_of (rows m c t (lt4 t)) _ d
  · rw [outsAt0_B m c t (by omega) (by omega) (by omega) (by omega) (by omega) (by omega) (by omega) (by omega) (by omega) (by omega)]
    frame_out
    exact bgs_of (rows m c t (lt4 t)) _ d
set_option maxHeartbeats 1000000 in
theorem lg_first (ht : t.val = 0) (d : Fin 1024) : (outsAt0 m c t.val t.isLt).2.2.2.1 (ix2 0 d) = plg m c d 0 := by
  rw [outsAt0_A m c t (by omega) (by omega) (by omega) (by omega) (by omega) (by omega) (by omega) (by omega) (by omega) (by omega)]
  frame_out
  exact (lg_of (rows m c t (lt4 t)) d).trans (congrArg (plg m c d) ht)
set_option maxHeartbeats 1000000 in
theorem lg_next (h : t.val - 1 < cfg0.N) (h1 : 1 ≤ t.val) (d : Fin 1024) :
    (outsAt0 m c t.val t.isLt).2.2.2.1 (ix2 0 d) = (outsAt0 m c (t.val - 1) h).2.2.2.1 (ix2 0 d) + plg m c d t.val := by
  have := lt4 t
  by_cases h3 : t.val = 3
  · rw [outsAt0_C m c t (by omega) (by omega) (by omega) (by omega) (by omega) (by omega) (by omega) (by omega) (by omega) (by omega)]
    frame_out
    exact lgs_of (rows m c t (lt4 t)) _ d
  · rw [outsAt0_B m c t (by omega) (by omega) (by omega) (by omega) (by omega) (by omega) (by omega) (by omega) (by omega) (by omega)]
    frame_out
    exact lgs_of (rows m c t (lt4 t)) _ d
set_option maxHeartbeats 1000000 in
theorem lb_first (ht : t.val = 0) (d : Fin 1024) : (outsAt0 m c t.val t.isLt).2.2.2.2.1 (ix2 0 d) = plb m c d 0 := by
  rw [outsAt0_A m c t (by omega) (by omega) (by omega) (by omega) (by omega) (by omega) (by omega) (by omega) (by omega) (by omega)]
  frame_out
  exact (lb_of (rows m c t (lt4 t)) d).trans (congrArg (plb m c d) ht)
set_option maxHeartbeats 1000000 in
theorem lb_next (h : t.val - 1 < cfg0.N) (h1 : 1 ≤ t.val) (d : Fin 1024) :
    (outsAt0 m c t.val t.isLt).2.2.2.2.1 (ix2 0 d) = (outsAt0 m c (t.val - 1) h).2.2.2.2.1 (ix2 0 d) + plb m c d t.val := by
  have := lt4 t
  by_cases h3 : t.val = 3
  · rw [outsAt0_C m c t (by omega) (by omega) (by omega) (by omega) (by omega) (by omega) (by omega) (by omega) (by omega) (by omega)]
    frame_out
    exact lbs_of (rows m c t (lt4 t)) _ d
  · rw [outsAt0_B m c t (by omega) (by omega) (by omega) (by omega) (by omega) (by omega) (by omega) (by omega) (by omega) (by omega)]
    frame_out
    exact lbs_of (rows m c t (lt4 t)) _ d
set_option maxHeartbeats 1000000 in
/-- The rows a block writes: the gradient before the normalisation, and a copy. -/
theorem dr_at (a : Fin 512) (d : Fin 1024) : (outsAt0 m c t.val t.isLt).1 (ix2 a d) = drv (arrs m c) (row t.val a) d
    ∧ (outsAt0 m c t.val t.isLt).2.1 (ix2 a d) = drv (arrs m c) (row t.val a) d := by
  have := lt4 t
  by_cases h0 : t.val = 0
  · rw [outsAt0_A m c t (by omega) (by omega) (by omega) (by omega) (by omega) (by omega) (by omega) (by omega) (by omega) (by omega)]
    frame_out
    exact ⟨dr_of (rows m c t (lt4 t)) a d, drb_of (rows m c t (lt4 t)) a d⟩
  by_cases h3 : t.val = 3
  · rw [outsAt0_C m c t (by omega) (by omega) (by omega) (by omega) (by omega) (by omega) (by omega) (by omega) (by omega) (by omega)]
    frame_out
    exact ⟨dr_of (rows m c t (lt4 t)) a d, drb_of (rows m c t (lt4 t)) a d⟩
  · rw [outsAt0_B m c t (by omega) (by omega) (by omega) (by omega) (by omega) (by omega) (by omega) (by omega) (by omega) (by omega)]
    frame_out
    exact ⟨dr_of (rows m c t (lt4 t)) a d, drb_of (rows m c t (lt4 t)) a d⟩
end point

theorem in_grid {n : ℕ} (h : n < 4) : n < cfg0.N := Nat.lt_of_lt_of_eq h N_0.symm
theorem row_of (t : Fin 2048) : row (t.val / 512) ⟨t.val % 512, by omega⟩ = t :=
  Fin.ext (by show (512 * (t.val / 512) + t.val % 512) % 2048 = t.val; omega)

/-- The gradient before the normalisation, at the end. -/
theorem fin9 (t : Fin 2048) (d : Fin 1024) : (dats m 0 c).arrAt 9 cfg0.N (ix2 t d) = drv (arrs m c) t d := by
  obtain ⟨q, hq⟩ : ∃ q : Fin cfg0.N, q.val = t.val / 512 := ⟨⟨t.val / 512, in_grid (by omega)⟩, rfl⟩
  have e := blocks9 m c q (all9 _)
  rw [flushed9] at e
  refine (read_blk9 q _ ⟨t.val % 512, by omega⟩ d (ix2 t d) (show t.val = 512 * q.val + t.val % 512 by omega) rfl).symm.trans
    ((congrFun e (ix2 ⟨t.val % 512, by omega⟩ d : S512x1024.Idx)).trans ((dr_at m c q ⟨t.val % 512, by omega⟩ d).1.trans ?_))
  rw [hq, row_of]

/-- Its copy, at the end. -/
theorem fin10 (t : Fin 2048) (d : Fin 1024) : (dats m 0 c).arrAt 10 cfg0.N (ix2 t d) = drv (arrs m c) t d := by
  obtain ⟨q, hq⟩ : ∃ q : Fin cfg0.N, q.val = t.val / 512 := ⟨⟨t.val / 512, in_grid (by omega)⟩, rfl⟩
  have e := blocks10 m c q (all10 _)
  rw [flushed10] at e
  refine (read_blk10 q _ ⟨t.val % 512, by omega⟩ d (ix2 t d) (show t.val = 512 * q.val + t.val % 512 by omega) rfl).symm.trans
    ((congrFun e (ix2 ⟨t.val % 512, by omega⟩ d : S512x1024.Idx)).trans ((dr_at m c q ⟨t.val % 512, by omega⟩ d).2.trans ?_))
  rw [hq, row_of]

theorem last11 : ∀ t : Fin cfg0.N, (cfg0.win 11).flush t = decide (t.val = 3) := (by decide +kernel : ∀ t : Fin grid0.N, _)
theorem disjoint11 : ∀ t t' : Fin cfg0.N, (cfg0.win 11).flush t = true → (cfg0.win 11).flush t' = true → t ≠ t' →
    Disjoint ((cfg0.win 11).blk t).view.set ((cfg0.win 11).blk t').view.set := by
  intro t t' h h' hne
  rw [last11] at h h'
  exact absurd (Fin.ext ((of_decide_eq_true h).trans (of_decide_eq_true h').symm)) hne
theorem cut11 (t : Fin cfg0.N) (X : Vec Ideal S1x1024 .f32) (i : Fin 1) (d : Fin 1024) : (cfg0.win 11).cut (grid0.coords t) X (ix2 i d) = X (ix2 i d) := rfl

theorem last12 : ∀ t : Fin cfg0.N, (cfg0.win 12).flush t = decide (t.val = 3) := (by decide +kernel : ∀ t : Fin grid0.N, _)
theorem disjoint12 : ∀ t t' : Fin cfg0.N, (cfg0.win 12).flush t = true → (cfg0.win 12).flush t' = true → t ≠ t' →
    Disjoint ((cfg0.win 12).blk t).view.set ((cfg0.win 12).blk t').view.set := by
  intro t t' h h' hne
  rw [last12] at h h'
  exact absurd (Fin.ext ((of_decide_eq_true h).trans (of_decide_eq_true h').symm)) hne
theorem cut12 (t : Fin cfg0.N) (X : Vec Ideal S1x1024 .f32) (i : Fin 1) (d : Fin 1024) : (cfg0.win 12).cut (grid0.coords t) X (ix2 i d) = X (ix2 i d) := rfl

theorem last13 : ∀ t : Fin cfg0.N, (cfg0.win 13).flush t = decide (t.val = 3) := (by decide +kernel : ∀ t : Fin grid0.N, _)
theorem disjoint13 : ∀ t t' : Fin cfg0.N, (cfg0.win 13).flush t = true → (cfg0.win 13).flush t' = true → t ≠ t' →
    Disjoint ((cfg0.win 13).blk t).view.set ((cfg0.win 13).blk t').view.set := by
  intro t t' h h' hne
  rw [last13] at h h'
  exact absurd (Fin.ext ((of_decide_eq_true h).trans (of_decide_eq_true h').symm)) hne
theorem cut13 (t : Fin cfg0.N) (X : Vec Ideal S1x1024 .f32) (i : Fin 1) (d : Fin 1024) : (cfg0.win 13).cut (grid0.coords t) X (ix2 i d) = X (ix2 i d) := rfl

theorem last14 : ∀ t : Fin cfg0.N, (cfg0.win 14).flush t = decide (t.val = 3) := (by decide +kernel : ∀ t : Fin grid0.N, _)
theorem disjoint14 : ∀ t t' : Fin cfg0.N, (cfg0.win 14).flush t = true → (cfg0.win 14).flush t' = true → t ≠ t' →
    Disjoint ((cfg0.win 14).blk t).view.set ((cfg0.win 14).blk t').view.set := by
  intro t t' h h' hne
  rw [last14] at h h'
  exact absurd (Fin.ext ((of_decide_eq_true h).trans (of_decide_eq_true h').symm)) hne
theorem cut14 (t : Fin cfg0.N) (X : Vec Ideal S1024x1024 .bf16) (i : Fin 1024) (d : Fin 1024) : (cfg0.win 14).cut (grid0.coords t) X (ix2 i d) = X (ix2 i d) := rfl

theorem last15 : ∀ t : Fin cfg0.N, (cfg0.win 15).flush t = decide (t.val = 3) := (by decide +kernel : ∀ t : Fin grid0.N, _)
theorem disjoint15 : ∀ t t' : Fin cfg0.N, (cfg0.win 15).flush t = true → (cfg0.win 15).flush t' = true → t ≠ t' →
    Disjoint ((cfg0.win 15).blk t).view.set ((cfg0.win 15).blk t').view.set := by
  intro t t' h h' hne
  rw [last15] at h h'
  exact absurd (Fin.ext ((of_decide_eq_true h).trans (of_decide_eq_true h').symm)) hne
theorem cut15 (t : Fin cfg0.N) (X : Vec Ideal S256x1024 .bf16) (i : Fin 256) (d : Fin 1024) : (cfg0.win 15).cut (grid0.coords t) X (ix2 i d) = X (ix2 i d) := rfl

/-- The gradient of the gate's shift, at the end. -/
theorem fin11 (d : Fin 1024) : (dats m 0 c).arrAt 11 cfg0.N (ix2 0 d) = dbgv (arrs m c) d := by
  obtain ⟨t, ht⟩ : ∃ t : Fin cfg0.N, t.val = 3 := ⟨⟨3, in_grid (by decide)⟩, rfl⟩
  have e := (dats m 0 c).read_blk_arrAt_eq_flushed 11 disjoint11 cfg0.N t t.isLt ((last11 t).trans (decide_eq_true ht))
  rw [flushed11] at e
  have s := Gather.gathered (N := cfg0.N) (fun n h => (outsAt0 m c n h).2.2.1 (ix2 0 d)) (pbg m c d) (fun t h => bg_first m c t h d) (fun t h h1 => bg_next m c t h h1 d) t.val t.isLt
  exact (read_blk11 t _ 0 d (ix2 0 d) rfl rfl).symm.trans ((congrFun e (ix2 0 d)).trans ((cut11 t _ 0 d).trans (s.trans
    ((congrArg (upTo (pbg m c d)) ht).trans (Gather.all (fun t => dgp (arrs m c) t d)).symm))))

/-- The gradient of the normalisation's scale, at the end. -/
theorem fin12 (d : Fin 1024) : (dats m 0 c).arrAt 12 cfg0.N (ix2 0 d) = dlgv (arrs m c) d := by
  obtain ⟨t, ht⟩ : ∃ t : Fin cfg0.N, t.val = 3 := ⟨⟨3, in_grid (by decide)⟩, rfl⟩
  have e := (dats m 0 c).read_blk_arrAt_eq_flushed 12 disjoint12 cfg0.N t t.isLt ((last12 t).trans (decide_eq_true ht))
  rw [flushed12] at e
  have s := Gather.gathered (N := cfg0.N) (fun n h => (outsAt0 m c n h).2.2.2.1 (ix2 0 d)) (plg m c d) (fun t h => lg_first m c t h d) (fun t h h1 => lg_next m c t h h1 d) t.val t.isLt
  exact (read_blk12 t _ 0 d (ix2 0 d) rfl rfl).symm.trans ((congrFun e (ix2 0 d)).trans ((cut12 t _ 0 d).trans (s.trans
    ((congrArg (upTo (plg m c d)) ht).trans (Gather.all (fun t => dxv (arrs m c) t d * (arrs m c).xh t d)).symm))))

/-- The gradient of the normalisation's shift, at the end. -/
theorem fin13 (d : Fin 1024) : (dats m 0 c).arrAt 13 cfg0.N (ix2 0 d) = dlbv (arrs m c) d := by
  obtain ⟨t, ht⟩ : ∃ t : Fin cfg0.N, t.val = 3 := ⟨⟨3, in_grid (by decide)⟩, rfl⟩
  have e := (dats m 0 c).read_blk_arrAt_eq_flushed 13 disjoint13 cfg0.N t t.isLt ((last13 t).trans (decide_eq_true ht))
  rw [flushed13] at e
  have s := Gather.gathered (N := cfg0.N) (fun n h => (outsAt0 m c n h).2.2.2.2.1 (ix2 0 d)) (plb m c d) (fun t h => lb_first m c t h d) (fun t h h1 => lb_next m c t h h1 d) t.val t.isLt
  exact (read_blk13 t _ 0 d (ix2 0 d) rfl rfl).symm.trans ((congrFun e (ix2 0 d)).trans ((cut13 t _ 0 d).trans (s.trans
    ((congrArg (upTo (plb m c d)) ht).trans (Gather.all (fun t => dxv (arrs m c) t d)).symm))))

/-- The gradient of the gate's weights, at the end. -/
theorem fin14 (i : Fin 1024) (d : Fin 1024) : (dats m 0 c).arrAt 14 cfg0.N (ix2 i d) = dwgv (arrs m c) i d := by
  obtain ⟨t, ht⟩ : ∃ t : Fin cfg0.N, t.val = 3 := ⟨⟨3, in_grid (by decide)⟩, rfl⟩
  have e := (dats m 0 c).read_blk_arrAt_eq_flushed 14 disjoint14 cfg0.N t t.isLt ((last14 t).trans (decide_eq_true ht))
  rw [flushed14] at e
  have hn : t.val - 1 < cfg0.N := by have := t.isLt; omega
  have s := Gather.gathered (N := cfg0.N) (fun n h => (outsAt0 m c n h).2.2.2.2.2.2.2.1 (ix2 i d)) (pwg m c i d) (fun t h => wg_first m c t h i d) (fun t h h1 => wg_next m c t h h1 i d) (t.val - 1) hn
  refine (read_blk14 t _ i d (ix2 i d) rfl rfl).symm.trans ((congrFun e (ix2 i d)).trans ((cut14 t _ i d).trans ((wg_last m c t hn ht i d).trans
    ((congrArg (· + pwg m c i d t.val) s).trans (Eq.trans ?_ (Gather.all _).symm)))))
  rw [show t.val - 1 = 2 by omega, ht]
  rfl
/-- The gradient of the side input's weights, at the end. -/
theorem fin15 (i : Fin 256) (d : Fin 1024) : (dats m 0 c).arrAt 15 cfg0.N (ix2 i d) = dwpv (arrs m c) i d := by
  obtain ⟨t, ht⟩ : ∃ t : Fin cfg0.N, t.val = 3 := ⟨⟨3, in_grid (by decide)⟩, rfl⟩
  have e := (dats m 0 c).read_blk_arrAt_eq_flushed 15 disjoint15 cfg0.N t t.isLt ((last15 t).trans (decide_eq_true ht))
  rw [flushed15] at e
  have hn : t.val - 1 < cfg0.N := by have := t.isLt; omega
  have s := Gather.gathered (N := cfg0.N) (fun n h => (outsAt0 m c n h).2.2.2.2.2.2.2.2 (ix2 i d)) (pwp m c i d) (fun t h => wp_first m c t h i d) (fun t h h1 => wp_next m c t h h1 i d) (t.val - 1) hn
  refine (read_blk15 t _ i d (ix2 i d) rfl rfl).symm.trans ((congrFun e (ix2 i d)).trans ((cut15 t _ i d).trans ((wp_last m c t hn ht i d).trans
    ((congrArg (· + pwp m c i d t.val) s).trans (Eq.trans ?_ (Gather.all _).symm)))))
  rw [show t.val - 1 = 2 by omega, ht]
  rfl
end Cert.Kernel13Ideal.Hand

end
-- ==== Proof.SideBwdRef.lean ====
module
public import Idealize.ShloMosaic.Lib.Pointwise
public import proofs.«01_k».proof.Proof.MixRef
public import proofs.«01_k».proof.Proof.Ple
public import proofs.«01_k».proof.Proof.Gen.Reference13Ideal.Run
@[expose] public section
set_option maxRecDepth 16384
noncomputable section

/-! The derivative of the gated side input and of the normalisation before it, as the reference computes it, at an index. -/

namespace Cert.Reference13Ideal.Hand
open Cert.Reference13Ideal Cert.Reference13Ideal.Gen Idealize.ShloMosaic Idealize.ShloMosaic.TcCoe
open Cert.Reference6Ideal.Hand (yT xhT xh_at)
open Cert.Reference10Ideal.Hand (gateT sideT)
open Cert.Reference12Ideal.Hand (partsT parts_at colT col_at dlT dl_at dwT dw_at)
open RowNorm

/-- The gradient before the gate. -/
def dgpT (d gate side : FVec Ideal S2048x1024 .f32) : FVec Ideal S2048x1024 .f32 :=
  mulf (mulf (shapeCast _ d shapeCasts_S2048x1024_S2048x1024) side) (mulf gate (subf (broadcastInDim S2048x1024 ![] bcast_S_S2048x1024 (constant S_ .f32 0x3F800000#32)) gate))
/-- The gradient of the scaled and shifted rows. -/
def dxT (d q : FVec Ideal S2048x1024 .f32) (w : FVec Ideal S1024x1024 .f32) : FVec Ideal S2048x1024 .f32 :=
  addf (shapeCast _ d shapeCasts_S2048x1024_S2048x1024) (dlT q w)
/-- The gradient of the normalised rows. -/
def dxhT (x : FVec Ideal S2048x1024 .f32) (g : FVec Ideal S1x1024 .f32) : FVec Ideal S2048x1024 .f32 :=
  mulf x (broadcastInDim S2048x1024 ![0, 1] bcast_S1x1024_S2048x1024_0_1 g)
/-- The gradient of the side input's weights. -/
def dwpT (gate d : FVec Ideal S2048x1024 .f32) (p : FVec Ideal S2048x256 .f32) : FVec Ideal S256x1024 .bf16 :=
  truncf .bf16 (transpose S256x1024 [1, 0] (Host.dotGeneral (F := Ideal) dot_S2048x1024_S2048x256_S1024x256_0_0_1_1_n_n none
    (mulf gate (shapeCast _ d shapeCasts_S2048x1024_S2048x1024)) p) transposes_S1024x256_S256x1024_1_0) bitsLt_bf16_f32

theorem dgp_at (d gate side : FVec Ideal S2048x1024 .f32) (t : Fin 2048) (k : Fin 1024) :
    dgpT d gate side (ix2 t k) = d (ix2 t k) * side (ix2 t k) * gate (ix2 t k) * (1 - gate (ix2 t k)) := by
  pointwise [dgpT]
  exact (mul_assoc _ _ _).symm
theorem dx_at (d q : FVec Ideal S2048x1024 .f32) (w : FVec Ideal S1024x1024 .f32) (t : Fin 2048) (j : Fin 1024) :
    dxT d q w (ix2 t j) = d (ix2 t j) + ∑ k : Fin 1024, q (ix2 t k) * w (ix2 j k) := by
  pointwise [dxT]
  rw [dl_at]
theorem dxh_at (x : FVec Ideal S2048x1024 .f32) (g : FVec Ideal S1x1024 .f32) (t : Fin 2048) (d : Fin 1024) : dxhT x g (ix2 t d) = x (ix2 t d) * g (ix2 0 d) := by
  pointwise [dxhT]
theorem dg_at (u x : FVec Ideal S2048x1024 .f32) (z : Fin 1) (d : Fin 1024) : colT (mulf (xhT u) x) (ix2 z d) = ∑ t : Fin 2048, x (ix2 t d) * xh (fun d => u (ix2 t d)) d := by
  rw [col_at]
  refine Finset.sum_congr rfl fun t _ => ?_
  pointwise
  rw [xh_at (fun _ => rfl)]
  exact mul_comm _ _
theorem dwp_at (gate d : FVec Ideal S2048x1024 .f32) (p : FVec Ideal S2048x256 .f32) (i : Fin 256) (k : Fin 1024) :
    dwpT gate d p (ix2 i k) = ∑ t : Fin 2048, p (ix2 t i) * (d (ix2 t k) * gate (ix2 t k)) := by
  pointwise [dwpT]
  exact Finset.sum_congr rfl fun t _ => (mul_comm _ _).trans (congrArg (_ * ·) (mul_comm _ _))

variable (m : (ℓ : Loc nD τ sig) → Buf (Elt Ideal) ℓ) (c : Dev nD)
/-- The scaled and shifted rows, the gate, and the gradients that the results are made of, of the arguments. -/
def x2M : FVec Ideal S2048x1024 .f32 := yT (m ((c.tc : Thread nD τ).loc main_arg0)) (m ((c.tc : Thread nD τ).loc main_arg4)) (m ((c.tc : Thread nD τ).loc main_arg5))
def gateM : FVec Ideal S2048x1024 .f32 := gateT (x2M m c) (m ((c.tc : Thread nD τ).loc main_arg2)) (m ((c.tc : Thread nD τ).loc main_arg6))
def dgpM : FVec Ideal S2048x1024 .f32 := dgpT (m ((c.tc : Thread nD τ).loc main_arg7)) (gateM m c) (sideT (m ((c.tc : Thread nD τ).loc main_arg1)) (m ((c.tc : Thread nD τ).loc main_arg3)))
def dxM : FVec Ideal S2048x1024 .f32 := dxT (m ((c.tc : Thread nD τ).loc main_arg7)) (dgpM m c) (m ((c.tc : Thread nD τ).loc main_arg2))
def drM : FVec Ideal S2048x1024 .f32 := partsT (m ((c.tc : Thread nD τ).loc main_arg0)) (dxhT (dxM m c) (m ((c.tc : Thread nD τ).loc main_arg4)))
theorem res0 : Value.res_main_v86 m c = drM m c := rfl
theorem res1 : Value.res_main_v87 m c = truncf (F := Ideal) .bf16 (drM m c) bitsLt_bf16_f32 := rfl
theorem res2 : Value.res_main_v51 m c = colT (dgpM m c) := rfl
theorem res3 : Value.res_main_v60 m c = colT (mulf (xhT (m ((c.tc : Thread nD τ).loc main_arg0))) (dxM m c)) := rfl
theorem res4 : Value.res_main_v57 m c = colT (dxM m c) := rfl
theorem res5 : Value.res_main_v88 m c = dwT (dgpM m c) (x2M m c) := rfl

end Cert.Reference13Ideal.Hand

end
-- ==== Proof.SideNorm.lean ====
module
public import proofs.«01_k».proof.Proof.MixNorm
@[expose] public section
set_option maxRecDepth 32768
noncomputable section

/-! The precondition of the side input's gradient read at an entry: every argument holds real numbers, and with
them the gradients before the normalisation's are real. -/

namespace IsReal
open Idealize.ShloMosaic
theorem one_sub {x : EReal} (hx : IsReal x) : IsReal (1 - x) := by
  obtain ⟨a, rfl⟩ := hx
  exact ⟨1 - a, by rw [EReal.coe_sub, EReal.coe_one]⟩
theorem gate {z : EReal} (h : IsReal z) : IsReal (Ideal.div 1 (1 + Ideal.exp (-z))) := by
  obtain ⟨a, rfl⟩ := h
  have hp : 1 + Real.exp (-a) ≠ 0 := by positivity
  exact ⟨_, by rw [← EReal.coe_neg, Ideal.exp_coe, ← EReal.coe_one, ← EReal.coe_add, Ideal.div_coe hp, ← EReal.coe_mul]⟩
theorem xh {u : Fin 1024 → EReal} (hu : ∀ k, IsReal (u k)) (d : Fin 1024) : IsReal (RowNorm.xh u d) := by
  choose U hU using hu
  obtain ⟨R, _, h⟩ := RowNorm.xh_real hU
  exact ⟨_, h d⟩
end IsReal

namespace SideNorm
open Idealize.ShloMosaic
open StickBreak (real_of_lt)

/-- The side conditions the precondition's operations state. -/
theorem finite_facts : Cert.Pre_finite13.Facts where
  concatenates_S2048x256_S2048x256_S2048x256_S2048x256_S2048x1024_d1 := by decide
  concatenates_S2048x1024_S2048x1024_S2048x1024_S1024x1024_S256x1024_S1x1024_S1x1024_S1x1024_S7427x1024_d0 := by decide
  bcast_S_S7427x1024 := by decide

variable {x0 : FVec Ideal Cert.Pre_finite13.S2048x1024 .f32} {x1 : FVec Ideal Cert.Pre_finite13.S2048x256 .f32} {x2 : FVec Ideal Cert.Pre_finite13.S1024x1024 .f32}
  {x3 : FVec Ideal Cert.Pre_finite13.S256x1024 .f32} {x4 x5 x6 : FVec Ideal Cert.Pre_finite13.S1x1024 .f32} {x7 : FVec Ideal Cert.Pre_finite13.S2048x1024 .f32}
variable [Cert.Pre_finite13.Facts] (h : Cert.Pre_finite13.fn (F := Ideal) x0 x1 x2 x3 x4 x5 x6 x7 = fun _ => 1#1)
include h

theorem real0 (t : Fin 2048) (d : Fin 1024) : IsReal (x0 (ix2 t d)) := by
  have e := congrFun h (ix2 ⟨t.val, by omega⟩ d)
  unfold Cert.Pre_finite13.fn at e
  pointwise at e
  exact IsReal.of_toReal (real_of_lt e)
theorem real7 (t : Fin 2048) (d : Fin 1024) : IsReal (x7 (ix2 t d)) := by
  have e := congrFun h (ix2 ⟨2048 + t.val, by omega⟩ d)
  unfold Cert.Pre_finite13.fn at e
  pointwise at e
  exact IsReal.of_toReal (real_of_lt e)
theorem real1 (t : Fin 2048) (d : Fin 256) : IsReal (x1 (ix2 t d)) := by
  have e := congrFun h (ix2 ⟨4096 + t.val, by omega⟩ ⟨d.val, by omega⟩)
  unfold Cert.Pre_finite13.fn at e
  pointwise at e
  replace e := IsReal.of_toReal (real_of_lt e)
  rw [dif_neg (by omega), dif_neg (by omega), dif_pos (by omega)] at e
  have i : (⟨4096 + t.val - 2048 - 2048, by omega⟩ : Fin 2048) = t := Fin.ext (by show 4096 + t.val - 2048 - 2048 = t.val; omega)
  exact (congrArg (fun i => IsReal (x1 (ix2 i d))) i).mp e
theorem real2 (t : Fin 1024) (d : Fin 1024) : IsReal (x2 (ix2 t d)) := by
  have e := congrFun h (ix2 ⟨6144 + t.val, by omega⟩ d)
  unfold Cert.Pre_finite13.fn at e
  pointwise at e
  replace e := IsReal.of_toReal (real_of_lt e)
  rw [dif_neg (by omega), dif_neg (by omega), dif_neg (by omega), dif_pos (by omega)] at e
  have i : (⟨6144 + t.val - 2048 - 2048 - 2048, by omega⟩ : Fin 1024) = t := Fin.ext (by show 6144 + t.val - 2048 - 2048 - 2048 = t.val; omega)
  exact (congrArg (fun i => IsReal (x2 (ix2 i d))) i).mp e
theorem real3 (t : Fin 256) (d : Fin 1024) : IsReal (x3 (ix2 t d)) := by
  have e := congrFun h (ix2 ⟨7168 + t.val, by omega⟩ d)
  unfold Cert.Pre_finite13.fn at e
  pointwise at e
  replace e := IsReal.of_toReal (real_of_lt e)
  rw [dif_neg (by omega), dif_neg (by omega), dif_neg (by omega), dif_neg (by omega), dif_pos (by omega)] at e
  have i : (⟨7168 + t.val - 2048 - 2048 - 2048 - 1024, by omega⟩ : Fin 256) = t := Fin.ext (by show 7168 + t.val - 2048 - 2048 - 2048 - 1024 = t.val; omega)
  exact (congrArg (fun i => IsReal (x3 (ix2 i d))) i).mp e
theorem real4 (d : Fin 1024) : IsReal (x4 (ix2 0 d)) := by
  have e := congrFun h (ix2 ⟨7424, by omega⟩ d)
  unfold Cert.Pre_finite13.fn at e
  pointwise at e
  exact IsReal.of_toReal (real_of_lt e)
theorem real5 (d : Fin 1024) : IsReal (x5 (ix2 0 d)) := by
  have e := congrFun h (ix2 ⟨7425, by omega⟩ d)
  unfold Cert.Pre_finite13.fn at e
  pointwise at e
  exact IsReal.of_toReal (real_of_lt e)
theorem real6 (d : Fin 1024) : IsReal (x6 (ix2 0 d)) := by
  have e := congrFun h (ix2 ⟨7426, by omega⟩ d)
  unfold Cert.Pre_finite13.fn at e
  pointwise at e
  exact IsReal.of_toReal (real_of_lt e)
end SideNorm

end
-- ==== Proof.Calls4.lean ====
module
public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Calls
public import proofs.«01_k».proof.Proof.SideBwd
public import proofs.«01_k».proof.Proof.SideBwdRef
public import proofs.«01_k».proof.Proof.SideNorm
public import Idealize.ShloMosaic.Adequacy
public import Idealize.ShloMosaic.Init
@[expose] public section
noncomputable section

/-! The gradient of the gated side input and of the normalisation before it ends with its reference's values,
where every entry of the arguments is finite. -/

namespace Cert.Calls

open Idealize.ShloMosaic Idealize.SL.Sem
open Cert.Kernel13Ideal.Hand (arrs dgp dxv drv)
open Cert.Reference13Ideal.Hand (x2M gateM dgpM dxM drM)

/-- The reference runs and leaves its arguments as they were. -/
theorem frame13 : Cert.quiescent_Reference13Ideal (hReference13Ideal := Cert.Reference13Ideal.Gen.facts) :=
  fun m g _ => (θ_run _ _ _).mono
    (fun r h => ⟨fun c => (h c).2.2.2.2.2.2.2, Idealize.ShloMosaic.sem_eq_zero_of_no_sems (by decide) r.2⟩)
    (Cert.Reference13Ideal.Value.run (F := Ideal) m g)

set_option maxHeartbeats 2000000 in
/-- The gradients of the gated side input and of the normalisation. -/
theorem ple_bwd_equal : Cert.algebraic_Kernel13Ideal_Reference13Ideal_pre_finite13 (hKernel13Ideal := Cert.Kernel13Ideal.Gen.facts)
    (hReference13Ideal := Cert.Reference13Ideal.Gen.facts) (hPre_finite13 := SideNorm.finite_facts) := by
  intro m g m' g' hp ha
  letI := SideNorm.finite_facts
  have hx2 : ∀ c, x2M m' c = Cert.Kernel13Ideal.Hand.x2M m c := fun c => by
    unfold x2M
    rw [(ha c).1, (ha c).2.2.2.2.1, (ha c).2.2.2.2.2.1]
    rfl
  have hsg : ∀ c t f, gateM m' c (ix2 t f) = (arrs m c).sg t f := fun c t f => by
    unfold gateM
    rw [hx2, (ha c).2.2.1, (ha c).2.2.2.2.2.2.1]
    exact Cert.Reference10Ideal.Hand.gateT_at _ _ _ t f
  have hdgp : ∀ c t f, dgpM m' c (ix2 t f) = dgp (arrs m c) t f := fun c t f => by
    refine (Cert.Reference13Ideal.Hand.dgp_at _ _ _ t f).trans ?_
    rw [hsg c t f, Cert.Reference10Ideal.Hand.sideT_at, (ha c).2.1, (ha c).2.2.2.1, (ha c).2.2.2.2.2.2.2]
    rfl
  have hdx : ∀ c t j, dxM m' c (ix2 t j) = dxv (arrs m c) t j := fun c t j => by
    refine (Cert.Reference13Ideal.Hand.dx_at _ _ _ t j).trans ?_
    rw [(ha c).2.2.1, (ha c).2.2.2.2.2.2.2]
    exact congrArg₂ (fun a b : EReal => a + b) rfl (Finset.sum_congr rfl fun k _ => congrArg₂ (fun a b : EReal => a * b) (hdgp c t k) rfl)
  have rx2 : ∀ c t j, IsReal (Cert.Kernel13Ideal.Hand.x2M m c (ix2 t j)) := fun c t j =>
    (congrArg IsReal (Cert.Reference6Ideal.Hand.y_at (fun _ => rfl) _ _ j)).mpr
      (((IsReal.xh (fun k => SideNorm.real0 (hp c) t k) j).mul (SideNorm.real4 (hp c) j)).add (SideNorm.real5 (hp c) j))
  have rsg : ∀ c t f, IsReal ((arrs m c).sg t f) := fun c t f =>
    IsReal.gate ((IsReal.sum fun k => (rx2 c t k).mul (SideNorm.real2 (hp c) k f)).add (SideNorm.real6 (hp c) f))
  have rdgp : ∀ c t f, IsReal (dgp (arrs m c) t f) := fun c t f =>
    (((SideNorm.real7 (hp c) t f).mul (IsReal.sum fun k => (SideNorm.real1 (hp c) t k).mul (SideNorm.real3 (hp c) k f))).mul (rsg c t f)).mul (rsg c t f).one_sub
  have rdx : ∀ c t j, IsReal (dxv (arrs m c) t j) := fun c t j =>
    (SideNorm.real7 (hp c) t j).add (IsReal.sum fun k => (rdgp c t k).mul (SideNorm.real2 (hp c) j k))
  have hdr : ∀ c t d, drM m' c (ix2 t d) = drv (arrs m c) t d := fun c t d => by
    unfold drM
    refine (Cert.Reference12Ideal.Hand.parts_at (v := fun k => m ((c.tc : Thread _ _).loc Cert.Kernel13Ideal.main_arg0) (ix2 t k))
      (y := fun k => dxv (arrs m c) t k * (arrs m c).g k) (fun k => congrFun (ha c).1 (ix2 t k)) (fun k => ?_) d).trans
      (RowNorm.bwd_of_real (fun k => SideNorm.real0 (hp c) t k) (fun k => (rdx c t k).mul (SideNorm.real4 (hp c) k)) d).symm
    rw [(ha c).2.2.2.2.1]
    exact (Cert.Reference13Ideal.Hand.dxh_at _ _ t k).trans (congrArg (· * _) (hdx c t k))
  refine ⟨fun c => (Cert.Kernel13Ideal.Gen.dats m 0 c).arrAt 9 Cert.Kernel13Ideal.cfg0.N,
    fun c => (Cert.Kernel13Ideal.Gen.dats m 0 c).arrAt 10 Cert.Kernel13Ideal.cfg0.N,
    fun c => (Cert.Kernel13Ideal.Gen.dats m 0 c).arrAt 11 Cert.Kernel13Ideal.cfg0.N,
    fun c => (Cert.Kernel13Ideal.Gen.dats m 0 c).arrAt 12 Cert.Kernel13Ideal.cfg0.N,
    fun c => (Cert.Kernel13Ideal.Gen.dats m 0 c).arrAt 13 Cert.Kernel13Ideal.cfg0.N,
    fun c => (Cert.Kernel13Ideal.Gen.dats m 0 c).arrAt 14 Cert.Kernel13Ideal.cfg0.N,
    fun c => (Cert.Kernel13Ideal.Gen.dats m 0 c).arrAt 15 Cert.Kernel13Ideal.cfg0.N,
    Cert.Kernel13Ideal.Value.run_blocks (F := Ideal) m g, (θ_run _ _ _).mono (fun r h c =>
      ⟨(h c).1.trans ((Cert.Reference13Ideal.Hand.res0 m' c).trans ?_), (h c).2.1.trans ((Cert.Reference13Ideal.Hand.res1 m' c).trans ?_), (h c).2.2.1.trans ((Cert.Reference13Ideal.Hand.res2 m' c).trans ?_), (h c).2.2.2.1.trans ((Cert.Reference13Ideal.Hand.res3 m' c).trans ?_), (h c).2.2.2.2.1.trans ((Cert.Reference13Ideal.Hand.res4 m' c).trans ?_), (h c).2.2.2.2.2.1.trans ((Cert.Reference13Ideal.Hand.res5 m' c).trans ?_), (h c).2.2.2.2.2.2.1.trans ?_, (h c).2.2.2.2.2.2.2⟩)
      (Cert.Reference13Ideal.Value.run (F := Ideal) m' g')⟩
  · exact ext_rows _ _ fun i j => (hdr c i j).trans (Cert.Kernel13Ideal.Hand.fin9 m c i j).symm
  · exact ext_rows _ _ fun i j => (Cert.Reference10Ideal.Hand.copy_x _ i j).trans ((hdr c i j).trans (Cert.Kernel13Ideal.Hand.fin10 m c i j).symm)
  · refine ext_rows _ _ fun z j => ?_
    rw [Fin.eq_zero z]
    exact (Cert.Reference12Ideal.Hand.col_at (dgpM m' c) 0 j).trans ((Finset.sum_congr rfl fun t _ => hdgp c t j).trans (Cert.Kernel13Ideal.Hand.fin11 m c j).symm)
  · refine ext_rows _ _ fun z j => ?_
    rw [Fin.eq_zero z]
    refine (Cert.Reference13Ideal.Hand.dg_at _ (dxM m' c) 0 j).trans (Eq.trans ?_ (Cert.Kernel13Ideal.Hand.fin12 m c j).symm)
    rw [(ha c).1]
    exact Finset.sum_congr rfl fun t _ => congrArg (· * _) (hdx c t j)
  · refine ext_rows _ _ fun z j => ?_
    rw [Fin.eq_zero z]
    exact (Cert.Reference12Ideal.Hand.col_at (dxM m' c) 0 j).trans ((Finset.sum_congr rfl fun t _ => hdx c t j).trans (Cert.Kernel13Ideal.Hand.fin13 m c j).symm)
  · refine ext_rows _ _ fun i j => ?_
    refine (Cert.Reference12Ideal.Hand.dw_at _ _ i j).trans (Eq.trans ?_ (Cert.Kernel13Ideal.Hand.fin14 m c i j).symm)
    rw [hx2]
    exact Finset.sum_congr rfl fun t _ => congrArg₂ (fun a b : EReal => a * b) rfl (hdgp c t j)
  · refine ext_rows _ _ fun i j => ?_
    refine (Cert.Reference13Ideal.Hand.dwp_at (gateM m' c) _ _ i j).trans (Eq.trans ?_ (Cert.Kernel13Ideal.Hand.fin15 m c i j).symm)
    rw [(ha c).2.1, (ha c).2.2.2.2.2.2.2]
    exact Finset.sum_congr rfl fun t _ => congrArg₂ (fun a b : EReal => a * b) rfl (congrArg₂ (fun a b : EReal => a * b) rfl (hsg c t j))

end Cert.Calls

end
-- ==== Proof.SideLast.lean ====
module
public import Idealize.ShloMosaic.Lib.Pointwise
public import Idealize.ShloMosaic.Lib.StableHlo.ReadAt
public import Idealize.ShloMosaic.Lib.Pipeline.ValueKit.Basic
public import proofs.«01_k».proof.Proof.At
public import proofs.«01_k».proof.Proof.Acc
public import proofs.«01_k».proof.Proof.NormBwd
public import proofs.«01_k».proof.Proof.Ple
public import proofs.«01_k».proof.Proof.Gen.Kernel11Ideal.Value
public import proofs.«01_k».proof.Proof.Gen.Reference11Ideal.Run
@[expose] public section
set_option maxRecDepth 16384
noncomputable section

/-! The gated side input of the last layer, with the error against the target: what the launch leaves at every
index, and the same in the reference. Everything holds over the extended real numbers. -/

namespace Cert.Kernel11Ideal.Hand
open Cert.Kernel11Ideal Cert.Kernel11Ideal.Gen Cert.Kernel11Ideal.Value Idealize.ShloMosaic Idealize.ShloMosaic.TcCoe
open Gather (upTo row row_val)

theorem read_blk0 : ∀ t : Fin cfg0.N, Gather.Rows 2048 1024 512 1024 t.val (((cfg0.win 0).blk t).view.read (Elt Ideal)) :=
  Gather.rows (ix := win0_0.index)
theorem read_blk1 : ∀ t : Fin cfg0.N, Gather.Rows 2048 256 512 256 t.val (((cfg0.win 1).blk t).view.read (Elt Ideal)) :=
  Gather.rows (ix := win0_1.index)
theorem read_blk2 : ∀ t : Fin cfg0.N, Gather.Rows 2048 1024 512 1024 t.val (((cfg0.win 2).blk t).view.read (Elt Ideal)) :=
  Gather.rows (ix := win0_2.index)
theorem read_blk3 : ∀ t : Fin cfg0.N, Gather.Whole 1024 1024 (((cfg0.win 3).blk t).view.read (Elt Ideal)) :=
  Gather.whole (ix := win0_3.index)
theorem read_blk4 : ∀ t : Fin cfg0.N, Gather.Whole 256 1024 (((cfg0.win 4).blk t).view.read (Elt Ideal)) :=
  Gather.whole (ix := win0_4.index)
theorem read_blk5 : ∀ t : Fin cfg0.N, Gather.Whole 1 1024 (((cfg0.win 5).blk t).view.read (Elt Ideal)) :=
  Gather.whole (ix := win0_5.index)
theorem read_blk6 : ∀ t : Fin cfg0.N, Gather.Rows 2048 1024 512 1024 t.val (((cfg0.win 6).blk t).view.read (Elt Ideal)) :=
  Gather.rows (ix := win0_6.index)
theorem read_blk7 : ∀ t : Fin cfg0.N, Gather.Rows 2048 1024 512 1024 t.val (((cfg0.win 7).blk t).view.read (Elt Ideal)) :=
  Gather.rows (ix := win0_7.index)
theorem read_blk8 : ∀ t : Fin cfg0.N, Gather.Rows 2048 1024 512 1024 t.val (((cfg0.win 8).blk t).view.read (Elt Ideal)) :=
  Gather.rows (ix := win0_8.index)
theorem read_blk9 : ∀ t : Fin cfg0.N, Gather.Rows 2048 1024 512 1024 t.val (((cfg0.win 9).blk t).view.read (Elt Ideal)) :=
  Gather.rows (ix := win0_9.index)
theorem read_blk10 : ∀ t : Fin cfg0.N, Gather.Rows 2048 256 512 256 t.val (((cfg0.win 10).blk t).view.read (Elt Ideal)) :=
  Gather.rows (ix := win0_10.index)
theorem read_blk11 : ∀ t : Fin cfg0.N, Gather.Rows 2048 1024 512 1024 t.val (((cfg0.win 11).blk t).view.read (Elt Ideal)) :=
  Gather.rows (ix := win0_11.index)
theorem read_blk12 : ∀ t : Fin cfg0.N, Gather.Whole 1 1024 (((cfg0.win 12).blk t).view.read (Elt Ideal)) :=
  Gather.whole (ix := win0_12.index)

variable (m : (ℓ : Loc nD τ sig) → Buf (Elt Ideal) ℓ) (c : Dev nD)
/-- The gate, the side rows' product, the gated sum, its error and the share of the error handed back, of a token. -/
def gateM (t : Fin 2048) (f : Fin 1024) : EReal := SideInput.gate (fun d => m ((c : Thread nD τ).loc main_arg0) (ix2 t d)) (fun d => m ((c : Thread nD τ).loc main_arg2) (ix2 d f)) (m ((c : Thread nD τ).loc main_arg4) (ix2 0 f))
def sideM (t : Fin 2048) (f : Fin 1024) : EReal := SideInput.side (fun d => m ((c : Thread nD τ).loc main_arg1) (ix2 t d)) (fun d => m ((c : Thread nD τ).loc main_arg3) (ix2 d f))
def outM (t : Fin 2048) (f : Fin 1024) : EReal := SideInput.out (fun d => m ((c : Thread nD τ).loc main_arg0) (ix2 t d)) (fun d => m ((c : Thread nD τ).loc main_arg2) (ix2 d f)) (m ((c : Thread nD τ).loc main_arg4) (ix2 0 f)) (fun d => m ((c : Thread nD τ).loc main_arg1) (ix2 t d)) (fun d => m ((c : Thread nD τ).loc main_arg3) (ix2 d f)) f
def errM (t : Fin 2048) (f : Fin 1024) : EReal := outM m c t f - m ((c : Thread nD τ).loc main_arg5) (ix2 t f)
def shareM (t : Fin 2048) (f : Fin 1024) : EReal := errM m c t f * Ideal.ofBits .f32 0x3A800000#32
/-- What a block adds to the sum of the squared errors of a column. -/
def psq (f : Fin 1024) (q : ℕ) : EReal := ∑ a : Fin 512, errM m c (row q a) f * errM m c (row q a) f

theorem lt4 (t : Fin cfg0.N) : t.val < 4 := Nat.lt_of_lt_of_eq t.isLt N_0
theorem V_g (d f : Fin 1024) : V m c main_v0 (ix2 d f) = m ((c : Thread nD τ).loc main_arg2) (ix2 d f) := by
  show StableHlo.after hostOps0 (fun b => m (c, b)) (Proc.devRef .tc main_v0) (ix2 d f) = _
  after_reads_at
theorem V_p (d : Fin 256) (f : Fin 1024) : V m c main_v1 (ix2 d f) = m ((c : Thread nD τ).loc main_arg3) (ix2 d f) := by
  show StableHlo.after hostOps0 (fun b => m (c, b)) (Proc.devRef .tc main_v1) (ix2 d f) = _
  after_reads_at

section point
variable (t : Fin cfg0.N) (a : Fin 512)
theorem blk_x (d : Fin 1024) : iblk m c 0 t (ix2 a d) = m ((c : Thread nD τ).loc main_arg0) (ix2 (row t.val a) d) :=
  (read_blk0 t _ a d (ix2 (row t.val a) d) (row_val (lt4 t) a) rfl).trans (congrFun (V_main_arg0 m c) (ix2 (row t.val a) d))
theorem blk_p (d : Fin 256) : iblk m c 1 t (ix2 a d) = m ((c : Thread nD τ).loc main_arg1) (ix2 (row t.val a) d) :=
  (read_blk1 t _ a d (ix2 (row t.val a) d) (row_val (lt4 t) a) rfl).trans (congrFun (V_main_arg1 m c) (ix2 (row t.val a) d))
theorem blk_t (d : Fin 1024) : iblk m c 2 t (ix2 a d) = m ((c : Thread nD τ).loc main_arg5) (ix2 (row t.val a) d) :=
  (read_blk2 t _ a d (ix2 (row t.val a) d) (row_val (lt4 t) a) rfl).trans (congrFun (V_main_arg5 m c) (ix2 (row t.val a) d))
theorem blk_g (d f : Fin 1024) : iblk m c 3 t (ix2 d f) = m ((c : Thread nD τ).loc main_arg2) (ix2 d f) :=
  (read_blk3 t _ d f (ix2 d f) rfl rfl).trans (V_g m c d f)
theorem blk_w (d : Fin 256) (f : Fin 1024) : iblk m c 4 t (ix2 d f) = m ((c : Thread nD τ).loc main_arg3) (ix2 d f) :=
  (read_blk4 t _ d f (ix2 d f) rfl rfl).trans (V_p m c d f)
theorem blk_b (f : Fin 1024) : iblk m c 5 t (ix2 0 f) = m ((c : Thread nD τ).loc main_arg4) (ix2 0 f) :=
  (read_blk5 t _ 0 f (ix2 0 f) rfl rfl).trans (congrFun (V_main_arg4 m c) (ix2 0 f))

theorem gate_of (f : Fin 1024) : k0_pay7 (F := Ideal) (iblk m c 0 t) (iblk m c 3 t) (iblk m c 5 t) (ix2 a f) = gateM m c (row t.val a) f := by
  pointwise [k0_pay7, k0_pay5]
  simp only [blk_x, blk_g, blk_b]
  unfold gateM SideInput.gate
  rw [sub_eq_add_neg, zero_add]
theorem side_of (f : Fin 1024) : k0_pay8 (F := Ideal) (iblk m c 1 t) (iblk m c 4 t) (ix2 a f) = sideM m c (row t.val a) f := by
  pointwise [k0_pay8, k0_pay6]
  simp only [blk_p, blk_w]
  rfl
theorem gateb_of (f : Fin 1024) : k0_pay9 (F := Ideal) (iblk m c 0 t) (iblk m c 3 t) (iblk m c 5 t) (ix2 a f) = gateM m c (row t.val a) f := by
  refine Eq.trans ?_ (gate_of m c t a f)
  pointwise [k0_pay9]
theorem sideb_of (f : Fin 1024) : k0_pay10 (F := Ideal) (iblk m c 1 t) (iblk m c 4 t) (ix2 a f) = sideM m c (row t.val a) f := by
  refine Eq.trans ?_ (side_of m c t a f)
  pointwise [k0_pay10]
theorem x_of (f : Fin 1024) : k0_pay5 (F := Ideal) (iblk m c 0 t) (ix2 a f) = m ((c : Thread nD τ).loc main_arg0) (ix2 (row t.val a) f) := by
  refine Eq.trans ?_ (blk_x m c t a f)
  pointwise [k0_pay5]
theorem p_of (d : Fin 256) : k0_pay6 (F := Ideal) (iblk m c 1 t) (ix2 a d) = m ((c : Thread nD τ).loc main_arg1) (ix2 (row t.val a) d) := by
  refine Eq.trans ?_ (blk_p m c t a d)
  pointwise [k0_pay6]
/-- The gated sum of a block. -/
def sumB : FVec Ideal S512x1024 .f32 := k0_pay11 (F := Ideal) (iblk m c 0 t) (iblk m c 1 t) (iblk m c 3 t) (iblk m c 5 t) (iblk m c 4 t)
theorem out_of (f : Fin 1024) : sumB m c t (ix2 a f) = outM m c (row t.val a) f := by
  pointwise [sumB, k0_pay11]
  rw [gate_of, side_of, blk_x]
  rfl
theorem err_of (f : Fin 1024) : k0_pay1 (F := Ideal) (sumB m c t) (iblk m c 2 t) (ix2 a f) = errM m c (row t.val a) f := by
  pointwise [k0_pay1]
  rw [out_of, blk_t]
  rfl
theorem share_of (f : Fin 1024) : k0_pay2 (F := Ideal) (sumB m c t) (iblk m c 2 t) (ix2 a f) = shareM m c (row t.val a) f := by
  pointwise [k0_pay2]
  rw [err_of]
  rfl
theorem sq_of (f : Fin 1024) : k0_pay3 (F := Ideal) (sumB m c t) (iblk m c 2 t) (ix2 0 f) = psq m c f t.val := by
  pointwise [k0_pay3]
  simp only [err_of]
  rfl
theorem sqs_of (v : Vec Ideal S1x1024 .f32) (f : Fin 1024) : k0_pay4 (F := Ideal) (sumB m c t) (iblk m c 2 t) v (ix2 0 f) = v (ix2 0 f) + psq m c f t.val := by
  pointwise [k0_pay4]
  rw [sq_of]
set_option maxHeartbeats 1000000 in
theorem sq_first (ht : t.val = 0) (d : Fin 1024) : (outsAt0 m c t.val t.isLt).2.2.2.2.2.2 (ix2 0 d) = psq m c d 0 := by
  rw [outsAt0_A m c t (by omega) (by omega)]
  frame_out
  exact (sq_of m c t d).trans (congrArg (psq m c d) ht)
set_option maxHeartbeats 1000000 in
theorem sq_next (h : t.val - 1 < cfg0.N) (h1 : 1 ≤ t.val) (d : Fin 1024) :
    (outsAt0 m c t.val t.isLt).2.2.2.2.2.2 (ix2 0 d) = (outsAt0 m c (t.val - 1) h).2.2.2.2.2.2 (ix2 0 d) + psq m c d t.val := by
  have := lt4 t
  rw [outsAt0_B m c t (by omega) (by omega)]
  frame_out
  exact sqs_of m c t _ d
set_option maxHeartbeats 1000000 in
/-- The rows a block writes. -/
theorem rows_at (d : Fin 1024) (k : Fin 256) : (outsAt0 m c t.val t.isLt).1 (ix2 a d) = outM m c (row t.val a) d
    ∧ (outsAt0 m c t.val t.isLt).2.1 (ix2 a d) = gateM m c (row t.val a) d ∧ (outsAt0 m c t.val t.isLt).2.2.1 (ix2 a d) = sideM m c (row t.val a) d
    ∧ (outsAt0 m c t.val t.isLt).2.2.2.1 (ix2 a d) = m ((c : Thread nD τ).loc main_arg0) (ix2 (row t.val a) d) ∧ (outsAt0 m c t.val t.isLt).2.2.2.2.1 (ix2 a k) = m ((c : Thread nD τ).loc main_arg1) (ix2 (row t.val a) k)
    ∧ (outsAt0 m c t.val t.isLt).2.2.2.2.2.1 (ix2 a d) = shareM m c (row t.val a) d := by
  have := lt4 t
  by_cases h0 : t.val = 0
  · rw [outsAt0_A m c t (by omega) (by omega)]
    frame_out
    exact ⟨out_of m c t a d, gateb_of m c t a d, sideb_of m c t a d, x_of m c t a d, p_of m c t a k, share_of m c t a d⟩
  · rw [outsAt0_B m c t (by omega) (by omega)]
    frame_out
    exact ⟨out_of m c t a d, gateb_of m c t a d, sideb_of m c t a d, x_of m c t a d, p_of m c t a k, share_of m c t a d⟩
end point

theorem in_grid {n : ℕ} (h : n < 4) : n < cfg0.N := Nat.lt_of_lt_of_eq h N_0.symm
/-- The block and the row in it of a token. -/
theorem token (t : Fin 2048) : ∃ (q : Fin cfg0.N) (a : Fin 512), row q.val a = t :=
  ⟨⟨t.val / 512, in_grid (by omega)⟩, ⟨t.val % 512, by omega⟩, Fin.ext (by show (512 * (t.val / 512) + t.val % 512) % 2048 = t.val; omega)⟩

/-- The gated sum, at the end. -/
theorem fin6 (t : Fin 2048) (d : Fin 1024) : (dats m 0 c).arrAt 6 cfg0.N (ix2 t d) = outM m c t d := by
  obtain ⟨q, a, rfl⟩ := token t
  have e := blocks6 m c q (flush0_6 q)
  rw [flushed6] at e
  exact (read_blk6 q _ a d (ix2 (row q.val a) d) (row_val (lt4 q) a) rfl).symm.trans
    ((congrFun e (ix2 a d : S512x1024.Idx)).trans (rows_at m c q a d 0).1)

/-- The gate, at the end. -/
theorem fin7 (t : Fin 2048) (d : Fin 1024) : (dats m 0 c).arrAt 7 cfg0.N (ix2 t d) = gateM m c t d := by
  obtain ⟨q, a, rfl⟩ := token t
  have e := blocks7 m c q (flush0_7 q)
  rw [flushed7] at e
  exact (read_blk7 q _ a d (ix2 (row q.val a) d) (row_val (lt4 q) a) rfl).symm.trans
    ((congrFun e (ix2 a d : S512x1024.Idx)).trans (rows_at m c q a d 0).2.1)

/-- The side rows' product, at the end. -/
theorem fin8 (t : Fin 2048) (d : Fin 1024) : (dats m 0 c).arrAt 8 cfg0.N (ix2 t d) = sideM m c t d := by
  obtain ⟨q, a, rfl⟩ := token t
  have e := blocks8 m c q (flush0_8 q)
  rw [flushed8] at e
  exact (read_blk8 q _ a d (ix2 (row q.val a) d) (row_val (lt4 q) a) rfl).symm.trans
    ((congrFun e (ix2 a d : S512x1024.Idx)).trans (rows_at m c q a d 0).2.2.1)

/-- The copy of the rows, at the end. -/
theorem fin9 (t : Fin 2048) (d : Fin 1024) : (dats m 0 c).arrAt 9 cfg0.N (ix2 t d) = m ((c : Thread nD τ).loc main_arg0) (ix2 t d) := by
  obtain ⟨q, a, rfl⟩ := token t
  have e := blocks9 m c q (flush0_9 q)
  rw [flushed9] at e
  exact (read_blk9 q _ a d (ix2 (row q.val a) d) (row_val (lt4 q) a) rfl).symm.trans
    ((congrFun e (ix2 a d : S512x1024.Idx)).trans (rows_at m c q a d 0).2.2.2.1)

/-- The copy of the side rows, at the end. -/
theorem fin10 (t : Fin 2048) (d : Fin 256) : (dats m 0 c).arrAt 10 cfg0.N (ix2 t d) = m ((c : Thread nD τ).loc main_arg1) (ix2 t d) := by
  obtain ⟨q, a, rfl⟩ := token t
  have e := blocks10 m c q (flush0_10 q)
  rw [flushed10] at e
  exact (read_blk10 q _ a d (ix2 (row q.val a) d) (row_val (lt4 q) a) rfl).symm.trans
    ((congrFun e (ix2 a d : S512x256.Idx)).trans (rows_at m c q a 0 d).2.2.2.2.1)

/-- The share of the error handed back, at the end. -/
theorem fin11 (t : Fin 2048) (d : Fin 1024) : (dats m 0 c).arrAt 11 cfg0.N (ix2 t d) = shareM m c t d := by
  obtain ⟨q, a, rfl⟩ := token t
  have e := blocks11 m c q (flush0_11 q)
  rw [flushed11] at e
  exact (read_blk11 q _ a d (ix2 (row q.val a) d) (row_val (lt4 q) a) rfl).symm.trans
    ((congrFun e (ix2 a d : S512x1024.Idx)).trans (rows_at m c q a d 0).2.2.2.2.2)

theorem last12 : ∀ t : Fin cfg0.N, (cfg0.win 12).flush t = decide (t.val = 3) := (by decide +kernel : ∀ t : Fin grid0.N, _)
theorem disjoint12 : ∀ t t' : Fin cfg0.N, (cfg0.win 12).flush t = true → (cfg0.win 12).flush t' = true → t ≠ t' →
    Disjoint ((cfg0.win 12).blk t).view.set ((cfg0.win 12).blk t').view.set := by
  intro t t' h h' hne
  rw [last12] at h h'
  exact absurd (Fin.ext ((of_decide_eq_true h).trans (of_decide_eq_true h').symm)) hne
theorem cut12 (t : Fin cfg0.N) (X : Vec Ideal S1x1024 .f32) (i : Fin 1) (d : Fin 1024) : (cfg0.win 12).cut (grid0.coords t) X (ix2 i d) = X (ix2 i d) := rfl

/-- The sums of the squared errors, at the end. -/
theorem fin12 (d : Fin 1024) : (dats m 0 c).arrAt 12 cfg0.N (ix2 0 d) = ∑ t : Fin 2048, errM m c t d * errM m c t d := by
  obtain ⟨t, ht⟩ : ∃ t : Fin cfg0.N, t.val = 3 := ⟨⟨3, in_grid (by decide)⟩, rfl⟩
  have e := (dats m 0 c).read_blk_arrAt_eq_flushed 12 disjoint12 cfg0.N t t.isLt ((last12 t).trans (decide_eq_true ht))
  rw [flushed12] at e
  have s := Gather.gathered (N := cfg0.N) (fun n h => (outsAt0 m c n h).2.2.2.2.2.2 (ix2 0 d)) (psq m c d) (fun t h => sq_first m c t h d) (fun t h h1 => sq_next m c t h h1 d) t.val t.isLt
  exact (read_blk12 t _ 0 d (ix2 0 d) rfl rfl).symm.trans ((congrFun e (ix2 0 d)).trans ((cut12 t _ 0 d).trans (s.trans
    ((congrArg (upTo (psq m c d)) ht).trans (Gather.all (fun t => errM m c t d * errM m c t d)).symm))))

end Cert.Kernel11Ideal.Hand

namespace Cert.Reference11Ideal.Hand
open Cert.Reference11Ideal Cert.Reference11Ideal.Gen Idealize.ShloMosaic Idealize.ShloMosaic.TcCoe

variable (y g : FVec Ideal S2048x1024 .f32)
theorem share_real : Ideal.ofBits .f32 0x3A800000#32 = ((1 / 1024 : ℝ) : EReal) := by
  simp [Ideal.ofBits, Ideal.ieee, -EReal.coe_mul]; norm_num
theorem half_real : Ideal.ofBits .f32 0x3F000000#32 = ((1 / 2 : ℝ) : EReal) := by
  simp [Ideal.ofBits, Ideal.ieee, -EReal.coe_mul]; norm_num
theorem two_real : Ideal.ofBits .f32 0x40000000#32 = ((2 : ℝ) : EReal) := by
  simp [Ideal.ofBits, Ideal.ieee, -EReal.coe_mul]; norm_num
/-- The loss's gradient is the error over the row's length. -/
theorem share_at (t : Fin 2048) (f : Fin 1024) : mulf (F := Ideal) (broadcastInDim S2048x1024 ![0] bcast_S2048_S2048x1024_0 (Host.divf (broadcastInDim S2048 ![] bcast_S_S2048 (mulf (constant S_ .f32 0x3F000000#32) (constant S_ .f32 0x3F800000#32)))
      (broadcastInDim S2048 ![] bcast_S_S2048 (constant S_ .f32 0x44800000#32)))) (mulf (broadcastInDim S2048x1024 ![] bcast_S_S2048x1024 (constant S_ .f32 0x40000000#32)) (subf y g)) (ix2 t f)
    = (y (ix2 t f) - g (ix2 t f)) * Ideal.ofBits .f32 0x3A800000#32 := by
  pointwise
  rw [RowNorm.len_real, half_real, two_real, Ideal.div_coe (by norm_num), ← EReal.coe_mul, ← mul_assoc, ← EReal.coe_mul, share_real, mul_comm]
  norm_num
/-- The sum of the squared errors of a column. -/
theorem sq_at (f : Fin 1024) : broadcastInDim S1x1024 ![1] bcast_S1024_S1x1024_1 (Host.reduceAdd (F := Ideal) (mulf (subf y g) (subf y g)) (constant S_ .f32 0x00000000#32) reducesTo_S2048x1024_S1024_d0 h_S_) (ix2 0 f)
    = ∑ t : Fin 2048, (y (ix2 t f) - g (ix2 t f)) * (y (ix2 t f) - g (ix2 t f)) := by
  pointwise

end Cert.Reference11Ideal.Hand

end
-- ==== Proof.Calls5.lean ====
module
public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Calls
public import proofs.«01_k».proof.Proof.SideLast
public import Idealize.ShloMosaic.Adequacy
public import Idealize.ShloMosaic.Init
@[expose] public section
noncomputable section

/-! The gated side input of the last layer, with the error against the target, ends with its reference's values. -/

namespace Cert.Calls

open Idealize.ShloMosaic Idealize.SL.Sem

/-- The reference runs and leaves its arguments as they were. -/
theorem frame11 : Cert.quiescent_Reference11Ideal (hReference11Ideal := Cert.Reference11Ideal.Gen.facts) :=
  fun m g _ => (θ_run _ _ _).mono
    (fun r h => ⟨fun c => (h c).2.2.2.2.2.2.2, Idealize.ShloMosaic.sem_eq_zero_of_no_sems (by decide) r.2⟩)
    (Cert.Reference11Ideal.Value.run (F := Ideal) m g)

/-- The last gated sum, the rounded values kept for the backward pass, the error's share and the squared errors. -/
theorem ple_last_equal : Cert.algebraic_Kernel11Ideal_Reference11Ideal (hKernel11Ideal := Cert.Kernel11Ideal.Gen.facts)
    (hReference11Ideal := Cert.Reference11Ideal.Gen.facts) := by
  intro m g m' g' _ ha
  have hout : ∀ c (i : Fin 2048) (j : Fin 1024), _ = Cert.Kernel11Ideal.Hand.outM m c i j := fun c i j =>
    (Cert.Reference10Ideal.Hand.out_at (m ((c.tc : Thread _ _).loc Cert.Kernel11Ideal.main_arg0)) (m ((c.tc : Thread _ _).loc Cert.Kernel11Ideal.main_arg1)) (m ((c.tc : Thread _ _).loc Cert.Kernel11Ideal.main_arg2))
      (m ((c.tc : Thread _ _).loc Cert.Kernel11Ideal.main_arg3)) (m ((c.tc : Thread _ _).loc Cert.Kernel11Ideal.main_arg4)) i j)
  refine ⟨fun c => (Cert.Kernel11Ideal.Gen.dats m 0 c).arrAt 6 Cert.Kernel11Ideal.cfg0.N,
    fun c => (Cert.Kernel11Ideal.Gen.dats m 0 c).arrAt 7 Cert.Kernel11Ideal.cfg0.N,
    fun c => (Cert.Kernel11Ideal.Gen.dats m 0 c).arrAt 8 Cert.Kernel11Ideal.cfg0.N,
    fun c => (Cert.Kernel11Ideal.Gen.dats m 0 c).arrAt 9 Cert.Kernel11Ideal.cfg0.N,
    fun c => (Cert.Kernel11Ideal.Gen.dats m 0 c).arrAt 10 Cert.Kernel11Ideal.cfg0.N,
    fun c => (Cert.Kernel11Ideal.Gen.dats m 0 c).arrAt 11 Cert.Kernel11Ideal.cfg0.N,
    fun c => (Cert.Kernel11Ideal.Gen.dats m 0 c).arrAt 12 Cert.Kernel11Ideal.cfg0.N,
    Cert.Kernel11Ideal.Value.run_blocks (F := Ideal) m g, (θ_run _ _ _).mono (fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.Reference11Ideal.Value.run (F := Ideal) m' g')⟩
  · refine ext_rows _ _ fun i j => ?_
    refine (Cert.Reference10Ideal.Hand.out_at _ _ _ _ _ i j).trans (Eq.trans ?_ (Cert.Kernel11Ideal.Hand.fin6 m c i j).symm)
    rw [(ha c).1, (ha c).2.1, (ha c).2.2.1, (ha c).2.2.2.1, (ha c).2.2.2.2.1]
    rfl
  · refine ext_rows _ _ fun i j => ?_
    refine (Cert.Reference10Ideal.Hand.gate_at _ _ _ i j).trans (Eq.trans ?_ (Cert.Kernel11Ideal.Hand.fin7 m c i j).symm)
    rw [(ha c).1, (ha c).2.2.1, (ha c).2.2.2.2.1]
    rfl
  · refine ext_rows _ _ fun i j => ?_
    refine (Cert.Reference10Ideal.Hand.side_at _ _ i j).trans (Eq.trans ?_ (Cert.Kernel11Ideal.Hand.fin8 m c i j).symm)
    rw [(ha c).2.1, (ha c).2.2.2.1]
    rfl
  · refine ext_rows _ _ fun i j => ?_
    refine (Cert.Reference10Ideal.Hand.copy_x _ i j).trans (Eq.trans ?_ (Cert.Kernel11Ideal.Hand.fin9 m c i j).symm)
    rw [(ha c).1]
  · refine ext_rows _ _ fun i j => ?_
    refine (Cert.Reference10Ideal.Hand.copy_p _ i j).trans (Eq.trans ?_ (Cert.Kernel11Ideal.Hand.fin10 m c i j).symm)
    rw [(ha c).2.1]
  · refine ext_rows _ _ fun i j => ?_
    refine (Cert.Reference11Ideal.Hand.share_at _ _ i j).trans (Eq.trans ?_ (Cert.Kernel11Ideal.Hand.fin11 m c i j).symm)
    rw [(ha c).1, (ha c).2.1, (ha c).2.2.1, (ha c).2.2.2.1, (ha c).2.2.2.2.1, (ha c).2.2.2.2.2]
    exact congrArg (fun v : EReal => (v - _) * _) (hout c i j)
  · refine ext_rows _ _ fun i j => ?_
    obtain rfl : i = 0 := Subsingleton.elim _ _
    refine (Cert.Reference11Ideal.Hand.sq_at _ _ j).trans (Eq.trans ?_ (Cert.Kernel11Ideal.Hand.fin12 m c j).symm)
    rw [(ha c).1, (ha c).2.1, (ha c).2.2.1, (ha c).2.2.2.1, (ha c).2.2.2.2.1, (ha c).2.2.2.2.2]
    exact Finset.sum_congr rfl fun t _ => congrArg (fun v : EReal => (v - _) * (v - _)) (hout c t j)

end Cert.Calls

end
-- ==== Proof.lean ====
/- The proof of the certificate: the frames of the programs, and that each call's kernel and its reference end with
   equal results: the backward passes of the attention, of the feed-forward layer, of the projections and of the gated
   side input, and the forward calls around them. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Entries
public import proofs.«01_k».proof.Proof.Host
public import proofs.«01_k».proof.Proof.Ref
public import proofs.«01_k».proof.Proof.Ff.Entries
public import proofs.«01_k».proof.Proof.Ff.Host
public import proofs.«01_k».proof.Proof.Ff.Ref
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Calls
public import proofs.«01_k».proof.Proof.Calls2
public import proofs.«01_k».proof.Proof.Calls3
public import proofs.«01_k».proof.Proof.Calls4
public import proofs.«01_k».proof.Proof.Calls5
public import Idealize.ShloMosaic.Adequacy
public import Idealize.ShloMosaic.Init

@[expose] public section

noncomputable section

namespace Cert.Proof

open Idealize.ShloMosaic Idealize.SL.Sem

/-- The reference runs, leaves its arguments as they were, and has no counter to leave. -/
theorem reference_frame : Cert.quiescent_ReferenceIdeal (hReferenceIdeal := Cert.ReferenceIdeal.Gen.facts) :=
  fun m g _ => (θ_run _ _ _).mono
    (fun r h => ⟨fun c => ⟨(h c).2.2.2.1, (h c).2.2.2.2⟩, Idealize.ShloMosaic.sem_eq_zero_of_no_sems (by decide) r.2⟩)
    (Cert.ReferenceIdeal.Value.run (F := Ideal) m g)

/-- Two matrices equal at every row and column are equal. -/
theorem ext_rows {n k : ℕ} {α : Type} (f g : (⟨2, ![n, k]⟩ : Shape).Idx → α) (h : ∀ a b, f (ix2 a b) = g (ix2 a b)) : f = g :=
  funext fun i => by rw [ValueIdx.eq_ix2 i]; exact h _ _

/-- The kernel and the reference end with equal gradients, where every entry of the arguments is finite. -/
theorem gradients_equal : Cert.algebraic_KernelIdeal_ReferenceIdeal_pre_finite (hKernelIdeal := Cert.KernelIdeal.Gen.facts)
    (hReferenceIdeal := Cert.ReferenceIdeal.Gen.facts) (hPre_finite := StickBreak.finite_facts) := by
  intro m g m' g' hp ha
  letI := StickBreak.finite_facts
  have hA := fun c => Cert.KernelIdeal.Hand.arrs (m := m) (c := c) (StickBreak.arg_q _ _ (hp c)) (StickBreak.arg_k _ _ (hp c))
    (StickBreak.arg_v _ _ (hp c)) (StickBreak.arg_d _ _ (hp c))
  have hR : ∀ c, Cert.ReferenceIdeal.Hand.Holds (StableHlo.launchContents m' c)
      (StickBreak.arg (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) := fun c => {
    q := fun t j hj => (congrFun (ha c).1 (ix2 t j)).trans (StickBreak.arg_q _ _ (hp c) t j hj)
    k := fun t j hl hj => (congrFun (ha c).1 (ix2 t j)).trans (StickBreak.arg_k _ _ (hp c) t j hl hj)
    v := fun t j hl => (congrFun (ha c).1 (ix2 t j)).trans (StickBreak.arg_v _ _ (hp c) t j hl)
    d := fun t j hj => (congrFun (ha c).2 (ix2 t j)).trans (StickBreak.arg_d _ _ (hp c) t j hj) }
  have e5 : ∀ c, extractStridedSlice Cert.ReferenceIdeal.S2048x512 ![0, 0] (Cert.ReferenceIdeal.Value.res_main_v58 (StableHlo.launchContents m' c))
      Cert.ReferenceIdeal.Facts₀.slices_S2048x1536_S2048x512_0_0 = Cert.KernelIdeal.Value.G5 m c :=
    fun c => ext_rows _ _ fun t j => (Cert.ReferenceIdeal.Hand.dq_at (hR c) t j).trans (Cert.KernelIdeal.Hand.fin5 (hA c) t j).symm
  have e6 : ∀ c, extractStridedSlice Cert.ReferenceIdeal.S2048x512 ![0, 512] (Cert.ReferenceIdeal.Value.res_main_v58 (StableHlo.launchContents m' c))
      Cert.ReferenceIdeal.Facts₀.slices_S2048x1536_S2048x512_0_512 = Cert.KernelIdeal.Value.G6 m c :=
    fun c => ext_rows _ _ fun t j => (Cert.ReferenceIdeal.Hand.dk_at (hR c) t j).trans (Cert.KernelIdeal.Hand.fin6 (hA c) t j).symm
  have e7 : ∀ c, extractStridedSlice Cert.ReferenceIdeal.S2048x512 ![0, 1024] (Cert.ReferenceIdeal.Value.res_main_v58 (StableHlo.launchContents m' c))
      Cert.ReferenceIdeal.Facts₀.slices_S2048x1536_S2048x512_0_1024 = Cert.KernelIdeal.Value.G7 m c :=
    fun c => ext_rows _ _ fun t j => (Cert.ReferenceIdeal.Hand.dv_at (hR c) t j).trans (Cert.KernelIdeal.Hand.fin7 (hA c) t j).symm
  exact ⟨fun c => Cert.KernelIdeal.Value.G5 m c, fun c => Cert.KernelIdeal.Value.G6 m c, fun c => Cert.KernelIdeal.Value.G7 m c,
    Cert.KernelIdeal.Value.run (F := Ideal) m g, (θ_run _ _ _).mono (fun r h c =>
      ⟨(h c).1.trans (e5 c), (h c).2.1.trans (e6 c), (h c).2.2.1.trans (e7 c), (h c).2.2.2.1, (h c).2.2.2.2⟩)
      (Cert.ReferenceIdeal.Value.run (F := Ideal) m' g')⟩

/-- The feed-forward layer's reference runs, leaves its arguments as they were, and has no counter to leave. -/
theorem reference2_frame : Cert.quiescent_Reference2Ideal (hReference2Ideal := Cert.Reference2Ideal.Gen.facts) :=
  fun m g _ => (θ_run _ _ _).mono
    (fun r h => ⟨fun c => (h c).2.2.2.2, Idealize.ShloMosaic.sem_eq_zero_of_no_sems (by decide) r.2⟩)
    (Cert.Reference2Ideal.Value.run (F := Ideal) m g)

/-- The feed-forward layer's backward kernel and its reference end with equal gradients of the input and of the
three weights, where every entry of the arguments is finite. -/
theorem layer_gradients_equal : Cert.algebraic_Kernel2Ideal_Reference2Ideal_pre_finite2 (hKernel2Ideal := Cert.Kernel2Ideal.Gen.facts)
    (hReference2Ideal := Cert.Reference2Ideal.Gen.facts) (hPre_finite2 := FeedForward.finite_facts) := by
  intro m g m' g' hp ha
  letI := FeedForward.finite_facts
  have hA := fun c => Cert.Kernel2Ideal.Hand.arrs (m := m) (c := c)
    (FeedForward.arg_x _ _ _ _ _ (hp c)) (FeedForward.arg_g _ _ _ _ _ (hp c)) (FeedForward.arg_u _ _ _ _ _ (hp c))
    (FeedForward.arg_d _ _ _ _ _ (hp c)) (FeedForward.arg_r _ _ _ _ _ (hp c))
  have hR : ∀ c : Dev Cert.Kernel2Ideal.nD, Cert.Reference2Ideal.Hand.Holds
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (FeedForward.arg (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))) := fun c => {
    x := fun t d => (congrFun (ha c).1 (ix2 t d)).trans (FeedForward.arg_x _ _ _ _ _ (hp c) t d)
    g := fun d f => (congrFun (ha c).2.1 (ix2 d f)).trans (FeedForward.arg_g _ _ _ _ _ (hp c) d f)
    u := fun d f => (congrFun (ha c).2.2.1 (ix2 d f)).trans (FeedForward.arg_u _ _ _ _ _ (hp c) d f)
    d := fun f d => (congrFun (ha c).2.2.2.1 (ix2 f d)).trans (FeedForward.arg_d _ _ _ _ _ (hp c) f d)
    r := fun t d => (congrFun (ha c).2.2.2.2 (ix2 t d)).trans (FeedForward.arg_r _ _ _ _ _ (hp c) t d) }
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    Cert.Kernel2Ideal.Value.run_blocks (F := Ideal) m g, (θ_run _ _ _).mono (fun r h c =>
      ⟨(h c).1.trans ?_, (h c).2.1.trans ?_, (h c).2.2.1.trans ?_, (h c).2.2.2.1.trans ?_, (h c).2.2.2.2⟩)
      (Cert.Reference2Ideal.Value.run (F := Ideal) m' g')⟩
  · exact ext_rows _ _ fun t d => (Cert.Reference2Ideal.Hand.dx_at (hR c) t d).trans (Cert.Kernel2Ideal.Hand.fin6 (hA c) t d).symm
  · exact ext_rows _ _ fun d f => (Cert.Reference2Ideal.Hand.dwg_at (hR c) d f).trans (Cert.Kernel2Ideal.Hand.fin7 (hA c) d f).symm
  · exact ext_rows _ _ fun d f => (Cert.Reference2Ideal.Hand.dwu_at (hR c) d f).trans (Cert.Kernel2Ideal.Hand.fin8 (hA c) d f).symm
  · exact ext_rows _ _ fun f d => (Cert.Reference2Ideal.Hand.dwd_at (hR c) f d).trans (Cert.Kernel2Ideal.Hand.fin9 (hA c) f d).symm

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel6.Gen.facts,
  Cert.Kernel6Ideal.Gen.facts,
  Cert.Reference6Ideal.Gen.facts,
  Cert.Kernel5.Gen.facts,
  Cert.Kernel5Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  StickBreak.finite_facts,
  FeedForward.finite_facts,
  MixNorm.finite_facts,
  SideNorm.finite_facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  fun m g _ => Cert.Kernel2Ideal.Gen.frame m g,
  reference2_frame,
  fun m g _ => reference2_frame m g trivial,
  fun m g _ => Cert.Kernel3.Gen.frame m g,
  fun m g _ => Cert.Kernel3Ideal.Gen.frame m g,
  Cert.Calls.frame3,
  fun m g _ => Cert.Kernel4.Gen.frame m g,
  fun m g _ => Cert.Kernel4Ideal.Gen.frame m g,
  Cert.Calls.frame4,
  fun m g _ => Cert.Kernel6.Gen.frame m g,
  fun m g _ => Cert.Kernel6Ideal.Gen.frame m g,
  Cert.Calls.frame6,
  fun m g _ => Cert.Kernel5.Gen.frame m g,
  fun m g _ => Cert.Kernel5Ideal.Gen.frame m g,
  fun m g _ => Cert.Kernel7.Gen.frame m g,
  fun m g _ => Cert.Kernel7Ideal.Gen.frame m g,
  Cert.Calls.frame7,
  fun m g _ => Cert.Kernel8.Gen.frame m g,
  fun m g _ => Cert.Kernel8Ideal.Gen.frame m g,
  Cert.Calls.frame8,
  fun m g _ => Cert.Kernel9.Gen.frame m g,
  fun m g _ => Cert.Kernel9Ideal.Gen.frame m g,
  Cert.Calls.frame9,
  fun m g _ => Cert.Kernel10.Gen.frame m g,
  fun m g _ => Cert.Kernel10Ideal.Gen.frame m g,
  Cert.Calls.frame10,
  fun m g _ => Cert.Kernel11.Gen.frame m g,
  fun m g _ => Cert.Kernel11Ideal.Gen.frame m g,
  Cert.Calls.frame11,
  fun m g _ => Cert.Kernel12.Gen.frame m g,
  fun m g _ => Cert.Kernel12Ideal.Gen.frame m g,
  fun m g _ => Cert.Kernel12Ideal.Gen.frame m g,
  Cert.Calls.frame12,
  fun m g _ => Cert.Calls.frame12 m g trivial,
  fun m g _ => Cert.Kernel13.Gen.frame m g,
  fun m g _ => Cert.Kernel13Ideal.Gen.frame m g,
  fun m g _ => Cert.Kernel13Ideal.Gen.frame m g,
  Cert.Calls.frame13,
  fun m g _ => Cert.Calls.frame13 m g trivial,
  trivial,
  gradients_equal,
  trivial,
  layer_gradients_equal,
  trivial,
  Cert.Calls.up_equal,
  trivial,
  Cert.Calls.dx_even_equal,
  trivial,
  Cert.Calls.down_equal,
  trivial,
  Cert.Calls.dx_odd_equal,
  trivial,
  Cert.Calls.in_even_equal,
  trivial,
  Cert.Calls.in_odd_equal,
  trivial,
  Cert.Calls.out_equal,
  trivial,
  Cert.Calls.ple_equal,
  trivial,
  Cert.Calls.ple_last_equal,
  trivial,
  Cert.Calls.mix_equal,
  trivial,
  Cert.Calls.ple_bwd_equal⟩

end Cert.Proof

end
